-- ==== Defs.lean ====
def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_DownWRefIdeal (m : (ℓ : Loc Cert.DownWRefIdeal.nD Cert.DownWRefIdeal.τ Cert.DownWRefIdeal.sig) → Buf (Elt Ideal) ℓ) : Prop :=
  True

def Pre_DownX (m : (ℓ : Loc Cert.DownX.nD Cert.DownX.τ Cert.DownX.sig) → Buf (Elt Bits) ℓ) : Prop :=
  True

def Pre_DownXIdeal (m : (ℓ : Loc Cert.DownXIdeal.nD Cert.DownXIdeal.τ Cert.DownXIdeal.sig) → Buf (Elt Ideal) ℓ) : Prop :=
  True

def Pre_DownXRefIdeal (m : (ℓ : Loc Cert.DownXRefIdeal.nD Cert.DownXRefIdeal.τ Cert.DownXRefIdeal.sig) → Buf (Elt Ideal) ℓ) : Prop :=
  True

def Pre_UpW (m : (ℓ : Loc Cert.UpW.nD Cert.UpW.τ Cert.UpW.sig) → Buf (Elt Bits) ℓ) : Prop :=
  True

def Pre_UpWIdeal (m : (ℓ : Loc Cert.UpWIdeal.nD Cert.UpWIdeal.τ Cert.UpWIdeal.sig) → Buf (Elt Ideal) ℓ) : Prop :=
  True

def Pre_UpWRefIdeal (m : (ℓ : Loc Cert.UpWRefIdeal.nD Cert.UpWRefIdeal.τ Cert.UpWRefIdeal.sig) → Buf (Elt Ideal) ℓ) : Prop :=
  True

def Pre_UpX (m : (ℓ : Loc Cert.UpX.nD Cert.UpX.τ Cert.UpX.sig) → Buf (Elt Bits) ℓ) : Prop :=
  True

def Pre_UpXIdeal (m : (ℓ : Loc Cert.UpXIdeal.nD Cert.UpXIdeal.τ Cert.UpXIdeal.sig) → Buf (Elt Ideal) ℓ) : Prop :=
  True

def Pre_UpXRefIdeal (m : (ℓ : Loc Cert.UpXRefIdeal.nD Cert.UpXRefIdeal.τ Cert.UpXRefIdeal.sig) → Buf (Elt Ideal) ℓ) : Prop :=
  True

def Pre_UpX2 (m : (ℓ : Loc Cert.UpX2.nD Cert.UpX2.τ Cert.UpX2.sig) → Buf (Elt Bits) ℓ) : Prop :=
  True

def Pre_UpX2Ideal (m : (ℓ : Loc Cert.UpX2Ideal.nD Cert.UpX2Ideal.τ Cert.UpX2Ideal.sig) → Buf (Elt Ideal) ℓ) : Prop :=
  True

def Pre_UpX2RefIdeal (m : (ℓ : Loc Cert.UpX2RefIdeal.nD Cert.UpX2RefIdeal.τ Cert.UpX2RefIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWRefIdeal (m : (ℓ : Loc Cert.OutWRefIdeal.nD Cert.OutWRefIdeal.τ Cert.OutWRefIdeal.sig) → Buf (Elt Ideal) ℓ) : Prop :=
  True

def Pre_OutX (m : (ℓ : Loc Cert.OutX.nD Cert.OutX.τ Cert.OutX.sig) → Buf (Elt Bits) ℓ) : Prop :=
  True

def Pre_OutXIdeal (m : (ℓ : Loc Cert.OutXIdeal.nD Cert.OutXIdeal.τ Cert.OutXIdeal.sig) → Buf (Elt Ideal) ℓ) : Prop :=
  True

def Pre_OutXRefIdeal (m : (ℓ : Loc Cert.OutXRefIdeal.nD Cert.OutXRefIdeal.τ Cert.OutXRefIdeal.sig) → Buf (Elt Ideal) ℓ) : Prop :=
  True

def Pre_OutX2 (m : (ℓ : Loc Cert.OutX2.nD Cert.OutX2.τ Cert.OutX2.sig) → Buf (Elt Bits) ℓ) : Prop :=
  True

def Pre_OutX2Ideal (m : (ℓ : Loc Cert.OutX2Ideal.nD Cert.OutX2Ideal.τ Cert.OutX2Ideal.sig) → Buf (Elt Ideal) ℓ) : Prop :=
  True

def Pre_OutX2RefIdeal (m : (ℓ : Loc Cert.OutX2RefIdeal.nD Cert.OutX2RefIdeal.τ Cert.OutX2RefIdeal.sig) → Buf (Elt Ideal) ℓ) : Prop :=
  True

def Pre_QkvW (m : (ℓ : Loc Cert.QkvW.nD Cert.QkvW.τ Cert.QkvW.sig) → Buf (Elt Bits) ℓ) : Prop :=
  True

def Pre_QkvWIdeal (m : (ℓ : Loc Cert.QkvWIdeal.nD Cert.QkvWIdeal.τ Cert.QkvWIdeal.sig) → Buf (Elt Ideal) ℓ) : Prop :=
  True

def Pre_QkvWRefIdeal (m : (ℓ : Loc Cert.QkvWRefIdeal.nD Cert.QkvWRefIdeal.τ Cert.QkvWRefIdeal.sig) → Buf (Elt Ideal) ℓ) : Prop :=
  True

def Pre_QkvX (m : (ℓ : Loc Cert.QkvX.nD Cert.QkvX.τ Cert.QkvX.sig) → Buf (Elt Bits) ℓ) : Prop :=
  True

def Pre_QkvXIdeal (m : (ℓ : Loc Cert.QkvXIdeal.nD Cert.QkvXIdeal.τ Cert.QkvXIdeal.sig) → Buf (Elt Ideal) ℓ) : Prop :=
  True

def Pre_QkvXRefIdeal (m : (ℓ : Loc Cert.QkvXRefIdeal.nD Cert.QkvXRefIdeal.τ Cert.QkvXRefIdeal.sig) → Buf (Elt Ideal) ℓ) : Prop :=
  True

def Pre_GlaW (m : (ℓ : Loc Cert.GlaW.nD Cert.GlaW.τ Cert.GlaW.sig) → Buf (Elt Bits) ℓ) : Prop :=
  True

def Pre_GlaWIdeal (m : (ℓ : Loc Cert.GlaWIdeal.nD Cert.GlaWIdeal.τ Cert.GlaWIdeal.sig) → Buf (Elt Ideal) ℓ) : Prop :=
  True

def Pre_GlaWRefIdeal (m : (ℓ : Loc Cert.GlaWRefIdeal.nD Cert.GlaWRefIdeal.τ Cert.GlaWRefIdeal.sig) → Buf (Elt Ideal) ℓ) : Prop :=
  True

def Pre_GlaX (m : (ℓ : Loc Cert.GlaX.nD Cert.GlaX.τ Cert.GlaX.sig) → Buf (Elt Bits) ℓ) : Prop :=
  True

def Pre_GlaXIdeal (m : (ℓ : Loc Cert.GlaXIdeal.nD Cert.GlaXIdeal.τ Cert.GlaXIdeal.sig) → Buf (Elt Ideal) ℓ) : Prop :=
  True

def Pre_GlaXRefIdeal (m : (ℓ : Loc Cert.GlaXRefIdeal.nD Cert.GlaXRefIdeal.τ Cert.GlaXRefIdeal.sig) → Buf (Elt Ideal) ℓ) : Prop :=
  True

def Pre_QkvF (m : (ℓ : Loc Cert.QkvF.nD Cert.QkvF.τ Cert.QkvF.sig) → Buf (Elt Bits) ℓ) : Prop :=
  True

def Pre_QkvFIdeal (m : (ℓ : Loc Cert.QkvFIdeal.nD Cert.QkvFIdeal.τ Cert.QkvFIdeal.sig) → Buf (Elt Ideal) ℓ) : Prop :=
  True

def Pre_QkvFRefIdeal (m : (ℓ : Loc Cert.QkvFRefIdeal.nD Cert.QkvFRefIdeal.τ Cert.QkvFRefIdeal.sig) → Buf (Elt Ideal) ℓ) : Prop :=
  True

def Pre_OutF (m : (ℓ : Loc Cert.OutF.nD Cert.OutF.τ Cert.OutF.sig) → Buf (Elt Bits) ℓ) : Prop :=
  True

def Pre_OutFIdeal (m : (ℓ : Loc Cert.OutFIdeal.nD Cert.OutFIdeal.τ Cert.OutFIdeal.sig) → Buf (Elt Ideal) ℓ) : Prop :=
  True

def Pre_OutFRefIdeal (m : (ℓ : Loc Cert.OutFRefIdeal.nD Cert.OutFRefIdeal.τ Cert.OutFRefIdeal.sig) → Buf (Elt Ideal) ℓ) : Prop :=
  True

def Pre_GlaF (m : (ℓ : Loc Cert.GlaF.nD Cert.GlaF.τ Cert.GlaF.sig) → Buf (Elt Bits) ℓ) : Prop :=
  True

def Pre_GlaFIdeal (m : (ℓ : Loc Cert.GlaFIdeal.nD Cert.GlaFIdeal.τ Cert.GlaFIdeal.sig) → Buf (Elt Ideal) ℓ) : Prop :=
  True

def Pre_GlaFRefIdeal (m : (ℓ : Loc Cert.GlaFRefIdeal.nD Cert.GlaFRefIdeal.τ Cert.GlaFRefIdeal.sig) → Buf (Elt Ideal) ℓ) : Prop :=
  True

def Pre_UpF (m : (ℓ : Loc Cert.UpF.nD Cert.UpF.τ Cert.UpF.sig) → Buf (Elt Bits) ℓ) : Prop :=
  True

def Pre_UpFIdeal (m : (ℓ : Loc Cert.UpFIdeal.nD Cert.UpFIdeal.τ Cert.UpFIdeal.sig) → Buf (Elt Ideal) ℓ) : Prop :=
  True

def Pre_UpFRefIdeal (m : (ℓ : Loc Cert.UpFRefIdeal.nD Cert.UpFRefIdeal.τ Cert.UpFRefIdeal.sig) → Buf (Elt Ideal) ℓ) : Prop :=
  True

def Pre_DownF (m : (ℓ : Loc Cert.DownF.nD Cert.DownF.τ Cert.DownF.sig) → Buf (Elt Bits) ℓ) : Prop :=
  True

def Pre_DownFIdeal (m : (ℓ : Loc Cert.DownFIdeal.nD Cert.DownFIdeal.τ Cert.DownFIdeal.sig) → Buf (Elt Ideal) ℓ) : Prop :=
  True

def Pre_DownFRefIdeal (m : (ℓ : Loc Cert.DownFRefIdeal.nD Cert.DownFRefIdeal.τ Cert.DownFRefIdeal.sig) → Buf (Elt Ideal) ℓ) : Prop :=
  True

def Pre_SbBwd (m : (ℓ : Loc Cert.SbBwd.nD Cert.SbBwd.τ Cert.SbBwd.sig) → Buf (Elt Bits) ℓ) : Prop :=
  True

def Pre_SbBwdIdeal (m : (ℓ : Loc Cert.SbBwdIdeal.nD Cert.SbBwdIdeal.τ Cert.SbBwdIdeal.sig) → Buf (Elt Ideal) ℓ) : Prop :=
  True

def Pre_SbBwdIdeal_finite [hPre_finite : Cert.Pre_finite.Facts] (m : (ℓ : Loc Cert.SbBwdIdeal.nD Cert.SbBwdIdeal.τ Cert.SbBwdIdeal.sig) → Buf (Elt Ideal) ℓ) : Prop :=
  ∀ c : Dev Cert.SbBwdIdeal.nD,
    (Cert.Pre_finite.fn (F := Ideal) (m ((c.tc : Thread Cert.SbBwdIdeal.nD Cert.SbBwdIdeal.τ).loc Cert.SbBwdIdeal.main_arg0)) (m ((c.tc : Thread Cert.SbBwdIdeal.nD Cert.SbBwdIdeal.τ).loc Cert.SbBwdIdeal.main_arg1))).1 = (fun _ => 1#1)
    ∧ (Cert.Pre_finite.fn (F := Ideal) (m ((c.tc : Thread Cert.SbBwdIdeal.nD Cert.SbBwdIdeal.τ).loc Cert.SbBwdIdeal.main_arg0)) (m ((c.tc : Thread Cert.SbBwdIdeal.nD Cert.SbBwdIdeal.τ).loc Cert.SbBwdIdeal.main_arg1))).2 = (fun _ => 1#1)

def Pre_SbBwdRefIdeal (m : (ℓ : Loc Cert.SbBwdRefIdeal.nD Cert.SbBwdRefIdeal.τ Cert.SbBwdRefIdeal.sig) → Buf (Elt Ideal) ℓ) : Prop :=
  True

def Pre_SbBwdRefIdeal_finite [hPre_finite : Cert.Pre_finite.Facts] (m : (ℓ : Loc Cert.SbBwdRefIdeal.nD Cert.SbBwdRefIdeal.τ Cert.SbBwdRefIdeal.sig) → Buf (Elt Ideal) ℓ) : Prop :=
  ∀ c : Dev Cert.SbBwdRefIdeal.nD,
    (Cert.Pre_finite.fn (F := Ideal) (m ((c.tc : Thread Cert.SbBwdRefIdeal.nD Cert.SbBwdRefIdeal.τ).loc Cert.SbBwdRefIdeal.main_arg0)) (m ((c.tc : Thread Cert.SbBwdRefIdeal.nD Cert.SbBwdRefIdeal.τ).loc Cert.SbBwdRefIdeal.main_arg1))).1 = (fun _ => 1#1)
    ∧ (Cert.Pre_finite.fn (F := Ideal) (m ((c.tc : Thread Cert.SbBwdRefIdeal.nD Cert.SbBwdRefIdeal.τ).loc Cert.SbBwdRefIdeal.main_arg0)) (m ((c.tc : Thread Cert.SbBwdRefIdeal.nD Cert.SbBwdRefIdeal.τ).loc Cert.SbBwdRefIdeal.main_arg1))).2 = (fun _ => 1#1)

def Pre_AdQkv (m : (ℓ : Loc Cert.AdQkv.nD Cert.AdQkv.τ Cert.AdQkv.sig) → Buf (Elt Bits) ℓ) : Prop :=
  True

def Pre_AdQkvIdeal (m : (ℓ : Loc Cert.AdQkvIdeal.nD Cert.AdQkvIdeal.τ Cert.AdQkvIdeal.sig) → Buf (Elt Ideal) ℓ) : Prop :=
  True

def Pre_AdQkvRefIdeal (m : (ℓ : Loc Cert.AdQkvRefIdeal.nD Cert.AdQkvRefIdeal.τ Cert.AdQkvRefIdeal.sig) → Buf (Elt Ideal) ℓ) : Prop :=
  True

def Pre_AdOut (m : (ℓ : Loc Cert.AdOut.nD Cert.AdOut.τ Cert.AdOut.sig) → Buf (Elt Bits) ℓ) : Prop :=
  True

def Pre_AdOutIdeal (m : (ℓ : Loc Cert.AdOutIdeal.nD Cert.AdOutIdeal.τ Cert.AdOutIdeal.sig) → Buf (Elt Ideal) ℓ) : Prop :=
  True

def Pre_AdOutRefIdeal (m : (ℓ : Loc Cert.AdOutRefIdeal.nD Cert.AdOutRefIdeal.τ Cert.AdOutRefIdeal.sig) → Buf (Elt Ideal) ℓ) : Prop :=
  True

def Pre_AdA1 (m : (ℓ : Loc Cert.AdA1.nD Cert.AdA1.τ Cert.AdA1.sig) → Buf (Elt Bits) ℓ) : Prop :=
  True

def Pre_AdA1Ideal (m : (ℓ : Loc Cert.AdA1Ideal.nD Cert.AdA1Ideal.τ Cert.AdA1Ideal.sig) → Buf (Elt Ideal) ℓ) : Prop :=
  True

def Pre_AdA1RefIdeal (m : (ℓ : Loc Cert.AdA1RefIdeal.nD Cert.AdA1RefIdeal.τ Cert.AdA1RefIdeal.sig) → Buf (Elt Ideal) ℓ) : Prop :=
  True

def Pre_AdA2 (m : (ℓ : Loc Cert.AdA2.nD Cert.AdA2.τ Cert.AdA2.sig) → Buf (Elt Bits) ℓ) : Prop :=
  True

def Pre_AdA2Ideal (m : (ℓ : Loc Cert.AdA2Ideal.nD Cert.AdA2Ideal.τ Cert.AdA2Ideal.sig) → Buf (Elt Ideal) ℓ) : Prop :=
  True

def Pre_AdA2RefIdeal (m : (ℓ : Loc Cert.AdA2RefIdeal.nD Cert.AdA2RefIdeal.τ Cert.AdA2RefIdeal.sig) → Buf (Elt Ideal) ℓ) : Prop :=
  True

def Pre_AdBa (m : (ℓ : Loc Cert.AdBa.nD Cert.AdBa.τ Cert.AdBa.sig) → Buf (Elt Bits) ℓ) : Prop :=
  True

def Pre_AdBaIdeal (m : (ℓ : Loc Cert.AdBaIdeal.nD Cert.AdBaIdeal.τ Cert.AdBaIdeal.sig) → Buf (Elt Ideal) ℓ) : Prop :=
  True

def Pre_AdBaRefIdeal (m : (ℓ : Loc Cert.AdBaRefIdeal.nD Cert.AdBaRefIdeal.τ Cert.AdBaRefIdeal.sig) → Buf (Elt Ideal) ℓ) : Prop :=
  True

def Pre_AdNorm (m : (ℓ : Loc Cert.AdNorm.nD Cert.AdNorm.τ Cert.AdNorm.sig) → Buf (Elt Bits) ℓ) : Prop :=
  True

def Pre_AdNormIdeal (m : (ℓ : Loc Cert.AdNormIdeal.nD Cert.AdNormIdeal.τ Cert.AdNormIdeal.sig) → Buf (Elt Ideal) ℓ) : Prop :=
  True

def Pre_AdNormRefIdeal (m : (ℓ : Loc Cert.AdNormRefIdeal.nD Cert.AdNormRefIdeal.τ Cert.AdNormRefIdeal.sig) → Buf (Elt Ideal) ℓ) : Prop :=
  True

def Pre_AdUp (m : (ℓ : Loc Cert.AdUp.nD Cert.AdUp.τ Cert.AdUp.sig) → Buf (Elt Bits) ℓ) : Prop :=
  True

def Pre_AdUpIdeal (m : (ℓ : Loc Cert.AdUpIdeal.nD Cert.AdUpIdeal.τ Cert.AdUpIdeal.sig) → Buf (Elt Ideal) ℓ) : Prop :=
  True

def Pre_AdUpRefIdeal (m : (ℓ : Loc Cert.AdUpRefIdeal.nD Cert.AdUpRefIdeal.τ Cert.AdUpRefIdeal.sig) → Buf (Elt Ideal) ℓ) : Prop :=
  True

def Pre_AdConvW (m : (ℓ : Loc Cert.AdConvW.nD Cert.AdConvW.τ Cert.AdConvW.sig) → Buf (Elt Bits) ℓ) : Prop :=
  True

def Pre_AdConvWIdeal (m : (ℓ : Loc Cert.AdConvWIdeal.nD Cert.AdConvWIdeal.τ Cert.AdConvWIdeal.sig) → Buf (Elt Ideal) ℓ) : Prop :=
  True

def Pre_AdConvWRefIdeal (m : (ℓ : Loc Cert.AdConvWRefIdeal.nD Cert.AdConvWRefIdeal.τ Cert.AdConvWRefIdeal.sig) → Buf (Elt Ideal) ℓ) : Prop :=
  True

def Pre_AdConvB (m : (ℓ : Loc Cert.AdConvB.nD Cert.AdConvB.τ Cert.AdConvB.sig) → Buf (Elt Bits) ℓ) : Prop :=
  True

def Pre_AdConvBIdeal (m : (ℓ : Loc Cert.AdConvBIdeal.nD Cert.AdConvBIdeal.τ Cert.AdConvBIdeal.sig) → Buf (Elt Ideal) ℓ) : Prop :=
  True

def Pre_AdConvBRefIdeal (m : (ℓ : Loc Cert.AdConvBRefIdeal.nD Cert.AdConvBRefIdeal.τ Cert.AdConvBRefIdeal.sig) → Buf (Elt Ideal) ℓ) : Prop :=
  True

def Pre_AdDown (m : (ℓ : Loc Cert.AdDown.nD Cert.AdDown.τ Cert.AdDown.sig) → Buf (Elt Bits) ℓ) : Prop :=
  True

def Pre_AdDownIdeal (m : (ℓ : Loc Cert.AdDownIdeal.nD Cert.AdDownIdeal.τ Cert.AdDownIdeal.sig) → Buf (Elt Ideal) ℓ) : Prop :=
  True

def Pre_AdDownRefIdeal (m : (ℓ : Loc Cert.AdDownRefIdeal.nD Cert.AdDownRefIdeal.τ Cert.AdDownRefIdeal.sig) → Buf (Elt Ideal) ℓ) : Prop :=
  True

def Pre_AdLn (m : (ℓ : Loc Cert.AdLn.nD Cert.AdLn.τ Cert.AdLn.sig) → Buf (Elt Bits) ℓ) : Prop :=
  True

def Pre_AdLnIdeal (m : (ℓ : Loc Cert.AdLnIdeal.nD Cert.AdLnIdeal.τ Cert.AdLnIdeal.sig) → Buf (Elt Ideal) ℓ) : Prop :=
  True

def Pre_AdLnRefIdeal (m : (ℓ : Loc Cert.AdLnRefIdeal.nD Cert.AdLnRefIdeal.τ Cert.AdLnRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_SumW (m : (ℓ : Loc Cert.SumW.nD Cert.SumW.τ Cert.SumW.sig) → Buf (Elt Bits) ℓ) : Prop :=
  True

def Pre_SumWIdeal (m : (ℓ : Loc Cert.SumWIdeal.nD Cert.SumWIdeal.τ Cert.SumWIdeal.sig) → Buf (Elt Ideal) ℓ) : Prop :=
  True

def Pre_SumWRefIdeal (m : (ℓ : Loc Cert.SumWRefIdeal.nD Cert.SumWRefIdeal.τ Cert.SumWRefIdeal.sig) → Buf (Elt Ideal) ℓ) : Prop :=
  True

def Pre_SumR (m : (ℓ : Loc Cert.SumR.nD Cert.SumR.τ Cert.SumR.sig) → Buf (Elt Bits) ℓ) : Prop :=
  True

def Pre_SumRIdeal (m : (ℓ : Loc Cert.SumRIdeal.nD Cert.SumRIdeal.τ Cert.SumRIdeal.sig) → Buf (Elt Ideal) ℓ) : Prop :=
  True

def Pre_SumRRefIdeal (m : (ℓ : Loc Cert.SumRRefIdeal.nD Cert.SumRRefIdeal.τ Cert.SumRRefIdeal.sig) → Buf (Elt Ideal) ℓ) : Prop :=
  True

def Pre_LnF (m : (ℓ : Loc Cert.LnF.nD Cert.LnF.τ Cert.LnF.sig) → Buf (Elt Bits) ℓ) : Prop :=
  True

def Pre_LnFIdeal (m : (ℓ : Loc Cert.LnFIdeal.nD Cert.LnFIdeal.τ Cert.LnFIdeal.sig) → Buf (Elt Ideal) ℓ) : Prop :=
  True

def Pre_LnFRefIdeal (m : (ℓ : Loc Cert.LnFRefIdeal.nD Cert.LnFRefIdeal.τ Cert.LnFRefIdeal.sig) → Buf (Elt Ideal) ℓ) : Prop :=
  True

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1)
      ∧ r.2.mem ((c.tc : Thread Cert.DownW.nD Cert.DownW.τ).loc Cert.DownW.main_arg2) = m ((c.tc : Thread Cert.DownW.nD Cert.DownW.τ).loc Cert.DownW.main_arg2))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1)
      ∧ r.2.mem ((c.tc : Thread Cert.DownWIdeal.nD Cert.DownWIdeal.τ).loc Cert.DownWIdeal.main_arg2) = m ((c.tc : Thread Cert.DownWIdeal.nD Cert.DownWIdeal.τ).loc Cert.DownWIdeal.main_arg2))
      ∧ r.2.sem = fun _ => 0)

def quiescent_DownWRefIdeal [hDownWRefIdeal : Cert.DownWRefIdeal.Facts] : Prop :=
  ∀ (m : (ℓ : Loc Cert.DownWRefIdeal.nD Cert.DownWRefIdeal.τ Cert.DownWRefIdeal.sig) → Buf (Elt Ideal) ℓ) (g : Dev Cert.DownWRefIdeal.nD → PrngReg), Pre_DownWRefIdeal m →
    θ_run (Cert.DownWRefIdeal.defs (F := Ideal)) (onTc (τ := Cert.DownWRefIdeal.τ) (Cert.DownWRefIdeal.main (F := Ideal))) ⟨m, fun _ => 0, g⟩ (fun r => (∀ c : Dev Cert.DownWRefIdeal.nD,
      r.2.mem ((c.tc : Thread Cert.DownWRefIdeal.nD Cert.DownWRefIdeal.τ).loc Cert.DownWRefIdeal.main_arg0) = m ((c.tc : Thread Cert.DownWRefIdeal.nD Cert.DownWRefIdeal.τ).loc Cert.DownWRefIdeal.main_arg0)
      ∧ r.2.mem ((c.tc : Thread Cert.DownWRefIdeal.nD Cert.DownWRefIdeal.τ).loc Cert.DownWRefIdeal.main_arg1) = m ((c.tc : Thread Cert.DownWRefIdeal.nD Cert.DownWRefIdeal.τ).loc Cert.DownWRefIdeal.main_arg1)
      ∧ r.2.mem ((c.tc : Thread Cert.DownWRefIdeal.nD Cert.DownWRefIdeal.τ).loc Cert.DownWRefIdeal.main_arg2) = m ((c.tc : Thread Cert.DownWRefIdeal.nD Cert.DownWRefIdeal.τ).loc Cert.DownWRefIdeal.main_arg2))
      ∧ r.2.sem = fun _ => 0)

def quiescent_DownX [hDownX : Cert.DownX.Facts] : Prop :=
  ∀ (m : (ℓ : Loc Cert.DownX.nD Cert.DownX.τ Cert.DownX.sig) → Buf (Elt Bits) ℓ) (g : Dev Cert.DownX.nD → PrngReg), Pre_DownX m →
    θ_run (Cert.DownX.defs (F := Bits)) (onTc (τ := Cert.DownX.τ) (Cert.DownX.main (F := Bits))) ⟨m, fun _ => 0, g⟩ (fun r => (∀ c : Dev Cert.DownX.nD,
      r.2.mem ((c.tc : Thread Cert.DownX.nD Cert.DownX.τ).loc Cert.DownX.main_arg0) = m ((c.tc : Thread Cert.DownX.nD Cert.DownX.τ).loc Cert.DownX.main_arg0)
      ∧ r.2.mem ((c.tc : Thread Cert.DownX.nD Cert.DownX.τ).loc Cert.DownX.main_arg1) = m ((c.tc : Thread Cert.DownX.nD Cert.DownX.τ).loc Cert.DownX.main_arg1)
      ∧ r.2.mem ((c.tc : Thread Cert.DownX.nD Cert.DownX.τ).loc Cert.DownX.main_arg2) = m ((c.tc : Thread Cert.DownX.nD Cert.DownX.τ).loc Cert.DownX.main_arg2))
      ∧ r.2.sem = fun _ => 0)

def quiescent_DownXIdeal [hDownXIdeal : Cert.DownXIdeal.Facts] : Prop :=
  ∀ (m : (ℓ : Loc Cert.DownXIdeal.nD Cert.DownXIdeal.τ Cert.DownXIdeal.sig) → Buf (Elt Ideal) ℓ) (g : Dev Cert.DownXIdeal.nD → PrngReg), Pre_DownXIdeal m →
    θ_run (Cert.DownXIdeal.defs (F := Ideal)) (onTc (τ := Cert.DownXIdeal.τ) (Cert.DownXIdeal.main (F := Ideal))) ⟨m, fun _ => 0, g⟩ (fun r => (∀ c : Dev Cert.DownXIdeal.nD,
      r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
      ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1)
      ∧ r.2.mem ((c.tc : Thread Cert.DownXIdeal.nD Cert.DownXIdeal.τ).loc Cert.DownXIdeal.main_arg2) = m ((c.tc : Thread Cert.DownXIdeal.nD Cert.DownXIdeal.τ).loc Cert.DownXIdeal.main_arg2))
      ∧ r.2.sem = fun _ => 0)

def quiescent_DownXRefIdeal [hDownXRefIdeal : Cert.DownXRefIdeal.Facts] : Prop :=
  ∀ (m : (ℓ : Loc Cert.DownXRefIdeal.nD Cert.DownXRefIdeal.τ Cert.DownXRefIdeal.sig) → Buf (Elt Ideal) ℓ) (g : Dev Cert.DownXRefIdeal.nD → PrngReg), Pre_DownXRefIdeal m →
    θ_run (Cert.DownXRefIdeal.defs (F := Ideal)) (onTc (τ := Cert.DownXRefIdeal.τ) (Cert.DownXRefIdeal.main (F := Ideal))) ⟨m, fun _ => 0, g⟩ (fun r => (∀ c : Dev Cert.DownXRefIdeal.nD,
      r.2.mem ((c.tc : Thread Cert.DownXRefIdeal.nD Cert.DownXRefIdeal.τ).loc Cert.DownXRefIdeal.main_arg0) = m ((c.tc : Thread Cert.DownXRefIdeal.nD Cert.DownXRefIdeal.τ).loc Cert.DownXRefIdeal.main_arg0)
      ∧ r.2.mem ((c.tc : Thread Cert.DownXRefIdeal.nD Cert.DownXRefIdeal.τ).loc Cert.DownXRefIdeal.main_arg1) = m ((c.tc : Thread Cert.DownXRefIdeal.nD Cert.DownXRefIdeal.τ).loc Cert.DownXRefIdeal.main_arg1)
      ∧ r.2.mem ((c.tc : Thread Cert.DownXRefIdeal.nD Cert.DownXRefIdeal.τ).loc Cert.DownXRefIdeal.main_arg2) = m ((c.tc : Thread Cert.DownXRefIdeal.nD Cert.DownXRefIdeal.τ).loc Cert.DownXRefIdeal.main_arg2))
      ∧ r.2.sem = fun _ => 0)

def quiescent_UpW [hUpW : Cert.UpW.Facts] : Prop :=
  ∀ (m : (ℓ : Loc Cert.UpW.nD Cert.UpW.τ Cert.UpW.sig) → Buf (Elt Bits) ℓ) (g : Dev Cert.UpW.nD → PrngReg), Pre_UpW m →
    θ_run (Cert.UpW.defs (F := Bits)) (onTc (τ := Cert.UpW.τ) (Cert.UpW.main (F := Bits))) ⟨m, fun _ => 0, g⟩ (fun r => (∀ c : Dev Cert.UpW.nD,
      r.2.mem ((c.tc : Thread Cert.UpW.nD Cert.UpW.τ).loc Cert.UpW.main_arg0) = m ((c.tc : Thread Cert.UpW.nD Cert.UpW.τ).loc Cert.UpW.main_arg0)
      ∧ r.2.mem ((c.tc : Thread Cert.UpW.nD Cert.UpW.τ).loc Cert.UpW.main_arg1) = m ((c.tc : Thread Cert.UpW.nD Cert.UpW.τ).loc Cert.UpW.main_arg1)
      ∧ r.2.mem ((c.tc : Thread Cert.UpW.nD Cert.UpW.τ).loc Cert.UpW.main_arg2) = m ((c.tc : Thread Cert.UpW.nD Cert.UpW.τ).loc Cert.UpW.main_arg2))
      ∧ r.2.sem = fun _ => 0)

def quiescent_UpWIdeal [hUpWIdeal : Cert.UpWIdeal.Facts] : Prop :=
  ∀ (m : (ℓ : Loc Cert.UpWIdeal.nD Cert.UpWIdeal.τ Cert.UpWIdeal.sig) → Buf (Elt Ideal) ℓ) (g : Dev Cert.UpWIdeal.nD → PrngReg), Pre_UpWIdeal m →
    θ_run (Cert.UpWIdeal.defs (F := Ideal)) (onTc (τ := Cert.UpWIdeal.τ) (Cert.UpWIdeal.main (F := Ideal))) ⟨m, fun _ => 0, g⟩ (fun r => (∀ c : Dev Cert.UpWIdeal.nD,
      r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
      ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1)
      ∧ r.2.mem ((c.tc : Thread Cert.UpWIdeal.nD Cert.UpWIdeal.τ).loc Cert.UpWIdeal.main_arg2) = m ((c.tc : Thread Cert.UpWIdeal.nD Cert.UpWIdeal.τ).loc Cert.UpWIdeal.main_arg2))
      ∧ r.2.sem = fun _ => 0)

def quiescent_UpWRefIdeal [hUpWRefIdeal : Cert.UpWRefIdeal.Facts] : Prop :=
  ∀ (m : (ℓ : Loc Cert.UpWRefIdeal.nD Cert.UpWRefIdeal.τ Cert.UpWRefIdeal.sig) → Buf (Elt Ideal) ℓ) (g : Dev Cert.UpWRefIdeal.nD → PrngReg), Pre_UpWRefIdeal m →
    θ_run (Cert.UpWRefIdeal.defs (F := Ideal)) (onTc (τ := Cert.UpWRefIdeal.τ) (Cert.UpWRefIdeal.main (F := Ideal))) ⟨m, fun _ => 0, g⟩ (fun r => (∀ c : Dev Cert.UpWRefIdeal.nD,
      r.2.mem ((c.tc : Thread Cert.UpWRefIdeal.nD Cert.UpWRefIdeal.τ).loc Cert.UpWRefIdeal.main_arg0) = m ((c.tc : Thread Cert.UpWRefIdeal.nD Cert.UpWRefIdeal.τ).loc Cert.UpWRefIdeal.main_arg0)
      ∧ r.2.mem ((c.tc : Thread Cert.UpWRefIdeal.nD Cert.UpWRefIdeal.τ).loc Cert.UpWRefIdeal.main_arg1) = m ((c.tc : Thread Cert.UpWRefIdeal.nD Cert.UpWRefIdeal.τ).loc Cert.UpWRefIdeal.main_arg1)
      ∧ r.2.mem ((c.tc : Thread Cert.UpWRefIdeal.nD Cert.UpWRefIdeal.τ).loc Cert.UpWRefIdeal.main_arg2) = m ((c.tc : Thread Cert.UpWRefIdeal.nD Cert.UpWRefIdeal.τ).loc Cert.UpWRefIdeal.main_arg2))
      ∧ r.2.sem = fun _ => 0)

def quiescent_UpX [hUpX : Cert.UpX.Facts] : Prop :=
  ∀ (m : (ℓ : Loc Cert.UpX.nD Cert.UpX.τ Cert.UpX.sig) → Buf (Elt Bits) ℓ) (g : Dev Cert.UpX.nD → PrngReg), Pre_UpX m →
    θ_run (Cert.UpX.defs (F := Bits)) (onTc (τ := Cert.UpX.τ) (Cert.UpX.main (F := Bits))) ⟨m, fun _ => 0, g⟩ (fun r => (∀ c : Dev Cert.UpX.nD,
      r.2.mem ((c.tc : Thread Cert.UpX.nD Cert.UpX.τ).loc Cert.UpX.main_arg0) = m ((c.tc : Thread Cert.UpX.nD Cert.UpX.τ).loc Cert.UpX.main_arg0)
      ∧ r.2.mem ((c.tc : Thread Cert.UpX.nD Cert.UpX.τ).loc Cert.UpX.main_arg1) = m ((c.tc : Thread Cert.UpX.nD Cert.UpX.τ).loc Cert.UpX.main_arg1)
      ∧ r.2.mem ((c.tc : Thread Cert.UpX.nD Cert.UpX.τ).loc Cert.UpX.main_arg2) = m ((c.tc : Thread Cert.UpX.nD Cert.UpX.τ).loc Cert.UpX.main_arg2)
      ∧ r.2.mem ((c.tc : Thread Cert.UpX.nD Cert.UpX.τ).loc Cert.UpX.main_arg3) = m ((c.tc : Thread Cert.UpX.nD Cert.UpX.τ).loc Cert.UpX.main_arg3))
      ∧ r.2.sem = fun _ => 0)

def quiescent_UpXIdeal [hUpXIdeal : Cert.UpXIdeal.Facts] : Prop :=
  ∀ (m : (ℓ : Loc Cert.UpXIdeal.nD Cert.UpXIdeal.τ Cert.UpXIdeal.sig) → Buf (Elt Ideal) ℓ) (g : Dev Cert.UpXIdeal.nD → PrngReg), Pre_UpXIdeal m →
    θ_run (Cert.UpXIdeal.defs (F := Ideal)) (onTc (τ := Cert.UpXIdeal.τ) (Cert.UpXIdeal.main (F := Ideal))) ⟨m, fun _ => 0, g⟩ (fun r => (∀ c : Dev Cert.UpXIdeal.nD,
      r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
      ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1)
      ∧ r.2.mem ((c.tc : Thread Cert.UpXIdeal.nD Cert.UpXIdeal.τ).loc Cert.UpXIdeal.main_arg2) = m ((c.tc : Thread Cert.UpXIdeal.nD Cert.UpXIdeal.τ).loc Cert.UpXIdeal.main_arg2)
      ∧ r.2.mem ((c.tc : Thread Cert.UpXIdeal.nD Cert.UpXIdeal.τ).loc Cert.UpXIdeal.main_arg3) = m ((c.tc : Thread Cert.UpXIdeal.nD Cert.UpXIdeal.τ).loc Cert.UpXIdeal.main_arg3))
      ∧ r.2.sem = fun _ => 0)

def quiescent_UpXRefIdeal [hUpXRefIdeal : Cert.UpXRefIdeal.Facts] : Prop :=
  ∀ (m : (ℓ : Loc Cert.UpXRefIdeal.nD Cert.UpXRefIdeal.τ Cert.UpXRefIdeal.sig) → Buf (Elt Ideal) ℓ) (g : Dev Cert.UpXRefIdeal.nD → PrngReg), Pre_UpXRefIdeal m →
    θ_run (Cert.UpXRefIdeal.defs (F := Ideal)) (onTc (τ := Cert.UpXRefIdeal.τ) (Cert.UpXRefIdeal.main (F := Ideal))) ⟨m, fun _ => 0, g⟩ (fun r => (∀ c : Dev Cert.UpXRefIdeal.nD,
      r.2.mem ((c.tc : Thread Cert.UpXRefIdeal.nD Cert.UpXRefIdeal.τ).loc Cert.UpXRefIdeal.main_arg0) = m ((c.tc : Thread Cert.UpXRefIdeal.nD Cert.UpXRefIdeal.τ).loc Cert.UpXRefIdeal.main_arg0)
      ∧ r.2.mem ((c.tc : Thread Cert.UpXRefIdeal.nD Cert.UpXRefIdeal.τ).loc Cert.UpXRefIdeal.main_arg1) = m ((c.tc : Thread Cert.UpXRefIdeal.nD Cert.UpXRefIdeal.τ).loc Cert.UpXRefIdeal.main_arg1)
      ∧ r.2.mem ((c.tc : Thread Cert.UpXRefIdeal.nD Cert.UpXRefIdeal.τ).loc Cert.UpXRefIdeal.main_arg2) = m ((c.tc : Thread Cert.UpXRefIdeal.nD Cert.UpXRefIdeal.τ).loc Cert.UpXRefIdeal.main_arg2)
      ∧ r.2.mem ((c.tc : Thread Cert.UpXRefIdeal.nD Cert.UpXRefIdeal.τ).loc Cert.UpXRefIdeal.main_arg3) = m ((c.tc : Thread Cert.UpXRefIdeal.nD Cert.UpXRefIdeal.τ).loc Cert.UpXRefIdeal.main_arg3))
      ∧ r.2.sem = fun _ => 0)

def quiescent_UpX2 [hUpX2 : Cert.UpX2.Facts] : Prop :=
  ∀ (m : (ℓ : Loc Cert.UpX2.nD Cert.UpX2.τ Cert.UpX2.sig) → Buf (Elt Bits) ℓ) (g : Dev Cert.UpX2.nD → PrngReg), Pre_UpX2 m →
    θ_run (Cert.UpX2.defs (F := Bits)) (onTc (τ := Cert.UpX2.τ) (Cert.UpX2.main (F := Bits))) ⟨m, fun _ => 0, g⟩ (fun r => (∀ c : Dev Cert.UpX2.nD,
      r.2.mem ((c.tc : Thread Cert.UpX2.nD Cert.UpX2.τ).loc Cert.UpX2.main_arg0) = m ((c.tc : Thread Cert.UpX2.nD Cert.UpX2.τ).loc Cert.UpX2.main_arg0)
      ∧ r.2.mem ((c.tc : Thread Cert.UpX2.nD Cert.UpX2.τ).loc Cert.UpX2.main_arg1) = m ((c.tc : Thread Cert.UpX2.nD Cert.UpX2.τ).loc Cert.UpX2.main_arg1)
      ∧ r.2.mem ((c.tc : Thread Cert.UpX2.nD Cert.UpX2.τ).loc Cert.UpX2.main_arg2) = m ((c.tc : Thread Cert.UpX2.nD Cert.UpX2.τ).loc Cert.UpX2.main_arg2)
      ∧ r.2.mem ((c.tc : Thread Cert.UpX2.nD Cert.UpX2.τ).loc Cert.UpX2.main_arg3) = m ((c.tc : Thread Cert.UpX2.nD Cert.UpX2.τ).loc Cert.UpX2.main_arg3))
      ∧ r.2.sem = fun _ => 0)

def quiescent_UpX2Ideal [hUpX2Ideal : Cert.UpX2Ideal.Facts] : Prop :=
  ∀ (m : (ℓ : Loc Cert.UpX2Ideal.nD Cert.UpX2Ideal.τ Cert.UpX2Ideal.sig) → Buf (Elt Ideal) ℓ) (g : Dev Cert.UpX2Ideal.nD → PrngReg), Pre_UpX2Ideal m →
    θ_run (Cert.UpX2Ideal.defs (F := Ideal)) (onTc (τ := Cert.UpX2Ideal.τ) (Cert.UpX2Ideal.main (F := Ideal))) ⟨m, fun _ => 0, g⟩ (fun r => (∀ c : Dev Cert.UpX2Ideal.nD,
      r.2.mem ((c.tc : Thread Cert.UpX2Ideal.nD Cert.UpX2Ideal.τ).loc Cert.UpX2Ideal.main_arg0) = m ((c.tc : Thread Cert.UpX2Ideal.nD Cert.UpX2Ideal.τ).loc Cert.UpX2Ideal.main_arg0)
      ∧ r.2.mem ((c.tc : Thread Cert.UpX2Ideal.nD Cert.UpX2Ideal.τ).loc Cert.UpX2Ideal.main_arg1) = m ((c.tc : Thread Cert.UpX2Ideal.nD Cert.UpX2Ideal.τ).loc Cert.UpX2Ideal.main_arg1)
      ∧ r.2.mem ((c.tc : Thread Cert.UpX2Ideal.nD Cert.UpX2Ideal.τ).loc Cert.UpX2Ideal.main_arg2) = m ((c.tc : Thread Cert.UpX2Ideal.nD Cert.UpX2Ideal.τ).loc Cert.UpX2Ideal.main_arg2)
      ∧ r.2.mem ((c.tc : Thread Cert.UpX2Ideal.nD Cert.UpX2Ideal.τ).loc Cert.UpX2Ideal.main_arg3) = m ((c.tc : Thread Cert.UpX2Ideal.nD Cert.UpX2Ideal.τ).loc Cert.UpX2Ideal.main_arg3))
      ∧ r.2.sem = fun _ => 0)

def quiescent_UpX2RefIdeal [hUpX2RefIdeal : Cert.UpX2RefIdeal.Facts] : Prop :=
  ∀ (m : (ℓ : Loc Cert.UpX2RefIdeal.nD Cert.UpX2RefIdeal.τ Cert.UpX2RefIdeal.sig) → Buf (Elt Ideal) ℓ) (g : Dev Cert.UpX2RefIdeal.nD → PrngReg), Pre_UpX2RefIdeal m →
    θ_run (Cert.UpX2RefIdeal.defs (F := Ideal)) (onTc (τ := Cert.UpX2RefIdeal.τ) (Cert.UpX2RefIdeal.main (F := Ideal))) ⟨m, fun _ => 0, g⟩ (fun r => (∀ c : Dev Cert.UpX2RefIdeal.nD,
      r.2.mem ((c.tc : Thread Cert.UpX2RefIdeal.nD Cert.UpX2RefIdeal.τ).loc Cert.UpX2RefIdeal.main_arg0) = m ((c.tc : Thread Cert.UpX2RefIdeal.nD Cert.UpX2RefIdeal.τ).loc Cert.UpX2RefIdeal.main_arg0)
      ∧ r.2.mem ((c.tc : Thread Cert.UpX2RefIdeal.nD Cert.UpX2RefIdeal.τ).loc Cert.UpX2RefIdeal.main_arg1) = m ((c.tc : Thread Cert.UpX2RefIdeal.nD Cert.UpX2RefIdeal.τ).loc Cert.UpX2RefIdeal.main_arg1)
      ∧ r.2.mem ((c.tc : Thread Cert.UpX2RefIdeal.nD Cert.UpX2RefIdeal.τ).loc Cert.UpX2RefIdeal.main_arg2) = m ((c.tc : Thread Cert.UpX2RefIdeal.nD Cert.UpX2RefIdeal.τ).loc Cert.UpX2RefIdeal.main_arg2)
      ∧ r.2.mem ((c.tc : Thread Cert.UpX2RefIdeal.nD Cert.UpX2RefIdeal.τ).loc Cert.UpX2RefIdeal.main_arg3) = m ((c.tc : Thread Cert.UpX2RefIdeal.nD Cert.UpX2RefIdeal.τ).loc Cert.UpX2RefIdeal.main_arg3))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1)
      ∧ r.2.mem ((c.tc : Thread Cert.OutW.nD Cert.OutW.τ).loc Cert.OutW.main_arg2) = m ((c.tc : Thread Cert.OutW.nD Cert.OutW.τ).loc Cert.OutW.main_arg2))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1)
      ∧ r.2.mem ((c.tc : Thread Cert.OutWIdeal.nD Cert.OutWIdeal.τ).loc Cert.OutWIdeal.main_arg2) = m ((c.tc : Thread Cert.OutWIdeal.nD Cert.OutWIdeal.τ).loc Cert.OutWIdeal.main_arg2))
      ∧ r.2.sem = fun _ => 0)

def quiescent_OutWRefIdeal [hOutWRefIdeal : Cert.OutWRefIdeal.Facts] : Prop :=
  ∀ (m : (ℓ : Loc Cert.OutWRefIdeal.nD Cert.OutWRefIdeal.τ Cert.OutWRefIdeal.sig) → Buf (Elt Ideal) ℓ) (g : Dev Cert.OutWRefIdeal.nD → PrngReg), Pre_OutWRefIdeal m →
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1)
      ∧ r.2.mem ((c.tc : Thread Cert.OutWRefIdeal.nD Cert.OutWRefIdeal.τ).loc Cert.OutWRefIdeal.main_arg2) = m ((c.tc : Thread Cert.OutWRefIdeal.nD Cert.OutWRefIdeal.τ).loc Cert.OutWRefIdeal.main_arg2))
      ∧ r.2.sem = fun _ => 0)

def quiescent_OutX [hOutX : Cert.OutX.Facts] : Prop :=
  ∀ (m : (ℓ : Loc Cert.OutX.nD Cert.OutX.τ Cert.OutX.sig) → Buf (Elt Bits) ℓ) (g : Dev Cert.OutX.nD → PrngReg), Pre_OutX m →
    θ_run (Cert.OutX.defs (F := Bits)) (onTc (τ := Cert.OutX.τ) (Cert.OutX.main (F := Bits))) ⟨m, fun _ => 0, g⟩ (fun r => (∀ c : Dev Cert.OutX.nD,
      r.2.mem ((c.tc : Thread Cert.OutX.nD Cert.OutX.τ).loc Cert.OutX.main_arg0) = m ((c.tc : Thread Cert.OutX.nD Cert.OutX.τ).loc Cert.OutX.main_arg0)
      ∧ r.2.mem ((c.tc : Thread Cert.OutX.nD Cert.OutX.τ).loc Cert.OutX.main_arg1) = m ((c.tc : Thread Cert.OutX.nD Cert.OutX.τ).loc Cert.OutX.main_arg1)
      ∧ r.2.mem ((c.tc : Thread Cert.OutX.nD Cert.OutX.τ).loc Cert.OutX.main_arg2) = m ((c.tc : Thread Cert.OutX.nD Cert.OutX.τ).loc Cert.OutX.main_arg2))
      ∧ r.2.sem = fun _ => 0)

def quiescent_OutXIdeal [hOutXIdeal : Cert.OutXIdeal.Facts] : Prop :=
  ∀ (m : (ℓ : Loc Cert.OutXIdeal.nD Cert.OutXIdeal.τ Cert.OutXIdeal.sig) → Buf (Elt Ideal) ℓ) (g : Dev Cert.OutXIdeal.nD → PrngReg), Pre_OutXIdeal m →
    θ_run (Cert.OutXIdeal.defs (F := Ideal)) (onTc (τ := Cert.OutXIdeal.τ) (Cert.OutXIdeal.main (F := Ideal))) ⟨m, fun _ => 0, g⟩ (fun r => (∀ c : Dev Cert.OutXIdeal.nD,
      r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
      ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1)
      ∧ r.2.mem ((c.tc : Thread Cert.OutXIdeal.nD Cert.OutXIdeal.τ).loc Cert.OutXIdeal.main_arg2) = m ((c.tc : Thread Cert.OutXIdeal.nD Cert.OutXIdeal.τ).loc Cert.OutXIdeal.main_arg2))
      ∧ r.2.sem = fun _ => 0)

def quiescent_OutXRefIdeal [hOutXRefIdeal : Cert.OutXRefIdeal.Facts] : Prop :=
  ∀ (m : (ℓ : Loc Cert.OutXRefIdeal.nD Cert.OutXRefIdeal.τ Cert.OutXRefIdeal.sig) → Buf (Elt Ideal) ℓ) (g : Dev Cert.OutXRefIdeal.nD → PrngReg), Pre_OutXRefIdeal m →
    θ_run (Cert.OutXRefIdeal.defs (F := Ideal)) (onTc (τ := Cert.OutXRefIdeal.τ) (Cert.OutXRefIdeal.main (F := Ideal))) ⟨m, fun _ => 0, g⟩ (fun r => (∀ c : Dev Cert.OutXRefIdeal.nD,
      r.2.mem ((c.tc : Thread Cert.OutXRefIdeal.nD Cert.OutXRefIdeal.τ).loc Cert.OutXRefIdeal.main_arg0) = m ((c.tc : Thread Cert.OutXRefIdeal.nD Cert.OutXRefIdeal.τ).loc Cert.OutXRefIdeal.main_arg0)
      ∧ r.2.mem ((c.tc : Thread Cert.OutXRefIdeal.nD Cert.OutXRefIdeal.τ).loc Cert.OutXRefIdeal.main_arg1) = m ((c.tc : Thread Cert.OutXRefIdeal.nD Cert.OutXRefIdeal.τ).loc Cert.OutXRefIdeal.main_arg1)
      ∧ r.2.mem ((c.tc : Thread Cert.OutXRefIdeal.nD Cert.OutXRefIdeal.τ).loc Cert.OutXRefIdeal.main_arg2) = m ((c.tc : Thread Cert.OutXRefIdeal.nD Cert.OutXRefIdeal.τ).loc Cert.OutXRefIdeal.main_arg2))
      ∧ r.2.sem = fun _ => 0)

def quiescent_OutX2 [hOutX2 : Cert.OutX2.Facts] : Prop :=
  ∀ (m : (ℓ : Loc Cert.OutX2.nD Cert.OutX2.τ Cert.OutX2.sig) → Buf (Elt Bits) ℓ) (g : Dev Cert.OutX2.nD → PrngReg), Pre_OutX2 m →
    θ_run (Cert.OutX2.defs (F := Bits)) (onTc (τ := Cert.OutX2.τ) (Cert.OutX2.main (F := Bits))) ⟨m, fun _ => 0, g⟩ (fun r => (∀ c : Dev Cert.OutX2.nD,
      r.2.mem ((c.tc : Thread Cert.OutX2.nD Cert.OutX2.τ).loc Cert.OutX2.main_arg0) = m ((c.tc : Thread Cert.OutX2.nD Cert.OutX2.τ).loc Cert.OutX2.main_arg0)
      ∧ r.2.mem ((c.tc : Thread Cert.OutX2.nD Cert.OutX2.τ).loc Cert.OutX2.main_arg1) = m ((c.tc : Thread Cert.OutX2.nD Cert.OutX2.τ).loc Cert.OutX2.main_arg1)
      ∧ r.2.mem ((c.tc : Thread Cert.OutX2.nD Cert.OutX2.τ).loc Cert.OutX2.main_arg2) = m ((c.tc : Thread Cert.OutX2.nD Cert.OutX2.τ).loc Cert.OutX2.main_arg2))
      ∧ r.2.sem = fun _ => 0)

def quiescent_OutX2Ideal [hOutX2Ideal : Cert.OutX2Ideal.Facts] : Prop :=
  ∀ (m : (ℓ : Loc Cert.OutX2Ideal.nD Cert.OutX2Ideal.τ Cert.OutX2Ideal.sig) → Buf (Elt Ideal) ℓ) (g : Dev Cert.OutX2Ideal.nD → PrngReg), Pre_OutX2Ideal m →
    θ_run (Cert.OutX2Ideal.defs (F := Ideal)) (onTc (τ := Cert.OutX2Ideal.τ) (Cert.OutX2Ideal.main (F := Ideal))) ⟨m, fun _ => 0, g⟩ (fun r => (∀ c : Dev Cert.OutX2Ideal.nD,
      r.2.mem ((c.tc : Thread Cert.OutX2Ideal.nD Cert.OutX2Ideal.τ).loc Cert.OutX2Ideal.main_arg0) = m ((c.tc : Thread Cert.OutX2Ideal.nD Cert.OutX2Ideal.τ).loc Cert.OutX2Ideal.main_arg0)
      ∧ r.2.mem ((c.tc : Thread Cert.OutX2Ideal.nD Cert.OutX2Ideal.τ).loc Cert.OutX2Ideal.main_arg1) = m ((c.tc : Thread Cert.OutX2Ideal.nD Cert.OutX2Ideal.τ).loc Cert.OutX2Ideal.main_arg1)
      ∧ r.2.mem ((c.tc : Thread Cert.OutX2Ideal.nD Cert.OutX2Ideal.τ).loc Cert.OutX2Ideal.main_arg2) = m ((c.tc : Thread Cert.OutX2Ideal.nD Cert.OutX2Ideal.τ).loc Cert.OutX2Ideal.main_arg2))
      ∧ r.2.sem = fun _ => 0)

def quiescent_OutX2RefIdeal [hOutX2RefIdeal : Cert.OutX2RefIdeal.Facts] : Prop :=
  ∀ (m : (ℓ : Loc Cert.OutX2RefIdeal.nD Cert.OutX2RefIdeal.τ Cert.OutX2RefIdeal.sig) → Buf (Elt Ideal) ℓ) (g : Dev Cert.OutX2RefIdeal.nD → PrngReg), Pre_OutX2RefIdeal m →
    θ_run (Cert.OutX2RefIdeal.defs (F := Ideal)) (onTc (τ := Cert.OutX2RefIdeal.τ) (Cert.OutX2RefIdeal.main (F := Ideal))) ⟨m, fun _ => 0, g⟩ (fun r => (∀ c : Dev Cert.OutX2RefIdeal.nD,
      r.2.mem ((c.tc : Thread Cert.OutX2RefIdeal.nD Cert.OutX2RefIdeal.τ).loc Cert.OutX2RefIdeal.main_arg0) = m ((c.tc : Thread Cert.OutX2RefIdeal.nD Cert.OutX2RefIdeal.τ).loc Cert.OutX2RefIdeal.main_arg0)
      ∧ r.2.mem ((c.tc : Thread Cert.OutX2RefIdeal.nD Cert.OutX2RefIdeal.τ).loc Cert.OutX2RefIdeal.main_arg1) = m ((c.tc : Thread Cert.OutX2RefIdeal.nD Cert.OutX2RefIdeal.τ).loc Cert.OutX2RefIdeal.main_arg1)
      ∧ r.2.mem ((c.tc : Thread Cert.OutX2RefIdeal.nD Cert.OutX2RefIdeal.τ).loc Cert.OutX2RefIdeal.main_arg2) = m ((c.tc : Thread Cert.OutX2RefIdeal.nD Cert.OutX2RefIdeal.τ).loc Cert.OutX2RefIdeal.main_arg2))
      ∧ r.2.sem = fun _ => 0)

def quiescent_QkvW [hQkvW : Cert.QkvW.Facts] : Prop :=
  ∀ (m : (ℓ : Loc Cert.QkvW.nD Cert.QkvW.τ Cert.QkvW.sig) → Buf (Elt Bits) ℓ) (g : Dev Cert.QkvW.nD → PrngReg), Pre_QkvW m →
    θ_run (Cert.QkvW.defs (F := Bits)) (onTc (τ := Cert.QkvW.τ) (Cert.QkvW.main (F := Bits))) ⟨m, fun _ => 0, g⟩ (fun r => (∀ c : Dev Cert.QkvW.nD,
      r.2.mem ((c.tc : Thread Cert.QkvW.nD Cert.QkvW.τ).loc Cert.QkvW.main_arg0) = m ((c.tc : Thread Cert.QkvW.nD Cert.QkvW.τ).loc Cert.QkvW.main_arg0)
      ∧ r.2.mem ((c.tc : Thread Cert.QkvW.nD Cert.QkvW.τ).loc Cert.QkvW.main_arg1) = m ((c.tc : Thread Cert.QkvW.nD Cert.QkvW.τ).loc Cert.QkvW.main_arg1)
      ∧ r.2.mem ((c.tc : Thread Cert.QkvW.nD Cert.QkvW.τ).loc Cert.QkvW.main_arg2) = m ((c.tc : Thread Cert.QkvW.nD Cert.QkvW.τ).loc Cert.QkvW.main_arg2))
      ∧ r.2.sem = fun _ => 0)

def quiescent_QkvWIdeal [hQkvWIdeal : Cert.QkvWIdeal.Facts] : Prop :=
  ∀ (m : (ℓ : Loc Cert.QkvWIdeal.nD Cert.QkvWIdeal.τ Cert.QkvWIdeal.sig) → Buf (Elt Ideal) ℓ) (g : Dev Cert.QkvWIdeal.nD → PrngReg), Pre_QkvWIdeal m →
    θ_run (Cert.QkvWIdeal.defs (F := Ideal)) (onTc (τ := Cert.QkvWIdeal.τ) (Cert.QkvWIdeal.main (F := Ideal))) ⟨m, fun _ => 0, g⟩ (fun r => (∀ c : Dev Cert.QkvWIdeal.nD,
      r.2.mem ((c.tc : Thread Cert.QkvWIdeal.nD Cert.QkvWIdeal.τ).loc Cert.QkvWIdeal.main_arg0) = m ((c.tc : Thread Cert.QkvWIdeal.nD Cert.QkvWIdeal.τ).loc Cert.QkvWIdeal.main_arg0)
      ∧ r.2.mem ((c.tc : Thread Cert.QkvWIdeal.nD Cert.QkvWIdeal.τ).loc Cert.QkvWIdeal.main_arg1) = m ((c.tc : Thread Cert.QkvWIdeal.nD Cert.QkvWIdeal.τ).loc Cert.QkvWIdeal.main_arg1)
      ∧ r.2.mem ((c.tc : Thread Cert.QkvWIdeal.nD Cert.QkvWIdeal.τ).loc Cert.QkvWIdeal.main_arg2) = m ((c.tc : Thread Cert.QkvWIdeal.nD Cert.QkvWIdeal.τ).loc Cert.QkvWIdeal.main_arg2))
      ∧ r.2.sem = fun _ => 0)

def quiescent_QkvWRefIdeal [hQkvWRefIdeal : Cert.QkvWRefIdeal.Facts] : Prop :=
  ∀ (m : (ℓ : Loc Cert.QkvWRefIdeal.nD Cert.QkvWRefIdeal.τ Cert.QkvWRefIdeal.sig) → Buf (Elt Ideal) ℓ) (g : Dev Cert.QkvWRefIdeal.nD → PrngReg), Pre_QkvWRefIdeal m →
    θ_run (Cert.QkvWRefIdeal.defs (F := Ideal)) (onTc (τ := Cert.QkvWRefIdeal.τ) (Cert.QkvWRefIdeal.main (F := Ideal))) ⟨m, fun _ => 0, g⟩ (fun r => (∀ c : Dev Cert.QkvWRefIdeal.nD,
      r.2.mem ((c.tc : Thread Cert.QkvWRefIdeal.nD Cert.QkvWRefIdeal.τ).loc Cert.QkvWRefIdeal.main_arg0) = m ((c.tc : Thread Cert.QkvWRefIdeal.nD Cert.QkvWRefIdeal.τ).loc Cert.QkvWRefIdeal.main_arg0)
      ∧ r.2.mem ((c.tc : Thread Cert.QkvWRefIdeal.nD Cert.QkvWRefIdeal.τ).loc Cert.QkvWRefIdeal.main_arg1) = m ((c.tc : Thread Cert.QkvWRefIdeal.nD Cert.QkvWRefIdeal.τ).loc Cert.QkvWRefIdeal.main_arg1)
      ∧ r.2.mem ((c.tc : Thread Cert.QkvWRefIdeal.nD Cert.QkvWRefIdeal.τ).loc Cert.QkvWRefIdeal.main_arg2) = m ((c.tc : Thread Cert.QkvWRefIdeal.nD Cert.QkvWRefIdeal.τ).loc Cert.QkvWRefIdeal.main_arg2))
      ∧ r.2.sem = fun _ => 0)

def quiescent_QkvX [hQkvX : Cert.QkvX.Facts] : Prop :=
  ∀ (m : (ℓ : Loc Cert.QkvX.nD Cert.QkvX.τ Cert.QkvX.sig) → Buf (Elt Bits) ℓ) (g : Dev Cert.QkvX.nD → PrngReg), Pre_QkvX m →
    θ_run (Cert.QkvX.defs (F := Bits)) (onTc (τ := Cert.QkvX.τ) (Cert.QkvX.main (F := Bits))) ⟨m, fun _ => 0, g⟩ (fun r => (∀ c : Dev Cert.QkvX.nD,
      r.2.mem ((c.tc : Thread Cert.QkvX.nD Cert.QkvX.τ).loc Cert.QkvX.main_arg0) = m ((c.tc : Thread Cert.QkvX.nD Cert.QkvX.τ).loc Cert.QkvX.main_arg0)
      ∧ r.2.mem ((c.tc : Thread Cert.QkvX.nD Cert.QkvX.τ).loc Cert.QkvX.main_arg1) = m ((c.tc : Thread Cert.QkvX.nD Cert.QkvX.τ).loc Cert.QkvX.main_arg1)
      ∧ r.2.mem ((c.tc : Thread Cert.QkvX.nD Cert.QkvX.τ).loc Cert.QkvX.main_arg2) = m ((c.tc : Thread Cert.QkvX.nD Cert.QkvX.τ).loc Cert.QkvX.main_arg2)
      ∧ r.2.mem ((c.tc : Thread Cert.QkvX.nD Cert.QkvX.τ).loc Cert.QkvX.main_arg3) = m ((c.tc : Thread Cert.QkvX.nD Cert.QkvX.τ).loc Cert.QkvX.main_arg3))
      ∧ r.2.sem = fun _ => 0)

def quiescent_QkvXIdeal [hQkvXIdeal : Cert.QkvXIdeal.Facts] : Prop :=
  ∀ (m : (ℓ : Loc Cert.QkvXIdeal.nD Cert.QkvXIdeal.τ Cert.QkvXIdeal.sig) → Buf (Elt Ideal) ℓ) (g : Dev Cert.QkvXIdeal.nD → PrngReg), Pre_QkvXIdeal m →
    θ_run (Cert.QkvXIdeal.defs (F := Ideal)) (onTc (τ := Cert.QkvXIdeal.τ) (Cert.QkvXIdeal.main (F := Ideal))) ⟨m, fun _ => 0, g⟩ (fun r => (∀ c : Dev Cert.QkvXIdeal.nD,
      r.2.mem ((c.tc : Thread Cert.QkvXIdeal.nD Cert.QkvXIdeal.τ).loc Cert.QkvXIdeal.main_arg0) = m ((c.tc : Thread Cert.QkvXIdeal.nD Cert.QkvXIdeal.τ).loc Cert.QkvXIdeal.main_arg0)
      ∧ r.2.mem ((c.tc : Thread Cert.QkvXIdeal.nD Cert.QkvXIdeal.τ).loc Cert.QkvXIdeal.main_arg1) = m ((c.tc : Thread Cert.QkvXIdeal.nD Cert.QkvXIdeal.τ).loc Cert.QkvXIdeal.main_arg1)
      ∧ r.2.mem ((c.tc : Thread Cert.QkvXIdeal.nD Cert.QkvXIdeal.τ).loc Cert.QkvXIdeal.main_arg2) = m ((c.tc : Thread Cert.QkvXIdeal.nD Cert.QkvXIdeal.τ).loc Cert.QkvXIdeal.main_arg2)
      ∧ r.2.mem ((c.tc : Thread Cert.QkvXIdeal.nD Cert.QkvXIdeal.τ).loc Cert.QkvXIdeal.main_arg3) = m ((c.tc : Thread Cert.QkvXIdeal.nD Cert.QkvXIdeal.τ).loc Cert.QkvXIdeal.main_arg3))
      ∧ r.2.sem = fun _ => 0)

def quiescent_QkvXRefIdeal [hQkvXRefIdeal : Cert.QkvXRefIdeal.Facts] : Prop :=
  ∀ (m : (ℓ : Loc Cert.QkvXRefIdeal.nD Cert.QkvXRefIdeal.τ Cert.QkvXRefIdeal.sig) → Buf (Elt Ideal) ℓ) (g : Dev Cert.QkvXRefIdeal.nD → PrngReg), Pre_QkvXRefIdeal m →
    θ_run (Cert.QkvXRefIdeal.defs (F := Ideal)) (onTc (τ := Cert.QkvXRefIdeal.τ) (Cert.QkvXRefIdeal.main (F := Ideal))) ⟨m, fun _ => 0, g⟩ (fun r => (∀ c : Dev Cert.QkvXRefIdeal.nD,
      r.2.mem ((c.tc : Thread Cert.QkvXRefIdeal.nD Cert.QkvXRefIdeal.τ).loc Cert.QkvXRefIdeal.main_arg0) = m ((c.tc : Thread Cert.QkvXRefIdeal.nD Cert.QkvXRefIdeal.τ).loc Cert.QkvXRefIdeal.main_arg0)
      ∧ r.2.mem ((c.tc : Thread Cert.QkvXRefIdeal.nD Cert.QkvXRefIdeal.τ).loc Cert.QkvXRefIdeal.main_arg1) = m ((c.tc : Thread Cert.QkvXRefIdeal.nD Cert.QkvXRefIdeal.τ).loc Cert.QkvXRefIdeal.main_arg1)
      ∧ r.2.mem ((c.tc : Thread Cert.QkvXRefIdeal.nD Cert.QkvXRefIdeal.τ).loc Cert.QkvXRefIdeal.main_arg2) = m ((c.tc : Thread Cert.QkvXRefIdeal.nD Cert.QkvXRefIdeal.τ).loc Cert.QkvXRefIdeal.main_arg2)
      ∧ r.2.mem ((c.tc : Thread Cert.QkvXRefIdeal.nD Cert.QkvXRefIdeal.τ).loc Cert.QkvXRefIdeal.main_arg3) = m ((c.tc : Thread Cert.QkvXRefIdeal.nD Cert.QkvXRefIdeal.τ).loc Cert.QkvXRefIdeal.main_arg3))
      ∧ r.2.sem = fun _ => 0)

def quiescent_GlaW [hGlaW : Cert.GlaW.Facts] : Prop :=
  ∀ (m : (ℓ : Loc Cert.GlaW.nD Cert.GlaW.τ Cert.GlaW.sig) → Buf (Elt Bits) ℓ) (g : Dev Cert.GlaW.nD → PrngReg), Pre_GlaW m →
    θ_run (Cert.GlaW.defs (F := Bits)) (onTc (τ := Cert.GlaW.τ) (Cert.GlaW.main (F := Bits))) ⟨m, fun _ => 0, g⟩ (fun r => (∀ c : Dev Cert.GlaW.nD,
      r.2.mem ((c.tc : Thread Cert.GlaW.nD Cert.GlaW.τ).loc Cert.GlaW.main_arg0) = m ((c.tc : Thread Cert.GlaW.nD Cert.GlaW.τ).loc Cert.GlaW.main_arg0)
      ∧ r.2.mem ((c.tc : Thread Cert.GlaW.nD Cert.GlaW.τ).loc Cert.GlaW.main_arg1) = m ((c.tc : Thread Cert.GlaW.nD Cert.GlaW.τ).loc Cert.GlaW.main_arg1)
      ∧ r.2.mem ((c.tc : Thread Cert.GlaW.nD Cert.GlaW.τ).loc Cert.GlaW.main_arg2) = m ((c.tc : Thread Cert.GlaW.nD Cert.GlaW.τ).loc Cert.GlaW.main_arg2))
      ∧ r.2.sem = fun _ => 0)

def quiescent_GlaWIdeal [hGlaWIdeal : Cert.GlaWIdeal.Facts] : Prop :=
  ∀ (m : (ℓ : Loc Cert.GlaWIdeal.nD Cert.GlaWIdeal.τ Cert.GlaWIdeal.sig) → Buf (Elt Ideal) ℓ) (g : Dev Cert.GlaWIdeal.nD → PrngReg), Pre_GlaWIdeal m →
    θ_run (Cert.GlaWIdeal.defs (F := Ideal)) (onTc (τ := Cert.GlaWIdeal.τ) (Cert.GlaWIdeal.main (F := Ideal))) ⟨m, fun _ => 0, g⟩ (fun r => (∀ c : Dev Cert.GlaWIdeal.nD,
      r.2.mem ((c.tc : Thread Cert.GlaWIdeal.nD Cert.GlaWIdeal.τ).loc Cert.GlaWIdeal.main_arg0) = m ((c.tc : Thread Cert.GlaWIdeal.nD Cert.GlaWIdeal.τ).loc Cert.GlaWIdeal.main_arg0)
      ∧ r.2.mem ((c.tc : Thread Cert.GlaWIdeal.nD Cert.GlaWIdeal.τ).loc Cert.GlaWIdeal.main_arg1) = m ((c.tc : Thread Cert.GlaWIdeal.nD Cert.GlaWIdeal.τ).loc Cert.GlaWIdeal.main_arg1)
      ∧ r.2.mem ((c.tc : Thread Cert.GlaWIdeal.nD Cert.GlaWIdeal.τ).loc Cert.GlaWIdeal.main_arg2) = m ((c.tc : Thread Cert.GlaWIdeal.nD Cert.GlaWIdeal.τ).loc Cert.GlaWIdeal.main_arg2))
      ∧ r.2.sem = fun _ => 0)

def quiescent_GlaWRefIdeal [hGlaWRefIdeal : Cert.GlaWRefIdeal.Facts] : Prop :=
  ∀ (m : (ℓ : Loc Cert.GlaWRefIdeal.nD Cert.GlaWRefIdeal.τ Cert.GlaWRefIdeal.sig) → Buf (Elt Ideal) ℓ) (g : Dev Cert.GlaWRefIdeal.nD → PrngReg), Pre_GlaWRefIdeal m →
    θ_run (Cert.GlaWRefIdeal.defs (F := Ideal)) (onTc (τ := Cert.GlaWRefIdeal.τ) (Cert.GlaWRefIdeal.main (F := Ideal))) ⟨m, fun _ => 0, g⟩ (fun r => (∀ c : Dev Cert.GlaWRefIdeal.nD,
      r.2.mem ((c.tc : Thread Cert.GlaWRefIdeal.nD Cert.GlaWRefIdeal.τ).loc Cert.GlaWRefIdeal.main_arg0) = m ((c.tc : Thread Cert.GlaWRefIdeal.nD Cert.GlaWRefIdeal.τ).loc Cert.GlaWRefIdeal.main_arg0)
      ∧ r.2.mem ((c.tc : Thread Cert.GlaWRefIdeal.nD Cert.GlaWRefIdeal.τ).loc Cert.GlaWRefIdeal.main_arg1) = m ((c.tc : Thread Cert.GlaWRefIdeal.nD Cert.GlaWRefIdeal.τ).loc Cert.GlaWRefIdeal.main_arg1)
      ∧ r.2.mem ((c.tc : Thread Cert.GlaWRefIdeal.nD Cert.GlaWRefIdeal.τ).loc Cert.GlaWRefIdeal.main_arg2) = m ((c.tc : Thread Cert.GlaWRefIdeal.nD Cert.GlaWRefIdeal.τ).loc Cert.GlaWRefIdeal.main_arg2))
      ∧ r.2.sem = fun _ => 0)

def quiescent_GlaX [hGlaX : Cert.GlaX.Facts] : Prop :=
  ∀ (m : (ℓ : Loc Cert.GlaX.nD Cert.GlaX.τ Cert.GlaX.sig) → Buf (Elt Bits) ℓ) (g : Dev Cert.GlaX.nD → PrngReg), Pre_GlaX m →
    θ_run (Cert.GlaX.defs (F := Bits)) (onTc (τ := Cert.GlaX.τ) (Cert.GlaX.main (F := Bits))) ⟨m, fun _ => 0, g⟩ (fun r => (∀ c : Dev Cert.GlaX.nD,
      r.2.mem ((c.tc : Thread Cert.GlaX.nD Cert.GlaX.τ).loc Cert.GlaX.main_arg0) = m ((c.tc : Thread Cert.GlaX.nD Cert.GlaX.τ).loc Cert.GlaX.main_arg0)
      ∧ r.2.mem ((c.tc : Thread Cert.GlaX.nD Cert.GlaX.τ).loc Cert.GlaX.main_arg1) = m ((c.tc : Thread Cert.GlaX.nD Cert.GlaX.τ).loc Cert.GlaX.main_arg1)
      ∧ r.2.mem ((c.tc : Thread Cert.GlaX.nD Cert.GlaX.τ).loc Cert.GlaX.main_arg2) = m ((c.tc : Thread Cert.GlaX.nD Cert.GlaX.τ).loc Cert.GlaX.main_arg2)
      ∧ r.2.mem ((c.tc : Thread Cert.GlaX.nD Cert.GlaX.τ).loc Cert.GlaX.main_arg3) = m ((c.tc : Thread Cert.GlaX.nD Cert.GlaX.τ).loc Cert.GlaX.main_arg3))
      ∧ r.2.sem = fun _ => 0)

def quiescent_GlaXIdeal [hGlaXIdeal : Cert.GlaXIdeal.Facts] : Prop :=
  ∀ (m : (ℓ : Loc Cert.GlaXIdeal.nD Cert.GlaXIdeal.τ Cert.GlaXIdeal.sig) → Buf (Elt Ideal) ℓ) (g : Dev Cert.GlaXIdeal.nD → PrngReg), Pre_GlaXIdeal m →
    θ_run (Cert.GlaXIdeal.defs (F := Ideal)) (onTc (τ := Cert.GlaXIdeal.τ) (Cert.GlaXIdeal.main (F := Ideal))) ⟨m, fun _ => 0, g⟩ (fun r => (∀ c : Dev Cert.GlaXIdeal.nD,
      r.2.mem ((c.tc : Thread Cert.GlaXIdeal.nD Cert.GlaXIdeal.τ).loc Cert.GlaXIdeal.main_arg0) = m ((c.tc : Thread Cert.GlaXIdeal.nD Cert.GlaXIdeal.τ).loc Cert.GlaXIdeal.main_arg0)
      ∧ r.2.mem ((c.tc : Thread Cert.GlaXIdeal.nD Cert.GlaXIdeal.τ).loc Cert.GlaXIdeal.main_arg1) = m ((c.tc : Thread Cert.GlaXIdeal.nD Cert.GlaXIdeal.τ).loc Cert.GlaXIdeal.main_arg1)
      ∧ r.2.mem ((c.tc : Thread Cert.GlaXIdeal.nD Cert.GlaXIdeal.τ).loc Cert.GlaXIdeal.main_arg2) = m ((c.tc : Thread Cert.GlaXIdeal.nD Cert.GlaXIdeal.τ).loc Cert.GlaXIdeal.main_arg2)
      ∧ r.2.mem ((c.tc : Thread Cert.GlaXIdeal.nD Cert.GlaXIdeal.τ).loc Cert.GlaXIdeal.main_arg3) = m ((c.tc : Thread Cert.GlaXIdeal.nD Cert.GlaXIdeal.τ).loc Cert.GlaXIdeal.main_arg3))
      ∧ r.2.sem = fun _ => 0)

def quiescent_GlaXRefIdeal [hGlaXRefIdeal : Cert.GlaXRefIdeal.Facts] : Prop :=
  ∀ (m : (ℓ : Loc Cert.GlaXRefIdeal.nD Cert.GlaXRefIdeal.τ Cert.GlaXRefIdeal.sig) → Buf (Elt Ideal) ℓ) (g : Dev Cert.GlaXRefIdeal.nD → PrngReg), Pre_GlaXRefIdeal m →
    θ_run (Cert.GlaXRefIdeal.defs (F := Ideal)) (onTc (τ := Cert.GlaXRefIdeal.τ) (Cert.GlaXRefIdeal.main (F := Ideal))) ⟨m, fun _ => 0, g⟩ (fun r => (∀ c : Dev Cert.GlaXRefIdeal.nD,
      r.2.mem ((c.tc : Thread Cert.GlaXRefIdeal.nD Cert.GlaXRefIdeal.τ).loc Cert.GlaXRefIdeal.main_arg0) = m ((c.tc : Thread Cert.GlaXRefIdeal.nD Cert.GlaXRefIdeal.τ).loc Cert.GlaXRefIdeal.main_arg0)
      ∧ r.2.mem ((c.tc : Thread Cert.GlaXRefIdeal.nD Cert.GlaXRefIdeal.τ).loc Cert.GlaXRefIdeal.main_arg1) = m ((c.tc : Thread Cert.GlaXRefIdeal.nD Cert.GlaXRefIdeal.τ).loc Cert.GlaXRefIdeal.main_arg1)
      ∧ r.2.mem ((c.tc : Thread Cert.GlaXRefIdeal.nD Cert.GlaXRefIdeal.τ).loc Cert.GlaXRefIdeal.main_arg2) = m ((c.tc : Thread Cert.GlaXRefIdeal.nD Cert.GlaXRefIdeal.τ).loc Cert.GlaXRefIdeal.main_arg2)
      ∧ r.2.mem ((c.tc : Thread Cert.GlaXRefIdeal.nD Cert.GlaXRefIdeal.τ).loc Cert.GlaXRefIdeal.main_arg3) = m ((c.tc : Thread Cert.GlaXRefIdeal.nD Cert.GlaXRefIdeal.τ).loc Cert.GlaXRefIdeal.main_arg3))
      ∧ r.2.sem = fun _ => 0)

def quiescent_QkvF [hQkvF : Cert.QkvF.Facts] : Prop :=
  ∀ (m : (ℓ : Loc Cert.QkvF.nD Cert.QkvF.τ Cert.QkvF.sig) → Buf (Elt Bits) ℓ) (g : Dev Cert.QkvF.nD → PrngReg), Pre_QkvF m →
    θ_run (Cert.QkvF.defs (F := Bits)) (onTc (τ := Cert.QkvF.τ) (Cert.QkvF.main (F := Bits))) ⟨m, fun _ => 0, g⟩ (fun r => (∀ c : Dev Cert.QkvF.nD,
      r.2.mem ((c.tc : Thread Cert.QkvF.nD Cert.QkvF.τ).loc Cert.QkvF.main_arg0) = m ((c.tc : Thread Cert.QkvF.nD Cert.QkvF.τ).loc Cert.QkvF.main_arg0)
      ∧ r.2.mem ((c.tc : Thread Cert.QkvF.nD Cert.QkvF.τ).loc Cert.QkvF.main_arg1) = m ((c.tc : Thread Cert.QkvF.nD Cert.QkvF.τ).loc Cert.QkvF.main_arg1))
      ∧ r.2.sem = fun _ => 0)

def quiescent_QkvFIdeal [hQkvFIdeal : Cert.QkvFIdeal.Facts] : Prop :=
  ∀ (m : (ℓ : Loc Cert.QkvFIdeal.nD Cert.QkvFIdeal.τ Cert.QkvFIdeal.sig) → Buf (Elt Ideal) ℓ) (g : Dev Cert.QkvFIdeal.nD → PrngReg), Pre_QkvFIdeal m →
    θ_run (Cert.QkvFIdeal.defs (F := Ideal)) (onTc (τ := Cert.QkvFIdeal.τ) (Cert.QkvFIdeal.main (F := Ideal))) ⟨m, fun _ => 0, g⟩ (fun r => (∀ c : Dev Cert.QkvFIdeal.nD,
      r.2.mem ((c.tc : Thread Cert.QkvFIdeal.nD Cert.QkvFIdeal.τ).loc Cert.QkvFIdeal.main_arg0) = m ((c.tc : Thread Cert.QkvFIdeal.nD Cert.QkvFIdeal.τ).loc Cert.QkvFIdeal.main_arg0)
      ∧ r.2.mem ((c.tc : Thread Cert.QkvFIdeal.nD Cert.QkvFIdeal.τ).loc Cert.QkvFIdeal.main_arg1) = m ((c.tc : Thread Cert.QkvFIdeal.nD Cert.QkvFIdeal.τ).loc Cert.QkvFIdeal.main_arg1))
      ∧ r.2.sem = fun _ => 0)

def quiescent_QkvFRefIdeal [hQkvFRefIdeal : Cert.QkvFRefIdeal.Facts] : Prop :=
  ∀ (m : (ℓ : Loc Cert.QkvFRefIdeal.nD Cert.QkvFRefIdeal.τ Cert.QkvFRefIdeal.sig) → Buf (Elt Ideal) ℓ) (g : Dev Cert.QkvFRefIdeal.nD → PrngReg), Pre_QkvFRefIdeal m →
    θ_run (Cert.QkvFRefIdeal.defs (F := Ideal)) (onTc (τ := Cert.QkvFRefIdeal.τ) (Cert.QkvFRefIdeal.main (F := Ideal))) ⟨m, fun _ => 0, g⟩ (fun r => (∀ c : Dev Cert.QkvFRefIdeal.nD,
      r.2.mem ((c.tc : Thread Cert.QkvFRefIdeal.nD Cert.QkvFRefIdeal.τ).loc Cert.QkvFRefIdeal.main_arg0) = m ((c.tc : Thread Cert.QkvFRefIdeal.nD Cert.QkvFRefIdeal.τ).loc Cert.QkvFRefIdeal.main_arg0)
      ∧ r.2.mem ((c.tc : Thread Cert.QkvFRefIdeal.nD Cert.QkvFRefIdeal.τ).loc Cert.QkvFRefIdeal.main_arg1) = m ((c.tc : Thread Cert.QkvFRefIdeal.nD Cert.QkvFRefIdeal.τ).loc Cert.QkvFRefIdeal.main_arg1))
      ∧ r.2.sem = fun _ => 0)

def quiescent_OutF [hOutF : Cert.OutF.Facts] : Prop :=
  ∀ (m : (ℓ : Loc Cert.OutF.nD Cert.OutF.τ Cert.OutF.sig) → Buf (Elt Bits) ℓ) (g : Dev Cert.OutF.nD → PrngReg), Pre_OutF m →
    θ_run (Cert.OutF.defs (F := Bits)) (onTc (τ := Cert.OutF.τ) (Cert.OutF.main (F := Bits))) ⟨m, fun _ => 0, g⟩ (fun r => (∀ c : Dev Cert.OutF.nD,
      r.2.mem ((c.tc : Thread Cert.OutF.nD Cert.OutF.τ).loc Cert.OutF.main_arg0) = m ((c.tc : Thread Cert.OutF.nD Cert.OutF.τ).loc Cert.OutF.main_arg0)
      ∧ r.2.mem ((c.tc : Thread Cert.OutF.nD Cert.OutF.τ).loc Cert.OutF.main_arg1) = m ((c.tc : Thread Cert.OutF.nD Cert.OutF.τ).loc Cert.OutF.main_arg1))
      ∧ r.2.sem = fun _ => 0)

def quiescent_OutFIdeal [hOutFIdeal : Cert.OutFIdeal.Facts] : Prop :=
  ∀ (m : (ℓ : Loc Cert.OutFIdeal.nD Cert.OutFIdeal.τ Cert.OutFIdeal.sig) → Buf (Elt Ideal) ℓ) (g : Dev Cert.OutFIdeal.nD → PrngReg), Pre_OutFIdeal m →
    θ_run (Cert.OutFIdeal.defs (F := Ideal)) (onTc (τ := Cert.OutFIdeal.τ) (Cert.OutFIdeal.main (F := Ideal))) ⟨m, fun _ => 0, g⟩ (fun r => (∀ c : Dev Cert.OutFIdeal.nD,
      r.2.mem ((c.tc : Thread Cert.OutFIdeal.nD Cert.OutFIdeal.τ).loc Cert.OutFIdeal.main_arg0) = m ((c.tc : Thread Cert.OutFIdeal.nD Cert.OutFIdeal.τ).loc Cert.OutFIdeal.main_arg0)
      ∧ r.2.mem ((c.tc : Thread Cert.OutFIdeal.nD Cert.OutFIdeal.τ).loc Cert.OutFIdeal.main_arg1) = m ((c.tc : Thread Cert.OutFIdeal.nD Cert.OutFIdeal.τ).loc Cert.OutFIdeal.main_arg1))
      ∧ r.2.sem = fun _ => 0)

def quiescent_OutFRefIdeal [hOutFRefIdeal : Cert.OutFRefIdeal.Facts] : Prop :=
  ∀ (m : (ℓ : Loc Cert.OutFRefIdeal.nD Cert.OutFRefIdeal.τ Cert.OutFRefIdeal.sig) → Buf (Elt Ideal) ℓ) (g : Dev Cert.OutFRefIdeal.nD → PrngReg), Pre_OutFRefIdeal m →
    θ_run (Cert.OutFRefIdeal.defs (F := Ideal)) (onTc (τ := Cert.OutFRefIdeal.τ) (Cert.OutFRefIdeal.main (F := Ideal))) ⟨m, fun _ => 0, g⟩ (fun r => (∀ c : Dev Cert.OutFRefIdeal.nD,
      r.2.mem ((c.tc : Thread Cert.OutFRefIdeal.nD Cert.OutFRefIdeal.τ).loc Cert.OutFRefIdeal.main_arg0) = m ((c.tc : Thread Cert.OutFRefIdeal.nD Cert.OutFRefIdeal.τ).loc Cert.OutFRefIdeal.main_arg0)
      ∧ r.2.mem ((c.tc : Thread Cert.OutFRefIdeal.nD Cert.OutFRefIdeal.τ).loc Cert.OutFRefIdeal.main_arg1) = m ((c.tc : Thread Cert.OutFRefIdeal.nD Cert.OutFRefIdeal.τ).loc Cert.OutFRefIdeal.main_arg1))
      ∧ r.2.sem = fun _ => 0)

def quiescent_GlaF [hGlaF : Cert.GlaF.Facts] : Prop :=
  ∀ (m : (ℓ : Loc Cert.GlaF.nD Cert.GlaF.τ Cert.GlaF.sig) → Buf (Elt Bits) ℓ) (g : Dev Cert.GlaF.nD → PrngReg), Pre_GlaF m →
    θ_run (Cert.GlaF.defs (F := Bits)) (onTc (τ := Cert.GlaF.τ) (Cert.GlaF.main (F := Bits))) ⟨m, fun _ => 0, g⟩ (fun r => (∀ c : Dev Cert.GlaF.nD,
      r.2.mem ((c.tc : Thread Cert.GlaF.nD Cert.GlaF.τ).loc Cert.GlaF.main_arg0) = m ((c.tc : Thread Cert.GlaF.nD Cert.GlaF.τ).loc Cert.GlaF.main_arg0)
      ∧ r.2.mem ((c.tc : Thread Cert.GlaF.nD Cert.GlaF.τ).loc Cert.GlaF.main_arg1) = m ((c.tc : Thread Cert.GlaF.nD Cert.GlaF.τ).loc Cert.GlaF.main_arg1))
      ∧ r.2.sem = fun _ => 0)

def quiescent_GlaFIdeal [hGlaFIdeal : Cert.GlaFIdeal.Facts] : Prop :=
  ∀ (m : (ℓ : Loc Cert.GlaFIdeal.nD Cert.GlaFIdeal.τ Cert.GlaFIdeal.sig) → Buf (Elt Ideal) ℓ) (g : Dev Cert.GlaFIdeal.nD → PrngReg), Pre_GlaFIdeal m →
    θ_run (Cert.GlaFIdeal.defs (F := Ideal)) (onTc (τ := Cert.GlaFIdeal.τ) (Cert.GlaFIdeal.main (F := Ideal))) ⟨m, fun _ => 0, g⟩ (fun r => (∀ c : Dev Cert.GlaFIdeal.nD,
      r.2.mem ((c.tc : Thread Cert.GlaFIdeal.nD Cert.GlaFIdeal.τ).loc Cert.GlaFIdeal.main_arg0) = m ((c.tc : Thread Cert.GlaFIdeal.nD Cert.GlaFIdeal.τ).loc Cert.GlaFIdeal.main_arg0)
      ∧ r.2.mem ((c.tc : Thread Cert.GlaFIdeal.nD Cert.GlaFIdeal.τ).loc Cert.GlaFIdeal.main_arg1) = m ((c.tc : Thread Cert.GlaFIdeal.nD Cert.GlaFIdeal.τ).loc Cert.GlaFIdeal.main_arg1))
      ∧ r.2.sem = fun _ => 0)

def quiescent_GlaFRefIdeal [hGlaFRefIdeal : Cert.GlaFRefIdeal.Facts] : Prop :=
  ∀ (m : (ℓ : Loc Cert.GlaFRefIdeal.nD Cert.GlaFRefIdeal.τ Cert.GlaFRefIdeal.sig) → Buf (Elt Ideal) ℓ) (g : Dev Cert.GlaFRefIdeal.nD → PrngReg), Pre_GlaFRefIdeal m →
    θ_run (Cert.GlaFRefIdeal.defs (F := Ideal)) (onTc (τ := Cert.GlaFRefIdeal.τ) (Cert.GlaFRefIdeal.main (F := Ideal))) ⟨m, fun _ => 0, g⟩ (fun r => (∀ c : Dev Cert.GlaFRefIdeal.nD,
      r.2.mem ((c.tc : Thread Cert.GlaFRefIdeal.nD Cert.GlaFRefIdeal.τ).loc Cert.GlaFRefIdeal.main_arg0) = m ((c.tc : Thread Cert.GlaFRefIdeal.nD Cert.GlaFRefIdeal.τ).loc Cert.GlaFRefIdeal.main_arg0)
      ∧ r.2.mem ((c.tc : Thread Cert.GlaFRefIdeal.nD Cert.GlaFRefIdeal.τ).loc Cert.GlaFRefIdeal.main_arg1) = m ((c.tc : Thread Cert.GlaFRefIdeal.nD Cert.GlaFRefIdeal.τ).loc Cert.GlaFRefIdeal.main_arg1))
      ∧ r.2.sem = fun _ => 0)

def quiescent_UpF [hUpF : Cert.UpF.Facts] : Prop :=
  ∀ (m : (ℓ : Loc Cert.UpF.nD Cert.UpF.τ Cert.UpF.sig) → Buf (Elt Bits) ℓ) (g : Dev Cert.UpF.nD → PrngReg), Pre_UpF m →
    θ_run (Cert.UpF.defs (F := Bits)) (onTc (τ := Cert.UpF.τ) (Cert.UpF.main (F := Bits))) ⟨m, fun _ => 0, g⟩ (fun r => (∀ c : Dev Cert.UpF.nD,
      r.2.mem ((c.tc : Thread Cert.UpF.nD Cert.UpF.τ).loc Cert.UpF.main_arg0) = m ((c.tc : Thread Cert.UpF.nD Cert.UpF.τ).loc Cert.UpF.main_arg0)
      ∧ r.2.mem ((c.tc : Thread Cert.UpF.nD Cert.UpF.τ).loc Cert.UpF.main_arg1) = m ((c.tc : Thread Cert.UpF.nD Cert.UpF.τ).loc Cert.UpF.main_arg1))
      ∧ r.2.sem = fun _ => 0)

def quiescent_UpFIdeal [hUpFIdeal : Cert.UpFIdeal.Facts] : Prop :=
  ∀ (m : (ℓ : Loc Cert.UpFIdeal.nD Cert.UpFIdeal.τ Cert.UpFIdeal.sig) → Buf (Elt Ideal) ℓ) (g : Dev Cert.UpFIdeal.nD → PrngReg), Pre_UpFIdeal m →
    θ_run (Cert.UpFIdeal.defs (F := Ideal)) (onTc (τ := Cert.UpFIdeal.τ) (Cert.UpFIdeal.main (F := Ideal))) ⟨m, fun _ => 0, g⟩ (fun r => (∀ c : Dev Cert.UpFIdeal.nD,
      r.2.mem ((c.tc : Thread Cert.UpFIdeal.nD Cert.UpFIdeal.τ).loc Cert.UpFIdeal.main_arg0) = m ((c.tc : Thread Cert.UpFIdeal.nD Cert.UpFIdeal.τ).loc Cert.UpFIdeal.main_arg0)
      ∧ r.2.mem ((c.tc : Thread Cert.UpFIdeal.nD Cert.UpFIdeal.τ).loc Cert.UpFIdeal.main_arg1) = m ((c.tc : Thread Cert.UpFIdeal.nD Cert.UpFIdeal.τ).loc Cert.UpFIdeal.main_arg1))
      ∧ r.2.sem = fun _ => 0)

def quiescent_UpFRefIdeal [hUpFRefIdeal : Cert.UpFRefIdeal.Facts] : Prop :=
  ∀ (m : (ℓ : Loc Cert.UpFRefIdeal.nD Cert.UpFRefIdeal.τ Cert.UpFRefIdeal.sig) → Buf (Elt Ideal) ℓ) (g : Dev Cert.UpFRefIdeal.nD → PrngReg), Pre_UpFRefIdeal m →
    θ_run (Cert.UpFRefIdeal.defs (F := Ideal)) (onTc (τ := Cert.UpFRefIdeal.τ) (Cert.UpFRefIdeal.main (F := Ideal))) ⟨m, fun _ => 0, g⟩ (fun r => (∀ c : Dev Cert.UpFRefIdeal.nD,
      r.2.mem ((c.tc : Thread Cert.UpFRefIdeal.nD Cert.UpFRefIdeal.τ).loc Cert.UpFRefIdeal.main_arg0) = m ((c.tc : Thread Cert.UpFRefIdeal.nD Cert.UpFRefIdeal.τ).loc Cert.UpFRefIdeal.main_arg0)
      ∧ r.2.mem ((c.tc : Thread Cert.UpFRefIdeal.nD Cert.UpFRefIdeal.τ).loc Cert.UpFRefIdeal.main_arg1) = m ((c.tc : Thread Cert.UpFRefIdeal.nD Cert.UpFRefIdeal.τ).loc Cert.UpFRefIdeal.main_arg1))
      ∧ r.2.sem = fun _ => 0)

def quiescent_DownF [hDownF : Cert.DownF.Facts] : Prop :=
  ∀ (m : (ℓ : Loc Cert.DownF.nD Cert.DownF.τ Cert.DownF.sig) → Buf (Elt Bits) ℓ) (g : Dev Cert.DownF.nD → PrngReg), Pre_DownF m →
    θ_run (Cert.DownF.defs (F := Bits)) (onTc (τ := Cert.DownF.τ) (Cert.DownF.main (F := Bits))) ⟨m, fun _ => 0, g⟩ (fun r => (∀ c : Dev Cert.DownF.nD,
      r.2.mem ((c.tc : Thread Cert.DownF.nD Cert.DownF.τ).loc Cert.DownF.main_arg0) = m ((c.tc : Thread Cert.DownF.nD Cert.DownF.τ).loc Cert.DownF.main_arg0)
      ∧ r.2.mem ((c.tc : Thread Cert.DownF.nD Cert.DownF.τ).loc Cert.DownF.main_arg1) = m ((c.tc : Thread Cert.DownF.nD Cert.DownF.τ).loc Cert.DownF.main_arg1))
      ∧ r.2.sem = fun _ => 0)

def quiescent_DownFIdeal [hDownFIdeal : Cert.DownFIdeal.Facts] : Prop :=
  ∀ (m : (ℓ : Loc Cert.DownFIdeal.nD Cert.DownFIdeal.τ Cert.DownFIdeal.sig) → Buf (Elt Ideal) ℓ) (g : Dev Cert.DownFIdeal.nD → PrngReg), Pre_DownFIdeal m →
    θ_run (Cert.DownFIdeal.defs (F := Ideal)) (onTc (τ := Cert.DownFIdeal.τ) (Cert.DownFIdeal.main (F := Ideal))) ⟨m, fun _ => 0, g⟩ (fun r => (∀ c : Dev Cert.DownFIdeal.nD,
      r.2.mem ((c.tc : Thread Cert.DownFIdeal.nD Cert.DownFIdeal.τ).loc Cert.DownFIdeal.main_arg0) = m ((c.tc : Thread Cert.DownFIdeal.nD Cert.DownFIdeal.τ).loc Cert.DownFIdeal.main_arg0)
      ∧ r.2.mem ((c.tc : Thread Cert.DownFIdeal.nD Cert.DownFIdeal.τ).loc Cert.DownFIdeal.main_arg1) = m ((c.tc : Thread Cert.DownFIdeal.nD Cert.DownFIdeal.τ).loc Cert.DownFIdeal.main_arg1))
      ∧ r.2.sem = fun _ => 0)

def quiescent_DownFRefIdeal [hDownFRefIdeal : Cert.DownFRefIdeal.Facts] : Prop :=
  ∀ (m : (ℓ : Loc Cert.DownFRefIdeal.nD Cert.DownFRefIdeal.τ Cert.DownFRefIdeal.sig) → Buf (Elt Ideal) ℓ) (g : Dev Cert.DownFRefIdeal.nD → PrngReg), Pre_DownFRefIdeal m →
    θ_run (Cert.DownFRefIdeal.defs (F := Ideal)) (onTc (τ := Cert.DownFRefIdeal.τ) (Cert.DownFRefIdeal.main (F := Ideal))) ⟨m, fun _ => 0, g⟩ (fun r => (∀ c : Dev Cert.DownFRefIdeal.nD,
      r.2.mem ((c.tc : Thread Cert.DownFRefIdeal.nD Cert.DownFRefIdeal.τ).loc Cert.DownFRefIdeal.main_arg0) = m ((c.tc : Thread Cert.DownFRefIdeal.nD Cert.DownFRefIdeal.τ).loc Cert.DownFRefIdeal.main_arg0)
      ∧ r.2.mem ((c.tc : Thread Cert.DownFRefIdeal.nD Cert.DownFRefIdeal.τ).loc Cert.DownFRefIdeal.main_arg1) = m ((c.tc : Thread Cert.DownFRefIdeal.nD Cert.DownFRefIdeal.τ).loc Cert.DownFRefIdeal.main_arg1))
      ∧ r.2.sem = fun _ => 0)

def quiescent_SbBwd [hSbBwd : Cert.SbBwd.Facts] : Prop :=
  ∀ (m : (ℓ : Loc Cert.SbBwd.nD Cert.SbBwd.τ Cert.SbBwd.sig) → Buf (Elt Bits) ℓ) (g : Dev Cert.SbBwd.nD → PrngReg), Pre_SbBwd m →
    θ_run (Cert.SbBwd.defs (F := Bits)) (onTc (τ := Cert.SbBwd.τ) (Cert.SbBwd.main (F := Bits))) ⟨m, fun _ => 0, g⟩ (fun r => (∀ c : Dev Cert.SbBwd.nD,
      r.2.mem ((c.tc : Thread Cert.SbBwd.nD Cert.SbBwd.τ).loc Cert.SbBwd.main_arg0) = m ((c.tc : Thread Cert.SbBwd.nD Cert.SbBwd.τ).loc Cert.SbBwd.main_arg0)
      ∧ r.2.mem ((c.tc : Thread Cert.SbBwd.nD Cert.SbBwd.τ).loc Cert.SbBwd.main_arg1) = m ((c.tc : Thread Cert.SbBwd.nD Cert.SbBwd.τ).loc Cert.SbBwd.main_arg1))
      ∧ r.2.sem = fun _ => 0)

def quiescent_SbBwdIdeal [hSbBwdIdeal : Cert.SbBwdIdeal.Facts] : Prop :=
  ∀ (m : (ℓ : Loc Cert.SbBwdIdeal.nD Cert.SbBwdIdeal.τ Cert.SbBwdIdeal.sig) → Buf (Elt Ideal) ℓ) (g : Dev Cert.SbBwdIdeal.nD → PrngReg), Pre_SbBwdIdeal m →
    θ_run (Cert.SbBwdIdeal.defs (F := Ideal)) (onTc (τ := Cert.SbBwdIdeal.τ) (Cert.SbBwdIdeal.main (F := Ideal))) ⟨m, fun _ => 0, g⟩ (fun r => (∀ c : Dev Cert.SbBwdIdeal.nD,
      r.2.mem ((c.tc : Thread Cert.SbBwdIdeal.nD Cert.SbBwdIdeal.τ).loc Cert.SbBwdIdeal.main_arg0) = m ((c.tc : Thread Cert.SbBwdIdeal.nD Cert.SbBwdIdeal.τ).loc Cert.SbBwdIdeal.main_arg0)
      ∧ r.2.mem ((c.tc : Thread Cert.SbBwdIdeal.nD Cert.SbBwdIdeal.τ).loc Cert.SbBwdIdeal.main_arg1) = m ((c.tc : Thread Cert.SbBwdIdeal.nD Cert.SbBwdIdeal.τ).loc Cert.SbBwdIdeal.main_arg1))
      ∧ r.2.sem = fun _ => 0)

def quiescent_SbBwdIdeal_pre_finite [hSbBwdIdeal : Cert.SbBwdIdeal.Facts] [hPre_finite : Cert.Pre_finite.Facts] : Prop :=
  ∀ (m : (ℓ : Loc Cert.SbBwdIdeal.nD Cert.SbBwdIdeal.τ Cert.SbBwdIdeal.sig) → Buf (Elt Ideal) ℓ) (g : Dev Cert.SbBwdIdeal.nD → PrngReg), Pre_SbBwdIdeal_finite m →
    θ_run (Cert.SbBwdIdeal.defs (F := Ideal)) (onTc (τ := Cert.SbBwdIdeal.τ) (Cert.SbBwdIdeal.main (F := Ideal))) ⟨m, fun _ => 0, g⟩ (fun r => (∀ c : Dev Cert.SbBwdIdeal.nD,
      r.2.mem ((c.tc : Thread Cert.SbBwdIdeal.nD Cert.SbBwdIdeal.τ).loc Cert.SbBwdIdeal.main_arg0) = m ((c.tc : Thread Cert.SbBwdIdeal.nD Cert.SbBwdIdeal.τ).loc Cert.SbBwdIdeal.main_arg0)
      ∧ r.2.mem ((c.tc : Thread Cert.SbBwdIdeal.nD Cert.SbBwdIdeal.τ).loc Cert.SbBwdIdeal.main_arg1) = m ((c.tc : Thread Cert.SbBwdIdeal.nD Cert.SbBwdIdeal.τ).loc Cert.SbBwdIdeal.main_arg1))
      ∧ r.2.sem = fun _ => 0)

def quiescent_SbBwdRefIdeal [hSbBwdRefIdeal : Cert.SbBwdRefIdeal.Facts] : Prop :=
  ∀ (m : (ℓ : Loc Cert.SbBwdRefIdeal.nD Cert.SbBwdRefIdeal.τ Cert.SbBwdRefIdeal.sig) → Buf (Elt Ideal) ℓ) (g : Dev Cert.SbBwdRefIdeal.nD → PrngReg), Pre_SbBwdRefIdeal m →
    θ_run (Cert.SbBwdRefIdeal.defs (F := Ideal)) (onTc (τ := Cert.SbBwdRefIdeal.τ) (Cert.SbBwdRefIdeal.main (F := Ideal))) ⟨m, fun _ => 0, g⟩ (fun r => (∀ c : Dev Cert.SbBwdRefIdeal.nD,
      r.2.mem ((c.tc : Thread Cert.SbBwdRefIdeal.nD Cert.SbBwdRefIdeal.τ).loc Cert.SbBwdRefIdeal.main_arg0) = m ((c.tc : Thread Cert.SbBwdRefIdeal.nD Cert.SbBwdRefIdeal.τ).loc Cert.SbBwdRefIdeal.main_arg0)
      ∧ r.2.mem ((c.tc : Thread Cert.SbBwdRefIdeal.nD Cert.SbBwdRefIdeal.τ).loc Cert.SbBwdRefIdeal.main_arg1) = m ((c.tc : Thread Cert.SbBwdRefIdeal.nD Cert.SbBwdRefIdeal.τ).loc Cert.SbBwdRefIdeal.main_arg1))
      ∧ r.2.sem = fun _ => 0)

def quiescent_SbBwdRefIdeal_pre_finite [hSbBwdRefIdeal : Cert.SbBwdRefIdeal.Facts] [hPre_finite : Cert.Pre_finite.Facts] : Prop :=
  ∀ (m : (ℓ : Loc Cert.SbBwdRefIdeal.nD Cert.SbBwdRefIdeal.τ Cert.SbBwdRefIdeal.sig) → Buf (Elt Ideal) ℓ) (g : Dev Cert.SbBwdRefIdeal.nD → PrngReg), Pre_SbBwdRefIdeal_finite m →
    θ_run (Cert.SbBwdRefIdeal.defs (F := Ideal)) (onTc (τ := Cert.SbBwdRefIdeal.τ) (Cert.SbBwdRefIdeal.main (F := Ideal))) ⟨m, fun _ => 0, g⟩ (fun r => (∀ c : Dev Cert.SbBwdRefIdeal.nD,
      r.2.mem ((c.tc : Thread Cert.SbBwdRefIdeal.nD Cert.SbBwdRefIdeal.τ).loc Cert.SbBwdRefIdeal.main_arg0) = m ((c.tc : Thread Cert.SbBwdRefIdeal.nD Cert.SbBwdRefIdeal.τ).loc Cert.SbBwdRefIdeal.main_arg0)
      ∧ r.2.mem ((c.tc : Thread Cert.SbBwdRefIdeal.nD Cert.SbBwdRefIdeal.τ).loc Cert.SbBwdRefIdeal.main_arg1) = m ((c.tc : Thread Cert.SbBwdRefIdeal.nD Cert.SbBwdRefIdeal.τ).loc Cert.SbBwdRefIdeal.main_arg1))
      ∧ r.2.sem = fun _ => 0)

def quiescent_AdQkv [hAdQkv : Cert.AdQkv.Facts] : Prop :=
  ∀ (m : (ℓ : Loc Cert.AdQkv.nD Cert.AdQkv.τ Cert.AdQkv.sig) → Buf (Elt Bits) ℓ) (g : Dev Cert.AdQkv.nD → PrngReg), Pre_AdQkv m →
    θ_run (Cert.AdQkv.defs (F := Bits)) (onTc (τ := Cert.AdQkv.τ) (Cert.AdQkv.main (F := Bits))) ⟨m, fun _ => 0, g⟩ (fun r => (∀ c : Dev Cert.AdQkv.nD,
      r.2.mem ((c.tc : Thread Cert.AdQkv.nD Cert.AdQkv.τ).loc Cert.AdQkv.main_arg0) = m ((c.tc : Thread Cert.AdQkv.nD Cert.AdQkv.τ).loc Cert.AdQkv.main_arg0)
      ∧ r.2.mem ((c.tc : Thread Cert.AdQkv.nD Cert.AdQkv.τ).loc Cert.AdQkv.main_arg1) = m ((c.tc : Thread Cert.AdQkv.nD Cert.AdQkv.τ).loc Cert.AdQkv.main_arg1)
      ∧ r.2.mem ((c.tc : Thread Cert.AdQkv.nD Cert.AdQkv.τ).loc Cert.AdQkv.main_arg2) = m ((c.tc : Thread Cert.AdQkv.nD Cert.AdQkv.τ).loc Cert.AdQkv.main_arg2)
      ∧ r.2.mem ((c.tc : Thread Cert.AdQkv.nD Cert.AdQkv.τ).loc Cert.AdQkv.main_arg3) = m ((c.tc : Thread Cert.AdQkv.nD Cert.AdQkv.τ).loc Cert.AdQkv.main_arg3))
      ∧ r.2.sem = fun _ => 0)

def quiescent_AdQkvIdeal [hAdQkvIdeal : Cert.AdQkvIdeal.Facts] : Prop :=
  ∀ (m : (ℓ : Loc Cert.AdQkvIdeal.nD Cert.AdQkvIdeal.τ Cert.AdQkvIdeal.sig) → Buf (Elt Ideal) ℓ) (g : Dev Cert.AdQkvIdeal.nD → PrngReg), Pre_AdQkvIdeal m →
    θ_run (Cert.AdQkvIdeal.defs (F := Ideal)) (onTc (τ := Cert.AdQkvIdeal.τ) (Cert.AdQkvIdeal.main (F := Ideal))) ⟨m, fun _ => 0, g⟩ (fun r => (∀ c : Dev Cert.AdQkvIdeal.nD,
      r.2.mem ((c.tc : Thread Cert.AdQkvIdeal.nD Cert.AdQkvIdeal.τ).loc Cert.AdQkvIdeal.main_arg0) = m ((c.tc : Thread Cert.AdQkvIdeal.nD Cert.AdQkvIdeal.τ).loc Cert.AdQkvIdeal.main_arg0)
      ∧ r.2.mem ((c.tc : Thread Cert.AdQkvIdeal.nD Cert.AdQkvIdeal.τ).loc Cert.AdQkvIdeal.main_arg1) = m ((c.tc : Thread Cert.AdQkvIdeal.nD Cert.AdQkvIdeal.τ).loc Cert.AdQkvIdeal.main_arg1)
      ∧ r.2.mem ((c.tc : Thread Cert.AdQkvIdeal.nD Cert.AdQkvIdeal.τ).loc Cert.AdQkvIdeal.main_arg2) = m ((c.tc : Thread Cert.AdQkvIdeal.nD Cert.AdQkvIdeal.τ).loc Cert.AdQkvIdeal.main_arg2)
      ∧ r.2.mem ((c.tc : Thread Cert.AdQkvIdeal.nD Cert.AdQkvIdeal.τ).loc Cert.AdQkvIdeal.main_arg3) = m ((c.tc : Thread Cert.AdQkvIdeal.nD Cert.AdQkvIdeal.τ).loc Cert.AdQkvIdeal.main_arg3))
      ∧ r.2.sem = fun _ => 0)

def quiescent_AdQkvRefIdeal [hAdQkvRefIdeal : Cert.AdQkvRefIdeal.Facts] : Prop :=
  ∀ (m : (ℓ : Loc Cert.AdQkvRefIdeal.nD Cert.AdQkvRefIdeal.τ Cert.AdQkvRefIdeal.sig) → Buf (Elt Ideal) ℓ) (g : Dev Cert.AdQkvRefIdeal.nD → PrngReg), Pre_AdQkvRefIdeal m →
    θ_run (Cert.AdQkvRefIdeal.defs (F := Ideal)) (onTc (τ := Cert.AdQkvRefIdeal.τ) (Cert.AdQkvRefIdeal.main (F := Ideal))) ⟨m, fun _ => 0, g⟩ (fun r => (∀ c : Dev Cert.AdQkvRefIdeal.nD,
      r.2.mem ((c.tc : Thread Cert.AdQkvRefIdeal.nD Cert.AdQkvRefIdeal.τ).loc Cert.AdQkvRefIdeal.main_arg0) = m ((c.tc : Thread Cert.AdQkvRefIdeal.nD Cert.AdQkvRefIdeal.τ).loc Cert.AdQkvRefIdeal.main_arg0)
      ∧ r.2.mem ((c.tc : Thread Cert.AdQkvRefIdeal.nD Cert.AdQkvRefIdeal.τ).loc Cert.AdQkvRefIdeal.main_arg1) = m ((c.tc : Thread Cert.AdQkvRefIdeal.nD Cert.AdQkvRefIdeal.τ).loc Cert.AdQkvRefIdeal.main_arg1)
      ∧ r.2.mem ((c.tc : Thread Cert.AdQkvRefIdeal.nD Cert.AdQkvRefIdeal.τ).loc Cert.AdQkvRefIdeal.main_arg2) = m ((c.tc : Thread Cert.AdQkvRefIdeal.nD Cert.AdQkvRefIdeal.τ).loc Cert.AdQkvRefIdeal.main_arg2)
      ∧ r.2.mem ((c.tc : Thread Cert.AdQkvRefIdeal.nD Cert.AdQkvRefIdeal.τ).loc Cert.AdQkvRefIdeal.main_arg3) = m ((c.tc : Thread Cert.AdQkvRefIdeal.nD Cert.AdQkvRefIdeal.τ).loc Cert.AdQkvRefIdeal.main_arg3))
      ∧ r.2.sem = fun _ => 0)

def quiescent_AdOut [hAdOut : Cert.AdOut.Facts] : Prop :=
  ∀ (m : (ℓ : Loc Cert.AdOut.nD Cert.AdOut.τ Cert.AdOut.sig) → Buf (Elt Bits) ℓ) (g : Dev Cert.AdOut.nD → PrngReg), Pre_AdOut m →
    θ_run (Cert.AdOut.defs (F := Bits)) (onTc (τ := Cert.AdOut.τ) (Cert.AdOut.main (F := Bits))) ⟨m, fun _ => 0, g⟩ (fun r => (∀ c : Dev Cert.AdOut.nD,
      r.2.mem ((c.tc : Thread Cert.AdOut.nD Cert.AdOut.τ).loc Cert.AdOut.main_arg0) = m ((c.tc : Thread Cert.AdOut.nD Cert.AdOut.τ).loc Cert.AdOut.main_arg0)
      ∧ r.2.mem ((c.tc : Thread Cert.AdOut.nD Cert.AdOut.τ).loc Cert.AdOut.main_arg1) = m ((c.tc : Thread Cert.AdOut.nD Cert.AdOut.τ).loc Cert.AdOut.main_arg1)
      ∧ r.2.mem ((c.tc : Thread Cert.AdOut.nD Cert.AdOut.τ).loc Cert.AdOut.main_arg2) = m ((c.tc : Thread Cert.AdOut.nD Cert.AdOut.τ).loc Cert.AdOut.main_arg2)
      ∧ r.2.mem ((c.tc : Thread Cert.AdOut.nD Cert.AdOut.τ).loc Cert.AdOut.main_arg3) = m ((c.tc : Thread Cert.AdOut.nD Cert.AdOut.τ).loc Cert.AdOut.main_arg3))
      ∧ r.2.sem = fun _ => 0)

def quiescent_AdOutIdeal [hAdOutIdeal : Cert.AdOutIdeal.Facts] : Prop :=
  ∀ (m : (ℓ : Loc Cert.AdOutIdeal.nD Cert.AdOutIdeal.τ Cert.AdOutIdeal.sig) → Buf (Elt Ideal) ℓ) (g : Dev Cert.AdOutIdeal.nD → PrngReg), Pre_AdOutIdeal m →
    θ_run (Cert.AdOutIdeal.defs (F := Ideal)) (onTc (τ := Cert.AdOutIdeal.τ) (Cert.AdOutIdeal.main (F := Ideal))) ⟨m, fun _ => 0, g⟩ (fun r => (∀ c : Dev Cert.AdOutIdeal.nD,
      r.2.mem ((c.tc : Thread Cert.AdOutIdeal.nD Cert.AdOutIdeal.τ).loc Cert.AdOutIdeal.main_arg0) = m ((c.tc : Thread Cert.AdOutIdeal.nD Cert.AdOutIdeal.τ).loc Cert.AdOutIdeal.main_arg0)
      ∧ r.2.mem ((c.tc : Thread Cert.AdOutIdeal.nD Cert.AdOutIdeal.τ).loc Cert.AdOutIdeal.main_arg1) = m ((c.tc : Thread Cert.AdOutIdeal.nD Cert.AdOutIdeal.τ).loc Cert.AdOutIdeal.main_arg1)
      ∧ r.2.mem ((c.tc : Thread Cert.AdOutIdeal.nD Cert.AdOutIdeal.τ).loc Cert.AdOutIdeal.main_arg2) = m ((c.tc : Thread Cert.AdOutIdeal.nD Cert.AdOutIdeal.τ).loc Cert.AdOutIdeal.main_arg2)
      ∧ r.2.mem ((c.tc : Thread Cert.AdOutIdeal.nD Cert.AdOutIdeal.τ).loc Cert.AdOutIdeal.main_arg3) = m ((c.tc : Thread Cert.AdOutIdeal.nD Cert.AdOutIdeal.τ).loc Cert.AdOutIdeal.main_arg3))
      ∧ r.2.sem = fun _ => 0)

def quiescent_AdOutRefIdeal [hAdOutRefIdeal : Cert.AdOutRefIdeal.Facts] : Prop :=
  ∀ (m : (ℓ : Loc Cert.AdOutRefIdeal.nD Cert.AdOutRefIdeal.τ Cert.AdOutRefIdeal.sig) → Buf (Elt Ideal) ℓ) (g : Dev Cert.AdOutRefIdeal.nD → PrngReg), Pre_AdOutRefIdeal m →
    θ_run (Cert.AdOutRefIdeal.defs (F := Ideal)) (onTc (τ := Cert.AdOutRefIdeal.τ) (Cert.AdOutRefIdeal.main (F := Ideal))) ⟨m, fun _ => 0, g⟩ (fun r => (∀ c : Dev Cert.AdOutRefIdeal.nD,
      r.2.mem ((c.tc : Thread Cert.AdOutRefIdeal.nD Cert.AdOutRefIdeal.τ).loc Cert.AdOutRefIdeal.main_arg0) = m ((c.tc : Thread Cert.AdOutRefIdeal.nD Cert.AdOutRefIdeal.τ).loc Cert.AdOutRefIdeal.main_arg0)
      ∧ r.2.mem ((c.tc : Thread Cert.AdOutRefIdeal.nD Cert.AdOutRefIdeal.τ).loc Cert.AdOutRefIdeal.main_arg1) = m ((c.tc : Thread Cert.AdOutRefIdeal.nD Cert.AdOutRefIdeal.τ).loc Cert.AdOutRefIdeal.main_arg1)
      ∧ r.2.mem ((c.tc : Thread Cert.AdOutRefIdeal.nD Cert.AdOutRefIdeal.τ).loc Cert.AdOutRefIdeal.main_arg2) = m ((c.tc : Thread Cert.AdOutRefIdeal.nD Cert.AdOutRefIdeal.τ).loc Cert.AdOutRefIdeal.main_arg2)
      ∧ r.2.mem ((c.tc : Thread Cert.AdOutRefIdeal.nD Cert.AdOutRefIdeal.τ).loc Cert.AdOutRefIdeal.main_arg3) = m ((c.tc : Thread Cert.AdOutRefIdeal.nD Cert.AdOutRefIdeal.τ).loc Cert.AdOutRefIdeal.main_arg3))
      ∧ r.2.sem = fun _ => 0)

def quiescent_AdA1 [hAdA1 : Cert.AdA1.Facts] : Prop :=
  ∀ (m : (ℓ : Loc Cert.AdA1.nD Cert.AdA1.τ Cert.AdA1.sig) → Buf (Elt Bits) ℓ) (g : Dev Cert.AdA1.nD → PrngReg), Pre_AdA1 m →
    θ_run (Cert.AdA1.defs (F := Bits)) (onTc (τ := Cert.AdA1.τ) (Cert.AdA1.main (F := Bits))) ⟨m, fun _ => 0, g⟩ (fun r => (∀ c : Dev Cert.AdA1.nD,
      r.2.mem ((c.tc : Thread Cert.AdA1.nD Cert.AdA1.τ).loc Cert.AdA1.main_arg0) = m ((c.tc : Thread Cert.AdA1.nD Cert.AdA1.τ).loc Cert.AdA1.main_arg0)
      ∧ r.2.mem ((c.tc : Thread Cert.AdA1.nD Cert.AdA1.τ).loc Cert.AdA1.main_arg1) = m ((c.tc : Thread Cert.AdA1.nD Cert.AdA1.τ).loc Cert.AdA1.main_arg1)
      ∧ r.2.mem ((c.tc : Thread Cert.AdA1.nD Cert.AdA1.τ).loc Cert.AdA1.main_arg2) = m ((c.tc : Thread Cert.AdA1.nD Cert.AdA1.τ).loc Cert.AdA1.main_arg2)
      ∧ r.2.mem ((c.tc : Thread Cert.AdA1.nD Cert.AdA1.τ).loc Cert.AdA1.main_arg3) = m ((c.tc : Thread Cert.AdA1.nD Cert.AdA1.τ).loc Cert.AdA1.main_arg3))
      ∧ r.2.sem = fun _ => 0)

def quiescent_AdA1Ideal [hAdA1Ideal : Cert.AdA1Ideal.Facts] : Prop :=
  ∀ (m : (ℓ : Loc Cert.AdA1Ideal.nD Cert.AdA1Ideal.τ Cert.AdA1Ideal.sig) → Buf (Elt Ideal) ℓ) (g : Dev Cert.AdA1Ideal.nD → PrngReg), Pre_AdA1Ideal m →
    θ_run (Cert.AdA1Ideal.defs (F := Ideal)) (onTc (τ := Cert.AdA1Ideal.τ) (Cert.AdA1Ideal.main (F := Ideal))) ⟨m, fun _ => 0, g⟩ (fun r => (∀ c : Dev Cert.AdA1Ideal.nD,
      r.2.mem ((c.tc : Thread Cert.AdA1Ideal.nD Cert.AdA1Ideal.τ).loc Cert.AdA1Ideal.main_arg0) = m ((c.tc : Thread Cert.AdA1Ideal.nD Cert.AdA1Ideal.τ).loc Cert.AdA1Ideal.main_arg0)
      ∧ r.2.mem ((c.tc : Thread Cert.AdA1Ideal.nD Cert.AdA1Ideal.τ).loc Cert.AdA1Ideal.main_arg1) = m ((c.tc : Thread Cert.AdA1Ideal.nD Cert.AdA1Ideal.τ).loc Cert.AdA1Ideal.main_arg1)
      ∧ r.2.mem ((c.tc : Thread Cert.AdA1Ideal.nD Cert.AdA1Ideal.τ).loc Cert.AdA1Ideal.main_arg2) = m ((c.tc : Thread Cert.AdA1Ideal.nD Cert.AdA1Ideal.τ).loc Cert.AdA1Ideal.main_arg2)
      ∧ r.2.mem ((c.tc : Thread Cert.AdA1Ideal.nD Cert.AdA1Ideal.τ).loc Cert.AdA1Ideal.main_arg3) = m ((c.tc : Thread Cert.AdA1Ideal.nD Cert.AdA1Ideal.τ).loc Cert.AdA1Ideal.main_arg3))
      ∧ r.2.sem = fun _ => 0)

def quiescent_AdA1RefIdeal [hAdA1RefIdeal : Cert.AdA1RefIdeal.Facts] : Prop :=
  ∀ (m : (ℓ : Loc Cert.AdA1RefIdeal.nD Cert.AdA1RefIdeal.τ Cert.AdA1RefIdeal.sig) → Buf (Elt Ideal) ℓ) (g : Dev Cert.AdA1RefIdeal.nD → PrngReg), Pre_AdA1RefIdeal m →
    θ_run (Cert.AdA1RefIdeal.defs (F := Ideal)) (onTc (τ := Cert.AdA1RefIdeal.τ) (Cert.AdA1RefIdeal.main (F := Ideal))) ⟨m, fun _ => 0, g⟩ (fun r => (∀ c : Dev Cert.AdA1RefIdeal.nD,
      r.2.mem ((c.tc : Thread Cert.AdA1RefIdeal.nD Cert.AdA1RefIdeal.τ).loc Cert.AdA1RefIdeal.main_arg0) = m ((c.tc : Thread Cert.AdA1RefIdeal.nD Cert.AdA1RefIdeal.τ).loc Cert.AdA1RefIdeal.main_arg0)
      ∧ r.2.mem ((c.tc : Thread Cert.AdA1RefIdeal.nD Cert.AdA1RefIdeal.τ).loc Cert.AdA1RefIdeal.main_arg1) = m ((c.tc : Thread Cert.AdA1RefIdeal.nD Cert.AdA1RefIdeal.τ).loc Cert.AdA1RefIdeal.main_arg1)
      ∧ r.2.mem ((c.tc : Thread Cert.AdA1RefIdeal.nD Cert.AdA1RefIdeal.τ).loc Cert.AdA1RefIdeal.main_arg2) = m ((c.tc : Thread Cert.AdA1RefIdeal.nD Cert.AdA1RefIdeal.τ).loc Cert.AdA1RefIdeal.main_arg2)
      ∧ r.2.mem ((c.tc : Thread Cert.AdA1RefIdeal.nD Cert.AdA1RefIdeal.τ).loc Cert.AdA1RefIdeal.main_arg3) = m ((c.tc : Thread Cert.AdA1RefIdeal.nD Cert.AdA1RefIdeal.τ).loc Cert.AdA1RefIdeal.main_arg3))
      ∧ r.2.sem = fun _ => 0)

def quiescent_AdA2 [hAdA2 : Cert.AdA2.Facts] : Prop :=
  ∀ (m : (ℓ : Loc Cert.AdA2.nD Cert.AdA2.τ Cert.AdA2.sig) → Buf (Elt Bits) ℓ) (g : Dev Cert.AdA2.nD → PrngReg), Pre_AdA2 m →
    θ_run (Cert.AdA2.defs (F := Bits)) (onTc (τ := Cert.AdA2.τ) (Cert.AdA2.main (F := Bits))) ⟨m, fun _ => 0, g⟩ (fun r => (∀ c : Dev Cert.AdA2.nD,
      r.2.mem ((c.tc : Thread Cert.AdA2.nD Cert.AdA2.τ).loc Cert.AdA2.main_arg0) = m ((c.tc : Thread Cert.AdA2.nD Cert.AdA2.τ).loc Cert.AdA2.main_arg0)
      ∧ r.2.mem ((c.tc : Thread Cert.AdA2.nD Cert.AdA2.τ).loc Cert.AdA2.main_arg1) = m ((c.tc : Thread Cert.AdA2.nD Cert.AdA2.τ).loc Cert.AdA2.main_arg1)
      ∧ r.2.mem ((c.tc : Thread Cert.AdA2.nD Cert.AdA2.τ).loc Cert.AdA2.main_arg2) = m ((c.tc : Thread Cert.AdA2.nD Cert.AdA2.τ).loc Cert.AdA2.main_arg2)
      ∧ r.2.mem ((c.tc : Thread Cert.AdA2.nD Cert.AdA2.τ).loc Cert.AdA2.main_arg3) = m ((c.tc : Thread Cert.AdA2.nD Cert.AdA2.τ).loc Cert.AdA2.main_arg3))
      ∧ r.2.sem = fun _ => 0)

def quiescent_AdA2Ideal [hAdA2Ideal : Cert.AdA2Ideal.Facts] : Prop :=
  ∀ (m : (ℓ : Loc Cert.AdA2Ideal.nD Cert.AdA2Ideal.τ Cert.AdA2Ideal.sig) → Buf (Elt Ideal) ℓ) (g : Dev Cert.AdA2Ideal.nD → PrngReg), Pre_AdA2Ideal m →
    θ_run (Cert.AdA2Ideal.defs (F := Ideal)) (onTc (τ := Cert.AdA2Ideal.τ) (Cert.AdA2Ideal.main (F := Ideal))) ⟨m, fun _ => 0, g⟩ (fun r => (∀ c : Dev Cert.AdA2Ideal.nD,
      r.2.mem ((c.tc : Thread Cert.AdA2Ideal.nD Cert.AdA2Ideal.τ).loc Cert.AdA2Ideal.main_arg0) = m ((c.tc : Thread Cert.AdA2Ideal.nD Cert.AdA2Ideal.τ).loc Cert.AdA2Ideal.main_arg0)
      ∧ r.2.mem ((c.tc : Thread Cert.AdA2Ideal.nD Cert.AdA2Ideal.τ).loc Cert.AdA2Ideal.main_arg1) = m ((c.tc : Thread Cert.AdA2Ideal.nD Cert.AdA2Ideal.τ).loc Cert.AdA2Ideal.main_arg1)
      ∧ r.2.mem ((c.tc : Thread Cert.AdA2Ideal.nD Cert.AdA2Ideal.τ).loc Cert.AdA2Ideal.main_arg2) = m ((c.tc : Thread Cert.AdA2Ideal.nD Cert.AdA2Ideal.τ).loc Cert.AdA2Ideal.main_arg2)
      ∧ r.2.mem ((c.tc : Thread Cert.AdA2Ideal.nD Cert.AdA2Ideal.τ).loc Cert.AdA2Ideal.main_arg3) = m ((c.tc : Thread Cert.AdA2Ideal.nD Cert.AdA2Ideal.τ).loc Cert.AdA2Ideal.main_arg3))
      ∧ r.2.sem = fun _ => 0)

def quiescent_AdA2RefIdeal [hAdA2RefIdeal : Cert.AdA2RefIdeal.Facts] : Prop :=
  ∀ (m : (ℓ : Loc Cert.AdA2RefIdeal.nD Cert.AdA2RefIdeal.τ Cert.AdA2RefIdeal.sig) → Buf (Elt Ideal) ℓ) (g : Dev Cert.AdA2RefIdeal.nD → PrngReg), Pre_AdA2RefIdeal m →
    θ_run (Cert.AdA2RefIdeal.defs (F := Ideal)) (onTc (τ := Cert.AdA2RefIdeal.τ) (Cert.AdA2RefIdeal.main (F := Ideal))) ⟨m, fun _ => 0, g⟩ (fun r => (∀ c : Dev Cert.AdA2RefIdeal.nD,
      r.2.mem ((c.tc : Thread Cert.AdA2RefIdeal.nD Cert.AdA2RefIdeal.τ).loc Cert.AdA2RefIdeal.main_arg0) = m ((c.tc : Thread Cert.AdA2RefIdeal.nD Cert.AdA2RefIdeal.τ).loc Cert.AdA2RefIdeal.main_arg0)
      ∧ r.2.mem ((c.tc : Thread Cert.AdA2RefIdeal.nD Cert.AdA2RefIdeal.τ).loc Cert.AdA2RefIdeal.main_arg1) = m ((c.tc : Thread Cert.AdA2RefIdeal.nD Cert.AdA2RefIdeal.τ).loc Cert.AdA2RefIdeal.main_arg1)
      ∧ r.2.mem ((c.tc : Thread Cert.AdA2RefIdeal.nD Cert.AdA2RefIdeal.τ).loc Cert.AdA2RefIdeal.main_arg2) = m ((c.tc : Thread Cert.AdA2RefIdeal.nD Cert.AdA2RefIdeal.τ).loc Cert.AdA2RefIdeal.main_arg2)
      ∧ r.2.mem ((c.tc : Thread Cert.AdA2RefIdeal.nD Cert.AdA2RefIdeal.τ).loc Cert.AdA2RefIdeal.main_arg3) = m ((c.tc : Thread Cert.AdA2RefIdeal.nD Cert.AdA2RefIdeal.τ).loc Cert.AdA2RefIdeal.main_arg3))
      ∧ r.2.sem = fun _ => 0)

def quiescent_AdBa [hAdBa : Cert.AdBa.Facts] : Prop :=
  ∀ (m : (ℓ : Loc Cert.AdBa.nD Cert.AdBa.τ Cert.AdBa.sig) → Buf (Elt Bits) ℓ) (g : Dev Cert.AdBa.nD → PrngReg), Pre_AdBa m →
    θ_run (Cert.AdBa.defs (F := Bits)) (onTc (τ := Cert.AdBa.τ) (Cert.AdBa.main (F := Bits))) ⟨m, fun _ => 0, g⟩ (fun r => (∀ c : Dev Cert.AdBa.nD,
      r.2.mem ((c.tc : Thread Cert.AdBa.nD Cert.AdBa.τ).loc Cert.AdBa.main_arg0) = m ((c.tc : Thread Cert.AdBa.nD Cert.AdBa.τ).loc Cert.AdBa.main_arg0)
      ∧ r.2.mem ((c.tc : Thread Cert.AdBa.nD Cert.AdBa.τ).loc Cert.AdBa.main_arg1) = m ((c.tc : Thread Cert.AdBa.nD Cert.AdBa.τ).loc Cert.AdBa.main_arg1)
      ∧ r.2.mem ((c.tc : Thread Cert.AdBa.nD Cert.AdBa.τ).loc Cert.AdBa.main_arg2) = m ((c.tc : Thread Cert.AdBa.nD Cert.AdBa.τ).loc Cert.AdBa.main_arg2)
      ∧ r.2.mem ((c.tc : Thread Cert.AdBa.nD Cert.AdBa.τ).loc Cert.AdBa.main_arg3) = m ((c.tc : Thread Cert.AdBa.nD Cert.AdBa.τ).loc Cert.AdBa.main_arg3))
      ∧ r.2.sem = fun _ => 0)

def quiescent_AdBaIdeal [hAdBaIdeal : Cert.AdBaIdeal.Facts] : Prop :=
  ∀ (m : (ℓ : Loc Cert.AdBaIdeal.nD Cert.AdBaIdeal.τ Cert.AdBaIdeal.sig) → Buf (Elt Ideal) ℓ) (g : Dev Cert.AdBaIdeal.nD → PrngReg), Pre_AdBaIdeal m →
    θ_run (Cert.AdBaIdeal.defs (F := Ideal)) (onTc (τ := Cert.AdBaIdeal.τ) (Cert.AdBaIdeal.main (F := Ideal))) ⟨m, fun _ => 0, g⟩ (fun r => (∀ c : Dev Cert.AdBaIdeal.nD,
      r.2.mem ((c.tc : Thread Cert.AdBaIdeal.nD Cert.AdBaIdeal.τ).loc Cert.AdBaIdeal.main_arg0) = m ((c.tc : Thread Cert.AdBaIdeal.nD Cert.AdBaIdeal.τ).loc Cert.AdBaIdeal.main_arg0)
      ∧ r.2.mem ((c.tc : Thread Cert.AdBaIdeal.nD Cert.AdBaIdeal.τ).loc Cert.AdBaIdeal.main_arg1) = m ((c.tc : Thread Cert.AdBaIdeal.nD Cert.AdBaIdeal.τ).loc Cert.AdBaIdeal.main_arg1)
      ∧ r.2.mem ((c.tc : Thread Cert.AdBaIdeal.nD Cert.AdBaIdeal.τ).loc Cert.AdBaIdeal.main_arg2) = m ((c.tc : Thread Cert.AdBaIdeal.nD Cert.AdBaIdeal.τ).loc Cert.AdBaIdeal.main_arg2)
      ∧ r.2.mem ((c.tc : Thread Cert.AdBaIdeal.nD Cert.AdBaIdeal.τ).loc Cert.AdBaIdeal.main_arg3) = m ((c.tc : Thread Cert.AdBaIdeal.nD Cert.AdBaIdeal.τ).loc Cert.AdBaIdeal.main_arg3))
      ∧ r.2.sem = fun _ => 0)

def quiescent_AdBaRefIdeal [hAdBaRefIdeal : Cert.AdBaRefIdeal.Facts] : Prop :=
  ∀ (m : (ℓ : Loc Cert.AdBaRefIdeal.nD Cert.AdBaRefIdeal.τ Cert.AdBaRefIdeal.sig) → Buf (Elt Ideal) ℓ) (g : Dev Cert.AdBaRefIdeal.nD → PrngReg), Pre_AdBaRefIdeal m →
    θ_run (Cert.AdBaRefIdeal.defs (F := Ideal)) (onTc (τ := Cert.AdBaRefIdeal.τ) (Cert.AdBaRefIdeal.main (F := Ideal))) ⟨m, fun _ => 0, g⟩ (fun r => (∀ c : Dev Cert.AdBaRefIdeal.nD,
      r.2.mem ((c.tc : Thread Cert.AdBaRefIdeal.nD Cert.AdBaRefIdeal.τ).loc Cert.AdBaRefIdeal.main_arg0) = m ((c.tc : Thread Cert.AdBaRefIdeal.nD Cert.AdBaRefIdeal.τ).loc Cert.AdBaRefIdeal.main_arg0)
      ∧ r.2.mem ((c.tc : Thread Cert.AdBaRefIdeal.nD Cert.AdBaRefIdeal.τ).loc Cert.AdBaRefIdeal.main_arg1) = m ((c.tc : Thread Cert.AdBaRefIdeal.nD Cert.AdBaRefIdeal.τ).loc Cert.AdBaRefIdeal.main_arg1)
      ∧ r.2.mem ((c.tc : Thread Cert.AdBaRefIdeal.nD Cert.AdBaRefIdeal.τ).loc Cert.AdBaRefIdeal.main_arg2) = m ((c.tc : Thread Cert.AdBaRefIdeal.nD Cert.AdBaRefIdeal.τ).loc Cert.AdBaRefIdeal.main_arg2)
      ∧ r.2.mem ((c.tc : Thread Cert.AdBaRefIdeal.nD Cert.AdBaRefIdeal.τ).loc Cert.AdBaRefIdeal.main_arg3) = m ((c.tc : Thread Cert.AdBaRefIdeal.nD Cert.AdBaRefIdeal.τ).loc Cert.AdBaRefIdeal.main_arg3))
      ∧ r.2.sem = fun _ => 0)

def quiescent_AdNorm [hAdNorm : Cert.AdNorm.Facts] : Prop :=
  ∀ (m : (ℓ : Loc Cert.AdNorm.nD Cert.AdNorm.τ Cert.AdNorm.sig) → Buf (Elt Bits) ℓ) (g : Dev Cert.AdNorm.nD → PrngReg), Pre_AdNorm m →
    θ_run (Cert.AdNorm.defs (F := Bits)) (onTc (τ := Cert.AdNorm.τ) (Cert.AdNorm.main (F := Bits))) ⟨m, fun _ => 0, g⟩ (fun r => (∀ c : Dev Cert.AdNorm.nD,
      r.2.mem ((c.tc : Thread Cert.AdNorm.nD Cert.AdNorm.τ).loc Cert.AdNorm.main_arg0) = m ((c.tc : Thread Cert.AdNorm.nD Cert.AdNorm.τ).loc Cert.AdNorm.main_arg0)
      ∧ r.2.mem ((c.tc : Thread Cert.AdNorm.nD Cert.AdNorm.τ).loc Cert.AdNorm.main_arg1) = m ((c.tc : Thread Cert.AdNorm.nD Cert.AdNorm.τ).loc Cert.AdNorm.main_arg1)
      ∧ r.2.mem ((c.tc : Thread Cert.AdNorm.nD Cert.AdNorm.τ).loc Cert.AdNorm.main_arg2) = m ((c.tc : Thread Cert.AdNorm.nD Cert.AdNorm.τ).loc Cert.AdNorm.main_arg2)
      ∧ r.2.mem ((c.tc : Thread Cert.AdNorm.nD Cert.AdNorm.τ).loc Cert.AdNorm.main_arg3) = m ((c.tc : Thread Cert.AdNorm.nD Cert.AdNorm.τ).loc Cert.AdNorm.main_arg3))
      ∧ r.2.sem = fun _ => 0)

def quiescent_AdNormIdeal [hAdNormIdeal : Cert.AdNormIdeal.Facts] : Prop :=
  ∀ (m : (ℓ : Loc Cert.AdNormIdeal.nD Cert.AdNormIdeal.τ Cert.AdNormIdeal.sig) → Buf (Elt Ideal) ℓ) (g : Dev Cert.AdNormIdeal.nD → PrngReg), Pre_AdNormIdeal m →
    θ_run (Cert.AdNormIdeal.defs (F := Ideal)) (onTc (τ := Cert.AdNormIdeal.τ) (Cert.AdNormIdeal.main (F := Ideal))) ⟨m, fun _ => 0, g⟩ (fun r => (∀ c : Dev Cert.AdNormIdeal.nD,
      r.2.mem ((c.tc : Thread Cert.AdNormIdeal.nD Cert.AdNormIdeal.τ).loc Cert.AdNormIdeal.main_arg0) = m ((c.tc : Thread Cert.AdNormIdeal.nD Cert.AdNormIdeal.τ).loc Cert.AdNormIdeal.main_arg0)
      ∧ r.2.mem ((c.tc : Thread Cert.AdNormIdeal.nD Cert.AdNormIdeal.τ).loc Cert.AdNormIdeal.main_arg1) = m ((c.tc : Thread Cert.AdNormIdeal.nD Cert.AdNormIdeal.τ).loc Cert.AdNormIdeal.main_arg1)
      ∧ r.2.mem ((c.tc : Thread Cert.AdNormIdeal.nD Cert.AdNormIdeal.τ).loc Cert.AdNormIdeal.main_arg2) = m ((c.tc : Thread Cert.AdNormIdeal.nD Cert.AdNormIdeal.τ).loc Cert.AdNormIdeal.main_arg2)
      ∧ r.2.mem ((c.tc : Thread Cert.AdNormIdeal.nD Cert.AdNormIdeal.τ).loc Cert.AdNormIdeal.main_arg3) = m ((c.tc : Thread Cert.AdNormIdeal.nD Cert.AdNormIdeal.τ).loc Cert.AdNormIdeal.main_arg3))
      ∧ r.2.sem = fun _ => 0)

def quiescent_AdNormRefIdeal [hAdNormRefIdeal : Cert.AdNormRefIdeal.Facts] : Prop :=
  ∀ (m : (ℓ : Loc Cert.AdNormRefIdeal.nD Cert.AdNormRefIdeal.τ Cert.AdNormRefIdeal.sig) → Buf (Elt Ideal) ℓ) (g : Dev Cert.AdNormRefIdeal.nD → PrngReg), Pre_AdNormRefIdeal m →
    θ_run (Cert.AdNormRefIdeal.defs (F := Ideal)) (onTc (τ := Cert.AdNormRefIdeal.τ) (Cert.AdNormRefIdeal.main (F := Ideal))) ⟨m, fun _ => 0, g⟩ (fun r => (∀ c : Dev Cert.AdNormRefIdeal.nD,
      r.2.mem ((c.tc : Thread Cert.AdNormRefIdeal.nD Cert.AdNormRefIdeal.τ).loc Cert.AdNormRefIdeal.main_arg0) = m ((c.tc : Thread Cert.AdNormRefIdeal.nD Cert.AdNormRefIdeal.τ).loc Cert.AdNormRefIdeal.main_arg0)
      ∧ r.2.mem ((c.tc : Thread Cert.AdNormRefIdeal.nD Cert.AdNormRefIdeal.τ).loc Cert.AdNormRefIdeal.main_arg1) = m ((c.tc : Thread Cert.AdNormRefIdeal.nD Cert.AdNormRefIdeal.τ).loc Cert.AdNormRefIdeal.main_arg1)
      ∧ r.2.mem ((c.tc : Thread Cert.AdNormRefIdeal.nD Cert.AdNormRefIdeal.τ).loc Cert.AdNormRefIdeal.main_arg2) = m ((c.tc : Thread Cert.AdNormRefIdeal.nD Cert.AdNormRefIdeal.τ).loc Cert.AdNormRefIdeal.main_arg2)
      ∧ r.2.mem ((c.tc : Thread Cert.AdNormRefIdeal.nD Cert.AdNormRefIdeal.τ).loc Cert.AdNormRefIdeal.main_arg3) = m ((c.tc : Thread Cert.AdNormRefIdeal.nD Cert.AdNormRefIdeal.τ).loc Cert.AdNormRefIdeal.main_arg3))
      ∧ r.2.sem = fun _ => 0)

def quiescent_AdUp [hAdUp : Cert.AdUp.Facts] : Prop :=
  ∀ (m : (ℓ : Loc Cert.AdUp.nD Cert.AdUp.τ Cert.AdUp.sig) → Buf (Elt Bits) ℓ) (g : Dev Cert.AdUp.nD → PrngReg), Pre_AdUp m →
    θ_run (Cert.AdUp.defs (F := Bits)) (onTc (τ := Cert.AdUp.τ) (Cert.AdUp.main (F := Bits))) ⟨m, fun _ => 0, g⟩ (fun r => (∀ c : Dev Cert.AdUp.nD,
      r.2.mem ((c.tc : Thread Cert.AdUp.nD Cert.AdUp.τ).loc Cert.AdUp.main_arg0) = m ((c.tc : Thread Cert.AdUp.nD Cert.AdUp.τ).loc Cert.AdUp.main_arg0)
      ∧ r.2.mem ((c.tc : Thread Cert.AdUp.nD Cert.AdUp.τ).loc Cert.AdUp.main_arg1) = m ((c.tc : Thread Cert.AdUp.nD Cert.AdUp.τ).loc Cert.AdUp.main_arg1)
      ∧ r.2.mem ((c.tc : Thread Cert.AdUp.nD Cert.AdUp.τ).loc Cert.AdUp.main_arg2) = m ((c.tc : Thread Cert.AdUp.nD Cert.AdUp.τ).loc Cert.AdUp.main_arg2)
      ∧ r.2.mem ((c.tc : Thread Cert.AdUp.nD Cert.AdUp.τ).loc Cert.AdUp.main_arg3) = m ((c.tc : Thread Cert.AdUp.nD Cert.AdUp.τ).loc Cert.AdUp.main_arg3))
      ∧ r.2.sem = fun _ => 0)

def quiescent_AdUpIdeal [hAdUpIdeal : Cert.AdUpIdeal.Facts] : Prop :=
  ∀ (m : (ℓ : Loc Cert.AdUpIdeal.nD Cert.AdUpIdeal.τ Cert.AdUpIdeal.sig) → Buf (Elt Ideal) ℓ) (g : Dev Cert.AdUpIdeal.nD → PrngReg), Pre_AdUpIdeal m →
    θ_run (Cert.AdUpIdeal.defs (F := Ideal)) (onTc (τ := Cert.AdUpIdeal.τ) (Cert.AdUpIdeal.main (F := Ideal))) ⟨m, fun _ => 0, g⟩ (fun r => (∀ c : Dev Cert.AdUpIdeal.nD,
      r.2.mem ((c.tc : Thread Cert.AdUpIdeal.nD Cert.AdUpIdeal.τ).loc Cert.AdUpIdeal.main_arg0) = m ((c.tc : Thread Cert.AdUpIdeal.nD Cert.AdUpIdeal.τ).loc Cert.AdUpIdeal.main_arg0)
      ∧ r.2.mem ((c.tc : Thread Cert.AdUpIdeal.nD Cert.AdUpIdeal.τ).loc Cert.AdUpIdeal.main_arg1) = m ((c.tc : Thread Cert.AdUpIdeal.nD Cert.AdUpIdeal.τ).loc Cert.AdUpIdeal.main_arg1)
      ∧ r.2.mem ((c.tc : Thread Cert.AdUpIdeal.nD Cert.AdUpIdeal.τ).loc Cert.AdUpIdeal.main_arg2) = m ((c.tc : Thread Cert.AdUpIdeal.nD Cert.AdUpIdeal.τ).loc Cert.AdUpIdeal.main_arg2)
      ∧ r.2.mem ((c.tc : Thread Cert.AdUpIdeal.nD Cert.AdUpIdeal.τ).loc Cert.AdUpIdeal.main_arg3) = m ((c.tc : Thread Cert.AdUpIdeal.nD Cert.AdUpIdeal.τ).loc Cert.AdUpIdeal.main_arg3))
      ∧ r.2.sem = fun _ => 0)

def quiescent_AdUpRefIdeal [hAdUpRefIdeal : Cert.AdUpRefIdeal.Facts] : Prop :=
  ∀ (m : (ℓ : Loc Cert.AdUpRefIdeal.nD Cert.AdUpRefIdeal.τ Cert.AdUpRefIdeal.sig) → Buf (Elt Ideal) ℓ) (g : Dev Cert.AdUpRefIdeal.nD → PrngReg), Pre_AdUpRefIdeal m →
    θ_run (Cert.AdUpRefIdeal.defs (F := Ideal)) (onTc (τ := Cert.AdUpRefIdeal.τ) (Cert.AdUpRefIdeal.main (F := Ideal))) ⟨m, fun _ => 0, g⟩ (fun r => (∀ c : Dev Cert.AdUpRefIdeal.nD,
      r.2.mem ((c.tc : Thread Cert.AdUpRefIdeal.nD Cert.AdUpRefIdeal.τ).loc Cert.AdUpRefIdeal.main_arg0) = m ((c.tc : Thread Cert.AdUpRefIdeal.nD Cert.AdUpRefIdeal.τ).loc Cert.AdUpRefIdeal.main_arg0)
      ∧ r.2.mem ((c.tc : Thread Cert.AdUpRefIdeal.nD Cert.AdUpRefIdeal.τ).loc Cert.AdUpRefIdeal.main_arg1) = m ((c.tc : Thread Cert.AdUpRefIdeal.nD Cert.AdUpRefIdeal.τ).loc Cert.AdUpRefIdeal.main_arg1)
      ∧ r.2.mem ((c.tc : Thread Cert.AdUpRefIdeal.nD Cert.AdUpRefIdeal.τ).loc Cert.AdUpRefIdeal.main_arg2) = m ((c.tc : Thread Cert.AdUpRefIdeal.nD Cert.AdUpRefIdeal.τ).loc Cert.AdUpRefIdeal.main_arg2)
      ∧ r.2.mem ((c.tc : Thread Cert.AdUpRefIdeal.nD Cert.AdUpRefIdeal.τ).loc Cert.AdUpRefIdeal.main_arg3) = m ((c.tc : Thread Cert.AdUpRefIdeal.nD Cert.AdUpRefIdeal.τ).loc Cert.AdUpRefIdeal.main_arg3))
      ∧ r.2.sem = fun _ => 0)

def quiescent_AdConvW [hAdConvW : Cert.AdConvW.Facts] : Prop :=
  ∀ (m : (ℓ : Loc Cert.AdConvW.nD Cert.AdConvW.τ Cert.AdConvW.sig) → Buf (Elt Bits) ℓ) (g : Dev Cert.AdConvW.nD → PrngReg), Pre_AdConvW m →
    θ_run (Cert.AdConvW.defs (F := Bits)) (onTc (τ := Cert.AdConvW.τ) (Cert.AdConvW.main (F := Bits))) ⟨m, fun _ => 0, g⟩ (fun r => (∀ c : Dev Cert.AdConvW.nD,
      r.2.mem ((c.tc : Thread Cert.AdConvW.nD Cert.AdConvW.τ).loc Cert.AdConvW.main_arg0) = m ((c.tc : Thread Cert.AdConvW.nD Cert.AdConvW.τ).loc Cert.AdConvW.main_arg0)
      ∧ r.2.mem ((c.tc : Thread Cert.AdConvW.nD Cert.AdConvW.τ).loc Cert.AdConvW.main_arg1) = m ((c.tc : Thread Cert.AdConvW.nD Cert.AdConvW.τ).loc Cert.AdConvW.main_arg1)
      ∧ r.2.mem ((c.tc : Thread Cert.AdConvW.nD Cert.AdConvW.τ).loc Cert.AdConvW.main_arg2) = m ((c.tc : Thread Cert.AdConvW.nD Cert.AdConvW.τ).loc Cert.AdConvW.main_arg2)
      ∧ r.2.mem ((c.tc : Thread Cert.AdConvW.nD Cert.AdConvW.τ).loc Cert.AdConvW.main_arg3) = m ((c.tc : Thread Cert.AdConvW.nD Cert.AdConvW.τ).loc Cert.AdConvW.main_arg3))
      ∧ r.2.sem = fun _ => 0)

def quiescent_AdConvWIdeal [hAdConvWIdeal : Cert.AdConvWIdeal.Facts] : Prop :=
  ∀ (m : (ℓ : Loc Cert.AdConvWIdeal.nD Cert.AdConvWIdeal.τ Cert.AdConvWIdeal.sig) → Buf (Elt Ideal) ℓ) (g : Dev Cert.AdConvWIdeal.nD → PrngReg), Pre_AdConvWIdeal m →
    θ_run (Cert.AdConvWIdeal.defs (F := Ideal)) (onTc (τ := Cert.AdConvWIdeal.τ) (Cert.AdConvWIdeal.main (F := Ideal))) ⟨m, fun _ => 0, g⟩ (fun r => (∀ c : Dev Cert.AdConvWIdeal.nD,
      r.2.mem ((c.tc : Thread Cert.AdConvWIdeal.nD Cert.AdConvWIdeal.τ).loc Cert.AdConvWIdeal.main_arg0) = m ((c.tc : Thread Cert.AdConvWIdeal.nD Cert.AdConvWIdeal.τ).loc Cert.AdConvWIdeal.main_arg0)
      ∧ r.2.mem ((c.tc : Thread Cert.AdConvWIdeal.nD Cert.AdConvWIdeal.τ).loc Cert.AdConvWIdeal.main_arg1) = m ((c.tc : Thread Cert.AdConvWIdeal.nD Cert.AdConvWIdeal.τ).loc Cert.AdConvWIdeal.main_arg1)
      ∧ r.2.mem ((c.tc : Thread Cert.AdConvWIdeal.nD Cert.AdConvWIdeal.τ).loc Cert.AdConvWIdeal.main_arg2) = m ((c.tc : Thread Cert.AdConvWIdeal.nD Cert.AdConvWIdeal.τ).loc Cert.AdConvWIdeal.main_arg2)
      ∧ r.2.mem ((c.tc : Thread Cert.AdConvWIdeal.nD Cert.AdConvWIdeal.τ).loc Cert.AdConvWIdeal.main_arg3) = m ((c.tc : Thread Cert.AdConvWIdeal.nD Cert.AdConvWIdeal.τ).loc Cert.AdConvWIdeal.main_arg3))
      ∧ r.2.sem = fun _ => 0)

def quiescent_AdConvWRefIdeal [hAdConvWRefIdeal : Cert.AdConvWRefIdeal.Facts] : Prop :=
  ∀ (m : (ℓ : Loc Cert.AdConvWRefIdeal.nD Cert.AdConvWRefIdeal.τ Cert.AdConvWRefIdeal.sig) → Buf (Elt Ideal) ℓ) (g : Dev Cert.AdConvWRefIdeal.nD → PrngReg), Pre_AdConvWRefIdeal m →
    θ_run (Cert.AdConvWRefIdeal.defs (F := Ideal)) (onTc (τ := Cert.AdConvWRefIdeal.τ) (Cert.AdConvWRefIdeal.main (F := Ideal))) ⟨m, fun _ => 0, g⟩ (fun r => (∀ c : Dev Cert.AdConvWRefIdeal.nD,
      r.2.mem ((c.tc : Thread Cert.AdConvWRefIdeal.nD Cert.AdConvWRefIdeal.τ).loc Cert.AdConvWRefIdeal.main_arg0) = m ((c.tc : Thread Cert.AdConvWRefIdeal.nD Cert.AdConvWRefIdeal.τ).loc Cert.AdConvWRefIdeal.main_arg0)
      ∧ r.2.mem ((c.tc : Thread Cert.AdConvWRefIdeal.nD Cert.AdConvWRefIdeal.τ).loc Cert.AdConvWRefIdeal.main_arg1) = m ((c.tc : Thread Cert.AdConvWRefIdeal.nD Cert.AdConvWRefIdeal.τ).loc Cert.AdConvWRefIdeal.main_arg1)
      ∧ r.2.mem ((c.tc : Thread Cert.AdConvWRefIdeal.nD Cert.AdConvWRefIdeal.τ).loc Cert.AdConvWRefIdeal.main_arg2) = m ((c.tc : Thread Cert.AdConvWRefIdeal.nD Cert.AdConvWRefIdeal.τ).loc Cert.AdConvWRefIdeal.main_arg2)
      ∧ r.2.mem ((c.tc : Thread Cert.AdConvWRefIdeal.nD Cert.AdConvWRefIdeal.τ).loc Cert.AdConvWRefIdeal.main_arg3) = m ((c.tc : Thread Cert.AdConvWRefIdeal.nD Cert.AdConvWRefIdeal.τ).loc Cert.AdConvWRefIdeal.main_arg3))
      ∧ r.2.sem = fun _ => 0)

def quiescent_AdConvB [hAdConvB : Cert.AdConvB.Facts] : Prop :=
  ∀ (m : (ℓ : Loc Cert.AdConvB.nD Cert.AdConvB.τ Cert.AdConvB.sig) → Buf (Elt Bits) ℓ) (g : Dev Cert.AdConvB.nD → PrngReg), Pre_AdConvB m →
    θ_run (Cert.AdConvB.defs (F := Bits)) (onTc (τ := Cert.AdConvB.τ) (Cert.AdConvB.main (F := Bits))) ⟨m, fun _ => 0, g⟩ (fun r => (∀ c : Dev Cert.AdConvB.nD,
      r.2.mem ((c.tc : Thread Cert.AdConvB.nD Cert.AdConvB.τ).loc Cert.AdConvB.main_arg0) = m ((c.tc : Thread Cert.AdConvB.nD Cert.AdConvB.τ).loc Cert.AdConvB.main_arg0)
      ∧ r.2.mem ((c.tc : Thread Cert.AdConvB.nD Cert.AdConvB.τ).loc Cert.AdConvB.main_arg1) = m ((c.tc : Thread Cert.AdConvB.nD Cert.AdConvB.τ).loc Cert.AdConvB.main_arg1)
      ∧ r.2.mem ((c.tc : Thread Cert.AdConvB.nD Cert.AdConvB.τ).loc Cert.AdConvB.main_arg2) = m ((c.tc : Thread Cert.AdConvB.nD Cert.AdConvB.τ).loc Cert.AdConvB.main_arg2)
      ∧ r.2.mem ((c.tc : Thread Cert.AdConvB.nD Cert.AdConvB.τ).loc Cert.AdConvB.main_arg3) = m ((c.tc : Thread Cert.AdConvB.nD Cert.AdConvB.τ).loc Cert.AdConvB.main_arg3))
      ∧ r.2.sem = fun _ => 0)

def quiescent_AdConvBIdeal [hAdConvBIdeal : Cert.AdConvBIdeal.Facts] : Prop :=
  ∀ (m : (ℓ : Loc Cert.AdConvBIdeal.nD Cert.AdConvBIdeal.τ Cert.AdConvBIdeal.sig) → Buf (Elt Ideal) ℓ) (g : Dev Cert.AdConvBIdeal.nD → PrngReg), Pre_AdConvBIdeal m →
    θ_run (Cert.AdConvBIdeal.defs (F := Ideal)) (onTc (τ := Cert.AdConvBIdeal.τ) (Cert.AdConvBIdeal.main (F := Ideal))) ⟨m, fun _ => 0, g⟩ (fun r => (∀ c : Dev Cert.AdConvBIdeal.nD,
      r.2.mem ((c.tc : Thread Cert.AdConvBIdeal.nD Cert.AdConvBIdeal.τ).loc Cert.AdConvBIdeal.main_arg0) = m ((c.tc : Thread Cert.AdConvBIdeal.nD Cert.AdConvBIdeal.τ).loc Cert.AdConvBIdeal.main_arg0)
      ∧ r.2.mem ((c.tc : Thread Cert.AdConvBIdeal.nD Cert.AdConvBIdeal.τ).loc Cert.AdConvBIdeal.main_arg1) = m ((c.tc : Thread Cert.AdConvBIdeal.nD Cert.AdConvBIdeal.τ).loc Cert.AdConvBIdeal.main_arg1)
      ∧ r.2.mem ((c.tc : Thread Cert.AdConvBIdeal.nD Cert.AdConvBIdeal.τ).loc Cert.AdConvBIdeal.main_arg2) = m ((c.tc : Thread Cert.AdConvBIdeal.nD Cert.AdConvBIdeal.τ).loc Cert.AdConvBIdeal.main_arg2)
      ∧ r.2.mem ((c.tc : Thread Cert.AdConvBIdeal.nD Cert.AdConvBIdeal.τ).loc Cert.AdConvBIdeal.main_arg3) = m ((c.tc : Thread Cert.AdConvBIdeal.nD Cert.AdConvBIdeal.τ).loc Cert.AdConvBIdeal.main_arg3))
      ∧ r.2.sem = fun _ => 0)

def quiescent_AdConvBRefIdeal [hAdConvBRefIdeal : Cert.AdConvBRefIdeal.Facts] : Prop :=
  ∀ (m : (ℓ : Loc Cert.AdConvBRefIdeal.nD Cert.AdConvBRefIdeal.τ Cert.AdConvBRefIdeal.sig) → Buf (Elt Ideal) ℓ) (g : Dev Cert.AdConvBRefIdeal.nD → PrngReg), Pre_AdConvBRefIdeal m →
    θ_run (Cert.AdConvBRefIdeal.defs (F := Ideal)) (onTc (τ := Cert.AdConvBRefIdeal.τ) (Cert.AdConvBRefIdeal.main (F := Ideal))) ⟨m, fun _ => 0, g⟩ (fun r => (∀ c : Dev Cert.AdConvBRefIdeal.nD,
      r.2.mem ((c.tc : Thread Cert.AdConvBRefIdeal.nD Cert.AdConvBRefIdeal.τ).loc Cert.AdConvBRefIdeal.main_arg0) = m ((c.tc : Thread Cert.AdConvBRefIdeal.nD Cert.AdConvBRefIdeal.τ).loc Cert.AdConvBRefIdeal.main_arg0)
      ∧ r.2.mem ((c.tc : Thread Cert.AdConvBRefIdeal.nD Cert.AdConvBRefIdeal.τ).loc Cert.AdConvBRefIdeal.main_arg1) = m ((c.tc : Thread Cert.AdConvBRefIdeal.nD Cert.AdConvBRefIdeal.τ).loc Cert.AdConvBRefIdeal.main_arg1)
      ∧ r.2.mem ((c.tc : Thread Cert.AdConvBRefIdeal.nD Cert.AdConvBRefIdeal.τ).loc Cert.AdConvBRefIdeal.main_arg2) = m ((c.tc : Thread Cert.AdConvBRefIdeal.nD Cert.AdConvBRefIdeal.τ).loc Cert.AdConvBRefIdeal.main_arg2)
      ∧ r.2.mem ((c.tc : Thread Cert.AdConvBRefIdeal.nD Cert.AdConvBRefIdeal.τ).loc Cert.AdConvBRefIdeal.main_arg3) = m ((c.tc : Thread Cert.AdConvBRefIdeal.nD Cert.AdConvBRefIdeal.τ).loc Cert.AdConvBRefIdeal.main_arg3))
      ∧ r.2.sem = fun _ => 0)

def quiescent_AdDown [hAdDown : Cert.AdDown.Facts] : Prop :=
  ∀ (m : (ℓ : Loc Cert.AdDown.nD Cert.AdDown.τ Cert.AdDown.sig) → Buf (Elt Bits) ℓ) (g : Dev Cert.AdDown.nD → PrngReg), Pre_AdDown m →
    θ_run (Cert.AdDown.defs (F := Bits)) (onTc (τ := Cert.AdDown.τ) (Cert.AdDown.main (F := Bits))) ⟨m, fun _ => 0, g⟩ (fun r => (∀ c : Dev Cert.AdDown.nD,
      r.2.mem ((c.tc : Thread Cert.AdDown.nD Cert.AdDown.τ).loc Cert.AdDown.main_arg0) = m ((c.tc : Thread Cert.AdDown.nD Cert.AdDown.τ).loc Cert.AdDown.main_arg0)
      ∧ r.2.mem ((c.tc : Thread Cert.AdDown.nD Cert.AdDown.τ).loc Cert.AdDown.main_arg1) = m ((c.tc : Thread Cert.AdDown.nD Cert.AdDown.τ).loc Cert.AdDown.main_arg1)
      ∧ r.2.mem ((c.tc : Thread Cert.AdDown.nD Cert.AdDown.τ).loc Cert.AdDown.main_arg2) = m ((c.tc : Thread Cert.AdDown.nD Cert.AdDown.τ).loc Cert.AdDown.main_arg2)
      ∧ r.2.mem ((c.tc : Thread Cert.AdDown.nD Cert.AdDown.τ).loc Cert.AdDown.main_arg3) = m ((c.tc : Thread Cert.AdDown.nD Cert.AdDown.τ).loc Cert.AdDown.main_arg3))
      ∧ r.2.sem = fun _ => 0)

def quiescent_AdDownIdeal [hAdDownIdeal : Cert.AdDownIdeal.Facts] : Prop :=
  ∀ (m : (ℓ : Loc Cert.AdDownIdeal.nD Cert.AdDownIdeal.τ Cert.AdDownIdeal.sig) → Buf (Elt Ideal) ℓ) (g : Dev Cert.AdDownIdeal.nD → PrngReg), Pre_AdDownIdeal m →
    θ_run (Cert.AdDownIdeal.defs (F := Ideal)) (onTc (τ := Cert.AdDownIdeal.τ) (Cert.AdDownIdeal.main (F := Ideal))) ⟨m, fun _ => 0, g⟩ (fun r => (∀ c : Dev Cert.AdDownIdeal.nD,
      r.2.mem ((c.tc : Thread Cert.AdDownIdeal.nD Cert.AdDownIdeal.τ).loc Cert.AdDownIdeal.main_arg0) = m ((c.tc : Thread Cert.AdDownIdeal.nD Cert.AdDownIdeal.τ).loc Cert.AdDownIdeal.main_arg0)
      ∧ r.2.mem ((c.tc : Thread Cert.AdDownIdeal.nD Cert.AdDownIdeal.τ).loc Cert.AdDownIdeal.main_arg1) = m ((c.tc : Thread Cert.AdDownIdeal.nD Cert.AdDownIdeal.τ).loc Cert.AdDownIdeal.main_arg1)
      ∧ r.2.mem ((c.tc : Thread Cert.AdDownIdeal.nD Cert.AdDownIdeal.τ).loc Cert.AdDownIdeal.main_arg2) = m ((c.tc : Thread Cert.AdDownIdeal.nD Cert.AdDownIdeal.τ).loc Cert.AdDownIdeal.main_arg2)
      ∧ r.2.mem ((c.tc : Thread Cert.AdDownIdeal.nD Cert.AdDownIdeal.τ).loc Cert.AdDownIdeal.main_arg3) = m ((c.tc : Thread Cert.AdDownIdeal.nD Cert.AdDownIdeal.τ).loc Cert.AdDownIdeal.main_arg3))
      ∧ r.2.sem = fun _ => 0)

def quiescent_AdDownRefIdeal [hAdDownRefIdeal : Cert.AdDownRefIdeal.Facts] : Prop :=
  ∀ (m : (ℓ : Loc Cert.AdDownRefIdeal.nD Cert.AdDownRefIdeal.τ Cert.AdDownRefIdeal.sig) → Buf (Elt Ideal) ℓ) (g : Dev Cert.AdDownRefIdeal.nD → PrngReg), Pre_AdDownRefIdeal m →
    θ_run (Cert.AdDownRefIdeal.defs (F := Ideal)) (onTc (τ := Cert.AdDownRefIdeal.τ) (Cert.AdDownRefIdeal.main (F := Ideal))) ⟨m, fun _ => 0, g⟩ (fun r => (∀ c : Dev Cert.AdDownRefIdeal.nD,
      r.2.mem ((c.tc : Thread Cert.AdDownRefIdeal.nD Cert.AdDownRefIdeal.τ).loc Cert.AdDownRefIdeal.main_arg0) = m ((c.tc : Thread Cert.AdDownRefIdeal.nD Cert.AdDownRefIdeal.τ).loc Cert.AdDownRefIdeal.main_arg0)
      ∧ r.2.mem ((c.tc : Thread Cert.AdDownRefIdeal.nD Cert.AdDownRefIdeal.τ).loc Cert.AdDownRefIdeal.main_arg1) = m ((c.tc : Thread Cert.AdDownRefIdeal.nD Cert.AdDownRefIdeal.τ).loc Cert.AdDownRefIdeal.main_arg1)
      ∧ r.2.mem ((c.tc : Thread Cert.AdDownRefIdeal.nD Cert.AdDownRefIdeal.τ).loc Cert.AdDownRefIdeal.main_arg2) = m ((c.tc : Thread Cert.AdDownRefIdeal.nD Cert.AdDownRefIdeal.τ).loc Cert.AdDownRefIdeal.main_arg2)
      ∧ r.2.mem ((c.tc : Thread Cert.AdDownRefIdeal.nD Cert.AdDownRefIdeal.τ).loc Cert.AdDownRefIdeal.main_arg3) = m ((c.tc : Thread Cert.AdDownRefIdeal.nD Cert.AdDownRefIdeal.τ).loc Cert.AdDownRefIdeal.main_arg3))
      ∧ r.2.sem = fun _ => 0)

def quiescent_AdLn [hAdLn : Cert.AdLn.Facts] : Prop :=
  ∀ (m : (ℓ : Loc Cert.AdLn.nD Cert.AdLn.τ Cert.AdLn.sig) → Buf (Elt Bits) ℓ) (g : Dev Cert.AdLn.nD → PrngReg), Pre_AdLn m →
    θ_run (Cert.AdLn.defs (F := Bits)) (onTc (τ := Cert.AdLn.τ) (Cert.AdLn.main (F := Bits))) ⟨m, fun _ => 0, g⟩ (fun r => (∀ c : Dev Cert.AdLn.nD,
      r.2.mem ((c.tc : Thread Cert.AdLn.nD Cert.AdLn.τ).loc Cert.AdLn.main_arg0) = m ((c.tc : Thread Cert.AdLn.nD Cert.AdLn.τ).loc Cert.AdLn.main_arg0)
      ∧ r.2.mem ((c.tc : Thread Cert.AdLn.nD Cert.AdLn.τ).loc Cert.AdLn.main_arg1) = m ((c.tc : Thread Cert.AdLn.nD Cert.AdLn.τ).loc Cert.AdLn.main_arg1)
      ∧ r.2.mem ((c.tc : Thread Cert.AdLn.nD Cert.AdLn.τ).loc Cert.AdLn.main_arg2) = m ((c.tc : Thread Cert.AdLn.nD Cert.AdLn.τ).loc Cert.AdLn.main_arg2)
      ∧ r.2.mem ((c.tc : Thread Cert.AdLn.nD Cert.AdLn.τ).loc Cert.AdLn.main_arg3) = m ((c.tc : Thread Cert.AdLn.nD Cert.AdLn.τ).loc Cert.AdLn.main_arg3))
      ∧ r.2.sem = fun _ => 0)

def quiescent_AdLnIdeal [hAdLnIdeal : Cert.AdLnIdeal.Facts] : Prop :=
  ∀ (m : (ℓ : Loc Cert.AdLnIdeal.nD Cert.AdLnIdeal.τ Cert.AdLnIdeal.sig) → Buf (Elt Ideal) ℓ) (g : Dev Cert.AdLnIdeal.nD → PrngReg), Pre_AdLnIdeal m →
    θ_run (Cert.AdLnIdeal.defs (F := Ideal)) (onTc (τ := Cert.AdLnIdeal.τ) (Cert.AdLnIdeal.main (F := Ideal))) ⟨m, fun _ => 0, g⟩ (fun r => (∀ c : Dev Cert.AdLnIdeal.nD,
      r.2.mem ((c.tc : Thread Cert.AdLnIdeal.nD Cert.AdLnIdeal.τ).loc Cert.AdLnIdeal.main_arg0) = m ((c.tc : Thread Cert.AdLnIdeal.nD Cert.AdLnIdeal.τ).loc Cert.AdLnIdeal.main_arg0)
      ∧ r.2.mem ((c.tc : Thread Cert.AdLnIdeal.nD Cert.AdLnIdeal.τ).loc Cert.AdLnIdeal.main_arg1) = m ((c.tc : Thread Cert.AdLnIdeal.nD Cert.AdLnIdeal.τ).loc Cert.AdLnIdeal.main_arg1)
      ∧ r.2.mem ((c.tc : Thread Cert.AdLnIdeal.nD Cert.AdLnIdeal.τ).loc Cert.AdLnIdeal.main_arg2) = m ((c.tc : Thread Cert.AdLnIdeal.nD Cert.AdLnIdeal.τ).loc Cert.AdLnIdeal.main_arg2)
      ∧ r.2.mem ((c.tc : Thread Cert.AdLnIdeal.nD Cert.AdLnIdeal.τ).loc Cert.AdLnIdeal.main_arg3) = m ((c.tc : Thread Cert.AdLnIdeal.nD Cert.AdLnIdeal.τ).loc Cert.AdLnIdeal.main_arg3))
      ∧ r.2.sem = fun _ => 0)

def quiescent_AdLnRefIdeal [hAdLnRefIdeal : Cert.AdLnRefIdeal.Facts] : Prop :=
  ∀ (m : (ℓ : Loc Cert.AdLnRefIdeal.nD Cert.AdLnRefIdeal.τ Cert.AdLnRefIdeal.sig) → Buf (Elt Ideal) ℓ) (g : Dev Cert.AdLnRefIdeal.nD → PrngReg), Pre_AdLnRefIdeal m →
    θ_run (Cert.AdLnRefIdeal.defs (F := Ideal)) (onTc (τ := Cert.AdLnRefIdeal.τ) (Cert.AdLnRefIdeal.main (F := Ideal))) ⟨m, fun _ => 0, g⟩ (fun r => (∀ c : Dev Cert.AdLnRefIdeal.nD,
      r.2.mem ((c.tc : Thread Cert.AdLnRefIdeal.nD Cert.AdLnRefIdeal.τ).loc Cert.AdLnRefIdeal.main_arg0) = m ((c.tc : Thread Cert.AdLnRefIdeal.nD Cert.AdLnRefIdeal.τ).loc Cert.AdLnRefIdeal.main_arg0)
      ∧ r.2.mem ((c.tc : Thread Cert.AdLnRefIdeal.nD Cert.AdLnRefIdeal.τ).loc Cert.AdLnRefIdeal.main_arg1) = m ((c.tc : Thread Cert.AdLnRefIdeal.nD Cert.AdLnRefIdeal.τ).loc Cert.AdLnRefIdeal.main_arg1)
      ∧ r.2.mem ((c.tc : Thread Cert.AdLnRefIdeal.nD Cert.AdLnRefIdeal.τ).loc Cert.AdLnRefIdeal.main_arg2) = m ((c.tc : Thread Cert.AdLnRefIdeal.nD Cert.AdLnRefIdeal.τ).loc Cert.AdLnRefIdeal.main_arg2)
      ∧ r.2.mem ((c.tc : Thread Cert.AdLnRefIdeal.nD Cert.AdLnRefIdeal.τ).loc Cert.AdLnRefIdeal.main_arg3) = m ((c.tc : Thread Cert.AdLnRefIdeal.nD Cert.AdLnRefIdeal.τ).loc Cert.AdLnRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_SumW [hSumW : Cert.SumW.Facts] : Prop :=
  ∀ (m : (ℓ : Loc Cert.SumW.nD Cert.SumW.τ Cert.SumW.sig) → Buf (Elt Bits) ℓ) (g : Dev Cert.SumW.nD → PrngReg), Pre_SumW m →
    θ_run (Cert.SumW.defs (F := Bits)) (onTc (τ := Cert.SumW.τ) (Cert.SumW.main (F := Bits))) ⟨m, fun _ => 0, g⟩ (fun r => (∀ c : Dev Cert.SumW.nD,
      r.2.mem ((c.tc : Thread Cert.SumW.nD Cert.SumW.τ).loc Cert.SumW.main_arg0) = m ((c.tc : Thread Cert.SumW.nD Cert.SumW.τ).loc Cert.SumW.main_arg0))
      ∧ r.2.sem = fun _ => 0)

def quiescent_SumWIdeal [hSumWIdeal : Cert.SumWIdeal.Facts] : Prop :=
  ∀ (m : (ℓ : Loc Cert.SumWIdeal.nD Cert.SumWIdeal.τ Cert.SumWIdeal.sig) → Buf (Elt Ideal) ℓ) (g : Dev Cert.SumWIdeal.nD → PrngReg), Pre_SumWIdeal m →
    θ_run (Cert.SumWIdeal.defs (F := Ideal)) (onTc (τ := Cert.SumWIdeal.τ) (Cert.SumWIdeal.main (F := Ideal))) ⟨m, fun _ => 0, g⟩ (fun r => (∀ c : Dev Cert.SumWIdeal.nD,
      r.2.mem ((c.tc : Thread Cert.SumWIdeal.nD Cert.SumWIdeal.τ).loc Cert.SumWIdeal.main_arg0) = m ((c.tc : Thread Cert.SumWIdeal.nD Cert.SumWIdeal.τ).loc Cert.SumWIdeal.main_arg0))
      ∧ r.2.sem = fun _ => 0)

def quiescent_SumWRefIdeal [hSumWRefIdeal : Cert.SumWRefIdeal.Facts] : Prop :=
  ∀ (m : (ℓ : Loc Cert.SumWRefIdeal.nD Cert.SumWRefIdeal.τ Cert.SumWRefIdeal.sig) → Buf (Elt Ideal) ℓ) (g : Dev Cert.SumWRefIdeal.nD → PrngReg), Pre_SumWRefIdeal m →
    θ_run (Cert.SumWRefIdeal.defs (F := Ideal)) (onTc (τ := Cert.SumWRefIdeal.τ) (Cert.SumWRefIdeal.main (F := Ideal))) ⟨m, fun _ => 0, g⟩ (fun r => (∀ c : Dev Cert.SumWRefIdeal.nD,
      r.2.mem ((c.tc : Thread Cert.SumWRefIdeal.nD Cert.SumWRefIdeal.τ).loc Cert.SumWRefIdeal.main_arg0) = m ((c.tc : Thread Cert.SumWRefIdeal.nD Cert.SumWRefIdeal.τ).loc Cert.SumWRefIdeal.main_arg0))
      ∧ r.2.sem = fun _ => 0)

def quiescent_SumR [hSumR : Cert.SumR.Facts] : Prop :=
  ∀ (m : (ℓ : Loc Cert.SumR.nD Cert.SumR.τ Cert.SumR.sig) → Buf (Elt Bits) ℓ) (g : Dev Cert.SumR.nD → PrngReg), Pre_SumR m →
    θ_run (Cert.SumR.defs (F := Bits)) (onTc (τ := Cert.SumR.τ) (Cert.SumR.main (F := Bits))) ⟨m, fun _ => 0, g⟩ (fun r => (∀ c : Dev Cert.SumR.nD,
      r.2.mem ((c.tc : Thread Cert.SumR.nD Cert.SumR.τ).loc Cert.SumR.main_arg0) = m ((c.tc : Thread Cert.SumR.nD Cert.SumR.τ).loc Cert.SumR.main_arg0))
      ∧ r.2.sem = fun _ => 0)

def quiescent_SumRIdeal [hSumRIdeal : Cert.SumRIdeal.Facts] : Prop :=
  ∀ (m : (ℓ : Loc Cert.SumRIdeal.nD Cert.SumRIdeal.τ Cert.SumRIdeal.sig) → Buf (Elt Ideal) ℓ) (g : Dev Cert.SumRIdeal.nD → PrngReg), Pre_SumRIdeal m →
    θ_run (Cert.SumRIdeal.defs (F := Ideal)) (onTc (τ := Cert.SumRIdeal.τ) (Cert.SumRIdeal.main (F := Ideal))) ⟨m, fun _ => 0, g⟩ (fun r => (∀ c : Dev Cert.SumRIdeal.nD,
      r.2.mem ((c.tc : Thread Cert.SumRIdeal.nD Cert.SumRIdeal.τ).loc Cert.SumRIdeal.main_arg0) = m ((c.tc : Thread Cert.SumRIdeal.nD Cert.SumRIdeal.τ).loc Cert.SumRIdeal.main_arg0))
      ∧ r.2.sem = fun _ => 0)

def quiescent_SumRRefIdeal [hSumRRefIdeal : Cert.SumRRefIdeal.Facts] : Prop :=
  ∀ (m : (ℓ : Loc Cert.SumRRefIdeal.nD Cert.SumRRefIdeal.τ Cert.SumRRefIdeal.sig) → Buf (Elt Ideal) ℓ) (g : Dev Cert.SumRRefIdeal.nD → PrngReg), Pre_SumRRefIdeal m →
    θ_run (Cert.SumRRefIdeal.defs (F := Ideal)) (onTc (τ := Cert.SumRRefIdeal.τ) (Cert.SumRRefIdeal.main (F := Ideal))) ⟨m, fun _ => 0, g⟩ (fun r => (∀ c : Dev Cert.SumRRefIdeal.nD,
      r.2.mem ((c.tc : Thread Cert.SumRRefIdeal.nD Cert.SumRRefIdeal.τ).loc Cert.SumRRefIdeal.main_arg0) = m ((c.tc : Thread Cert.SumRRefIdeal.nD Cert.SumRRefIdeal.τ).loc Cert.SumRRefIdeal.main_arg0))
      ∧ r.2.sem = fun _ => 0)

def quiescent_LnF [hLnF : Cert.LnF.Facts] : Prop :=
  ∀ (m : (ℓ : Loc Cert.LnF.nD Cert.LnF.τ Cert.LnF.sig) → Buf (Elt Bits) ℓ) (g : Dev Cert.LnF.nD → PrngReg), Pre_LnF m →
    θ_run (Cert.LnF.defs (F := Bits)) (onTc (τ := Cert.LnF.τ) (Cert.LnF.main (F := Bits))) ⟨m, fun _ => 0, g⟩ (fun r => (∀ c : Dev Cert.LnF.nD,
      r.2.mem ((c.tc : Thread Cert.LnF.nD Cert.LnF.τ).loc Cert.LnF.main_arg0) = m ((c.tc : Thread Cert.LnF.nD Cert.LnF.τ).loc Cert.LnF.main_arg0)
      ∧ r.2.mem ((c.tc : Thread Cert.LnF.nD Cert.LnF.τ).loc Cert.LnF.main_arg1) = m ((c.tc : Thread Cert.LnF.nD Cert.LnF.τ).loc Cert.LnF.main_arg1)
      ∧ r.2.mem ((c.tc : Thread Cert.LnF.nD Cert.LnF.τ).loc Cert.LnF.main_arg2) = m ((c.tc : Thread Cert.LnF.nD Cert.LnF.τ).loc Cert.LnF.main_arg2)
      ∧ r.2.mem ((c.tc : Thread Cert.LnF.nD Cert.LnF.τ).loc Cert.LnF.main_arg3) = m ((c.tc : Thread Cert.LnF.nD Cert.LnF.τ).loc Cert.LnF.main_arg3))
      ∧ r.2.sem = fun _ => 0)

def quiescent_LnFIdeal [hLnFIdeal : Cert.LnFIdeal.Facts] : Prop :=
  ∀ (m : (ℓ : Loc Cert.LnFIdeal.nD Cert.LnFIdeal.τ Cert.LnFIdeal.sig) → Buf (Elt Ideal) ℓ) (g : Dev Cert.LnFIdeal.nD → PrngReg), Pre_LnFIdeal m →
    θ_run (Cert.LnFIdeal.defs (F := Ideal)) (onTc (τ := Cert.LnFIdeal.τ) (Cert.LnFIdeal.main (F := Ideal))) ⟨m, fun _ => 0, g⟩ (fun r => (∀ c : Dev Cert.LnFIdeal.nD,
      r.2.mem ((c.tc : Thread Cert.LnFIdeal.nD Cert.LnFIdeal.τ).loc Cert.LnFIdeal.main_arg0) = m ((c.tc : Thread Cert.LnFIdeal.nD Cert.LnFIdeal.τ).loc Cert.LnFIdeal.main_arg0)
      ∧ r.2.mem ((c.tc : Thread Cert.LnFIdeal.nD Cert.LnFIdeal.τ).loc Cert.LnFIdeal.main_arg1) = m ((c.tc : Thread Cert.LnFIdeal.nD Cert.LnFIdeal.τ).loc Cert.LnFIdeal.main_arg1)
      ∧ r.2.mem ((c.tc : Thread Cert.LnFIdeal.nD Cert.LnFIdeal.τ).loc Cert.LnFIdeal.main_arg2) = m ((c.tc : Thread Cert.LnFIdeal.nD Cert.LnFIdeal.τ).loc Cert.LnFIdeal.main_arg2)
      ∧ r.2.mem ((c.tc : Thread Cert.LnFIdeal.nD Cert.LnFIdeal.τ).loc Cert.LnFIdeal.main_arg3) = m ((c.tc : Thread Cert.LnFIdeal.nD Cert.LnFIdeal.τ).loc Cert.LnFIdeal.main_arg3))
      ∧ r.2.sem = fun _ => 0)

def quiescent_LnFRefIdeal [hLnFRefIdeal : Cert.LnFRefIdeal.Facts] : Prop :=
  ∀ (m : (ℓ : Loc Cert.LnFRefIdeal.nD Cert.LnFRefIdeal.τ Cert.LnFRefIdeal.sig) → Buf (Elt Ideal) ℓ) (g : Dev Cert.LnFRefIdeal.nD → PrngReg), Pre_LnFRefIdeal m →
    θ_run (Cert.LnFRefIdeal.defs (F := Ideal)) (onTc (τ := Cert.LnFRefIdeal.τ) (Cert.LnFRefIdeal.main (F := Ideal))) ⟨m, fun _ => 0, g⟩ (fun r => (∀ c : Dev Cert.LnFRefIdeal.nD,
      r.2.mem ((c.tc : Thread Cert.LnFRefIdeal.nD Cert.LnFRefIdeal.τ).loc Cert.LnFRefIdeal.main_arg0) = m ((c.tc : Thread Cert.LnFRefIdeal.nD Cert.LnFRefIdeal.τ).loc Cert.LnFRefIdeal.main_arg0)
      ∧ r.2.mem ((c.tc : Thread Cert.LnFRefIdeal.nD Cert.LnFRefIdeal.τ).loc Cert.LnFRefIdeal.main_arg1) = m ((c.tc : Thread Cert.LnFRefIdeal.nD Cert.LnFRefIdeal.τ).loc Cert.LnFRefIdeal.main_arg1)
      ∧ r.2.mem ((c.tc : Thread Cert.LnFRefIdeal.nD Cert.LnFRefIdeal.τ).loc Cert.LnFRefIdeal.main_arg2) = m ((c.tc : Thread Cert.LnFRefIdeal.nD Cert.LnFRefIdeal.τ).loc Cert.LnFRefIdeal.main_arg2)
      ∧ r.2.mem ((c.tc : Thread Cert.LnFRefIdeal.nD Cert.LnFRefIdeal.τ).loc Cert.LnFRefIdeal.main_arg3) = m ((c.tc : Thread Cert.LnFRefIdeal.nD Cert.LnFRefIdeal.τ).loc Cert.LnFRefIdeal.main_arg3))
      ∧ r.2.sem = fun _ => 0)

def preserves_DownW_DownWIdeal : Prop :=
  True

def algebraic_DownWIdeal_DownWRefIdeal [hDownWIdeal : Cert.DownWIdeal.Facts] [hDownWRefIdeal : Cert.DownWRefIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.DownWRefIdeal.nD Cert.DownWRefIdeal.τ Cert.DownWRefIdeal.sig) → Buf (Elt Ideal) ℓ) (g' : Dev Cert.DownWRefIdeal.nD → PrngReg), Pre_DownWIdeal m →
    (∀ c : Dev Cert.DownWIdeal.nD,
      m' ((c.tc : Thread Cert.DownWRefIdeal.nD Cert.DownWRefIdeal.τ).loc Cert.DownWRefIdeal.main_arg0) = m ((c.tc : Thread Cert.DownWIdeal.nD Cert.DownWIdeal.τ).loc Cert.DownWIdeal.main_arg0)
      ∧ m' ((c.tc : Thread Cert.DownWRefIdeal.nD Cert.DownWRefIdeal.τ).loc Cert.DownWRefIdeal.main_arg1) = m ((c.tc : Thread Cert.DownWIdeal.nD Cert.DownWIdeal.τ).loc Cert.DownWIdeal.main_arg1)
      ∧ m' ((c.tc : Thread Cert.DownWRefIdeal.nD Cert.DownWRefIdeal.τ).loc Cert.DownWRefIdeal.main_arg2) = m ((c.tc : Thread Cert.DownWIdeal.nD Cert.DownWIdeal.τ).loc Cert.DownWIdeal.main_arg2)) →
    ∃ (v0 : (c : Dev Cert.DownWIdeal.nD) → Buf (Elt Ideal) ((c.tc : Thread Cert.DownWIdeal.nD Cert.DownWIdeal.τ).loc Cert.DownWIdeal.main_v2)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v2) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1)
          ∧ r.2.mem ((c.tc : Thread Cert.DownWIdeal.nD Cert.DownWIdeal.τ).loc Cert.DownWIdeal.main_arg2) = m ((c.tc : Thread Cert.DownWIdeal.nD Cert.DownWIdeal.τ).loc Cert.DownWIdeal.main_arg2))
      ∧ θ_run (Cert.DownWRefIdeal.defs (F := Ideal)) (onTc (τ := Cert.DownWRefIdeal.τ) (Cert.DownWRefIdeal.main (F := Ideal))) ⟨m', fun _ => 0, g'⟩ (fun r => ∀ c : Dev Cert.DownWRefIdeal.nD,
          r.2.mem ((c.tc : Thread Cert.DownWRefIdeal.nD Cert.DownWRefIdeal.τ).loc Cert.DownWRefIdeal.main_v2) = v0 c
          ∧ r.2.mem ((c.tc : Thread Cert.DownWRefIdeal.nD Cert.DownWRefIdeal.τ).loc Cert.DownWRefIdeal.main_arg0) = m' ((c.tc : Thread Cert.DownWRefIdeal.nD Cert.DownWRefIdeal.τ).loc Cert.DownWRefIdeal.main_arg0)
          ∧ r.2.mem ((c.tc : Thread Cert.DownWRefIdeal.nD Cert.DownWRefIdeal.τ).loc Cert.DownWRefIdeal.main_arg1) = m' ((c.tc : Thread Cert.DownWRefIdeal.nD Cert.DownWRefIdeal.τ).loc Cert.DownWRefIdeal.main_arg1)
          ∧ r.2.mem ((c.tc : Thread Cert.DownWRefIdeal.nD Cert.DownWRefIdeal.τ).loc Cert.DownWRefIdeal.main_arg2) = m' ((c.tc : Thread Cert.DownWRefIdeal.nD Cert.DownWRefIdeal.τ).loc Cert.DownWRefIdeal.main_arg2))

def preserves_DownX_DownXIdeal : Prop :=
  True

def algebraic_DownXIdeal_DownXRefIdeal [hDownXIdeal : Cert.DownXIdeal.Facts] [hDownXRefIdeal : Cert.DownXRefIdeal.Facts] : Prop :=
  ∀ (m : (ℓ : Loc Cert.DownXIdeal.nD Cert.DownXIdeal.τ Cert.DownXIdeal.sig) → Buf (Elt Ideal) ℓ) (g : Dev Cert.DownXIdeal.nD → PrngReg)
    (m' : (ℓ : Loc Cert.DownXRefIdeal.nD Cert.DownXRefIdeal.τ Cert.DownXRefIdeal.sig) → Buf (Elt Ideal) ℓ) (g' : Dev Cert.DownXRefIdeal.nD → PrngReg), Pre_DownXIdeal m →
    (∀ c : Dev Cert.DownXIdeal.nD,
      m' ((c.tc : Thread Cert.DownXRefIdeal.nD Cert.DownXRefIdeal.τ).loc Cert.DownXRefIdeal.main_arg0) = m ((c.tc : Thread Cert.DownXIdeal.nD Cert.DownXIdeal.τ).loc Cert.DownXIdeal.main_arg0)
      ∧ m' ((c.tc : Thread Cert.DownXRefIdeal.nD Cert.DownXRefIdeal.τ).loc Cert.DownXRefIdeal.main_arg1) = m ((c.tc : Thread Cert.DownXIdeal.nD Cert.DownXIdeal.τ).loc Cert.DownXIdeal.main_arg1)
      ∧ m' ((c.tc : Thread Cert.DownXRefIdeal.nD Cert.DownXRefIdeal.τ).loc Cert.DownXRefIdeal.main_arg2) = m ((c.tc : Thread Cert.DownXIdeal.nD Cert.DownXIdeal.τ).loc Cert.DownXIdeal.main_arg2)) →
    ∃ (v0 : (c : Dev Cert.DownXIdeal.nD) → Buf (Elt Ideal) ((c.tc : Thread Cert.DownXIdeal.nD Cert.DownXIdeal.τ).loc Cert.DownXIdeal.main_v2)),
      θ_run (Cert.DownXIdeal.defs (F := Ideal)) (onTc (τ := Cert.DownXIdeal.τ) (Cert.DownXIdeal.main (F := Ideal))) ⟨m, fun _ => 0, g⟩ (fun r => ∀ c : Dev Cert.DownXIdeal.nD,
          r.2.mem ((c.tc : Thread Cert.DownXIdeal.nD Cert.DownXIdeal.τ).loc Cert.DownXIdeal.main_v2) = v0 c
          ∧ r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
          ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1)
          ∧ r.2.mem ((c.tc : Thread Cert.DownXIdeal.nD Cert.DownXIdeal.τ).loc Cert.DownXIdeal.main_arg2) = m ((c.tc : Thread Cert.DownXIdeal.nD Cert.DownXIdeal.τ).loc Cert.DownXIdeal.main_arg2))
      ∧ θ_run (Cert.DownXRefIdeal.defs (F := Ideal)) (onTc (τ := Cert.DownXRefIdeal.τ) (Cert.DownXRefIdeal.main (F := Ideal))) ⟨m', fun _ => 0, g'⟩ (fun r => ∀ c : Dev Cert.DownXRefIdeal.nD,
          r.2.mem ((c.tc : Thread Cert.DownXRefIdeal.nD Cert.DownXRefIdeal.τ).loc Cert.DownXRefIdeal.main_v3) = v0 c
          ∧ r.2.mem ((c.tc : Thread Cert.DownXRefIdeal.nD Cert.DownXRefIdeal.τ).loc Cert.DownXRefIdeal.main_arg0) = m' ((c.tc : Thread Cert.DownXRefIdeal.nD Cert.DownXRefIdeal.τ).loc Cert.DownXRefIdeal.main_arg0)
          ∧ r.2.mem ((c.tc : Thread Cert.DownXRefIdeal.nD Cert.DownXRefIdeal.τ).loc Cert.DownXRefIdeal.main_arg1) = m' ((c.tc : Thread Cert.DownXRefIdeal.nD Cert.DownXRefIdeal.τ).loc Cert.DownXRefIdeal.main_arg1)
          ∧ r.2.mem ((c.tc : Thread Cert.DownXRefIdeal.nD Cert.DownXRefIdeal.τ).loc Cert.DownXRefIdeal.main_arg2) = m' ((c.tc : Thread Cert.DownXRefIdeal.nD Cert.DownXRefIdeal.τ).loc Cert.DownXRefIdeal.main_arg2))

def preserves_UpW_UpWIdeal : Prop :=
  True

def algebraic_UpWIdeal_UpWRefIdeal [hUpWIdeal : Cert.UpWIdeal.Facts] [hUpWRefIdeal : Cert.UpWRefIdeal.Facts] : Prop :=
  ∀ (m : (ℓ : Loc Cert.UpWIdeal.nD Cert.UpWIdeal.τ Cert.UpWIdeal.sig) → Buf (Elt Ideal) ℓ) (g : Dev Cert.UpWIdeal.nD → PrngReg)
    (m' : (ℓ : Loc Cert.UpWRefIdeal.nD Cert.UpWRefIdeal.τ Cert.UpWRefIdeal.sig) → Buf (Elt Ideal) ℓ) (g' : Dev Cert.UpWRefIdeal.nD → PrngReg), Pre_UpWIdeal m →
    (∀ c : Dev Cert.UpWIdeal.nD,
      m' ((c.tc : Thread Cert.UpWRefIdeal.nD Cert.UpWRefIdeal.τ).loc Cert.UpWRefIdeal.main_arg0) = m ((c.tc : Thread Cert.UpWIdeal.nD Cert.UpWIdeal.τ).loc Cert.UpWIdeal.main_arg0)
      ∧ m' ((c.tc : Thread Cert.UpWRefIdeal.nD Cert.UpWRefIdeal.τ).loc Cert.UpWRefIdeal.main_arg1) = m ((c.tc : Thread Cert.UpWIdeal.nD Cert.UpWIdeal.τ).loc Cert.UpWIdeal.main_arg1)
      ∧ m' ((c.tc : Thread Cert.UpWRefIdeal.nD Cert.UpWRefIdeal.τ).loc Cert.UpWRefIdeal.main_arg2) = m ((c.tc : Thread Cert.UpWIdeal.nD Cert.UpWIdeal.τ).loc Cert.UpWIdeal.main_arg2)) →
    ∃ (v0 : (c : Dev Cert.UpWIdeal.nD) → Buf (Elt Ideal) ((c.tc : Thread Cert.UpWIdeal.nD Cert.UpWIdeal.τ).loc Cert.UpWIdeal.main_v2)),
      θ_run (Cert.UpWIdeal.defs (F := Ideal)) (onTc (τ := Cert.UpWIdeal.τ) (Cert.UpWIdeal.main (F := Ideal))) ⟨m, fun _ => 0, g⟩ (fun r => ∀ c : Dev Cert.UpWIdeal.nD,
          r.2.mem ((c.tc : Thread Cert.UpWIdeal.nD Cert.UpWIdeal.τ).loc Cert.UpWIdeal.main_v2) = v0 c
          ∧ r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
          ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1)
          ∧ r.2.mem ((c.tc : Thread Cert.UpWIdeal.nD Cert.UpWIdeal.τ).loc Cert.UpWIdeal.main_arg2) = m ((c.tc : Thread Cert.UpWIdeal.nD Cert.UpWIdeal.τ).loc Cert.UpWIdeal.main_arg2))
      ∧ θ_run (Cert.UpWRefIdeal.defs (F := Ideal)) (onTc (τ := Cert.UpWRefIdeal.τ) (Cert.UpWRefIdeal.main (F := Ideal))) ⟨m', fun _ => 0, g'⟩ (fun r => ∀ c : Dev Cert.UpWRefIdeal.nD,
          r.2.mem ((c.tc : Thread Cert.UpWRefIdeal.nD Cert.UpWRefIdeal.τ).loc Cert.UpWRefIdeal.main_v2) = v0 c
          ∧ r.2.mem ((c.tc : Thread Cert.UpWRefIdeal.nD Cert.UpWRefIdeal.τ).loc Cert.UpWRefIdeal.main_arg0) = m' ((c.tc : Thread Cert.UpWRefIdeal.nD Cert.UpWRefIdeal.τ).loc Cert.UpWRefIdeal.main_arg0)
          ∧ r.2.mem ((c.tc : Thread Cert.UpWRefIdeal.nD Cert.UpWRefIdeal.τ).loc Cert.UpWRefIdeal.main_arg1) = m' ((c.tc : Thread Cert.UpWRefIdeal.nD Cert.UpWRefIdeal.τ).loc Cert.UpWRefIdeal.main_arg1)
          ∧ r.2.mem ((c.tc : Thread Cert.UpWRefIdeal.nD Cert.UpWRefIdeal.τ).loc Cert.UpWRefIdeal.main_arg2) = m' ((c.tc : Thread Cert.UpWRefIdeal.nD Cert.UpWRefIdeal.τ).loc Cert.UpWRefIdeal.main_arg2))

def preserves_UpX_UpXIdeal : Prop :=
  True

def algebraic_UpXIdeal_UpXRefIdeal [hUpXIdeal : Cert.UpXIdeal.Facts] [hUpXRefIdeal : Cert.UpXRefIdeal.Facts] : Prop :=
  ∀ (m : (ℓ : Loc Cert.UpXIdeal.nD Cert.UpXIdeal.τ Cert.UpXIdeal.sig) → Buf (Elt Ideal) ℓ) (g : Dev Cert.UpXIdeal.nD → PrngReg)
    (m' : (ℓ : Loc Cert.UpXRefIdeal.nD Cert.UpXRefIdeal.τ Cert.UpXRefIdeal.sig) → Buf (Elt Ideal) ℓ) (g' : Dev Cert.UpXRefIdeal.nD → PrngReg), Pre_UpXIdeal m →
    (∀ c : Dev Cert.UpXIdeal.nD,
      m' ((c.tc : Thread Cert.UpXRefIdeal.nD Cert.UpXRefIdeal.τ).loc Cert.UpXRefIdeal.main_arg0) = m ((c.tc : Thread Cert.UpXIdeal.nD Cert.UpXIdeal.τ).loc Cert.UpXIdeal.main_arg0)
      ∧ m' ((c.tc : Thread Cert.UpXRefIdeal.nD Cert.UpXRefIdeal.τ).loc Cert.UpXRefIdeal.main_arg1) = m ((c.tc : Thread Cert.UpXIdeal.nD Cert.UpXIdeal.τ).loc Cert.UpXIdeal.main_arg1)
      ∧ m' ((c.tc : Thread Cert.UpXRefIdeal.nD Cert.UpXRefIdeal.τ).loc Cert.UpXRefIdeal.main_arg2) = m ((c.tc : Thread Cert.UpXIdeal.nD Cert.UpXIdeal.τ).loc Cert.UpXIdeal.main_arg2)
      ∧ m' ((c.tc : Thread Cert.UpXRefIdeal.nD Cert.UpXRefIdeal.τ).loc Cert.UpXRefIdeal.main_arg3) = m ((c.tc : Thread Cert.UpXIdeal.nD Cert.UpXIdeal.τ).loc Cert.UpXIdeal.main_arg3)) →
    ∃ (v0 : (c : Dev Cert.UpXIdeal.nD) → Buf (Elt Ideal) ((c.tc : Thread Cert.UpXIdeal.nD Cert.UpXIdeal.τ).loc Cert.UpXIdeal.main_v2)),
      θ_run (Cert.UpXIdeal.defs (F := Ideal)) (onTc (τ := Cert.UpXIdeal.τ) (Cert.UpXIdeal.main (F := Ideal))) ⟨m, fun _ => 0, g⟩ (fun r => ∀ c : Dev Cert.UpXIdeal.nD,
          r.2.mem ((c.tc : Thread Cert.UpXIdeal.nD Cert.UpXIdeal.τ).loc Cert.UpXIdeal.main_v2) = v0 c
          ∧ r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
          ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1)
          ∧ r.2.mem ((c.tc : Thread Cert.UpXIdeal.nD Cert.UpXIdeal.τ).loc Cert.UpXIdeal.main_arg2) = m ((c.tc : Thread Cert.UpXIdeal.nD Cert.UpXIdeal.τ).loc Cert.UpXIdeal.main_arg2)
          ∧ r.2.mem ((c.tc : Thread Cert.UpXIdeal.nD Cert.UpXIdeal.τ).loc Cert.UpXIdeal.main_arg3) = m ((c.tc : Thread Cert.UpXIdeal.nD Cert.UpXIdeal.τ).loc Cert.UpXIdeal.main_arg3))
      ∧ θ_run (Cert.UpXRefIdeal.defs (F := Ideal)) (onTc (τ := Cert.UpXRefIdeal.τ) (Cert.UpXRefIdeal.main (F := Ideal))) ⟨m', fun _ => 0, g'⟩ (fun r => ∀ c : Dev Cert.UpXRefIdeal.nD,
          r.2.mem ((c.tc : Thread Cert.UpXRefIdeal.nD Cert.UpXRefIdeal.τ).loc Cert.UpXRefIdeal.main_v6) = v0 c
          ∧ r.2.mem ((c.tc : Thread Cert.UpXRefIdeal.nD Cert.UpXRefIdeal.τ).loc Cert.UpXRefIdeal.main_arg0) = m' ((c.tc : Thread Cert.UpXRefIdeal.nD Cert.UpXRefIdeal.τ).loc Cert.UpXRefIdeal.main_arg0)
          ∧ r.2.mem ((c.tc : Thread Cert.UpXRefIdeal.nD Cert.UpXRefIdeal.τ).loc Cert.UpXRefIdeal.main_arg1) = m' ((c.tc : Thread Cert.UpXRefIdeal.nD Cert.UpXRefIdeal.τ).loc Cert.UpXRefIdeal.main_arg1)
          ∧ r.2.mem ((c.tc : Thread Cert.UpXRefIdeal.nD Cert.UpXRefIdeal.τ).loc Cert.UpXRefIdeal.main_arg2) = m' ((c.tc : Thread Cert.UpXRefIdeal.nD Cert.UpXRefIdeal.τ).loc Cert.UpXRefIdeal.main_arg2)
          ∧ r.2.mem ((c.tc : Thread Cert.UpXRefIdeal.nD Cert.UpXRefIdeal.τ).loc Cert.UpXRefIdeal.main_arg3) = m' ((c.tc : Thread Cert.UpXRefIdeal.nD Cert.UpXRefIdeal.τ).loc Cert.UpXRefIdeal.main_arg3))

def preserves_UpX2_UpX2Ideal : Prop :=
  True

def algebraic_UpX2Ideal_UpX2RefIdeal [hUpX2Ideal : Cert.UpX2Ideal.Facts] [hUpX2RefIdeal : Cert.UpX2RefIdeal.Facts] : Prop :=
  ∀ (m : (ℓ : Loc Cert.UpX2Ideal.nD Cert.UpX2Ideal.τ Cert.UpX2Ideal.sig) → Buf (Elt Ideal) ℓ) (g : Dev Cert.UpX2Ideal.nD → PrngReg)
    (m' : (ℓ : Loc Cert.UpX2RefIdeal.nD Cert.UpX2RefIdeal.τ Cert.UpX2RefIdeal.sig) → Buf (Elt Ideal) ℓ) (g' : Dev Cert.UpX2RefIdeal.nD → PrngReg), Pre_UpX2Ideal m →
    (∀ c : Dev Cert.UpX2Ideal.nD,
      m' ((c.tc : Thread Cert.UpX2RefIdeal.nD Cert.UpX2RefIdeal.τ).loc Cert.UpX2RefIdeal.main_arg0) = m ((c.tc : Thread Cert.UpX2Ideal.nD Cert.UpX2Ideal.τ).loc Cert.UpX2Ideal.main_arg0)
      ∧ m' ((c.tc : Thread Cert.UpX2RefIdeal.nD Cert.UpX2RefIdeal.τ).loc Cert.UpX2RefIdeal.main_arg1) = m ((c.tc : Thread Cert.UpX2Ideal.nD Cert.UpX2Ideal.τ).loc Cert.UpX2Ideal.main_arg1)
      ∧ m' ((c.tc : Thread Cert.UpX2RefIdeal.nD Cert.UpX2RefIdeal.τ).loc Cert.UpX2RefIdeal.main_arg2) = m ((c.tc : Thread Cert.UpX2Ideal.nD Cert.UpX2Ideal.τ).loc Cert.UpX2Ideal.main_arg2)
      ∧ m' ((c.tc : Thread Cert.UpX2RefIdeal.nD Cert.UpX2RefIdeal.τ).loc Cert.UpX2RefIdeal.main_arg3) = m ((c.tc : Thread Cert.UpX2Ideal.nD Cert.UpX2Ideal.τ).loc Cert.UpX2Ideal.main_arg3)) →
    ∃ (v0 : (c : Dev Cert.UpX2Ideal.nD) → Buf (Elt Ideal) ((c.tc : Thread Cert.UpX2Ideal.nD Cert.UpX2Ideal.τ).loc Cert.UpX2Ideal.main_v2)),
      θ_run (Cert.UpX2Ideal.defs (F := Ideal)) (onTc (τ := Cert.UpX2Ideal.τ) (Cert.UpX2Ideal.main (F := Ideal))) ⟨m, fun _ => 0, g⟩ (fun r => ∀ c : Dev Cert.UpX2Ideal.nD,
          r.2.mem ((c.tc : Thread Cert.UpX2Ideal.nD Cert.UpX2Ideal.τ).loc Cert.UpX2Ideal.main_v2) = v0 c
          ∧ r.2.mem ((c.tc : Thread Cert.UpX2Ideal.nD Cert.UpX2Ideal.τ).loc Cert.UpX2Ideal.main_arg0) = m ((c.tc : Thread Cert.UpX2Ideal.nD Cert.UpX2Ideal.τ).loc Cert.UpX2Ideal.main_arg0)
          ∧ r.2.mem ((c.tc : Thread Cert.UpX2Ideal.nD Cert.UpX2Ideal.τ).loc Cert.UpX2Ideal.main_arg1) = m ((c.tc : Thread Cert.UpX2Ideal.nD Cert.UpX2Ideal.τ).loc Cert.UpX2Ideal.main_arg1)
          ∧ r.2.mem ((c.tc : Thread Cert.UpX2Ideal.nD Cert.UpX2Ideal.τ).loc Cert.UpX2Ideal.main_arg2) = m ((c.tc : Thread Cert.UpX2Ideal.nD Cert.UpX2Ideal.τ).loc Cert.UpX2Ideal.main_arg2)
          ∧ r.2.mem ((c.tc : Thread Cert.UpX2Ideal.nD Cert.UpX2Ideal.τ).loc Cert.UpX2Ideal.main_arg3) = m ((c.tc : Thread Cert.UpX2Ideal.nD Cert.UpX2Ideal.τ).loc Cert.UpX2Ideal.main_arg3))
      ∧ θ_run (Cert.UpX2RefIdeal.defs (F := Ideal)) (onTc (τ := Cert.UpX2RefIdeal.τ) (Cert.UpX2RefIdeal.main (F := Ideal))) ⟨m', fun _ => 0, g'⟩ (fun r => ∀ c : Dev Cert.UpX2RefIdeal.nD,
          r.2.mem ((c.tc : Thread Cert.UpX2RefIdeal.nD Cert.UpX2RefIdeal.τ).loc Cert.UpX2RefIdeal.main_v4) = v0 c
          ∧ r.2.mem ((c.tc : Thread Cert.UpX2RefIdeal.nD Cert.UpX2RefIdeal.τ).loc Cert.UpX2RefIdeal.main_arg0) = m' ((c.tc : Thread Cert.UpX2RefIdeal.nD Cert.UpX2RefIdeal.τ).loc Cert.UpX2RefIdeal.main_arg0)
          ∧ r.2.mem ((c.tc : Thread Cert.UpX2RefIdeal.nD Cert.UpX2RefIdeal.τ).loc Cert.UpX2RefIdeal.main_arg1) = m' ((c.tc : Thread Cert.UpX2RefIdeal.nD Cert.UpX2RefIdeal.τ).loc Cert.UpX2RefIdeal.main_arg1)
          ∧ r.2.mem ((c.tc : Thread Cert.UpX2RefIdeal.nD Cert.UpX2RefIdeal.τ).loc Cert.UpX2RefIdeal.main_arg2) = m' ((c.tc : Thread Cert.UpX2RefIdeal.nD Cert.UpX2RefIdeal.τ).loc Cert.UpX2RefIdeal.main_arg2)
          ∧ r.2.mem ((c.tc : Thread Cert.UpX2RefIdeal.nD Cert.UpX2RefIdeal.τ).loc Cert.UpX2RefIdeal.main_arg3) = m' ((c.tc : Thread Cert.UpX2RefIdeal.nD Cert.UpX2RefIdeal.τ).loc Cert.UpX2RefIdeal.main_arg3))

def preserves_OutW_OutWIdeal : Prop :=
  True

def algebraic_OutWIdeal_OutWRefIdeal [hOutWIdeal : Cert.OutWIdeal.Facts] [hOutWRefIdeal : Cert.OutWRefIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWRefIdeal.nD Cert.OutWRefIdeal.τ Cert.OutWRefIdeal.sig) → Buf (Elt Ideal) ℓ) (g' : Dev Cert.OutWRefIdeal.nD → PrngReg), Pre_OutWIdeal m →
    (∀ c : Dev Cert.OutWIdeal.nD,
      m' ((c.tc : Thread Cert.OutWRefIdeal.nD Cert.OutWRefIdeal.τ).loc Cert.OutWRefIdeal.main_arg0) = m ((c.tc : Thread Cert.OutWIdeal.nD Cert.OutWIdeal.τ).loc Cert.OutWIdeal.main_arg0)
      ∧ m' ((c.tc : Thread Cert.OutWRefIdeal.nD Cert.OutWRefIdeal.τ).loc Cert.OutWRefIdeal.main_arg1) = m ((c.tc : Thread Cert.OutWIdeal.nD Cert.OutWIdeal.τ).loc Cert.OutWIdeal.main_arg1)
      ∧ m' ((c.tc : Thread Cert.OutWRefIdeal.nD Cert.OutWRefIdeal.τ).loc Cert.OutWRefIdeal.main_arg2) = m ((c.tc : Thread Cert.OutWIdeal.nD Cert.OutWIdeal.τ).loc Cert.OutWIdeal.main_arg2)) →
    ∃ (v0 : (c : Dev Cert.OutWIdeal.nD) → Buf (Elt Ideal) ((c.tc : Thread Cert.OutWIdeal.nD Cert.OutWIdeal.τ).loc Cert.OutWIdeal.main_v2)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v2) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1)
          ∧ r.2.mem ((c.tc : Thread Cert.OutWIdeal.nD Cert.OutWIdeal.τ).loc Cert.OutWIdeal.main_arg2) = m ((c.tc : Thread Cert.OutWIdeal.nD Cert.OutWIdeal.τ).loc Cert.OutWIdeal.main_arg2))
      ∧ θ_run (Cert.OutWRefIdeal.defs (F := Ideal)) (onTc (τ := Cert.OutWRefIdeal.τ) (Cert.OutWRefIdeal.main (F := Ideal))) ⟨m', fun _ => 0, g'⟩ (fun r => ∀ c : Dev Cert.OutWRefIdeal.nD,
          r.2.mem ((c.tc : Thread Cert.OutWRefIdeal.nD Cert.OutWRefIdeal.τ).loc Cert.OutWRefIdeal.main_v2) = v0 c
          ∧ r.2.mem ((c.tc : Thread Cert.OutWRefIdeal.nD Cert.OutWRefIdeal.τ).loc Cert.OutWRefIdeal.main_arg0) = m' ((c.tc : Thread Cert.OutWRefIdeal.nD Cert.OutWRefIdeal.τ).loc Cert.OutWRefIdeal.main_arg0)
          ∧ r.2.mem ((c.tc : Thread Cert.OutWRefIdeal.nD Cert.OutWRefIdeal.τ).loc Cert.OutWRefIdeal.main_arg1) = m' ((c.tc : Thread Cert.OutWRefIdeal.nD Cert.OutWRefIdeal.τ).loc Cert.OutWRefIdeal.main_arg1)
          ∧ r.2.mem ((c.tc : Thread Cert.OutWRefIdeal.nD Cert.OutWRefIdeal.τ).loc Cert.OutWRefIdeal.main_arg2) = m' ((c.tc : Thread Cert.OutWRefIdeal.nD Cert.OutWRefIdeal.τ).loc Cert.OutWRefIdeal.main_arg2))

def preserves_OutX_OutXIdeal : Prop :=
  True

def algebraic_OutXIdeal_OutXRefIdeal [hOutXIdeal : Cert.OutXIdeal.Facts] [hOutXRefIdeal : Cert.OutXRefIdeal.Facts] : Prop :=
  ∀ (m : (ℓ : Loc Cert.OutXIdeal.nD Cert.OutXIdeal.τ Cert.OutXIdeal.sig) → Buf (Elt Ideal) ℓ) (g : Dev Cert.OutXIdeal.nD → PrngReg)
    (m' : (ℓ : Loc Cert.OutXRefIdeal.nD Cert.OutXRefIdeal.τ Cert.OutXRefIdeal.sig) → Buf (Elt Ideal) ℓ) (g' : Dev Cert.OutXRefIdeal.nD → PrngReg), Pre_OutXIdeal m →
    (∀ c : Dev Cert.OutXIdeal.nD,
      m' ((c.tc : Thread Cert.OutXRefIdeal.nD Cert.OutXRefIdeal.τ).loc Cert.OutXRefIdeal.main_arg0) = m ((c.tc : Thread Cert.OutXIdeal.nD Cert.OutXIdeal.τ).loc Cert.OutXIdeal.main_arg0)
      ∧ m' ((c.tc : Thread Cert.OutXRefIdeal.nD Cert.OutXRefIdeal.τ).loc Cert.OutXRefIdeal.main_arg1) = m ((c.tc : Thread Cert.OutXIdeal.nD Cert.OutXIdeal.τ).loc Cert.OutXIdeal.main_arg1)
      ∧ m' ((c.tc : Thread Cert.OutXRefIdeal.nD Cert.OutXRefIdeal.τ).loc Cert.OutXRefIdeal.main_arg2) = m ((c.tc : Thread Cert.OutXIdeal.nD Cert.OutXIdeal.τ).loc Cert.OutXIdeal.main_arg2)) →
    ∃ (v0 : (c : Dev Cert.OutXIdeal.nD) → Buf (Elt Ideal) ((c.tc : Thread Cert.OutXIdeal.nD Cert.OutXIdeal.τ).loc Cert.OutXIdeal.main_v2)),
      θ_run (Cert.OutXIdeal.defs (F := Ideal)) (onTc (τ := Cert.OutXIdeal.τ) (Cert.OutXIdeal.main (F := Ideal))) ⟨m, fun _ => 0, g⟩ (fun r => ∀ c : Dev Cert.OutXIdeal.nD,
          r.2.mem ((c.tc : Thread Cert.OutXIdeal.nD Cert.OutXIdeal.τ).loc Cert.OutXIdeal.main_v2) = v0 c
          ∧ r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
          ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1)
          ∧ r.2.mem ((c.tc : Thread Cert.OutXIdeal.nD Cert.OutXIdeal.τ).loc Cert.OutXIdeal.main_arg2) = m ((c.tc : Thread Cert.OutXIdeal.nD Cert.OutXIdeal.τ).loc Cert.OutXIdeal.main_arg2))
      ∧ θ_run (Cert.OutXRefIdeal.defs (F := Ideal)) (onTc (τ := Cert.OutXRefIdeal.τ) (Cert.OutXRefIdeal.main (F := Ideal))) ⟨m', fun _ => 0, g'⟩ (fun r => ∀ c : Dev Cert.OutXRefIdeal.nD,
          r.2.mem ((c.tc : Thread Cert.OutXRefIdeal.nD Cert.OutXRefIdeal.τ).loc Cert.OutXRefIdeal.main_v4) = v0 c
          ∧ r.2.mem ((c.tc : Thread Cert.OutXRefIdeal.nD Cert.OutXRefIdeal.τ).loc Cert.OutXRefIdeal.main_arg0) = m' ((c.tc : Thread Cert.OutXRefIdeal.nD Cert.OutXRefIdeal.τ).loc Cert.OutXRefIdeal.main_arg0)
          ∧ r.2.mem ((c.tc : Thread Cert.OutXRefIdeal.nD Cert.OutXRefIdeal.τ).loc Cert.OutXRefIdeal.main_arg1) = m' ((c.tc : Thread Cert.OutXRefIdeal.nD Cert.OutXRefIdeal.τ).loc Cert.OutXRefIdeal.main_arg1)
          ∧ r.2.mem ((c.tc : Thread Cert.OutXRefIdeal.nD Cert.OutXRefIdeal.τ).loc Cert.OutXRefIdeal.main_arg2) = m' ((c.tc : Thread Cert.OutXRefIdeal.nD Cert.OutXRefIdeal.τ).loc Cert.OutXRefIdeal.main_arg2))

def preserves_OutX2_OutX2Ideal : Prop :=
  True

def algebraic_OutX2Ideal_OutX2RefIdeal [hOutX2Ideal : Cert.OutX2Ideal.Facts] [hOutX2RefIdeal : Cert.OutX2RefIdeal.Facts] : Prop :=
  ∀ (m : (ℓ : Loc Cert.OutX2Ideal.nD Cert.OutX2Ideal.τ Cert.OutX2Ideal.sig) → Buf (Elt Ideal) ℓ) (g : Dev Cert.OutX2Ideal.nD → PrngReg)
    (m' : (ℓ : Loc Cert.OutX2RefIdeal.nD Cert.OutX2RefIdeal.τ Cert.OutX2RefIdeal.sig) → Buf (Elt Ideal) ℓ) (g' : Dev Cert.OutX2RefIdeal.nD → PrngReg), Pre_OutX2Ideal m →
    (∀ c : Dev Cert.OutX2Ideal.nD,
      m' ((c.tc : Thread Cert.OutX2RefIdeal.nD Cert.OutX2RefIdeal.τ).loc Cert.OutX2RefIdeal.main_arg0) = m ((c.tc : Thread Cert.OutX2Ideal.nD Cert.OutX2Ideal.τ).loc Cert.OutX2Ideal.main_arg0)
      ∧ m' ((c.tc : Thread Cert.OutX2RefIdeal.nD Cert.OutX2RefIdeal.τ).loc Cert.OutX2RefIdeal.main_arg1) = m ((c.tc : Thread Cert.OutX2Ideal.nD Cert.OutX2Ideal.τ).loc Cert.OutX2Ideal.main_arg1)
      ∧ m' ((c.tc : Thread Cert.OutX2RefIdeal.nD Cert.OutX2RefIdeal.τ).loc Cert.OutX2RefIdeal.main_arg2) = m ((c.tc : Thread Cert.OutX2Ideal.nD Cert.OutX2Ideal.τ).loc Cert.OutX2Ideal.main_arg2)) →
    ∃ (v0 : (c : Dev Cert.OutX2Ideal.nD) → Buf (Elt Ideal) ((c.tc : Thread Cert.OutX2Ideal.nD Cert.OutX2Ideal.τ).loc Cert.OutX2Ideal.main_v2)),
      θ_run (Cert.OutX2Ideal.defs (F := Ideal)) (onTc (τ := Cert.OutX2Ideal.τ) (Cert.OutX2Ideal.main (F := Ideal))) ⟨m, fun _ => 0, g⟩ (fun r => ∀ c : Dev Cert.OutX2Ideal.nD,
          r.2.mem ((c.tc : Thread Cert.OutX2Ideal.nD Cert.OutX2Ideal.τ).loc Cert.OutX2Ideal.main_v2) = v0 c
          ∧ r.2.mem ((c.tc : Thread Cert.OutX2Ideal.nD Cert.OutX2Ideal.τ).loc Cert.OutX2Ideal.main_arg0) = m ((c.tc : Thread Cert.OutX2Ideal.nD Cert.OutX2Ideal.τ).loc Cert.OutX2Ideal.main_arg0)
          ∧ r.2.mem ((c.tc : Thread Cert.OutX2Ideal.nD Cert.OutX2Ideal.τ).loc Cert.OutX2Ideal.main_arg1) = m ((c.tc : Thread Cert.OutX2Ideal.nD Cert.OutX2Ideal.τ).loc Cert.OutX2Ideal.main_arg1)
          ∧ r.2.mem ((c.tc : Thread Cert.OutX2Ideal.nD Cert.OutX2Ideal.τ).loc Cert.OutX2Ideal.main_arg2) = m ((c.tc : Thread Cert.OutX2Ideal.nD Cert.OutX2Ideal.τ).loc Cert.OutX2Ideal.main_arg2))
      ∧ θ_run (Cert.OutX2RefIdeal.defs (F := Ideal)) (onTc (τ := Cert.OutX2RefIdeal.τ) (Cert.OutX2RefIdeal.main (F := Ideal))) ⟨m', fun _ => 0, g'⟩ (fun r => ∀ c : Dev Cert.OutX2RefIdeal.nD,
          r.2.mem ((c.tc : Thread Cert.OutX2RefIdeal.nD Cert.OutX2RefIdeal.τ).loc Cert.OutX2RefIdeal.main_v3) = v0 c
          ∧ r.2.mem ((c.tc : Thread Cert.OutX2RefIdeal.nD Cert.OutX2RefIdeal.τ).loc Cert.OutX2RefIdeal.main_arg0) = m' ((c.tc : Thread Cert.OutX2RefIdeal.nD Cert.OutX2RefIdeal.τ).loc Cert.OutX2RefIdeal.main_arg0)
          ∧ r.2.mem ((c.tc : Thread Cert.OutX2RefIdeal.nD Cert.OutX2RefIdeal.τ).loc Cert.OutX2RefIdeal.main_arg1) = m' ((c.tc : Thread Cert.OutX2RefIdeal.nD Cert.OutX2RefIdeal.τ).loc Cert.OutX2RefIdeal.main_arg1)
          ∧ r.2.mem ((c.tc : Thread Cert.OutX2RefIdeal.nD Cert.OutX2RefIdeal.τ).loc Cert.OutX2RefIdeal.main_arg2) = m' ((c.tc : Thread Cert.OutX2RefIdeal.nD Cert.OutX2RefIdeal.τ).loc Cert.OutX2RefIdeal.main_arg2))

def preserves_QkvW_QkvWIdeal : Prop :=
  True

def algebraic_QkvWIdeal_QkvWRefIdeal [hQkvWIdeal : Cert.QkvWIdeal.Facts] [hQkvWRefIdeal : Cert.QkvWRefIdeal.Facts] : Prop :=
  ∀ (m : (ℓ : Loc Cert.QkvWIdeal.nD Cert.QkvWIdeal.τ Cert.QkvWIdeal.sig) → Buf (Elt Ideal) ℓ) (g : Dev Cert.QkvWIdeal.nD → PrngReg)
    (m' : (ℓ : Loc Cert.QkvWRefIdeal.nD Cert.QkvWRefIdeal.τ Cert.QkvWRefIdeal.sig) → Buf (Elt Ideal) ℓ) (g' : Dev Cert.QkvWRefIdeal.nD → PrngReg), Pre_QkvWIdeal m →
    (∀ c : Dev Cert.QkvWIdeal.nD,
      m' ((c.tc : Thread Cert.QkvWRefIdeal.nD Cert.QkvWRefIdeal.τ).loc Cert.QkvWRefIdeal.main_arg0) = m ((c.tc : Thread Cert.QkvWIdeal.nD Cert.QkvWIdeal.τ).loc Cert.QkvWIdeal.main_arg0)
      ∧ m' ((c.tc : Thread Cert.QkvWRefIdeal.nD Cert.QkvWRefIdeal.τ).loc Cert.QkvWRefIdeal.main_arg1) = m ((c.tc : Thread Cert.QkvWIdeal.nD Cert.QkvWIdeal.τ).loc Cert.QkvWIdeal.main_arg1)
      ∧ m' ((c.tc : Thread Cert.QkvWRefIdeal.nD Cert.QkvWRefIdeal.τ).loc Cert.QkvWRefIdeal.main_arg2) = m ((c.tc : Thread Cert.QkvWIdeal.nD Cert.QkvWIdeal.τ).loc Cert.QkvWIdeal.main_arg2)) →
    ∃ (v0 : (c : Dev Cert.QkvWIdeal.nD) → Buf (Elt Ideal) ((c.tc : Thread Cert.QkvWIdeal.nD Cert.QkvWIdeal.τ).loc Cert.QkvWIdeal.main_v2)),
      θ_run (Cert.QkvWIdeal.defs (F := Ideal)) (onTc (τ := Cert.QkvWIdeal.τ) (Cert.QkvWIdeal.main (F := Ideal))) ⟨m, fun _ => 0, g⟩ (fun r => ∀ c : Dev Cert.QkvWIdeal.nD,
          r.2.mem ((c.tc : Thread Cert.QkvWIdeal.nD Cert.QkvWIdeal.τ).loc Cert.QkvWIdeal.main_v2) = v0 c
          ∧ r.2.mem ((c.tc : Thread Cert.QkvWIdeal.nD Cert.QkvWIdeal.τ).loc Cert.QkvWIdeal.main_arg0) = m ((c.tc : Thread Cert.QkvWIdeal.nD Cert.QkvWIdeal.τ).loc Cert.QkvWIdeal.main_arg0)
          ∧ r.2.mem ((c.tc : Thread Cert.QkvWIdeal.nD Cert.QkvWIdeal.τ).loc Cert.QkvWIdeal.main_arg1) = m ((c.tc : Thread Cert.QkvWIdeal.nD Cert.QkvWIdeal.τ).loc Cert.QkvWIdeal.main_arg1)
          ∧ r.2.mem ((c.tc : Thread Cert.QkvWIdeal.nD Cert.QkvWIdeal.τ).loc Cert.QkvWIdeal.main_arg2) = m ((c.tc : Thread Cert.QkvWIdeal.nD Cert.QkvWIdeal.τ).loc Cert.QkvWIdeal.main_arg2))
      ∧ θ_run (Cert.QkvWRefIdeal.defs (F := Ideal)) (onTc (τ := Cert.QkvWRefIdeal.τ) (Cert.QkvWRefIdeal.main (F := Ideal))) ⟨m', fun _ => 0, g'⟩ (fun r => ∀ c : Dev Cert.QkvWRefIdeal.nD,
          r.2.mem ((c.tc : Thread Cert.QkvWRefIdeal.nD Cert.QkvWRefIdeal.τ).loc Cert.QkvWRefIdeal.main_v2) = v0 c
          ∧ r.2.mem ((c.tc : Thread Cert.QkvWRefIdeal.nD Cert.QkvWRefIdeal.τ).loc Cert.QkvWRefIdeal.main_arg0) = m' ((c.tc : Thread Cert.QkvWRefIdeal.nD Cert.QkvWRefIdeal.τ).loc Cert.QkvWRefIdeal.main_arg0)
          ∧ r.2.mem ((c.tc : Thread Cert.QkvWRefIdeal.nD Cert.QkvWRefIdeal.τ).loc Cert.QkvWRefIdeal.main_arg1) = m' ((c.tc : Thread Cert.QkvWRefIdeal.nD Cert.QkvWRefIdeal.τ).loc Cert.QkvWRefIdeal.main_arg1)
          ∧ r.2.mem ((c.tc : Thread Cert.QkvWRefIdeal.nD Cert.QkvWRefIdeal.τ).loc Cert.QkvWRefIdeal.main_arg2) = m' ((c.tc : Thread Cert.QkvWRefIdeal.nD Cert.QkvWRefIdeal.τ).loc Cert.QkvWRefIdeal.main_arg2))

def preserves_QkvX_QkvXIdeal : Prop :=
  True

def algebraic_QkvXIdeal_QkvXRefIdeal [hQkvXIdeal : Cert.QkvXIdeal.Facts] [hQkvXRefIdeal : Cert.QkvXRefIdeal.Facts] : Prop :=
  ∀ (m : (ℓ : Loc Cert.QkvXIdeal.nD Cert.QkvXIdeal.τ Cert.QkvXIdeal.sig) → Buf (Elt Ideal) ℓ) (g : Dev Cert.QkvXIdeal.nD → PrngReg)
    (m' : (ℓ : Loc Cert.QkvXRefIdeal.nD Cert.QkvXRefIdeal.τ Cert.QkvXRefIdeal.sig) → Buf (Elt Ideal) ℓ) (g' : Dev Cert.QkvXRefIdeal.nD → PrngReg), Pre_QkvXIdeal m →
    (∀ c : Dev Cert.QkvXIdeal.nD,
      m' ((c.tc : Thread Cert.QkvXRefIdeal.nD Cert.QkvXRefIdeal.τ).loc Cert.QkvXRefIdeal.main_arg0) = m ((c.tc : Thread Cert.QkvXIdeal.nD Cert.QkvXIdeal.τ).loc Cert.QkvXIdeal.main_arg0)
      ∧ m' ((c.tc : Thread Cert.QkvXRefIdeal.nD Cert.QkvXRefIdeal.τ).loc Cert.QkvXRefIdeal.main_arg1) = m ((c.tc : Thread Cert.QkvXIdeal.nD Cert.QkvXIdeal.τ).loc Cert.QkvXIdeal.main_arg1)
      ∧ m' ((c.tc : Thread Cert.QkvXRefIdeal.nD Cert.QkvXRefIdeal.τ).loc Cert.QkvXRefIdeal.main_arg2) = m ((c.tc : Thread Cert.QkvXIdeal.nD Cert.QkvXIdeal.τ).loc Cert.QkvXIdeal.main_arg2)
      ∧ m' ((c.tc : Thread Cert.QkvXRefIdeal.nD Cert.QkvXRefIdeal.τ).loc Cert.QkvXRefIdeal.main_arg3) = m ((c.tc : Thread Cert.QkvXIdeal.nD Cert.QkvXIdeal.τ).loc Cert.QkvXIdeal.main_arg3)) →
    ∃ (v0 : (c : Dev Cert.QkvXIdeal.nD) → Buf (Elt Ideal) ((c.tc : Thread Cert.QkvXIdeal.nD Cert.QkvXIdeal.τ).loc Cert.QkvXIdeal.main_v2)),
      θ_run (Cert.QkvXIdeal.defs (F := Ideal)) (onTc (τ := Cert.QkvXIdeal.τ) (Cert.QkvXIdeal.main (F := Ideal))) ⟨m, fun _ => 0, g⟩ (fun r => ∀ c : Dev Cert.QkvXIdeal.nD,
          r.2.mem ((c.tc : Thread Cert.QkvXIdeal.nD Cert.QkvXIdeal.τ).loc Cert.QkvXIdeal.main_v2) = v0 c
          ∧ r.2.mem ((c.tc : Thread Cert.QkvXIdeal.nD Cert.QkvXIdeal.τ).loc Cert.QkvXIdeal.main_arg0) = m ((c.tc : Thread Cert.QkvXIdeal.nD Cert.QkvXIdeal.τ).loc Cert.QkvXIdeal.main_arg0)
          ∧ r.2.mem ((c.tc : Thread Cert.QkvXIdeal.nD Cert.QkvXIdeal.τ).loc Cert.QkvXIdeal.main_arg1) = m ((c.tc : Thread Cert.QkvXIdeal.nD Cert.QkvXIdeal.τ).loc Cert.QkvXIdeal.main_arg1)
          ∧ r.2.mem ((c.tc : Thread Cert.QkvXIdeal.nD Cert.QkvXIdeal.τ).loc Cert.QkvXIdeal.main_arg2) = m ((c.tc : Thread Cert.QkvXIdeal.nD Cert.QkvXIdeal.τ).loc Cert.QkvXIdeal.main_arg2)
          ∧ r.2.mem ((c.tc : Thread Cert.QkvXIdeal.nD Cert.QkvXIdeal.τ).loc Cert.QkvXIdeal.main_arg3) = m ((c.tc : Thread Cert.QkvXIdeal.nD Cert.QkvXIdeal.τ).loc Cert.QkvXIdeal.main_arg3))
      ∧ θ_run (Cert.QkvXRefIdeal.defs (F := Ideal)) (onTc (τ := Cert.QkvXRefIdeal.τ) (Cert.QkvXRefIdeal.main (F := Ideal))) ⟨m', fun _ => 0, g'⟩ (fun r => ∀ c : Dev Cert.QkvXRefIdeal.nD,
          r.2.mem ((c.tc : Thread Cert.QkvXRefIdeal.nD Cert.QkvXRefIdeal.τ).loc Cert.QkvXRefIdeal.main_v6) = v0 c
          ∧ r.2.mem ((c.tc : Thread Cert.QkvXRefIdeal.nD Cert.QkvXRefIdeal.τ).loc Cert.QkvXRefIdeal.main_arg0) = m' ((c.tc : Thread Cert.QkvXRefIdeal.nD Cert.QkvXRefIdeal.τ).loc Cert.QkvXRefIdeal.main_arg0)
          ∧ r.2.mem ((c.tc : Thread Cert.QkvXRefIdeal.nD Cert.QkvXRefIdeal.τ).loc Cert.QkvXRefIdeal.main_arg1) = m' ((c.tc : Thread Cert.QkvXRefIdeal.nD Cert.QkvXRefIdeal.τ).loc Cert.QkvXRefIdeal.main_arg1)
          ∧ r.2.mem ((c.tc : Thread Cert.QkvXRefIdeal.nD Cert.QkvXRefIdeal.τ).loc Cert.QkvXRefIdeal.main_arg2) = m' ((c.tc : Thread Cert.QkvXRefIdeal.nD Cert.QkvXRefIdeal.τ).loc Cert.QkvXRefIdeal.main_arg2)
          ∧ r.2.mem ((c.tc : Thread Cert.QkvXRefIdeal.nD Cert.QkvXRefIdeal.τ).loc Cert.QkvXRefIdeal.main_arg3) = m' ((c.tc : Thread Cert.QkvXRefIdeal.nD Cert.QkvXRefIdeal.τ).loc Cert.QkvXRefIdeal.main_arg3))

def preserves_GlaW_GlaWIdeal : Prop :=
  True

def algebraic_GlaWIdeal_GlaWRefIdeal [hGlaWIdeal : Cert.GlaWIdeal.Facts] [hGlaWRefIdeal : Cert.GlaWRefIdeal.Facts] : Prop :=
  ∀ (m : (ℓ : Loc Cert.GlaWIdeal.nD Cert.GlaWIdeal.τ Cert.GlaWIdeal.sig) → Buf (Elt Ideal) ℓ) (g : Dev Cert.GlaWIdeal.nD → PrngReg)
    (m' : (ℓ : Loc Cert.GlaWRefIdeal.nD Cert.GlaWRefIdeal.τ Cert.GlaWRefIdeal.sig) → Buf (Elt Ideal) ℓ) (g' : Dev Cert.GlaWRefIdeal.nD → PrngReg), Pre_GlaWIdeal m →
    (∀ c : Dev Cert.GlaWIdeal.nD,
      m' ((c.tc : Thread Cert.GlaWRefIdeal.nD Cert.GlaWRefIdeal.τ).loc Cert.GlaWRefIdeal.main_arg0) = m ((c.tc : Thread Cert.GlaWIdeal.nD Cert.GlaWIdeal.τ).loc Cert.GlaWIdeal.main_arg0)
      ∧ m' ((c.tc : Thread Cert.GlaWRefIdeal.nD Cert.GlaWRefIdeal.τ).loc Cert.GlaWRefIdeal.main_arg1) = m ((c.tc : Thread Cert.GlaWIdeal.nD Cert.GlaWIdeal.τ).loc Cert.GlaWIdeal.main_arg1)
      ∧ m' ((c.tc : Thread Cert.GlaWRefIdeal.nD Cert.GlaWRefIdeal.τ).loc Cert.GlaWRefIdeal.main_arg2) = m ((c.tc : Thread Cert.GlaWIdeal.nD Cert.GlaWIdeal.τ).loc Cert.GlaWIdeal.main_arg2)) →
    ∃ (v0 : (c : Dev Cert.GlaWIdeal.nD) → Buf (Elt Ideal) ((c.tc : Thread Cert.GlaWIdeal.nD Cert.GlaWIdeal.τ).loc Cert.GlaWIdeal.main_v2)),
      θ_run (Cert.GlaWIdeal.defs (F := Ideal)) (onTc (τ := Cert.GlaWIdeal.τ) (Cert.GlaWIdeal.main (F := Ideal))) ⟨m, fun _ => 0, g⟩ (fun r => ∀ c : Dev Cert.GlaWIdeal.nD,
          r.2.mem ((c.tc : Thread Cert.GlaWIdeal.nD Cert.GlaWIdeal.τ).loc Cert.GlaWIdeal.main_v2) = v0 c
          ∧ r.2.mem ((c.tc : Thread Cert.GlaWIdeal.nD Cert.GlaWIdeal.τ).loc Cert.GlaWIdeal.main_arg0) = m ((c.tc : Thread Cert.GlaWIdeal.nD Cert.GlaWIdeal.τ).loc Cert.GlaWIdeal.main_arg0)
          ∧ r.2.mem ((c.tc : Thread Cert.GlaWIdeal.nD Cert.GlaWIdeal.τ).loc Cert.GlaWIdeal.main_arg1) = m ((c.tc : Thread Cert.GlaWIdeal.nD Cert.GlaWIdeal.τ).loc Cert.GlaWIdeal.main_arg1)
          ∧ r.2.mem ((c.tc : Thread Cert.GlaWIdeal.nD Cert.GlaWIdeal.τ).loc Cert.GlaWIdeal.main_arg2) = m ((c.tc : Thread Cert.GlaWIdeal.nD Cert.GlaWIdeal.τ).loc Cert.GlaWIdeal.main_arg2))
      ∧ θ_run (Cert.GlaWRefIdeal.defs (F := Ideal)) (onTc (τ := Cert.GlaWRefIdeal.τ) (Cert.GlaWRefIdeal.main (F := Ideal))) ⟨m', fun _ => 0, g'⟩ (fun r => ∀ c : Dev Cert.GlaWRefIdeal.nD,
          r.2.mem ((c.tc : Thread Cert.GlaWRefIdeal.nD Cert.GlaWRefIdeal.τ).loc Cert.GlaWRefIdeal.main_v2) = v0 c
          ∧ r.2.mem ((c.tc : Thread Cert.GlaWRefIdeal.nD Cert.GlaWRefIdeal.τ).loc Cert.GlaWRefIdeal.main_arg0) = m' ((c.tc : Thread Cert.GlaWRefIdeal.nD Cert.GlaWRefIdeal.τ).loc Cert.GlaWRefIdeal.main_arg0)
          ∧ r.2.mem ((c.tc : Thread Cert.GlaWRefIdeal.nD Cert.GlaWRefIdeal.τ).loc Cert.GlaWRefIdeal.main_arg1) = m' ((c.tc : Thread Cert.GlaWRefIdeal.nD Cert.GlaWRefIdeal.τ).loc Cert.GlaWRefIdeal.main_arg1)
          ∧ r.2.mem ((c.tc : Thread Cert.GlaWRefIdeal.nD Cert.GlaWRefIdeal.τ).loc Cert.GlaWRefIdeal.main_arg2) = m' ((c.tc : Thread Cert.GlaWRefIdeal.nD Cert.GlaWRefIdeal.τ).loc Cert.GlaWRefIdeal.main_arg2))

def preserves_GlaX_GlaXIdeal : Prop :=
  True

def algebraic_GlaXIdeal_GlaXRefIdeal [hGlaXIdeal : Cert.GlaXIdeal.Facts] [hGlaXRefIdeal : Cert.GlaXRefIdeal.Facts] : Prop :=
  ∀ (m : (ℓ : Loc Cert.GlaXIdeal.nD Cert.GlaXIdeal.τ Cert.GlaXIdeal.sig) → Buf (Elt Ideal) ℓ) (g : Dev Cert.GlaXIdeal.nD → PrngReg)
    (m' : (ℓ : Loc Cert.GlaXRefIdeal.nD Cert.GlaXRefIdeal.τ Cert.GlaXRefIdeal.sig) → Buf (Elt Ideal) ℓ) (g' : Dev Cert.GlaXRefIdeal.nD → PrngReg), Pre_GlaXIdeal m →
    (∀ c : Dev Cert.GlaXIdeal.nD,
      m' ((c.tc : Thread Cert.GlaXRefIdeal.nD Cert.GlaXRefIdeal.τ).loc Cert.GlaXRefIdeal.main_arg0) = m ((c.tc : Thread Cert.GlaXIdeal.nD Cert.GlaXIdeal.τ).loc Cert.GlaXIdeal.main_arg0)
      ∧ m' ((c.tc : Thread Cert.GlaXRefIdeal.nD Cert.GlaXRefIdeal.τ).loc Cert.GlaXRefIdeal.main_arg1) = m ((c.tc : Thread Cert.GlaXIdeal.nD Cert.GlaXIdeal.τ).loc Cert.GlaXIdeal.main_arg1)
      ∧ m' ((c.tc : Thread Cert.GlaXRefIdeal.nD Cert.GlaXRefIdeal.τ).loc Cert.GlaXRefIdeal.main_arg2) = m ((c.tc : Thread Cert.GlaXIdeal.nD Cert.GlaXIdeal.τ).loc Cert.GlaXIdeal.main_arg2)
      ∧ m' ((c.tc : Thread Cert.GlaXRefIdeal.nD Cert.GlaXRefIdeal.τ).loc Cert.GlaXRefIdeal.main_arg3) = m ((c.tc : Thread Cert.GlaXIdeal.nD Cert.GlaXIdeal.τ).loc Cert.GlaXIdeal.main_arg3)) →
    ∃ (v0 : (c : Dev Cert.GlaXIdeal.nD) → Buf (Elt Ideal) ((c.tc : Thread Cert.GlaXIdeal.nD Cert.GlaXIdeal.τ).loc Cert.GlaXIdeal.main_v2)),
      θ_run (Cert.GlaXIdeal.defs (F := Ideal)) (onTc (τ := Cert.GlaXIdeal.τ) (Cert.GlaXIdeal.main (F := Ideal))) ⟨m, fun _ => 0, g⟩ (fun r => ∀ c : Dev Cert.GlaXIdeal.nD,
          r.2.mem ((c.tc : Thread Cert.GlaXIdeal.nD Cert.GlaXIdeal.τ).loc Cert.GlaXIdeal.main_v2) = v0 c
          ∧ r.2.mem ((c.tc : Thread Cert.GlaXIdeal.nD Cert.GlaXIdeal.τ).loc Cert.GlaXIdeal.main_arg0) = m ((c.tc : Thread Cert.GlaXIdeal.nD Cert.GlaXIdeal.τ).loc Cert.GlaXIdeal.main_arg0)
          ∧ r.2.mem ((c.tc : Thread Cert.GlaXIdeal.nD Cert.GlaXIdeal.τ).loc Cert.GlaXIdeal.main_arg1) = m ((c.tc : Thread Cert.GlaXIdeal.nD Cert.GlaXIdeal.τ).loc Cert.GlaXIdeal.main_arg1)
          ∧ r.2.mem ((c.tc : Thread Cert.GlaXIdeal.nD Cert.GlaXIdeal.τ).loc Cert.GlaXIdeal.main_arg2) = m ((c.tc : Thread Cert.GlaXIdeal.nD Cert.GlaXIdeal.τ).loc Cert.GlaXIdeal.main_arg2)
          ∧ r.2.mem ((c.tc : Thread Cert.GlaXIdeal.nD Cert.GlaXIdeal.τ).loc Cert.GlaXIdeal.main_arg3) = m ((c.tc : Thread Cert.GlaXIdeal.nD Cert.GlaXIdeal.τ).loc Cert.GlaXIdeal.main_arg3))
      ∧ θ_run (Cert.GlaXRefIdeal.defs (F := Ideal)) (onTc (τ := Cert.GlaXRefIdeal.τ) (Cert.GlaXRefIdeal.main (F := Ideal))) ⟨m', fun _ => 0, g'⟩ (fun r => ∀ c : Dev Cert.GlaXRefIdeal.nD,
          r.2.mem ((c.tc : Thread Cert.GlaXRefIdeal.nD Cert.GlaXRefIdeal.τ).loc Cert.GlaXRefIdeal.main_v6) = v0 c
          ∧ r.2.mem ((c.tc : Thread Cert.GlaXRefIdeal.nD Cert.GlaXRefIdeal.τ).loc Cert.GlaXRefIdeal.main_arg0) = m' ((c.tc : Thread Cert.GlaXRefIdeal.nD Cert.GlaXRefIdeal.τ).loc Cert.GlaXRefIdeal.main_arg0)
          ∧ r.2.mem ((c.tc : Thread Cert.GlaXRefIdeal.nD Cert.GlaXRefIdeal.τ).loc Cert.GlaXRefIdeal.main_arg1) = m' ((c.tc : Thread Cert.GlaXRefIdeal.nD Cert.GlaXRefIdeal.τ).loc Cert.GlaXRefIdeal.main_arg1)
          ∧ r.2.mem ((c.tc : Thread Cert.GlaXRefIdeal.nD Cert.GlaXRefIdeal.τ).loc Cert.GlaXRefIdeal.main_arg2) = m' ((c.tc : Thread Cert.GlaXRefIdeal.nD Cert.GlaXRefIdeal.τ).loc Cert.GlaXRefIdeal.main_arg2)
          ∧ r.2.mem ((c.tc : Thread Cert.GlaXRefIdeal.nD Cert.GlaXRefIdeal.τ).loc Cert.GlaXRefIdeal.main_arg3) = m' ((c.tc : Thread Cert.GlaXRefIdeal.nD Cert.GlaXRefIdeal.τ).loc Cert.GlaXRefIdeal.main_arg3))

def preserves_QkvF_QkvFIdeal : Prop :=
  True

def algebraic_QkvFIdeal_QkvFRefIdeal [hQkvFIdeal : Cert.QkvFIdeal.Facts] [hQkvFRefIdeal : Cert.QkvFRefIdeal.Facts] : Prop :=
  ∀ (m : (ℓ : Loc Cert.QkvFIdeal.nD Cert.QkvFIdeal.τ Cert.QkvFIdeal.sig) → Buf (Elt Ideal) ℓ) (g : Dev Cert.QkvFIdeal.nD → PrngReg)
    (m' : (ℓ : Loc Cert.QkvFRefIdeal.nD Cert.QkvFRefIdeal.τ Cert.QkvFRefIdeal.sig) → Buf (Elt Ideal) ℓ) (g' : Dev Cert.QkvFRefIdeal.nD → PrngReg), Pre_QkvFIdeal m →
    (∀ c : Dev Cert.QkvFIdeal.nD,
      m' ((c.tc : Thread Cert.QkvFRefIdeal.nD Cert.QkvFRefIdeal.τ).loc Cert.QkvFRefIdeal.main_arg0) = m ((c.tc : Thread Cert.QkvFIdeal.nD Cert.QkvFIdeal.τ).loc Cert.QkvFIdeal.main_arg0)
      ∧ m' ((c.tc : Thread Cert.QkvFRefIdeal.nD Cert.QkvFRefIdeal.τ).loc Cert.QkvFRefIdeal.main_arg1) = m ((c.tc : Thread Cert.QkvFIdeal.nD Cert.QkvFIdeal.τ).loc Cert.QkvFIdeal.main_arg1)) →
    ∃ (v0 : (c : Dev Cert.QkvFIdeal.nD) → Buf (Elt Ideal) ((c.tc : Thread Cert.QkvFIdeal.nD Cert.QkvFIdeal.τ).loc Cert.QkvFIdeal.main_v2)),
      θ_run (Cert.QkvFIdeal.defs (F := Ideal)) (onTc (τ := Cert.QkvFIdeal.τ) (Cert.QkvFIdeal.main (F := Ideal))) ⟨m, fun _ => 0, g⟩ (fun r => ∀ c : Dev Cert.QkvFIdeal.nD,
          r.2.mem ((c.tc : Thread Cert.QkvFIdeal.nD Cert.QkvFIdeal.τ).loc Cert.QkvFIdeal.main_v2) = v0 c
          ∧ r.2.mem ((c.tc : Thread Cert.QkvFIdeal.nD Cert.QkvFIdeal.τ).loc Cert.QkvFIdeal.main_arg0) = m ((c.tc : Thread Cert.QkvFIdeal.nD Cert.QkvFIdeal.τ).loc Cert.QkvFIdeal.main_arg0)
          ∧ r.2.mem ((c.tc : Thread Cert.QkvFIdeal.nD Cert.QkvFIdeal.τ).loc Cert.QkvFIdeal.main_arg1) = m ((c.tc : Thread Cert.QkvFIdeal.nD Cert.QkvFIdeal.τ).loc Cert.QkvFIdeal.main_arg1))
      ∧ θ_run (Cert.QkvFRefIdeal.defs (F := Ideal)) (onTc (τ := Cert.QkvFRefIdeal.τ) (Cert.QkvFRefIdeal.main (F := Ideal))) ⟨m', fun _ => 0, g'⟩ (fun r => ∀ c : Dev Cert.QkvFRefIdeal.nD,
          r.2.mem ((c.tc : Thread Cert.QkvFRefIdeal.nD Cert.QkvFRefIdeal.τ).loc Cert.QkvFRefIdeal.main_v1) = v0 c
          ∧ r.2.mem ((c.tc : Thread Cert.QkvFRefIdeal.nD Cert.QkvFRefIdeal.τ).loc Cert.QkvFRefIdeal.main_arg0) = m' ((c.tc : Thread Cert.QkvFRefIdeal.nD Cert.QkvFRefIdeal.τ).loc Cert.QkvFRefIdeal.main_arg0)
          ∧ r.2.mem ((c.tc : Thread Cert.QkvFRefIdeal.nD Cert.QkvFRefIdeal.τ).loc Cert.QkvFRefIdeal.main_arg1) = m' ((c.tc : Thread Cert.QkvFRefIdeal.nD Cert.QkvFRefIdeal.τ).loc Cert.QkvFRefIdeal.main_arg1))

def preserves_OutF_OutFIdeal : Prop :=
  True

def algebraic_OutFIdeal_OutFRefIdeal [hOutFIdeal : Cert.OutFIdeal.Facts] [hOutFRefIdeal : Cert.OutFRefIdeal.Facts] : Prop :=
  ∀ (m : (ℓ : Loc Cert.OutFIdeal.nD Cert.OutFIdeal.τ Cert.OutFIdeal.sig) → Buf (Elt Ideal) ℓ) (g : Dev Cert.OutFIdeal.nD → PrngReg)
    (m' : (ℓ : Loc Cert.OutFRefIdeal.nD Cert.OutFRefIdeal.τ Cert.OutFRefIdeal.sig) → Buf (Elt Ideal) ℓ) (g' : Dev Cert.OutFRefIdeal.nD → PrngReg), Pre_OutFIdeal m →
    (∀ c : Dev Cert.OutFIdeal.nD,
      m' ((c.tc : Thread Cert.OutFRefIdeal.nD Cert.OutFRefIdeal.τ).loc Cert.OutFRefIdeal.main_arg0) = m ((c.tc : Thread Cert.OutFIdeal.nD Cert.OutFIdeal.τ).loc Cert.OutFIdeal.main_arg0)
      ∧ m' ((c.tc : Thread Cert.OutFRefIdeal.nD Cert.OutFRefIdeal.τ).loc Cert.OutFRefIdeal.main_arg1) = m ((c.tc : Thread Cert.OutFIdeal.nD Cert.OutFIdeal.τ).loc Cert.OutFIdeal.main_arg1)) →
    ∃ (v0 : (c : Dev Cert.OutFIdeal.nD) → Buf (Elt Ideal) ((c.tc : Thread Cert.OutFIdeal.nD Cert.OutFIdeal.τ).loc Cert.OutFIdeal.main_v2)),
      θ_run (Cert.OutFIdeal.defs (F := Ideal)) (onTc (τ := Cert.OutFIdeal.τ) (Cert.OutFIdeal.main (F := Ideal))) ⟨m, fun _ => 0, g⟩ (fun r => ∀ c : Dev Cert.OutFIdeal.nD,
          r.2.mem ((c.tc : Thread Cert.OutFIdeal.nD Cert.OutFIdeal.τ).loc Cert.OutFIdeal.main_v2) = v0 c
          ∧ r.2.mem ((c.tc : Thread Cert.OutFIdeal.nD Cert.OutFIdeal.τ).loc Cert.OutFIdeal.main_arg0) = m ((c.tc : Thread Cert.OutFIdeal.nD Cert.OutFIdeal.τ).loc Cert.OutFIdeal.main_arg0)
          ∧ r.2.mem ((c.tc : Thread Cert.OutFIdeal.nD Cert.OutFIdeal.τ).loc Cert.OutFIdeal.main_arg1) = m ((c.tc : Thread Cert.OutFIdeal.nD Cert.OutFIdeal.τ).loc Cert.OutFIdeal.main_arg1))
      ∧ θ_run (Cert.OutFRefIdeal.defs (F := Ideal)) (onTc (τ := Cert.OutFRefIdeal.τ) (Cert.OutFRefIdeal.main (F := Ideal))) ⟨m', fun _ => 0, g'⟩ (fun r => ∀ c : Dev Cert.OutFRefIdeal.nD,
          r.2.mem ((c.tc : Thread Cert.OutFRefIdeal.nD Cert.OutFRefIdeal.τ).loc Cert.OutFRefIdeal.main_v0) = v0 c
          ∧ r.2.mem ((c.tc : Thread Cert.OutFRefIdeal.nD Cert.OutFRefIdeal.τ).loc Cert.OutFRefIdeal.main_arg0) = m' ((c.tc : Thread Cert.OutFRefIdeal.nD Cert.OutFRefIdeal.τ).loc Cert.OutFRefIdeal.main_arg0)
          ∧ r.2.mem ((c.tc : Thread Cert.OutFRefIdeal.nD Cert.OutFRefIdeal.τ).loc Cert.OutFRefIdeal.main_arg1) = m' ((c.tc : Thread Cert.OutFRefIdeal.nD Cert.OutFRefIdeal.τ).loc Cert.OutFRefIdeal.main_arg1))

def preserves_GlaF_GlaFIdeal : Prop :=
  True

def algebraic_GlaFIdeal_GlaFRefIdeal [hGlaFIdeal : Cert.GlaFIdeal.Facts] [hGlaFRefIdeal : Cert.GlaFRefIdeal.Facts] : Prop :=
  ∀ (m : (ℓ : Loc Cert.GlaFIdeal.nD Cert.GlaFIdeal.τ Cert.GlaFIdeal.sig) → Buf (Elt Ideal) ℓ) (g : Dev Cert.GlaFIdeal.nD → PrngReg)
    (m' : (ℓ : Loc Cert.GlaFRefIdeal.nD Cert.GlaFRefIdeal.τ Cert.GlaFRefIdeal.sig) → Buf (Elt Ideal) ℓ) (g' : Dev Cert.GlaFRefIdeal.nD → PrngReg), Pre_GlaFIdeal m →
    (∀ c : Dev Cert.GlaFIdeal.nD,
      m' ((c.tc : Thread Cert.GlaFRefIdeal.nD Cert.GlaFRefIdeal.τ).loc Cert.GlaFRefIdeal.main_arg0) = m ((c.tc : Thread Cert.GlaFIdeal.nD Cert.GlaFIdeal.τ).loc Cert.GlaFIdeal.main_arg0)
      ∧ m' ((c.tc : Thread Cert.GlaFRefIdeal.nD Cert.GlaFRefIdeal.τ).loc Cert.GlaFRefIdeal.main_arg1) = m ((c.tc : Thread Cert.GlaFIdeal.nD Cert.GlaFIdeal.τ).loc Cert.GlaFIdeal.main_arg1)) →
    ∃ (v0 : (c : Dev Cert.GlaFIdeal.nD) → Buf (Elt Ideal) ((c.tc : Thread Cert.GlaFIdeal.nD Cert.GlaFIdeal.τ).loc Cert.GlaFIdeal.main_v2)),
      θ_run (Cert.GlaFIdeal.defs (F := Ideal)) (onTc (τ := Cert.GlaFIdeal.τ) (Cert.GlaFIdeal.main (F := Ideal))) ⟨m, fun _ => 0, g⟩ (fun r => ∀ c : Dev Cert.GlaFIdeal.nD,
          r.2.mem ((c.tc : Thread Cert.GlaFIdeal.nD Cert.GlaFIdeal.τ).loc Cert.GlaFIdeal.main_v2) = v0 c
          ∧ r.2.mem ((c.tc : Thread Cert.GlaFIdeal.nD Cert.GlaFIdeal.τ).loc Cert.GlaFIdeal.main_arg0) = m ((c.tc : Thread Cert.GlaFIdeal.nD Cert.GlaFIdeal.τ).loc Cert.GlaFIdeal.main_arg0)
          ∧ r.2.mem ((c.tc : Thread Cert.GlaFIdeal.nD Cert.GlaFIdeal.τ).loc Cert.GlaFIdeal.main_arg1) = m ((c.tc : Thread Cert.GlaFIdeal.nD Cert.GlaFIdeal.τ).loc Cert.GlaFIdeal.main_arg1))
      ∧ θ_run (Cert.GlaFRefIdeal.defs (F := Ideal)) (onTc (τ := Cert.GlaFRefIdeal.τ) (Cert.GlaFRefIdeal.main (F := Ideal))) ⟨m', fun _ => 0, g'⟩ (fun r => ∀ c : Dev Cert.GlaFRefIdeal.nD,
          r.2.mem ((c.tc : Thread Cert.GlaFRefIdeal.nD Cert.GlaFRefIdeal.τ).loc Cert.GlaFRefIdeal.main_v0) = v0 c
          ∧ r.2.mem ((c.tc : Thread Cert.GlaFRefIdeal.nD Cert.GlaFRefIdeal.τ).loc Cert.GlaFRefIdeal.main_arg0) = m' ((c.tc : Thread Cert.GlaFRefIdeal.nD Cert.GlaFRefIdeal.τ).loc Cert.GlaFRefIdeal.main_arg0)
          ∧ r.2.mem ((c.tc : Thread Cert.GlaFRefIdeal.nD Cert.GlaFRefIdeal.τ).loc Cert.GlaFRefIdeal.main_arg1) = m' ((c.tc : Thread Cert.GlaFRefIdeal.nD Cert.GlaFRefIdeal.τ).loc Cert.GlaFRefIdeal.main_arg1))

def preserves_UpF_UpFIdeal : Prop :=
  True

def algebraic_UpFIdeal_UpFRefIdeal [hUpFIdeal : Cert.UpFIdeal.Facts] [hUpFRefIdeal : Cert.UpFRefIdeal.Facts] : Prop :=
  ∀ (m : (ℓ : Loc Cert.UpFIdeal.nD Cert.UpFIdeal.τ Cert.UpFIdeal.sig) → Buf (Elt Ideal) ℓ) (g : Dev Cert.UpFIdeal.nD → PrngReg)
    (m' : (ℓ : Loc Cert.UpFRefIdeal.nD Cert.UpFRefIdeal.τ Cert.UpFRefIdeal.sig) → Buf (Elt Ideal) ℓ) (g' : Dev Cert.UpFRefIdeal.nD → PrngReg), Pre_UpFIdeal m →
    (∀ c : Dev Cert.UpFIdeal.nD,
      m' ((c.tc : Thread Cert.UpFRefIdeal.nD Cert.UpFRefIdeal.τ).loc Cert.UpFRefIdeal.main_arg0) = m ((c.tc : Thread Cert.UpFIdeal.nD Cert.UpFIdeal.τ).loc Cert.UpFIdeal.main_arg0)
      ∧ m' ((c.tc : Thread Cert.UpFRefIdeal.nD Cert.UpFRefIdeal.τ).loc Cert.UpFRefIdeal.main_arg1) = m ((c.tc : Thread Cert.UpFIdeal.nD Cert.UpFIdeal.τ).loc Cert.UpFIdeal.main_arg1)) →
    ∃ (v0 : (c : Dev Cert.UpFIdeal.nD) → Buf (Elt Ideal) ((c.tc : Thread Cert.UpFIdeal.nD Cert.UpFIdeal.τ).loc Cert.UpFIdeal.main_v2)),
      θ_run (Cert.UpFIdeal.defs (F := Ideal)) (onTc (τ := Cert.UpFIdeal.τ) (Cert.UpFIdeal.main (F := Ideal))) ⟨m, fun _ => 0, g⟩ (fun r => ∀ c : Dev Cert.UpFIdeal.nD,
          r.2.mem ((c.tc : Thread Cert.UpFIdeal.nD Cert.UpFIdeal.τ).loc Cert.UpFIdeal.main_v2) = v0 c
          ∧ r.2.mem ((c.tc : Thread Cert.UpFIdeal.nD Cert.UpFIdeal.τ).loc Cert.UpFIdeal.main_arg0) = m ((c.tc : Thread Cert.UpFIdeal.nD Cert.UpFIdeal.τ).loc Cert.UpFIdeal.main_arg0)
          ∧ r.2.mem ((c.tc : Thread Cert.UpFIdeal.nD Cert.UpFIdeal.τ).loc Cert.UpFIdeal.main_arg1) = m ((c.tc : Thread Cert.UpFIdeal.nD Cert.UpFIdeal.τ).loc Cert.UpFIdeal.main_arg1))
      ∧ θ_run (Cert.UpFRefIdeal.defs (F := Ideal)) (onTc (τ := Cert.UpFRefIdeal.τ) (Cert.UpFRefIdeal.main (F := Ideal))) ⟨m', fun _ => 0, g'⟩ (fun r => ∀ c : Dev Cert.UpFRefIdeal.nD,
          r.2.mem ((c.tc : Thread Cert.UpFRefIdeal.nD Cert.UpFRefIdeal.τ).loc Cert.UpFRefIdeal.main_v1) = v0 c
          ∧ r.2.mem ((c.tc : Thread Cert.UpFRefIdeal.nD Cert.UpFRefIdeal.τ).loc Cert.UpFRefIdeal.main_arg0) = m' ((c.tc : Thread Cert.UpFRefIdeal.nD Cert.UpFRefIdeal.τ).loc Cert.UpFRefIdeal.main_arg0)
          ∧ r.2.mem ((c.tc : Thread Cert.UpFRefIdeal.nD Cert.UpFRefIdeal.τ).loc Cert.UpFRefIdeal.main_arg1) = m' ((c.tc : Thread Cert.UpFRefIdeal.nD Cert.UpFRefIdeal.τ).loc Cert.UpFRefIdeal.main_arg1))

def preserves_DownF_DownFIdeal : Prop :=
  True

def algebraic_DownFIdeal_DownFRefIdeal [hDownFIdeal : Cert.DownFIdeal.Facts] [hDownFRefIdeal : Cert.DownFRefIdeal.Facts] : Prop :=
  ∀ (m : (ℓ : Loc Cert.DownFIdeal.nD Cert.DownFIdeal.τ Cert.DownFIdeal.sig) → Buf (Elt Ideal) ℓ) (g : Dev Cert.DownFIdeal.nD → PrngReg)
    (m' : (ℓ : Loc Cert.DownFRefIdeal.nD Cert.DownFRefIdeal.τ Cert.DownFRefIdeal.sig) → Buf (Elt Ideal) ℓ) (g' : Dev Cert.DownFRefIdeal.nD → PrngReg), Pre_DownFIdeal m →
    (∀ c : Dev Cert.DownFIdeal.nD,
      m' ((c.tc : Thread Cert.DownFRefIdeal.nD Cert.DownFRefIdeal.τ).loc Cert.DownFRefIdeal.main_arg0) = m ((c.tc : Thread Cert.DownFIdeal.nD Cert.DownFIdeal.τ).loc Cert.DownFIdeal.main_arg0)
      ∧ m' ((c.tc : Thread Cert.DownFRefIdeal.nD Cert.DownFRefIdeal.τ).loc Cert.DownFRefIdeal.main_arg1) = m ((c.tc : Thread Cert.DownFIdeal.nD Cert.DownFIdeal.τ).loc Cert.DownFIdeal.main_arg1)) →
    ∃ (v0 : (c : Dev Cert.DownFIdeal.nD) → Buf (Elt Ideal) ((c.tc : Thread Cert.DownFIdeal.nD Cert.DownFIdeal.τ).loc Cert.DownFIdeal.main_v2)),
      θ_run (Cert.DownFIdeal.defs (F := Ideal)) (onTc (τ := Cert.DownFIdeal.τ) (Cert.DownFIdeal.main (F := Ideal))) ⟨m, fun _ => 0, g⟩ (fun r => ∀ c : Dev Cert.DownFIdeal.nD,
          r.2.mem ((c.tc : Thread Cert.DownFIdeal.nD Cert.DownFIdeal.τ).loc Cert.DownFIdeal.main_v2) = v0 c
          ∧ r.2.mem ((c.tc : Thread Cert.DownFIdeal.nD Cert.DownFIdeal.τ).loc Cert.DownFIdeal.main_arg0) = m ((c.tc : Thread Cert.DownFIdeal.nD Cert.DownFIdeal.τ).loc Cert.DownFIdeal.main_arg0)
          ∧ r.2.mem ((c.tc : Thread Cert.DownFIdeal.nD Cert.DownFIdeal.τ).loc Cert.DownFIdeal.main_arg1) = m ((c.tc : Thread Cert.DownFIdeal.nD Cert.DownFIdeal.τ).loc Cert.DownFIdeal.main_arg1))
      ∧ θ_run (Cert.DownFRefIdeal.defs (F := Ideal)) (onTc (τ := Cert.DownFRefIdeal.τ) (Cert.DownFRefIdeal.main (F := Ideal))) ⟨m', fun _ => 0, g'⟩ (fun r => ∀ c : Dev Cert.DownFRefIdeal.nD,
          r.2.mem ((c.tc : Thread Cert.DownFRefIdeal.nD Cert.DownFRefIdeal.τ).loc Cert.DownFRefIdeal.main_v0) = v0 c
          ∧ r.2.mem ((c.tc : Thread Cert.DownFRefIdeal.nD Cert.DownFRefIdeal.τ).loc Cert.DownFRefIdeal.main_arg0) = m' ((c.tc : Thread Cert.DownFRefIdeal.nD Cert.DownFRefIdeal.τ).loc Cert.DownFRefIdeal.main_arg0)
          ∧ r.2.mem ((c.tc : Thread Cert.DownFRefIdeal.nD Cert.DownFRefIdeal.τ).loc Cert.DownFRefIdeal.main_arg1) = m' ((c.tc : Thread Cert.DownFRefIdeal.nD Cert.DownFRefIdeal.τ).loc Cert.DownFRefIdeal.main_arg1))

def preserves_SbBwd_SbBwdIdeal : Prop :=
  True

def algebraic_SbBwdIdeal_SbBwdRefIdeal_pre_finite [hSbBwdIdeal : Cert.SbBwdIdeal.Facts] [hSbBwdRefIdeal : Cert.SbBwdRefIdeal.Facts] [hPre_finite : Cert.Pre_finite.Facts] : Prop :=
  ∀ (m : (ℓ : Loc Cert.SbBwdIdeal.nD Cert.SbBwdIdeal.τ Cert.SbBwdIdeal.sig) → Buf (Elt Ideal) ℓ) (g : Dev Cert.SbBwdIdeal.nD → PrngReg)
    (m' : (ℓ : Loc Cert.SbBwdRefIdeal.nD Cert.SbBwdRefIdeal.τ Cert.SbBwdRefIdeal.sig) → Buf (Elt Ideal) ℓ) (g' : Dev Cert.SbBwdRefIdeal.nD → PrngReg), Pre_SbBwdIdeal_finite m →
    (∀ c : Dev Cert.SbBwdIdeal.nD,
      m' ((c.tc : Thread Cert.SbBwdRefIdeal.nD Cert.SbBwdRefIdeal.τ).loc Cert.SbBwdRefIdeal.main_arg0) = m ((c.tc : Thread Cert.SbBwdIdeal.nD Cert.SbBwdIdeal.τ).loc Cert.SbBwdIdeal.main_arg0)
      ∧ m' ((c.tc : Thread Cert.SbBwdRefIdeal.nD Cert.SbBwdRefIdeal.τ).loc Cert.SbBwdRefIdeal.main_arg1) = m ((c.tc : Thread Cert.SbBwdIdeal.nD Cert.SbBwdIdeal.τ).loc Cert.SbBwdIdeal.main_arg1)) →
    ∃ (v0 : (c : Dev Cert.SbBwdIdeal.nD) → Buf (Elt Ideal) ((c.tc : Thread Cert.SbBwdIdeal.nD Cert.SbBwdIdeal.τ).loc Cert.SbBwdIdeal.main_v34_0)) (v1 : (c : Dev Cert.SbBwdIdeal.nD) → Buf (Elt Ideal) ((c.tc : Thread Cert.SbBwdIdeal.nD Cert.SbBwdIdeal.τ).loc Cert.SbBwdIdeal.main_v34_1)) (v2 : (c : Dev Cert.SbBwdIdeal.nD) → Buf (Elt Ideal) ((c.tc : Thread Cert.SbBwdIdeal.nD Cert.SbBwdIdeal.τ).loc Cert.SbBwdIdeal.main_v34_2)),
      θ_run (Cert.SbBwdIdeal.defs (F := Ideal)) (onTc (τ := Cert.SbBwdIdeal.τ) (Cert.SbBwdIdeal.main (F := Ideal))) ⟨m, fun _ => 0, g⟩ (fun r => ∀ c : Dev Cert.SbBwdIdeal.nD,
          r.2.mem ((c.tc : Thread Cert.SbBwdIdeal.nD Cert.SbBwdIdeal.τ).loc Cert.SbBwdIdeal.main_v34_0) = v0 c
          ∧ r.2.mem ((c.tc : Thread Cert.SbBwdIdeal.nD Cert.SbBwdIdeal.τ).loc Cert.SbBwdIdeal.main_v34_1) = v1 c
          ∧ r.2.mem ((c.tc : Thread Cert.SbBwdIdeal.nD Cert.SbBwdIdeal.τ).loc Cert.SbBwdIdeal.main_v34_2) = v2 c
          ∧ r.2.mem ((c.tc : Thread Cert.SbBwdIdeal.nD Cert.SbBwdIdeal.τ).loc Cert.SbBwdIdeal.main_arg0) = m ((c.tc : Thread Cert.SbBwdIdeal.nD Cert.SbBwdIdeal.τ).loc Cert.SbBwdIdeal.main_arg0)
          ∧ r.2.mem ((c.tc : Thread Cert.SbBwdIdeal.nD Cert.SbBwdIdeal.τ).loc Cert.SbBwdIdeal.main_arg1) = m ((c.tc : Thread Cert.SbBwdIdeal.nD Cert.SbBwdIdeal.τ).loc Cert.SbBwdIdeal.main_arg1))
      ∧ θ_run (Cert.SbBwdRefIdeal.defs (F := Ideal)) (onTc (τ := Cert.SbBwdRefIdeal.τ) (Cert.SbBwdRefIdeal.main (F := Ideal))) ⟨m', fun _ => 0, g'⟩ (fun r => ∀ c : Dev Cert.SbBwdRefIdeal.nD,
          r.2.mem ((c.tc : Thread Cert.SbBwdRefIdeal.nD Cert.SbBwdRefIdeal.τ).loc Cert.SbBwdRefIdeal.main_v64) = v0 c
          ∧ r.2.mem ((c.tc : Thread Cert.SbBwdRefIdeal.nD Cert.SbBwdRefIdeal.τ).loc Cert.SbBwdRefIdeal.main_v66) = v1 c
          ∧ r.2.mem ((c.tc : Thread Cert.SbBwdRefIdeal.nD Cert.SbBwdRefIdeal.τ).loc Cert.SbBwdRefIdeal.main_v68) = v2 c
          ∧ r.2.mem ((c.tc : Thread Cert.SbBwdRefIdeal.nD Cert.SbBwdRefIdeal.τ).loc Cert.SbBwdRefIdeal.main_arg0) = m' ((c.tc : Thread Cert.SbBwdRefIdeal.nD Cert.SbBwdRefIdeal.τ).loc Cert.SbBwdRefIdeal.main_arg0)
          ∧ r.2.mem ((c.tc : Thread Cert.SbBwdRefIdeal.nD Cert.SbBwdRefIdeal.τ).loc Cert.SbBwdRefIdeal.main_arg1) = m' ((c.tc : Thread Cert.SbBwdRefIdeal.nD Cert.SbBwdRefIdeal.τ).loc Cert.SbBwdRefIdeal.main_arg1))

def preserves_AdQkv_AdQkvIdeal : Prop :=
  True

def algebraic_AdQkvIdeal_AdQkvRefIdeal [hAdQkvIdeal : Cert.AdQkvIdeal.Facts] [hAdQkvRefIdeal : Cert.AdQkvRefIdeal.Facts] : Prop :=
  ∀ (m : (ℓ : Loc Cert.AdQkvIdeal.nD Cert.AdQkvIdeal.τ Cert.AdQkvIdeal.sig) → Buf (Elt Ideal) ℓ) (g : Dev Cert.AdQkvIdeal.nD → PrngReg)
    (m' : (ℓ : Loc Cert.AdQkvRefIdeal.nD Cert.AdQkvRefIdeal.τ Cert.AdQkvRefIdeal.sig) → Buf (Elt Ideal) ℓ) (g' : Dev Cert.AdQkvRefIdeal.nD → PrngReg), Pre_AdQkvIdeal m →
    (∀ c : Dev Cert.AdQkvIdeal.nD,
      m' ((c.tc : Thread Cert.AdQkvRefIdeal.nD Cert.AdQkvRefIdeal.τ).loc Cert.AdQkvRefIdeal.main_arg0) = m ((c.tc : Thread Cert.AdQkvIdeal.nD Cert.AdQkvIdeal.τ).loc Cert.AdQkvIdeal.main_arg0)
      ∧ m' ((c.tc : Thread Cert.AdQkvRefIdeal.nD Cert.AdQkvRefIdeal.τ).loc Cert.AdQkvRefIdeal.main_arg1) = m ((c.tc : Thread Cert.AdQkvIdeal.nD Cert.AdQkvIdeal.τ).loc Cert.AdQkvIdeal.main_arg1)
      ∧ m' ((c.tc : Thread Cert.AdQkvRefIdeal.nD Cert.AdQkvRefIdeal.τ).loc Cert.AdQkvRefIdeal.main_arg2) = m ((c.tc : Thread Cert.AdQkvIdeal.nD Cert.AdQkvIdeal.τ).loc Cert.AdQkvIdeal.main_arg2)
      ∧ m' ((c.tc : Thread Cert.AdQkvRefIdeal.nD Cert.AdQkvRefIdeal.τ).loc Cert.AdQkvRefIdeal.main_arg3) = m ((c.tc : Thread Cert.AdQkvIdeal.nD Cert.AdQkvIdeal.τ).loc Cert.AdQkvIdeal.main_arg3)) →
    ∃ (v0 : (c : Dev Cert.AdQkvIdeal.nD) → Buf (Elt Ideal) ((c.tc : Thread Cert.AdQkvIdeal.nD Cert.AdQkvIdeal.τ).loc Cert.AdQkvIdeal.main_v4_0)) (v1 : (c : Dev Cert.AdQkvIdeal.nD) → Buf (Elt Ideal) ((c.tc : Thread Cert.AdQkvIdeal.nD Cert.AdQkvIdeal.τ).loc Cert.AdQkvIdeal.main_v4_1)) (v2 : (c : Dev Cert.AdQkvIdeal.nD) → Buf (Elt Ideal) ((c.tc : Thread Cert.AdQkvIdeal.nD Cert.AdQkvIdeal.τ).loc Cert.AdQkvIdeal.main_v4_2)),
      θ_run (Cert.AdQkvIdeal.defs (F := Ideal)) (onTc (τ := Cert.AdQkvIdeal.τ) (Cert.AdQkvIdeal.main (F := Ideal))) ⟨m, fun _ => 0, g⟩ (fun r => ∀ c : Dev Cert.AdQkvIdeal.nD,
          r.2.mem ((c.tc : Thread Cert.AdQkvIdeal.nD Cert.AdQkvIdeal.τ).loc Cert.AdQkvIdeal.main_v4_0) = v0 c
          ∧ r.2.mem ((c.tc : Thread Cert.AdQkvIdeal.nD Cert.AdQkvIdeal.τ).loc Cert.AdQkvIdeal.main_v4_1) = v1 c
          ∧ r.2.mem ((c.tc : Thread Cert.AdQkvIdeal.nD Cert.AdQkvIdeal.τ).loc Cert.AdQkvIdeal.main_v4_2) = v2 c
          ∧ r.2.mem ((c.tc : Thread Cert.AdQkvIdeal.nD Cert.AdQkvIdeal.τ).loc Cert.AdQkvIdeal.main_arg0) = m ((c.tc : Thread Cert.AdQkvIdeal.nD Cert.AdQkvIdeal.τ).loc Cert.AdQkvIdeal.main_arg0)
          ∧ r.2.mem ((c.tc : Thread Cert.AdQkvIdeal.nD Cert.AdQkvIdeal.τ).loc Cert.AdQkvIdeal.main_arg1) = m ((c.tc : Thread Cert.AdQkvIdeal.nD Cert.AdQkvIdeal.τ).loc Cert.AdQkvIdeal.main_arg1)
          ∧ r.2.mem ((c.tc : Thread Cert.AdQkvIdeal.nD Cert.AdQkvIdeal.τ).loc Cert.AdQkvIdeal.main_arg2) = m ((c.tc : Thread Cert.AdQkvIdeal.nD Cert.AdQkvIdeal.τ).loc Cert.AdQkvIdeal.main_arg2)
          ∧ r.2.mem ((c.tc : Thread Cert.AdQkvIdeal.nD Cert.AdQkvIdeal.τ).loc Cert.AdQkvIdeal.main_arg3) = m ((c.tc : Thread Cert.AdQkvIdeal.nD Cert.AdQkvIdeal.τ).loc Cert.AdQkvIdeal.main_arg3))
      ∧ θ_run (Cert.AdQkvRefIdeal.defs (F := Ideal)) (onTc (τ := Cert.AdQkvRefIdeal.τ) (Cert.AdQkvRefIdeal.main (F := Ideal))) ⟨m', fun _ => 0, g'⟩ (fun r => ∀ c : Dev Cert.AdQkvRefIdeal.nD,
          r.2.mem ((c.tc : Thread Cert.AdQkvRefIdeal.nD Cert.AdQkvRefIdeal.τ).loc Cert.AdQkvRefIdeal.main_v24) = v0 c
          ∧ r.2.mem ((c.tc : Thread Cert.AdQkvRefIdeal.nD Cert.AdQkvRefIdeal.τ).loc Cert.AdQkvRefIdeal.main_v25) = v1 c
          ∧ r.2.mem ((c.tc : Thread Cert.AdQkvRefIdeal.nD Cert.AdQkvRefIdeal.τ).loc Cert.AdQkvRefIdeal.main_v26) = v2 c
          ∧ r.2.mem ((c.tc : Thread Cert.AdQkvRefIdeal.nD Cert.AdQkvRefIdeal.τ).loc Cert.AdQkvRefIdeal.main_arg0) = m' ((c.tc : Thread Cert.AdQkvRefIdeal.nD Cert.AdQkvRefIdeal.τ).loc Cert.AdQkvRefIdeal.main_arg0)
          ∧ r.2.mem ((c.tc : Thread Cert.AdQkvRefIdeal.nD Cert.AdQkvRefIdeal.τ).loc Cert.AdQkvRefIdeal.main_arg1) = m' ((c.tc : Thread Cert.AdQkvRefIdeal.nD Cert.AdQkvRefIdeal.τ).loc Cert.AdQkvRefIdeal.main_arg1)
          ∧ r.2.mem ((c.tc : Thread Cert.AdQkvRefIdeal.nD Cert.AdQkvRefIdeal.τ).loc Cert.AdQkvRefIdeal.main_arg2) = m' ((c.tc : Thread Cert.AdQkvRefIdeal.nD Cert.AdQkvRefIdeal.τ).loc Cert.AdQkvRefIdeal.main_arg2)
          ∧ r.2.mem ((c.tc : Thread Cert.AdQkvRefIdeal.nD Cert.AdQkvRefIdeal.τ).loc Cert.AdQkvRefIdeal.main_arg3) = m' ((c.tc : Thread Cert.AdQkvRefIdeal.nD Cert.AdQkvRefIdeal.τ).loc Cert.AdQkvRefIdeal.main_arg3))

def preserves_AdOut_AdOutIdeal : Prop :=
  True

def algebraic_AdOutIdeal_AdOutRefIdeal [hAdOutIdeal : Cert.AdOutIdeal.Facts] [hAdOutRefIdeal : Cert.AdOutRefIdeal.Facts] : Prop :=
  ∀ (m : (ℓ : Loc Cert.AdOutIdeal.nD Cert.AdOutIdeal.τ Cert.AdOutIdeal.sig) → Buf (Elt Ideal) ℓ) (g : Dev Cert.AdOutIdeal.nD → PrngReg)
    (m' : (ℓ : Loc Cert.AdOutRefIdeal.nD Cert.AdOutRefIdeal.τ Cert.AdOutRefIdeal.sig) → Buf (Elt Ideal) ℓ) (g' : Dev Cert.AdOutRefIdeal.nD → PrngReg), Pre_AdOutIdeal m →
    (∀ c : Dev Cert.AdOutIdeal.nD,
      m' ((c.tc : Thread Cert.AdOutRefIdeal.nD Cert.AdOutRefIdeal.τ).loc Cert.AdOutRefIdeal.main_arg0) = m ((c.tc : Thread Cert.AdOutIdeal.nD Cert.AdOutIdeal.τ).loc Cert.AdOutIdeal.main_arg0)
      ∧ m' ((c.tc : Thread Cert.AdOutRefIdeal.nD Cert.AdOutRefIdeal.τ).loc Cert.AdOutRefIdeal.main_arg1) = m ((c.tc : Thread Cert.AdOutIdeal.nD Cert.AdOutIdeal.τ).loc Cert.AdOutIdeal.main_arg1)
      ∧ m' ((c.tc : Thread Cert.AdOutRefIdeal.nD Cert.AdOutRefIdeal.τ).loc Cert.AdOutRefIdeal.main_arg2) = m ((c.tc : Thread Cert.AdOutIdeal.nD Cert.AdOutIdeal.τ).loc Cert.AdOutIdeal.main_arg2)
      ∧ m' ((c.tc : Thread Cert.AdOutRefIdeal.nD Cert.AdOutRefIdeal.τ).loc Cert.AdOutRefIdeal.main_arg3) = m ((c.tc : Thread Cert.AdOutIdeal.nD Cert.AdOutIdeal.τ).loc Cert.AdOutIdeal.main_arg3)) →
    ∃ (v0 : (c : Dev Cert.AdOutIdeal.nD) → Buf (Elt Ideal) ((c.tc : Thread Cert.AdOutIdeal.nD Cert.AdOutIdeal.τ).loc Cert.AdOutIdeal.main_v4_0)) (v1 : (c : Dev Cert.AdOutIdeal.nD) → Buf (Elt Ideal) ((c.tc : Thread Cert.AdOutIdeal.nD Cert.AdOutIdeal.τ).loc Cert.AdOutIdeal.main_v4_1)) (v2 : (c : Dev Cert.AdOutIdeal.nD) → Buf (Elt Ideal) ((c.tc : Thread Cert.AdOutIdeal.nD Cert.AdOutIdeal.τ).loc Cert.AdOutIdeal.main_v4_2)),
      θ_run (Cert.AdOutIdeal.defs (F := Ideal)) (onTc (τ := Cert.AdOutIdeal.τ) (Cert.AdOutIdeal.main (F := Ideal))) ⟨m, fun _ => 0, g⟩ (fun r => ∀ c : Dev Cert.AdOutIdeal.nD,
          r.2.mem ((c.tc : Thread Cert.AdOutIdeal.nD Cert.AdOutIdeal.τ).loc Cert.AdOutIdeal.main_v4_0) = v0 c
          ∧ r.2.mem ((c.tc : Thread Cert.AdOutIdeal.nD Cert.AdOutIdeal.τ).loc Cert.AdOutIdeal.main_v4_1) = v1 c
          ∧ r.2.mem ((c.tc : Thread Cert.AdOutIdeal.nD Cert.AdOutIdeal.τ).loc Cert.AdOutIdeal.main_v4_2) = v2 c
          ∧ r.2.mem ((c.tc : Thread Cert.AdOutIdeal.nD Cert.AdOutIdeal.τ).loc Cert.AdOutIdeal.main_arg0) = m ((c.tc : Thread Cert.AdOutIdeal.nD Cert.AdOutIdeal.τ).loc Cert.AdOutIdeal.main_arg0)
          ∧ r.2.mem ((c.tc : Thread Cert.AdOutIdeal.nD Cert.AdOutIdeal.τ).loc Cert.AdOutIdeal.main_arg1) = m ((c.tc : Thread Cert.AdOutIdeal.nD Cert.AdOutIdeal.τ).loc Cert.AdOutIdeal.main_arg1)
          ∧ r.2.mem ((c.tc : Thread Cert.AdOutIdeal.nD Cert.AdOutIdeal.τ).loc Cert.AdOutIdeal.main_arg2) = m ((c.tc : Thread Cert.AdOutIdeal.nD Cert.AdOutIdeal.τ).loc Cert.AdOutIdeal.main_arg2)
          ∧ r.2.mem ((c.tc : Thread Cert.AdOutIdeal.nD Cert.AdOutIdeal.τ).loc Cert.AdOutIdeal.main_arg3) = m ((c.tc : Thread Cert.AdOutIdeal.nD Cert.AdOutIdeal.τ).loc Cert.AdOutIdeal.main_arg3))
      ∧ θ_run (Cert.AdOutRefIdeal.defs (F := Ideal)) (onTc (τ := Cert.AdOutRefIdeal.τ) (Cert.AdOutRefIdeal.main (F := Ideal))) ⟨m', fun _ => 0, g'⟩ (fun r => ∀ c : Dev Cert.AdOutRefIdeal.nD,
          r.2.mem ((c.tc : Thread Cert.AdOutRefIdeal.nD Cert.AdOutRefIdeal.τ).loc Cert.AdOutRefIdeal.main_v24) = v0 c
          ∧ r.2.mem ((c.tc : Thread Cert.AdOutRefIdeal.nD Cert.AdOutRefIdeal.τ).loc Cert.AdOutRefIdeal.main_v25) = v1 c
          ∧ r.2.mem ((c.tc : Thread Cert.AdOutRefIdeal.nD Cert.AdOutRefIdeal.τ).loc Cert.AdOutRefIdeal.main_v26) = v2 c
          ∧ r.2.mem ((c.tc : Thread Cert.AdOutRefIdeal.nD Cert.AdOutRefIdeal.τ).loc Cert.AdOutRefIdeal.main_arg0) = m' ((c.tc : Thread Cert.AdOutRefIdeal.nD Cert.AdOutRefIdeal.τ).loc Cert.AdOutRefIdeal.main_arg0)
          ∧ r.2.mem ((c.tc : Thread Cert.AdOutRefIdeal.nD Cert.AdOutRefIdeal.τ).loc Cert.AdOutRefIdeal.main_arg1) = m' ((c.tc : Thread Cert.AdOutRefIdeal.nD Cert.AdOutRefIdeal.τ).loc Cert.AdOutRefIdeal.main_arg1)
          ∧ r.2.mem ((c.tc : Thread Cert.AdOutRefIdeal.nD Cert.AdOutRefIdeal.τ).loc Cert.AdOutRefIdeal.main_arg2) = m' ((c.tc : Thread Cert.AdOutRefIdeal.nD Cert.AdOutRefIdeal.τ).loc Cert.AdOutRefIdeal.main_arg2)
          ∧ r.2.mem ((c.tc : Thread Cert.AdOutRefIdeal.nD Cert.AdOutRefIdeal.τ).loc Cert.AdOutRefIdeal.main_arg3) = m' ((c.tc : Thread Cert.AdOutRefIdeal.nD Cert.AdOutRefIdeal.τ).loc Cert.AdOutRefIdeal.main_arg3))

def preserves_AdA1_AdA1Ideal : Prop :=
  True

def algebraic_AdA1Ideal_AdA1RefIdeal [hAdA1Ideal : Cert.AdA1Ideal.Facts] [hAdA1RefIdeal : Cert.AdA1RefIdeal.Facts] : Prop :=
  ∀ (m : (ℓ : Loc Cert.AdA1Ideal.nD Cert.AdA1Ideal.τ Cert.AdA1Ideal.sig) → Buf (Elt Ideal) ℓ) (g : Dev Cert.AdA1Ideal.nD → PrngReg)
    (m' : (ℓ : Loc Cert.AdA1RefIdeal.nD Cert.AdA1RefIdeal.τ Cert.AdA1RefIdeal.sig) → Buf (Elt Ideal) ℓ) (g' : Dev Cert.AdA1RefIdeal.nD → PrngReg), Pre_AdA1Ideal m →
    (∀ c : Dev Cert.AdA1Ideal.nD,
      m' ((c.tc : Thread Cert.AdA1RefIdeal.nD Cert.AdA1RefIdeal.τ).loc Cert.AdA1RefIdeal.main_arg0) = m ((c.tc : Thread Cert.AdA1Ideal.nD Cert.AdA1Ideal.τ).loc Cert.AdA1Ideal.main_arg0)
      ∧ m' ((c.tc : Thread Cert.AdA1RefIdeal.nD Cert.AdA1RefIdeal.τ).loc Cert.AdA1RefIdeal.main_arg1) = m ((c.tc : Thread Cert.AdA1Ideal.nD Cert.AdA1Ideal.τ).loc Cert.AdA1Ideal.main_arg1)
      ∧ m' ((c.tc : Thread Cert.AdA1RefIdeal.nD Cert.AdA1RefIdeal.τ).loc Cert.AdA1RefIdeal.main_arg2) = m ((c.tc : Thread Cert.AdA1Ideal.nD Cert.AdA1Ideal.τ).loc Cert.AdA1Ideal.main_arg2)
      ∧ m' ((c.tc : Thread Cert.AdA1RefIdeal.nD Cert.AdA1RefIdeal.τ).loc Cert.AdA1RefIdeal.main_arg3) = m ((c.tc : Thread Cert.AdA1Ideal.nD Cert.AdA1Ideal.τ).loc Cert.AdA1Ideal.main_arg3)) →
    ∃ (v0 : (c : Dev Cert.AdA1Ideal.nD) → Buf (Elt Ideal) ((c.tc : Thread Cert.AdA1Ideal.nD Cert.AdA1Ideal.τ).loc Cert.AdA1Ideal.main_v4_0)) (v1 : (c : Dev Cert.AdA1Ideal.nD) → Buf (Elt Ideal) ((c.tc : Thread Cert.AdA1Ideal.nD Cert.AdA1Ideal.τ).loc Cert.AdA1Ideal.main_v4_1)) (v2 : (c : Dev Cert.AdA1Ideal.nD) → Buf (Elt Ideal) ((c.tc : Thread Cert.AdA1Ideal.nD Cert.AdA1Ideal.τ).loc Cert.AdA1Ideal.main_v4_2)),
      θ_run (Cert.AdA1Ideal.defs (F := Ideal)) (onTc (τ := Cert.AdA1Ideal.τ) (Cert.AdA1Ideal.main (F := Ideal))) ⟨m, fun _ => 0, g⟩ (fun r => ∀ c : Dev Cert.AdA1Ideal.nD,
          r.2.mem ((c.tc : Thread Cert.AdA1Ideal.nD Cert.AdA1Ideal.τ).loc Cert.AdA1Ideal.main_v4_0) = v0 c
          ∧ r.2.mem ((c.tc : Thread Cert.AdA1Ideal.nD Cert.AdA1Ideal.τ).loc Cert.AdA1Ideal.main_v4_1) = v1 c
          ∧ r.2.mem ((c.tc : Thread Cert.AdA1Ideal.nD Cert.AdA1Ideal.τ).loc Cert.AdA1Ideal.main_v4_2) = v2 c
          ∧ r.2.mem ((c.tc : Thread Cert.AdA1Ideal.nD Cert.AdA1Ideal.τ).loc Cert.AdA1Ideal.main_arg0) = m ((c.tc : Thread Cert.AdA1Ideal.nD Cert.AdA1Ideal.τ).loc Cert.AdA1Ideal.main_arg0)
          ∧ r.2.mem ((c.tc : Thread Cert.AdA1Ideal.nD Cert.AdA1Ideal.τ).loc Cert.AdA1Ideal.main_arg1) = m ((c.tc : Thread Cert.AdA1Ideal.nD Cert.AdA1Ideal.τ).loc Cert.AdA1Ideal.main_arg1)
          ∧ r.2.mem ((c.tc : Thread Cert.AdA1Ideal.nD Cert.AdA1Ideal.τ).loc Cert.AdA1Ideal.main_arg2) = m ((c.tc : Thread Cert.AdA1Ideal.nD Cert.AdA1Ideal.τ).loc Cert.AdA1Ideal.main_arg2)
          ∧ r.2.mem ((c.tc : Thread Cert.AdA1Ideal.nD Cert.AdA1Ideal.τ).loc Cert.AdA1Ideal.main_arg3) = m ((c.tc : Thread Cert.AdA1Ideal.nD Cert.AdA1Ideal.τ).loc Cert.AdA1Ideal.main_arg3))
      ∧ θ_run (Cert.AdA1RefIdeal.defs (F := Ideal)) (onTc (τ := Cert.AdA1RefIdeal.τ) (Cert.AdA1RefIdeal.main (F := Ideal))) ⟨m', fun _ => 0, g'⟩ (fun r => ∀ c : Dev Cert.AdA1RefIdeal.nD,
          r.2.mem ((c.tc : Thread Cert.AdA1RefIdeal.nD Cert.AdA1RefIdeal.τ).loc Cert.AdA1RefIdeal.main_v24) = v0 c
          ∧ r.2.mem ((c.tc : Thread Cert.AdA1RefIdeal.nD Cert.AdA1RefIdeal.τ).loc Cert.AdA1RefIdeal.main_v25) = v1 c
          ∧ r.2.mem ((c.tc : Thread Cert.AdA1RefIdeal.nD Cert.AdA1RefIdeal.τ).loc Cert.AdA1RefIdeal.main_v26) = v2 c
          ∧ r.2.mem ((c.tc : Thread Cert.AdA1RefIdeal.nD Cert.AdA1RefIdeal.τ).loc Cert.AdA1RefIdeal.main_arg0) = m' ((c.tc : Thread Cert.AdA1RefIdeal.nD Cert.AdA1RefIdeal.τ).loc Cert.AdA1RefIdeal.main_arg0)
          ∧ r.2.mem ((c.tc : Thread Cert.AdA1RefIdeal.nD Cert.AdA1RefIdeal.τ).loc Cert.AdA1RefIdeal.main_arg1) = m' ((c.tc : Thread Cert.AdA1RefIdeal.nD Cert.AdA1RefIdeal.τ).loc Cert.AdA1RefIdeal.main_arg1)
          ∧ r.2.mem ((c.tc : Thread Cert.AdA1RefIdeal.nD Cert.AdA1RefIdeal.τ).loc Cert.AdA1RefIdeal.main_arg2) = m' ((c.tc : Thread Cert.AdA1RefIdeal.nD Cert.AdA1RefIdeal.τ).loc Cert.AdA1RefIdeal.main_arg2)
          ∧ r.2.mem ((c.tc : Thread Cert.AdA1RefIdeal.nD Cert.AdA1RefIdeal.τ).loc Cert.AdA1RefIdeal.main_arg3) = m' ((c.tc : Thread Cert.AdA1RefIdeal.nD Cert.AdA1RefIdeal.τ).loc Cert.AdA1RefIdeal.main_arg3))

def preserves_AdA2_AdA2Ideal : Prop :=
  True

def algebraic_AdA2Ideal_AdA2RefIdeal [hAdA2Ideal : Cert.AdA2Ideal.Facts] [hAdA2RefIdeal : Cert.AdA2RefIdeal.Facts] : Prop :=
  ∀ (m : (ℓ : Loc Cert.AdA2Ideal.nD Cert.AdA2Ideal.τ Cert.AdA2Ideal.sig) → Buf (Elt Ideal) ℓ) (g : Dev Cert.AdA2Ideal.nD → PrngReg)
    (m' : (ℓ : Loc Cert.AdA2RefIdeal.nD Cert.AdA2RefIdeal.τ Cert.AdA2RefIdeal.sig) → Buf (Elt Ideal) ℓ) (g' : Dev Cert.AdA2RefIdeal.nD → PrngReg), Pre_AdA2Ideal m →
    (∀ c : Dev Cert.AdA2Ideal.nD,
      m' ((c.tc : Thread Cert.AdA2RefIdeal.nD Cert.AdA2RefIdeal.τ).loc Cert.AdA2RefIdeal.main_arg0) = m ((c.tc : Thread Cert.AdA2Ideal.nD Cert.AdA2Ideal.τ).loc Cert.AdA2Ideal.main_arg0)
      ∧ m' ((c.tc : Thread Cert.AdA2RefIdeal.nD Cert.AdA2RefIdeal.τ).loc Cert.AdA2RefIdeal.main_arg1) = m ((c.tc : Thread Cert.AdA2Ideal.nD Cert.AdA2Ideal.τ).loc Cert.AdA2Ideal.main_arg1)
      ∧ m' ((c.tc : Thread Cert.AdA2RefIdeal.nD Cert.AdA2RefIdeal.τ).loc Cert.AdA2RefIdeal.main_arg2) = m ((c.tc : Thread Cert.AdA2Ideal.nD Cert.AdA2Ideal.τ).loc Cert.AdA2Ideal.main_arg2)
      ∧ m' ((c.tc : Thread Cert.AdA2RefIdeal.nD Cert.AdA2RefIdeal.τ).loc Cert.AdA2RefIdeal.main_arg3) = m ((c.tc : Thread Cert.AdA2Ideal.nD Cert.AdA2Ideal.τ).loc Cert.AdA2Ideal.main_arg3)) →
    ∃ (v0 : (c : Dev Cert.AdA2Ideal.nD) → Buf (Elt Ideal) ((c.tc : Thread Cert.AdA2Ideal.nD Cert.AdA2Ideal.τ).loc Cert.AdA2Ideal.main_v4_0)) (v1 : (c : Dev Cert.AdA2Ideal.nD) → Buf (Elt Ideal) ((c.tc : Thread Cert.AdA2Ideal.nD Cert.AdA2Ideal.τ).loc Cert.AdA2Ideal.main_v4_1)) (v2 : (c : Dev Cert.AdA2Ideal.nD) → Buf (Elt Ideal) ((c.tc : Thread Cert.AdA2Ideal.nD Cert.AdA2Ideal.τ).loc Cert.AdA2Ideal.main_v4_2)),
      θ_run (Cert.AdA2Ideal.defs (F := Ideal)) (onTc (τ := Cert.AdA2Ideal.τ) (Cert.AdA2Ideal.main (F := Ideal))) ⟨m, fun _ => 0, g⟩ (fun r => ∀ c : Dev Cert.AdA2Ideal.nD,
          r.2.mem ((c.tc : Thread Cert.AdA2Ideal.nD Cert.AdA2Ideal.τ).loc Cert.AdA2Ideal.main_v4_0) = v0 c
          ∧ r.2.mem ((c.tc : Thread Cert.AdA2Ideal.nD Cert.AdA2Ideal.τ).loc Cert.AdA2Ideal.main_v4_1) = v1 c
          ∧ r.2.mem ((c.tc : Thread Cert.AdA2Ideal.nD Cert.AdA2Ideal.τ).loc Cert.AdA2Ideal.main_v4_2) = v2 c
          ∧ r.2.mem ((c.tc : Thread Cert.AdA2Ideal.nD Cert.AdA2Ideal.τ).loc Cert.AdA2Ideal.main_arg0) = m ((c.tc : Thread Cert.AdA2Ideal.nD Cert.AdA2Ideal.τ).loc Cert.AdA2Ideal.main_arg0)
          ∧ r.2.mem ((c.tc : Thread Cert.AdA2Ideal.nD Cert.AdA2Ideal.τ).loc Cert.AdA2Ideal.main_arg1) = m ((c.tc : Thread Cert.AdA2Ideal.nD Cert.AdA2Ideal.τ).loc Cert.AdA2Ideal.main_arg1)
          ∧ r.2.mem ((c.tc : Thread Cert.AdA2Ideal.nD Cert.AdA2Ideal.τ).loc Cert.AdA2Ideal.main_arg2) = m ((c.tc : Thread Cert.AdA2Ideal.nD Cert.AdA2Ideal.τ).loc Cert.AdA2Ideal.main_arg2)
          ∧ r.2.mem ((c.tc : Thread Cert.AdA2Ideal.nD Cert.AdA2Ideal.τ).loc Cert.AdA2Ideal.main_arg3) = m ((c.tc : Thread Cert.AdA2Ideal.nD Cert.AdA2Ideal.τ).loc Cert.AdA2Ideal.main_arg3))
      ∧ θ_run (Cert.AdA2RefIdeal.defs (F := Ideal)) (onTc (τ := Cert.AdA2RefIdeal.τ) (Cert.AdA2RefIdeal.main (F := Ideal))) ⟨m', fun _ => 0, g'⟩ (fun r => ∀ c : Dev Cert.AdA2RefIdeal.nD,
          r.2.mem ((c.tc : Thread Cert.AdA2RefIdeal.nD Cert.AdA2RefIdeal.τ).loc Cert.AdA2RefIdeal.main_v24) = v0 c
          ∧ r.2.mem ((c.tc : Thread Cert.AdA2RefIdeal.nD Cert.AdA2RefIdeal.τ).loc Cert.AdA2RefIdeal.main_v25) = v1 c
          ∧ r.2.mem ((c.tc : Thread Cert.AdA2RefIdeal.nD Cert.AdA2RefIdeal.τ).loc Cert.AdA2RefIdeal.main_v26) = v2 c
          ∧ r.2.mem ((c.tc : Thread Cert.AdA2RefIdeal.nD Cert.AdA2RefIdeal.τ).loc Cert.AdA2RefIdeal.main_arg0) = m' ((c.tc : Thread Cert.AdA2RefIdeal.nD Cert.AdA2RefIdeal.τ).loc Cert.AdA2RefIdeal.main_arg0)
          ∧ r.2.mem ((c.tc : Thread Cert.AdA2RefIdeal.nD Cert.AdA2RefIdeal.τ).loc Cert.AdA2RefIdeal.main_arg1) = m' ((c.tc : Thread Cert.AdA2RefIdeal.nD Cert.AdA2RefIdeal.τ).loc Cert.AdA2RefIdeal.main_arg1)
          ∧ r.2.mem ((c.tc : Thread Cert.AdA2RefIdeal.nD Cert.AdA2RefIdeal.τ).loc Cert.AdA2RefIdeal.main_arg2) = m' ((c.tc : Thread Cert.AdA2RefIdeal.nD Cert.AdA2RefIdeal.τ).loc Cert.AdA2RefIdeal.main_arg2)
          ∧ r.2.mem ((c.tc : Thread Cert.AdA2RefIdeal.nD Cert.AdA2RefIdeal.τ).loc Cert.AdA2RefIdeal.main_arg3) = m' ((c.tc : Thread Cert.AdA2RefIdeal.nD Cert.AdA2RefIdeal.τ).loc Cert.AdA2RefIdeal.main_arg3))

def preserves_AdBa_AdBaIdeal : Prop :=
  True

def algebraic_AdBaIdeal_AdBaRefIdeal [hAdBaIdeal : Cert.AdBaIdeal.Facts] [hAdBaRefIdeal : Cert.AdBaRefIdeal.Facts] : Prop :=
  ∀ (m : (ℓ : Loc Cert.AdBaIdeal.nD Cert.AdBaIdeal.τ Cert.AdBaIdeal.sig) → Buf (Elt Ideal) ℓ) (g : Dev Cert.AdBaIdeal.nD → PrngReg)
    (m' : (ℓ : Loc Cert.AdBaRefIdeal.nD Cert.AdBaRefIdeal.τ Cert.AdBaRefIdeal.sig) → Buf (Elt Ideal) ℓ) (g' : Dev Cert.AdBaRefIdeal.nD → PrngReg), Pre_AdBaIdeal m →
    (∀ c : Dev Cert.AdBaIdeal.nD,
      m' ((c.tc : Thread Cert.AdBaRefIdeal.nD Cert.AdBaRefIdeal.τ).loc Cert.AdBaRefIdeal.main_arg0) = m ((c.tc : Thread Cert.AdBaIdeal.nD Cert.AdBaIdeal.τ).loc Cert.AdBaIdeal.main_arg0)
      ∧ m' ((c.tc : Thread Cert.AdBaRefIdeal.nD Cert.AdBaRefIdeal.τ).loc Cert.AdBaRefIdeal.main_arg1) = m ((c.tc : Thread Cert.AdBaIdeal.nD Cert.AdBaIdeal.τ).loc Cert.AdBaIdeal.main_arg1)
      ∧ m' ((c.tc : Thread Cert.AdBaRefIdeal.nD Cert.AdBaRefIdeal.τ).loc Cert.AdBaRefIdeal.main_arg2) = m ((c.tc : Thread Cert.AdBaIdeal.nD Cert.AdBaIdeal.τ).loc Cert.AdBaIdeal.main_arg2)
      ∧ m' ((c.tc : Thread Cert.AdBaRefIdeal.nD Cert.AdBaRefIdeal.τ).loc Cert.AdBaRefIdeal.main_arg3) = m ((c.tc : Thread Cert.AdBaIdeal.nD Cert.AdBaIdeal.τ).loc Cert.AdBaIdeal.main_arg3)) →
    ∃ (v0 : (c : Dev Cert.AdBaIdeal.nD) → Buf (Elt Ideal) ((c.tc : Thread Cert.AdBaIdeal.nD Cert.AdBaIdeal.τ).loc Cert.AdBaIdeal.main_v0_0)) (v1 : (c : Dev Cert.AdBaIdeal.nD) → Buf (Elt Ideal) ((c.tc : Thread Cert.AdBaIdeal.nD Cert.AdBaIdeal.τ).loc Cert.AdBaIdeal.main_v0_1)) (v2 : (c : Dev Cert.AdBaIdeal.nD) → Buf (Elt Ideal) ((c.tc : Thread Cert.AdBaIdeal.nD Cert.AdBaIdeal.τ).loc Cert.AdBaIdeal.main_v0_2)),
      θ_run (Cert.AdBaIdeal.defs (F := Ideal)) (onTc (τ := Cert.AdBaIdeal.τ) (Cert.AdBaIdeal.main (F := Ideal))) ⟨m, fun _ => 0, g⟩ (fun r => ∀ c : Dev Cert.AdBaIdeal.nD,
          r.2.mem ((c.tc : Thread Cert.AdBaIdeal.nD Cert.AdBaIdeal.τ).loc Cert.AdBaIdeal.main_v0_0) = v0 c
          ∧ r.2.mem ((c.tc : Thread Cert.AdBaIdeal.nD Cert.AdBaIdeal.τ).loc Cert.AdBaIdeal.main_v0_1) = v1 c
          ∧ r.2.mem ((c.tc : Thread Cert.AdBaIdeal.nD Cert.AdBaIdeal.τ).loc Cert.AdBaIdeal.main_v0_2) = v2 c
          ∧ r.2.mem ((c.tc : Thread Cert.AdBaIdeal.nD Cert.AdBaIdeal.τ).loc Cert.AdBaIdeal.main_arg0) = m ((c.tc : Thread Cert.AdBaIdeal.nD Cert.AdBaIdeal.τ).loc Cert.AdBaIdeal.main_arg0)
          ∧ r.2.mem ((c.tc : Thread Cert.AdBaIdeal.nD Cert.AdBaIdeal.τ).loc Cert.AdBaIdeal.main_arg1) = m ((c.tc : Thread Cert.AdBaIdeal.nD Cert.AdBaIdeal.τ).loc Cert.AdBaIdeal.main_arg1)
          ∧ r.2.mem ((c.tc : Thread Cert.AdBaIdeal.nD Cert.AdBaIdeal.τ).loc Cert.AdBaIdeal.main_arg2) = m ((c.tc : Thread Cert.AdBaIdeal.nD Cert.AdBaIdeal.τ).loc Cert.AdBaIdeal.main_arg2)
          ∧ r.2.mem ((c.tc : Thread Cert.AdBaIdeal.nD Cert.AdBaIdeal.τ).loc Cert.AdBaIdeal.main_arg3) = m ((c.tc : Thread Cert.AdBaIdeal.nD Cert.AdBaIdeal.τ).loc Cert.AdBaIdeal.main_arg3))
      ∧ θ_run (Cert.AdBaRefIdeal.defs (F := Ideal)) (onTc (τ := Cert.AdBaRefIdeal.τ) (Cert.AdBaRefIdeal.main (F := Ideal))) ⟨m', fun _ => 0, g'⟩ (fun r => ∀ c : Dev Cert.AdBaRefIdeal.nD,
          r.2.mem ((c.tc : Thread Cert.AdBaRefIdeal.nD Cert.AdBaRefIdeal.τ).loc Cert.AdBaRefIdeal.main_v23) = v0 c
          ∧ r.2.mem ((c.tc : Thread Cert.AdBaRefIdeal.nD Cert.AdBaRefIdeal.τ).loc Cert.AdBaRefIdeal.main_v4) = v1 c
          ∧ r.2.mem ((c.tc : Thread Cert.AdBaRefIdeal.nD Cert.AdBaRefIdeal.τ).loc Cert.AdBaRefIdeal.main_v10) = v2 c
          ∧ r.2.mem ((c.tc : Thread Cert.AdBaRefIdeal.nD Cert.AdBaRefIdeal.τ).loc Cert.AdBaRefIdeal.main_arg0) = m' ((c.tc : Thread Cert.AdBaRefIdeal.nD Cert.AdBaRefIdeal.τ).loc Cert.AdBaRefIdeal.main_arg0)
          ∧ r.2.mem ((c.tc : Thread Cert.AdBaRefIdeal.nD Cert.AdBaRefIdeal.τ).loc Cert.AdBaRefIdeal.main_arg1) = m' ((c.tc : Thread Cert.AdBaRefIdeal.nD Cert.AdBaRefIdeal.τ).loc Cert.AdBaRefIdeal.main_arg1)
          ∧ r.2.mem ((c.tc : Thread Cert.AdBaRefIdeal.nD Cert.AdBaRefIdeal.τ).loc Cert.AdBaRefIdeal.main_arg2) = m' ((c.tc : Thread Cert.AdBaRefIdeal.nD Cert.AdBaRefIdeal.τ).loc Cert.AdBaRefIdeal.main_arg2)
          ∧ r.2.mem ((c.tc : Thread Cert.AdBaRefIdeal.nD Cert.AdBaRefIdeal.τ).loc Cert.AdBaRefIdeal.main_arg3) = m' ((c.tc : Thread Cert.AdBaRefIdeal.nD Cert.AdBaRefIdeal.τ).loc Cert.AdBaRefIdeal.main_arg3))

def preserves_AdNorm_AdNormIdeal : Prop :=
  True

def algebraic_AdNormIdeal_AdNormRefIdeal [hAdNormIdeal : Cert.AdNormIdeal.Facts] [hAdNormRefIdeal : Cert.AdNormRefIdeal.Facts] : Prop :=
  ∀ (m : (ℓ : Loc Cert.AdNormIdeal.nD Cert.AdNormIdeal.τ Cert.AdNormIdeal.sig) → Buf (Elt Ideal) ℓ) (g : Dev Cert.AdNormIdeal.nD → PrngReg)
    (m' : (ℓ : Loc Cert.AdNormRefIdeal.nD Cert.AdNormRefIdeal.τ Cert.AdNormRefIdeal.sig) → Buf (Elt Ideal) ℓ) (g' : Dev Cert.AdNormRefIdeal.nD → PrngReg), Pre_AdNormIdeal m →
    (∀ c : Dev Cert.AdNormIdeal.nD,
      m' ((c.tc : Thread Cert.AdNormRefIdeal.nD Cert.AdNormRefIdeal.τ).loc Cert.AdNormRefIdeal.main_arg0) = m ((c.tc : Thread Cert.AdNormIdeal.nD Cert.AdNormIdeal.τ).loc Cert.AdNormIdeal.main_arg0)
      ∧ m' ((c.tc : Thread Cert.AdNormRefIdeal.nD Cert.AdNormRefIdeal.τ).loc Cert.AdNormRefIdeal.main_arg1) = m ((c.tc : Thread Cert.AdNormIdeal.nD Cert.AdNormIdeal.τ).loc Cert.AdNormIdeal.main_arg1)
      ∧ m' ((c.tc : Thread Cert.AdNormRefIdeal.nD Cert.AdNormRefIdeal.τ).loc Cert.AdNormRefIdeal.main_arg2) = m ((c.tc : Thread Cert.AdNormIdeal.nD Cert.AdNormIdeal.τ).loc Cert.AdNormIdeal.main_arg2)
      ∧ m' ((c.tc : Thread Cert.AdNormRefIdeal.nD Cert.AdNormRefIdeal.τ).loc Cert.AdNormRefIdeal.main_arg3) = m ((c.tc : Thread Cert.AdNormIdeal.nD Cert.AdNormIdeal.τ).loc Cert.AdNormIdeal.main_arg3)) →
    ∃ (v0 : (c : Dev Cert.AdNormIdeal.nD) → Buf (Elt Ideal) ((c.tc : Thread Cert.AdNormIdeal.nD Cert.AdNormIdeal.τ).loc Cert.AdNormIdeal.main_v0_0)) (v1 : (c : Dev Cert.AdNormIdeal.nD) → Buf (Elt Ideal) ((c.tc : Thread Cert.AdNormIdeal.nD Cert.AdNormIdeal.τ).loc Cert.AdNormIdeal.main_v0_1)) (v2 : (c : Dev Cert.AdNormIdeal.nD) → Buf (Elt Ideal) ((c.tc : Thread Cert.AdNormIdeal.nD Cert.AdNormIdeal.τ).loc Cert.AdNormIdeal.main_v0_2)),
      θ_run (Cert.AdNormIdeal.defs (F := Ideal)) (onTc (τ := Cert.AdNormIdeal.τ) (Cert.AdNormIdeal.main (F := Ideal))) ⟨m, fun _ => 0, g⟩ (fun r => ∀ c : Dev Cert.AdNormIdeal.nD,
          r.2.mem ((c.tc : Thread Cert.AdNormIdeal.nD Cert.AdNormIdeal.τ).loc Cert.AdNormIdeal.main_v0_0) = v0 c
          ∧ r.2.mem ((c.tc : Thread Cert.AdNormIdeal.nD Cert.AdNormIdeal.τ).loc Cert.AdNormIdeal.main_v0_1) = v1 c
          ∧ r.2.mem ((c.tc : Thread Cert.AdNormIdeal.nD Cert.AdNormIdeal.τ).loc Cert.AdNormIdeal.main_v0_2) = v2 c
          ∧ r.2.mem ((c.tc : Thread Cert.AdNormIdeal.nD Cert.AdNormIdeal.τ).loc Cert.AdNormIdeal.main_arg0) = m ((c.tc : Thread Cert.AdNormIdeal.nD Cert.AdNormIdeal.τ).loc Cert.AdNormIdeal.main_arg0)
          ∧ r.2.mem ((c.tc : Thread Cert.AdNormIdeal.nD Cert.AdNormIdeal.τ).loc Cert.AdNormIdeal.main_arg1) = m ((c.tc : Thread Cert.AdNormIdeal.nD Cert.AdNormIdeal.τ).loc Cert.AdNormIdeal.main_arg1)
          ∧ r.2.mem ((c.tc : Thread Cert.AdNormIdeal.nD Cert.AdNormIdeal.τ).loc Cert.AdNormIdeal.main_arg2) = m ((c.tc : Thread Cert.AdNormIdeal.nD Cert.AdNormIdeal.τ).loc Cert.AdNormIdeal.main_arg2)
          ∧ r.2.mem ((c.tc : Thread Cert.AdNormIdeal.nD Cert.AdNormIdeal.τ).loc Cert.AdNormIdeal.main_arg3) = m ((c.tc : Thread Cert.AdNormIdeal.nD Cert.AdNormIdeal.τ).loc Cert.AdNormIdeal.main_arg3))
      ∧ θ_run (Cert.AdNormRefIdeal.defs (F := Ideal)) (onTc (τ := Cert.AdNormRefIdeal.τ) (Cert.AdNormRefIdeal.main (F := Ideal))) ⟨m', fun _ => 0, g'⟩ (fun r => ∀ c : Dev Cert.AdNormRefIdeal.nD,
          r.2.mem ((c.tc : Thread Cert.AdNormRefIdeal.nD Cert.AdNormRefIdeal.τ).loc Cert.AdNormRefIdeal.main_v23) = v0 c
          ∧ r.2.mem ((c.tc : Thread Cert.AdNormRefIdeal.nD Cert.AdNormRefIdeal.τ).loc Cert.AdNormRefIdeal.main_v4) = v1 c
          ∧ r.2.mem ((c.tc : Thread Cert.AdNormRefIdeal.nD Cert.AdNormRefIdeal.τ).loc Cert.AdNormRefIdeal.main_v10) = v2 c
          ∧ r.2.mem ((c.tc : Thread Cert.AdNormRefIdeal.nD Cert.AdNormRefIdeal.τ).loc Cert.AdNormRefIdeal.main_arg0) = m' ((c.tc : Thread Cert.AdNormRefIdeal.nD Cert.AdNormRefIdeal.τ).loc Cert.AdNormRefIdeal.main_arg0)
          ∧ r.2.mem ((c.tc : Thread Cert.AdNormRefIdeal.nD Cert.AdNormRefIdeal.τ).loc Cert.AdNormRefIdeal.main_arg1) = m' ((c.tc : Thread Cert.AdNormRefIdeal.nD Cert.AdNormRefIdeal.τ).loc Cert.AdNormRefIdeal.main_arg1)
          ∧ r.2.mem ((c.tc : Thread Cert.AdNormRefIdeal.nD Cert.AdNormRefIdeal.τ).loc Cert.AdNormRefIdeal.main_arg2) = m' ((c.tc : Thread Cert.AdNormRefIdeal.nD Cert.AdNormRefIdeal.τ).loc Cert.AdNormRefIdeal.main_arg2)
          ∧ r.2.mem ((c.tc : Thread Cert.AdNormRefIdeal.nD Cert.AdNormRefIdeal.τ).loc Cert.AdNormRefIdeal.main_arg3) = m' ((c.tc : Thread Cert.AdNormRefIdeal.nD Cert.AdNormRefIdeal.τ).loc Cert.AdNormRefIdeal.main_arg3))

def preserves_AdUp_AdUpIdeal : Prop :=
  True

def algebraic_AdUpIdeal_AdUpRefIdeal [hAdUpIdeal : Cert.AdUpIdeal.Facts] [hAdUpRefIdeal : Cert.AdUpRefIdeal.Facts] : Prop :=
  ∀ (m : (ℓ : Loc Cert.AdUpIdeal.nD Cert.AdUpIdeal.τ Cert.AdUpIdeal.sig) → Buf (Elt Ideal) ℓ) (g : Dev Cert.AdUpIdeal.nD → PrngReg)
    (m' : (ℓ : Loc Cert.AdUpRefIdeal.nD Cert.AdUpRefIdeal.τ Cert.AdUpRefIdeal.sig) → Buf (Elt Ideal) ℓ) (g' : Dev Cert.AdUpRefIdeal.nD → PrngReg), Pre_AdUpIdeal m →
    (∀ c : Dev Cert.AdUpIdeal.nD,
      m' ((c.tc : Thread Cert.AdUpRefIdeal.nD Cert.AdUpRefIdeal.τ).loc Cert.AdUpRefIdeal.main_arg0) = m ((c.tc : Thread Cert.AdUpIdeal.nD Cert.AdUpIdeal.τ).loc Cert.AdUpIdeal.main_arg0)
      ∧ m' ((c.tc : Thread Cert.AdUpRefIdeal.nD Cert.AdUpRefIdeal.τ).loc Cert.AdUpRefIdeal.main_arg1) = m ((c.tc : Thread Cert.AdUpIdeal.nD Cert.AdUpIdeal.τ).loc Cert.AdUpIdeal.main_arg1)
      ∧ m' ((c.tc : Thread Cert.AdUpRefIdeal.nD Cert.AdUpRefIdeal.τ).loc Cert.AdUpRefIdeal.main_arg2) = m ((c.tc : Thread Cert.AdUpIdeal.nD Cert.AdUpIdeal.τ).loc Cert.AdUpIdeal.main_arg2)
      ∧ m' ((c.tc : Thread Cert.AdUpRefIdeal.nD Cert.AdUpRefIdeal.τ).loc Cert.AdUpRefIdeal.main_arg3) = m ((c.tc : Thread Cert.AdUpIdeal.nD Cert.AdUpIdeal.τ).loc Cert.AdUpIdeal.main_arg3)) →
    ∃ (v0 : (c : Dev Cert.AdUpIdeal.nD) → Buf (Elt Ideal) ((c.tc : Thread Cert.AdUpIdeal.nD Cert.AdUpIdeal.τ).loc Cert.AdUpIdeal.main_v4_0)) (v1 : (c : Dev Cert.AdUpIdeal.nD) → Buf (Elt Ideal) ((c.tc : Thread Cert.AdUpIdeal.nD Cert.AdUpIdeal.τ).loc Cert.AdUpIdeal.main_v4_1)) (v2 : (c : Dev Cert.AdUpIdeal.nD) → Buf (Elt Ideal) ((c.tc : Thread Cert.AdUpIdeal.nD Cert.AdUpIdeal.τ).loc Cert.AdUpIdeal.main_v4_2)),
      θ_run (Cert.AdUpIdeal.defs (F := Ideal)) (onTc (τ := Cert.AdUpIdeal.τ) (Cert.AdUpIdeal.main (F := Ideal))) ⟨m, fun _ => 0, g⟩ (fun r => ∀ c : Dev Cert.AdUpIdeal.nD,
          r.2.mem ((c.tc : Thread Cert.AdUpIdeal.nD Cert.AdUpIdeal.τ).loc Cert.AdUpIdeal.main_v4_0) = v0 c
          ∧ r.2.mem ((c.tc : Thread Cert.AdUpIdeal.nD Cert.AdUpIdeal.τ).loc Cert.AdUpIdeal.main_v4_1) = v1 c
          ∧ r.2.mem ((c.tc : Thread Cert.AdUpIdeal.nD Cert.AdUpIdeal.τ).loc Cert.AdUpIdeal.main_v4_2) = v2 c
          ∧ r.2.mem ((c.tc : Thread Cert.AdUpIdeal.nD Cert.AdUpIdeal.τ).loc Cert.AdUpIdeal.main_arg0) = m ((c.tc : Thread Cert.AdUpIdeal.nD Cert.AdUpIdeal.τ).loc Cert.AdUpIdeal.main_arg0)
          ∧ r.2.mem ((c.tc : Thread Cert.AdUpIdeal.nD Cert.AdUpIdeal.τ).loc Cert.AdUpIdeal.main_arg1) = m ((c.tc : Thread Cert.AdUpIdeal.nD Cert.AdUpIdeal.τ).loc Cert.AdUpIdeal.main_arg1)
          ∧ r.2.mem ((c.tc : Thread Cert.AdUpIdeal.nD Cert.AdUpIdeal.τ).loc Cert.AdUpIdeal.main_arg2) = m ((c.tc : Thread Cert.AdUpIdeal.nD Cert.AdUpIdeal.τ).loc Cert.AdUpIdeal.main_arg2)
          ∧ r.2.mem ((c.tc : Thread Cert.AdUpIdeal.nD Cert.AdUpIdeal.τ).loc Cert.AdUpIdeal.main_arg3) = m ((c.tc : Thread Cert.AdUpIdeal.nD Cert.AdUpIdeal.τ).loc Cert.AdUpIdeal.main_arg3))
      ∧ θ_run (Cert.AdUpRefIdeal.defs (F := Ideal)) (onTc (τ := Cert.AdUpRefIdeal.τ) (Cert.AdUpRefIdeal.main (F := Ideal))) ⟨m', fun _ => 0, g'⟩ (fun r => ∀ c : Dev Cert.AdUpRefIdeal.nD,
          r.2.mem ((c.tc : Thread Cert.AdUpRefIdeal.nD Cert.AdUpRefIdeal.τ).loc Cert.AdUpRefIdeal.main_v24) = v0 c
          ∧ r.2.mem ((c.tc : Thread Cert.AdUpRefIdeal.nD Cert.AdUpRefIdeal.τ).loc Cert.AdUpRefIdeal.main_v25) = v1 c
          ∧ r.2.mem ((c.tc : Thread Cert.AdUpRefIdeal.nD Cert.AdUpRefIdeal.τ).loc Cert.AdUpRefIdeal.main_v26) = v2 c
          ∧ r.2.mem ((c.tc : Thread Cert.AdUpRefIdeal.nD Cert.AdUpRefIdeal.τ).loc Cert.AdUpRefIdeal.main_arg0) = m' ((c.tc : Thread Cert.AdUpRefIdeal.nD Cert.AdUpRefIdeal.τ).loc Cert.AdUpRefIdeal.main_arg0)
          ∧ r.2.mem ((c.tc : Thread Cert.AdUpRefIdeal.nD Cert.AdUpRefIdeal.τ).loc Cert.AdUpRefIdeal.main_arg1) = m' ((c.tc : Thread Cert.AdUpRefIdeal.nD Cert.AdUpRefIdeal.τ).loc Cert.AdUpRefIdeal.main_arg1)
          ∧ r.2.mem ((c.tc : Thread Cert.AdUpRefIdeal.nD Cert.AdUpRefIdeal.τ).loc Cert.AdUpRefIdeal.main_arg2) = m' ((c.tc : Thread Cert.AdUpRefIdeal.nD Cert.AdUpRefIdeal.τ).loc Cert.AdUpRefIdeal.main_arg2)
          ∧ r.2.mem ((c.tc : Thread Cert.AdUpRefIdeal.nD Cert.AdUpRefIdeal.τ).loc Cert.AdUpRefIdeal.main_arg3) = m' ((c.tc : Thread Cert.AdUpRefIdeal.nD Cert.AdUpRefIdeal.τ).loc Cert.AdUpRefIdeal.main_arg3))

def preserves_AdConvW_AdConvWIdeal : Prop :=
  True

def algebraic_AdConvWIdeal_AdConvWRefIdeal [hAdConvWIdeal : Cert.AdConvWIdeal.Facts] [hAdConvWRefIdeal : Cert.AdConvWRefIdeal.Facts] : Prop :=
  ∀ (m : (ℓ : Loc Cert.AdConvWIdeal.nD Cert.AdConvWIdeal.τ Cert.AdConvWIdeal.sig) → Buf (Elt Ideal) ℓ) (g : Dev Cert.AdConvWIdeal.nD → PrngReg)
    (m' : (ℓ : Loc Cert.AdConvWRefIdeal.nD Cert.AdConvWRefIdeal.τ Cert.AdConvWRefIdeal.sig) → Buf (Elt Ideal) ℓ) (g' : Dev Cert.AdConvWRefIdeal.nD → PrngReg), Pre_AdConvWIdeal m →
    (∀ c : Dev Cert.AdConvWIdeal.nD,
      m' ((c.tc : Thread Cert.AdConvWRefIdeal.nD Cert.AdConvWRefIdeal.τ).loc Cert.AdConvWRefIdeal.main_arg0) = m ((c.tc : Thread Cert.AdConvWIdeal.nD Cert.AdConvWIdeal.τ).loc Cert.AdConvWIdeal.main_arg0)
      ∧ m' ((c.tc : Thread Cert.AdConvWRefIdeal.nD Cert.AdConvWRefIdeal.τ).loc Cert.AdConvWRefIdeal.main_arg1) = m ((c.tc : Thread Cert.AdConvWIdeal.nD Cert.AdConvWIdeal.τ).loc Cert.AdConvWIdeal.main_arg1)
      ∧ m' ((c.tc : Thread Cert.AdConvWRefIdeal.nD Cert.AdConvWRefIdeal.τ).loc Cert.AdConvWRefIdeal.main_arg2) = m ((c.tc : Thread Cert.AdConvWIdeal.nD Cert.AdConvWIdeal.τ).loc Cert.AdConvWIdeal.main_arg2)
      ∧ m' ((c.tc : Thread Cert.AdConvWRefIdeal.nD Cert.AdConvWRefIdeal.τ).loc Cert.AdConvWRefIdeal.main_arg3) = m ((c.tc : Thread Cert.AdConvWIdeal.nD Cert.AdConvWIdeal.τ).loc Cert.AdConvWIdeal.main_arg3)) →
    ∃ (v0 : (c : Dev Cert.AdConvWIdeal.nD) → Buf (Elt Ideal) ((c.tc : Thread Cert.AdConvWIdeal.nD Cert.AdConvWIdeal.τ).loc Cert.AdConvWIdeal.main_v4_0)) (v1 : (c : Dev Cert.AdConvWIdeal.nD) → Buf (Elt Ideal) ((c.tc : Thread Cert.AdConvWIdeal.nD Cert.AdConvWIdeal.τ).loc Cert.AdConvWIdeal.main_v4_1)) (v2 : (c : Dev Cert.AdConvWIdeal.nD) → Buf (Elt Ideal) ((c.tc : Thread Cert.AdConvWIdeal.nD Cert.AdConvWIdeal.τ).loc Cert.AdConvWIdeal.main_v4_2)),
      θ_run (Cert.AdConvWIdeal.defs (F := Ideal)) (onTc (τ := Cert.AdConvWIdeal.τ) (Cert.AdConvWIdeal.main (F := Ideal))) ⟨m, fun _ => 0, g⟩ (fun r => ∀ c : Dev Cert.AdConvWIdeal.nD,
          r.2.mem ((c.tc : Thread Cert.AdConvWIdeal.nD Cert.AdConvWIdeal.τ).loc Cert.AdConvWIdeal.main_v4_0) = v0 c
          ∧ r.2.mem ((c.tc : Thread Cert.AdConvWIdeal.nD Cert.AdConvWIdeal.τ).loc Cert.AdConvWIdeal.main_v4_1) = v1 c
          ∧ r.2.mem ((c.tc : Thread Cert.AdConvWIdeal.nD Cert.AdConvWIdeal.τ).loc Cert.AdConvWIdeal.main_v4_2) = v2 c
          ∧ r.2.mem ((c.tc : Thread Cert.AdConvWIdeal.nD Cert.AdConvWIdeal.τ).loc Cert.AdConvWIdeal.main_arg0) = m ((c.tc : Thread Cert.AdConvWIdeal.nD Cert.AdConvWIdeal.τ).loc Cert.AdConvWIdeal.main_arg0)
          ∧ r.2.mem ((c.tc : Thread Cert.AdConvWIdeal.nD Cert.AdConvWIdeal.τ).loc Cert.AdConvWIdeal.main_arg1) = m ((c.tc : Thread Cert.AdConvWIdeal.nD Cert.AdConvWIdeal.τ).loc Cert.AdConvWIdeal.main_arg1)
          ∧ r.2.mem ((c.tc : Thread Cert.AdConvWIdeal.nD Cert.AdConvWIdeal.τ).loc Cert.AdConvWIdeal.main_arg2) = m ((c.tc : Thread Cert.AdConvWIdeal.nD Cert.AdConvWIdeal.τ).loc Cert.AdConvWIdeal.main_arg2)
          ∧ r.2.mem ((c.tc : Thread Cert.AdConvWIdeal.nD Cert.AdConvWIdeal.τ).loc Cert.AdConvWIdeal.main_arg3) = m ((c.tc : Thread Cert.AdConvWIdeal.nD Cert.AdConvWIdeal.τ).loc Cert.AdConvWIdeal.main_arg3))
      ∧ θ_run (Cert.AdConvWRefIdeal.defs (F := Ideal)) (onTc (τ := Cert.AdConvWRefIdeal.τ) (Cert.AdConvWRefIdeal.main (F := Ideal))) ⟨m', fun _ => 0, g'⟩ (fun r => ∀ c : Dev Cert.AdConvWRefIdeal.nD,
          r.2.mem ((c.tc : Thread Cert.AdConvWRefIdeal.nD Cert.AdConvWRefIdeal.τ).loc Cert.AdConvWRefIdeal.main_v24) = v0 c
          ∧ r.2.mem ((c.tc : Thread Cert.AdConvWRefIdeal.nD Cert.AdConvWRefIdeal.τ).loc Cert.AdConvWRefIdeal.main_v25) = v1 c
          ∧ r.2.mem ((c.tc : Thread Cert.AdConvWRefIdeal.nD Cert.AdConvWRefIdeal.τ).loc Cert.AdConvWRefIdeal.main_v26) = v2 c
          ∧ r.2.mem ((c.tc : Thread Cert.AdConvWRefIdeal.nD Cert.AdConvWRefIdeal.τ).loc Cert.AdConvWRefIdeal.main_arg0) = m' ((c.tc : Thread Cert.AdConvWRefIdeal.nD Cert.AdConvWRefIdeal.τ).loc Cert.AdConvWRefIdeal.main_arg0)
          ∧ r.2.mem ((c.tc : Thread Cert.AdConvWRefIdeal.nD Cert.AdConvWRefIdeal.τ).loc Cert.AdConvWRefIdeal.main_arg1) = m' ((c.tc : Thread Cert.AdConvWRefIdeal.nD Cert.AdConvWRefIdeal.τ).loc Cert.AdConvWRefIdeal.main_arg1)
          ∧ r.2.mem ((c.tc : Thread Cert.AdConvWRefIdeal.nD Cert.AdConvWRefIdeal.τ).loc Cert.AdConvWRefIdeal.main_arg2) = m' ((c.tc : Thread Cert.AdConvWRefIdeal.nD Cert.AdConvWRefIdeal.τ).loc Cert.AdConvWRefIdeal.main_arg2)
          ∧ r.2.mem ((c.tc : Thread Cert.AdConvWRefIdeal.nD Cert.AdConvWRefIdeal.τ).loc Cert.AdConvWRefIdeal.main_arg3) = m' ((c.tc : Thread Cert.AdConvWRefIdeal.nD Cert.AdConvWRefIdeal.τ).loc Cert.AdConvWRefIdeal.main_arg3))

def preserves_AdConvB_AdConvBIdeal : Prop :=
  True

def algebraic_AdConvBIdeal_AdConvBRefIdeal [hAdConvBIdeal : Cert.AdConvBIdeal.Facts] [hAdConvBRefIdeal : Cert.AdConvBRefIdeal.Facts] : Prop :=
  ∀ (m : (ℓ : Loc Cert.AdConvBIdeal.nD Cert.AdConvBIdeal.τ Cert.AdConvBIdeal.sig) → Buf (Elt Ideal) ℓ) (g : Dev Cert.AdConvBIdeal.nD → PrngReg)
    (m' : (ℓ : Loc Cert.AdConvBRefIdeal.nD Cert.AdConvBRefIdeal.τ Cert.AdConvBRefIdeal.sig) → Buf (Elt Ideal) ℓ) (g' : Dev Cert.AdConvBRefIdeal.nD → PrngReg), Pre_AdConvBIdeal m →
    (∀ c : Dev Cert.AdConvBIdeal.nD,
      m' ((c.tc : Thread Cert.AdConvBRefIdeal.nD Cert.AdConvBRefIdeal.τ).loc Cert.AdConvBRefIdeal.main_arg0) = m ((c.tc : Thread Cert.AdConvBIdeal.nD Cert.AdConvBIdeal.τ).loc Cert.AdConvBIdeal.main_arg0)
      ∧ m' ((c.tc : Thread Cert.AdConvBRefIdeal.nD Cert.AdConvBRefIdeal.τ).loc Cert.AdConvBRefIdeal.main_arg1) = m ((c.tc : Thread Cert.AdConvBIdeal.nD Cert.AdConvBIdeal.τ).loc Cert.AdConvBIdeal.main_arg1)
      ∧ m' ((c.tc : Thread Cert.AdConvBRefIdeal.nD Cert.AdConvBRefIdeal.τ).loc Cert.AdConvBRefIdeal.main_arg2) = m ((c.tc : Thread Cert.AdConvBIdeal.nD Cert.AdConvBIdeal.τ).loc Cert.AdConvBIdeal.main_arg2)
      ∧ m' ((c.tc : Thread Cert.AdConvBRefIdeal.nD Cert.AdConvBRefIdeal.τ).loc Cert.AdConvBRefIdeal.main_arg3) = m ((c.tc : Thread Cert.AdConvBIdeal.nD Cert.AdConvBIdeal.τ).loc Cert.AdConvBIdeal.main_arg3)) →
    ∃ (v0 : (c : Dev Cert.AdConvBIdeal.nD) → Buf (Elt Ideal) ((c.tc : Thread Cert.AdConvBIdeal.nD Cert.AdConvBIdeal.τ).loc Cert.AdConvBIdeal.main_v0_0)) (v1 : (c : Dev Cert.AdConvBIdeal.nD) → Buf (Elt Ideal) ((c.tc : Thread Cert.AdConvBIdeal.nD Cert.AdConvBIdeal.τ).loc Cert.AdConvBIdeal.main_v0_1)) (v2 : (c : Dev Cert.AdConvBIdeal.nD) → Buf (Elt Ideal) ((c.tc : Thread Cert.AdConvBIdeal.nD Cert.AdConvBIdeal.τ).loc Cert.AdConvBIdeal.main_v0_2)),
      θ_run (Cert.AdConvBIdeal.defs (F := Ideal)) (onTc (τ := Cert.AdConvBIdeal.τ) (Cert.AdConvBIdeal.main (F := Ideal))) ⟨m, fun _ => 0, g⟩ (fun r => ∀ c : Dev Cert.AdConvBIdeal.nD,
          r.2.mem ((c.tc : Thread Cert.AdConvBIdeal.nD Cert.AdConvBIdeal.τ).loc Cert.AdConvBIdeal.main_v0_0) = v0 c
          ∧ r.2.mem ((c.tc : Thread Cert.AdConvBIdeal.nD Cert.AdConvBIdeal.τ).loc Cert.AdConvBIdeal.main_v0_1) = v1 c
          ∧ r.2.mem ((c.tc : Thread Cert.AdConvBIdeal.nD Cert.AdConvBIdeal.τ).loc Cert.AdConvBIdeal.main_v0_2) = v2 c
          ∧ r.2.mem ((c.tc : Thread Cert.AdConvBIdeal.nD Cert.AdConvBIdeal.τ).loc Cert.AdConvBIdeal.main_arg0) = m ((c.tc : Thread Cert.AdConvBIdeal.nD Cert.AdConvBIdeal.τ).loc Cert.AdConvBIdeal.main_arg0)
          ∧ r.2.mem ((c.tc : Thread Cert.AdConvBIdeal.nD Cert.AdConvBIdeal.τ).loc Cert.AdConvBIdeal.main_arg1) = m ((c.tc : Thread Cert.AdConvBIdeal.nD Cert.AdConvBIdeal.τ).loc Cert.AdConvBIdeal.main_arg1)
          ∧ r.2.mem ((c.tc : Thread Cert.AdConvBIdeal.nD Cert.AdConvBIdeal.τ).loc Cert.AdConvBIdeal.main_arg2) = m ((c.tc : Thread Cert.AdConvBIdeal.nD Cert.AdConvBIdeal.τ).loc Cert.AdConvBIdeal.main_arg2)
          ∧ r.2.mem ((c.tc : Thread Cert.AdConvBIdeal.nD Cert.AdConvBIdeal.τ).loc Cert.AdConvBIdeal.main_arg3) = m ((c.tc : Thread Cert.AdConvBIdeal.nD Cert.AdConvBIdeal.τ).loc Cert.AdConvBIdeal.main_arg3))
      ∧ θ_run (Cert.AdConvBRefIdeal.defs (F := Ideal)) (onTc (τ := Cert.AdConvBRefIdeal.τ) (Cert.AdConvBRefIdeal.main (F := Ideal))) ⟨m', fun _ => 0, g'⟩ (fun r => ∀ c : Dev Cert.AdConvBRefIdeal.nD,
          r.2.mem ((c.tc : Thread Cert.AdConvBRefIdeal.nD Cert.AdConvBRefIdeal.τ).loc Cert.AdConvBRefIdeal.main_v23) = v0 c
          ∧ r.2.mem ((c.tc : Thread Cert.AdConvBRefIdeal.nD Cert.AdConvBRefIdeal.τ).loc Cert.AdConvBRefIdeal.main_v4) = v1 c
          ∧ r.2.mem ((c.tc : Thread Cert.AdConvBRefIdeal.nD Cert.AdConvBRefIdeal.τ).loc Cert.AdConvBRefIdeal.main_v10) = v2 c
          ∧ r.2.mem ((c.tc : Thread Cert.AdConvBRefIdeal.nD Cert.AdConvBRefIdeal.τ).loc Cert.AdConvBRefIdeal.main_arg0) = m' ((c.tc : Thread Cert.AdConvBRefIdeal.nD Cert.AdConvBRefIdeal.τ).loc Cert.AdConvBRefIdeal.main_arg0)
          ∧ r.2.mem ((c.tc : Thread Cert.AdConvBRefIdeal.nD Cert.AdConvBRefIdeal.τ).loc Cert.AdConvBRefIdeal.main_arg1) = m' ((c.tc : Thread Cert.AdConvBRefIdeal.nD Cert.AdConvBRefIdeal.τ).loc Cert.AdConvBRefIdeal.main_arg1)
          ∧ r.2.mem ((c.tc : Thread Cert.AdConvBRefIdeal.nD Cert.AdConvBRefIdeal.τ).loc Cert.AdConvBRefIdeal.main_arg2) = m' ((c.tc : Thread Cert.AdConvBRefIdeal.nD Cert.AdConvBRefIdeal.τ).loc Cert.AdConvBRefIdeal.main_arg2)
          ∧ r.2.mem ((c.tc : Thread Cert.AdConvBRefIdeal.nD Cert.AdConvBRefIdeal.τ).loc Cert.AdConvBRefIdeal.main_arg3) = m' ((c.tc : Thread Cert.AdConvBRefIdeal.nD Cert.AdConvBRefIdeal.τ).loc Cert.AdConvBRefIdeal.main_arg3))

def preserves_AdDown_AdDownIdeal : Prop :=
  True

def algebraic_AdDownIdeal_AdDownRefIdeal [hAdDownIdeal : Cert.AdDownIdeal.Facts] [hAdDownRefIdeal : Cert.AdDownRefIdeal.Facts] : Prop :=
  ∀ (m : (ℓ : Loc Cert.AdDownIdeal.nD Cert.AdDownIdeal.τ Cert.AdDownIdeal.sig) → Buf (Elt Ideal) ℓ) (g : Dev Cert.AdDownIdeal.nD → PrngReg)
    (m' : (ℓ : Loc Cert.AdDownRefIdeal.nD Cert.AdDownRefIdeal.τ Cert.AdDownRefIdeal.sig) → Buf (Elt Ideal) ℓ) (g' : Dev Cert.AdDownRefIdeal.nD → PrngReg), Pre_AdDownIdeal m →
    (∀ c : Dev Cert.AdDownIdeal.nD,
      m' ((c.tc : Thread Cert.AdDownRefIdeal.nD Cert.AdDownRefIdeal.τ).loc Cert.AdDownRefIdeal.main_arg0) = m ((c.tc : Thread Cert.AdDownIdeal.nD Cert.AdDownIdeal.τ).loc Cert.AdDownIdeal.main_arg0)
      ∧ m' ((c.tc : Thread Cert.AdDownRefIdeal.nD Cert.AdDownRefIdeal.τ).loc Cert.AdDownRefIdeal.main_arg1) = m ((c.tc : Thread Cert.AdDownIdeal.nD Cert.AdDownIdeal.τ).loc Cert.AdDownIdeal.main_arg1)
      ∧ m' ((c.tc : Thread Cert.AdDownRefIdeal.nD Cert.AdDownRefIdeal.τ).loc Cert.AdDownRefIdeal.main_arg2) = m ((c.tc : Thread Cert.AdDownIdeal.nD Cert.AdDownIdeal.τ).loc Cert.AdDownIdeal.main_arg2)
      ∧ m' ((c.tc : Thread Cert.AdDownRefIdeal.nD Cert.AdDownRefIdeal.τ).loc Cert.AdDownRefIdeal.main_arg3) = m ((c.tc : Thread Cert.AdDownIdeal.nD Cert.AdDownIdeal.τ).loc Cert.AdDownIdeal.main_arg3)) →
    ∃ (v0 : (c : Dev Cert.AdDownIdeal.nD) → Buf (Elt Ideal) ((c.tc : Thread Cert.AdDownIdeal.nD Cert.AdDownIdeal.τ).loc Cert.AdDownIdeal.main_v4_0)) (v1 : (c : Dev Cert.AdDownIdeal.nD) → Buf (Elt Ideal) ((c.tc : Thread Cert.AdDownIdeal.nD Cert.AdDownIdeal.τ).loc Cert.AdDownIdeal.main_v4_1)) (v2 : (c : Dev Cert.AdDownIdeal.nD) → Buf (Elt Ideal) ((c.tc : Thread Cert.AdDownIdeal.nD Cert.AdDownIdeal.τ).loc Cert.AdDownIdeal.main_v4_2)),
      θ_run (Cert.AdDownIdeal.defs (F := Ideal)) (onTc (τ := Cert.AdDownIdeal.τ) (Cert.AdDownIdeal.main (F := Ideal))) ⟨m, fun _ => 0, g⟩ (fun r => ∀ c : Dev Cert.AdDownIdeal.nD,
          r.2.mem ((c.tc : Thread Cert.AdDownIdeal.nD Cert.AdDownIdeal.τ).loc Cert.AdDownIdeal.main_v4_0) = v0 c
          ∧ r.2.mem ((c.tc : Thread Cert.AdDownIdeal.nD Cert.AdDownIdeal.τ).loc Cert.AdDownIdeal.main_v4_1) = v1 c
          ∧ r.2.mem ((c.tc : Thread Cert.AdDownIdeal.nD Cert.AdDownIdeal.τ).loc Cert.AdDownIdeal.main_v4_2) = v2 c
          ∧ r.2.mem ((c.tc : Thread Cert.AdDownIdeal.nD Cert.AdDownIdeal.τ).loc Cert.AdDownIdeal.main_arg0) = m ((c.tc : Thread Cert.AdDownIdeal.nD Cert.AdDownIdeal.τ).loc Cert.AdDownIdeal.main_arg0)
          ∧ r.2.mem ((c.tc : Thread Cert.AdDownIdeal.nD Cert.AdDownIdeal.τ).loc Cert.AdDownIdeal.main_arg1) = m ((c.tc : Thread Cert.AdDownIdeal.nD Cert.AdDownIdeal.τ).loc Cert.AdDownIdeal.main_arg1)
          ∧ r.2.mem ((c.tc : Thread Cert.AdDownIdeal.nD Cert.AdDownIdeal.τ).loc Cert.AdDownIdeal.main_arg2) = m ((c.tc : Thread Cert.AdDownIdeal.nD Cert.AdDownIdeal.τ).loc Cert.AdDownIdeal.main_arg2)
          ∧ r.2.mem ((c.tc : Thread Cert.AdDownIdeal.nD Cert.AdDownIdeal.τ).loc Cert.AdDownIdeal.main_arg3) = m ((c.tc : Thread Cert.AdDownIdeal.nD Cert.AdDownIdeal.τ).loc Cert.AdDownIdeal.main_arg3))
      ∧ θ_run (Cert.AdDownRefIdeal.defs (F := Ideal)) (onTc (τ := Cert.AdDownRefIdeal.τ) (Cert.AdDownRefIdeal.main (F := Ideal))) ⟨m', fun _ => 0, g'⟩ (fun r => ∀ c : Dev Cert.AdDownRefIdeal.nD,
          r.2.mem ((c.tc : Thread Cert.AdDownRefIdeal.nD Cert.AdDownRefIdeal.τ).loc Cert.AdDownRefIdeal.main_v24) = v0 c
          ∧ r.2.mem ((c.tc : Thread Cert.AdDownRefIdeal.nD Cert.AdDownRefIdeal.τ).loc Cert.AdDownRefIdeal.main_v25) = v1 c
          ∧ r.2.mem ((c.tc : Thread Cert.AdDownRefIdeal.nD Cert.AdDownRefIdeal.τ).loc Cert.AdDownRefIdeal.main_v26) = v2 c
          ∧ r.2.mem ((c.tc : Thread Cert.AdDownRefIdeal.nD Cert.AdDownRefIdeal.τ).loc Cert.AdDownRefIdeal.main_arg0) = m' ((c.tc : Thread Cert.AdDownRefIdeal.nD Cert.AdDownRefIdeal.τ).loc Cert.AdDownRefIdeal.main_arg0)
          ∧ r.2.mem ((c.tc : Thread Cert.AdDownRefIdeal.nD Cert.AdDownRefIdeal.τ).loc Cert.AdDownRefIdeal.main_arg1) = m' ((c.tc : Thread Cert.AdDownRefIdeal.nD Cert.AdDownRefIdeal.τ).loc Cert.AdDownRefIdeal.main_arg1)
          ∧ r.2.mem ((c.tc : Thread Cert.AdDownRefIdeal.nD Cert.AdDownRefIdeal.τ).loc Cert.AdDownRefIdeal.main_arg2) = m' ((c.tc : Thread Cert.AdDownRefIdeal.nD Cert.AdDownRefIdeal.τ).loc Cert.AdDownRefIdeal.main_arg2)
          ∧ r.2.mem ((c.tc : Thread Cert.AdDownRefIdeal.nD Cert.AdDownRefIdeal.τ).loc Cert.AdDownRefIdeal.main_arg3) = m' ((c.tc : Thread Cert.AdDownRefIdeal.nD Cert.AdDownRefIdeal.τ).loc Cert.AdDownRefIdeal.main_arg3))

def preserves_AdLn_AdLnIdeal : Prop :=
  True

def algebraic_AdLnIdeal_AdLnRefIdeal [hAdLnIdeal : Cert.AdLnIdeal.Facts] [hAdLnRefIdeal : Cert.AdLnRefIdeal.Facts] : Prop :=
  ∀ (m : (ℓ : Loc Cert.AdLnIdeal.nD Cert.AdLnIdeal.τ Cert.AdLnIdeal.sig) → Buf (Elt Ideal) ℓ) (g : Dev Cert.AdLnIdeal.nD → PrngReg)
    (m' : (ℓ : Loc Cert.AdLnRefIdeal.nD Cert.AdLnRefIdeal.τ Cert.AdLnRefIdeal.sig) → Buf (Elt Ideal) ℓ) (g' : Dev Cert.AdLnRefIdeal.nD → PrngReg), Pre_AdLnIdeal m →
    (∀ c : Dev Cert.AdLnIdeal.nD,
      m' ((c.tc : Thread Cert.AdLnRefIdeal.nD Cert.AdLnRefIdeal.τ).loc Cert.AdLnRefIdeal.main_arg0) = m ((c.tc : Thread Cert.AdLnIdeal.nD Cert.AdLnIdeal.τ).loc Cert.AdLnIdeal.main_arg0)
      ∧ m' ((c.tc : Thread Cert.AdLnRefIdeal.nD Cert.AdLnRefIdeal.τ).loc Cert.AdLnRefIdeal.main_arg1) = m ((c.tc : Thread Cert.AdLnIdeal.nD Cert.AdLnIdeal.τ).loc Cert.AdLnIdeal.main_arg1)
      ∧ m' ((c.tc : Thread Cert.AdLnRefIdeal.nD Cert.AdLnRefIdeal.τ).loc Cert.AdLnRefIdeal.main_arg2) = m ((c.tc : Thread Cert.AdLnIdeal.nD Cert.AdLnIdeal.τ).loc Cert.AdLnIdeal.main_arg2)
      ∧ m' ((c.tc : Thread Cert.AdLnRefIdeal.nD Cert.AdLnRefIdeal.τ).loc Cert.AdLnRefIdeal.main_arg3) = m ((c.tc : Thread Cert.AdLnIdeal.nD Cert.AdLnIdeal.τ).loc Cert.AdLnIdeal.main_arg3)) →
    ∃ (v0 : (c : Dev Cert.AdLnIdeal.nD) → Buf (Elt Ideal) ((c.tc : Thread Cert.AdLnIdeal.nD Cert.AdLnIdeal.τ).loc Cert.AdLnIdeal.main_v0_0)) (v1 : (c : Dev Cert.AdLnIdeal.nD) → Buf (Elt Ideal) ((c.tc : Thread Cert.AdLnIdeal.nD Cert.AdLnIdeal.τ).loc Cert.AdLnIdeal.main_v0_1)) (v2 : (c : Dev Cert.AdLnIdeal.nD) → Buf (Elt Ideal) ((c.tc : Thread Cert.AdLnIdeal.nD Cert.AdLnIdeal.τ).loc Cert.AdLnIdeal.main_v0_2)),
      θ_run (Cert.AdLnIdeal.defs (F := Ideal)) (onTc (τ := Cert.AdLnIdeal.τ) (Cert.AdLnIdeal.main (F := Ideal))) ⟨m, fun _ => 0, g⟩ (fun r => ∀ c : Dev Cert.AdLnIdeal.nD,
          r.2.mem ((c.tc : Thread Cert.AdLnIdeal.nD Cert.AdLnIdeal.τ).loc Cert.AdLnIdeal.main_v0_0) = v0 c
          ∧ r.2.mem ((c.tc : Thread Cert.AdLnIdeal.nD Cert.AdLnIdeal.τ).loc Cert.AdLnIdeal.main_v0_1) = v1 c
          ∧ r.2.mem ((c.tc : Thread Cert.AdLnIdeal.nD Cert.AdLnIdeal.τ).loc Cert.AdLnIdeal.main_v0_2) = v2 c
          ∧ r.2.mem ((c.tc : Thread Cert.AdLnIdeal.nD Cert.AdLnIdeal.τ).loc Cert.AdLnIdeal.main_arg0) = m ((c.tc : Thread Cert.AdLnIdeal.nD Cert.AdLnIdeal.τ).loc Cert.AdLnIdeal.main_arg0)
          ∧ r.2.mem ((c.tc : Thread Cert.AdLnIdeal.nD Cert.AdLnIdeal.τ).loc Cert.AdLnIdeal.main_arg1) = m ((c.tc : Thread Cert.AdLnIdeal.nD Cert.AdLnIdeal.τ).loc Cert.AdLnIdeal.main_arg1)
          ∧ r.2.mem ((c.tc : Thread Cert.AdLnIdeal.nD Cert.AdLnIdeal.τ).loc Cert.AdLnIdeal.main_arg2) = m ((c.tc : Thread Cert.AdLnIdeal.nD Cert.AdLnIdeal.τ).loc Cert.AdLnIdeal.main_arg2)
          ∧ r.2.mem ((c.tc : Thread Cert.AdLnIdeal.nD Cert.AdLnIdeal.τ).loc Cert.AdLnIdeal.main_arg3) = m ((c.tc : Thread Cert.AdLnIdeal.nD Cert.AdLnIdeal.τ).loc Cert.AdLnIdeal.main_arg3))
      ∧ θ_run (Cert.AdLnRefIdeal.defs (F := Ideal)) (onTc (τ := Cert.AdLnRefIdeal.τ) (Cert.AdLnRefIdeal.main (F := Ideal))) ⟨m', fun _ => 0, g'⟩ (fun r => ∀ c : Dev Cert.AdLnRefIdeal.nD,
          r.2.mem ((c.tc : Thread Cert.AdLnRefIdeal.nD Cert.AdLnRefIdeal.τ).loc Cert.AdLnRefIdeal.main_v23) = v0 c
          ∧ r.2.mem ((c.tc : Thread Cert.AdLnRefIdeal.nD Cert.AdLnRefIdeal.τ).loc Cert.AdLnRefIdeal.main_v4) = v1 c
          ∧ r.2.mem ((c.tc : Thread Cert.AdLnRefIdeal.nD Cert.AdLnRefIdeal.τ).loc Cert.AdLnRefIdeal.main_v10) = v2 c
          ∧ r.2.mem ((c.tc : Thread Cert.AdLnRefIdeal.nD Cert.AdLnRefIdeal.τ).loc Cert.AdLnRefIdeal.main_arg0) = m' ((c.tc : Thread Cert.AdLnRefIdeal.nD Cert.AdLnRefIdeal.τ).loc Cert.AdLnRefIdeal.main_arg0)
          ∧ r.2.mem ((c.tc : Thread Cert.AdLnRefIdeal.nD Cert.AdLnRefIdeal.τ).loc Cert.AdLnRefIdeal.main_arg1) = m' ((c.tc : Thread Cert.AdLnRefIdeal.nD Cert.AdLnRefIdeal.τ).loc Cert.AdLnRefIdeal.main_arg1)
          ∧ r.2.mem ((c.tc : Thread Cert.AdLnRefIdeal.nD Cert.AdLnRefIdeal.τ).loc Cert.AdLnRefIdeal.main_arg2) = m' ((c.tc : Thread Cert.AdLnRefIdeal.nD Cert.AdLnRefIdeal.τ).loc Cert.AdLnRefIdeal.main_arg2)
          ∧ r.2.mem ((c.tc : Thread Cert.AdLnRefIdeal.nD Cert.AdLnRefIdeal.τ).loc Cert.AdLnRefIdeal.main_arg3) = m' ((c.tc : Thread Cert.AdLnRefIdeal.nD Cert.AdLnRefIdeal.τ).loc Cert.AdLnRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v7) = v0 c
          ∧ r.2.mem ((c.tc : Thread Cert.LossRefIdeal.nD Cert.LossRefIdeal.τ).loc Cert.LossRefIdeal.main_v22) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_SumW_SumWIdeal : Prop :=
  True

def algebraic_SumWIdeal_SumWRefIdeal [hSumWIdeal : Cert.SumWIdeal.Facts] [hSumWRefIdeal : Cert.SumWRefIdeal.Facts] : Prop :=
  ∀ (m : (ℓ : Loc Cert.SumWIdeal.nD Cert.SumWIdeal.τ Cert.SumWIdeal.sig) → Buf (Elt Ideal) ℓ) (g : Dev Cert.SumWIdeal.nD → PrngReg)
    (m' : (ℓ : Loc Cert.SumWRefIdeal.nD Cert.SumWRefIdeal.τ Cert.SumWRefIdeal.sig) → Buf (Elt Ideal) ℓ) (g' : Dev Cert.SumWRefIdeal.nD → PrngReg), Pre_SumWIdeal m →
    (∀ c : Dev Cert.SumWIdeal.nD,
      m' ((c.tc : Thread Cert.SumWRefIdeal.nD Cert.SumWRefIdeal.τ).loc Cert.SumWRefIdeal.main_arg0) = m ((c.tc : Thread Cert.SumWIdeal.nD Cert.SumWIdeal.τ).loc Cert.SumWIdeal.main_arg0)) →
    ∃ (v0 : (c : Dev Cert.SumWIdeal.nD) → Buf (Elt Ideal) ((c.tc : Thread Cert.SumWIdeal.nD Cert.SumWIdeal.τ).loc Cert.SumWIdeal.main_v0)),
      θ_run (Cert.SumWIdeal.defs (F := Ideal)) (onTc (τ := Cert.SumWIdeal.τ) (Cert.SumWIdeal.main (F := Ideal))) ⟨m, fun _ => 0, g⟩ (fun r => ∀ c : Dev Cert.SumWIdeal.nD,
          r.2.mem ((c.tc : Thread Cert.SumWIdeal.nD Cert.SumWIdeal.τ).loc Cert.SumWIdeal.main_v0) = v0 c
          ∧ r.2.mem ((c.tc : Thread Cert.SumWIdeal.nD Cert.SumWIdeal.τ).loc Cert.SumWIdeal.main_arg0) = m ((c.tc : Thread Cert.SumWIdeal.nD Cert.SumWIdeal.τ).loc Cert.SumWIdeal.main_arg0))
      ∧ θ_run (Cert.SumWRefIdeal.defs (F := Ideal)) (onTc (τ := Cert.SumWRefIdeal.τ) (Cert.SumWRefIdeal.main (F := Ideal))) ⟨m', fun _ => 0, g'⟩ (fun r => ∀ c : Dev Cert.SumWRefIdeal.nD,
          r.2.mem ((c.tc : Thread Cert.SumWRefIdeal.nD Cert.SumWRefIdeal.τ).loc Cert.SumWRefIdeal.main_v0) = v0 c
          ∧ r.2.mem ((c.tc : Thread Cert.SumWRefIdeal.nD Cert.SumWRefIdeal.τ).loc Cert.SumWRefIdeal.main_arg0) = m' ((c.tc : Thread Cert.SumWRefIdeal.nD Cert.SumWRefIdeal.τ).loc Cert.SumWRefIdeal.main_arg0))

def preserves_SumR_SumRIdeal : Prop :=
  True

def algebraic_SumRIdeal_SumRRefIdeal [hSumRIdeal : Cert.SumRIdeal.Facts] [hSumRRefIdeal : Cert.SumRRefIdeal.Facts] : Prop :=
  ∀ (m : (ℓ : Loc Cert.SumRIdeal.nD Cert.SumRIdeal.τ Cert.SumRIdeal.sig) → Buf (Elt Ideal) ℓ) (g : Dev Cert.SumRIdeal.nD → PrngReg)
    (m' : (ℓ : Loc Cert.SumRRefIdeal.nD Cert.SumRRefIdeal.τ Cert.SumRRefIdeal.sig) → Buf (Elt Ideal) ℓ) (g' : Dev Cert.SumRRefIdeal.nD → PrngReg), Pre_SumRIdeal m →
    (∀ c : Dev Cert.SumRIdeal.nD,
      m' ((c.tc : Thread Cert.SumRRefIdeal.nD Cert.SumRRefIdeal.τ).loc Cert.SumRRefIdeal.main_arg0) = m ((c.tc : Thread Cert.SumRIdeal.nD Cert.SumRIdeal.τ).loc Cert.SumRIdeal.main_arg0)) →
    ∃ (v0 : (c : Dev Cert.SumRIdeal.nD) → Buf (Elt Ideal) ((c.tc : Thread Cert.SumRIdeal.nD Cert.SumRIdeal.τ).loc Cert.SumRIdeal.main_v0)),
      θ_run (Cert.SumRIdeal.defs (F := Ideal)) (onTc (τ := Cert.SumRIdeal.τ) (Cert.SumRIdeal.main (F := Ideal))) ⟨m, fun _ => 0, g⟩ (fun r => ∀ c : Dev Cert.SumRIdeal.nD,
          r.2.mem ((c.tc : Thread Cert.SumRIdeal.nD Cert.SumRIdeal.τ).loc Cert.SumRIdeal.main_v0) = v0 c
          ∧ r.2.mem ((c.tc : Thread Cert.SumRIdeal.nD Cert.SumRIdeal.τ).loc Cert.SumRIdeal.main_arg0) = m ((c.tc : Thread Cert.SumRIdeal.nD Cert.SumRIdeal.τ).loc Cert.SumRIdeal.main_arg0))
      ∧ θ_run (Cert.SumRRefIdeal.defs (F := Ideal)) (onTc (τ := Cert.SumRRefIdeal.τ) (Cert.SumRRefIdeal.main (F := Ideal))) ⟨m', fun _ => 0, g'⟩ (fun r => ∀ c : Dev Cert.SumRRefIdeal.nD,
          r.2.mem ((c.tc : Thread Cert.SumRRefIdeal.nD Cert.SumRRefIdeal.τ).loc Cert.SumRRefIdeal.main_v0) = v0 c
          ∧ r.2.mem ((c.tc : Thread Cert.SumRRefIdeal.nD Cert.SumRRefIdeal.τ).loc Cert.SumRRefIdeal.main_arg0) = m' ((c.tc : Thread Cert.SumRRefIdeal.nD Cert.SumRRefIdeal.τ).loc Cert.SumRRefIdeal.main_arg0))

def preserves_LnF_LnFIdeal : Prop :=
  True

def algebraic_LnFIdeal_LnFRefIdeal [hLnFIdeal : Cert.LnFIdeal.Facts] [hLnFRefIdeal : Cert.LnFRefIdeal.Facts] : Prop :=
  ∀ (m : (ℓ : Loc Cert.LnFIdeal.nD Cert.LnFIdeal.τ Cert.LnFIdeal.sig) → Buf (Elt Ideal) ℓ) (g : Dev Cert.LnFIdeal.nD → PrngReg)
    (m' : (ℓ : Loc Cert.LnFRefIdeal.nD Cert.LnFRefIdeal.τ Cert.LnFRefIdeal.sig) → Buf (Elt Ideal) ℓ) (g' : Dev Cert.LnFRefIdeal.nD → PrngReg), Pre_LnFIdeal m →
    (∀ c : Dev Cert.LnFIdeal.nD,
      m' ((c.tc : Thread Cert.LnFRefIdeal.nD Cert.LnFRefIdeal.τ).loc Cert.LnFRefIdeal.main_arg0) = m ((c.tc : Thread Cert.LnFIdeal.nD Cert.LnFIdeal.τ).loc Cert.LnFIdeal.main_arg0)
      ∧ m' ((c.tc : Thread Cert.LnFRefIdeal.nD Cert.LnFRefIdeal.τ).loc Cert.LnFRefIdeal.main_arg1) = m ((c.tc : Thread Cert.LnFIdeal.nD Cert.LnFIdeal.τ).loc Cert.LnFIdeal.main_arg1)
      ∧ m' ((c.tc : Thread Cert.LnFRefIdeal.nD Cert.LnFRefIdeal.τ).loc Cert.LnFRefIdeal.main_arg2) = m ((c.tc : Thread Cert.LnFIdeal.nD Cert.LnFIdeal.τ).loc Cert.LnFIdeal.main_arg2)
      ∧ m' ((c.tc : Thread Cert.LnFRefIdeal.nD Cert.LnFRefIdeal.τ).loc Cert.LnFRefIdeal.main_arg3) = m ((c.tc : Thread Cert.LnFIdeal.nD Cert.LnFIdeal.τ).loc Cert.LnFIdeal.main_arg3)) →
    ∃ (v0 : (c : Dev Cert.LnFIdeal.nD) → Buf (Elt Ideal) ((c.tc : Thread Cert.LnFIdeal.nD Cert.LnFIdeal.τ).loc Cert.LnFIdeal.main_v2_0)) (v1 : (c : Dev Cert.LnFIdeal.nD) → Buf (Elt Ideal) ((c.tc : Thread Cert.LnFIdeal.nD Cert.LnFIdeal.τ).loc Cert.LnFIdeal.main_v2_1)) (v2 : (c : Dev Cert.LnFIdeal.nD) → Buf (Elt Ideal) ((c.tc : Thread Cert.LnFIdeal.nD Cert.LnFIdeal.τ).loc Cert.LnFIdeal.main_v2_2)),
      θ_run (Cert.LnFIdeal.defs (F := Ideal)) (onTc (τ := Cert.LnFIdeal.τ) (Cert.LnFIdeal.main (F := Ideal))) ⟨m, fun _ => 0, g⟩ (fun r => ∀ c : Dev Cert.LnFIdeal.nD,
          r.2.mem ((c.tc : Thread Cert.LnFIdeal.nD Cert.LnFIdeal.τ).loc Cert.LnFIdeal.main_v2_0) = v0 c
          ∧ r.2.mem ((c.tc : Thread Cert.LnFIdeal.nD Cert.LnFIdeal.τ).loc Cert.LnFIdeal.main_v2_1) = v1 c
          ∧ r.2.mem ((c.tc : Thread Cert.LnFIdeal.nD Cert.LnFIdeal.τ).loc Cert.LnFIdeal.main_v2_2) = v2 c
          ∧ r.2.mem ((c.tc : Thread Cert.LnFIdeal.nD Cert.LnFIdeal.τ).loc Cert.LnFIdeal.main_arg0) = m ((c.tc : Thread Cert.LnFIdeal.nD Cert.LnFIdeal.τ).loc Cert.LnFIdeal.main_arg0)
          ∧ r.2.mem ((c.tc : Thread Cert.LnFIdeal.nD Cert.LnFIdeal.τ).loc Cert.LnFIdeal.main_arg1) = m ((c.tc : Thread Cert.LnFIdeal.nD Cert.LnFIdeal.τ).loc Cert.LnFIdeal.main_arg1)
          ∧ r.2.mem ((c.tc : Thread Cert.LnFIdeal.nD Cert.LnFIdeal.τ).loc Cert.LnFIdeal.main_arg2) = m ((c.tc : Thread Cert.LnFIdeal.nD Cert.LnFIdeal.τ).loc Cert.LnFIdeal.main_arg2)
          ∧ r.2.mem ((c.tc : Thread Cert.LnFIdeal.nD Cert.LnFIdeal.τ).loc Cert.LnFIdeal.main_arg3) = m ((c.tc : Thread Cert.LnFIdeal.nD Cert.LnFIdeal.τ).loc Cert.LnFIdeal.main_arg3))
      ∧ θ_run (Cert.LnFRefIdeal.defs (F := Ideal)) (onTc (τ := Cert.LnFRefIdeal.τ) (Cert.LnFRefIdeal.main (F := Ideal))) ⟨m', fun _ => 0, g'⟩ (fun r => ∀ c : Dev Cert.LnFRefIdeal.nD,
          r.2.mem ((c.tc : Thread Cert.LnFRefIdeal.nD Cert.LnFRefIdeal.τ).loc Cert.LnFRefIdeal.main_v26) = v0 c
          ∧ r.2.mem ((c.tc : Thread Cert.LnFRefIdeal.nD Cert.LnFRefIdeal.τ).loc Cert.LnFRefIdeal.main_v27) = v1 c
          ∧ r.2.mem ((c.tc : Thread Cert.LnFRefIdeal.nD Cert.LnFRefIdeal.τ).loc Cert.LnFRefIdeal.main_v2) = v2 c
          ∧ r.2.mem ((c.tc : Thread Cert.LnFRefIdeal.nD Cert.LnFRefIdeal.τ).loc Cert.LnFRefIdeal.main_arg0) = m' ((c.tc : Thread Cert.LnFRefIdeal.nD Cert.LnFRefIdeal.τ).loc Cert.LnFRefIdeal.main_arg0)
          ∧ r.2.mem ((c.tc : Thread Cert.LnFRefIdeal.nD Cert.LnFRefIdeal.τ).loc Cert.LnFRefIdeal.main_arg1) = m' ((c.tc : Thread Cert.LnFRefIdeal.nD Cert.LnFRefIdeal.τ).loc Cert.LnFRefIdeal.main_arg1)
          ∧ r.2.mem ((c.tc : Thread Cert.LnFRefIdeal.nD Cert.LnFRefIdeal.τ).loc Cert.LnFRefIdeal.main_arg2) = m' ((c.tc : Thread Cert.LnFRefIdeal.nD Cert.LnFRefIdeal.τ).loc Cert.LnFRefIdeal.main_arg2)
          ∧ r.2.mem ((c.tc : Thread Cert.LnFRefIdeal.nD Cert.LnFRefIdeal.τ).loc Cert.LnFRefIdeal.main_arg3) = m' ((c.tc : Thread Cert.LnFRefIdeal.nD Cert.LnFRefIdeal.τ).loc Cert.LnFRefIdeal.main_arg3))

def Claim : Prop :=
  ∃ (hDownW : Cert.DownW.Facts) (hDownWIdeal : Cert.DownWIdeal.Facts) (hDownWRefIdeal : Cert.DownWRefIdeal.Facts) (hDownX : Cert.DownX.Facts) (hDownXIdeal : Cert.DownXIdeal.Facts) (hDownXRefIdeal : Cert.DownXRefIdeal.Facts) (hUpW : Cert.UpW.Facts) (hUpWIdeal : Cert.UpWIdeal.Facts) (hUpWRefIdeal : Cert.UpWRefIdeal.Facts) (hUpX : Cert.UpX.Facts) (hUpXIdeal : Cert.UpXIdeal.Facts) (hUpXRefIdeal : Cert.UpXRefIdeal.Facts) (hUpX2 : Cert.UpX2.Facts) (hUpX2Ideal : Cert.UpX2Ideal.Facts) (hUpX2RefIdeal : Cert.UpX2RefIdeal.Facts) (hOutW : Cert.OutW.Facts) (hOutWIdeal : Cert.OutWIdeal.Facts) (hOutWRefIdeal : Cert.OutWRefIdeal.Facts) (hOutX : Cert.OutX.Facts) (hOutXIdeal : Cert.OutXIdeal.Facts) (hOutXRefIdeal : Cert.OutXRefIdeal.Facts) (hOutX2 : Cert.OutX2.Facts) (hOutX2Ideal : Cert.OutX2Ideal.Facts) (hOutX2RefIdeal : Cert.OutX2RefIdeal.Facts) (hQkvW : Cert.QkvW.Facts) (hQkvWIdeal : Cert.QkvWIdeal.Facts) (hQkvWRefIdeal : Cert.QkvWRefIdeal.Facts) (hQkvX : Cert.QkvX.Facts) (hQkvXIdeal : Cert.QkvXIdeal.Facts) (hQkvXRefIdeal : Cert.QkvXRefIdeal.Facts) (hGlaW : Cert.GlaW.Facts) (hGlaWIdeal : Cert.GlaWIdeal.Facts) (hGlaWRefIdeal : Cert.GlaWRefIdeal.Facts) (hGlaX : Cert.GlaX.Facts) (hGlaXIdeal : Cert.GlaXIdeal.Facts) (hGlaXRefIdeal : Cert.GlaXRefIdeal.Facts) (hQkvF : Cert.QkvF.Facts) (hQkvFIdeal : Cert.QkvFIdeal.Facts) (hQkvFRefIdeal : Cert.QkvFRefIdeal.Facts) (hOutF : Cert.OutF.Facts) (hOutFIdeal : Cert.OutFIdeal.Facts) (hOutFRefIdeal : Cert.OutFRefIdeal.Facts) (hGlaF : Cert.GlaF.Facts) (hGlaFIdeal : Cert.GlaFIdeal.Facts) (hGlaFRefIdeal : Cert.GlaFRefIdeal.Facts) (hUpF : Cert.UpF.Facts) (hUpFIdeal : Cert.UpFIdeal.Facts) (hUpFRefIdeal : Cert.UpFRefIdeal.Facts) (hDownF : Cert.DownF.Facts) (hDownFIdeal : Cert.DownFIdeal.Facts) (hDownFRefIdeal : Cert.DownFRefIdeal.Facts) (hSbBwd : Cert.SbBwd.Facts) (hSbBwdIdeal : Cert.SbBwdIdeal.Facts) (hSbBwdRefIdeal : Cert.SbBwdRefIdeal.Facts) (hAdQkv : Cert.AdQkv.Facts) (hAdQkvIdeal : Cert.AdQkvIdeal.Facts) (hAdQkvRefIdeal : Cert.AdQkvRefIdeal.Facts) (hAdOut : Cert.AdOut.Facts) (hAdOutIdeal : Cert.AdOutIdeal.Facts) (hAdOutRefIdeal : Cert.AdOutRefIdeal.Facts) (hAdA1 : Cert.AdA1.Facts) (hAdA1Ideal : Cert.AdA1Ideal.Facts) (hAdA1RefIdeal : Cert.AdA1RefIdeal.Facts) (hAdA2 : Cert.AdA2.Facts) (hAdA2Ideal : Cert.AdA2Ideal.Facts) (hAdA2RefIdeal : Cert.AdA2RefIdeal.Facts) (hAdBa : Cert.AdBa.Facts) (hAdBaIdeal : Cert.AdBaIdeal.Facts) (hAdBaRefIdeal : Cert.AdBaRefIdeal.Facts) (hAdNorm : Cert.AdNorm.Facts) (hAdNormIdeal : Cert.AdNormIdeal.Facts) (hAdNormRefIdeal : Cert.AdNormRefIdeal.Facts) (hAdUp : Cert.AdUp.Facts) (hAdUpIdeal : Cert.AdUpIdeal.Facts) (hAdUpRefIdeal : Cert.AdUpRefIdeal.Facts) (hAdConvW : Cert.AdConvW.Facts) (hAdConvWIdeal : Cert.AdConvWIdeal.Facts) (hAdConvWRefIdeal : Cert.AdConvWRefIdeal.Facts) (hAdConvB : Cert.AdConvB.Facts) (hAdConvBIdeal : Cert.AdConvBIdeal.Facts) (hAdConvBRefIdeal : Cert.AdConvBRefIdeal.Facts) (hAdDown : Cert.AdDown.Facts) (hAdDownIdeal : Cert.AdDownIdeal.Facts) (hAdDownRefIdeal : Cert.AdDownRefIdeal.Facts) (hAdLn : Cert.AdLn.Facts) (hAdLnIdeal : Cert.AdLnIdeal.Facts) (hAdLnRefIdeal : Cert.AdLnRefIdeal.Facts) (hLoss : Cert.Loss.Facts) (hLossIdeal : Cert.LossIdeal.Facts) (hLossRefIdeal : Cert.LossRefIdeal.Facts) (hSumW : Cert.SumW.Facts) (hSumWIdeal : Cert.SumWIdeal.Facts) (hSumWRefIdeal : Cert.SumWRefIdeal.Facts) (hSumR : Cert.SumR.Facts) (hSumRIdeal : Cert.SumRIdeal.Facts) (hSumRRefIdeal : Cert.SumRRefIdeal.Facts) (hLnF : Cert.LnF.Facts) (hLnFIdeal : Cert.LnFIdeal.Facts) (hLnFRefIdeal : Cert.LnFRefIdeal.Facts) (hPre_finite : Cert.Pre_finite.Facts),
    quiescent_DownW (hDownW := hDownW)
    ∧ quiescent_DownWIdeal (hDownWIdeal := hDownWIdeal)
    ∧ quiescent_DownWRefIdeal (hDownWRefIdeal := hDownWRefIdeal)
    ∧ quiescent_DownX (hDownX := hDownX)
    ∧ quiescent_DownXIdeal (hDownXIdeal := hDownXIdeal)
    ∧ quiescent_DownXRefIdeal (hDownXRefIdeal := hDownXRefIdeal)
    ∧ quiescent_UpW (hUpW := hUpW)
    ∧ quiescent_UpWIdeal (hUpWIdeal := hUpWIdeal)
    ∧ quiescent_UpWRefIdeal (hUpWRefIdeal := hUpWRefIdeal)
    ∧ quiescent_UpX (hUpX := hUpX)
    ∧ quiescent_UpXIdeal (hUpXIdeal := hUpXIdeal)
    ∧ quiescent_UpXRefIdeal (hUpXRefIdeal := hUpXRefIdeal)
    ∧ quiescent_UpX2 (hUpX2 := hUpX2)
    ∧ quiescent_UpX2Ideal (hUpX2Ideal := hUpX2Ideal)
    ∧ quiescent_UpX2RefIdeal (hUpX2RefIdeal := hUpX2RefIdeal)
    ∧ quiescent_OutW (hOutW := hOutW)
    ∧ quiescent_OutWIdeal (hOutWIdeal := hOutWIdeal)
    ∧ quiescent_OutWRefIdeal (hOutWRefIdeal := hOutWRefIdeal)
    ∧ quiescent_OutX (hOutX := hOutX)
    ∧ quiescent_OutXIdeal (hOutXIdeal := hOutXIdeal)
    ∧ quiescent_OutXRefIdeal (hOutXRefIdeal := hOutXRefIdeal)
    ∧ quiescent_OutX2 (hOutX2 := hOutX2)
    ∧ quiescent_OutX2Ideal (hOutX2Ideal := hOutX2Ideal)
    ∧ quiescent_OutX2RefIdeal (hOutX2RefIdeal := hOutX2RefIdeal)
    ∧ quiescent_QkvW (hQkvW := hQkvW)
    ∧ quiescent_QkvWIdeal (hQkvWIdeal := hQkvWIdeal)
    ∧ quiescent_QkvWRefIdeal (hQkvWRefIdeal := hQkvWRefIdeal)
    ∧ quiescent_QkvX (hQkvX := hQkvX)
    ∧ quiescent_QkvXIdeal (hQkvXIdeal := hQkvXIdeal)
    ∧ quiescent_QkvXRefIdeal (hQkvXRefIdeal := hQkvXRefIdeal)
    ∧ quiescent_GlaW (hGlaW := hGlaW)
    ∧ quiescent_GlaWIdeal (hGlaWIdeal := hGlaWIdeal)
    ∧ quiescent_GlaWRefIdeal (hGlaWRefIdeal := hGlaWRefIdeal)
    ∧ quiescent_GlaX (hGlaX := hGlaX)
    ∧ quiescent_GlaXIdeal (hGlaXIdeal := hGlaXIdeal)
    ∧ quiescent_GlaXRefIdeal (hGlaXRefIdeal := hGlaXRefIdeal)
    ∧ quiescent_QkvF (hQkvF := hQkvF)
    ∧ quiescent_QkvFIdeal (hQkvFIdeal := hQkvFIdeal)
    ∧ quiescent_QkvFRefIdeal (hQkvFRefIdeal := hQkvFRefIdeal)
    ∧ quiescent_OutF (hOutF := hOutF)
    ∧ quiescent_OutFIdeal (hOutFIdeal := hOutFIdeal)
    ∧ quiescent_OutFRefIdeal (hOutFRefIdeal := hOutFRefIdeal)
    ∧ quiescent_GlaF (hGlaF := hGlaF)
    ∧ quiescent_GlaFIdeal (hGlaFIdeal := hGlaFIdeal)
    ∧ quiescent_GlaFRefIdeal (hGlaFRefIdeal := hGlaFRefIdeal)
    ∧ quiescent_UpF (hUpF := hUpF)
    ∧ quiescent_UpFIdeal (hUpFIdeal := hUpFIdeal)
    ∧ quiescent_UpFRefIdeal (hUpFRefIdeal := hUpFRefIdeal)
    ∧ quiescent_DownF (hDownF := hDownF)
    ∧ quiescent_DownFIdeal (hDownFIdeal := hDownFIdeal)
    ∧ quiescent_DownFRefIdeal (hDownFRefIdeal := hDownFRefIdeal)
    ∧ quiescent_SbBwd (hSbBwd := hSbBwd)
    ∧ quiescent_SbBwdIdeal (hSbBwdIdeal := hSbBwdIdeal)
    ∧ quiescent_SbBwdIdeal_pre_finite (hSbBwdIdeal := hSbBwdIdeal) (hPre_finite := hPre_finite)
    ∧ quiescent_SbBwdRefIdeal (hSbBwdRefIdeal := hSbBwdRefIdeal)
    ∧ quiescent_SbBwdRefIdeal_pre_finite (hSbBwdRefIdeal := hSbBwdRefIdeal) (hPre_finite := hPre_finite)
    ∧ quiescent_AdQkv (hAdQkv := hAdQkv)
    ∧ quiescent_AdQkvIdeal (hAdQkvIdeal := hAdQkvIdeal)
    ∧ quiescent_AdQkvRefIdeal (hAdQkvRefIdeal := hAdQkvRefIdeal)
    ∧ quiescent_AdOut (hAdOut := hAdOut)
    ∧ quiescent_AdOutIdeal (hAdOutIdeal := hAdOutIdeal)
    ∧ quiescent_AdOutRefIdeal (hAdOutRefIdeal := hAdOutRefIdeal)
    ∧ quiescent_AdA1 (hAdA1 := hAdA1)
    ∧ quiescent_AdA1Ideal (hAdA1Ideal := hAdA1Ideal)
    ∧ quiescent_AdA1RefIdeal (hAdA1RefIdeal := hAdA1RefIdeal)
    ∧ quiescent_AdA2 (hAdA2 := hAdA2)
    ∧ quiescent_AdA2Ideal (hAdA2Ideal := hAdA2Ideal)
    ∧ quiescent_AdA2RefIdeal (hAdA2RefIdeal := hAdA2RefIdeal)
    ∧ quiescent_AdBa (hAdBa := hAdBa)
    ∧ quiescent_AdBaIdeal (hAdBaIdeal := hAdBaIdeal)
    ∧ quiescent_AdBaRefIdeal (hAdBaRefIdeal := hAdBaRefIdeal)
    ∧ quiescent_AdNorm (hAdNorm := hAdNorm)
    ∧ quiescent_AdNormIdeal (hAdNormIdeal := hAdNormIdeal)
    ∧ quiescent_AdNormRefIdeal (hAdNormRefIdeal := hAdNormRefIdeal)
    ∧ quiescent_AdUp (hAdUp := hAdUp)
    ∧ quiescent_AdUpIdeal (hAdUpIdeal := hAdUpIdeal)
    ∧ quiescent_AdUpRefIdeal (hAdUpRefIdeal := hAdUpRefIdeal)
    ∧ quiescent_AdConvW (hAdConvW := hAdConvW)
    ∧ quiescent_AdConvWIdeal (hAdConvWIdeal := hAdConvWIdeal)
    ∧ quiescent_AdConvWRefIdeal (hAdConvWRefIdeal := hAdConvWRefIdeal)
    ∧ quiescent_AdConvB (hAdConvB := hAdConvB)
    ∧ quiescent_AdConvBIdeal (hAdConvBIdeal := hAdConvBIdeal)
    ∧ quiescent_AdConvBRefIdeal (hAdConvBRefIdeal := hAdConvBRefIdeal)
    ∧ quiescent_AdDown (hAdDown := hAdDown)
    ∧ quiescent_AdDownIdeal (hAdDownIdeal := hAdDownIdeal)
    ∧ quiescent_AdDownRefIdeal (hAdDownRefIdeal := hAdDownRefIdeal)
    ∧ quiescent_AdLn (hAdLn := hAdLn)
    ∧ quiescent_AdLnIdeal (hAdLnIdeal := hAdLnIdeal)
    ∧ quiescent_AdLnRefIdeal (hAdLnRefIdeal := hAdLnRefIdeal)
    ∧ quiescent_Loss (hLoss := hLoss)
    ∧ quiescent_LossIdeal (hLossIdeal := hLossIdeal)
    ∧ quiescent_LossRefIdeal (hLossRefIdeal := hLossRefIdeal)
    ∧ quiescent_SumW (hSumW := hSumW)
    ∧ quiescent_SumWIdeal (hSumWIdeal := hSumWIdeal)
    ∧ quiescent_SumWRefIdeal (hSumWRefIdeal := hSumWRefIdeal)
    ∧ quiescent_SumR (hSumR := hSumR)
    ∧ quiescent_SumRIdeal (hSumRIdeal := hSumRIdeal)
    ∧ quiescent_SumRRefIdeal (hSumRRefIdeal := hSumRRefIdeal)
    ∧ quiescent_LnF (hLnF := hLnF)
    ∧ quiescent_LnFIdeal (hLnFIdeal := hLnFIdeal)
    ∧ quiescent_LnFRefIdeal (hLnFRefIdeal := hLnFRefIdeal)
    ∧ preserves_DownW_DownWIdeal
    ∧ algebraic_DownWIdeal_DownWRefIdeal (hDownWIdeal := hDownWIdeal) (hDownWRefIdeal := hDownWRefIdeal)
    ∧ preserves_DownX_DownXIdeal
    ∧ algebraic_DownXIdeal_DownXRefIdeal (hDownXIdeal := hDownXIdeal) (hDownXRefIdeal := hDownXRefIdeal)
    ∧ preserves_UpW_UpWIdeal
    ∧ algebraic_UpWIdeal_UpWRefIdeal (hUpWIdeal := hUpWIdeal) (hUpWRefIdeal := hUpWRefIdeal)
    ∧ preserves_UpX_UpXIdeal
    ∧ algebraic_UpXIdeal_UpXRefIdeal (hUpXIdeal := hUpXIdeal) (hUpXRefIdeal := hUpXRefIdeal)
    ∧ preserves_UpX2_UpX2Ideal
    ∧ algebraic_UpX2Ideal_UpX2RefIdeal (hUpX2Ideal := hUpX2Ideal) (hUpX2RefIdeal := hUpX2RefIdeal)
    ∧ preserves_OutW_OutWIdeal
    ∧ algebraic_OutWIdeal_OutWRefIdeal (hOutWIdeal := hOutWIdeal) (hOutWRefIdeal := hOutWRefIdeal)
    ∧ preserves_OutX_OutXIdeal
    ∧ algebraic_OutXIdeal_OutXRefIdeal (hOutXIdeal := hOutXIdeal) (hOutXRefIdeal := hOutXRefIdeal)
    ∧ preserves_OutX2_OutX2Ideal
    ∧ algebraic_OutX2Ideal_OutX2RefIdeal (hOutX2Ideal := hOutX2Ideal) (hOutX2RefIdeal := hOutX2RefIdeal)
    ∧ preserves_QkvW_QkvWIdeal
    ∧ algebraic_QkvWIdeal_QkvWRefIdeal (hQkvWIdeal := hQkvWIdeal) (hQkvWRefIdeal := hQkvWRefIdeal)
    ∧ preserves_QkvX_QkvXIdeal
    ∧ algebraic_QkvXIdeal_QkvXRefIdeal (hQkvXIdeal := hQkvXIdeal) (hQkvXRefIdeal := hQkvXRefIdeal)
    ∧ preserves_GlaW_GlaWIdeal
    ∧ algebraic_GlaWIdeal_GlaWRefIdeal (hGlaWIdeal := hGlaWIdeal) (hGlaWRefIdeal := hGlaWRefIdeal)
    ∧ preserves_GlaX_GlaXIdeal
    ∧ algebraic_GlaXIdeal_GlaXRefIdeal (hGlaXIdeal := hGlaXIdeal) (hGlaXRefIdeal := hGlaXRefIdeal)
    ∧ preserves_QkvF_QkvFIdeal
    ∧ algebraic_QkvFIdeal_QkvFRefIdeal (hQkvFIdeal := hQkvFIdeal) (hQkvFRefIdeal := hQkvFRefIdeal)
    ∧ preserves_OutF_OutFIdeal
    ∧ algebraic_OutFIdeal_OutFRefIdeal (hOutFIdeal := hOutFIdeal) (hOutFRefIdeal := hOutFRefIdeal)
    ∧ preserves_GlaF_GlaFIdeal
    ∧ algebraic_GlaFIdeal_GlaFRefIdeal (hGlaFIdeal := hGlaFIdeal) (hGlaFRefIdeal := hGlaFRefIdeal)
    ∧ preserves_UpF_UpFIdeal
    ∧ algebraic_UpFIdeal_UpFRefIdeal (hUpFIdeal := hUpFIdeal) (hUpFRefIdeal := hUpFRefIdeal)
    ∧ preserves_DownF_DownFIdeal
    ∧ algebraic_DownFIdeal_DownFRefIdeal (hDownFIdeal := hDownFIdeal) (hDownFRefIdeal := hDownFRefIdeal)
    ∧ preserves_SbBwd_SbBwdIdeal
    ∧ algebraic_SbBwdIdeal_SbBwdRefIdeal_pre_finite (hSbBwdIdeal := hSbBwdIdeal) (hSbBwdRefIdeal := hSbBwdRefIdeal) (hPre_finite := hPre_finite)
    ∧ preserves_AdQkv_AdQkvIdeal
    ∧ algebraic_AdQkvIdeal_AdQkvRefIdeal (hAdQkvIdeal := hAdQkvIdeal) (hAdQkvRefIdeal := hAdQkvRefIdeal)
    ∧ preserves_AdOut_AdOutIdeal
    ∧ algebraic_AdOutIdeal_AdOutRefIdeal (hAdOutIdeal := hAdOutIdeal) (hAdOutRefIdeal := hAdOutRefIdeal)
    ∧ preserves_AdA1_AdA1Ideal
    ∧ algebraic_AdA1Ideal_AdA1RefIdeal (hAdA1Ideal := hAdA1Ideal) (hAdA1RefIdeal := hAdA1RefIdeal)
    ∧ preserves_AdA2_AdA2Ideal
    ∧ algebraic_AdA2Ideal_AdA2RefIdeal (hAdA2Ideal := hAdA2Ideal) (hAdA2RefIdeal := hAdA2RefIdeal)
    ∧ preserves_AdBa_AdBaIdeal
    ∧ algebraic_AdBaIdeal_AdBaRefIdeal (hAdBaIdeal := hAdBaIdeal) (hAdBaRefIdeal := hAdBaRefIdeal)
    ∧ preserves_AdNorm_AdNormIdeal
    ∧ algebraic_AdNormIdeal_AdNormRefIdeal (hAdNormIdeal := hAdNormIdeal) (hAdNormRefIdeal := hAdNormRefIdeal)
    ∧ preserves_AdUp_AdUpIdeal
    ∧ algebraic_AdUpIdeal_AdUpRefIdeal (hAdUpIdeal := hAdUpIdeal) (hAdUpRefIdeal := hAdUpRefIdeal)
    ∧ preserves_AdConvW_AdConvWIdeal
    ∧ algebraic_AdConvWIdeal_AdConvWRefIdeal (hAdConvWIdeal := hAdConvWIdeal) (hAdConvWRefIdeal := hAdConvWRefIdeal)
    ∧ preserves_AdConvB_AdConvBIdeal
    ∧ algebraic_AdConvBIdeal_AdConvBRefIdeal (hAdConvBIdeal := hAdConvBIdeal) (hAdConvBRefIdeal := hAdConvBRefIdeal)
    ∧ preserves_AdDown_AdDownIdeal
    ∧ algebraic_AdDownIdeal_AdDownRefIdeal (hAdDownIdeal := hAdDownIdeal) (hAdDownRefIdeal := hAdDownRefIdeal)
    ∧ preserves_AdLn_AdLnIdeal
    ∧ algebraic_AdLnIdeal_AdLnRefIdeal (hAdLnIdeal := hAdLnIdeal) (hAdLnRefIdeal := hAdLnRefIdeal)
    ∧ preserves_Loss_LossIdeal
    ∧ algebraic_LossIdeal_LossRefIdeal (hLossIdeal := hLossIdeal) (hLossRefIdeal := hLossRefIdeal)
    ∧ preserves_SumW_SumWIdeal
    ∧ algebraic_SumWIdeal_SumWRefIdeal (hSumWIdeal := hSumWIdeal) (hSumWRefIdeal := hSumWRefIdeal)
    ∧ preserves_SumR_SumRIdeal
    ∧ algebraic_SumRIdeal_SumRRefIdeal (hSumRIdeal := hSumRIdeal) (hSumRRefIdeal := hSumRRefIdeal)
    ∧ preserves_LnF_LnFIdeal
    ∧ algebraic_LnFIdeal_LnFRefIdeal (hLnFIdeal := hLnFIdeal) (hLnFRefIdeal := hLnFRefIdeal)
-- ==== Pre_finite.lean ====
abbrev S8192x3072 : Shape := ⟨2, ![8192, 3072]⟩
abbrev S8192x1024 : Shape := ⟨2, ![8192, 1024]⟩
abbrev S_ : Shape := ⟨0, ![]⟩

class Facts : Prop where
  bcast_S_S8192x3072 : S_.BroadcastsInDim S8192x3072 (![] : Fin 0 → Fin S8192x3072.rank)
  bcast_S_S8192x1024 : S_.BroadcastsInDim S8192x1024 (![] : Fin 0 → Fin S8192x1024.rank)

variable [Facts]

def fn {F : FTy → Type} [FloatOps F] (main_arg0 : FVec F S8192x3072 .f32) (main_arg1 : FVec F S8192x1024 .f32) : IVec S8192x3072 1 × IVec S8192x1024 1 :=
  let main_v0 : FVec F S8192x3072 .f32 := Host.absf main_arg0
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  (main_v2, main_v5)
-- ==== DownW.lean ====
abbrev S8192x2816 : Shape := ⟨2, ![8192, 2816]⟩
abbrev S2816x1024 : Shape := ⟨2, ![2816, 1024]⟩
abbrev S8192x1024 : Shape := ⟨2, ![8192, 1024]⟩
abbrev S1024x256 : Shape := ⟨2, ![1024, 256]⟩
abbrev S1024x1024 : Shape := ⟨2, ![1024, 1024]⟩
abbrev S256x1024 : Shape := ⟨2, ![256, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x2816, .bf16⟩
  | .hbm, ⟨4, _⟩ => ⟨S8192x1024, .bf16⟩
  | .hbm, ⟨5, _⟩ => ⟨S2816x1024, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWRefIdeal.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S1024x2816, .f32⟩
  | .hbm, ⟨5, _⟩ => ⟨S2816x1024, .f32⟩
  | .hbm, ⟨6, _⟩ => ⟨S8192x2816, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownX.lean ====
abbrev S8192x2816 : Shape := ⟨2, ![8192, 2816]⟩
abbrev S2816x1024 : Shape := ⟨2, ![2816, 1024]⟩
abbrev S8192x1024 : Shape := ⟨2, ![8192, 1024]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 6
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .bf16⟩
  | .hbm, ⟨4, _⟩ => ⟨S2816x1024, .bf16⟩
  | .hbm, ⟨5, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownXRefIdeal.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S1024x2816, .f32⟩
  | .hbm, ⟨5, _⟩ => ⟨S2816x1024, .f32⟩
  | .hbm, ⟨6, _⟩ => ⟨S8192x2816, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UpW.lean ====
abbrev S8192x1024 : Shape := ⟨2, ![8192, 1024]⟩
abbrev S1024x2816 : Shape := ⟨2, ![1024, 2816]⟩
abbrev S8192x2816 : Shape := ⟨2, ![8192, 2816]⟩
abbrev S1024x1024 : Shape := ⟨2, ![1024, 1024]⟩
abbrev S1024x1408 : Shape := ⟨2, ![1024, 1408]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S8192x2816, .f32⟩
  | .hbm, ⟨3, _⟩ => ⟨S8192x1024, .bf16⟩
  | .hbm, ⟨4, _⟩ => ⟨S8192x2816, .bf16⟩
  | .hbm, ⟨5, _⟩ => ⟨S1024x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWRefIdeal.lean ====
abbrev S8192x1024 : Shape := ⟨2, ![8192, 1024]⟩
abbrev S1024x2816 : Shape := ⟨2, ![1024, 2816]⟩
abbrev S8192x2816 : Shape := ⟨2, ![8192, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S8192x2816, .f32⟩
  | .hbm, ⟨3, _⟩ => ⟨S8192x2816, .f32⟩
  | .hbm, ⟨4, _⟩ => ⟨S2816x1024, .f32⟩
  | .hbm, ⟨5, _⟩ => ⟨S1024x2816, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UpX.lean ====
abbrev S8192x1024 : Shape := ⟨2, ![8192, 1024]⟩
abbrev S1024x2816 : Shape := ⟨2, ![1024, 2816]⟩
abbrev S8192x2816 : Shape := ⟨2, ![8192, 2816]⟩
abbrev S1024x1408 : Shape := ⟨2, ![1024, 1408]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S8192x2816, .f32⟩
  | .hbm, ⟨3, _⟩ => ⟨S8192x1024, .f32⟩
  | .hbm, ⟨4, _⟩ => ⟨S8192x2816, .bf16⟩
  | .hbm, ⟨5, _⟩ => ⟨S1024x2816, .bf16⟩
  | .hbm, ⟨6, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpXRefIdeal.lean ====
abbrev S8192x1024 : Shape := ⟨2, ![8192, 1024]⟩
abbrev S1024x2816 : Shape := ⟨2, ![1024, 2816]⟩
abbrev S8192x2816 : Shape := ⟨2, ![8192, 2816]⟩
abbrev S_ : Shape := ⟨0, ![]⟩
abbrev S2816x1024 : Shape := ⟨2, ![2816, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S8192x1024, .f32⟩
  | .hbm, ⟨11, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== UpX2.lean ====
abbrev S8192x1024 : Shape := ⟨2, ![8192, 1024]⟩
abbrev S1024x2816 : Shape := ⟨2, ![1024, 2816]⟩
abbrev S8192x2816 : Shape := ⟨2, ![8192, 2816]⟩
abbrev S1024x1408 : Shape := ⟨2, ![1024, 1408]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S8192x2816, .f32⟩
  | .hbm, ⟨3, _⟩ => ⟨S8192x1024, .f32⟩
  | .hbm, ⟨4, _⟩ => ⟨S8192x2816, .bf16⟩
  | .hbm, ⟨5, _⟩ => ⟨S1024x2816, .bf16⟩
  | .hbm, ⟨6, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpX2RefIdeal.lean ====
abbrev S8192x1024 : Shape := ⟨2, ![8192, 1024]⟩
abbrev S1024x2816 : Shape := ⟨2, ![1024, 2816]⟩
abbrev S8192x2816 : Shape := ⟨2, ![8192, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S8192x2816, .f32⟩
  | .hbm, ⟨3, _⟩ => ⟨S8192x1024, .f32⟩
  | .hbm, ⟨4, _⟩ => ⟨S8192x2816, .f32⟩
  | .hbm, ⟨5, _⟩ => ⟨S2816x1024, .f32⟩
  | .hbm, ⟨6, _⟩ => ⟨S1024x2816, .f32⟩
  | .hbm, ⟨7, _⟩ => ⟨S8192x1024, .f32⟩
  | .hbm, ⟨8, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== OutW.lean ====
abbrev S8192x1024 : Shape := ⟨2, ![8192, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWRefIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutX.lean ====
abbrev S8192x1024 : Shape := ⟨2, ![8192, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutXRefIdeal.lean ====
abbrev S8192x1024 : Shape := ⟨2, ![8192, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S8192x1024, .f32⟩
  | .hbm, ⟨7, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutX2.lean ====
abbrev S8192x1024 : Shape := ⟨2, ![8192, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutX2RefIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== QkvW.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x1024, .bf16⟩
  | .hbm, ⟨4, _⟩ => ⟨S8192x3072, .bf16⟩
  | .hbm, ⟨5, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvWIdeal.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x1024, .bf16⟩
  | .hbm, ⟨4, _⟩ => ⟨S8192x3072, .bf16⟩
  | .hbm, ⟨5, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvWRefIdeal.lean ====
abbrev S8192x1024 : Shape := ⟨2, ![8192, 1024]⟩
abbrev S1024x3072 : Shape := ⟨2, ![1024, 3072]⟩
abbrev S8192x3072 : Shape := ⟨2, ![8192, 3072]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x3072, .f32⟩
  | .hbm, ⟨4, _⟩ => ⟨S3072x1024, .f32⟩
  | .hbm, ⟨5, _⟩ => ⟨S1024x3072, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== QkvX.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x1024, .f32⟩
  | .hbm, ⟨4, _⟩ => ⟨S8192x3072, .bf16⟩
  | .hbm, ⟨5, _⟩ => ⟨S1024x3072, .bf16⟩
  | .hbm, ⟨6, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== QkvXIdeal.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x1024, .f32⟩
  | .hbm, ⟨4, _⟩ => ⟨S8192x3072, .bf16⟩
  | .hbm, ⟨5, _⟩ => ⟨S1024x3072, .bf16⟩
  | .hbm, ⟨6, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== QkvXRefIdeal.lean ====
abbrev S8192x1024 : Shape := ⟨2, ![8192, 1024]⟩
abbrev S1024x3072 : Shape := ⟨2, ![1024, 3072]⟩
abbrev S8192x3072 : Shape := ⟨2, ![8192, 3072]⟩
abbrev S_ : Shape := ⟨0, ![]⟩
abbrev S3072x1024 : Shape := ⟨2, ![3072, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x3072, .f32⟩
  | .hbm, ⟨8, _⟩ => ⟨S3072x1024, .f32⟩
  | .hbm, ⟨9, _⟩ => ⟨S1024x3072, .f32⟩
  | .hbm, ⟨10, _⟩ => ⟨S8192x1024, .f32⟩
  | .hbm, ⟨11, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== GlaW.lean ====
abbrev S8192x1024 : Shape := ⟨2, ![8192, 1024]⟩
abbrev S1024x3200 : Shape := ⟨2, ![1024, 3200]⟩
abbrev S8192x3200 : Shape := ⟨2, ![8192, 3200]⟩
abbrev S1024x1024 : Shape := ⟨2, ![1024, 1024]⟩
abbrev S1024x640 : Shape := ⟨2, ![1024, 640]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x3200, .f32⟩
  | .hbm, ⟨2, _⟩ => ⟨S8192x3200, .f32⟩
  | .hbm, ⟨3, _⟩ => ⟨S8192x1024, .bf16⟩
  | .hbm, ⟨4, _⟩ => ⟨S8192x3200, .bf16⟩
  | .hbm, ⟨5, _⟩ => ⟨S1024x3200, .f32⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .f32⟩
  | .local _ .vmem, ⟨5, _⟩ => ⟨S1024x640, .f32⟩
  | .local _ .vmem, ⟨6, _⟩ => ⟨S1024x640, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GlaWRefIdeal.lean ====
abbrev S8192x1024 : Shape := ⟨2, ![8192, 1024]⟩
abbrev S1024x3200 : Shape := ⟨2, ![1024, 3200]⟩
abbrev S8192x3200 : Shape := ⟨2, ![8192, 3200]⟩
abbrev S3200x1024 : Shape := ⟨2, ![3200, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3200, .f32⟩
  | .hbm, ⟨2, _⟩ => ⟨S8192x3200, .f32⟩
  | .hbm, ⟨3, _⟩ => ⟨S8192x3200, .f32⟩
  | .hbm, ⟨4, _⟩ => ⟨S3200x1024, .f32⟩
  | .hbm, ⟨5, _⟩ => ⟨S1024x3200, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GlaX.lean ====
abbrev S8192x1024 : Shape := ⟨2, ![8192, 1024]⟩
abbrev S1024x3200 : Shape := ⟨2, ![1024, 3200]⟩
abbrev S8192x3200 : Shape := ⟨2, ![8192, 3200]⟩
abbrev S1024x640 : Shape := ⟨2, ![1024, 640]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024x3200, .f32⟩
  | .hbm, ⟨2, _⟩ => ⟨S8192x3200, .f32⟩
  | .hbm, ⟨3, _⟩ => ⟨S8192x1024, .f32⟩
  | .hbm, ⟨4, _⟩ => ⟨S8192x3200, .bf16⟩
  | .hbm, ⟨5, _⟩ => ⟨S1024x3200, .bf16⟩
  | .hbm, ⟨6, _⟩ => ⟨S8192x1024, .f32⟩
  | .local _ .vmem, ⟨0, _⟩ => ⟨S1024x640, .bf16⟩
  | .local _ .vmem, ⟨1, _⟩ => ⟨S1024x640, .bf16⟩
  | .local _ .vmem, ⟨2, _⟩ => ⟨S1024x640, .bf16⟩
  | .local _ .vmem, ⟨3, _⟩ => ⟨S1024x640, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 5], ![false, false, false]⟩

def k0_cond2 (i : grid0.Coords) : BitVec 1 :=
  let arg2 : BitVec 32 := BitVec.ofNat 32 (i 2).val
  let c4_i32 : BitVec 32 := 4#32
  let v13 : BitVec 1 := Scalar.cmpi .eq arg2 c4_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GlaXRefIdeal.lean ====
abbrev S8192x1024 : Shape := ⟨2, ![8192, 1024]⟩
abbrev S1024x3200 : Shape := ⟨2, ![1024, 3200]⟩
abbrev S8192x3200 : Shape := ⟨2, ![8192, 3200]⟩
abbrev S_ : Shape := ⟨0, ![]⟩
abbrev S3200x1024 : Shape := ⟨2, ![3200, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3200, .f32⟩
  | .hbm, ⟨2, _⟩ => ⟨S8192x3200, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x3200, .f32⟩
  | .hbm, ⟨8, _⟩ => ⟨S3200x1024, .f32⟩
  | .hbm, ⟨9, _⟩ => ⟨S1024x3200, .f32⟩
  | .hbm, ⟨10, _⟩ => ⟨S8192x1024, .f32⟩
  | .hbm, ⟨11, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== QkvF.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x1024, .bf16⟩
  | .hbm, ⟨3, _⟩ => ⟨S1024x3072, .bf16⟩
  | .hbm, ⟨4, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvFIdeal.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x1024, .bf16⟩
  | .hbm, ⟨3, _⟩ => ⟨S1024x3072, .bf16⟩
  | .hbm, ⟨4, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvFRefIdeal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutF.lean ====
abbrev S8192x1024 : Shape := ⟨2, ![8192, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutFIdeal.lean ====
abbrev S8192x1024 : Shape := ⟨2, ![8192, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutFRefIdeal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GlaF.lean ====
abbrev S8192x1024 : Shape := ⟨2, ![8192, 1024]⟩
abbrev S1024x3200 : Shape := ⟨2, ![1024, 3200]⟩
abbrev S8192x3200 : Shape := ⟨2, ![8192, 3200]⟩
abbrev S1024x1024 : Shape := ⟨2, ![1024, 1024]⟩
abbrev S1024x640 : Shape := ⟨2, ![1024, 640]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x3200, .f32⟩
  | .hbm, ⟨2, _⟩ => ⟨S8192x1024, .bf16⟩
  | .hbm, ⟨3, _⟩ => ⟨S1024x3200, .bf16⟩
  | .hbm, ⟨4, _⟩ => ⟨S8192x3200, .f32⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .f32⟩
  | .local _ .vmem, ⟨5, _⟩ => ⟨S1024x640, .f32⟩
  | .local _ .vmem, ⟨6, _⟩ => ⟨S1024x640, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 5, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GlaFIdeal.lean ====
abbrev S8192x1024 : Shape := ⟨2, ![8192, 1024]⟩
abbrev S1024x3200 : Shape := ⟨2, ![1024, 3200]⟩
abbrev S8192x3200 : Shape := ⟨2, ![8192, 3200]⟩
abbrev S1024x1024 : Shape := ⟨2, ![1024, 1024]⟩
abbrev S1024x640 : Shape := ⟨2, ![1024, 640]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x3200, .f32⟩
  | .hbm, ⟨2, _⟩ => ⟨S8192x1024, .bf16⟩
  | .hbm, ⟨3, _⟩ => ⟨S1024x3200, .bf16⟩
  | .hbm, ⟨4, _⟩ => ⟨S8192x3200, .f32⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .f32⟩
  | .local _ .vmem, ⟨5, _⟩ => ⟨S1024x640, .f32⟩
  | .local _ .vmem, ⟨6, _⟩ => ⟨S1024x640, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 5, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GlaFRefIdeal.lean ====
abbrev S8192x1024 : Shape := ⟨2, ![8192, 1024]⟩
abbrev S1024x3200 : Shape := ⟨2, ![1024, 3200]⟩
abbrev S8192x3200 : Shape := ⟨2, ![8192, 3200]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3200, .f32⟩
  | .hbm, ⟨2, _⟩ => ⟨S8192x3200, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UpF.lean ====
abbrev S8192x1024 : Shape := ⟨2, ![8192, 1024]⟩
abbrev S1024x2816 : Shape := ⟨2, ![1024, 2816]⟩
abbrev S8192x2816 : Shape := ⟨2, ![8192, 2816]⟩
abbrev S1024x1024 : Shape := ⟨2, ![1024, 1024]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S8192x1024, .bf16⟩
  | .hbm, ⟨3, _⟩ => ⟨S1024x2816, .bf16⟩
  | .hbm, ⟨4, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFRefIdeal.lean ====
abbrev S8192x1024 : Shape := ⟨2, ![8192, 1024]⟩
abbrev S1024x2816 : Shape := ⟨2, ![1024, 2816]⟩
abbrev S8192x2816 : Shape := ⟨2, ![8192, 2816]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S8192x2816, .f32⟩
  | .hbm, ⟨3, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DownF.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x2816, .bf16⟩
  | .hbm, ⟨3, _⟩ => ⟨S2816x1024, .bf16⟩
  | .hbm, ⟨4, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownFRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SbBwd.lean ====
abbrev S8192x3072 : Shape := ⟨2, ![8192, 3072]⟩
abbrev S8192x1024 : Shape := ⟨2, ![8192, 1024]⟩
abbrev S8192x3x16x64 : Shape := ⟨4, ![8192, 3, 16, 64]⟩
abbrev S8192x1x16x64 : Shape := ⟨4, ![8192, 1, 16, 64]⟩
abbrev S8192x16x64 : Shape := ⟨3, ![8192, 16, 64]⟩
abbrev S16x8192x64 : Shape := ⟨3, ![16, 8192, 64]⟩
abbrev S16x8192x8192 : Shape := ⟨3, ![16, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x128 : Shape := ⟨2, ![1024, 128]⟩
abbrev S8192x128 : Shape := ⟨2, ![8192, 128]⟩
abbrev S64x128x128 : Shape := ⟨3, ![64, 128, 128]⟩
abbrev S2x1024x128 : Shape := ⟨3, ![2, 1024, 128]⟩
abbrev S2x128x1024 : Shape := ⟨3, ![2, 128, 1024]⟩
abbrev S2x1024x1 : Shape := ⟨3, ![2, 1024, 1]⟩
abbrev S1x128 : Shape := ⟨2, ![1, 128]⟩
abbrev S128x128 : Shape := ⟨2, ![128, 128]⟩
abbrev S1x1024x128 : Shape := ⟨3, ![1, 1024, 128]⟩
abbrev S128x1024 : Shape := ⟨2, ![128, 1024]⟩
abbrev S1x128x1024 : Shape := ⟨3, ![1, 128, 1024]⟩
abbrev S1024 : Shape := ⟨1, ![1024]⟩
abbrev S1024x1 : Shape := ⟨2, ![1024, 1]⟩
abbrev S1x1024x1 : Shape := ⟨3, ![1, 1024, 1]⟩
abbrev S1x128x128 : Shape := ⟨3, ![1, 128, 128]⟩
abbrev S1x128x1 : Shape := ⟨3, ![1, 128, 1]⟩
abbrev S128x1 : Shape := ⟨2, ![128, 1]⟩
abbrev S128 : Shape := ⟨1, ![128]⟩
abbrev S256x128 : Shape := ⟨2, ![256, 128]⟩
abbrev S1x256x128 : Shape := ⟨3, ![1, 256, 128]⟩
abbrev S1x256x1 : Shape := ⟨3, ![1, 256, 1]⟩
abbrev S256x1 : Shape := ⟨2, ![256, 1]⟩
abbrev S256 : Shape := ⟨1, ![256]⟩
abbrev S1x128x256 : Shape := ⟨3, ![1, 128, 256]⟩
abbrev S128x256 : Shape := ⟨2, ![128, 256]⟩
abbrev S384x128 : Shape := ⟨2, ![384, 128]⟩
abbrev S1x384x128 : Shape := ⟨3, ![1, 384, 128]⟩
abbrev S1x384x1 : Shape := ⟨3, ![1, 384, 1]⟩
abbrev S384x1 : Shape := ⟨2, ![384, 1]⟩
abbrev S384 : Shape := ⟨1, ![384]⟩
abbrev S1x128x384 : Shape := ⟨3, ![1, 128, 384]⟩
abbrev S128x384 : Shape := ⟨2, ![128, 384]⟩
abbrev S512x128 : Shape := ⟨2, ![512, 128]⟩
abbrev S1x512x128 : Shape := ⟨3, ![1, 512, 128]⟩
abbrev S1x512x1 : Shape := ⟨3, ![1, 512, 1]⟩
abbrev S512x1 : Shape := ⟨2, ![512, 1]⟩
abbrev S512 : Shape := ⟨1, ![512]⟩
abbrev S1x128x512 : Shape := ⟨3, ![1, 128, 512]⟩
abbrev S128x512 : Shape := ⟨2, ![128, 512]⟩
abbrev S640x128 : Shape := ⟨2, ![640, 128]⟩
abbrev S1x640x128 : Shape := ⟨3, ![1, 640, 128]⟩
abbrev S1x640x1 : Shape := ⟨3, ![1, 640, 1]⟩
abbrev S640x1 : Shape := ⟨2, ![640, 1]⟩
abbrev S640 : Shape := ⟨1, ![640]⟩
abbrev S1x128x640 : Shape := ⟨3, ![1, 128, 640]⟩
abbrev S128x640 : Shape := ⟨2, ![128, 640]⟩
abbrev S768x128 : Shape := ⟨2, ![768, 128]⟩
abbrev S1x768x128 : Shape := ⟨3, ![1, 768, 128]⟩
abbrev S1x768x1 : Shape := ⟨3, ![1, 768, 1]⟩
abbrev S768x1 : Shape := ⟨2, ![768, 1]⟩
abbrev S768 : Shape := ⟨1, ![768]⟩
abbrev S1x128x768 : Shape := ⟨3, ![1, 128, 768]⟩
abbrev S128x768 : Shape := ⟨2, ![128, 768]⟩
abbrev S896x128 : Shape := ⟨2, ![896, 128]⟩
abbrev S1x896x128 : Shape := ⟨3, ![1, 896, 128]⟩
abbrev S1x896x1 : Shape := ⟨3, ![1, 896, 1]⟩
abbrev S896x1 : Shape := ⟨2, ![896, 1]⟩
abbrev S896 : Shape := ⟨1, ![896]⟩
abbrev S1x128x896 : Shape := ⟨3, ![1, 128, 896]⟩
abbrev S128x896 : Shape := ⟨2, ![128, 896]⟩

abbrev nBuf : Space → Nat
  | .hbm => 80
  | .vmem => 26
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S8192x3072, .bf16⟩
  | .hbm, ⟨3, _⟩ => ⟨S8192x1024, .bf16⟩
  | .hbm, ⟨4, _⟩ => ⟨S8192x3x16x64, .f32⟩
  | .hbm, ⟨5, _⟩ => ⟨S8192x1x16x64, .f32⟩
  | .hbm, ⟨6, _⟩ => ⟨S8192x16x64, .f32⟩
  | .hbm, ⟨7, _⟩ => ⟨S16x8192x64, .f32⟩
  | .hbm, ⟨8, _⟩ => ⟨S8192x1x16x64, .f32⟩
  | .hbm, ⟨9, _⟩ => ⟨S8192x16x64, .f32⟩
  | .hbm, ⟨10, _⟩ => ⟨S16x8192x64, .f32⟩
  | .hbm, ⟨11, _⟩ => ⟨S8192x1x16x64, .f32⟩
  | .hbm, ⟨12, _⟩ => ⟨S8192x16x64, .f32⟩
  | .hbm, ⟨13, _⟩ => ⟨S16x8192x64, .f32⟩
  | .hbm, ⟨14, _⟩ => ⟨S16x8192x8192, .f32⟩
  | .hbm, ⟨15, _⟩ => ⟨S_, .f32⟩
  | .hbm, ⟨16, _⟩ => ⟨S16x8192x8192, .f32⟩
  | .hbm, ⟨17, _⟩ => ⟨S16x8192x8192, .f32⟩
  | .hbm, ⟨18, _⟩ => ⟨S8192, .i32⟩
  | .hbm, ⟨19, _⟩ => ⟨S8192x1, .i32⟩
  | .hbm, ⟨20, _⟩ => ⟨S8192, .i32⟩
  | .hbm, ⟨21, _⟩ => ⟨S1x8192, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S16x8192x8192, .f32⟩
  | .hbm, ⟨26, _⟩ => ⟨S16x8192x8192, .f32⟩
  | .hbm, ⟨27, _⟩ => ⟨S_, .f32⟩
  | .hbm, ⟨28, _⟩ => ⟨S16x8192x8192, .f32⟩
  | .hbm, ⟨29, _⟩ => ⟨S16x8192x8192, .f32⟩
  | .hbm, ⟨30, _⟩ => ⟨S16x8192x8192, .f32⟩
  | .hbm, ⟨31, _⟩ => ⟨S16x8192x8192, .f32⟩
  | .hbm, ⟨32, _⟩ => ⟨S16x8192x8192, .i1⟩
  | .hbm, ⟨33, _⟩ => ⟨S16x8192x8192, .f32⟩
  | .hbm, ⟨34, _⟩ => ⟨S16x8192x8192, .f32⟩
  | .hbm, ⟨35, _⟩ => ⟨S16x8192x8192, .f32⟩
  | .hbm, ⟨36, _⟩ => ⟨S16x8192x8192, .f32⟩
  | .hbm, ⟨37, _⟩ => ⟨S16x8192x8192, .f32⟩
  | .hbm, ⟨38, _⟩ => ⟨S16x8192x8192, .f32⟩
  | .hbm, ⟨39, _⟩ => ⟨S16x8192x8192, .f32⟩
  | .hbm, ⟨40, _⟩ => ⟨S16x8192x8192, .f32⟩
  | .hbm, ⟨41, _⟩ => ⟨S16x8192x8192, .f32⟩
  | .hbm, ⟨42, _⟩ => ⟨S_, .f32⟩
  | .hbm, ⟨43, _⟩ => ⟨S_, .f32⟩
  | .hbm, ⟨44, _⟩ => ⟨S16x8192x8192, .i1⟩
  | .hbm, ⟨45, _⟩ => ⟨S16x8192x8192, .f32⟩
  | .hbm, ⟨46, _⟩ => ⟨S16x8192x8192, .f32⟩
  | .hbm, ⟨47, _⟩ => ⟨S_, .f32⟩
  | .hbm, ⟨48, _⟩ => ⟨S_, .f32⟩
  | .hbm, ⟨49, _⟩ => ⟨S16x8192x8192, .f32⟩
  | .hbm, ⟨50, _⟩ => ⟨S16x8192x8192, .f32⟩
  | .hbm, ⟨51, _⟩ => ⟨S16x8192x8192, .f32⟩
  | .hbm, ⟨52, _⟩ => ⟨S_, .f32⟩
  | .hbm, ⟨53, _⟩ => ⟨S16x8192x8192, .f32⟩
  | .hbm, ⟨54, _⟩ => ⟨S16x8192x8192, .f32⟩
  | .hbm, ⟨55, _⟩ => ⟨S16x8192x8192, .f32⟩
  | .hbm, ⟨56, _⟩ => ⟨S16x8192x8192, .f32⟩
  | .hbm, ⟨57, _⟩ => ⟨S16x8192x8192, .i1⟩
  | .hbm, ⟨58, _⟩ => ⟨S16x8192x8192, .f32⟩
  | .hbm, ⟨59, _⟩ => ⟨S16x8192x8192, .f32⟩
  | .hbm, ⟨60, _⟩ => ⟨S16x8192x8192, .f32⟩
  | .hbm, ⟨61, _⟩ => ⟨S16x8192x8192, .f32⟩
  | .hbm, ⟨62, _⟩ => ⟨S16x8192x8192, .f32⟩
  | .hbm, ⟨63, _⟩ => ⟨S16x8192x8192, .f32⟩
  | .hbm, ⟨64, _⟩ => ⟨S16x8192x8192, .f32⟩
  | .hbm, ⟨65, _⟩ => ⟨S16x8192x8192, .f32⟩
  | .hbm, ⟨66, _⟩ => ⟨S16x8192x8192, .f32⟩
  | .hbm, ⟨67, _⟩ => ⟨S16x8192x8192, .f32⟩
  | .hbm, ⟨68, _⟩ => ⟨S16x8192x8192, .f32⟩
  | .hbm, ⟨69, _⟩ => ⟨S_, .f32⟩
  | .hbm, ⟨70, _⟩ => ⟨S_, .f32⟩
  | .hbm, ⟨71, _⟩ => ⟨S16x8192x8192, .i1⟩
  | .hbm, ⟨72, _⟩ => ⟨S16x8192x8192, .f32⟩
  | .hbm, ⟨73, _⟩ => ⟨S16x8192x8192, .f32⟩
  | .hbm, ⟨74, _⟩ => ⟨S16x8192x64, .f32⟩
  | .hbm, ⟨75, _⟩ => ⟨S8192x16x64, .f32⟩
  | .hbm, ⟨76, _⟩ => ⟨S8192x1024, .f32⟩
  | .hbm, ⟨77, _⟩ => ⟨S8192x1024, .bf16⟩
  | .hbm, ⟨78, _⟩ => ⟨S8192x1024, .bf16⟩
  | .hbm, ⟨79, _⟩ => ⟨S8192x1024, .bf16⟩
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1024x128, .f32⟩
  | .local _ .vmem, ⟨10, _⟩ => ⟨S1024x128, .bf16⟩
  | .local _ .vmem, ⟨11, _⟩ => ⟨S1024x128, .bf16⟩
  | .local _ .vmem, ⟨12, _⟩ => ⟨S8192x128, .bf16⟩
  | .local _ .vmem, ⟨13, _⟩ => ⟨S8192x128, .bf16⟩
  | .local _ .vmem, ⟨14, _⟩ => ⟨S8192x128, .bf16⟩
  | .local _ .vmem, ⟨15, _⟩ => ⟨S8192x128, .bf16⟩
  | .local _ .vmem, ⟨16, _⟩ => ⟨S64x128x128, .f32⟩
  | .local _ .vmem, ⟨17, _⟩ => ⟨S64x128x128, .f32⟩
  | .local _ .vmem, ⟨18, _⟩ => ⟨S2x1024x128, .bf16⟩
  | .local _ .vmem, ⟨19, _⟩ => ⟨S2x1024x128, .bf16⟩
  | .local _ .vmem, ⟨20, _⟩ => ⟨S2x128x1024, .bf16⟩
  | .local _ .vmem, ⟨21, _⟩ => ⟨S2x128x1024, .bf16⟩
  | .local _ .vmem, ⟨22, _⟩ => ⟨S2x1024x128, .f32⟩
  | .local _ .vmem, ⟨23, _⟩ => ⟨S2x1024x1, .f32⟩
  | .local _ .vmem, ⟨24, _⟩ => ⟨S2x1024x1, .f32⟩
  | .local _ .vmem, ⟨25, _⟩ => ⟨S2x1024x1, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1 : Ref sig .tc := ⟨.hbm, 40, rfl⟩
abbrev main_v23 : Ref sig .tc := ⟨.hbm, 41, rfl⟩
abbrev main_cst_0 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v24 : Ref sig .tc := ⟨.hbm, 46, rfl⟩
abbrev main_call2_cst : Ref sig .tc := ⟨.hbm, 47, rfl⟩
abbrev main_call2_v0 : Ref sig .tc := ⟨.hbm, 48, rfl⟩
abbrev main_v25 : Ref sig .tc := ⟨.hbm, 49, rfl⟩
abbrev main_v26 : Ref sig .tc := ⟨.hbm, 50, rfl⟩
abbrev main_call3_v0 : Ref sig .tc := ⟨.hbm, 51, rfl⟩
abbrev main_call3_call0_cst : Ref sig .tc := ⟨.hbm, 52, rfl⟩
abbrev main_call3_call0_v0 : Ref sig .tc := ⟨.hbm, 53, rfl⟩
abbrev main_call3_call0_v1 : Ref sig .tc := ⟨.hbm, 54, rfl⟩
abbrev main_call3_call0_v2 : Ref sig .tc := ⟨.hbm, 55, rfl⟩
abbrev main_call3_call0_v3 : Ref sig .tc := ⟨.hbm, 56, rfl⟩
abbrev main_call3_call0_v4 : Ref sig .tc := ⟨.hbm, 57, rfl⟩
abbrev main_call3_call0_v5 : Ref sig .tc := ⟨.hbm, 58, rfl⟩
abbrev main_call3_call0_v6 : Ref sig .tc := ⟨.hbm, 59, rfl⟩
abbrev main_call3_call0_v7 : Ref sig .tc := ⟨.hbm, 60, rfl⟩
abbrev main_call3_call0_v8 : Ref sig .tc := ⟨.hbm, 61, rfl⟩
abbrev main_call3_call0_v9 : Ref sig .tc := ⟨.hbm, 62, rfl⟩
abbrev main_call3_call0_v10 : Ref sig .tc := ⟨.hbm, 63, rfl⟩
abbrev main_call3_call0_v11 : Ref sig .tc := ⟨.hbm, 64, rfl⟩
abbrev main_call3_v1 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_cst_1 : Ref sig .tc := ⟨.hbm, 69, rfl⟩
abbrev main_call4_v0 : Ref sig .tc := ⟨.hbm, 70, rfl⟩
abbrev main_call4_v1 : Ref sig .tc := ⟨.hbm, 71, rfl⟩
abbrev main_call4_v2 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34_0 : Ref sig .tc := ⟨.hbm, 77, rfl⟩
abbrev main_v34_1 : Ref sig .tc := ⟨.hbm, 78, rfl⟩
abbrev main_v34_2 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c8_i32 : BitVec 32 := 8#32
  let v166 : BitVec 32 := Scalar.muli arg1 c8_i32
  let c8_i32_70 : BitVec 32 := 8#32
  let v167 : BitVec 32 := Scalar.addi v166 c8_i32_70
  let c1_i32_71 : BitVec 32 := 1#32
  let v168 : BitVec 32 := Scalar.subi v167 c1_i32_71
  let c0_i32_72 : BitVec 32 := 0#32
  let v169 : BitVec 32 := Scalar.subi v168 c0_i32_72
  let c128_i32 : BitVec 32 := 128#32
  let v170 : BitVec 32 := Scalar.muli v169 c128_i32
  v170
def k0_off1 (i : grid0.Coords) (c0_i32_72 : BitVec 32) : Fin 2 → Nat :=
  let arg1 : BitVec 32 := BitVec.ofNat 32 (i 1).val
  let c8_i32 : BitVec 32 := 8#32
  let v166 : BitVec 32 := Scalar.muli arg1 c8_i32
  let c8_i32_70 : BitVec 32 := 8#32
  let v167 : BitVec 32 := Scalar.addi v166 c8_i32_70
  let c1_i32_71 : BitVec 32 := 1#32
  let v168 : BitVec 32 := Scalar.subi v167 c1_i32_71
  let v169 : BitVec 32 := Scalar.subi v168 c0_i32_72
  let c128_i32 : BitVec 32 := 128#32
  let v170 : BitVec 32 := Scalar.muli v169 c128_i32
  let v171 : BitVec 32 := v170
  let v172 : Index := Scalar.indexCast v171
  let c0_73 : Index := 0#32
  ![v172.toNat, 0]
def k0_off2 (i : grid0.Coords) (c0_i32_72 : BitVec 32) : Fin 3 → Nat :=
  let arg1 : BitVec 32 := BitVec.ofNat 32 (i 1).val
  let c8_i32 : BitVec 32 := 8#32
  let v166 : BitVec 32 := Scalar.muli arg1 c8_i32
  let c8_i32_70 : BitVec 32 := 8#32
  let v167 : BitVec 32 := Scalar.addi v166 c8_i32_70
  let c1_i32_71 : BitVec 32 := 1#32
  let v168 : BitVec 32 := Scalar.subi v167 c1_i32_71
  let v169 : BitVec 32 := Scalar.subi v168 c0_i32_72
  let v370 : Index := Scalar.indexCast v169
  let c0_194 : Index := 0#32
  let c0_195 : Index := 0#32
  ![v370.toNat, 0, 0]
def k0_mult2 (i : grid0.Coords) : BitVec 32 :=
  let arg1 : BitVec 32 := BitVec.ofNat 32 (i 1).val
  let c8_i32_202 : BitVec 32 := 8#32
  let v389 : BitVec 32 := Scalar.muli arg1 c8_i32_202
  let c8_i32_203 : BitVec 32 := 8#32
  let v390 : BitVec 32 := Scalar.addi v389 c8_i32_203
  let c1_i32_204 : BitVec 32 := 1#32
  let v391 : BitVec 32 := Scalar.subi v390 c1_i32_204
  let c1_i32_205 : BitVec 32 := 1#32
  let v392 : BitVec 32 := Scalar.subi v391 c1_i32_205
  let c128_i32_206 : BitVec 32 := 128#32
  let v393 : BitVec 32 := Scalar.muli v392 c128_i32_206
  v393
def k0_mult3 (i : grid0.Coords) : BitVec 32 :=
  let arg1 : BitVec 32 := BitVec.ofNat 32 (i 1).val
  let c8_i32_336 : BitVec 32 := 8#32
  let v612 : BitVec 32 := Scalar.muli arg1 c8_i32_336
  let c8_i32_337 : BitVec 32 := 8#32
  let v613 : BitVec 32 := Scalar.addi v612 c8_i32_337
  let c1_i32_338 : BitVec 32 := 1#32
  let v614 : BitVec 32 := Scalar.subi v613 c1_i32_338
  let c2_i32 : BitVec 32 := 2#32
  let v615 : BitVec 32 := Scalar.subi v614 c2_i32
  let c128_i32_339 : BitVec 32 := 128#32
  let v616 : BitVec 32 := Scalar.muli v615 c128_i32_339
  v616
def k0_mult4 (i : grid0.Coords) : BitVec 32 :=
  let arg1 : BitVec 32 := BitVec.ofNat 32 (i 1).val
  let c8_i32_469 : BitVec 32 := 8#32
  let v835 : BitVec 32 := Scalar.muli arg1 c8_i32_469
  let c8_i32_470 : BitVec 32 := 8#32
  let v836 : BitVec 32 := Scalar.addi v835 c8_i32_470
  let c1_i32_471 : BitVec 32 := 1#32
  let v837 : BitVec 32 := Scalar.subi v836 c1_i32_471
  let c3_i32 : BitVec 32 := 3#32
  let v838 : BitVec 32 := Scalar.subi v837 c3_i32
  let c128_i32_472 : BitVec 32 := 128#32
  let v839 : BitVec 32 := Scalar.muli v838 c128_i32_472
  v839
def k0_mult5 (i : grid0.Coords) : BitVec 32 :=
  let arg1 : BitVec 32 := BitVec.ofNat 32 (i 1).val
  let c8_i32_602 : BitVec 32 := 8#32
  let v1058 : BitVec 32 := Scalar.muli arg1 c8_i32_602
  let c8_i32_603 : BitVec 32 := 8#32
  let v1059 : BitVec 32 := Scalar.addi v1058 c8_i32_603
  let c1_i32_604 : BitVec 32 := 1#32
  let v1060 : BitVec 32 := Scalar.subi v1059 c1_i32_604
  let c4_i32 : BitVec 32 := 4#32
  let v1061 : BitVec 32 := Scalar.subi v1060 c4_i32
  let c128_i32_605 : BitVec 32 := 128#32
  let v1062 : BitVec 32 := Scalar.muli v1061 c128_i32_605
  v1062
def k0_mult6 (i : grid0.Coords) : BitVec 32 :=
  let arg1 : BitVec 32 := BitVec.ofNat 32 (i 1).val
  let c8_i32_735 : BitVec 32 := 8#32
  let v1281 : BitVec 32 := Scalar.muli arg1 c8_i32_735
  let c8_i32_736 : BitVec 32 := 8#32
  let v1282 : BitVec 32 := Scalar.addi v1281 c8_i32_736
  let c1_i32_737 : BitVec 32 := 1#32
  let v1283 : BitVec 32 := Scalar.subi v1282 c1_i32_737
  let c5_i32 : BitVec 32 := 5#32
  let v1284 : BitVec 32 := Scalar.subi v1283 c5_i32
  let c128_i32_738 : BitVec 32 := 128#32
  let v1285 : BitVec 32 := Scalar.muli v1284 c128_i32_738
  v1285
def k0_mult7 (i : grid0.Coords) : BitVec 32 :=
  let arg1 : BitVec 32 := BitVec.ofNat 32 (i 1).val
  let c8_i32_868 : BitVec 32 := 8#32
  let v1504 : BitVec 32 := Scalar.muli arg1 c8_i32_868
  let c8_i32_869 : BitVec 32 := 8#32
  let v1505 : BitVec 32 := Scalar.addi v1504 c8_i32_869
  let c1_i32_870 : BitVec 32 := 1#32
  let v1506 : BitVec 32 := Scalar.subi v1505 c1_i32_870
  let c6_i32 : BitVec 32 := 6#32
  let v1507 : BitVec 32 := Scalar.subi v1506 c6_i32
  let c128_i32_871 : BitVec 32 := 128#32
  let v1508 : BitVec 32 := Scalar.muli v1507 c128_i32_871
  v1508
def k0_mult8 (i : grid0.Coords) : BitVec 32 :=
  let arg1 : BitVec 32 := BitVec.ofNat 32 (i 1).val
  let c8_i32_1001 : BitVec 32 := 8#32
  let v1727 : BitVec 32 := Scalar.muli arg1 c8_i32_1001
  let c8_i32_1002 : BitVec 32 := 8#32
  let v1728 : BitVec 32 := Scalar.addi v1727 c8_i32_1002
  let c1_i32_1003 : BitVec 32 := 1#32
  let v1729 : BitVec 32 := Scalar.subi v1728 c1_i32_1003
  let c7_i32 : BitVec 32 := 7#32
  let v1730 : BitVec 32 := Scalar.subi v1729 c7_i32
  let c128_i32_1004 : BitVec 32 := 128#32
  let v1731 : BitVec 32 := Scalar.muli v1730 c128_i32_1004
  v1731
@[reducible] def k0_t1_loop (i : grid0.Coords) : Scf.Loop 32 :=
  let c0_i32_1143 : BitVec 32 := 0#32
  let arg1 : BitVec 32 := BitVec.ofNat 32 (i 1).val
  let c8_i32_1135 : BitVec 32 := 8#32
  let v1947 : BitVec 32 := Scalar.muli arg1 c8_i32_1135
  let c0_i32_1137 : BitVec 32 := 0#32
  let v1949 : BitVec 1 := Scalar.cmpi .sgt v1947 c0_i32_1137
  let v1950 : BitVec 32 := Scalar.extui v1949
  let c0_i32_1138 : BitVec 32 := 0#32
  let v1951 : BitVec 1 := Scalar.cmpi .slt v1947 c0_i32_1138
  let v1952 : BitVec 32 := Scalar.extui v1951
  let v1953 : BitVec 32 := Scalar.subi v1950 v1952
  let c2_i32_1136 : BitVec 32 := 2#32
  let c0_i32_1139 : BitVec 32 := 0#32
  let v1954 : BitVec 1 := Scalar.cmpi .sgt c2_i32_1136 c0_i32_1139
  let v1955 : BitVec 32 := Scalar.extui v1954
  let c0_i32_1140 : BitVec 32 := 0#32
  let v1956 : BitVec 1 := Scalar.cmpi .slt c2_i32_1136 c0_i32_1140
  let v1957 : BitVec 32 := Scalar.extui v1956
  let v1958 : BitVec 32 := Scalar.subi v1955 v1957
  let v1959 : BitVec 1 := Scalar.cmpi .ne v1953 v1958
  let v1960 : BitVec 32 := Scalar.remsi v1947 c2_i32_1136
  let c0_i32_1141 : BitVec 32 := 0#32
  let v1961 : BitVec 1 := Scalar.cmpi .ne v1960 c0_i32_1141
  let v1962 : BitVec 1 := Scalar.andi v1959 v1961
  let v1948 : BitVec 32 := Scalar.divsi v1947 c2_i32_1136
  let c1_i32_1142 : BitVec 32 := 1#32
  let v1963 : BitVec 32 := Scalar.subi v1948 c1_i32_1142
  let v1964 : BitVec 32 := Scalar.select v1962 v1963 v1948
  let v1965 : BitVec 32 := Scalar.subi v1964 c0_i32_1143
  let c1_i32_1145 : BitVec 32 := 1#32
  let v1967 : BitVec 32 := Scalar.divsi v1965 c1_i32_1145
  let v1968 : BitVec 32 := Scalar.muli v1967 c1_i32_1145
  let v1969 : BitVec 32 := Scalar.addi c0_i32_1143 v1968
  let c1_i32_1146 : BitVec 32 := 1#32
  ⟨c0_i32_1143, v1969, c1_i32_1146⟩
def k0_mult9 (i : grid0.Coords) (k0_t1 : Fin (k0_t1_loop i).trips) : BitVec 32 :=
  let arg1 : BitVec 32 := BitVec.ofNat 32 (i 1).val
  let c8_i32_1160 : BitVec 32 := 8#32
  let v1988 : BitVec 32 := Scalar.muli arg1 c8_i32_1160
  let c1_i32_1161 : BitVec 32 := 1#32
  let v1989 : BitVec 32 := Scalar.subi v1988 c1_i32_1161
  let c2_i32_1162 : BitVec 32 := 2#32
  let c0_i32_1143 : BitVec 32 := 0#32
  let c1_i32_1146 : BitVec 32 := 1#32
  let arg20 : BitVec 32 := Scf.iv c0_i32_1143 c1_i32_1146 k0_t1
  let v1990 : BitVec 32 := Scalar.muli c2_i32_1162 arg20
  let v1991 : BitVec 32 := Scalar.subi v1989 v1990
  let c0_i32_1163 : BitVec 32 := 0#32
  let v1992 : BitVec 32 := Scalar.subi v1991 c0_i32_1163
  let c128_i32_1164 : BitVec 32 := 128#32
  let v1993 : BitVec 32 := Scalar.muli v1992 c128_i32_1164
  v1993
def k0_off3 (i : grid0.Coords) (k0_t1 : Fin (k0_t1_loop i).trips) (c0_i32_1163 : BitVec 32) : Fin 2 → Nat :=
  let arg1 : BitVec 32 := BitVec.ofNat 32 (i 1).val
  let c8_i32_1160 : BitVec 32 := 8#32
  let v1988 : BitVec 32 := Scalar.muli arg1 c8_i32_1160
  let c1_i32_1161 : BitVec 32 := 1#32
  let v1989 : BitVec 32 := Scalar.subi v1988 c1_i32_1161
  let c2_i32_1162 : BitVec 32 := 2#32
  let c0_i32_1143 : BitVec 32 := 0#32
  let c1_i32_1146 : BitVec 32 := 1#32
  let arg20 : BitVec 32 := Scf.iv c0_i32_1143 c1_i32_1146 k0_t1
  let v1990 : BitVec 32 := Scalar.muli c2_i32_1162 arg20
  let v1991 : BitVec 32 := Scalar.subi v1989 v1990
  let v1992 : BitVec 32 := Scalar.subi v1991 c0_i32_1163
  let c128_i32_1164 : BitVec 32 := 128#32
  let v1993 : BitVec 32 := Scalar.muli v1992 c128_i32_1164
  let v1994 : BitVec 32 := v1993
  let v1995 : Index := Scalar.indexCast v1994
  let c0_1165 : Index := 0#32
  ![v1995.toNat, 0]
def k0_off4 (i : grid0.Coords) (k0_t1 : Fin (k0_t1_loop i).trips) (c0_i32_1163 : BitVec 32) : Fin 3 → Nat :=
  let arg1 : BitVec 32 := BitVec.ofNat 32 (i 1).val
  let c8_i32_1160 : BitVec 32 := 8#32
  let v1988 : BitVec 32 := Scalar.muli arg1 c8_i32_1160
  let c1_i32_1161 : BitVec 32 := 1#32
  let v1989 : BitVec 32 := Scalar.subi v1988 c1_i32_1161
  let c2_i32_1162 : BitVec 32 := 2#32
  let c0_i32_1143 : BitVec 32 := 0#32
  let c1_i32_1146 : BitVec 32 := 1#32
  let arg20 : BitVec 32 := Scf.iv c0_i32_1143 c1_i32_1146 k0_t1
  let v1990 : BitVec 32 := Scalar.muli c2_i32_1162 arg20
  let v1991 : BitVec 32 := Scalar.subi v1989 v1990
  let v1992 : BitVec 32 := Scalar.subi v1991 c0_i32_1163
  let v2181 : Index := Scalar.indexCast v1992
  let c0_1281 : Index := 0#32
  let c0_1282 : Index := 0#32
  ![v2181.toNat, 0, 0]
def k0_mult10 (i : grid0.Coords) (k0_t1 : Fin (k0_t1_loop i).trips) : BitVec 32 :=
  let arg1 : BitVec 32 := BitVec.ofNat 32 (i 1).val
  let c8_i32_1289 : BitVec 32 := 8#32
  let v2197 : BitVec 32 := Scalar.muli arg1 c8_i32_1289
  let c1_i32_1290 : BitVec 32 := 1#32
  let v2198 : BitVec 32 := Scalar.subi v2197 c1_i32_1290
  let c2_i32_1291 : BitVec 32 := 2#32
  let c0_i32_1143 : BitVec 32 := 0#32
  let c1_i32_1146 : BitVec 32 := 1#32
  let arg20 : BitVec 32 := Scf.iv c0_i32_1143 c1_i32_1146 k0_t1
  let v2199 : BitVec 32 := Scalar.muli c2_i32_1291 arg20
  let v2200 : BitVec 32 := Scalar.subi v2198 v2199
  let c1_i32_1292 : BitVec 32 := 1#32
  let v2201 : BitVec 32 := Scalar.subi v2200 c1_i32_1292
  let c128_i32_1293 : BitVec 32 := 128#32
  let v2202 : BitVec 32 := Scalar.muli v2201 c128_i32_1293
  v2202
@[reducible] def k0_t2_loop (i : grid0.Coords) : Scf.Loop 32 :=
  let c0_i32_1143 : BitVec 32 := 0#32
  let arg1 : BitVec 32 := BitVec.ofNat 32 (i 1).val
  let c8_i32_1135 : BitVec 32 := 8#32
  let v1947 : BitVec 32 := Scalar.muli arg1 c8_i32_1135
  let c0_i32_1137 : BitVec 32 := 0#32
  let v1949 : BitVec 1 := Scalar.cmpi .sgt v1947 c0_i32_1137
  let v1950 : BitVec 32 := Scalar.extui v1949
  let c0_i32_1138 : BitVec 32 := 0#32
  let v1951 : BitVec 1 := Scalar.cmpi .slt v1947 c0_i32_1138
  let v1952 : BitVec 32 := Scalar.extui v1951
  let v1953 : BitVec 32 := Scalar.subi v1950 v1952
  let c2_i32_1136 : BitVec 32 := 2#32
  let c0_i32_1139 : BitVec 32 := 0#32
  let v1954 : BitVec 1 := Scalar.cmpi .sgt c2_i32_1136 c0_i32_1139
  let v1955 : BitVec 32 := Scalar.extui v1954
  let c0_i32_1140 : BitVec 32 := 0#32
  let v1956 : BitVec 1 := Scalar.cmpi .slt c2_i32_1136 c0_i32_1140
  let v1957 : BitVec 32 := Scalar.extui v1956
  let v1958 : BitVec 32 := Scalar.subi v1955 v1957
  let v1959 : BitVec 1 := Scalar.cmpi .ne v1953 v1958
  let v1960 : BitVec 32 := Scalar.remsi v1947 c2_i32_1136
  let c0_i32_1141 : BitVec 32 := 0#32
  let v1961 : BitVec 1 := Scalar.cmpi .ne v1960 c0_i32_1141
  let v1962 : BitVec 1 := Scalar.andi v1959 v1961
  let v1948 : BitVec 32 := Scalar.divsi v1947 c2_i32_1136
  let c1_i32_1142 : BitVec 32 := 1#32
  let v1963 : BitVec 32 := Scalar.subi v1948 c1_i32_1142
  let v1964 : BitVec 32 := Scalar.select v1962 v1963 v1948
  let v1965 : BitVec 32 := Scalar.subi v1964 c0_i32_1143
  let c1_i32_1145 : BitVec 32 := 1#32
  let v1967 : BitVec 32 := Scalar.divsi v1965 c1_i32_1145
  let v1968 : BitVec 32 := Scalar.muli v1967 c1_i32_1145
  let v1969 : BitVec 32 := Scalar.addi c0_i32_1143 v1968
  let v1966 : BitVec 32 := Scalar.addi c0_i32_1143 v1965
  let c1_i32_1147 : BitVec 32 := 1#32
  ⟨v1969, v1966, c1_i32_1147⟩
def k0_mult11 (i : grid0.Coords) (k0_t2 : Fin (k0_t2_loop i).trips) : BitVec 32 :=
  let arg1 : BitVec 32 := BitVec.ofNat 32 (i 1).val
  let c8_i32_1160 : BitVec 32 := 8#32
  let v1988 : BitVec 32 := Scalar.muli arg1 c8_i32_1160
  let c1_i32_1161 : BitVec 32 := 1#32
  let v1989 : BitVec 32 := Scalar.subi v1988 c1_i32_1161
  let c2_i32_1162 : BitVec 32 := 2#32
  let c0_i32_1143 : BitVec 32 := 0#32
  let c8_i32_1135 : BitVec 32 := 8#32
  let v1947 : BitVec 32 := Scalar.muli arg1 c8_i32_1135
  let c0_i32_1137 : BitVec 32 := 0#32
  let v1949 : BitVec 1 := Scalar.cmpi .sgt v1947 c0_i32_1137
  let v1950 : BitVec 32 := Scalar.extui v1949
  let c0_i32_1138 : BitVec 32 := 0#32
  let v1951 : BitVec 1 := Scalar.cmpi .slt v1947 c0_i32_1138
  let v1952 : BitVec 32 := Scalar.extui v1951
  let v1953 : BitVec 32 := Scalar.subi v1950 v1952
  let c2_i32_1136 : BitVec 32 := 2#32
  let c0_i32_1139 : BitVec 32 := 0#32
  let v1954 : BitVec 1 := Scalar.cmpi .sgt c2_i32_1136 c0_i32_1139
  let v1955 : BitVec 32 := Scalar.extui v1954
  let c0_i32_1140 : BitVec 32 := 0#32
  let v1956 : BitVec 1 := Scalar.cmpi .slt c2_i32_1136 c0_i32_1140
  let v1957 : BitVec 32 := Scalar.extui v1956
  let v1958 : BitVec 32 := Scalar.subi v1955 v1957
  let v1959 : BitVec 1 := Scalar.cmpi .ne v1953 v1958
  let v1960 : BitVec 32 := Scalar.remsi v1947 c2_i32_1136
  let c0_i32_1141 : BitVec 32 := 0#32
  let v1961 : BitVec 1 := Scalar.cmpi .ne v1960 c0_i32_1141
  let v1962 : BitVec 1 := Scalar.andi v1959 v1961
  let v1948 : BitVec 32 := Scalar.divsi v1947 c2_i32_1136
  let c1_i32_1142 : BitVec 32 := 1#32
  let v1963 : BitVec 32 := Scalar.subi v1948 c1_i32_1142
  let v1964 : BitVec 32 := Scalar.select v1962 v1963 v1948
  let v1965 : BitVec 32 := Scalar.subi v1964 c0_i32_1143
  let c1_i32_1145 : BitVec 32 := 1#32
  let v1967 : BitVec 32 := Scalar.divsi v1965 c1_i32_1145
  let v1968 : BitVec 32 := Scalar.muli v1967 c1_i32_1145
  let v1969 : BitVec 32 := Scalar.addi c0_i32_1143 v1968
  let c1_i32_1147 : BitVec 32 := 1#32
  let arg20 : BitVec 32 := Scf.iv v1969 c1_i32_1147 k0_t2
  let v1990 : BitVec 32 := Scalar.muli c2_i32_1162 arg20
  let v1991 : BitVec 32 := Scalar.subi v1989 v1990
  let c0_i32_1163 : BitVec 32 := 0#32
  let v1992 : BitVec 32 := Scalar.subi v1991 c0_i32_1163
  let c128_i32_1164 : BitVec 32 := 128#32
  let v1993 : BitVec 32 := Scalar.muli v1992 c128_i32_1164
  v1993
def k0_off5 (i : grid0.Coords) (k0_t2 : Fin (k0_t2_loop i).trips) (c0_i32_1163 : BitVec 32) : Fin 2 → Nat :=
  let arg1 : BitVec 32 := BitVec.ofNat 32 (i 1).val
  let c8_i32_1160 : BitVec 32 := 8#32
  let v1988 : BitVec 32 := Scalar.muli arg1 c8_i32_1160
  let c1_i32_1161 : BitVec 32 := 1#32
  let v1989 : BitVec 32 := Scalar.subi v1988 c1_i32_1161
  let c2_i32_1162 : BitVec 32 := 2#32
  let c0_i32_1143 : BitVec 32 := 0#32
  let c8_i32_1135 : BitVec 32 := 8#32
  let v1947 : BitVec 32 := Scalar.muli arg1 c8_i32_1135
  let c0_i32_1137 : BitVec 32 := 0#32
  let v1949 : BitVec 1 := Scalar.cmpi .sgt v1947 c0_i32_1137
  let v1950 : BitVec 32 := Scalar.extui v1949
  let c0_i32_1138 : BitVec 32 := 0#32
  let v1951 : BitVec 1 := Scalar.cmpi .slt v1947 c0_i32_1138
  let v1952 : BitVec 32 := Scalar.extui v1951
  let v1953 : BitVec 32 := Scalar.subi v1950 v1952
  let c2_i32_1136 : BitVec 32 := 2#32
  let c0_i32_1139 : BitVec 32 := 0#32
  let v1954 : BitVec 1 := Scalar.cmpi .sgt c2_i32_1136 c0_i32_1139
  let v1955 : BitVec 32 := Scalar.extui v1954
  let c0_i32_1140 : BitVec 32 := 0#32
  let v1956 : BitVec 1 := Scalar.cmpi .slt c2_i32_1136 c0_i32_1140
  let v1957 : BitVec 32 := Scalar.extui v1956
  let v1958 : BitVec 32 := Scalar.subi v1955 v1957
  let v1959 : BitVec 1 := Scalar.cmpi .ne v1953 v1958
  let v1960 : BitVec 32 := Scalar.remsi v1947 c2_i32_1136
  let c0_i32_1141 : BitVec 32 := 0#32
  let v1961 : BitVec 1 := Scalar.cmpi .ne v1960 c0_i32_1141
  let v1962 : BitVec 1 := Scalar.andi v1959 v1961
  let v1948 : BitVec 32 := Scalar.divsi v1947 c2_i32_1136
  let c1_i32_1142 : BitVec 32 := 1#32
  let v1963 : BitVec 32 := Scalar.subi v1948 c1_i32_1142
  let v1964 : BitVec 32 := Scalar.select v1962 v1963 v1948
  let v1965 : BitVec 32 := Scalar.subi v1964 c0_i32_1143
  let c1_i32_1145 : BitVec 32 := 1#32
  let v1967 : BitVec 32 := Scalar.divsi v1965 c1_i32_1145
  let v1968 : BitVec 32 := Scalar.muli v1967 c1_i32_1145
  let v1969 : BitVec 32 := Scalar.addi c0_i32_1143 v1968
  let c1_i32_1147 : BitVec 32 := 1#32
  let arg20 : BitVec 32 := Scf.iv v1969 c1_i32_1147 k0_t2
  let v1990 : BitVec 32 := Scalar.muli c2_i32_1162 arg20
  let v1991 : BitVec 32 := Scalar.subi v1989 v1990
  let v1992 : BitVec 32 := Scalar.subi v1991 c0_i32_1163
  let c128_i32_1164 : BitVec 32 := 128#32
  let v1993 : BitVec 32 := Scalar.muli v1992 c128_i32_1164
  let v1994 : BitVec 32 := v1993
  let v1995 : Index := Scalar.indexCast v1994
  let c0_1165 : Index := 0#32
  ![v1995.toNat, 0]
def k0_off6 (i : grid0.Coords) (k0_t2 : Fin (k0_t2_loop i).trips) (c0_i32_1163 : BitVec 32) : Fin 3 → Nat :=
  let arg1 : BitVec 32 := BitVec.ofNat 32 (i 1).val
  let c8_i32_1160 : BitVec 32 := 8#32
  let v1988 : BitVec 32 := Scalar.muli arg1 c8_i32_1160
  let c1_i32_1161 : BitVec 32 := 1#32
  let v1989 : BitVec 32 := Scalar.subi v1988 c1_i32_1161
  let c2_i32_1162 : BitVec 32 := 2#32
  let c0_i32_1143 : BitVec 32 := 0#32
  let c8_i32_1135 : BitVec 32 := 8#32
  let v1947 : BitVec 32 := Scalar.muli arg1 c8_i32_1135
  let c0_i32_1137 : BitVec 32 := 0#32
  let v1949 : BitVec 1 := Scalar.cmpi .sgt v1947 c0_i32_1137
  let v1950 : BitVec 32 := Scalar.extui v1949
  let c0_i32_1138 : BitVec 32 := 0#32
  let v1951 : BitVec 1 := Scalar.cmpi .slt v1947 c0_i32_1138
  let v1952 : BitVec 32 := Scalar.extui v1951
  let v1953 : BitVec 32 := Scalar.subi v1950 v1952
  let c2_i32_1136 : BitVec 32 := 2#32
  let c0_i32_1139 : BitVec 32 := 0#32
  let v1954 : BitVec 1 := Scalar.cmpi .sgt c2_i32_1136 c0_i32_1139
  let v1955 : BitVec 32 := Scalar.extui v1954
  let c0_i32_1140 : BitVec 32 := 0#32
  let v1956 : BitVec 1 := Scalar.cmpi .slt c2_i32_1136 c0_i32_1140
  let v1957 : BitVec 32 := Scalar.extui v1956
  let v1958 : BitVec 32 := Scalar.subi v1955 v1957
  let v1959 : BitVec 1 := Scalar.cmpi .ne v1953 v1958
  let v1960 : BitVec 32 := Scalar.remsi v1947 c2_i32_1136
  let c0_i32_1141 : BitVec 32 := 0#32
  let v1961 : BitVec 1 := Scalar.cmpi .ne v1960 c0_i32_1141
  let v1962 : BitVec 1 := Scalar.andi v1959 v1961
  let v1948 : BitVec 32 := Scalar.divsi v1947 c2_i32_1136
  let c1_i32_1142 : BitVec 32 := 1#32
  let v1963 : BitVec 32 := Scalar.subi v1948 c1_i32_1142
  let v1964 : BitVec 32 := Scalar.select v1962 v1963 v1948
  let v1965 : BitVec 32 := Scalar.subi v1964 c0_i32_1143
  let c1_i32_1145 : BitVec 32 := 1#32
  let v1967 : BitVec 32 := Scalar.divsi v1965 c1_i32_1145
  let v1968 : BitVec 32 := Scalar.muli v1967 c1_i32_1145
  let v1969 : BitVec 32 := Scalar.addi c0_i32_1143 v1968
  let c1_i32_1147 : BitVec 32 := 1#32
  let arg20 : BitVec 32 := Scf.iv v1969 c1_i32_1147 k0_t2
  let v1990 : BitVec 32 := Scalar.muli c2_i32_1162 arg20
  let v1991 : BitVec 32 := Scalar.subi v1989 v1990
  let v1992 : BitVec 32 := Scalar.subi v1991 c0_i32_1163
  let v2181 : Index := Scalar.indexCast v1992
  let c0_1281 : Index := 0#32
  let c0_1282 : Index := 0#32
  ![v2181.toNat, 0, 0]
def k0_mult12 (i : grid0.Coords) (k0_t2 : Fin (k0_t2_loop i).trips) : BitVec 32 :=
  let arg1 : BitVec 32 := BitVec.ofNat 32 (i 1).val
  let c8_i32_1289 : BitVec 32 := 8#32
  let v2197 : BitVec 32 := Scalar.muli arg1 c8_i32_1289
  let c1_i32_1290 : BitVec 32 := 1#32
  let v2198 : BitVec 32 := Scalar.subi v2197 c1_i32_1290
  let c2_i32_1291 : BitVec 32 := 2#32
  let c0_i32_1143 : BitVec 32 := 0#32
  let c8_i32_1135 : BitVec 32 := 8#32
  let v1947 : BitVec 32 := Scalar.muli arg1 c8_i32_1135
  let c0_i32_1137 : BitVec 32 := 0#32
  let v1949 : BitVec 1 := Scalar.cmpi .sgt v1947 c0_i32_1137
  let v1950 : BitVec 32 := Scalar.extui v1949
  let c0_i32_1138 : BitVec 32 := 0#32
  let v1951 : BitVec 1 := Scalar.cmpi .slt v1947 c0_i32_1138
  let v1952 : BitVec 32 := Scalar.extui v1951
  let v1953 : BitVec 32 := Scalar.subi v1950 v1952
  let c2_i32_1136 : BitVec 32 := 2#32
  let c0_i32_1139 : BitVec 32 := 0#32
  let v1954 : BitVec 1 := Scalar.cmpi .sgt c2_i32_1136 c0_i32_1139
  let v1955 : BitVec 32 := Scalar.extui v1954
  let c0_i32_1140 : BitVec 32 := 0#32
  let v1956 : BitVec 1 := Scalar.cmpi .slt c2_i32_1136 c0_i32_1140
  let v1957 : BitVec 32 := Scalar.extui v1956
  let v1958 : BitVec 32 := Scalar.subi v1955 v1957
  let v1959 : BitVec 1 := Scalar.cmpi .ne v1953 v1958
  let v1960 : BitVec 32 := Scalar.remsi v1947 c2_i32_1136
  let c0_i32_1141 : BitVec 32 := 0#32
  let v1961 : BitVec 1 := Scalar.cmpi .ne v1960 c0_i32_1141
  let v1962 : BitVec 1 := Scalar.andi v1959 v1961
  let v1948 : BitVec 32 := Scalar.divsi v1947 c2_i32_1136
  let c1_i32_1142 : BitVec 32 := 1#32
  let v1963 : BitVec 32 := Scalar.subi v1948 c1_i32_1142
  let v1964 : BitVec 32 := Scalar.select v1962 v1963 v1948
  let v1965 : BitVec 32 := Scalar.subi v1964 c0_i32_1143
  let c1_i32_1145 : BitVec 32 := 1#32
  let v1967 : BitVec 32 := Scalar.divsi v1965 c1_i32_1145
  let v1968 : BitVec 32 := Scalar.muli v1967 c1_i32_1145
  let v1969 : BitVec 32 := Scalar.addi c0_i32_1143 v1968
  let c1_i32_1147 : BitVec 32 := 1#32
  let arg20 : BitVec 32 := Scf.iv v1969 c1_i32_1147 k0_t2
  let v2199 : BitVec 32 := Scalar.muli c2_i32_1291 arg20
  let v2200 : BitVec 32 := Scalar.subi v2198 v2199
  let c1_i32_1292 : BitVec 32 := 1#32
  let v2201 : BitVec 32 := Scalar.subi v2200 c1_i32_1292
  let c128_i32_1293 : BitVec 32 := 128#32
  let v2202 : BitVec 32 := Scalar.muli v2201 c128_i32_1293
  v2202
def k0_cond2 (i : grid0.Coords) : BitVec 1 :=
  let arg1 : BitVec 32 := BitVec.ofNat 32 (i 1).val
  let c7_i32_1158 : BitVec 32 := 7#32
  let v1985 : BitVec 1 := Scalar.cmpi .eq arg1 c7_i32_1158
  let v1986 : BitVec 32 := Scalar.extui v1985
  let c0_i32_1159 : BitVec 32 := 0#32
  let v1987 : BitVec 1 := Scalar.cmpi .ne v1986 c0_i32_1159
  v1987

@[reducible] def k0_t3_loop : Scf.Loop 32 :=
  let c0_i32_1160 : BitVec 32 := 0#32
  let c64_i32_1161 : BitVec 32 := 64#32
  let v1988 : BitVec 32 := Scalar.addi c0_i32_1160 c64_i32_1161
  let c1_i32_1162 : BitVec 32 := 1#32
  ⟨c0_i32_1160, v1988, c1_i32_1162⟩
def k0_mult13 (k0_t3 : Fin k0_t3_loop.trips) : BitVec 32 :=
  let c0_i32_1160 : BitVec 32 := 0#32
  let c1_i32_1162 : BitVec 32 := 1#32
  let arg20 : BitVec 32 := Scf.iv c0_i32_1160 c1_i32_1162 k0_t3
  let c128_i32_1164 : BitVec 32 := 128#32
  let v1989 : BitVec 32 := Scalar.muli arg20 c128_i32_1164
  v1989
def k0_off7 (k0_t3 : Fin k0_t3_loop.trips) : Fin 3 → Nat :=
  let c0_i32_1160 : BitVec 32 := 0#32
  let c1_i32_1162 : BitVec 32 := 1#32
  let arg20 : BitVec 32 := Scf.iv c0_i32_1160 c1_i32_1162 k0_t3
  let v1991 : Index := Scalar.indexCast arg20
  let c0_1165 : Index := 0#32
  let c0_1166 : Index := 0#32
  ![v1991.toNat, 0, 0]
def k0_off8 (k0_t3 : Fin k0_t3_loop.trips) : Fin 2 → Nat :=
  let c0_i32_1160 : BitVec 32 := 0#32
  let c1_i32_1162 : BitVec 32 := 1#32
  let arg20 : BitVec 32 := Scf.iv c0_i32_1160 c1_i32_1162 k0_t3
  let c128_i32_1164 : BitVec 32 := 128#32
  let v1989 : BitVec 32 := Scalar.muli arg20 c128_i32_1164
  let v1990 : BitVec 32 := v1989
  let v1996 : Index := Scalar.indexCast v1990
  let c0_1167 : Index := 0#32
  ![v1996.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== SbBwdRefIdeal.lean ====
abbrev S8192x3072 : Shape := ⟨2, ![8192, 3072]⟩
abbrev S8192x1024 : Shape := ⟨2, ![8192, 1024]⟩
abbrev S8192x3x16x64 : Shape := ⟨4, ![8192, 3, 16, 64]⟩
abbrev S8192x1x16x64 : Shape := ⟨4, ![8192, 1, 16, 64]⟩
abbrev S8192x16x64 : Shape := ⟨3, ![8192, 16, 64]⟩
abbrev S16x8192x64 : Shape := ⟨3, ![16, 8192, 64]⟩
abbrev S16x8192x8192 : Shape := ⟨3, ![16, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S16x64x8192 : Shape := ⟨3, ![16, 64, 8192]⟩

abbrev nBuf : Space → Nat
  | .hbm => 194
  | .vmem => 0
  | .smem => 0
  | _ => 0

abbrev hbmTy0_0 (i : Nat) : BufTy := match i % 128 with
  | 0 => ⟨S8192x3072, .f32⟩
  | 1 => ⟨S8192x1024, .f32⟩
  | 2 => ⟨S8192x3x16x64, .f32⟩
  | 3 => ⟨S8192x1x16x64, .f32⟩
  | 4 => ⟨S8192x16x64, .f32⟩
  | 5 => ⟨S16x8192x64, .f32⟩
  | 6 => ⟨S8192x1x16x64, .f32⟩
  | 7 => ⟨S8192x16x64, .f32⟩
  | 8 => ⟨S16x8192x64, .f32⟩
  | 9 => ⟨S8192x1x16x64, .f32⟩
  | 10 => ⟨S8192x16x64, .f32⟩
  | 11 => ⟨S16x8192x64, .f32⟩
  | 12 => ⟨S16x8192x8192, .f32⟩
  | 13 => ⟨S_, .f32⟩
  | 14 => ⟨S16x8192x8192, .f32⟩
  | 15 => ⟨S16x8192x8192, .f32⟩
  | 16 => ⟨S8192, .i32⟩
  | 17 => ⟨S8192x1, .i32⟩
  | 18 => ⟨S8192, .i32⟩
  | 19 => ⟨S1x8192, .i32⟩
  | 20 => ⟨S8192x8192, .i32⟩
  | 21 => ⟨S8192x8192, .i32⟩
  | 22 => ⟨S8192x8192, .i1⟩
  | 23 => ⟨S16x8192x8192, .f32⟩
  | 24 => ⟨S16x8192x8192, .f32⟩
  | 25 => ⟨S_, .f32⟩
  | 26 => ⟨S16x8192x8192, .f32⟩
  | 27 => ⟨S16x8192x8192, .f32⟩
  | 28 => ⟨S16x8192x8192, .f32⟩
  | 29 => ⟨S16x8192x8192, .f32⟩
  | 30 => ⟨S16x8192x8192, .i1⟩
  | 31 => ⟨S16x8192x8192, .f32⟩
  | 32 => ⟨S16x8192x8192, .f32⟩
  | 33 => ⟨S16x8192x8192, .f32⟩
  | 34 => ⟨S16x8192x8192, .f32⟩
  | 35 => ⟨S16x8192x8192, .f32⟩
  | 36 => ⟨S16x8192x8192, .f32⟩
  | 37 => ⟨S16x8192x8192, .f32⟩
  | 38 => ⟨S16x8192x8192, .f32⟩
  | 39 => ⟨S_, .f32⟩
  | 40 => ⟨S16x8192x8192, .f32⟩
  | 41 => ⟨S16x8192x8192, .i1⟩
  | 42 => ⟨S_, .f32⟩
  | 43 => ⟨S16x8192x8192, .f32⟩
  | 44 => ⟨S16x8192x8192, .f32⟩
  | 45 => ⟨S_, .f32⟩
  | 46 => ⟨S16x8192x8192, .f32⟩
  | 47 => ⟨S16x8192x8192, .i1⟩
  | 48 => ⟨S_, .f32⟩
  | 49 => ⟨S16x8192x8192, .f32⟩
  | 50 => ⟨S16x8192x8192, .f32⟩
  | 51 => ⟨S16x8192x8192, .f32⟩
  | 52 => ⟨S16x8192x8192, .f32⟩
  | 53 => ⟨S_, .f32⟩
  | 54 => ⟨S_, .f32⟩
  | 55 => ⟨S_, .i1⟩
  | 56 => ⟨S_, .f32⟩
  | 57 => ⟨S_, .f32⟩
  | 58 => ⟨S_, .f32⟩
  | 59 => ⟨S_, .f32⟩
  | 60 => ⟨S16x8192x8192, .f32⟩
  | 61 => ⟨S16x8192x8192, .i1⟩
  | 62 => ⟨S_, .f32⟩
  | 63 => ⟨S16x8192x8192, .f32⟩
  | 64 => ⟨S16x8192x8192, .f32⟩
  | 65 => ⟨S16x8192x8192, .f32⟩
  | 66 => ⟨S16x8192x8192, .f32⟩
  | 67 => ⟨S16x8192x8192, .f32⟩
  | 68 => ⟨S_, .f32⟩
  | 69 => ⟨S16x8192x8192, .f32⟩
  | 70 => ⟨S16x8192x8192, .f32⟩
  | 71 => ⟨S16x8192x8192, .f32⟩
  | 72 => ⟨S_, .f32⟩
  | 73 => ⟨S_, .f32⟩
  | 74 => ⟨S16x8192x8192, .i1⟩
  | 75 => ⟨S16x8192x8192, .f32⟩
  | 76 => ⟨S16x8192x8192, .f32⟩
  | 77 => ⟨S_, .f32⟩
  | 78 => ⟨S16x8192x8192, .f32⟩
  | 79 => ⟨S_, .f32⟩
  | 80 => ⟨S_, .f32⟩
  | 81 => ⟨S16x8192x8192, .f32⟩
  | 82 => ⟨S16x8192x8192, .f32⟩
  | 83 => ⟨S16x8192x8192, .f32⟩
  | 84 => ⟨S_, .f32⟩
  | 85 => ⟨S16x8192x8192, .f32⟩
  | 86 => ⟨S16x8192x8192, .f32⟩
  | 87 => ⟨S16x8192x8192, .f32⟩
  | 88 => ⟨S16x8192x8192, .f32⟩
  | 89 => ⟨S16x8192x8192, .i1⟩
  | 90 => ⟨S16x8192x8192, .f32⟩
  | 91 => ⟨S16x8192x8192, .f32⟩
  | 92 => ⟨S16x8192x8192, .f32⟩
  | 93 => ⟨S16x8192x8192, .f32⟩
  | 94 => ⟨S16x8192x8192, .f32⟩
  | 95 => ⟨S16x8192x8192, .f32⟩
  | 96 => ⟨S16x8192x8192, .f32⟩
  | 97 => ⟨S16x8192x8192, .f32⟩
  | 98 => ⟨S_, .f32⟩
  | 99 => ⟨S16x8192x8192, .f32⟩
  | 100 => ⟨S16x8192x8192, .i1⟩
  | 101 => ⟨S_, .f32⟩
  | 102 => ⟨S16x8192x8192, .f32⟩
  | 103 => ⟨S16x8192x8192, .f32⟩
  | 104 => ⟨S_, .f32⟩
  | 105 => ⟨S16x8192x8192, .f32⟩
  | 106 => ⟨S16x8192x8192, .i1⟩
  | 107 => ⟨S_, .f32⟩
  | 108 => ⟨S16x8192x8192, .f32⟩
  | 109 => ⟨S16x8192x8192, .f32⟩
  | 110 => ⟨S16x8192x8192, .f32⟩
  | 111 => ⟨S16x8192x8192, .f32⟩
  | 112 => ⟨S_, .f32⟩
  | 113 => ⟨S_, .f32⟩
  | 114 => ⟨S_, .i1⟩
  | 115 => ⟨S_, .f32⟩
  | 116 => ⟨S_, .f32⟩
  | 117 => ⟨S_, .f32⟩
  | 118 => ⟨S_, .f32⟩
  | 119 => ⟨S16x8192x8192, .f32⟩
  | 120 => ⟨S16x8192x8192, .i1⟩
  | 121 => ⟨S_, .f32⟩
  | 122 => ⟨S16x8192x8192, .f32⟩
  | 123 => ⟨S16x8192x8192, .f32⟩
  | 124 => ⟨S16x8192x8192, .f32⟩
  | 125 => ⟨S16x8192x8192, .f32⟩
  | 126 => ⟨S16x8192x8192, .f32⟩
  | 127 => ⟨S_, .f32⟩
  | _ => ⟨S8192x3072, .f32⟩

abbrev hbmTy0_1 (i : Nat) : BufTy := match i % 128 with
  | 0 => ⟨S16x8192x8192, .f32⟩
  | 1 => ⟨S16x8192x8192, .f32⟩
  | 2 => ⟨S16x8192x8192, .f32⟩
  | 3 => ⟨S16x8192x8192, .f32⟩
  | 4 => ⟨S16x8192x8192, .f32⟩
  | 5 => ⟨S_, .f32⟩
  | 6 => ⟨S_, .f32⟩
  | 7 => ⟨S16x8192x8192, .i1⟩
  | 8 => ⟨S16x8192x8192, .f32⟩
  | 9 => ⟨S16x8192x8192, .f32⟩
  | 10 => ⟨S_, .f32⟩
  | 11 => ⟨S16x8192x8192, .f32⟩
  | 12 => ⟨S16x8192x64, .f32⟩
  | 13 => ⟨S8192x16x64, .f32⟩
  | 14 => ⟨S8192x1024, .f32⟩
  | 15 => ⟨S8192x16x64, .f32⟩
  | 16 => ⟨S16x8192x64, .f32⟩
  | 17 => ⟨S16x64x8192, .f32⟩
  | 18 => ⟨S16x8192x64, .f32⟩
  | 19 => ⟨S16x8192x8192, .f32⟩
  | 20 => ⟨S_, .f32⟩
  | 21 => ⟨S16x8192x8192, .f32⟩
  | 22 => ⟨S16x8192x8192, .f32⟩
  | 23 => ⟨S16x8192x8192, .f32⟩
  | 24 => ⟨S16x8192x8192, .f32⟩
  | 25 => ⟨S16x8192x8192, .f32⟩
  | 26 => ⟨S16x8192x8192, .f32⟩
  | 27 => ⟨S16x8192x8192, .f32⟩
  | 28 => ⟨S_, .f32⟩
  | 29 => ⟨S_, .f32⟩
  | 30 => ⟨S16x8192x8192, .f32⟩
  | 31 => ⟨S16x8192x8192, .f32⟩
  | 32 => ⟨S_, .f32⟩
  | 33 => ⟨S16x8192x8192, .f32⟩
  | 34 => ⟨S16x8192x8192, .f32⟩
  | 35 => ⟨S16x8192x8192, .f32⟩
  | 36 => ⟨S16x8192x8192, .f32⟩
  | 37 => ⟨S16x8192x8192, .f32⟩
  | 38 => ⟨S16x8192x8192, .f32⟩
  | 39 => ⟨S16x8192x8192, .f32⟩
  | 40 => ⟨S_, .f32⟩
  | 41 => ⟨S16x8192x8192, .f32⟩
  | 42 => ⟨S16x8192x8192, .f32⟩
  | 43 => ⟨S16x8192x64, .f32⟩
  | 44 => ⟨S16x8192x64, .f32⟩
  | 45 => ⟨S8192x16x64, .f32⟩
  | 46 => ⟨S8192x1x16x64, .f32⟩
  | 47 => ⟨S_, .f32⟩
  | 48 => ⟨S8192x3x16x64, .f32⟩
  | 49 => ⟨S8192x16x64, .f32⟩
  | 50 => ⟨S8192x1x16x64, .f32⟩
  | 51 => ⟨S_, .f32⟩
  | 52 => ⟨S8192x3x16x64, .f32⟩
  | 53 => ⟨S8192x3x16x64, .f32⟩
  | 54 => ⟨S8192x16x64, .f32⟩
  | 55 => ⟨S8192x1x16x64, .f32⟩
  | 56 => ⟨S_, .f32⟩
  | 57 => ⟨S8192x3x16x64, .f32⟩
  | 58 => ⟨S8192x3x16x64, .f32⟩
  | 59 => ⟨S8192x3072, .f32⟩
  | 60 => ⟨S8192x1024, .f32⟩
  | 61 => ⟨S8192x1024, .bf16⟩
  | 62 => ⟨S8192x1024, .f32⟩
  | 63 => ⟨S8192x1024, .bf16⟩
  | 64 => ⟨S8192x1024, .f32⟩
  | 65 => ⟨S8192x1024, .bf16⟩
  | _ => ⟨S8192x3072, .f32⟩

abbrev hbmTy (i : Nat) : BufTy := match i / 128 with
  | 0 => hbmTy0_0 i
  | 1 => hbmTy0_1 i
  | _ => ⟨S8192x3072, .f32⟩

abbrev bufTy : (tb : Table) → Fin (tcTables nBuf tb) → BufTy
  | .hbm, ⟨i, _⟩ => hbmTy i
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1_0 : Ref sig .tc := ⟨.hbm, 38, rfl⟩
abbrev main_call0_call0_cst_0 : Ref sig .tc := ⟨.hbm, 39, rfl⟩
abbrev main_call0_call0_v13 : Ref sig .tc := ⟨.hbm, 40, rfl⟩
abbrev main_call0_call0_v14 : Ref sig .tc := ⟨.hbm, 41, rfl⟩
abbrev main_call0_call0_cst_1 : Ref sig .tc := ⟨.hbm, 42, rfl⟩
abbrev main_call0_call0_v15 : Ref sig .tc := ⟨.hbm, 43, rfl⟩
abbrev main_call0_call0_v16 : Ref sig .tc := ⟨.hbm, 44, rfl⟩
abbrev main_call0_call0_cst_2 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_cst_3 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_v21 : Ref sig .tc := ⟨.hbm, 51, rfl⟩
abbrev main_v21_1 : Ref sig .tc := ⟨.hbm, 52, rfl⟩
abbrev main_call0_call0_cst_4 : Ref sig .tc := ⟨.hbm, 53, rfl⟩
abbrev main_call0_call0_cst_5 : Ref sig .tc := ⟨.hbm, 54, rfl⟩
abbrev main_call0_call0_v23 : Ref sig .tc := ⟨.hbm, 55, rfl⟩
abbrev main_call0_call0_cst_6 : Ref sig .tc := ⟨.hbm, 56, rfl⟩
abbrev main_call0_call0_cst_7 : Ref sig .tc := ⟨.hbm, 57, rfl⟩
abbrev main_call0_call0_v24 : Ref sig .tc := ⟨.hbm, 58, rfl⟩
abbrev main_call0_call0_cst_8 : Ref sig .tc := ⟨.hbm, 59, rfl⟩
abbrev main_call0_call0_v25 : Ref sig .tc := ⟨.hbm, 60, rfl⟩
abbrev main_call0_call0_v26 : Ref sig .tc := ⟨.hbm, 61, rfl⟩
abbrev main_call0_call0_cst_9 : Ref sig .tc := ⟨.hbm, 62, rfl⟩
abbrev main_call0_call0_v27 : Ref sig .tc := ⟨.hbm, 63, rfl⟩
abbrev main_call0_call0_v28 : Ref sig .tc := ⟨.hbm, 64, rfl⟩
abbrev main_call0_call0_v29 : Ref sig .tc := ⟨.hbm, 65, rfl⟩
abbrev main_call0_call0_v30 : Ref sig .tc := ⟨.hbm, 66, rfl⟩
abbrev main_call0_call0_v31 : Ref sig .tc := ⟨.hbm, 67, rfl⟩
abbrev main_call0_call0_cst_10 : Ref sig .tc := ⟨.hbm, 68, rfl⟩
abbrev main_call0_call0_v32 : Ref sig .tc := ⟨.hbm, 69, rfl⟩
abbrev main_v21_2 : Ref sig .tc := ⟨.hbm, 70, rfl⟩
abbrev main_v21_0 : Ref sig .tc := ⟨.hbm, 71, rfl⟩
abbrev main_cst_0 : Ref sig .tc := ⟨.hbm, 72, rfl⟩
abbrev main_call1_v0 : Ref sig .tc := ⟨.hbm, 73, rfl⟩
abbrev main_v22_1 : Ref sig .tc := ⟨.hbm, 74, rfl⟩
abbrev main_call1_v2 : Ref sig .tc := ⟨.hbm, 75, rfl⟩
abbrev main_v22_0 : Ref sig .tc := ⟨.hbm, 76, rfl⟩
abbrev main_call1_cst : Ref sig .tc := ⟨.hbm, 77, rfl⟩
abbrev main_v22_2 : Ref sig .tc := ⟨.hbm, 78, rfl⟩
abbrev main_call2_cst : Ref sig .tc := ⟨.hbm, 79, rfl⟩
abbrev main_call2_v0 : Ref sig .tc := ⟨.hbm, 80, rfl⟩
abbrev main_v23 : Ref sig .tc := ⟨.hbm, 81, rfl⟩
abbrev main_v24 : Ref sig .tc := ⟨.hbm, 82, rfl⟩
abbrev main_call3_v0 : Ref sig .tc := ⟨.hbm, 83, rfl⟩
abbrev main_call3_call0_cst : Ref sig .tc := ⟨.hbm, 84, rfl⟩
abbrev main_call3_call0_v0 : Ref sig .tc := ⟨.hbm, 85, rfl⟩
abbrev main_call3_call0_v1 : Ref sig .tc := ⟨.hbm, 86, rfl⟩
abbrev main_call3_call0_v2 : Ref sig .tc := ⟨.hbm, 87, rfl⟩
abbrev main_call3_call0_v3 : Ref sig .tc := ⟨.hbm, 88, rfl⟩
abbrev main_call3_call0_v4 : Ref sig .tc := ⟨.hbm, 89, rfl⟩
abbrev main_call3_call0_v5 : Ref sig .tc := ⟨.hbm, 90, rfl⟩
abbrev main_call3_call0_v6 : Ref sig .tc := ⟨.hbm, 91, rfl⟩
abbrev main_call3_call0_v7 : Ref sig .tc := ⟨.hbm, 92, rfl⟩
abbrev main_call3_call0_v8 : Ref sig .tc := ⟨.hbm, 93, rfl⟩
abbrev main_call3_call0_v9 : Ref sig .tc := ⟨.hbm, 94, rfl⟩
abbrev main_call3_call0_v10 : Ref sig .tc := ⟨.hbm, 95, rfl⟩
abbrev main_call3_call0_v11 : Ref sig .tc := ⟨.hbm, 96, rfl⟩
abbrev main_call3_v1_0 : Ref sig .tc := ⟨.hbm, 97, rfl⟩
abbrev main_call3_call0_cst_0 : Ref sig .tc := ⟨.hbm, 98, rfl⟩
abbrev main_call3_call0_v13 : Ref sig .tc := ⟨.hbm, 99, rfl⟩
abbrev main_call3_call0_v14 : Ref sig .tc := ⟨.hbm, 100, rfl⟩
abbrev main_call3_call0_cst_1 : Ref sig .tc := ⟨.hbm, 101, rfl⟩
abbrev main_call3_call0_v15 : Ref sig .tc := ⟨.hbm, 102, rfl⟩
abbrev main_call3_call0_v16 : Ref sig .tc := ⟨.hbm, 103, rfl⟩
abbrev main_call3_call0_cst_2 : Ref sig .tc := ⟨.hbm, 104, rfl⟩
abbrev main_call3_call0_v17 : Ref sig .tc := ⟨.hbm, 105, rfl⟩
abbrev main_call3_call0_v18 : Ref sig .tc := ⟨.hbm, 106, rfl⟩
abbrev main_call3_call0_cst_3 : Ref sig .tc := ⟨.hbm, 107, rfl⟩
abbrev main_call3_call0_v19 : Ref sig .tc := ⟨.hbm, 108, rfl⟩
abbrev main_call3_call0_v20 : Ref sig .tc := ⟨.hbm, 109, rfl⟩
abbrev main_call3_call0_v21 : Ref sig .tc := ⟨.hbm, 110, rfl⟩
abbrev main_v25_1 : Ref sig .tc := ⟨.hbm, 111, rfl⟩
abbrev main_call3_call0_cst_4 : Ref sig .tc := ⟨.hbm, 112, rfl⟩
abbrev main_call3_call0_cst_5 : Ref sig .tc := ⟨.hbm, 113, rfl⟩
abbrev main_call3_call0_v23 : Ref sig .tc := ⟨.hbm, 114, rfl⟩
abbrev main_call3_call0_cst_6 : Ref sig .tc := ⟨.hbm, 115, rfl⟩
abbrev main_call3_call0_cst_7 : Ref sig .tc := ⟨.hbm, 116, rfl⟩
abbrev main_call3_call0_v24 : Ref sig .tc := ⟨.hbm, 117, rfl⟩
abbrev main_call3_call0_cst_8 : Ref sig .tc := ⟨.hbm, 118, rfl⟩
abbrev main_call3_call0_v25 : Ref sig .tc := ⟨.hbm, 119, rfl⟩
abbrev main_call3_call0_v26 : Ref sig .tc := ⟨.hbm, 120, rfl⟩
abbrev main_call3_call0_cst_9 : Ref sig .tc := ⟨.hbm, 121, rfl⟩
abbrev main_call3_call0_v27 : Ref sig .tc := ⟨.hbm, 122, rfl⟩
abbrev main_call3_call0_v28 : Ref sig .tc := ⟨.hbm, 123, rfl⟩
abbrev main_call3_call0_v29 : Ref sig .tc := ⟨.hbm, 124, rfl⟩
abbrev main_call3_call0_v30 : Ref sig .tc := ⟨.hbm, 125, rfl⟩
abbrev main_call3_call0_v31 : Ref sig .tc := ⟨.hbm, 126, rfl⟩
abbrev main_call3_call0_cst_10 : Ref sig .tc := ⟨.hbm, 127, rfl⟩
abbrev main_call3_call0_v32 : Ref sig .tc := ⟨.hbm, 128, rfl⟩
abbrev main_v25_2 : Ref sig .tc := ⟨.hbm, 129, rfl⟩
abbrev main_v25_0 : Ref sig .tc := ⟨.hbm, 130, rfl⟩
abbrev main_v26 : Ref sig .tc := ⟨.hbm, 131, rfl⟩
abbrev main_v27 : Ref sig .tc := ⟨.hbm, 132, rfl⟩
abbrev main_cst_1 : Ref sig .tc := ⟨.hbm, 133, rfl⟩
abbrev main_call4_v0 : Ref sig .tc := ⟨.hbm, 134, rfl⟩
abbrev main_v28_1 : Ref sig .tc := ⟨.hbm, 135, rfl⟩
abbrev main_call4_v2 : Ref sig .tc := ⟨.hbm, 136, rfl⟩
abbrev main_v28_0 : Ref sig .tc := ⟨.hbm, 137, rfl⟩
abbrev main_call4_cst : Ref sig .tc := ⟨.hbm, 138, rfl⟩
abbrev main_v28_2 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_call5_cst : Ref sig .tc := ⟨.hbm, 148, rfl⟩
abbrev main_call5_v0 : Ref sig .tc := ⟨.hbm, 149, rfl⟩
abbrev main_v37 : Ref sig .tc := ⟨.hbm, 150, rfl⟩
abbrev main_v38 : Ref sig .tc := ⟨.hbm, 151, rfl⟩
abbrev main_call6_v0 : Ref sig .tc := ⟨.hbm, 152, rfl⟩
abbrev main_call6_v1 : Ref sig .tc := ⟨.hbm, 153, rfl⟩
abbrev main_v39 : Ref sig .tc := ⟨.hbm, 154, rfl⟩
abbrev main_v40 : Ref sig .tc := ⟨.hbm, 155, rfl⟩
abbrev main_call7_cst : Ref sig .tc := ⟨.hbm, 156, rfl⟩
abbrev main_call7_v0 : Ref sig .tc := ⟨.hbm, 157, rfl⟩
abbrev main_v41 : Ref sig .tc := ⟨.hbm, 158, rfl⟩
abbrev main_v42 : Ref sig .tc := ⟨.hbm, 159, rfl⟩
abbrev main_call8_cst : Ref sig .tc := ⟨.hbm, 160, rfl⟩
abbrev main_call8_v0 : Ref sig .tc := ⟨.hbm, 161, rfl⟩
abbrev main_v43 : Ref sig .tc := ⟨.hbm, 162, rfl⟩
abbrev main_call9_v0 : Ref sig .tc := ⟨.hbm, 163, rfl⟩
abbrev main_call9_v1 : Ref sig .tc := ⟨.hbm, 164, rfl⟩
abbrev main_v44 : Ref sig .tc := ⟨.hbm, 165, rfl⟩
abbrev main_v45 : Ref sig .tc := ⟨.hbm, 166, rfl⟩
abbrev main_v46 : Ref sig .tc := ⟨.hbm, 167, rfl⟩
abbrev main_cst_2 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_cst_3 : Ref sig .tc := ⟨.hbm, 175, rfl⟩
abbrev main_v53 : Ref sig .tc := ⟨.hbm, 176, rfl⟩
abbrev main_v54 : Ref sig .tc := ⟨.hbm, 177, rfl⟩
abbrev main_v55 : Ref sig .tc := ⟨.hbm, 178, rfl⟩
abbrev main_cst_4 : Ref sig .tc := ⟨.hbm, 179, rfl⟩
abbrev main_v56 : Ref sig .tc := ⟨.hbm, 180, rfl⟩
abbrev main_v57 : Ref sig .tc := ⟨.hbm, 181, rfl⟩
abbrev main_v58 : Ref sig .tc := ⟨.hbm, 182, rfl⟩
abbrev main_v59 : Ref sig .tc := ⟨.hbm, 183, rfl⟩
abbrev main_cst_5 : Ref sig .tc := ⟨.hbm, 184, rfl⟩
abbrev main_v60 : Ref sig .tc := ⟨.hbm, 185, rfl⟩
abbrev main_v61 : Ref sig .tc := ⟨.hbm, 186, rfl⟩
abbrev main_v62 : Ref sig .tc := ⟨.hbm, 187, rfl⟩
abbrev main_v63 : Ref sig .tc := ⟨.hbm, 188, rfl⟩
abbrev main_v64 : Ref sig .tc := ⟨.hbm, 189, rfl⟩
abbrev main_v65 : Ref sig .tc := ⟨.hbm, 190, rfl⟩
abbrev main_v66 : Ref sig .tc := ⟨.hbm, 191, rfl⟩
abbrev main_v67 : Ref sig .tc := ⟨.hbm, 192, rfl⟩
abbrev main_v68 : Ref sig .tc := ⟨.hbm, 193, rfl⟩

abbrev nD : Nat := 1
abbrev τ : Topo := Topo.v7x

variable {F : FTy → Type} [FloatOps F]
-- ==== AdQkv.lean ====
abbrev S2x1024x384 : Shape := ⟨3, ![2, 1024, 384]⟩
abbrev S2048x384 : Shape := ⟨2, ![2048, 384]⟩
abbrev S512x384 : Shape := ⟨2, ![512, 384]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x384, .f32⟩
  | .hbm, ⟨1, _⟩ => ⟨S2x1024x384, .f32⟩
  | .hbm, ⟨2, _⟩ => ⟨S2x1024x384, .f32⟩
  | .hbm, ⟨3, _⟩ => ⟨S2x1024x384, .f32⟩
  | .hbm, ⟨4, _⟩ => ⟨S2048x384, .f32⟩
  | .hbm, ⟨5, _⟩ => ⟨S2048x384, .f32⟩
  | .hbm, ⟨6, _⟩ => ⟨S2048x384, .f32⟩
  | .hbm, ⟨7, _⟩ => ⟨S2048x384, .f32⟩
  | .hbm, ⟨8, _⟩ => ⟨S2048x384, .f32⟩
  | .hbm, ⟨9, _⟩ => ⟨S2048x384, .f32⟩
  | .hbm, ⟨10, _⟩ => ⟨S2048x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | _, _ => ⟨S2x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdQkvIdeal.lean ====
abbrev S2x1024x384 : Shape := ⟨3, ![2, 1024, 384]⟩
abbrev S2048x384 : Shape := ⟨2, ![2048, 384]⟩
abbrev S512x384 : Shape := ⟨2, ![512, 384]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x384, .f32⟩
  | .hbm, ⟨1, _⟩ => ⟨S2x1024x384, .f32⟩
  | .hbm, ⟨2, _⟩ => ⟨S2x1024x384, .f32⟩
  | .hbm, ⟨3, _⟩ => ⟨S2x1024x384, .f32⟩
  | .hbm, ⟨4, _⟩ => ⟨S2048x384, .f32⟩
  | .hbm, ⟨5, _⟩ => ⟨S2048x384, .f32⟩
  | .hbm, ⟨6, _⟩ => ⟨S2048x384, .f32⟩
  | .hbm, ⟨7, _⟩ => ⟨S2048x384, .f32⟩
  | .hbm, ⟨8, _⟩ => ⟨S2048x384, .f32⟩
  | .hbm, ⟨9, _⟩ => ⟨S2048x384, .f32⟩
  | .hbm, ⟨10, _⟩ => ⟨S2048x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | _, _ => ⟨S2x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdQkvRefIdeal.lean ====
abbrev S2x1024x384 : Shape := ⟨3, ![2, 1024, 384]⟩
abbrev S_ : Shape := ⟨0, ![]⟩
abbrev S2048x384 : Shape := ⟨2, ![2048, 384]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x384, .f32⟩
  | .hbm, ⟨1, _⟩ => ⟨S2x1024x384, .f32⟩
  | .hbm, ⟨2, _⟩ => ⟨S2x1024x384, .f32⟩
  | .hbm, ⟨3, _⟩ => ⟨S2x1024x384, .f32⟩
  | .hbm, ⟨4, _⟩ => ⟨S_, .f32⟩
  | .hbm, ⟨5, _⟩ => ⟨S2x1024x384, .f32⟩
  | .hbm, ⟨6, _⟩ => ⟨S2x1024x384, .f32⟩
  | .hbm, ⟨7, _⟩ => ⟨S_, .f32⟩
  | .hbm, ⟨8, _⟩ => ⟨S2x1024x384, .f32⟩
  | .hbm, ⟨9, _⟩ => ⟨S2x1024x384, .f32⟩
  | .hbm, ⟨10, _⟩ => ⟨S2x1024x384, .f32⟩
  | .hbm, ⟨11, _⟩ => ⟨S_, .f32⟩
  | .hbm, ⟨12, _⟩ => ⟨S2x1024x384, .f32⟩
  | .hbm, ⟨13, _⟩ => ⟨S2x1024x384, .f32⟩
  | .hbm, ⟨14, _⟩ => ⟨S2x1024x384, .f32⟩
  | .hbm, ⟨15, _⟩ => ⟨S_, .f32⟩
  | .hbm, ⟨16, _⟩ => ⟨S2x1024x384, .f32⟩
  | .hbm, ⟨17, _⟩ => ⟨S2x1024x384, .f32⟩
  | .hbm, ⟨18, _⟩ => ⟨S2x1024x384, .f32⟩
  | .hbm, ⟨19, _⟩ => ⟨S_, .f32⟩
  | .hbm, ⟨20, _⟩ => ⟨S2x1024x384, .f32⟩
  | .hbm, ⟨21, _⟩ => ⟨S2x1024x384, .f32⟩
  | .hbm, ⟨22, _⟩ => ⟨S_, .f32⟩
  | .hbm, ⟨23, _⟩ => ⟨S2x1024x384, .f32⟩
  | .hbm, ⟨24, _⟩ => ⟨S2x1024x384, .f32⟩
  | .hbm, ⟨25, _⟩ => ⟨S2x1024x384, .f32⟩
  | .hbm, ⟨26, _⟩ => ⟨S_, .f32⟩
  | .hbm, ⟨27, _⟩ => ⟨S2x1024x384, .f32⟩
  | .hbm, ⟨28, _⟩ => ⟨S2x1024x384, .f32⟩
  | .hbm, ⟨29, _⟩ => ⟨S2x1024x384, .f32⟩
  | .hbm, ⟨30, _⟩ => ⟨S_, .f32⟩
  | .hbm, ⟨31, _⟩ => ⟨S2x1024x384, .f32⟩
  | .hbm, ⟨32, _⟩ => ⟨S2x1024x384, .f32⟩
  | .hbm, ⟨33, _⟩ => ⟨S2x1024x384, .f32⟩
  | .hbm, ⟨34, _⟩ => ⟨S_, .f32⟩
  | .hbm, ⟨35, _⟩ => ⟨S2x1024x384, .f32⟩
  | .hbm, ⟨36, _⟩ => ⟨S2x1024x384, .f32⟩
  | .hbm, ⟨37, _⟩ => ⟨S2048x384, .f32⟩
  | .hbm, ⟨38, _⟩ => ⟨S2048x384, .f32⟩
  | .hbm, ⟨39, _⟩ => ⟨S2048x384, .f32⟩
  | _, _ => ⟨S2x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdOut.lean ====
abbrev S2x128x1024 : Shape := ⟨3, ![2, 128, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdOutIdeal.lean ====
abbrev S2x128x1024 : Shape := ⟨3, ![2, 128, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdOutRefIdeal.lean ====
abbrev S2x128x1024 : Shape := ⟨3, ![2, 128, 1024]⟩
abbrev S_ : Shape := ⟨0, ![]⟩
abbrev S256x1024 : Shape := ⟨2, ![256, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S_, .f32⟩
  | .hbm, ⟨5, _⟩ => ⟨S2x128x1024, .f32⟩
  | .hbm, ⟨6, _⟩ => ⟨S2x128x1024, .f32⟩
  | .hbm, ⟨7, _⟩ => ⟨S_, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S_, .f32⟩
  | .hbm, ⟨12, _⟩ => ⟨S2x128x1024, .f32⟩
  | .hbm, ⟨13, _⟩ => ⟨S2x128x1024, .f32⟩
  | .hbm, ⟨14, _⟩ => ⟨S2x128x1024, .f32⟩
  | .hbm, ⟨15, _⟩ => ⟨S_, .f32⟩
  | .hbm, ⟨16, _⟩ => ⟨S2x128x1024, .f32⟩
  | .hbm, ⟨17, _⟩ => ⟨S2x128x1024, .f32⟩
  | .hbm, ⟨18, _⟩ => ⟨S2x128x1024, .f32⟩
  | .hbm, ⟨19, _⟩ => ⟨S_, .f32⟩
  | .hbm, ⟨20, _⟩ => ⟨S2x128x1024, .f32⟩
  | .hbm, ⟨21, _⟩ => ⟨S2x128x1024, .f32⟩
  | .hbm, ⟨22, _⟩ => ⟨S_, .f32⟩
  | .hbm, ⟨23, _⟩ => ⟨S2x128x1024, .f32⟩
  | .hbm, ⟨24, _⟩ => ⟨S2x128x1024, .f32⟩
  | .hbm, ⟨25, _⟩ => ⟨S2x128x1024, .f32⟩
  | .hbm, ⟨26, _⟩ => ⟨S_, .f32⟩
  | .hbm, ⟨27, _⟩ => ⟨S2x128x1024, .f32⟩
  | .hbm, ⟨28, _⟩ => ⟨S2x128x1024, .f32⟩
  | .hbm, ⟨29, _⟩ => ⟨S2x128x1024, .f32⟩
  | .hbm, ⟨30, _⟩ => ⟨S_, .f32⟩
  | .hbm, ⟨31, _⟩ => ⟨S2x128x1024, .f32⟩
  | .hbm, ⟨32, _⟩ => ⟨S2x128x1024, .f32⟩
  | .hbm, ⟨33, _⟩ => ⟨S2x128x1024, .f32⟩
  | .hbm, ⟨34, _⟩ => ⟨S_, .f32⟩
  | .hbm, ⟨35, _⟩ => ⟨S2x128x1024, .f32⟩
  | .hbm, ⟨36, _⟩ => ⟨S2x128x1024, .f32⟩
  | .hbm, ⟨37, _⟩ => ⟨S256x1024, .f32⟩
  | .hbm, ⟨38, _⟩ => ⟨S256x1024, .f32⟩
  | .hbm, ⟨39, _⟩ => ⟨S256x1024, .f32⟩
  | _, _ => ⟨S2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdA1.lean ====
abbrev S2x128x16 : Shape := ⟨3, ![2, 128, 16]⟩
abbrev S256x16 : Shape := ⟨2, ![256, 16]⟩

abbrev nBuf : Space → Nat
  | .hbm => 11
  | .vmem => 7
  | .smem => 0
  | _ => 0

abbrev bufTy : (tb : Table) → Fin (tcTables nBuf tb) → BufTy
  | .hbm, ⟨0, _⟩ => ⟨S2x128x16, .f32⟩
  | .hbm, ⟨1, _⟩ => ⟨S2x128x16, .f32⟩
  | .hbm, ⟨2, _⟩ => ⟨S2x128x16, .f32⟩
  | .hbm, ⟨3, _⟩ => ⟨S2x128x16, .f32⟩
  | .hbm, ⟨4, _⟩ => ⟨S256x16, .f32⟩
  | .hbm, ⟨5, _⟩ => ⟨S256x16, .f32⟩
  | .hbm, ⟨6, _⟩ => ⟨S256x16, .f32⟩
  | .hbm, ⟨7, _⟩ => ⟨S256x16, .f32⟩
  | .hbm, ⟨8, _⟩ => ⟨S256x16, .f32⟩
  | .hbm, ⟨9, _⟩ => ⟨S256x16, .f32⟩
  | .hbm, ⟨10, _⟩ => ⟨S256x16, .f32⟩
  | .local _ .vmem, ⟨0, _⟩ => ⟨S256x16, .f32⟩
  | .local _ .vmem, ⟨1, _⟩ => ⟨S256x16, .f32⟩
  | .local _ .vmem, ⟨2, _⟩ => ⟨S256x16, .f32⟩
  | .local _ .vmem, ⟨3, _⟩ => ⟨S256x16, .f32⟩
  | .local _ .vmem, ⟨4, _⟩ => ⟨S256x16, .f32⟩
  | .local _ .vmem, ⟨5, _⟩ => ⟨S256x16, .f32⟩
  | .local _ .vmem, ⟨6, _⟩ => ⟨S256x16, .f32⟩
  | _, _ => ⟨S2x128x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdA1Ideal.lean ====
abbrev S2x128x16 : Shape := ⟨3, ![2, 128, 16]⟩
abbrev S256x16 : Shape := ⟨2, ![256, 16]⟩

abbrev nBuf : Space → Nat
  | .hbm => 11
  | .vmem => 7
  | .smem => 0
  | _ => 0

abbrev bufTy : (tb : Table) → Fin (tcTables nBuf tb) → BufTy
  | .hbm, ⟨0, _⟩ => ⟨S2x128x16, .f32⟩
  | .hbm, ⟨1, _⟩ => ⟨S2x128x16, .f32⟩
  | .hbm, ⟨2, _⟩ => ⟨S2x128x16, .f32⟩
  | .hbm, ⟨3, _⟩ => ⟨S2x128x16, .f32⟩
  | .hbm, ⟨4, _⟩ => ⟨S256x16, .f32⟩
  | .hbm, ⟨5, _⟩ => ⟨S256x16, .f32⟩
  | .hbm, ⟨6, _⟩ => ⟨S256x16, .f32⟩
  | .hbm, ⟨7, _⟩ => ⟨S256x16, .f32⟩
  | .hbm, ⟨8, _⟩ => ⟨S256x16, .f32⟩
  | .hbm, ⟨9, _⟩ => ⟨S256x16, .f32⟩
  | .hbm, ⟨10, _⟩ => ⟨S256x16, .f32⟩
  | .local _ .vmem, ⟨0, _⟩ => ⟨S256x16, .f32⟩
  | .local _ .vmem, ⟨1, _⟩ => ⟨S256x16, .f32⟩
  | .local _ .vmem, ⟨2, _⟩ => ⟨S256x16, .f32⟩
  | .local _ .vmem, ⟨3, _⟩ => ⟨S256x16, .f32⟩
  | .local _ .vmem, ⟨4, _⟩ => ⟨S256x16, .f32⟩
  | .local _ .vmem, ⟨5, _⟩ => ⟨S256x16, .f32⟩
  | .local _ .vmem, ⟨6, _⟩ => ⟨S256x16, .f32⟩
  | _, _ => ⟨S2x128x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdA1RefIdeal.lean ====
abbrev S2x128x16 : Shape := ⟨3, ![2, 128, 16]⟩
abbrev S_ : Shape := ⟨0, ![]⟩
abbrev S256x16 : Shape := ⟨2, ![256, 16]⟩

abbrev nBuf : Space → Nat
  | .hbm => 40
  | .vmem => 0
  | .smem => 0
  | _ => 0

abbrev bufTy : (tb : Table) → Fin (tcTables nBuf tb) → BufTy
  | .hbm, ⟨0, _⟩ => ⟨S2x128x16, .f32⟩
  | .hbm, ⟨1, _⟩ => ⟨S2x128x16, .f32⟩
  | .hbm, ⟨2, _⟩ => ⟨S2x128x16, .f32⟩
  | .hbm, ⟨3, _⟩ => ⟨S2x128x16, .f32⟩
  | .hbm, ⟨4, _⟩ => ⟨S_, .f32⟩
  | .hbm, ⟨5, _⟩ => ⟨S2x128x16, .f32⟩
  | .hbm, ⟨6, _⟩ => ⟨S2x128x16, .f32⟩
  | .hbm, ⟨7, _⟩ => ⟨S_, .f32⟩
  | .hbm, ⟨8, _⟩ => ⟨S2x128x16, .f32⟩
  | .hbm, ⟨9, _⟩ => ⟨S2x128x16, .f32⟩
  | .hbm, ⟨10, _⟩ => ⟨S2x128x16, .f32⟩
  | .hbm, ⟨11, _⟩ => ⟨S_, .f32⟩
  | .hbm, ⟨12, _⟩ => ⟨S2x128x16, .f32⟩
  | .hbm, ⟨13, _⟩ => ⟨S2x128x16, .f32⟩
  | .hbm, ⟨14, _⟩ => ⟨S2x128x16, .f32⟩
  | .hbm, ⟨15, _⟩ => ⟨S_, .f32⟩
  | .hbm, ⟨16, _⟩ => ⟨S2x128x16, .f32⟩
  | .hbm, ⟨17, _⟩ => ⟨S2x128x16, .f32⟩
  | .hbm, ⟨18, _⟩ => ⟨S2x128x16, .f32⟩
  | .hbm, ⟨19, _⟩ => ⟨S_, .f32⟩
  | .hbm, ⟨20, _⟩ => ⟨S2x128x16, .f32⟩
  | .hbm, ⟨21, _⟩ => ⟨S2x128x16, .f32⟩
  | .hbm, ⟨22, _⟩ => ⟨S_, .f32⟩
  | .hbm, ⟨23, _⟩ => ⟨S2x128x16, .f32⟩
  | .hbm, ⟨24, _⟩ => ⟨S2x128x16, .f32⟩
  | .hbm, ⟨25, _⟩ => ⟨S2x128x16, .f32⟩
  | .hbm, ⟨26, _⟩ => ⟨S_, .f32⟩
  | .hbm, ⟨27, _⟩ => ⟨S2x128x16, .f32⟩
  | .hbm, ⟨28, _⟩ => ⟨S2x128x16, .f32⟩
  | .hbm, ⟨29, _⟩ => ⟨S2x128x16, .f32⟩
  | .hbm, ⟨30, _⟩ => ⟨S_, .f32⟩
  | .hbm, ⟨31, _⟩ => ⟨S2x128x16, .f32⟩
  | .hbm, ⟨32, _⟩ => ⟨S2x128x16, .f32⟩
  | .hbm, ⟨33, _⟩ => ⟨S2x128x16, .f32⟩
  | .hbm, ⟨34, _⟩ => ⟨S_, .f32⟩
  | .hbm, ⟨35, _⟩ => ⟨S2x128x16, .f32⟩
  | .hbm, ⟨36, _⟩ => ⟨S2x128x16, .f32⟩
  | .hbm, ⟨37, _⟩ => ⟨S256x16, .f32⟩
  | .hbm, ⟨38, _⟩ => ⟨S256x16, .f32⟩
  | .hbm, ⟨39, _⟩ => ⟨S256x16, .f32⟩
  | _, _ => ⟨S2x128x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdA2.lean ====
abbrev S2x16x64 : Shape := ⟨3, ![2, 16, 64]⟩
abbrev S32x64 : Shape := ⟨2, ![32, 64]⟩

abbrev nBuf : Space → Nat
  | .hbm => 11
  | .vmem => 7
  | .smem => 0
  | _ => 0

abbrev bufTy : (tb : Table) → Fin (tcTables nBuf tb) → BufTy
  | .hbm, ⟨0, _⟩ => ⟨S2x16x64, .f32⟩
  | .hbm, ⟨1, _⟩ => ⟨S2x16x64, .f32⟩
  | .hbm, ⟨2, _⟩ => ⟨S2x16x64, .f32⟩
  | .hbm, ⟨3, _⟩ => ⟨S2x16x64, .f32⟩
  | .hbm, ⟨4, _⟩ => ⟨S32x64, .f32⟩
  | .hbm, ⟨5, _⟩ => ⟨S32x64, .f32⟩
  | .hbm, ⟨6, _⟩ => ⟨S32x64, .f32⟩
  | .hbm, ⟨7, _⟩ => ⟨S32x64, .f32⟩
  | .hbm, ⟨8, _⟩ => ⟨S32x64, .f32⟩
  | .hbm, ⟨9, _⟩ => ⟨S32x64, .f32⟩
  | .hbm, ⟨10, _⟩ => ⟨S32x64, .f32⟩
  | .local _ .vmem, ⟨0, _⟩ => ⟨S32x64, .f32⟩
  | .local _ .vmem, ⟨1, _⟩ => ⟨S32x64, .f32⟩
  | .local _ .vmem, ⟨2, _⟩ => ⟨S32x64, .f32⟩
  | .local _ .vmem, ⟨3, _⟩ => ⟨S32x64, .f32⟩
  | .local _ .vmem, ⟨4, _⟩ => ⟨S32x64, .f32⟩
  | .local _ .vmem, ⟨5, _⟩ => ⟨S32x64, .f32⟩
  | .local _ .vmem, ⟨6, _⟩ => ⟨S32x64, .f32⟩
  | _, _ => ⟨S2x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdA2Ideal.lean ====
abbrev S2x16x64 : Shape := ⟨3, ![2, 16, 64]⟩
abbrev S32x64 : Shape := ⟨2, ![32, 64]⟩

abbrev nBuf : Space → Nat
  | .hbm => 11
  | .vmem => 7
  | .smem => 0
  | _ => 0

abbrev bufTy : (tb : Table) → Fin (tcTables nBuf tb) → BufTy
  | .hbm, ⟨0, _⟩ => ⟨S2x16x64, .f32⟩
  | .hbm, ⟨1, _⟩ => ⟨S2x16x64, .f32⟩
  | .hbm, ⟨2, _⟩ => ⟨S2x16x64, .f32⟩
  | .hbm, ⟨3, _⟩ => ⟨S2x16x64, .f32⟩
  | .hbm, ⟨4, _⟩ => ⟨S32x64, .f32⟩
  | .hbm, ⟨5, _⟩ => ⟨S32x64, .f32⟩
  | .hbm, ⟨6, _⟩ => ⟨S32x64, .f32⟩
  | .hbm, ⟨7, _⟩ => ⟨S32x64, .f32⟩
  | .hbm, ⟨8, _⟩ => ⟨S32x64, .f32⟩
  | .hbm, ⟨9, _⟩ => ⟨S32x64, .f32⟩
  | .hbm, ⟨10, _⟩ => ⟨S32x64, .f32⟩
  | .local _ .vmem, ⟨0, _⟩ => ⟨S32x64, .f32⟩
  | .local _ .vmem, ⟨1, _⟩ => ⟨S32x64, .f32⟩
  | .local _ .vmem, ⟨2, _⟩ => ⟨S32x64, .f32⟩
  | .local _ .vmem, ⟨3, _⟩ => ⟨S32x64, .f32⟩
  | .local _ .vmem, ⟨4, _⟩ => ⟨S32x64, .f32⟩
  | .local _ .vmem, ⟨5, _⟩ => ⟨S32x64, .f32⟩
  | .local _ .vmem, ⟨6, _⟩ => ⟨S32x64, .f32⟩
  | _, _ => ⟨S2x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdA2RefIdeal.lean ====
abbrev S2x16x64 : Shape := ⟨3, ![2, 16, 64]⟩
abbrev S_ : Shape := ⟨0, ![]⟩
abbrev S32x64 : Shape := ⟨2, ![32, 64]⟩

abbrev nBuf : Space → Nat
  | .hbm => 40
  | .vmem => 0
  | .smem => 0
  | _ => 0

abbrev bufTy : (tb : Table) → Fin (tcTables nBuf tb) → BufTy
  | .hbm, ⟨0, _⟩ => ⟨S2x16x64, .f32⟩
  | .hbm, ⟨1, _⟩ => ⟨S2x16x64, .f32⟩
  | .hbm, ⟨2, _⟩ => ⟨S2x16x64, .f32⟩
  | .hbm, ⟨3, _⟩ => ⟨S2x16x64, .f32⟩
  | .hbm, ⟨4, _⟩ => ⟨S_, .f32⟩
  | .hbm, ⟨5, _⟩ => ⟨S2x16x64, .f32⟩
  | .hbm, ⟨6, _⟩ => ⟨S2x16x64, .f32⟩
  | .hbm, ⟨7, _⟩ => ⟨S_, .f32⟩
  | .hbm, ⟨8, _⟩ => ⟨S2x16x64, .f32⟩
  | .hbm, ⟨9, _⟩ => ⟨S2x16x64, .f32⟩
  | .hbm, ⟨10, _⟩ => ⟨S2x16x64, .f32⟩
  | .hbm, ⟨11, _⟩ => ⟨S_, .f32⟩
  | .hbm, ⟨12, _⟩ => ⟨S2x16x64, .f32⟩
  | .hbm, ⟨13, _⟩ => ⟨S2x16x64, .f32⟩
  | .hbm, ⟨14, _⟩ => ⟨S2x16x64, .f32⟩
  | .hbm, ⟨15, _⟩ => ⟨S_, .f32⟩
  | .hbm, ⟨16, _⟩ => ⟨S2x16x64, .f32⟩
  | .hbm, ⟨17, _⟩ => ⟨S2x16x64, .f32⟩
  | .hbm, ⟨18, _⟩ => ⟨S2x16x64, .f32⟩
  | .hbm, ⟨19, _⟩ => ⟨S_, .f32⟩
  | .hbm, ⟨20, _⟩ => ⟨S2x16x64, .f32⟩
  | .hbm, ⟨21, _⟩ => ⟨S2x16x64, .f32⟩
  | .hbm, ⟨22, _⟩ => ⟨S_, .f32⟩
  | .hbm, ⟨23, _⟩ => ⟨S2x16x64, .f32⟩
  | .hbm, ⟨24, _⟩ => ⟨S2x16x64, .f32⟩
  | .hbm, ⟨25, _⟩ => ⟨S2x16x64, .f32⟩
  | .hbm, ⟨26, _⟩ => ⟨S_, .f32⟩
  | .hbm, ⟨27, _⟩ => ⟨S2x16x64, .f32⟩
  | .hbm, ⟨28, _⟩ => ⟨S2x16x64, .f32⟩
  | .hbm, ⟨29, _⟩ => ⟨S2x16x64, .f32⟩
  | .hbm, ⟨30, _⟩ => ⟨S_, .f32⟩
  | .hbm, ⟨31, _⟩ => ⟨S2x16x64, .f32⟩
  | .hbm, ⟨32, _⟩ => ⟨S2x16x64, .f32⟩
  | .hbm, ⟨33, _⟩ => ⟨S2x16x64, .f32⟩
  | .hbm, ⟨34, _⟩ => ⟨S_, .f32⟩
  | .hbm, ⟨35, _⟩ => ⟨S2x16x64, .f32⟩
  | .hbm, ⟨36, _⟩ => ⟨S2x16x64, .f32⟩
  | .hbm, ⟨37, _⟩ => ⟨S32x64, .f32⟩
  | .hbm, ⟨38, _⟩ => ⟨S32x64, .f32⟩
  | .hbm, ⟨39, _⟩ => ⟨S32x64, .f32⟩
  | _, _ => ⟨S2x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdBa.lean ====
abbrev S2x64 : Shape := ⟨2, ![2, 64]⟩

abbrev nBuf : Space → Nat
  | .hbm => 7
  | .vmem => 7
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .local _ .vmem, ⟨0, _⟩ => ⟨S2x64, .f32⟩
  | .local _ .vmem, ⟨1, _⟩ => ⟨S2x64, .f32⟩
  | .local _ .vmem, ⟨2, _⟩ => ⟨S2x64, .f32⟩
  | .local _ .vmem, ⟨3, _⟩ => ⟨S2x64, .f32⟩
  | .local _ .vmem, ⟨4, _⟩ => ⟨S2x64, .f32⟩
  | .local _ .vmem, ⟨5, _⟩ => ⟨S2x64, .f32⟩
  | .local _ .vmem, ⟨6, _⟩ => ⟨S2x64, .f32⟩
  | _, _ => ⟨S2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdBaIdeal.lean ====
abbrev S2x64 : Shape := ⟨2, ![2, 64]⟩

abbrev nBuf : Space → Nat
  | .hbm => 7
  | .vmem => 7
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .local _ .vmem, ⟨0, _⟩ => ⟨S2x64, .f32⟩
  | .local _ .vmem, ⟨1, _⟩ => ⟨S2x64, .f32⟩
  | .local _ .vmem, ⟨2, _⟩ => ⟨S2x64, .f32⟩
  | .local _ .vmem, ⟨3, _⟩ => ⟨S2x64, .f32⟩
  | .local _ .vmem, ⟨4, _⟩ => ⟨S2x64, .f32⟩
  | .local _ .vmem, ⟨5, _⟩ => ⟨S2x64, .f32⟩
  | .local _ .vmem, ⟨6, _⟩ => ⟨S2x64, .f32⟩
  | _, _ => ⟨S2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdBaRefIdeal.lean ====
abbrev S2x64 : Shape := ⟨2, ![2, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S_, .f32⟩
  | .hbm, ⟨5, _⟩ => ⟨S2x64, .f32⟩
  | .hbm, ⟨6, _⟩ => ⟨S2x64, .f32⟩
  | .hbm, ⟨7, _⟩ => ⟨S_, .f32⟩
  | .hbm, ⟨8, _⟩ => ⟨S2x64, .f32⟩
  | .hbm, ⟨9, _⟩ => ⟨S2x64, .f32⟩
  | .hbm, ⟨10, _⟩ => ⟨S2x64, .f32⟩
  | .hbm, ⟨11, _⟩ => ⟨S_, .f32⟩
  | .hbm, ⟨12, _⟩ => ⟨S2x64, .f32⟩
  | .hbm, ⟨13, _⟩ => ⟨S2x64, .f32⟩
  | .hbm, ⟨14, _⟩ => ⟨S2x64, .f32⟩
  | .hbm, ⟨15, _⟩ => ⟨S_, .f32⟩
  | .hbm, ⟨16, _⟩ => ⟨S2x64, .f32⟩
  | .hbm, ⟨17, _⟩ => ⟨S2x64, .f32⟩
  | .hbm, ⟨18, _⟩ => ⟨S2x64, .f32⟩
  | .hbm, ⟨19, _⟩ => ⟨S_, .f32⟩
  | .hbm, ⟨20, _⟩ => ⟨S2x64, .f32⟩
  | .hbm, ⟨21, _⟩ => ⟨S2x64, .f32⟩
  | .hbm, ⟨22, _⟩ => ⟨S_, .f32⟩
  | .hbm, ⟨23, _⟩ => ⟨S2x64, .f32⟩
  | .hbm, ⟨24, _⟩ => ⟨S2x64, .f32⟩
  | .hbm, ⟨25, _⟩ => ⟨S2x64, .f32⟩
  | .hbm, ⟨26, _⟩ => ⟨S_, .f32⟩
  | .hbm, ⟨27, _⟩ => ⟨S2x64, .f32⟩
  | .hbm, ⟨28, _⟩ => ⟨S2x64, .f32⟩
  | .hbm, ⟨29, _⟩ => ⟨S2x64, .f32⟩
  | .hbm, ⟨30, _⟩ => ⟨S_, .f32⟩
  | .hbm, ⟨31, _⟩ => ⟨S2x64, .f32⟩
  | .hbm, ⟨32, _⟩ => ⟨S2x64, .f32⟩
  | .hbm, ⟨33, _⟩ => ⟨S2x64, .f32⟩
  | .hbm, ⟨34, _⟩ => ⟨S_, .f32⟩
  | .hbm, ⟨35, _⟩ => ⟨S2x64, .f32⟩
  | .hbm, ⟨36, _⟩ => ⟨S2x64, .f32⟩
  | _, _ => ⟨S2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdNorm.lean ====
abbrev S2x32 : Shape := ⟨2, ![2, 32]⟩

abbrev nBuf : Space → Nat
  | .hbm => 7
  | .vmem => 7
  | .smem => 0
  | _ => 0

abbrev bufTy : (tb : Table) → Fin (tcTables nBuf tb) → BufTy
  | .hbm, ⟨0, _⟩ => ⟨S2x32, .f32⟩
  | .hbm, ⟨1, _⟩ => ⟨S2x32, .f32⟩
  | .hbm, ⟨2, _⟩ => ⟨S2x32, .f32⟩
  | .hbm, ⟨3, _⟩ => ⟨S2x32, .f32⟩
  | .hbm, ⟨4, _⟩ => ⟨S2x32, .f32⟩
  | .hbm, ⟨5, _⟩ => ⟨S2x32, .f32⟩
  | .hbm, ⟨6, _⟩ => ⟨S2x32, .f32⟩
  | .local _ .vmem, ⟨0, _⟩ => ⟨S2x32, .f32⟩
  | .local _ .vmem, ⟨1, _⟩ => ⟨S2x32, .f32⟩
  | .local _ .vmem, ⟨2, _⟩ => ⟨S2x32, .f32⟩
  | .local _ .vmem, ⟨3, _⟩ => ⟨S2x32, .f32⟩
  | .local _ .vmem, ⟨4, _⟩ => ⟨S2x32, .f32⟩
  | .local _ .vmem, ⟨5, _⟩ => ⟨S2x32, .f32⟩
  | .local _ .vmem, ⟨6, _⟩ => ⟨S2x32, .f32⟩
  | _, _ => ⟨S2x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdNormIdeal.lean ====
abbrev S2x32 : Shape := ⟨2, ![2, 32]⟩

abbrev nBuf : Space → Nat
  | .hbm => 7
  | .vmem => 7
  | .smem => 0
  | _ => 0

abbrev bufTy : (tb : Table) → Fin (tcTables nBuf tb) → BufTy
  | .hbm, ⟨0, _⟩ => ⟨S2x32, .f32⟩
  | .hbm, ⟨1, _⟩ => ⟨S2x32, .f32⟩
  | .hbm, ⟨2, _⟩ => ⟨S2x32, .f32⟩
  | .hbm, ⟨3, _⟩ => ⟨S2x32, .f32⟩
  | .hbm, ⟨4, _⟩ => ⟨S2x32, .f32⟩
  | .hbm, ⟨5, _⟩ => ⟨S2x32, .f32⟩
  | .hbm, ⟨6, _⟩ => ⟨S2x32, .f32⟩
  | .local _ .vmem, ⟨0, _⟩ => ⟨S2x32, .f32⟩
  | .local _ .vmem, ⟨1, _⟩ => ⟨S2x32, .f32⟩
  | .local _ .vmem, ⟨2, _⟩ => ⟨S2x32, .f32⟩
  | .local _ .vmem, ⟨3, _⟩ => ⟨S2x32, .f32⟩
  | .local _ .vmem, ⟨4, _⟩ => ⟨S2x32, .f32⟩
  | .local _ .vmem, ⟨5, _⟩ => ⟨S2x32, .f32⟩
  | .local _ .vmem, ⟨6, _⟩ => ⟨S2x32, .f32⟩
  | _, _ => ⟨S2x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdNormRefIdeal.lean ====
abbrev S2x32 : Shape := ⟨2, ![2, 32]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x32, .f32⟩
  | .hbm, ⟨1, _⟩ => ⟨S2x32, .f32⟩
  | .hbm, ⟨2, _⟩ => ⟨S2x32, .f32⟩
  | .hbm, ⟨3, _⟩ => ⟨S2x32, .f32⟩
  | .hbm, ⟨4, _⟩ => ⟨S_, .f32⟩
  | .hbm, ⟨5, _⟩ => ⟨S2x32, .f32⟩
  | .hbm, ⟨6, _⟩ => ⟨S2x32, .f32⟩
  | .hbm, ⟨7, _⟩ => ⟨S_, .f32⟩
  | .hbm, ⟨8, _⟩ => ⟨S2x32, .f32⟩
  | .hbm, ⟨9, _⟩ => ⟨S2x32, .f32⟩
  | .hbm, ⟨10, _⟩ => ⟨S2x32, .f32⟩
  | .hbm, ⟨11, _⟩ => ⟨S_, .f32⟩
  | .hbm, ⟨12, _⟩ => ⟨S2x32, .f32⟩
  | .hbm, ⟨13, _⟩ => ⟨S2x32, .f32⟩
  | .hbm, ⟨14, _⟩ => ⟨S2x32, .f32⟩
  | .hbm, ⟨15, _⟩ => ⟨S_, .f32⟩
  | .hbm, ⟨16, _⟩ => ⟨S2x32, .f32⟩
  | .hbm, ⟨17, _⟩ => ⟨S2x32, .f32⟩
  | .hbm, ⟨18, _⟩ => ⟨S2x32, .f32⟩
  | .hbm, ⟨19, _⟩ => ⟨S_, .f32⟩
  | .hbm, ⟨20, _⟩ => ⟨S2x32, .f32⟩
  | .hbm, ⟨21, _⟩ => ⟨S2x32, .f32⟩
  | .hbm, ⟨22, _⟩ => ⟨S_, .f32⟩
  | .hbm, ⟨23, _⟩ => ⟨S2x32, .f32⟩
  | .hbm, ⟨24, _⟩ => ⟨S2x32, .f32⟩
  | .hbm, ⟨25, _⟩ => ⟨S2x32, .f32⟩
  | .hbm, ⟨26, _⟩ => ⟨S_, .f32⟩
  | .hbm, ⟨27, _⟩ => ⟨S2x32, .f32⟩
  | .hbm, ⟨28, _⟩ => ⟨S2x32, .f32⟩
  | .hbm, ⟨29, _⟩ => ⟨S2x32, .f32⟩
  | .hbm, ⟨30, _⟩ => ⟨S_, .f32⟩
  | .hbm, ⟨31, _⟩ => ⟨S2x32, .f32⟩
  | .hbm, ⟨32, _⟩ => ⟨S2x32, .f32⟩
  | .hbm, ⟨33, _⟩ => ⟨S2x32, .f32⟩
  | .hbm, ⟨34, _⟩ => ⟨S_, .f32⟩
  | .hbm, ⟨35, _⟩ => ⟨S2x32, .f32⟩
  | .hbm, ⟨36, _⟩ => ⟨S2x32, .f32⟩
  | _, _ => ⟨S2x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdUp.lean ====
abbrev S4x1024x704 : Shape := ⟨3, ![4, 1024, 704]⟩
abbrev S4096x704 : Shape := ⟨2, ![4096, 704]⟩
abbrev S512x704 : Shape := ⟨2, ![512, 704]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S4x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdUpIdeal.lean ====
abbrev S4x1024x704 : Shape := ⟨3, ![4, 1024, 704]⟩
abbrev S4096x704 : Shape := ⟨2, ![4096, 704]⟩
abbrev S512x704 : Shape := ⟨2, ![512, 704]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S4x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdUpRefIdeal.lean ====
abbrev S4x1024x704 : Shape := ⟨3, ![4, 1024, 704]⟩
abbrev S_ : Shape := ⟨0, ![]⟩
abbrev S4096x704 : Shape := ⟨2, ![4096, 704]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S_, .f32⟩
  | .hbm, ⟨5, _⟩ => ⟨S4x1024x704, .f32⟩
  | .hbm, ⟨6, _⟩ => ⟨S4x1024x704, .f32⟩
  | .hbm, ⟨7, _⟩ => ⟨S_, .f32⟩
  | .hbm, ⟨8, _⟩ => ⟨S4x1024x704, .f32⟩
  | .hbm, ⟨9, _⟩ => ⟨S4x1024x704, .f32⟩
  | .hbm, ⟨10, _⟩ => ⟨S4x1024x704, .f32⟩
  | .hbm, ⟨11, _⟩ => ⟨S_, .f32⟩
  | .hbm, ⟨12, _⟩ => ⟨S4x1024x704, .f32⟩
  | .hbm, ⟨13, _⟩ => ⟨S4x1024x704, .f32⟩
  | .hbm, ⟨14, _⟩ => ⟨S4x1024x704, .f32⟩
  | .hbm, ⟨15, _⟩ => ⟨S_, .f32⟩
  | .hbm, ⟨16, _⟩ => ⟨S4x1024x704, .f32⟩
  | .hbm, ⟨17, _⟩ => ⟨S4x1024x704, .f32⟩
  | .hbm, ⟨18, _⟩ => ⟨S4x1024x704, .f32⟩
  | .hbm, ⟨19, _⟩ => ⟨S_, .f32⟩
  | .hbm, ⟨20, _⟩ => ⟨S4x1024x704, .f32⟩
  | .hbm, ⟨21, _⟩ => ⟨S4x1024x704, .f32⟩
  | .hbm, ⟨22, _⟩ => ⟨S_, .f32⟩
  | .hbm, ⟨23, _⟩ => ⟨S4x1024x704, .f32⟩
  | .hbm, ⟨24, _⟩ => ⟨S4x1024x704, .f32⟩
  | .hbm, ⟨25, _⟩ => ⟨S4x1024x704, .f32⟩
  | .hbm, ⟨26, _⟩ => ⟨S_, .f32⟩
  | .hbm, ⟨27, _⟩ => ⟨S4x1024x704, .f32⟩
  | .hbm, ⟨28, _⟩ => ⟨S4x1024x704, .f32⟩
  | .hbm, ⟨29, _⟩ => ⟨S4x1024x704, .f32⟩
  | .hbm, ⟨30, _⟩ => ⟨S_, .f32⟩
  | .hbm, ⟨31, _⟩ => ⟨S4x1024x704, .f32⟩
  | .hbm, ⟨32, _⟩ => ⟨S4x1024x704, .f32⟩
  | .hbm, ⟨33, _⟩ => ⟨S4x1024x704, .f32⟩
  | .hbm, ⟨34, _⟩ => ⟨S_, .f32⟩
  | .hbm, ⟨35, _⟩ => ⟨S4x1024x704, .f32⟩
  | .hbm, ⟨36, _⟩ => ⟨S4x1024x704, .f32⟩
  | .hbm, ⟨37, _⟩ => ⟨S4096x704, .f32⟩
  | .hbm, ⟨38, _⟩ => ⟨S4096x704, .f32⟩
  | .hbm, ⟨39, _⟩ => ⟨S4096x704, .f32⟩
  | _, _ => ⟨S4x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdConvW.lean ====
abbrev S4x3x704 : Shape := ⟨3, ![4, 3, 704]⟩
abbrev S12x704 : Shape := ⟨2, ![12, 704]⟩

abbrev nBuf : Space → Nat
  | .hbm => 11
  | .vmem => 7
  | .smem => 0
  | _ => 0

abbrev bufTy : (tb : Table) → Fin (tcTables nBuf tb) → BufTy
  | .hbm, ⟨0, _⟩ => ⟨S4x3x704, .f32⟩
  | .hbm, ⟨1, _⟩ => ⟨S4x3x704, .f32⟩
  | .hbm, ⟨2, _⟩ => ⟨S4x3x704, .f32⟩
  | .hbm, ⟨3, _⟩ => ⟨S4x3x704, .f32⟩
  | .hbm, ⟨4, _⟩ => ⟨S12x704, .f32⟩
  | .hbm, ⟨5, _⟩ => ⟨S12x704, .f32⟩
  | .hbm, ⟨6, _⟩ => ⟨S12x704, .f32⟩
  | .hbm, ⟨7, _⟩ => ⟨S12x704, .f32⟩
  | .hbm, ⟨8, _⟩ => ⟨S12x704, .f32⟩
  | .hbm, ⟨9, _⟩ => ⟨S12x704, .f32⟩
  | .hbm, ⟨10, _⟩ => ⟨S12x704, .f32⟩
  | .local _ .vmem, ⟨0, _⟩ => ⟨S12x704, .f32⟩
  | .local _ .vmem, ⟨1, _⟩ => ⟨S12x704, .f32⟩
  | .local _ .vmem, ⟨2, _⟩ => ⟨S12x704, .f32⟩
  | .local _ .vmem, ⟨3, _⟩ => ⟨S12x704, .f32⟩
  | .local _ .vmem, ⟨4, _⟩ => ⟨S12x704, .f32⟩
  | .local _ .vmem, ⟨5, _⟩ => ⟨S12x704, .f32⟩
  | .local _ .vmem, ⟨6, _⟩ => ⟨S12x704, .f32⟩
  | _, _ => ⟨S4x3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdConvWIdeal.lean ====
abbrev S4x3x704 : Shape := ⟨3, ![4, 3, 704]⟩
abbrev S12x704 : Shape := ⟨2, ![12, 704]⟩

abbrev nBuf : Space → Nat
  | .hbm => 11
  | .vmem => 7
  | .smem => 0
  | _ => 0

abbrev bufTy : (tb : Table) → Fin (tcTables nBuf tb) → BufTy
  | .hbm, ⟨0, _⟩ => ⟨S4x3x704, .f32⟩
  | .hbm, ⟨1, _⟩ => ⟨S4x3x704, .f32⟩
  | .hbm, ⟨2, _⟩ => ⟨S4x3x704, .f32⟩
  | .hbm, ⟨3, _⟩ => ⟨S4x3x704, .f32⟩
  | .hbm, ⟨4, _⟩ => ⟨S12x704, .f32⟩
  | .hbm, ⟨5, _⟩ => ⟨S12x704, .f32⟩
  | .hbm, ⟨6, _⟩ => ⟨S12x704, .f32⟩
  | .hbm, ⟨7, _⟩ => ⟨S12x704, .f32⟩
  | .hbm, ⟨8, _⟩ => ⟨S12x704, .f32⟩
  | .hbm, ⟨9, _⟩ => ⟨S12x704, .f32⟩
  | .hbm, ⟨10, _⟩ => ⟨S12x704, .f32⟩
  | .local _ .vmem, ⟨0, _⟩ => ⟨S12x704, .f32⟩
  | .local _ .vmem, ⟨1, _⟩ => ⟨S12x704, .f32⟩
  | .local _ .vmem, ⟨2, _⟩ => ⟨S12x704, .f32⟩
  | .local _ .vmem, ⟨3, _⟩ => ⟨S12x704, .f32⟩
  | .local _ .vmem, ⟨4, _⟩ => ⟨S12x704, .f32⟩
  | .local _ .vmem, ⟨5, _⟩ => ⟨S12x704, .f32⟩
  | .local _ .vmem, ⟨6, _⟩ => ⟨S12x704, .f32⟩
  | _, _ => ⟨S4x3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdConvWRefIdeal.lean ====
abbrev S4x3x704 : Shape := ⟨3, ![4, 3, 704]⟩
abbrev S_ : Shape := ⟨0, ![]⟩
abbrev S12x704 : Shape := ⟨2, ![12, 704]⟩

abbrev nBuf : Space → Nat
  | .hbm => 40
  | .vmem => 0
  | .smem => 0
  | _ => 0

abbrev bufTy : (tb : Table) → Fin (tcTables nBuf tb) → BufTy
  | .hbm, ⟨0, _⟩ => ⟨S4x3x704, .f32⟩
  | .hbm, ⟨1, _⟩ => ⟨S4x3x704, .f32⟩
  | .hbm, ⟨2, _⟩ => ⟨S4x3x704, .f32⟩
  | .hbm, ⟨3, _⟩ => ⟨S4x3x704, .f32⟩
  | .hbm, ⟨4, _⟩ => ⟨S_, .f32⟩
  | .hbm, ⟨5, _⟩ => ⟨S4x3x704, .f32⟩
  | .hbm, ⟨6, _⟩ => ⟨S4x3x704, .f32⟩
  | .hbm, ⟨7, _⟩ => ⟨S_, .f32⟩
  | .hbm, ⟨8, _⟩ => ⟨S4x3x704, .f32⟩
  | .hbm, ⟨9, _⟩ => ⟨S4x3x704, .f32⟩
  | .hbm, ⟨10, _⟩ => ⟨S4x3x704, .f32⟩
  | .hbm, ⟨11, _⟩ => ⟨S_, .f32⟩
  | .hbm, ⟨12, _⟩ => ⟨S4x3x704, .f32⟩
  | .hbm, ⟨13, _⟩ => ⟨S4x3x704, .f32⟩
  | .hbm, ⟨14, _⟩ => ⟨S4x3x704, .f32⟩
  | .hbm, ⟨15, _⟩ => ⟨S_, .f32⟩
  | .hbm, ⟨16, _⟩ => ⟨S4x3x704, .f32⟩
  | .hbm, ⟨17, _⟩ => ⟨S4x3x704, .f32⟩
  | .hbm, ⟨18, _⟩ => ⟨S4x3x704, .f32⟩
  | .hbm, ⟨19, _⟩ => ⟨S_, .f32⟩
  | .hbm, ⟨20, _⟩ => ⟨S4x3x704, .f32⟩
  | .hbm, ⟨21, _⟩ => ⟨S4x3x704, .f32⟩
  | .hbm, ⟨22, _⟩ => ⟨S_, .f32⟩
  | .hbm, ⟨23, _⟩ => ⟨S4x3x704, .f32⟩
  | .hbm, ⟨24, _⟩ => ⟨S4x3x704, .f32⟩
  | .hbm, ⟨25, _⟩ => ⟨S4x3x704, .f32⟩
  | .hbm, ⟨26, _⟩ => ⟨S_, .f32⟩
  | .hbm, ⟨27, _⟩ => ⟨S4x3x704, .f32⟩
  | .hbm, ⟨28, _⟩ => ⟨S4x3x704, .f32⟩
  | .hbm, ⟨29, _⟩ => ⟨S4x3x704, .f32⟩
  | .hbm, ⟨30, _⟩ => ⟨S_, .f32⟩
  | .hbm, ⟨31, _⟩ => ⟨S4x3x704, .f32⟩
  | .hbm, ⟨32, _⟩ => ⟨S4x3x704, .f32⟩
  | .hbm, ⟨33, _⟩ => ⟨S4x3x704, .f32⟩
  | .hbm, ⟨34, _⟩ => ⟨S_, .f32⟩
  | .hbm, ⟨35, _⟩ => ⟨S4x3x704, .f32⟩
  | .hbm, ⟨36, _⟩ => ⟨S4x3x704, .f32⟩
  | .hbm, ⟨37, _⟩ => ⟨S12x704, .f32⟩
  | .hbm, ⟨38, _⟩ => ⟨S12x704, .f32⟩
  | .hbm, ⟨39, _⟩ => ⟨S12x704, .f32⟩
  | _, _ => ⟨S4x3x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdConvB.lean ====
abbrev S4x5632 : Shape := ⟨2, ![4, 5632]⟩

abbrev nBuf : Space → Nat
  | .hbm => 7
  | .vmem => 7
  | .smem => 0
  | _ => 0

abbrev bufTy : (tb : Table) → Fin (tcTables nBuf tb) → BufTy
  | .hbm, ⟨0, _⟩ => ⟨S4x5632, .f32⟩
  | .hbm, ⟨1, _⟩ => ⟨S4x5632, .f32⟩
  | .hbm, ⟨2, _⟩ => ⟨S4x5632, .f32⟩
  | .hbm, ⟨3, _⟩ => ⟨S4x5632, .f32⟩
  | .hbm, ⟨4, _⟩ => ⟨S4x5632, .f32⟩
  | .hbm, ⟨5, _⟩ => ⟨S4x5632, .f32⟩
  | .hbm, ⟨6, _⟩ => ⟨S4x5632, .f32⟩
  | .local _ .vmem, ⟨0, _⟩ => ⟨S4x5632, .f32⟩
  | .local _ .vmem, ⟨1, _⟩ => ⟨S4x5632, .f32⟩
  | .local _ .vmem, ⟨2, _⟩ => ⟨S4x5632, .f32⟩
  | .local _ .vmem, ⟨3, _⟩ => ⟨S4x5632, .f32⟩
  | .local _ .vmem, ⟨4, _⟩ => ⟨S4x5632, .f32⟩
  | .local _ .vmem, ⟨5, _⟩ => ⟨S4x5632, .f32⟩
  | .local _ .vmem, ⟨6, _⟩ => ⟨S4x5632, .f32⟩
  | _, _ => ⟨S4x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdConvBIdeal.lean ====
abbrev S4x5632 : Shape := ⟨2, ![4, 5632]⟩

abbrev nBuf : Space → Nat
  | .hbm => 7
  | .vmem => 7
  | .smem => 0
  | _ => 0

abbrev bufTy : (tb : Table) → Fin (tcTables nBuf tb) → BufTy
  | .hbm, ⟨0, _⟩ => ⟨S4x5632, .f32⟩
  | .hbm, ⟨1, _⟩ => ⟨S4x5632, .f32⟩
  | .hbm, ⟨2, _⟩ => ⟨S4x5632, .f32⟩
  | .hbm, ⟨3, _⟩ => ⟨S4x5632, .f32⟩
  | .hbm, ⟨4, _⟩ => ⟨S4x5632, .f32⟩
  | .hbm, ⟨5, _⟩ => ⟨S4x5632, .f32⟩
  | .hbm, ⟨6, _⟩ => ⟨S4x5632, .f32⟩
  | .local _ .vmem, ⟨0, _⟩ => ⟨S4x5632, .f32⟩
  | .local _ .vmem, ⟨1, _⟩ => ⟨S4x5632, .f32⟩
  | .local _ .vmem, ⟨2, _⟩ => ⟨S4x5632, .f32⟩
  | .local _ .vmem, ⟨3, _⟩ => ⟨S4x5632, .f32⟩
  | .local _ .vmem, ⟨4, _⟩ => ⟨S4x5632, .f32⟩
  | .local _ .vmem, ⟨5, _⟩ => ⟨S4x5632, .f32⟩
  | .local _ .vmem, ⟨6, _⟩ => ⟨S4x5632, .f32⟩
  | _, _ => ⟨S4x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdConvBRefIdeal.lean ====
abbrev S4x5632 : Shape := ⟨2, ![4, 5632]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x5632, .f32⟩
  | .hbm, ⟨1, _⟩ => ⟨S4x5632, .f32⟩
  | .hbm, ⟨2, _⟩ => ⟨S4x5632, .f32⟩
  | .hbm, ⟨3, _⟩ => ⟨S4x5632, .f32⟩
  | .hbm, ⟨4, _⟩ => ⟨S_, .f32⟩
  | .hbm, ⟨5, _⟩ => ⟨S4x5632, .f32⟩
  | .hbm, ⟨6, _⟩ => ⟨S4x5632, .f32⟩
  | .hbm, ⟨7, _⟩ => ⟨S_, .f32⟩
  | .hbm, ⟨8, _⟩ => ⟨S4x5632, .f32⟩
  | .hbm, ⟨9, _⟩ => ⟨S4x5632, .f32⟩
  | .hbm, ⟨10, _⟩ => ⟨S4x5632, .f32⟩
  | .hbm, ⟨11, _⟩ => ⟨S_, .f32⟩
  | .hbm, ⟨12, _⟩ => ⟨S4x5632, .f32⟩
  | .hbm, ⟨13, _⟩ => ⟨S4x5632, .f32⟩
  | .hbm, ⟨14, _⟩ => ⟨S4x5632, .f32⟩
  | .hbm, ⟨15, _⟩ => ⟨S_, .f32⟩
  | .hbm, ⟨16, _⟩ => ⟨S4x5632, .f32⟩
  | .hbm, ⟨17, _⟩ => ⟨S4x5632, .f32⟩
  | .hbm, ⟨18, _⟩ => ⟨S4x5632, .f32⟩
  | .hbm, ⟨19, _⟩ => ⟨S_, .f32⟩
  | .hbm, ⟨20, _⟩ => ⟨S4x5632, .f32⟩
  | .hbm, ⟨21, _⟩ => ⟨S4x5632, .f32⟩
  | .hbm, ⟨22, _⟩ => ⟨S_, .f32⟩
  | .hbm, ⟨23, _⟩ => ⟨S4x5632, .f32⟩
  | .hbm, ⟨24, _⟩ => ⟨S4x5632, .f32⟩
  | .hbm, ⟨25, _⟩ => ⟨S4x5632, .f32⟩
  | .hbm, ⟨26, _⟩ => ⟨S_, .f32⟩
  | .hbm, ⟨27, _⟩ => ⟨S4x5632, .f32⟩
  | .hbm, ⟨28, _⟩ => ⟨S4x5632, .f32⟩
  | .hbm, ⟨29, _⟩ => ⟨S4x5632, .f32⟩
  | .hbm, ⟨30, _⟩ => ⟨S_, .f32⟩
  | .hbm, ⟨31, _⟩ => ⟨S4x5632, .f32⟩
  | .hbm, ⟨32, _⟩ => ⟨S4x5632, .f32⟩
  | .hbm, ⟨33, _⟩ => ⟨S4x5632, .f32⟩
  | .hbm, ⟨34, _⟩ => ⟨S_, .f32⟩
  | .hbm, ⟨35, _⟩ => ⟨S4x5632, .f32⟩
  | .hbm, ⟨36, _⟩ => ⟨S4x5632, .f32⟩
  | _, _ => ⟨S4x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdDown.lean ====
abbrev S4x352x1024 : Shape := ⟨3, ![4, 352, 1024]⟩
abbrev S1408x1024 : Shape := ⟨2, ![1408, 1024]⟩
abbrev S128x1024 : Shape := ⟨2, ![128, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdDownIdeal.lean ====
abbrev S4x352x1024 : Shape := ⟨3, ![4, 352, 1024]⟩
abbrev S1408x1024 : Shape := ⟨2, ![1408, 1024]⟩
abbrev S128x1024 : Shape := ⟨2, ![128, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdDownRefIdeal.lean ====
abbrev S4x352x1024 : Shape := ⟨3, ![4, 352, 1024]⟩
abbrev S_ : Shape := ⟨0, ![]⟩
abbrev S1408x1024 : Shape := ⟨2, ![1408, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S_, .f32⟩
  | .hbm, ⟨5, _⟩ => ⟨S4x352x1024, .f32⟩
  | .hbm, ⟨6, _⟩ => ⟨S4x352x1024, .f32⟩
  | .hbm, ⟨7, _⟩ => ⟨S_, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S_, .f32⟩
  | .hbm, ⟨12, _⟩ => ⟨S4x352x1024, .f32⟩
  | .hbm, ⟨13, _⟩ => ⟨S4x352x1024, .f32⟩
  | .hbm, ⟨14, _⟩ => ⟨S4x352x1024, .f32⟩
  | .hbm, ⟨15, _⟩ => ⟨S_, .f32⟩
  | .hbm, ⟨16, _⟩ => ⟨S4x352x1024, .f32⟩
  | .hbm, ⟨17, _⟩ => ⟨S4x352x1024, .f32⟩
  | .hbm, ⟨18, _⟩ => ⟨S4x352x1024, .f32⟩
  | .hbm, ⟨19, _⟩ => ⟨S_, .f32⟩
  | .hbm, ⟨20, _⟩ => ⟨S4x352x1024, .f32⟩
  | .hbm, ⟨21, _⟩ => ⟨S4x352x1024, .f32⟩
  | .hbm, ⟨22, _⟩ => ⟨S_, .f32⟩
  | .hbm, ⟨23, _⟩ => ⟨S4x352x1024, .f32⟩
  | .hbm, ⟨24, _⟩ => ⟨S4x352x1024, .f32⟩
  | .hbm, ⟨25, _⟩ => ⟨S4x352x1024, .f32⟩
  | .hbm, ⟨26, _⟩ => ⟨S_, .f32⟩
  | .hbm, ⟨27, _⟩ => ⟨S4x352x1024, .f32⟩
  | .hbm, ⟨28, _⟩ => ⟨S4x352x1024, .f32⟩
  | .hbm, ⟨29, _⟩ => ⟨S4x352x1024, .f32⟩
  | .hbm, ⟨30, _⟩ => ⟨S_, .f32⟩
  | .hbm, ⟨31, _⟩ => ⟨S4x352x1024, .f32⟩
  | .hbm, ⟨32, _⟩ => ⟨S4x352x1024, .f32⟩
  | .hbm, ⟨33, _⟩ => ⟨S4x352x1024, .f32⟩
  | .hbm, ⟨34, _⟩ => ⟨S_, .f32⟩
  | .hbm, ⟨35, _⟩ => ⟨S4x352x1024, .f32⟩
  | .hbm, ⟨36, _⟩ => ⟨S4x352x1024, .f32⟩
  | .hbm, ⟨37, _⟩ => ⟨S1408x1024, .f32⟩
  | .hbm, ⟨38, _⟩ => ⟨S1408x1024, .f32⟩
  | .hbm, ⟨39, _⟩ => ⟨S1408x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdLn.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdLnRefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Loss.lean ====
abbrev S8192x1024 : Shape := ⟨2, ![8192, 1024]⟩
abbrev S1x1024 : Shape := ⟨2, ![1, 1024]⟩
abbrev S256x1024 : Shape := ⟨2, ![256, 1024]⟩
abbrev S1024 : Shape := ⟨1, ![1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossRefIdeal.lean ====
abbrev S8192x1024 : Shape := ⟨2, ![8192, 1024]⟩
abbrev S_ : Shape := ⟨0, ![]⟩
abbrev S1024 : Shape := ⟨1, ![1024]⟩
abbrev S1x1024 : Shape := ⟨2, ![1, 1024]⟩
abbrev S8192 : Shape := ⟨1, ![8192]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192x1024, .f32⟩
  | .hbm, ⟨35, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩
abbrev main_cst_7 : Ref sig .tc := ⟨.hbm, 27, rfl⟩
abbrev main_cst_8 : Ref sig .tc := ⟨.hbm, 28, rfl⟩
abbrev main_v17 : Ref sig .tc := ⟨.hbm, 29, rfl⟩
abbrev main_v18 : Ref sig .tc := ⟨.hbm, 30, rfl⟩
abbrev main_cst_9 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== SumW.lean ====
abbrev S8x6320x1024 : Shape := ⟨3, ![8, 6320, 1024]⟩
abbrev S6320x1024 : Shape := ⟨2, ![6320, 1024]⟩
abbrev S8x16x1024 : Shape := ⟨3, ![8, 16, 1024]⟩
abbrev S16x1024 : Shape := ⟨2, ![16, 1024]⟩
abbrev S1x16x1024 : Shape := ⟨3, ![1, 16, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x6320x1024, .f32⟩
  | .hbm, ⟨1, _⟩ => ⟨S6320x1024, .f32⟩
  | .local _ .vmem, ⟨0, _⟩ => ⟨S8x16x1024, .f32⟩
  | .local _ .vmem, ⟨1, _⟩ => ⟨S8x16x1024, .f32⟩
  | .local _ .vmem, ⟨2, _⟩ => ⟨S16x1024, .f32⟩
  | .local _ .vmem, ⟨3, _⟩ => ⟨S16x1024, .f32⟩
  | _, _ => ⟨S8x6320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![395], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumWIdeal.lean ====
abbrev S8x6320x1024 : Shape := ⟨3, ![8, 6320, 1024]⟩
abbrev S6320x1024 : Shape := ⟨2, ![6320, 1024]⟩
abbrev S8x16x1024 : Shape := ⟨3, ![8, 16, 1024]⟩
abbrev S16x1024 : Shape := ⟨2, ![16, 1024]⟩
abbrev S1x16x1024 : Shape := ⟨3, ![1, 16, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x6320x1024, .f32⟩
  | .hbm, ⟨1, _⟩ => ⟨S6320x1024, .f32⟩
  | .local _ .vmem, ⟨0, _⟩ => ⟨S8x16x1024, .f32⟩
  | .local _ .vmem, ⟨1, _⟩ => ⟨S8x16x1024, .f32⟩
  | .local _ .vmem, ⟨2, _⟩ => ⟨S16x1024, .f32⟩
  | .local _ .vmem, ⟨3, _⟩ => ⟨S16x1024, .f32⟩
  | _, _ => ⟨S8x6320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![395], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumWRefIdeal.lean ====
abbrev S8x6320x1024 : Shape := ⟨3, ![8, 6320, 1024]⟩
abbrev S_ : Shape := ⟨0, ![]⟩
abbrev S6320x1024 : Shape := ⟨2, ![6320, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x6320x1024, .f32⟩
  | .hbm, ⟨1, _⟩ => ⟨S_, .f32⟩
  | .hbm, ⟨2, _⟩ => ⟨S6320x1024, .f32⟩
  | _, _ => ⟨S8x6320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumR.lean ====
abbrev S8x56x1024 : Shape := ⟨3, ![8, 56, 1024]⟩
abbrev S56x1024 : Shape := ⟨2, ![56, 1024]⟩
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x56x1024, .f32⟩
  | .hbm, ⟨1, _⟩ => ⟨S56x1024, .f32⟩
  | .local _ .vmem, ⟨0, _⟩ => ⟨S8x8x1024, .f32⟩
  | .local _ .vmem, ⟨1, _⟩ => ⟨S8x8x1024, .f32⟩
  | .local _ .vmem, ⟨2, _⟩ => ⟨S8x1024, .f32⟩
  | .local _ .vmem, ⟨3, _⟩ => ⟨S8x1024, .f32⟩
  | _, _ => ⟨S8x56x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![7], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumRRefIdeal.lean ====
abbrev S8x56x1024 : Shape := ⟨3, ![8, 56, 1024]⟩
abbrev S_ : Shape := ⟨0, ![]⟩
abbrev S56x1024 : Shape := ⟨2, ![56, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x56x1024, .f32⟩
  | .hbm, ⟨1, _⟩ => ⟨S_, .f32⟩
  | .hbm, ⟨2, _⟩ => ⟨S56x1024, .f32⟩
  | _, _ => ⟨S8x56x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== LnF.lean ====
abbrev S8192x1024 : Shape := ⟨2, ![8192, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LnFRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Proof.Mm.DownW.lean ====
module

public import proofs.«01_k».proof.Defs
public import proofs.«01_k».proof.Proof.Gen.DownWIdeal.Value
public import proofs.«01_k».proof.Proof.Gen.DownWRefIdeal.Run
public import Idealize.ShloMosaic.Lib.Pipeline.ValueKit
public import Idealize.ShloMosaic.Lib.Pipeline.ReadBack
public import Idealize.ShloMosaic.Lib.Pointwise

@[expose] public section

/-! # DownW: the gradient of the down projection

The kernel walks the tiles of the result, and for each tile the blocks of the contracted axis. It leaves the sum over the
whole axis, and the reference's product is that sum. -/

set_option maxRecDepth 16384

noncomputable section

namespace Cert.Proof.DownW

open Idealize.ShloMosaic Idealize.ShloMosaic.TcCoe Idealize.SL.Sem Cert.DownWIdeal Cert.DownWIdeal.Gen

variable (m : (ℓ : Loc nD τ sig) → Buf (Elt Ideal) ℓ)

/-- The blocks that the windows name at a grid point. -/
theorem idx : ∀ t : Fin cfg0.N, win0_0.index t = ![t.val % 8, t.val / 8] ∧ win0_1.index t = ![t.val % 8, 0]
    ∧ win0_2.index t = ![t.val / 8, 0] :=
  (by decide +kernel : ∀ t : Fin grid0.N, _)

/-- The blocks of the two factors at a grid point, as arrays of extended reals. -/
abbrev A0 (c : Dev nD) (t : Fin cfg0.N) : FVec Ideal S1024x256 .bf16 := iblk m c 0 t
abbrev A1 (c : Dev nD) (t : Fin cfg0.N) : FVec Ideal S1024x1024 .bf16 := iblk m c 1 t

/-- The accumulator at a tile's last point: the sum of the partial products of the tile's points. -/
theorem acc_eq (c : Dev nD) (t : Fin cfg0.N) (h : t.val % 8 = 7) (j : S256x1024.Idx) :
    (outsAt0 m c t.val t.isLt).2 j = ∑ s : Fin 8, ∑ k : Fin 1024,
      A0 m c ⟨8 * (t.val / 8) + s.val, Pipeline.run_point_lt_of_flush t h s⟩ (ix2 k (j 0))
        * A1 m c ⟨8 * (t.val / 8) + s.val, Pipeline.run_point_lt_of_flush t h s⟩ (ix2 k (j 1)) := by
  refine (Pipeline.eq_sum_fin_of_reset_step_apply_of_flush (fun n h => (outsAt0 m c n h).2) 8 (fun _ => 0)
    (fun t j => ∑ k : Fin 1024, A0 m c t (ix2 k (j 0)) * A1 m c t (ix2 k (j 1))) (fun t h j => ?_)
    (fun t h j => ?_) t h j).trans (by rw [zero_add])
  · rw [outsAt0_A m c t h (by omega)]
    frame_out
    pointwise [k0_pay2, k0_pay1]
  · by_cases h1 : t.val % 8 = 7
    · rw [outsAt0_C m c t h h1]
      frame_out
      pointwise [k0_pay2]
      simp only [read_unread_whole]
    · rw [outsAt0_B m c t h h1]
      frame_out
      pointwise [k0_pay2]
      simp only [read_unread_whole]

/-- What a tile's last point hands over: the accumulator. -/
theorem out_eq (c : Dev nD) (t : Fin cfg0.N) (h : t.val % 8 = 7) (j : S256x1024.Idx) :
    (outsAt0 m c t.val t.isLt).1 j = ((outsAt0 m c t.val t.isLt).2 j : EReal) := by
  rw [outsAt0_C m c t (by omega) h]
  frame_out

/-- The array that both programs leave. -/
def G (a : FVec Ideal S8192x2816 .f32) (b : FVec Ideal S8192x1024 .f32) : FVec Ideal S2816x1024 .f32 := fun i =>
  ∑ k : Fin 8192, a (ix2 k (i 0)) * b (ix2 k (i 1))

/-- The kernel's result is that array. -/
theorem final (c : Dev nD) : (dats m 0 c).arrAt 2 cfg0.N =
    G (m ((c : Thread nD τ).loc main_arg0)) (m ((c : Thread nD τ).loc main_arg2)) := by
  refine (dats m 0 c).arrAt_eq_of_covers 2 _ (by decide +kernel) fun t hf y => ?_
  blk_simp
  rw [after0_2]
  have ht : t.val % 8 = 7 := (flush0_2 t).mp hf
  obtain ⟨-, -, e2⟩ := idx t
  refine (out_eq m c t ht y).trans ?_
  rw [acc_eq m c t ht, G]
  refine Fin.sum_mul_add_congr fun s k hl => ?_
  obtain ⟨e0, e1, -⟩ := idx ⟨8 * (t.val / 8) + s.val, Pipeline.run_point_lt_of_flush t ht s⟩
  have hs := s.isLt
  congr 1
  · blk_ext! [A0, iblk, V, e0, e2]
  · blk_ext! [A1, iblk, V, e1, e2]

/-- The kernel over the extended reals leaves what the reference leaves. -/
theorem algebraic : algebraic_DownWIdeal_DownWRefIdeal := by
  intro m ρ m' ρ' _ hagree
  refine ⟨_, Cert.DownWIdeal.Value.run_blocks (F := Ideal) m ρ, ?_⟩
  refine (θ_run Cert.DownWRefIdeal.defs _ _).mono (fun _ h c => ⟨?_, (h c).2⟩) (Cert.DownWRefIdeal.Value.run (F := Ideal) m' ρ')
  rw [(h c).1, final]
  simp only [hagree c]
  funext i
  pointwise [G]
  exact Finset.sum_congr rfl fun _ _ => mul_comm _ _

/-- The reference's own run: it ends, and leaves its arguments. -/
theorem reference_frame : quiescent_DownWRefIdeal := fun m ρ _ =>
  (θ_run Cert.DownWRefIdeal.defs _ _).mono (fun r h => ⟨fun c => (h c).2, sem_eq_zero_of_no_sems (by decide) r.2⟩)
    (Cert.DownWRefIdeal.Value.run (F := Ideal) m ρ)

end Cert.Proof.DownW

end
-- ==== Proof.Mm.DownX.lean ====
module

public import proofs.«01_k».proof.Defs
public import proofs.«01_k».proof.Proof.Gen.DownXIdeal.Value
public import proofs.«01_k».proof.Proof.Gen.DownXRefIdeal.Run
public import Idealize.ShloMosaic.Lib.Pipeline.ValueKit
public import Idealize.ShloMosaic.Lib.Pipeline.ReadBack
public import Idealize.ShloMosaic.Lib.Pointwise

@[expose] public section

/-! # DownX: the gradient of the down projection's input

The kernel walks the tiles of the result, and for each tile the blocks of the contracted axis. It leaves the sum over the
whole axis, and the reference's product is that sum. -/

set_option maxRecDepth 16384

noncomputable section

namespace Cert.Proof.DownX

open Idealize.ShloMosaic Idealize.ShloMosaic.TcCoe Idealize.SL.Sem Cert.DownXIdeal Cert.DownXIdeal.Gen

variable (m : (ℓ : Loc nD τ sig) → Buf (Elt Ideal) ℓ)

/-- The blocks that the windows name at a grid point. -/
theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

/-- The blocks of the two factors at a grid point, as arrays of extended reals. -/
abbrev A0 (c : Dev nD) (t : Fin cfg0.N) : FVec Ideal S1024x1024 .bf16 := iblk m c 0 t
abbrev A1 (c : Dev nD) (t : Fin cfg0.N) : FVec Ideal S1408x1024 .bf16 := iblk m c 1 t

/-- What a grid point leaves of its tile: the product of its two blocks. -/
theorem out_eq (c : Dev nD) (t : Fin cfg0.N) (j : S1024x1408.Idx) :
    outsAt0 m c t j = ∑ k : Fin 1024, A0 m c t (ix2 (j 0) k) * A1 m c t (ix2 (j 1) k) := by
  unfold outsAt0
  frame_out
  pointwise [k0_pay1, k0_pay2]

/-- The array that both programs leave. -/
def G (a : FVec Ideal S8192x1024 .f32) (b : FVec Ideal S2816x1024 .f32) : FVec Ideal S8192x2816 .f32 := fun i =>
  ∑ k : Fin 1024, a (ix2 (i 0) k) * b (ix2 (i 1) k)

/-- The kernel's result is that array. -/
theorem final (c : Dev nD) : (dats m 0 c).arrAt 2 cfg0.N =
    G (m ((c : Thread nD τ).loc main_arg2)) (m ((c : Thread nD τ).loc main_arg1)) := by
  refine (dats m 0 c).arrAt_eq_of_covers 2 _ (by decide +kernel) fun t hf y => ?_
  blk_simp
  rw [after0_2]
  obtain ⟨e0, e1, e2⟩ := idx t
  refine (out_eq m c t y).trans ?_
  rw [G]
  refine Fin.sum_fin_congr fun k => ?_
  congr 1
  · blk_ext! [A0, iblk, V, e0, e2]
  · blk_ext! [A1, iblk, V, e1, e2]

/-- The kernel over the extended reals leaves what the reference leaves. -/
theorem algebraic : algebraic_DownXIdeal_DownXRefIdeal := by
  intro m ρ m' ρ' _ hagree
  refine ⟨_, Cert.DownXIdeal.Value.run_blocks (F := Ideal) m ρ, ?_⟩
  refine (θ_run Cert.DownXRefIdeal.defs _ _).mono (fun _ h c => ⟨?_, (h c).2⟩) (Cert.DownXRefIdeal.Value.run (F := Ideal) m' ρ')
  rw [(h c).1, final]
  simp only [hagree c]
  funext i
  pointwise [G]

/-- The reference's own run: it ends, and leaves its arguments. -/
theorem reference_frame : quiescent_DownXRefIdeal := fun m ρ _ =>
  (θ_run Cert.DownXRefIdeal.defs _ _).mono (fun r h => ⟨fun c => (h c).2, sem_eq_zero_of_no_sems (by decide) r.2⟩)
    (Cert.DownXRefIdeal.Value.run (F := Ideal) m ρ)

end Cert.Proof.DownX

end
-- ==== Proof.Mm.UpW.lean ====
module

public import proofs.«01_k».proof.Defs
public import proofs.«01_k».proof.Proof.Gen.UpWIdeal.Value
public import proofs.«01_k».proof.Proof.Gen.UpWRefIdeal.Run
public import Idealize.ShloMosaic.Lib.Pipeline.ValueKit
public import Idealize.ShloMosaic.Lib.Pipeline.ReadBack
public import Idealize.ShloMosaic.Lib.Pointwise

@[expose] public section

/-! # UpW: the gradient of the up projection

The kernel walks the tiles of the result, and for each tile the blocks of the contracted axis. It leaves the sum over the
whole axis, and the reference's product is that sum. -/

set_option maxRecDepth 16384

noncomputable section

namespace Cert.Proof.UpW

open Idealize.ShloMosaic Idealize.ShloMosaic.TcCoe Idealize.SL.Sem Cert.UpWIdeal Cert.UpWIdeal.Gen

variable (m : (ℓ : Loc nD τ sig) → Buf (Elt Ideal) ℓ)

/-- The blocks that the windows name at a grid point. -/
theorem idx : ∀ t : Fin cfg0.N, win0_0.index t = ![t.val % 8, 0] ∧ win0_1.index t = ![t.val % 8, t.val / 8]
    ∧ win0_2.index t = ![0, t.val / 8] :=
  (by decide +kernel : ∀ t : Fin grid0.N, _)

/-- The blocks of the two factors at a grid point, as arrays of extended reals. -/
abbrev A0 (c : Dev nD) (t : Fin cfg0.N) : FVec Ideal S1024x1024 .bf16 := iblk m c 0 t
abbrev A1 (c : Dev nD) (t : Fin cfg0.N) : FVec Ideal S1024x1408 .bf16 := iblk m c 1 t

/-- The accumulator at a tile's last point: the sum of the partial products of the tile's points. -/
theorem acc_eq (c : Dev nD) (t : Fin cfg0.N) (h : t.val % 8 = 7) (j : S1024x1408.Idx) :
    (outsAt0 m c t.val t.isLt).2 j = ∑ s : Fin 8, ∑ k : Fin 1024,
      A0 m c ⟨8 * (t.val / 8) + s.val, Pipeline.run_point_lt_of_flush t h s⟩ (ix2 k (j 0))
        * A1 m c ⟨8 * (t.val / 8) + s.val, Pipeline.run_point_lt_of_flush t h s⟩ (ix2 k (j 1)) := by
  refine (Pipeline.eq_sum_fin_of_reset_step_apply_of_flush (fun n h => (outsAt0 m c n h).2) 8 (fun _ => 0)
    (fun t j => ∑ k : Fin 1024, A0 m c t (ix2 k (j 0)) * A1 m c t (ix2 k (j 1))) (fun t h j => ?_)
    (fun t h j => ?_) t h j).trans (by rw [zero_add])
  · rw [outsAt0_A m c t h (by omega)]
    frame_out
    pointwise [k0_pay2, k0_pay1]
  · by_cases h1 : t.val % 8 = 7
    · rw [outsAt0_C m c t h h1]
      frame_out
      pointwise [k0_pay2]
      simp only [read_unread_whole]
    · rw [outsAt0_B m c t h h1]
      frame_out
      pointwise [k0_pay2]
      simp only [read_unread_whole]

/-- What a tile's last point hands over: the accumulator. -/
theorem out_eq (c : Dev nD) (t : Fin cfg0.N) (h : t.val % 8 = 7) (j : S1024x1408.Idx) :
    (outsAt0 m c t.val t.isLt).1 j = ((outsAt0 m c t.val t.isLt).2 j : EReal) := by
  rw [outsAt0_C m c t (by omega) h]
  frame_out

/-- The array that both programs leave. -/
def G (a : FVec Ideal S8192x1024 .f32) (b : FVec Ideal S8192x2816 .f32) : FVec Ideal S1024x2816 .f32 := fun i =>
  ∑ k : Fin 8192, a (ix2 k (i 0)) * b (ix2 k (i 1))

/-- The kernel's result is that array. -/
theorem final (c : Dev nD) : (dats m 0 c).arrAt 2 cfg0.N =
    G (m ((c : Thread nD τ).loc main_arg0)) (m ((c : Thread nD τ).loc main_arg2)) := by
  refine (dats m 0 c).arrAt_eq_of_covers 2 _ (by decide +kernel) fun t hf y => ?_
  blk_simp
  rw [after0_2]
  have ht : t.val % 8 = 7 := (flush0_2 t).mp hf
  obtain ⟨-, -, e2⟩ := idx t
  refine (out_eq m c t ht y).trans ?_
  rw [acc_eq m c t ht, G]
  refine Fin.sum_mul_add_congr fun s k hl => ?_
  obtain ⟨e0, e1, -⟩ := idx ⟨8 * (t.val / 8) + s.val, Pipeline.run_point_lt_of_flush t ht s⟩
  have hs := s.isLt
  congr 1
  · blk_ext! [A0, iblk, V, e0, e2]
  · blk_ext! [A1, iblk, V, e1, e2]

/-- The kernel over the extended reals leaves what the reference leaves. -/
theorem algebraic : algebraic_UpWIdeal_UpWRefIdeal := by
  intro m ρ m' ρ' _ hagree
  refine ⟨_, Cert.UpWIdeal.Value.run_blocks (F := Ideal) m ρ, ?_⟩
  refine (θ_run Cert.UpWRefIdeal.defs _ _).mono (fun _ h c => ⟨?_, (h c).2⟩) (Cert.UpWRefIdeal.Value.run (F := Ideal) m' ρ')
  rw [(h c).1, final]
  simp only [hagree c]
  funext i
  pointwise [G]
  exact Finset.sum_congr rfl fun _ _ => mul_comm _ _

/-- The reference's own run: it ends, and leaves its arguments. -/
theorem reference_frame : quiescent_UpWRefIdeal := fun m ρ _ =>
  (θ_run Cert.UpWRefIdeal.defs _ _).mono (fun r h => ⟨fun c => (h c).2, sem_eq_zero_of_no_sems (by decide) r.2⟩)
    (Cert.UpWRefIdeal.Value.run (F := Ideal) m ρ)

end Cert.Proof.UpW

end
-- ==== Proof.Mm.UpX.lean ====
module

public import proofs.«01_k».proof.Defs
public import proofs.«01_k».proof.Proof.Gen.UpXIdeal.Value
public import proofs.«01_k».proof.Proof.Gen.UpXRefIdeal.Run
public import Idealize.ShloMosaic.Lib.Pipeline.ValueKit
public import Idealize.ShloMosaic.Lib.Pipeline.ReadBack
public import Idealize.ShloMosaic.Lib.Pointwise

@[expose] public section

/-! # UpX: the gradient of the up projection's input with the scaled residual

The kernel walks the tiles of the result, and for each tile the blocks of the contracted axis. It leaves the sum over the
whole axis, and the reference's product is that sum. -/

set_option maxRecDepth 16384

noncomputable section

namespace Cert.Proof.UpX

open Idealize.ShloMosaic Idealize.ShloMosaic.TcCoe Idealize.SL.Sem Cert.UpXIdeal Cert.UpXIdeal.Gen

variable (m : (ℓ : Loc nD τ sig) → Buf (Elt Ideal) ℓ)

/-- The blocks that the windows name at a grid point. -/
theorem idx : ∀ t : Fin cfg0.N, win0_0.index t = ![t.val / 2, t.val % 2] ∧ win0_1.index t = ![0, t.val % 2]
    ∧ win0_2.index t = ![t.val / 2, 0] ∧ win0_3.index t = ![t.val / 2, 0] :=
  (by decide +kernel : ∀ t : Fin grid0.N, _)

/-- The blocks of the two factors at a grid point, as arrays of extended reals. -/
abbrev A0 (c : Dev nD) (t : Fin cfg0.N) : FVec Ideal S1024x1408 .bf16 := iblk m c 0 t
abbrev A1 (c : Dev nD) (t : Fin cfg0.N) : FVec Ideal S1024x1408 .bf16 := iblk m c 1 t

/-- The accumulator at a tile's last point: the sum of the partial products of the tile's points. -/
theorem acc_eq (c : Dev nD) (t : Fin cfg0.N) (h : t.val % 2 = 1) (j : S1024x1024.Idx) :
    (outsAt0 m c t.val t.isLt).2 j = ∑ s : Fin 2, ∑ k : Fin 1408,
      A0 m c ⟨2 * (t.val / 2) + s.val, Pipeline.run_point_lt_of_flush t h s⟩ (ix2 (j 0) k)
        * A1 m c ⟨2 * (t.val / 2) + s.val, Pipeline.run_point_lt_of_flush t h s⟩ (ix2 (j 1) k) := by
  refine (Pipeline.eq_sum_fin_of_reset_step_apply_of_flush (fun n h => (outsAt0 m c n h).2) 2 (fun _ => 0)
    (fun t j => ∑ k : Fin 1408, A0 m c t (ix2 (j 0) k) * A1 m c t (ix2 (j 1) k)) (fun t h j => ?_)
    (fun t h j => ?_) t h j).trans (by rw [zero_add])
  · rw [outsAt0_A m c t h (by omega)]
    frame_out
    pointwise [k0_pay2, k0_pay1]
  · rw [outsAt0_B m c t h (by omega)]
    frame_out
    pointwise [k0_pay2]
    simp only [read_unread_whole]

/-- What a tile's last point hands over: the accumulator, and the residual. -/
theorem out_eq (c : Dev nD) (t : Fin cfg0.N) (h : t.val % 2 = 1) (j : S1024x1024.Idx) :
    (outsAt0 m c t.val t.isLt).1 j = ((outsAt0 m c t.val t.isLt).2 j : EReal)
      + Ideal.ofBits FTy.f32 1071072509#32 * (iblk m c 2 t : FVec Ideal S1024x1024 .f32) j := by
  rw [outsAt0_B m c t (by omega) h]
  frame_out
  pointwise [k0_pay3]

/-- The array that both programs leave. -/
def G (a : FVec Ideal S8192x2816 .f32) (b : FVec Ideal S1024x2816 .f32) (r : FVec Ideal S8192x1024 .f32) : FVec Ideal S8192x1024 .f32 := fun i =>
  (∑ k : Fin 2816, a (ix2 (i 0) k) * b (ix2 (i 1) k)) + Ideal.ofBits FTy.f32 1071072509#32 * r i

/-- The kernel's result is that array. -/
theorem final (c : Dev nD) : (dats m 0 c).arrAt 3 cfg0.N =
    G (m ((c : Thread nD τ).loc main_arg2)) (m ((c : Thread nD τ).loc main_arg1)) (m ((c : Thread nD τ).loc main_arg3)) := by
  refine (dats m 0 c).arrAt_eq_of_covers 3 _ (by decide +kernel) fun t hf y => ?_
  blk_simp
  rw [after0_3]
  have ht : t.val % 2 = 1 := (flush0_3 t).mp hf
  obtain ⟨-, -, e2, e3⟩ := idx t
  refine (out_eq m c t ht y).trans ?_
  rw [acc_eq m c t ht, G]
  congr 1
  refine Fin.sum_mul_add_congr fun s k hl => ?_
  obtain ⟨e0, e1, -, -⟩ := idx ⟨2 * (t.val / 2) + s.val, Pipeline.run_point_lt_of_flush t ht s⟩
  have hs := s.isLt
  congr 1
  · blk_ext! [A0, iblk, V, e0, e3]
  · blk_ext! [A1, iblk, V, e1, e3]

/-- The kernel over the extended reals leaves what the reference leaves. -/
theorem algebraic : algebraic_UpXIdeal_UpXRefIdeal := by
  intro m ρ m' ρ' _ hagree
  refine ⟨_, Cert.UpXIdeal.Value.run_blocks (F := Ideal) m ρ, ?_⟩
  refine (θ_run Cert.UpXRefIdeal.defs _ _).mono (fun _ h c => ⟨?_, (h c).2⟩) (Cert.UpXRefIdeal.Value.run (F := Ideal) m' ρ')
  rw [(h c).1, final]
  simp only [hagree c]
  funext i
  pointwise [G]
  exact add_comm _ _

/-- The reference's own run: it ends, and leaves its arguments. -/
theorem reference_frame : quiescent_UpXRefIdeal := fun m ρ _ =>
  (θ_run Cert.UpXRefIdeal.defs _ _).mono (fun r h => ⟨fun c => (h c).2, sem_eq_zero_of_no_sems (by decide) r.2⟩)
    (Cert.UpXRefIdeal.Value.run (F := Ideal) m ρ)

end Cert.Proof.UpX

end
-- ==== Proof.Mm.UpX2.lean ====
module

public import proofs.«01_k».proof.Defs
public import proofs.«01_k».proof.Proof.Gen.UpX2Ideal.Value
public import proofs.«01_k».proof.Proof.Gen.UpX2RefIdeal.Run
public import Idealize.ShloMosaic.Lib.Pipeline.ValueKit
public import Idealize.ShloMosaic.Lib.Pipeline.ReadBack
public import Idealize.ShloMosaic.Lib.Pointwise

@[expose] public section

/-! # UpX2: the gradient of the gate projection's input with the sum so far

The kernel walks the tiles of the result, and for each tile the blocks of the contracted axis. It leaves the sum over the
whole axis, and the reference's product is that sum. -/

set_option maxRecDepth 16384

noncomputable section

namespace Cert.Proof.UpX2

open Idealize.ShloMosaic Idealize.ShloMosaic.TcCoe Idealize.SL.Sem Cert.UpX2Ideal Cert.UpX2Ideal.Gen

variable (m : (ℓ : Loc nD τ sig) → Buf (Elt Ideal) ℓ)

/-- The blocks that the windows name at a grid point. -/
theorem idx : ∀ t : Fin cfg0.N, win0_0.index t = ![t.val / 2, t.val % 2] ∧ win0_1.index t = ![0, t.val % 2]
    ∧ win0_2.index t = ![t.val / 2, 0] ∧ win0_3.index t = ![t.val / 2, 0] :=
  (by decide +kernel : ∀ t : Fin grid0.N, _)

/-- The blocks of the two factors at a grid point, as arrays of extended reals. -/
abbrev A0 (c : Dev nD) (t : Fin cfg0.N) : FVec Ideal S1024x1408 .bf16 := iblk m c 0 t
abbrev A1 (c : Dev nD) (t : Fin cfg0.N) : FVec Ideal S1024x1408 .bf16 := iblk m c 1 t

/-- The accumulator at a tile's last point: the sum of the partial products of the tile's points. -/
theorem acc_eq (c : Dev nD) (t : Fin cfg0.N) (h : t.val % 2 = 1) (j : S1024x1024.Idx) :
    (outsAt0 m c t.val t.isLt).2 j = ∑ s : Fin 2, ∑ k : Fin 1408,
      A0 m c ⟨2 * (t.val / 2) + s.val, Pipeline.run_point_lt_of_flush t h s⟩ (ix2 (j 0) k)
        * A1 m c ⟨2 * (t.val / 2) + s.val, Pipeline.run_point_lt_of_flush t h s⟩ (ix2 (j 1) k) := by
  refine (Pipeline.eq_sum_fin_of_reset_step_apply_of_flush (fun n h => (outsAt0 m c n h).2) 2 (fun _ => 0)
    (fun t j => ∑ k : Fin 1408, A0 m c t (ix2 (j 0) k) * A1 m c t (ix2 (j 1) k)) (fun t h j => ?_)
    (fun t h j => ?_) t h j).trans (by rw [zero_add])
  · rw [outsAt0_A m c t h (by omega)]
    frame_out
    pointwise [k0_pay2, k0_pay1]
  · rw [outsAt0_B m c t h (by omega)]
    frame_out
    pointwise [k0_pay2]
    simp only [read_unread_whole]

/-- What a tile's last point hands over: the accumulator, and the residual. -/
theorem out_eq (c : Dev nD) (t : Fin cfg0.N) (h : t.val % 2 = 1) (j : S1024x1024.Idx) :
    (outsAt0 m c t.val t.isLt).1 j = ((outsAt0 m c t.val t.isLt).2 j : EReal)
      + (iblk m c 2 t : FVec Ideal S1024x1024 .f32) j := by
  rw [outsAt0_B m c t (by omega) h]
  frame_out
  pointwise [k0_pay3]

/-- The array that both programs leave. -/
def G (a : FVec Ideal S8192x2816 .f32) (b : FVec Ideal S1024x2816 .f32) (r : FVec Ideal S8192x1024 .f32) : FVec Ideal S8192x1024 .f32 := fun i =>
  (∑ k : Fin 2816, a (ix2 (i 0) k) * b (ix2 (i 1) k)) + r i

/-- The kernel's result is that array. -/
theorem final (c : Dev nD) : (dats m 0 c).arrAt 3 cfg0.N =
    G (m ((c : Thread nD τ).loc main_arg2)) (m ((c : Thread nD τ).loc main_arg1)) (m ((c : Thread nD τ).loc main_arg3)) := by
  refine (dats m 0 c).arrAt_eq_of_covers 3 _ (by decide +kernel) fun t hf y => ?_
  blk_simp
  rw [after0_3]
  have ht : t.val % 2 = 1 := (flush0_3 t).mp hf
  obtain ⟨-, -, e2, e3⟩ := idx t
  refine (out_eq m c t ht y).trans ?_
  rw [acc_eq m c t ht, G]
  congr 1
  refine Fin.sum_mul_add_congr fun s k hl => ?_
  obtain ⟨e0, e1, -, -⟩ := idx ⟨2 * (t.val / 2) + s.val, Pipeline.run_point_lt_of_flush t ht s⟩
  have hs := s.isLt
  congr 1
  · blk_ext! [A0, iblk, V, e0, e3]
  · blk_ext! [A1, iblk, V, e1, e3]

/-- The kernel over the extended reals leaves what the reference leaves. -/
theorem algebraic : algebraic_UpX2Ideal_UpX2RefIdeal := by
  intro m ρ m' ρ' _ hagree
  refine ⟨_, Cert.UpX2Ideal.Value.run_blocks (F := Ideal) m ρ, ?_⟩
  refine (θ_run Cert.UpX2RefIdeal.defs _ _).mono (fun _ h c => ⟨?_, (h c).2⟩) (Cert.UpX2RefIdeal.Value.run (F := Ideal) m' ρ')
  rw [(h c).1, final]
  simp only [hagree c]
  funext i
  pointwise [G]
  exact add_comm _ _

/-- The reference's own run: it ends, and leaves its arguments. -/
theorem reference_frame : quiescent_UpX2RefIdeal := fun m ρ _ =>
  (θ_run Cert.UpX2RefIdeal.defs _ _).mono (fun r h => ⟨fun c => (h c).2, sem_eq_zero_of_no_sems (by decide) r.2⟩)
    (Cert.UpX2RefIdeal.Value.run (F := Ideal) m ρ)

end Cert.Proof.UpX2

end
-- ==== Proof.Mm.OutW.lean ====
module

public import proofs.«01_k».proof.Defs
public import proofs.«01_k».proof.Proof.Gen.OutWIdeal.Value
public import proofs.«01_k».proof.Proof.Gen.OutWRefIdeal.Run
public import Idealize.ShloMosaic.Lib.Pipeline.ValueKit
public import Idealize.ShloMosaic.Lib.Pipeline.ReadBack
public import Idealize.ShloMosaic.Lib.Pointwise

@[expose] public section

/-! # OutW: the gradient of an output projection

The kernel walks the tiles of the result, and for each tile the blocks of the contracted axis. It leaves the sum over the
whole axis, and the reference's product is that sum. -/

set_option maxRecDepth 16384

noncomputable section

namespace Cert.Proof.OutW

open Idealize.ShloMosaic Idealize.ShloMosaic.TcCoe Idealize.SL.Sem Cert.OutWIdeal Cert.OutWIdeal.Gen

variable (m : (ℓ : Loc nD τ sig) → Buf (Elt Ideal) ℓ)

/-- The blocks that the windows name at a grid point. -/
theorem idx : ∀ t : Fin cfg0.N, win0_0.index t = ![t.val % 8, 0] ∧ win0_1.index t = ![t.val % 8, 0]
    ∧ win0_2.index t = ![0, 0] :=
  (by decide +kernel : ∀ t : Fin grid0.N, _)

/-- The blocks of the two factors at a grid point, as arrays of extended reals. -/
abbrev A0 (c : Dev nD) (t : Fin cfg0.N) : FVec Ideal S1024x1024 .bf16 := iblk m c 0 t
abbrev A1 (c : Dev nD) (t : Fin cfg0.N) : FVec Ideal S1024x1024 .bf16 := iblk m c 1 t

/-- The accumulator at a tile's last point: the sum of the partial products of the tile's points. -/
theorem acc_eq (c : Dev nD) (t : Fin cfg0.N) (h : t.val % 8 = 7) (j : S1024x1024.Idx) :
    (outsAt0 m c t.val t.isLt).2 j = ∑ s : Fin 8, ∑ k : Fin 1024,
      A0 m c ⟨8 * (t.val / 8) + s.val, Pipeline.run_point_lt_of_flush t h s⟩ (ix2 k (j 0))
        * A1 m c ⟨8 * (t.val / 8) + s.val, Pipeline.run_point_lt_of_flush t h s⟩ (ix2 k (j 1)) := by
  refine (Pipeline.eq_sum_fin_of_reset_step_apply_of_flush (fun n h => (outsAt0 m c n h).2) 8 (fun _ => 0)
    (fun t j => ∑ k : Fin 1024, A0 m c t (ix2 k (j 0)) * A1 m c t (ix2 k (j 1))) (fun t h j => ?_)
    (fun t h j => ?_) t h j).trans (by rw [zero_add])
  · rw [outsAt0_A m c t h (by omega)]
    frame_out
    pointwise [k0_pay2, k0_pay1]
  · by_cases h1 : t.val % 8 = 7
    · rw [outsAt0_C m c t h h1]
      frame_out
      pointwise [k0_pay2]
      simp only [read_unread_whole]
    · rw [outsAt0_B m c t h h1]
      frame_out
      pointwise [k0_pay2]
      simp only [read_unread_whole]

/-- What a tile's last point hands over: the accumulator. -/
theorem out_eq (c : Dev nD) (t : Fin cfg0.N) (h : t.val % 8 = 7) (j : S1024x1024.Idx) :
    (outsAt0 m c t.val t.isLt).1 j = ((outsAt0 m c t.val t.isLt).2 j : EReal) := by
  rw [outsAt0_C m c t (by omega) h]
  frame_out

/-- The array that both programs leave. -/
def G (a : FVec Ideal S8192x1024 .f32) (b : FVec Ideal S8192x1024 .f32) : FVec Ideal S1024x1024 .f32 := fun i =>
  ∑ k : Fin 8192, a (ix2 k (i 0)) * b (ix2 k (i 1))

/-- The kernel's result is that array. -/
theorem final (c : Dev nD) : (dats m 0 c).arrAt 2 cfg0.N =
    G (m ((c : Thread nD τ).loc main_arg0)) (m ((c : Thread nD τ).loc main_arg2)) := by
  refine (dats m 0 c).arrAt_eq_of_covers 2 _ (by decide +kernel) fun t hf y => ?_
  blk_simp
  rw [after0_2]
  have ht : t.val % 8 = 7 := (flush0_2 t).mp hf
  obtain ⟨-, -, e2⟩ := idx t
  refine (out_eq m c t ht y).trans ?_
  rw [acc_eq m c t ht, G]
  refine Fin.sum_mul_add_congr fun s k hl => ?_
  obtain ⟨e0, e1, -⟩ := idx ⟨8 * (t.val / 8) + s.val, Pipeline.run_point_lt_of_flush t ht s⟩
  have hs := s.isLt
  congr 1
  · blk_ext! [A0, iblk, V, e0, e2]
  · blk_ext! [A1, iblk, V, e1, e2]

/-- The kernel over the extended reals leaves what the reference leaves. -/
theorem algebraic : algebraic_OutWIdeal_OutWRefIdeal := by
  intro m ρ m' ρ' _ hagree
  refine ⟨_, Cert.OutWIdeal.Value.run_blocks (F := Ideal) m ρ, ?_⟩
  refine (θ_run Cert.OutWRefIdeal.defs _ _).mono (fun _ h c => ⟨?_, (h c).2⟩) (Cert.OutWRefIdeal.Value.run (F := Ideal) m' ρ')
  rw [(h c).1, final]
  simp only [hagree c]
  funext i
  pointwise [G]
  exact Finset.sum_congr rfl fun _ _ => mul_comm _ _

/-- The reference's own run: it ends, and leaves its arguments. -/
theorem reference_frame : quiescent_OutWRefIdeal := fun m ρ _ =>
  (θ_run Cert.OutWRefIdeal.defs _ _).mono (fun r h => ⟨fun c => (h c).2, sem_eq_zero_of_no_sems (by decide) r.2⟩)
    (Cert.OutWRefIdeal.Value.run (F := Ideal) m ρ)

end Cert.Proof.OutW

end
-- ==== Proof.Mm.OutX.lean ====
module

public import proofs.«01_k».proof.Defs
public import proofs.«01_k».proof.Proof.Gen.OutXIdeal.Value
public import proofs.«01_k».proof.Proof.Gen.OutXRefIdeal.Run
public import Idealize.ShloMosaic.Lib.Pipeline.ValueKit
public import Idealize.ShloMosaic.Lib.Pipeline.ReadBack
public import Idealize.ShloMosaic.Lib.Pointwise

@[expose] public section

/-! # OutX: the gradient of the attention's output

The kernel walks the tiles of the result, and for each tile the blocks of the contracted axis. It leaves the sum over the
whole axis, and the reference's product is that sum. -/

set_option maxRecDepth 16384

noncomputable section

namespace Cert.Proof.OutX

open Idealize.ShloMosaic Idealize.ShloMosaic.TcCoe Idealize.SL.Sem Cert.OutXIdeal Cert.OutXIdeal.Gen

variable (m : (ℓ : Loc nD τ sig) → Buf (Elt Ideal) ℓ)

/-- The blocks that the windows name at a grid point. -/
theorem idx : ∀ t : Fin cfg0.N, win0_0.index t = ![t.val, 0] ∧ win0_1.index t = ![0, 0]
    ∧ win0_2.index t = ![t.val, 0] :=
  (by decide +kernel : ∀ t : Fin grid0.N, _)

/-- The blocks of the two factors at a grid point, as arrays of extended reals. -/
abbrev A0 (c : Dev nD) (t : Fin cfg0.N) : FVec Ideal S1024x1024 .bf16 := iblk m c 0 t
abbrev A1 (c : Dev nD) (t : Fin cfg0.N) : FVec Ideal S1024x1024 .bf16 := iblk m c 1 t

/-- What a grid point leaves of its tile: the product of its two blocks. -/
theorem out_eq (c : Dev nD) (t : Fin cfg0.N) (j : S1024x1024.Idx) :
    outsAt0 m c t j = ∑ k : Fin 1024, A0 m c t (ix2 (j 0) k) * A1 m c t (ix2 (j 1) k) := by
  unfold outsAt0
  frame_out
  pointwise [k0_pay1, k0_pay2, k0_pay3]

/-- The array that both programs leave. -/
def G (a : FVec Ideal S8192x1024 .f32) (b : FVec Ideal S1024x1024 .f32) : FVec Ideal S8192x1024 .bf16 := fun i =>
  ∑ k : Fin 1024, a (ix2 (i 0) k) * b (ix2 (i 1) k)

/-- The kernel's result is that array. -/
theorem final (c : Dev nD) : (dats m 0 c).arrAt 2 cfg0.N =
    G (m ((c : Thread nD τ).loc main_arg2)) (m ((c : Thread nD τ).loc main_arg1)) := by
  refine (dats m 0 c).arrAt_eq_of_covers 2 _ (by decide +kernel) fun t hf y => ?_
  blk_simp
  rw [after0_2]
  obtain ⟨e0, e1, e2⟩ := idx t
  refine (out_eq m c t y).trans ?_
  rw [G]
  refine Fin.sum_fin_congr fun k => ?_
  congr 1
  · blk_ext! [A0, iblk, V, e0, e2]
  · blk_ext! [A1, iblk, V, e1, e2]

/-- The kernel over the extended reals leaves what the reference leaves. -/
theorem algebraic : algebraic_OutXIdeal_OutXRefIdeal := by
  intro m ρ m' ρ' _ hagree
  refine ⟨_, Cert.OutXIdeal.Value.run_blocks (F := Ideal) m ρ, ?_⟩
  refine (θ_run Cert.OutXRefIdeal.defs _ _).mono (fun _ h c => ⟨?_, (h c).2⟩) (Cert.OutXRefIdeal.Value.run (F := Ideal) m' ρ')
  rw [(h c).1, final]
  simp only [hagree c]
  funext i
  pointwise [G]

/-- The reference's own run: it ends, and leaves its arguments. -/
theorem reference_frame : quiescent_OutXRefIdeal := fun m ρ _ =>
  (θ_run Cert.OutXRefIdeal.defs _ _).mono (fun r h => ⟨fun c => (h c).2, sem_eq_zero_of_no_sems (by decide) r.2⟩)
    (Cert.OutXRefIdeal.Value.run (F := Ideal) m ρ)

end Cert.Proof.OutX

end
-- ==== Proof.Mm.OutX2.lean ====
module

public import proofs.«01_k».proof.Defs
public import proofs.«01_k».proof.Proof.Gen.OutX2Ideal.Value
public import proofs.«01_k».proof.Proof.Gen.OutX2RefIdeal.Run
public import Idealize.ShloMosaic.Lib.Pipeline.ValueKit
public import Idealize.ShloMosaic.Lib.Pipeline.ReadBack
public import Idealize.ShloMosaic.Lib.Pointwise

@[expose] public section

/-! # OutX2: the gradient of the linear attention's output

The kernel walks the tiles of the result, and for each tile the blocks of the contracted axis. It leaves the sum over the
whole axis, and the reference's product is that sum. -/

set_option maxRecDepth 16384

noncomputable section

namespace Cert.Proof.OutX2

open Idealize.ShloMosaic Idealize.ShloMosaic.TcCoe Idealize.SL.Sem Cert.OutX2Ideal Cert.OutX2Ideal.Gen

variable (m : (ℓ : Loc nD τ sig) → Buf (Elt Ideal) ℓ)

/-- The blocks that the windows name at a grid point. -/
theorem idx : ∀ t : Fin cfg0.N, win0_0.index t = ![t.val, 0] ∧ win0_1.index t = ![0, 0]
    ∧ win0_2.index t = ![t.val, 0] :=
  (by decide +kernel : ∀ t : Fin grid0.N, _)

/-- The blocks of the two factors at a grid point, as arrays of extended reals. -/
abbrev A0 (c : Dev nD) (t : Fin cfg0.N) : FVec Ideal S1024x1024 .bf16 := iblk m c 0 t
abbrev A1 (c : Dev nD) (t : Fin cfg0.N) : FVec Ideal S1024x1024 .bf16 := iblk m c 1 t

/-- What a grid point leaves of its tile: the product of its two blocks. -/
theorem out_eq (c : Dev nD) (t : Fin cfg0.N) (j : S1024x1024.Idx) :
    outsAt0 m c t j = ∑ k : Fin 1024, A0 m c t (ix2 (j 0) k) * A1 m c t (ix2 (j 1) k) := by
  unfold outsAt0
  frame_out
  pointwise [k0_pay1, k0_pay2]

/-- The array that both programs leave. -/
def G (a : FVec Ideal S8192x1024 .f32) (b : FVec Ideal S1024x1024 .f32) : FVec Ideal S8192x1024 .f32 := fun i =>
  ∑ k : Fin 1024, a (ix2 (i 0) k) * b (ix2 (i 1) k)

/-- The kernel's result is that array. -/
theorem final (c : Dev nD) : (dats m 0 c).arrAt 2 cfg0.N =
    G (m ((c : Thread nD τ).loc main_arg2)) (m ((c : Thread nD τ).loc main_arg1)) := by
  refine (dats m 0 c).arrAt_eq_of_covers 2 _ (by decide +kernel) fun t hf y => ?_
  blk_simp
  rw [after0_2]
  obtain ⟨e0, e1, e2⟩ := idx t
  refine (out_eq m c t y).trans ?_
  rw [G]
  refine Fin.sum_fin_congr fun k => ?_
  congr 1
  · blk_ext! [A0, iblk, V, e0, e2]
  · blk_ext! [A1, iblk, V, e1, e2]

/-- The kernel over the extended reals leaves what the reference leaves. -/
theorem algebraic : algebraic_OutX2Ideal_OutX2RefIdeal := by
  intro m ρ m' ρ' _ hagree
  refine ⟨_, Cert.OutX2Ideal.Value.run_blocks (F := Ideal) m ρ, ?_⟩
  refine (θ_run Cert.OutX2RefIdeal.defs _ _).mono (fun _ h c => ⟨?_, (h c).2⟩) (Cert.OutX2RefIdeal.Value.run (F := Ideal) m' ρ')
  rw [(h c).1, final]
  simp only [hagree c]
  funext i
  pointwise [G]

/-- The reference's own run: it ends, and leaves its arguments. -/
theorem reference_frame : quiescent_OutX2RefIdeal := fun m ρ _ =>
  (θ_run Cert.OutX2RefIdeal.defs _ _).mono (fun r h => ⟨fun c => (h c).2, sem_eq_zero_of_no_sems (by decide) r.2⟩)
    (Cert.OutX2RefIdeal.Value.run (F := Ideal) m ρ)

end Cert.Proof.OutX2

end
-- ==== Proof.Mm.QkvW.lean ====
module

public import proofs.«01_k».proof.Defs
public import proofs.«01_k».proof.Proof.Gen.QkvWIdeal.Value
public import proofs.«01_k».proof.Proof.Gen.QkvWRefIdeal.Run
public import Idealize.ShloMosaic.Lib.Pipeline.ValueKit
public import Idealize.ShloMosaic.Lib.Pipeline.ReadBack
public import Idealize.ShloMosaic.Lib.Pointwise

@[expose] public section

/-! # QkvW: the gradient of the query, key and value projection

The kernel walks the tiles of the result, and for each tile the blocks of the contracted axis. It leaves the sum over the
whole axis, and the reference's product is that sum. -/

set_option maxRecDepth 16384

noncomputable section

namespace Cert.Proof.QkvW

open Idealize.ShloMosaic Idealize.ShloMosaic.TcCoe Idealize.SL.Sem Cert.QkvWIdeal Cert.QkvWIdeal.Gen

variable (m : (ℓ : Loc nD τ sig) → Buf (Elt Ideal) ℓ)

/-- The blocks that the windows name at a grid point. -/
theorem idx : ∀ t : Fin cfg0.N, win0_0.index t = ![t.val % 8, 0] ∧ win0_1.index t = ![t.val % 8, t.val / 8]
    ∧ win0_2.index t = ![0, t.val / 8] :=
  (by decide +kernel : ∀ t : Fin grid0.N, _)

/-- The blocks of the two factors at a grid point, as arrays of extended reals. -/
abbrev A0 (c : Dev nD) (t : Fin cfg0.N) : FVec Ideal S1024x1024 .bf16 := iblk m c 0 t
abbrev A1 (c : Dev nD) (t : Fin cfg0.N) : FVec Ideal S1024x1024 .bf16 := iblk m c 1 t

/-- The accumulator at a tile's last point: the sum of the partial products of the tile's points. -/
theorem acc_eq (c : Dev nD) (t : Fin cfg0.N) (h : t.val % 8 = 7) (j : S1024x1024.Idx) :
    (outsAt0 m c t.val t.isLt).2 j = ∑ s : Fin 8, ∑ k : Fin 1024,
      A0 m c ⟨8 * (t.val / 8) + s.val, Pipeline.run_point_lt_of_flush t h s⟩ (ix2 k (j 0))
        * A1 m c ⟨8 * (t.val / 8) + s.val, Pipeline.run_point_lt_of_flush t h s⟩ (ix2 k (j 1)) := by
  refine (Pipeline.eq_sum_fin_of_reset_step_apply_of_flush (fun n h => (outsAt0 m c n h).2) 8 (fun _ => 0)
    (fun t j => ∑ k : Fin 1024, A0 m c t (ix2 k (j 0)) * A1 m c t (ix2 k (j 1))) (fun t h j => ?_)
    (fun t h j => ?_) t h j).trans (by rw [zero_add])
  · rw [outsAt0_A m c t h (by omega)]
    frame_out
    pointwise [k0_pay2, k0_pay1]
  · by_cases h1 : t.val % 8 = 7
    · rw [outsAt0_C m c t h h1]
      frame_out
      pointwise [k0_pay2]
      simp only [read_unread_whole]
    · rw [outsAt0_B m c t h h1]
      frame_out
      pointwise [k0_pay2]
      simp only [read_unread_whole]

/-- What a tile's last point hands over: the accumulator. -/
theorem out_eq (c : Dev nD) (t : Fin cfg0.N) (h : t.val % 8 = 7) (j : S1024x1024.Idx) :
    (outsAt0 m c t.val t.isLt).1 j = ((outsAt0 m c t.val t.isLt).2 j : EReal) := by
  rw [outsAt0_C m c t (by omega) h]
  frame_out

/-- The array that both programs leave. -/
def G (a : FVec Ideal S8192x1024 .f32) (b : FVec Ideal S8192x3072 .f32) : FVec Ideal S1024x3072 .f32 := fun i =>
  ∑ k : Fin 8192, a (ix2 k (i 0)) * b (ix2 k (i 1))

/-- The kernel's result is that array. -/
theorem final (c : Dev nD) : (dats m 0 c).arrAt 2 cfg0.N =
    G (m ((c : Thread nD τ).loc main_arg0)) (m ((c : Thread nD τ).loc main_arg2)) := by
  refine (dats m 0 c).arrAt_eq_of_covers 2 _ (by decide +kernel) fun t hf y => ?_
  blk_simp
  rw [after0_2]
  have ht : t.val % 8 = 7 := (flush0_2 t).mp hf
  obtain ⟨-, -, e2⟩ := idx t
  refine (out_eq m c t ht y).trans ?_
  rw [acc_eq m c t ht, G]
  refine Fin.sum_mul_add_congr fun s k hl => ?_
  obtain ⟨e0, e1, -⟩ := idx ⟨8 * (t.val / 8) + s.val, Pipeline.run_point_lt_of_flush t ht s⟩
  have hs := s.isLt
  congr 1
  · blk_ext! [A0, iblk, V, e0, e2]
  · blk_ext! [A1, iblk, V, e1, e2]

/-- The kernel over the extended reals leaves what the reference leaves. -/
theorem algebraic : algebraic_QkvWIdeal_QkvWRefIdeal := by
  intro m ρ m' ρ' _ hagree
  refine ⟨_, Cert.QkvWIdeal.Value.run_blocks (F := Ideal) m ρ, ?_⟩
  refine (θ_run Cert.QkvWRefIdeal.defs _ _).mono (fun _ h c => ⟨?_, (h c).2⟩) (Cert.QkvWRefIdeal.Value.run (F := Ideal) m' ρ')
  rw [(h c).1, final]
  simp only [hagree c]
  funext i
  pointwise [G]
  exact Finset.sum_congr rfl fun _ _ => mul_comm _ _

/-- The reference's own run: it ends, and leaves its arguments. -/
theorem reference_frame : quiescent_QkvWRefIdeal := fun m ρ _ =>
  (θ_run Cert.QkvWRefIdeal.defs _ _).mono (fun r h => ⟨fun c => (h c).2, sem_eq_zero_of_no_sems (by decide) r.2⟩)
    (Cert.QkvWRefIdeal.Value.run (F := Ideal) m ρ)

end Cert.Proof.QkvW

end
-- ==== Proof.Mm.QkvX.lean ====
module

public import proofs.«01_k».proof.Defs
public import proofs.«01_k».proof.Proof.Gen.QkvXIdeal.Value
public import proofs.«01_k».proof.Proof.Gen.QkvXRefIdeal.Run
public import Idealize.ShloMosaic.Lib.Pipeline.ValueKit
public import Idealize.ShloMosaic.Lib.Pipeline.ReadBack
public import Idealize.ShloMosaic.Lib.Pointwise

@[expose] public section

/-! # QkvX: the gradient of its input with the scaled residual

The kernel walks the tiles of the result, and for each tile the blocks of the contracted axis. It leaves the sum over the
whole axis, and the reference's product is that sum. -/

set_option maxRecDepth 16384

noncomputable section

namespace Cert.Proof.QkvX

open Idealize.ShloMosaic Idealize.ShloMosaic.TcCoe Idealize.SL.Sem Cert.QkvXIdeal Cert.QkvXIdeal.Gen

variable (m : (ℓ : Loc nD τ sig) → Buf (Elt Ideal) ℓ)

/-- The blocks that the windows name at a grid point. -/
theorem idx : ∀ t : Fin cfg0.N, win0_0.index t = ![t.val / 3, t.val % 3] ∧ win0_1.index t = ![0, t.val % 3]
    ∧ win0_2.index t = ![t.val / 3, 0] ∧ win0_3.index t = ![t.val / 3, 0] :=
  (by decide +kernel : ∀ t : Fin grid0.N, _)

/-- The blocks of the two factors at a grid point, as arrays of extended reals. -/
abbrev A0 (c : Dev nD) (t : Fin cfg0.N) : FVec Ideal S1024x1024 .bf16 := iblk m c 0 t
abbrev A1 (c : Dev nD) (t : Fin cfg0.N) : FVec Ideal S1024x1024 .bf16 := iblk m c 1 t

/-- The accumulator at a tile's last point: the sum of the partial products of the tile's points. -/
theorem acc_eq (c : Dev nD) (t : Fin cfg0.N) (h : t.val % 3 = 2) (j : S1024x1024.Idx) :
    (outsAt0 m c t.val t.isLt).2 j = ∑ s : Fin 3, ∑ k : Fin 1024,
      A0 m c ⟨3 * (t.val / 3) + s.val, Pipeline.run_point_lt_of_flush t h s⟩ (ix2 (j 0) k)
        * A1 m c ⟨3 * (t.val / 3) + s.val, Pipeline.run_point_lt_of_flush t h s⟩ (ix2 (j 1) k) := by
  refine (Pipeline.eq_sum_fin_of_reset_step_apply_of_flush (fun n h => (outsAt0 m c n h).2) 3 (fun _ => 0)
    (fun t j => ∑ k : Fin 1024, A0 m c t (ix2 (j 0) k) * A1 m c t (ix2 (j 1) k)) (fun t h j => ?_)
    (fun t h j => ?_) t h j).trans (by rw [zero_add])
  · rw [outsAt0_A m c t h (by omega)]
    frame_out
    pointwise [k0_pay2, k0_pay1]
  · by_cases h1 : t.val % 3 = 2
    · rw [outsAt0_C m c t h h1]
      frame_out
      pointwise [k0_pay2]
      simp only [read_unread_whole]
    · rw [outsAt0_B m c t h h1]
      frame_out
      pointwise [k0_pay2]
      simp only [read_unread_whole]

/-- What a tile's last point hands over: the accumulator, and the residual. -/
theorem out_eq (c : Dev nD) (t : Fin cfg0.N) (h : t.val % 3 = 2) (j : S1024x1024.Idx) :
    (outsAt0 m c t.val t.isLt).1 j = ((outsAt0 m c t.val t.isLt).2 j : EReal)
      + Ideal.ofBits FTy.f32 1071072509#32 * (iblk m c 2 t : FVec Ideal S1024x1024 .f32) j := by
  rw [outsAt0_C m c t (by omega) h]
  frame_out
  pointwise [k0_pay3]

/-- The array that both programs leave. -/
def G (a : FVec Ideal S8192x3072 .f32) (b : FVec Ideal S1024x3072 .f32) (r : FVec Ideal S8192x1024 .f32) : FVec Ideal S8192x1024 .f32 := fun i =>
  (∑ k : Fin 3072, a (ix2 (i 0) k) * b (ix2 (i 1) k)) + Ideal.ofBits FTy.f32 1071072509#32 * r i

/-- The kernel's result is that array. -/
theorem final (c : Dev nD) : (dats m 0 c).arrAt 3 cfg0.N =
    G (m ((c : Thread nD τ).loc main_arg2)) (m ((c : Thread nD τ).loc main_arg1)) (m ((c : Thread nD τ).loc main_arg3)) := by
  refine (dats m 0 c).arrAt_eq_of_covers 3 _ (by decide +kernel) fun t hf y => ?_
  blk_simp
  rw [after0_3]
  have ht : t.val % 3 = 2 := (flush0_3 t).mp hf
  obtain ⟨-, -, e2, e3⟩ := idx t
  refine (out_eq m c t ht y).trans ?_
  rw [acc_eq m c t ht, G]
  congr 1
  refine Fin.sum_mul_add_congr fun s k hl => ?_
  obtain ⟨e0, e1, -, -⟩ := idx ⟨3 * (t.val / 3) + s.val, Pipeline.run_point_lt_of_flush t ht s⟩
  have hs := s.isLt
  congr 1
  · blk_ext! [A0, iblk, V, e0, e3]
  · blk_ext! [A1, iblk, V, e1, e3]

/-- The kernel over the extended reals leaves what the reference leaves. -/
theorem algebraic : algebraic_QkvXIdeal_QkvXRefIdeal := by
  intro m ρ m' ρ' _ hagree
  refine ⟨_, Cert.QkvXIdeal.Value.run_blocks (F := Ideal) m ρ, ?_⟩
  refine (θ_run Cert.QkvXRefIdeal.defs _ _).mono (fun _ h c => ⟨?_, (h c).2⟩) (Cert.QkvXRefIdeal.Value.run (F := Ideal) m' ρ')
  rw [(h c).1, final]
  simp only [hagree c]
  funext i
  pointwise [G]
  exact add_comm _ _

/-- The reference's own run: it ends, and leaves its arguments. -/
theorem reference_frame : quiescent_QkvXRefIdeal := fun m ρ _ =>
  (θ_run Cert.QkvXRefIdeal.defs _ _).mono (fun r h => ⟨fun c => (h c).2, sem_eq_zero_of_no_sems (by decide) r.2⟩)
    (Cert.QkvXRefIdeal.Value.run (F := Ideal) m ρ)

end Cert.Proof.QkvX

end
-- ==== Proof.Mm.GlaW.lean ====
module

public import proofs.«01_k».proof.Defs
public import proofs.«01_k».proof.Proof.Gen.GlaWIdeal.Value
public import proofs.«01_k».proof.Proof.Gen.GlaWRefIdeal.Run
public import Idealize.ShloMosaic.Lib.Pipeline.ValueKit
public import Idealize.ShloMosaic.Lib.Pipeline.ReadBack
public import Idealize.ShloMosaic.Lib.Pointwise

@[expose] public section

/-! # GlaW: the gradient of the linear attention's input projection

The kernel walks the tiles of the result, and for each tile the blocks of the contracted axis. It leaves the sum over the
whole axis, and the reference's product is that sum. -/

set_option maxRecDepth 16384

noncomputable section

namespace Cert.Proof.GlaW

open Idealize.ShloMosaic Idealize.ShloMosaic.TcCoe Idealize.SL.Sem Cert.GlaWIdeal Cert.GlaWIdeal.Gen

variable (m : (ℓ : Loc nD τ sig) → Buf (Elt Ideal) ℓ)

/-- The blocks that the windows name at a grid point. -/
theorem idx : ∀ t : Fin cfg0.N, win0_0.index t = ![t.val % 8, 0] ∧ win0_1.index t = ![t.val % 8, t.val / 8]
    ∧ win0_2.index t = ![0, t.val / 8] :=
  (by decide +kernel : ∀ t : Fin grid0.N, _)

/-- The blocks of the two factors at a grid point, as arrays of extended reals. -/
abbrev A0 (c : Dev nD) (t : Fin cfg0.N) : FVec Ideal S1024x1024 .bf16 := iblk m c 0 t
abbrev A1 (c : Dev nD) (t : Fin cfg0.N) : FVec Ideal S1024x640 .bf16 := iblk m c 1 t

/-- The accumulator at a tile's last point: the sum of the partial products of the tile's points. -/
theorem acc_eq (c : Dev nD) (t : Fin cfg0.N) (h : t.val % 8 = 7) (j : S1024x640.Idx) :
    (outsAt0 m c t.val t.isLt).2 j = ∑ s : Fin 8, ∑ k : Fin 1024,
      A0 m c ⟨8 * (t.val / 8) + s.val, Pipeline.run_point_lt_of_flush t h s⟩ (ix2 k (j 0))
        * A1 m c ⟨8 * (t.val / 8) + s.val, Pipeline.run_point_lt_of_flush t h s⟩ (ix2 k (j 1)) := by
  refine (Pipeline.eq_sum_fin_of_reset_step_apply_of_flush (fun n h => (outsAt0 m c n h).2) 8 (fun _ => 0)
    (fun t j => ∑ k : Fin 1024, A0 m c t (ix2 k (j 0)) * A1 m c t (ix2 k (j 1))) (fun t h j => ?_)
    (fun t h j => ?_) t h j).trans (by rw [zero_add])
  · rw [outsAt0_A m c t h (by omega)]
    frame_out
    pointwise [k0_pay2, k0_pay1]
  · by_cases h1 : t.val % 8 = 7
    · rw [outsAt0_C m c t h h1]
      frame_out
      pointwise [k0_pay2]
      simp only [read_unread_whole]
    · rw [outsAt0_B m c t h h1]
      frame_out
      pointwise [k0_pay2]
      simp only [read_unread_whole]

/-- What a tile's last point hands over: the accumulator. -/
theorem out_eq (c : Dev nD) (t : Fin cfg0.N) (h : t.val % 8 = 7) (j : S1024x640.Idx) :
    (outsAt0 m c t.val t.isLt).1 j = ((outsAt0 m c t.val t.isLt).2 j : EReal) := by
  rw [outsAt0_C m c t (by omega) h]
  frame_out

/-- The array that both programs leave. -/
def G (a : FVec Ideal S8192x1024 .f32) (b : FVec Ideal S8192x3200 .f32) : FVec Ideal S1024x3200 .f32 := fun i =>
  ∑ k : Fin 8192, a (ix2 k (i 0)) * b (ix2 k (i 1))

/-- The kernel's result is that array. -/
theorem final (c : Dev nD) : (dats m 0 c).arrAt 2 cfg0.N =
    G (m ((c : Thread nD τ).loc main_arg0)) (m ((c : Thread nD τ).loc main_arg2)) := by
  refine (dats m 0 c).arrAt_eq_of_covers 2 _ (by decide +kernel) fun t hf y => ?_
  blk_simp
  rw [after0_2]
  have ht : t.val % 8 = 7 := (flush0_2 t).mp hf
  obtain ⟨-, -, e2⟩ := idx t
  refine (out_eq m c t ht y).trans ?_
  rw [acc_eq m c t ht, G]
  refine Fin.sum_mul_add_congr fun s k hl => ?_
  obtain ⟨e0, e1, -⟩ := idx ⟨8 * (t.val / 8) + s.val, Pipeline.run_point_lt_of_flush t ht s⟩
  have hs := s.isLt
  congr 1
  · blk_ext! [A0, iblk, V, e0, e2]
  · blk_ext! [A1, iblk, V, e1, e2]

/-- The kernel over the extended reals leaves what the reference leaves. -/
theorem algebraic : algebraic_GlaWIdeal_GlaWRefIdeal := by
  intro m ρ m' ρ' _ hagree
  refine ⟨_, Cert.GlaWIdeal.Value.run_blocks (F := Ideal) m ρ, ?_⟩
  refine (θ_run Cert.GlaWRefIdeal.defs _ _).mono (fun _ h c => ⟨?_, (h c).2⟩) (Cert.GlaWRefIdeal.Value.run (F := Ideal) m' ρ')
  rw [(h c).1, final]
  simp only [hagree c]
  funext i
  pointwise [G]
  exact Finset.sum_congr rfl fun _ _ => mul_comm _ _

/-- The reference's own run: it ends, and leaves its arguments. -/
theorem reference_frame : quiescent_GlaWRefIdeal := fun m ρ _ =>
  (θ_run Cert.GlaWRefIdeal.defs _ _).mono (fun r h => ⟨fun c => (h c).2, sem_eq_zero_of_no_sems (by decide) r.2⟩)
    (Cert.GlaWRefIdeal.Value.run (F := Ideal) m ρ)

end Cert.Proof.GlaW

end
-- ==== Proof.Mm.GlaX.lean ====
module

public import proofs.«01_k».proof.Defs
public import proofs.«01_k».proof.Proof.Gen.GlaXIdeal.Value
public import proofs.«01_k».proof.Proof.Gen.GlaXRefIdeal.Run
public import Idealize.ShloMosaic.Lib.Pipeline.ValueKit
public import Idealize.ShloMosaic.Lib.Pipeline.ReadBack
public import Idealize.ShloMosaic.Lib.Pointwise

@[expose] public section

/-! # GlaX: the gradient of its input with the scaled residual

The kernel walks the tiles of the result, and for each tile the blocks of the contracted axis. It leaves the sum over the
whole axis, and the reference's product is that sum. -/

set_option maxRecDepth 16384

noncomputable section

namespace Cert.Proof.GlaX

open Idealize.ShloMosaic Idealize.ShloMosaic.TcCoe Idealize.SL.Sem Cert.GlaXIdeal Cert.GlaXIdeal.Gen

variable (m : (ℓ : Loc nD τ sig) → Buf (Elt Ideal) ℓ)

/-- The blocks that the windows name at a grid point. -/
theorem idx : ∀ t : Fin cfg0.N, win0_0.index t = ![t.val / 5, t.val % 5] ∧ win0_1.index t = ![0, t.val % 5]
    ∧ win0_2.index t = ![t.val / 5, 0] ∧ win0_3.index t = ![t.val / 5, 0] :=
  (by decide +kernel : ∀ t : Fin grid0.N, _)

/-- The blocks of the two factors at a grid point, as arrays of extended reals. -/
abbrev A0 (c : Dev nD) (t : Fin cfg0.N) : FVec Ideal S1024x640 .bf16 := iblk m c 0 t
abbrev A1 (c : Dev nD) (t : Fin cfg0.N) : FVec Ideal S1024x640 .bf16 := iblk m c 1 t

/-- The accumulator at a tile's last point: the sum of the partial products of the tile's points. -/
theorem acc_eq (c : Dev nD) (t : Fin cfg0.N) (h : t.val % 5 = 4) (j : S1024x1024.Idx) :
    (outsAt0 m c t.val t.isLt).2 j = ∑ s : Fin 5, ∑ k : Fin 640,
      A0 m c ⟨5 * (t.val / 5) + s.val, Pipeline.run_point_lt_of_flush t h s⟩ (ix2 (j 0) k)
        * A1 m c ⟨5 * (t.val / 5) + s.val, Pipeline.run_point_lt_of_flush t h s⟩ (ix2 (j 1) k) := by
  refine (Pipeline.eq_sum_fin_of_reset_step_apply_of_flush (fun n h => (outsAt0 m c n h).2) 5 (fun _ => 0)
    (fun t j => ∑ k : Fin 640, A0 m c t (ix2 (j 0) k) * A1 m c t (ix2 (j 1) k)) (fun t h j => ?_)
    (fun t h j => ?_) t h j).trans (by rw [zero_add])
  · rw [outsAt0_A m c t h (by omega)]
    frame_out
    pointwise [k0_pay2, k0_pay1]
  · by_cases h1 : t.val % 5 = 4
    · rw [outsAt0_C m c t h h1]
      frame_out
      pointwise [k0_pay2]
      simp only [read_unread_whole]
    · rw [outsAt0_B m c t h h1]
      frame_out
      pointwise [k0_pay2]
      simp only [read_unread_whole]

/-- What a tile's last point hands over: the accumulator, and the residual. -/
theorem out_eq (c : Dev nD) (t : Fin cfg0.N) (h : t.val % 5 = 4) (j : S1024x1024.Idx) :
    (outsAt0 m c t.val t.isLt).1 j = ((outsAt0 m c t.val t.isLt).2 j : EReal)
      + Ideal.ofBits FTy.f32 1071072509#32 * (iblk m c 2 t : FVec Ideal S1024x1024 .f32) j := by
  rw [outsAt0_C m c t (by omega) h]
  frame_out
  pointwise [k0_pay3]

/-- The array that both programs leave. -/
def G (a : FVec Ideal S8192x3200 .f32) (b : FVec Ideal S1024x3200 .f32) (r : FVec Ideal S8192x1024 .f32) : FVec Ideal S8192x1024 .f32 := fun i =>
  (∑ k : Fin 3200, a (ix2 (i 0) k) * b (ix2 (i 1) k)) + Ideal.ofBits FTy.f32 1071072509#32 * r i

/-- The kernel's result is that array. -/
theorem final (c : Dev nD) : (dats m 0 c).arrAt 3 cfg0.N =
    G (m ((c : Thread nD τ).loc main_arg2)) (m ((c : Thread nD τ).loc main_arg1)) (m ((c : Thread nD τ).loc main_arg3)) := by
  refine (dats m 0 c).arrAt_eq_of_covers 3 _ (by decide +kernel) fun t hf y => ?_
  blk_simp
  rw [after0_3]
  have ht : t.val % 5 = 4 := (flush0_3 t).mp hf
  obtain ⟨-, -, e2, e3⟩ := idx t
  refine (out_eq m c t ht y).trans ?_
  rw [acc_eq m c t ht, G]
  congr 1
  refine Fin.sum_mul_add_congr fun s k hl => ?_
  obtain ⟨e0, e1, -, -⟩ := idx ⟨5 * (t.val / 5) + s.val, Pipeline.run_point_lt_of_flush t ht s⟩
  have hs := s.isLt
  congr 1
  · blk_ext! [A0, iblk, V, e0, e3]
  · blk_ext! [A1, iblk, V, e1, e3]

/-- The kernel over the extended reals leaves what the reference leaves. -/
theorem algebraic : algebraic_GlaXIdeal_GlaXRefIdeal := by
  intro m ρ m' ρ' _ hagree
  refine ⟨_, Cert.GlaXIdeal.Value.run_blocks (F := Ideal) m ρ, ?_⟩
  refine (θ_run Cert.GlaXRefIdeal.defs _ _).mono (fun _ h c => ⟨?_, (h c).2⟩) (Cert.GlaXRefIdeal.Value.run (F := Ideal) m' ρ')
  rw [(h c).1, final]
  simp only [hagree c]
  funext i
  pointwise [G]
  exact add_comm _ _

/-- The reference's own run: it ends, and leaves its arguments. -/
theorem reference_frame : quiescent_GlaXRefIdeal := fun m ρ _ =>
  (θ_run Cert.GlaXRefIdeal.defs _ _).mono (fun r h => ⟨fun c => (h c).2, sem_eq_zero_of_no_sems (by decide) r.2⟩)
    (Cert.GlaXRefIdeal.Value.run (F := Ideal) m ρ)

end Cert.Proof.GlaX

end
-- ==== Proof.Mm.QkvF.lean ====
module

public import proofs.«01_k».proof.Defs
public import proofs.«01_k».proof.Proof.Gen.QkvFIdeal.Value
public import proofs.«01_k».proof.Proof.Gen.QkvFRefIdeal.Run
public import Idealize.ShloMosaic.Lib.Pipeline.ValueKit
public import Idealize.ShloMosaic.Lib.Pipeline.ReadBack
public import Idealize.ShloMosaic.Lib.Pointwise

@[expose] public section

/-! # QkvF: the query, key and value projection

The kernel walks the tiles of the result, and for each tile the blocks of the contracted axis. It leaves the sum over the
whole axis, and the reference's product is that sum. -/

set_option maxRecDepth 16384

noncomputable section

namespace Cert.Proof.QkvF

open Idealize.ShloMosaic Idealize.ShloMosaic.TcCoe Idealize.SL.Sem Cert.QkvFIdeal Cert.QkvFIdeal.Gen

variable (m : (ℓ : Loc nD τ sig) → Buf (Elt Ideal) ℓ)

/-- The blocks that the windows name at a grid point. -/
theorem idx : ∀ t : Fin cfg0.N, win0_0.index t = ![t.val / 3, 0] ∧ win0_1.index t = ![0, t.val % 3]
    ∧ win0_2.index t = ![t.val / 3, t.val % 3] :=
  (by decide +kernel : ∀ t : Fin grid0.N, _)

/-- The blocks of the two factors at a grid point, as arrays of extended reals. -/
abbrev A0 (c : Dev nD) (t : Fin cfg0.N) : FVec Ideal S1024x1024 .bf16 := iblk m c 0 t
abbrev A1 (c : Dev nD) (t : Fin cfg0.N) : FVec Ideal S1024x1024 .bf16 := iblk m c 1 t

/-- What a grid point leaves of its tile: the product of its two blocks. -/
theorem out_eq (c : Dev nD) (t : Fin cfg0.N) (j : S1024x1024.Idx) :
    outsAt0 m c t j = ∑ k : Fin 1024, A0 m c t (ix2 (j 0) k) * A1 m c t (ix2 k (j 1)) := by
  unfold outsAt0
  frame_out
  pointwise [k0_pay1, k0_pay2, k0_pay3]

/-- The array that both programs leave. -/
def G (a : FVec Ideal S8192x1024 .f32) (b : FVec Ideal S1024x3072 .f32) : FVec Ideal S8192x3072 .bf16 := fun i =>
  ∑ k : Fin 1024, a (ix2 (i 0) k) * b (ix2 k (i 1))

/-- The kernel's result is that array. -/
theorem final (c : Dev nD) : (dats m 0 c).arrAt 2 cfg0.N =
    G (m ((c : Thread nD τ).loc main_arg0)) (m ((c : Thread nD τ).loc main_arg1)) := by
  refine (dats m 0 c).arrAt_eq_of_covers 2 _ (by decide +kernel) fun t hf y => ?_
  blk_simp
  rw [after0_2]
  obtain ⟨e0, e1, e2⟩ := idx t
  refine (out_eq m c t y).trans ?_
  rw [G]
  refine Fin.sum_fin_congr fun k => ?_
  congr 1
  · blk_ext! [A0, iblk, V, e0, e2]
  · blk_ext! [A1, iblk, V, e1, e2]

/-- The kernel over the extended reals leaves what the reference leaves. -/
theorem algebraic : algebraic_QkvFIdeal_QkvFRefIdeal := by
  intro m ρ m' ρ' _ hagree
  refine ⟨_, Cert.QkvFIdeal.Value.run_blocks (F := Ideal) m ρ, ?_⟩
  refine (θ_run Cert.QkvFRefIdeal.defs _ _).mono (fun _ h c => ⟨?_, (h c).2⟩) (Cert.QkvFRefIdeal.Value.run (F := Ideal) m' ρ')
  rw [(h c).1, final]
  simp only [hagree c]
  funext i
  pointwise [G]

/-- The reference's own run: it ends, and leaves its arguments. -/
theorem reference_frame : quiescent_QkvFRefIdeal := fun m ρ _ =>
  (θ_run Cert.QkvFRefIdeal.defs _ _).mono (fun r h => ⟨fun c => (h c).2, sem_eq_zero_of_no_sems (by decide) r.2⟩)
    (Cert.QkvFRefIdeal.Value.run (F := Ideal) m ρ)

end Cert.Proof.QkvF

end
-- ==== Proof.Mm.OutF.lean ====
module

public import proofs.«01_k».proof.Defs
public import proofs.«01_k».proof.Proof.Gen.OutFIdeal.Value
public import proofs.«01_k».proof.Proof.Gen.OutFRefIdeal.Run
public import Idealize.ShloMosaic.Lib.Pipeline.ValueKit
public import Idealize.ShloMosaic.Lib.Pipeline.ReadBack
public import Idealize.ShloMosaic.Lib.Pointwise

@[expose] public section

/-! # OutF: an output projection

The kernel walks the tiles of the result, and for each tile the blocks of the contracted axis. It leaves the sum over the
whole axis, and the reference's product is that sum. -/

set_option maxRecDepth 16384

noncomputable section

namespace Cert.Proof.OutF

open Idealize.ShloMosaic Idealize.ShloMosaic.TcCoe Idealize.SL.Sem Cert.OutFIdeal Cert.OutFIdeal.Gen

variable (m : (ℓ : Loc nD τ sig) → Buf (Elt Ideal) ℓ)

/-- The blocks that the windows name at a grid point. -/
theorem idx : ∀ t : Fin cfg0.N, win0_0.index t = ![t.val, 0] ∧ win0_1.index t = ![0, 0]
    ∧ win0_2.index t = ![t.val, 0] :=
  (by decide +kernel : ∀ t : Fin grid0.N, _)

/-- The blocks of the two factors at a grid point, as arrays of extended reals. -/
abbrev A0 (c : Dev nD) (t : Fin cfg0.N) : FVec Ideal S1024x1024 .bf16 := iblk m c 0 t
abbrev A1 (c : Dev nD) (t : Fin cfg0.N) : FVec Ideal S1024x1024 .bf16 := iblk m c 1 t

/-- What a grid point leaves of its tile: the product of its two blocks. -/
theorem out_eq (c : Dev nD) (t : Fin cfg0.N) (j : S1024x1024.Idx) :
    outsAt0 m c t j = ∑ k : Fin 1024, A0 m c t (ix2 (j 0) k) * A1 m c t (ix2 k (j 1)) := by
  unfold outsAt0
  frame_out
  pointwise [k0_pay1, k0_pay2]

/-- The array that both programs leave. -/
def G (a : FVec Ideal S8192x1024 .f32) (b : FVec Ideal S1024x1024 .f32) : FVec Ideal S8192x1024 .f32 := fun i =>
  ∑ k : Fin 1024, a (ix2 (i 0) k) * b (ix2 k (i 1))

/-- The kernel's result is that array. -/
theorem final (c : Dev nD) : (dats m 0 c).arrAt 2 cfg0.N =
    G (m ((c : Thread nD τ).loc main_arg0)) (m ((c : Thread nD τ).loc main_arg1)) := by
  refine (dats m 0 c).arrAt_eq_of_covers 2 _ (by decide +kernel) fun t hf y => ?_
  blk_simp
  rw [after0_2]
  obtain ⟨e0, e1, e2⟩ := idx t
  refine (out_eq m c t y).trans ?_
  rw [G]
  refine Fin.sum_fin_congr fun k => ?_
  congr 1
  · blk_ext! [A0, iblk, V, e0, e2]
  · blk_ext! [A1, iblk, V, e1, e2]

/-- The kernel over the extended reals leaves what the reference leaves. -/
theorem algebraic : algebraic_OutFIdeal_OutFRefIdeal := by
  intro m ρ m' ρ' _ hagree
  refine ⟨_, Cert.OutFIdeal.Value.run_blocks (F := Ideal) m ρ, ?_⟩
  refine (θ_run Cert.OutFRefIdeal.defs _ _).mono (fun _ h c => ⟨?_, (h c).2⟩) (Cert.OutFRefIdeal.Value.run (F := Ideal) m' ρ')
  rw [(h c).1, final]
  simp only [hagree c]
  funext i
  pointwise [G]

/-- The reference's own run: it ends, and leaves its arguments. -/
theorem reference_frame : quiescent_OutFRefIdeal := fun m ρ _ =>
  (θ_run Cert.OutFRefIdeal.defs _ _).mono (fun r h => ⟨fun c => (h c).2, sem_eq_zero_of_no_sems (by decide) r.2⟩)
    (Cert.OutFRefIdeal.Value.run (F := Ideal) m ρ)

end Cert.Proof.OutF

end
-- ==== Proof.Mm.GlaF.lean ====
module

public import proofs.«01_k».proof.Defs
public import proofs.«01_k».proof.Proof.Gen.GlaFIdeal.Value
public import proofs.«01_k».proof.Proof.Gen.GlaFRefIdeal.Run
public import Idealize.ShloMosaic.Lib.Pipeline.ValueKit
public import Idealize.ShloMosaic.Lib.Pipeline.ReadBack
public import Idealize.ShloMosaic.Lib.Pointwise

@[expose] public section

/-! # GlaF: the linear attention's input projection

The kernel walks the tiles of the result, and for each tile the blocks of the contracted axis. It leaves the sum over the
whole axis, and the reference's product is that sum. -/

set_option maxRecDepth 16384

noncomputable section

namespace Cert.Proof.GlaF

open Idealize.ShloMosaic Idealize.ShloMosaic.TcCoe Idealize.SL.Sem Cert.GlaFIdeal Cert.GlaFIdeal.Gen

variable (m : (ℓ : Loc nD τ sig) → Buf (Elt Ideal) ℓ)

/-- The blocks that the windows name at a grid point. -/
theorem idx : ∀ t : Fin cfg0.N, win0_0.index t = ![t.val / 5, 0] ∧ win0_1.index t = ![0, t.val % 5]
    ∧ win0_2.index t = ![t.val / 5, t.val % 5] :=
  (by decide +kernel : ∀ t : Fin grid0.N, _)

/-- The blocks of the two factors at a grid point, as arrays of extended reals. -/
abbrev A0 (c : Dev nD) (t : Fin cfg0.N) : FVec Ideal S1024x1024 .bf16 := iblk m c 0 t
abbrev A1 (c : Dev nD) (t : Fin cfg0.N) : FVec Ideal S1024x640 .bf16 := iblk m c 1 t

/-- What a grid point leaves of its tile: the product of its two blocks. -/
theorem out_eq (c : Dev nD) (t : Fin cfg0.N) (j : S1024x640.Idx) :
    outsAt0 m c t j = ∑ k : Fin 1024, A0 m c t (ix2 (j 0) k) * A1 m c t (ix2 k (j 1)) := by
  unfold outsAt0
  frame_out
  pointwise [k0_pay1, k0_pay2]

/-- The array that both programs leave. -/
def G (a : FVec Ideal S8192x1024 .f32) (b : FVec Ideal S1024x3200 .f32) : FVec Ideal S8192x3200 .f32 := fun i =>
  ∑ k : Fin 1024, a (ix2 (i 0) k) * b (ix2 k (i 1))

/-- The kernel's result is that array. -/
theorem final (c : Dev nD) : (dats m 0 c).arrAt 2 cfg0.N =
    G (m ((c : Thread nD τ).loc main_arg0)) (m ((c : Thread nD τ).loc main_arg1)) := by
  refine (dats m 0 c).arrAt_eq_of_covers 2 _ (by decide +kernel) fun t hf y => ?_
  blk_simp
  rw [after0_2]
  obtain ⟨e0, e1, e2⟩ := idx t
  refine (out_eq m c t y).trans ?_
  rw [G]
  refine Fin.sum_fin_congr fun k => ?_
  congr 1
  · blk_ext! [A0, iblk, V, e0, e2]
  · blk_ext! [A1, iblk, V, e1, e2]

/-- The kernel over the extended reals leaves what the reference leaves. -/
theorem algebraic : algebraic_GlaFIdeal_GlaFRefIdeal := by
  intro m ρ m' ρ' _ hagree
  refine ⟨_, Cert.GlaFIdeal.Value.run_blocks (F := Ideal) m ρ, ?_⟩
  refine (θ_run Cert.GlaFRefIdeal.defs _ _).mono (fun _ h c => ⟨?_, (h c).2⟩) (Cert.GlaFRefIdeal.Value.run (F := Ideal) m' ρ')
  rw [(h c).1, final]
  simp only [hagree c]
  funext i
  pointwise [G]

/-- The reference's own run: it ends, and leaves its arguments. -/
theorem reference_frame : quiescent_GlaFRefIdeal := fun m ρ _ =>
  (θ_run Cert.GlaFRefIdeal.defs _ _).mono (fun r h => ⟨fun c => (h c).2, sem_eq_zero_of_no_sems (by decide) r.2⟩)
    (Cert.GlaFRefIdeal.Value.run (F := Ideal) m ρ)

end Cert.Proof.GlaF

end
-- ==== Proof.Mm.UpF.lean ====
module

public import proofs.«01_k».proof.Defs
public import proofs.«01_k».proof.Proof.Gen.UpFIdeal.Value
public import proofs.«01_k».proof.Proof.Gen.UpFRefIdeal.Run
public import Idealize.ShloMosaic.Lib.Pipeline.ValueKit
public import Idealize.ShloMosaic.Lib.Pipeline.ReadBack
public import Idealize.ShloMosaic.Lib.Pointwise

@[expose] public section

/-! # UpF: the up projection

The kernel walks the tiles of the result, and for each tile the blocks of the contracted axis. It leaves the sum over the
whole axis, and the reference's product is that sum. -/

set_option maxRecDepth 16384

noncomputable section

namespace Cert.Proof.UpF

open Idealize.ShloMosaic Idealize.ShloMosaic.TcCoe Idealize.SL.Sem Cert.UpFIdeal Cert.UpFIdeal.Gen

variable (m : (ℓ : Loc nD τ sig) → Buf (Elt Ideal) ℓ)

/-- The blocks that the windows name at a grid point. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

/-- The blocks of the two factors at a grid point, as arrays of extended reals. -/
abbrev A0 (c : Dev nD) (t : Fin cfg0.N) : FVec Ideal S1024x1024 .bf16 := iblk m c 0 t
abbrev A1 (c : Dev nD) (t : Fin cfg0.N) : FVec Ideal S1024x1408 .bf16 := iblk m c 1 t

/-- What a grid point leaves of its tile: the product of its two blocks. -/
theorem out_eq (c : Dev nD) (t : Fin cfg0.N) (j : S1024x1408.Idx) :
    outsAt0 m c t j = ∑ k : Fin 1024, A0 m c t (ix2 (j 0) k) * A1 m c t (ix2 k (j 1)) := by
  unfold outsAt0
  frame_out
  pointwise [k0_pay1, k0_pay2, k0_pay3]

/-- The array that both programs leave. -/
def G (a : FVec Ideal S8192x1024 .f32) (b : FVec Ideal S1024x2816 .f32) : FVec Ideal S8192x2816 .bf16 := fun i =>
  ∑ k : Fin 1024, a (ix2 (i 0) k) * b (ix2 k (i 1))

/-- The kernel's result is that array. -/
theorem final (c : Dev nD) : (dats m 0 c).arrAt 2 cfg0.N =
    G (m ((c : Thread nD τ).loc main_arg0)) (m ((c : Thread nD τ).loc main_arg1)) := by
  refine (dats m 0 c).arrAt_eq_of_covers 2 _ (by decide +kernel) fun t hf y => ?_
  blk_simp
  rw [after0_2]
  obtain ⟨e0, e1, e2⟩ := idx t
  refine (out_eq m c t y).trans ?_
  rw [G]
  refine Fin.sum_fin_congr fun k => ?_
  congr 1
  · blk_ext! [A0, iblk, V, e0, e2]
  · blk_ext! [A1, iblk, V, e1, e2]

/-- The kernel over the extended reals leaves what the reference leaves. -/
theorem algebraic : algebraic_UpFIdeal_UpFRefIdeal := by
  intro m ρ m' ρ' _ hagree
  refine ⟨_, Cert.UpFIdeal.Value.run_blocks (F := Ideal) m ρ, ?_⟩
  refine (θ_run Cert.UpFRefIdeal.defs _ _).mono (fun _ h c => ⟨?_, (h c).2⟩) (Cert.UpFRefIdeal.Value.run (F := Ideal) m' ρ')
  rw [(h c).1, final]
  simp only [hagree c]
  funext i
  pointwise [G]

/-- The reference's own run: it ends, and leaves its arguments. -/
theorem reference_frame : quiescent_UpFRefIdeal := fun m ρ _ =>
  (θ_run Cert.UpFRefIdeal.defs _ _).mono (fun r h => ⟨fun c => (h c).2, sem_eq_zero_of_no_sems (by decide) r.2⟩)
    (Cert.UpFRefIdeal.Value.run (F := Ideal) m ρ)

end Cert.Proof.UpF

end
-- ==== Proof.Mm.DownF.lean ====
module

public import proofs.«01_k».proof.Defs
public import proofs.«01_k».proof.Proof.Gen.DownFIdeal.Value
public import proofs.«01_k».proof.Proof.Gen.DownFRefIdeal.Run
public import Idealize.ShloMosaic.Lib.Pipeline.ValueKit
public import Idealize.ShloMosaic.Lib.Pipeline.ReadBack
public import Idealize.ShloMosaic.Lib.Pointwise

@[expose] public section

/-! # DownF: the down projection

The kernel walks the tiles of the result, and for each tile the blocks of the contracted axis. It leaves the sum over the
whole axis, and the reference's product is that sum. -/

set_option maxRecDepth 16384

noncomputable section

namespace Cert.Proof.DownF

open Idealize.ShloMosaic Idealize.ShloMosaic.TcCoe Idealize.SL.Sem Cert.DownFIdeal Cert.DownFIdeal.Gen

variable (m : (ℓ : Loc nD τ sig) → Buf (Elt Ideal) ℓ)

/-- The blocks that the windows name at a grid point. -/
theorem idx : ∀ t : Fin cfg0.N, win0_0.index t = ![t.val / 2, t.val % 2] ∧ win0_1.index t = ![t.val % 2, 0]
    ∧ win0_2.index t = ![t.val / 2, 0] :=
  (by decide +kernel : ∀ t : Fin grid0.N, _)

/-- The blocks of the two factors at a grid point, as arrays of extended reals. -/
abbrev A0 (c : Dev nD) (t : Fin cfg0.N) : FVec Ideal S1024x1408 .bf16 := iblk m c 0 t
abbrev A1 (c : Dev nD) (t : Fin cfg0.N) : FVec Ideal S1408x1024 .bf16 := iblk m c 1 t

/-- The accumulator at a tile's last point: the sum of the partial products of the tile's points. -/
theorem acc_eq (c : Dev nD) (t : Fin cfg0.N) (h : t.val % 2 = 1) (j : S1024x1024.Idx) :
    (outsAt0 m c t.val t.isLt).2 j = ∑ s : Fin 2, ∑ k : Fin 1408,
      A0 m c ⟨2 * (t.val / 2) + s.val, Pipeline.run_point_lt_of_flush t h s⟩ (ix2 (j 0) k)
        * A1 m c ⟨2 * (t.val / 2) + s.val, Pipeline.run_point_lt_of_flush t h s⟩ (ix2 k (j 1)) := by
  refine (Pipeline.eq_sum_fin_of_reset_step_apply_of_flush (fun n h => (outsAt0 m c n h).2) 2 (fun _ => 0)
    (fun t j => ∑ k : Fin 1408, A0 m c t (ix2 (j 0) k) * A1 m c t (ix2 k (j 1))) (fun t h j => ?_)
    (fun t h j => ?_) t h j).trans (by rw [zero_add])
  · rw [outsAt0_A m c t h (by omega)]
    frame_out
    pointwise [k0_pay2, k0_pay1]
  · rw [outsAt0_B m c t h (by omega)]
    frame_out
    pointwise [k0_pay2]
    simp only [read_unread_whole]

/-- What a tile's last point hands over: the accumulator. -/
theorem out_eq (c : Dev nD) (t : Fin cfg0.N) (h : t.val % 2 = 1) (j : S1024x1024.Idx) :
    (outsAt0 m c t.val t.isLt).1 j = ((outsAt0 m c t.val t.isLt).2 j : EReal) := by
  rw [outsAt0_B m c t (by omega) h]
  frame_out

/-- The array that both programs leave. -/
def G (a : FVec Ideal S8192x2816 .f32) (b : FVec Ideal S2816x1024 .f32) : FVec Ideal S8192x1024 .f32 := fun i =>
  ∑ k : Fin 2816, a (ix2 (i 0) k) * b (ix2 k (i 1))

/-- The kernel's result is that array. -/
theorem final (c : Dev nD) : (dats m 0 c).arrAt 2 cfg0.N =
    G (m ((c : Thread nD τ).loc main_arg0)) (m ((c : Thread nD τ).loc main_arg1)) := by
  refine (dats m 0 c).arrAt_eq_of_covers 2 _ (by decide +kernel) fun t hf y => ?_
  blk_simp
  rw [after0_2]
  have ht : t.val % 2 = 1 := (flush0_2 t).mp hf
  obtain ⟨-, -, e2⟩ := idx t
  refine (out_eq m c t ht y).trans ?_
  rw [acc_eq m c t ht, G]
  refine Fin.sum_mul_add_congr fun s k hl => ?_
  obtain ⟨e0, e1, -⟩ := idx ⟨2 * (t.val / 2) + s.val, Pipeline.run_point_lt_of_flush t ht s⟩
  have hs := s.isLt
  congr 1
  · blk_ext! [A0, iblk, V, e0, e2]
  · blk_ext! [A1, iblk, V, e1, e2]

/-- The kernel over the extended reals leaves what the reference leaves. -/
theorem algebraic : algebraic_DownFIdeal_DownFRefIdeal := by
  intro m ρ m' ρ' _ hagree
  refine ⟨_, Cert.DownFIdeal.Value.run_blocks (F := Ideal) m ρ, ?_⟩
  refine (θ_run Cert.DownFRefIdeal.defs _ _).mono (fun _ h c => ⟨?_, (h c).2⟩) (Cert.DownFRefIdeal.Value.run (F := Ideal) m' ρ')
  rw [(h c).1, final]
  simp only [hagree c]
  funext i
  pointwise [G]

/-- The reference's own run: it ends, and leaves its arguments. -/
theorem reference_frame : quiescent_DownFRefIdeal := fun m ρ _ =>
  (θ_run Cert.DownFRefIdeal.defs _ _).mono (fun r h => ⟨fun c => (h c).2, sem_eq_zero_of_no_sems (by decide) r.2⟩)
    (Cert.DownFRefIdeal.Value.run (F := Ideal) m ρ)

end Cert.Proof.DownF

end
-- ==== Proof.Sb.Block.lean ====
module

public import proofs.«01_k».proof.Proof.Gen.SbBwdIdeal

@[expose] public section

noncomputable section

namespace Cert.Proof.Sb

open Idealize.ShloMosaic Idealize.SL.Sem Cert.SbBwdIdeal Cert.SbBwdIdeal.Gen

variable {F : FTy → Type} [FloatOps F]

/-- A matrix, and one slab of a stack of matrices. -/
abbrev M (n k : ℕ) : Shape := ⟨2, ![n, k]⟩
abbrev L (n k : ℕ) : Shape := ⟨3, ![1, n, k]⟩
abbrev C (n : ℕ) : Shape := ⟨1, ![n]⟩

/-- The shape relations that one block takes, of the `n` last rows of a tile of queries. -/
structure Ev (n row : ℕ) : Prop where
  hM : 0 < (L n 128).numel
  hC : 0 < (L n 1).numel
  hT : 0 < (L 128 n).numel
  castM : (L n 128).ShapeCasts (M n 128)
  castC : (L n 1).ShapeCasts (M n 1)
  castT : (L 128 n).ShapeCasts (M 128 n)
  castM' : (M n 128).ShapeCasts (L n 128)
  castC' : (M n 1).ShapeCasts (L n 1)
  castV : (C n).ShapeCasts (M n 1)
  bc : (M n 1).Broadcasts (M n 128)
  red : (M n 128).Reduces [1] (C n)
  nt : DotDims.WF (M n 128) (M 128 128) (M n 128) [1] [1] [0] [0] [] []
  nn : DotDims.WF (M n 128) (M 128 128) (M n 128) [1] [0] [0] [1] [] []
  tn : DotDims.WF (M 128 n) (M n 128) (M 128 128) [1] [0] [0] [1] [] []
  inM : ∀ h : Fin 2, ∀ a, (![h.val, row, 0] : Fin 3 → ℕ) a + (L n 128).size a ≤ S2x1024x128.size a
  inC : ∀ h : Fin 2, ∀ a, (![h.val, row, 0] : Fin 3 → ℕ) a + (L n 1).size a ≤ S2x1024x1.size a
  i0 : (M n 128).Iotas .tc 32 [0]
  i1 : (M n 128).Iotas .tc 32 [1]
  inT : ∀ h : Fin 2, ∀ a, (![h.val, 0, row] : Fin 3 → ℕ) a + (L 128 n).size a ≤ S2x128x1024.size a

section
variable {n row : ℕ} (ev : Ev n row)
include ev

/-- Rows against columns of the second operand's transpose, against its rows, and of the transposed first. -/
def dotNT : DotDims (M n 128) (M 128 128) (M n 128) := ⟨[1], [1], [0], [0], [], [], ev.nt⟩
def dotNN : DotDims (M n 128) (M 128 128) (M n 128) := ⟨[1], [0], [0], [1], [], [], ev.nn⟩
def dotTN : DotDims (M 128 n) (M n 128) (M 128 128) := ⟨[1], [0], [0], [1], [], [], ev.tn⟩

end

/-- The scalar zero of a mask, spread over a matrix. -/
def zeroM (n k : ℕ) : FVec F (M n k) .f32 := broadcast (M n k) (Scalar.ofBits .f32 0x00000000#32)
def oneM (n k : ℕ) : FVec F (M n k) .f32 := broadcast (M n k) (Scalar.ofBits .f32 0x3F800000#32)

/-- A matrix where a mask holds, zero elsewhere; the whole matrix where there is no mask. -/
def keep {n : ℕ} (mask : Option (IVec (M n 128) 1)) (x : FVec F (M n 128) .f32) : FVec F (M n 128) .f32 :=
  match mask with
  | some k => select k x (broadcast (M n 128) (Scalar.ofBits .f32 0x00000000#32))
  | none => x

section
variable {n row : ℕ} (ev : Ev n row)

/-- The scores of one block. -/
def scores (qa : Vec F (L n 128) .bf16) (kj : FVec F S128x128 .bf16) : FVec F (M n 128) .f32 :=
  matmul (dotNT ev) none (shapeCast (M n 128) qa ev.castM) kj (constant (M n 128) .f32 0x00000000#32)

/-- The logarithm of one plus the exponential of the negated absolute score. -/
def soft (z : FVec F (M n 128) .f32) : FVec F (M n 128) .f32 :=
  log (addf (broadcast (M n 128) (Scalar.ofBits .f32 0x3F800000#32))
    (exp (subf (broadcast (M n 128) (Scalar.ofBits .f32 0x00000000#32)) (absf z))))

def lsPos (z : FVec F (M n 128) .f32) : FVec F (M n 128) .f32 :=
  subf (minimumf z (broadcast (M n 128) (Scalar.ofBits .f32 0x00000000#32))) (soft z)

def lsNeg (mask : Option (IVec (M n 128) 1)) (z : FVec F (M n 128) .f32) : FVec F (M n 128) .f32 :=
  keep mask (subf (subf (broadcast (M n 128) (Scalar.ofBits .f32 0x00000000#32))
    (maximumf z (broadcast (M n 128) (Scalar.ofBits .f32 0x00000000#32)))) (soft z))

/-- A product with a triangle of ones, of the leading half and of the rest. -/
def split (x : FVec F (M n 128) .f32) (u : FVec F S128x128 .bf16) : FVec F (M n 128) .f32 :=
  addf (matmul (dotNN ev) none (truncf .bf16 x bitsLt_bf16_f32) u (constant (M n 128) .f32 0x00000000#32))
    (matmul (dotNN ev) none (truncf .bf16 (subf x (extf .f32 (truncf .bf16 x bitsLt_bf16_f32) bitsLt_bf16_f32)) bitsLt_bf16_f32)
      u (constant (M n 128) .f32 0x00000000#32))

/-- The sum of a matrix's rows, as a column. -/
def rowSum (x : FVec F (M n 128) .f32) : FVec F (M n 1) .f32 :=
  shapeCast (M n 1) (multiReduction .add [1] (C n) x 0x00000000#32 ev.red (.inl rfl) rfl) ev.castV

/-- The attention weights of one block. -/
def weights (mask : Option (IVec (M n 128) 1)) (upper : FVec F S128x128 .bf16) (z : FVec F (M n 128) .f32)
    (runl : Vec F (L n 1) .f32) : FVec F (M n 128) .f32 :=
  keep mask (exp (addf (addf (lsPos z) (split ev (lsNeg mask z) upper))
    (broadcastTo (M n 128) (shapeCast (M n 1) runl ev.castC) ev.bc)))

/-- The weights times their gradients. -/
def errs (p : FVec F (M n 128) .f32) (doa : Vec F (L n 128) .bf16) (vj : FVec F S128x128 .bf16) : FVec F (M n 128) .f32 :=
  mulf p (matmul (dotNT ev) none (shapeCast (M n 128) doa ev.castM) vj (constant (M n 128) .f32 0x00000000#32))

/-- The gradients of the scores. -/
def dscores (mask : Option (IVec (M n 128) 1)) (incl : FVec F S128x128 .bf16) (z e : FVec F (M n 128) .f32)
    (rune etot : Vec F (L n 1) .f32) : FVec F (M n 128) .bf16 :=
  truncf .bf16 (keep mask (subf
    (mulf e (subf (broadcast (M n 128) (Scalar.ofBits .f32 0x3F800000#32)) (exp (lsPos z))))
    (mulf (exp (lsPos z)) (subf (broadcastTo (M n 128) (shapeCast (M n 1) etot ev.castC) ev.bc)
      (addf (split ev e incl) (broadcastTo (M n 128) (shapeCast (M n 1) rune ev.castC) ev.bc)))))) bitsLt_bf16_f32

/-- A slab with a product of the scores' gradients and the keys added. -/
def dqNew (old : Vec F (L n 128) .f32) (dz : FVec F (M n 128) .bf16) (kj : FVec F S128x128 .bf16) : FVec F (L n 128) .f32 :=
  shapeCast (L n 128) (addf (shapeCast (M n 128) old ev.castM)
    (matmul (dotNN ev) none dz kj (constant (M n 128) .f32 0x00000000#32))) ev.castM'

/-- A block with the product of a transposed slab and a matrix added. -/
def accNew (old : FVec F S128x128 .f32) (xt : Vec F (L 128 n) .bf16) (w : FVec F (M n 128) .bf16) : FVec F S128x128 .f32 :=
  addf old (matmul (dotTN ev) none (shapeCast (M 128 n) xt ev.castT) w (constant S128x128 .f32 0x00000000#32))

/-- A column with the sums of a matrix's rows added. -/
def colNew (old : Vec F (L n 1) .f32) (x : FVec F (M n 128) .f32) : FVec F (L n 1) .f32 :=
  shapeCast (L n 1) (addf (shapeCast (M n 1) old ev.castC) (rowSum ev x)) ev.castC'

/-- The buffers of the body between its blocks. -/
structure Refs where
  arg12 : Memref sig .tc .vmem S2x1024x128 .bf16
  arg13 : Memref sig .tc .vmem S2x1024x128 .bf16
  arg14 : Memref sig .tc .vmem S2x128x1024 .bf16
  arg15 : Memref sig .tc .vmem S2x128x1024 .bf16
  arg16 : Memref sig .tc .vmem S2x1024x128 .f32
  arg17 : Memref sig .tc .vmem S2x1024x1 .f32
  arg18 : Memref sig .tc .vmem S2x1024x1 .f32
  arg19 : Memref sig .tc .vmem S2x1024x1 .f32

/-- The slabs of head `h`: its `n` last rows, of width 128, 1, or transposed. -/
abbrev rM (h : Fin 2) : Rect S2x1024x128 := Rect.unit (s := S2x1024x128) ![h.val, row, 0] (L n 128).size (ev.inM h)
abbrev rC (h : Fin 2) : Rect S2x1024x1 := Rect.unit (s := S2x1024x1) ![h.val, row, 0] (L n 1).size (ev.inC h)
abbrev rT (h : Fin 2) : Rect S2x128x1024 := Rect.unit (s := S2x128x1024) ![h.val, 0, row] (L 128 n).size (ev.inT h)

/-- One head's part of a block: the weights, the gradients of the scores, and what they add to the accumulators. -/
def headBlock (R : Refs) (h : Fin 2) (mask : Option (IVec (M n 128) 1)) (upper incl kj vj : FVec F S128x128 .bf16)
    (dk dv : FVec F S128x128 .f32) :
    Prog (TpuEff nD τ sig (Elt F) Λ₀ .tc) (Σ' (_ : FVec F S128x128 .f32), FVec F S128x128 .f32) := do
  let qa : Vec F (L n 128) .bf16 ← Prog.lift (.load R.arg12 (rM ev h).toLoadRect (View.loadsAt_vmem ev.hM))
  let doa : Vec F (L n 128) .bf16 ← Prog.lift (.load R.arg13 (rM ev h).toLoadRect (View.loadsAt_vmem ev.hM))
  let rl : Vec F (L n 1) .f32 ← Prog.lift (.load R.arg18 (rC ev h).toLoadRect (View.loadsAt_vmem ev.hC))
  let re : Vec F (L n 1) .f32 ← Prog.lift (.load R.arg19 (rC ev h).toLoadRect (View.loadsAt_vmem ev.hC))
  let et : Vec F (L n 1) .f32 ← Prog.lift (.load R.arg17 (rC ev h).toLoadRect (View.loadsAt_vmem ev.hC))
  let z := scores ev qa kj
  let p := weights ev mask upper z rl
  let e := errs ev p doa vj
  let dz := dscores ev mask incl z e re et
  let dq : Vec F (L n 128) .f32 ← Prog.lift (.load R.arg16 (rM ev h).toLoadRect (View.loadsAt_vmem ev.hM))
  let _ : Vec F (L n 128) .f32 ← Prog.lift (.load R.arg16 (rM ev h).toLoadRect (View.loadsAt_vmem ev.hM))
  Prog.lift (.store R.arg16 (rM ev h) (dqNew ev dq dz kj) Finset.univ (View.stores_vmem_bits_univ ev.hM rfl) (.inl rfl))
  let qt : Vec F (L 128 n) .bf16 ← Prog.lift (.load R.arg14 (rT ev h).toLoadRect (View.loadsAt_vmem ev.hT))
  let dt : Vec F (L 128 n) .bf16 ← Prog.lift (.load R.arg15 (rT ev h).toLoadRect (View.loadsAt_vmem ev.hT))
  let rl' : Vec F (L n 1) .f32 ← Prog.lift (.load R.arg18 (rC ev h).toLoadRect (View.loadsAt_vmem ev.hC))
  let _ : Vec F (L n 1) .f32 ← Prog.lift (.load R.arg18 (rC ev h).toLoadRect (View.loadsAt_vmem ev.hC))
  Prog.lift (.store R.arg18 (rC ev h) (colNew ev rl' (lsNeg mask z)) Finset.univ (View.stores_vmem_bits_univ ev.hC rfl) (.inl rfl))
  let re' : Vec F (L n 1) .f32 ← Prog.lift (.load R.arg19 (rC ev h).toLoadRect (View.loadsAt_vmem ev.hC))
  let _ : Vec F (L n 1) .f32 ← Prog.lift (.load R.arg19 (rC ev h).toLoadRect (View.loadsAt_vmem ev.hC))
  Prog.lift (.store R.arg19 (rC ev h) (colNew ev re' e) Finset.univ (View.stores_vmem_bits_univ ev.hC rfl) (.inl rfl))
  pure ⟨accNew ev dk qt dz, accNew ev dv dt (truncf .bf16 p bitsLt_bf16_f32)⟩

end

/-- A block of the accumulators with a matrix added. -/
def slabNew (old : Vec F S1x128x128 .f32) (x : FVec F S128x128 .f32) : FVec F S1x128x128 .f32 :=
  shapeCast S1x128x128 (addf (shapeCast S128x128 old shapeCasts_S1x128x128_S128x128) x) shapeCasts_S128x128_S1x128x128

/-- One block of keys: both heads, then the two accumulators of the keys' and the values' gradients. -/
def block {n row : ℕ} (ev : Ev n row) (R : Refs) (arg3 arg4 : Memref sig .tc .vmem S8192x128 .bf16)
    (arg10 arg11 : Memref sig .tc .vmem S64x128x128 .f32) (mask : Option (IVec (M n 128) 1))
    (upper incl : FVec F S128x128 .bf16) (o : Fin 2 → ℕ) (ho : ∀ a, o a + S128x128.size a ≤ S8192x128.size a)
    (w : Fin 3 → ℕ) (hw : ∀ a, w a + S1x128x128.size a ≤ S64x128x128.size a) :
    Prog (TpuEff nD τ sig (Elt F) Λ₀ .tc) PUnit := do
  let k : Vec F S128x128 .bf16 ← Prog.lift (.load arg3 (Rect.unit (s := S8192x128) o S128x128.size ho).toLoadRect (View.loadsAt_vmem h_S128x128))
  let v : Vec F S128x128 .bf16 ← Prog.lift (.load arg4 (Rect.unit (s := S8192x128) o S128x128.size ho).toLoadRect (View.loadsAt_vmem h_S128x128))
  let ⟨dk, dv⟩ ← headBlock ev R 0 mask upper incl (shapeCast S128x128 k shapeCasts_S128x128_S128x128)
    (shapeCast S128x128 v shapeCasts_S128x128_S128x128) (broadcast S128x128 (Scalar.ofBits .f32 0x00000000#32))
    (broadcast S128x128 (Scalar.ofBits .f32 0x00000000#32))
  let ⟨dk, dv⟩ ← headBlock ev R 1 mask upper incl (shapeCast S128x128 k shapeCasts_S128x128_S128x128)
    (shapeCast S128x128 v shapeCasts_S128x128_S128x128) dk dv
  let a : Vec F S1x128x128 .f32 ← Prog.lift (.load arg10 (Rect.unit (s := S64x128x128) w S1x128x128.size hw).toLoadRect (View.loadsAt_vmem h_S1x128x128))
  let _ : Vec F S1x128x128 .f32 ← Prog.lift (.load arg10 (Rect.unit (s := S64x128x128) w S1x128x128.size hw).toLoadRect (View.loadsAt_vmem h_S1x128x128))
  Prog.lift (.store arg10 (Rect.unit (s := S64x128x128) w S1x128x128.size hw) (slabNew a dk) Finset.univ (View.stores_vmem_bits_univ h_S1x128x128 rfl) (.inl rfl))
  let b : Vec F S1x128x128 .f32 ← Prog.lift (.load arg11 (Rect.unit (s := S64x128x128) w S1x128x128.size hw).toLoadRect (View.loadsAt_vmem h_S1x128x128))
  let _ : Vec F S1x128x128 .f32 ← Prog.lift (.load arg11 (Rect.unit (s := S64x128x128) w S1x128x128.size hw).toLoadRect (View.loadsAt_vmem h_S1x128x128))
  Prog.lift (.store arg11 (Rect.unit (s := S64x128x128) w S1x128x128.size hw) (slabNew b dv) Finset.univ (View.stores_vmem_bits_univ h_S1x128x128 rfl) (.inl rfl))

/-- The mask of a block on the diagonal: a key strictly before the query. -/
def diag {n row : ℕ} (ev : Ev n row) : IVec (M n 128) 1 :=
  cmpi .slt (iota .tc (M n 128) 32 [1] ev.i1) (iota .tc (M n 128) 32 [0] ev.i0)

theorem ev1024 : Ev 1024 0 := by constructor <;> decide
theorem ev896 : Ev 896 128 := by constructor <;> decide
theorem ev768 : Ev 768 256 := by constructor <;> decide
theorem ev640 : Ev 640 384 := by constructor <;> decide
theorem ev512 : Ev 512 512 := by constructor <;> decide
theorem ev384 : Ev 384 640 := by constructor <;> decide
theorem ev256 : Ev 256 768 := by constructor <;> decide
theorem ev128 : Ev 128 896 := by constructor <;> decide

end Cert.Proof.Sb

end
-- ==== Proof.Sb.Own.lean ====
module

public import proofs.«01_k».proof.Proof.Sb.Block
public import proofs.«01_k».proof.Proof.Gen.SbBwdIdeal.Frame
public import Idealize.ShloMosaic.Lib.VecWindow

@[expose] public section

noncomputable section

namespace Cert.Proof.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.SbBwdIdeal Cert.SbBwdIdeal.Gen

variable {F : FTy → Type} [FloatOps F]

/-- The machine's propositions, and the weakest precondition of one core's program. -/
abbrev MM (F : FTy → Type) [FloatOps F] := MT nD τ sig Unit (Elt F) ℕ (UR sig nD τ) ℕ
abbrev W (c : Dev nD) (E : Set ℕ) {α : Type} (p : Prog (TpuEff nD τ sig (Elt F) Λ₀ .tc) α) (Q : α → sProp (MM F)) : sProp (MM F) :=
  wp frame (wpE (defs₀ (F := F)) Variants.none (c : Thread nD τ) none) E p Q

/-- A buffer of known contents, whole. -/
abbrev own (c : Dev nD) {s : Shape} {e : EltTy} (m : Memref sig .tc .vmem s e) (X : s.Idx → Elt F e) : sProp (MM F) :=
  owns (c : Thread nD τ) m fullShare X

section
variable (c : Dev nD) (E : Set ℕ) {α : Type} {Q : α → sProp (MM F)} {s : Shape} {e : EltTy}
  {m : Memref sig .tc .vmem s e} {off size : Fin s.rank → ℕ} {inb : ∀ a, off a + size a ≤ s.size a}

/-- A load from a buffer of known contents returns a window of them. -/
theorem own_load (X : s.Idx → Elt F e) {hl : m.view.LoadsAt (Rect.unit off size inb).toLoadRect}
    {k : ((Rect.unit off size inb).shape.Idx → Elt F e) → Prog (TpuEff nD τ sig (Elt F) Λ₀ .tc) α} :
    own (F := F) c m X
      ⊢ iprop((own c m X -∗ W c E (k (VecWindow.window X off size inb)) Q)
        -∗ W c E (Prog.lift (.load m (Rect.unit off size inb).toLoadRect hl) >>= k) Q) := by
  unfold own owns
  iintro ⟨%f, %hf, H⟩ Hk
  subst hf
  iapply (wp_load Variants.none (c : Thread nD τ) none E (View.setOn_subset_set _ _)) $$ H
  iintro H
  iapply Hk
  iexists f
  isplitr
  · ipureintro; rfl
  iexact H

/-- A store into a buffer of known contents puts its value over a window of them. -/
theorem own_store (X : s.Idx → Elt F e) {w : (Rect.unit off size inb).shape.Idx → Elt F e}
    {hx : (m.access (Rect.unit off size inb)).Stores Finset.univ} {hm : Finset.univ = Finset.univ ∨ ∀ a, (Rect.unit off size inb).stride a = 1}
    {k : PUnit → Prog (TpuEff nD τ sig (Elt F) Λ₀ .tc) α} :
    own (F := F) c m X
      ⊢ iprop((own c m (VecWindow.put X off size w) -∗ W c E (k ⟨⟩) Q)
        -∗ W c E (Prog.lift (.store m (Rect.unit off size inb) w Finset.univ hx hm) >>= k) Q) := by
  unfold own owns
  iintro ⟨%f, %hf, H⟩ Hk
  subst hf
  iapply (wp_store_writes₀ Variants.none (c : Thread nD τ) none E (View.set_slice_subset _ _)) $$ H
  iintro H
  iapply Hk
  iexists _
  isplitr
  · ipureintro; exact View.read_writes_cons_put m.view f inb w [] rfl
  iexact H

/-- A store of a whole buffer leaves its value. -/
theorem own_store_full (X : s.Idx → Elt F e) {off : Fin s.rank → ℕ} {inb : ∀ a, off a + s.size a ≤ s.size a}
    {w : (Rect.unit off s.size inb).shape.Idx → Elt F e}
    {hx : (m.access (Rect.unit off s.size inb)).Stores Finset.univ} {hm : Finset.univ = Finset.univ ∨ ∀ a, (Rect.unit off s.size inb).stride a = 1}
    {k : PUnit → Prog (TpuEff nD τ sig (Elt F) Λ₀ .tc) α} :
    own (F := F) c m X
      ⊢ iprop((own c m (w : s.Idx → Elt F e) -∗ W c E (k ⟨⟩) Q)
        -∗ W c E (Prog.lift (.store m (Rect.unit off s.size inb) w Finset.univ hx hm) >>= k) Q) := by
  unfold own owns
  iintro ⟨%f, %hf, H⟩ Hk
  subst hf
  iapply (wp_store_writes₀ Variants.none (c : Thread nD τ) none E (View.set_slice_subset _ _)) $$ H
  iintro H
  iapply Hk
  iexists _
  isplitr
  · ipureintro; exact View.read_writes_full m.view f inb w []
  iexact H

/-- The same for a store that ends a program. -/
theorem own_store' (X : s.Idx → Elt F e) {w : (Rect.unit off size inb).shape.Idx → Elt F e} {Q : PUnit → sProp (MM F)}
    {hx : (m.access (Rect.unit off size inb)).Stores Finset.univ} {hm : Finset.univ = Finset.univ ∨ ∀ a, (Rect.unit off size inb).stride a = 1} :
    own (F := F) c m X
      ⊢ iprop((own c m (VecWindow.put X off size w) -∗ Q ⟨⟩)
        -∗ W c E (Prog.lift (.store m (Rect.unit off size inb) w Finset.univ hx hm)) Q) := by
  have h := own_store (F := F) c E (Q := Q) (k := fun _ => pure ⟨⟩) X (w := w) (hx := hx) (hm := hm)
  iintro H Hk
  iapply h $$ H
  iintro H
  unfold W; sl_step
  iapply Hk
  iexact H

end

open VecWindow

/-- The window of a whole array. -/
theorem window_full {α : Type} {s : Shape} (x : s.Idx → α) {off : Fin s.rank → ℕ} (inb : ∀ a, off a + s.size a ≤ s.size a) (h : ∀ a, off a = 0) :
    window x off s.size inb = x := by
  funext y
  exact congrArg x (funext fun a => Fin.ext (by
    show off a + 1 * (y a).val = (y a).val
    rw [h a]; omega))

/-- What the blocks read: the two heads' queries and output gradients, both also transposed, and the rows' totals. -/
structure Ro (F : FTy → Type) where
  q : S2x1024x128.Idx → Elt F .bf16
  d : S2x1024x128.Idx → Elt F .bf16
  qt : S2x128x1024.Idx → Elt F .bf16
  dt : S2x128x1024.Idx → Elt F .bf16
  et : S2x1024x1.Idx → Elt F .f32

/-- What a head's part of a block changes: the queries' gradients and the two running sums. -/
structure Hs (F : FTy → Type) where
  dq : S2x1024x128.Idx → Elt F .f32
  rl : S2x1024x1.Idx → Elt F .f32
  re : S2x1024x1.Idx → Elt F .f32

/-- The buffers of the blocks, at known contents. -/
def ownRo (c : Dev nD) (R : Refs) (x : Ro F) : sProp (MM F) :=
  iprop(own c R.arg12 x.q ∗ own c R.arg13 x.d ∗ own c R.arg14 x.qt ∗ own c R.arg15 x.dt ∗ own c R.arg17 x.et)
def ownHs (c : Dev nD) (R : Refs) (x : Hs F) : sProp (MM F) :=
  iprop(own c R.arg16 x.dq ∗ own c R.arg18 x.rl ∗ own c R.arg19 x.re)

section
variable {n row : ℕ} (ev : Ev n row) (h : Fin 2)

abbrev wM {e : EltTy} (x : S2x1024x128.Idx → Elt F e) : Vec F (L n 128) e := window x ![h.val, row, 0] (L n 128).size (ev.inM h)
abbrev wC {e : EltTy} (x : S2x1024x1.Idx → Elt F e) : Vec F (L n 1) e := window x ![h.val, row, 0] (L n 1).size (ev.inC h)
abbrev wT {e : EltTy} (x : S2x128x1024.Idx → Elt F e) : Vec F (L 128 n) e := window x ![h.val, 0, row] (L 128 n).size (ev.inT h)

variable (mask : Option (IVec (M n 128) 1)) (upper incl kj vj : FVec F S128x128 .bf16) (x : Ro F) (y : Hs F)

/-- A head's scores, weights, errors and gradients of the scores in one block. -/
def hz : FVec F (M n 128) .f32 := scores ev (wM ev h x.q) kj
def hp : FVec F (M n 128) .f32 := weights ev mask upper (hz ev h kj x) (wC ev h y.rl)
def he : FVec F (M n 128) .f32 := errs ev (hp ev h mask upper kj x y) (wM ev h x.d) vj
def hdz : FVec F (M n 128) .bf16 :=
  dscores ev mask incl (hz ev h kj x) (he ev h mask upper kj vj x y) (wC ev h y.re) (wC ev h x.et)

/-- The state after a head's part of a block. -/
def hs : Hs F where
  dq := put y.dq ![h.val, row, 0] (L n 128).size (dqNew ev (wM ev h y.dq) (hdz ev h mask upper incl kj vj x y) kj)
  rl := put y.rl ![h.val, row, 0] (L n 1).size (colNew ev (wC ev h y.rl) (lsNeg mask (hz ev h kj x)))
  re := put y.re ![h.val, row, 0] (L n 1).size (colNew ev (wC ev h y.re) (he ev h mask upper kj vj x y))

theorem headBlock_spec (c : Dev nD) (E : Set ℕ) (R : Refs) (dk dv : FVec F S128x128 .f32) :
    iprop(ownRo c R x ∗ ownHs c R y)
      ⊢ W c E (headBlock ev R h mask upper incl kj vj dk dv) (fun r =>
        iprop(⌜r = ⟨accNew ev dk (wT ev h x.qt) (hdz ev h mask upper incl kj vj x y),
            accNew ev dv (wT ev h x.dt) (truncf .bf16 (hp ev h mask upper kj x y) bitsLt_bf16_f32)⟩⌝
          ∗ ownRo c R x ∗ ownHs c R (hs ev h mask upper incl kj vj x y))) := by
  unfold headBlock ownRo ownHs
  dsimp only
  iintro ⟨⟨H12, H13, H14, H15, H17⟩, H16, H18, H19⟩
  iapply (own_load c E x.q) $$ H12; iintro H12
  iapply (own_load c E x.d) $$ H13; iintro H13
  iapply (own_load c E y.rl) $$ H18; iintro H18
  iapply (own_load c E y.re) $$ H19; iintro H19
  iapply (own_load c E x.et) $$ H17; iintro H17
  iapply (own_load c E y.dq) $$ H16; iintro H16
  iapply (own_load c E y.dq) $$ H16; iintro H16
  iapply (own_store c E y.dq) $$ H16; iintro H16
  iapply (own_load c E x.qt) $$ H14; iintro H14
  iapply (own_load c E x.dt) $$ H15; iintro H15
  iapply (own_load c E y.rl) $$ H18; iintro H18
  iapply (own_load c E y.rl) $$ H18; iintro H18
  iapply (own_store c E y.rl) $$ H18; iintro H18
  iapply (own_load c E y.re) $$ H19; iintro H19
  iapply (own_load c E y.re) $$ H19; iintro H19
  iapply (own_store c E y.re) $$ H19; iintro H19
  unfold W; sl_step
  isplitr
  · ipureintro; rfl
  isplitl [H12 H13 H14 H15 H17]
  · iframe
  isplitl [H16]; · iexact H16
  isplitl [H18]; · iexact H18
  iexact H19

/-- The blocks' state: a head's, and the two accumulators. -/
structure St (F : FTy → Type) where
  hs : Hs F
  dk : S64x128x128.Idx → Elt F .f32
  dv : S64x128x128.Idx → Elt F .f32

/-- The keys and the values of one block. -/
abbrev blk (x : S8192x128.Idx → Elt F .bf16) (o : Fin 2 → ℕ) (ho : ∀ a, o a + S128x128.size a ≤ S8192x128.size a) : FVec F S128x128 .bf16 :=
  shapeCast S128x128 (window x o S128x128.size ho) shapeCasts_S128x128_S128x128

/-- What the two heads' parts of a block leave and what they add to the accumulators. -/
def two : Hs F × FVec F S128x128 .f32 × FVec F S128x128 .f32 :=
  let y1 := hs ev 0 mask upper incl kj vj x y
  (hs ev 1 mask upper incl kj vj x y1,
    accNew ev (accNew ev (broadcast S128x128 (Scalar.ofBits .f32 0x00000000#32)) (wT ev 0 x.qt) (hdz ev 0 mask upper incl kj vj x y)) (wT ev 1 x.qt)
      (hdz ev 1 mask upper incl kj vj x y1),
    accNew ev (accNew ev (broadcast S128x128 (Scalar.ofBits .f32 0x00000000#32)) (wT ev 0 x.dt) (truncf .bf16 (hp ev 0 mask upper kj x y) bitsLt_bf16_f32))
      (wT ev 1 x.dt) (truncf .bf16 (hp ev 1 mask upper kj x y1) bitsLt_bf16_f32))

/-- The state after a block. -/
def st (y : St F) (w : Fin 3 → ℕ) (hw : ∀ a, w a + S1x128x128.size a ≤ S64x128x128.size a) : St F where
  hs := (two ev mask upper incl kj vj x y.hs).1
  dk := put y.dk w S1x128x128.size (slabNew (window y.dk w S1x128x128.size hw) (two ev mask upper incl kj vj x y.hs).2.1)
  dv := put y.dv w S1x128x128.size (slabNew (window y.dv w S1x128x128.size hw) (two ev mask upper incl kj vj x y.hs).2.2)

end

/-- Everything the blocks hold. -/
def ownSt (c : Dev nD) (R : Refs) (arg3 arg4 : Memref sig .tc .vmem S8192x128 .bf16)
    (arg10 arg11 : Memref sig .tc .vmem S64x128x128 .f32) (k v : S8192x128.Idx → Elt F .bf16) (x : Ro F) (y : St F) : sProp (MM F) :=
  iprop(own c arg3 k ∗ own c arg4 v ∗ ownRo c R x ∗ ownHs c R y.hs ∗ own c arg10 y.dk ∗ own c arg11 y.dv)

theorem block_spec {n row : ℕ} (ev : Ev n row) (c : Dev nD) (E : Set ℕ) (R : Refs) (arg3 arg4 : Memref sig .tc .vmem S8192x128 .bf16)
    (arg10 arg11 : Memref sig .tc .vmem S64x128x128 .f32) (mask : Option (IVec (M n 128) 1))
    (upper incl : FVec F S128x128 .bf16) (o : Fin 2 → ℕ) (ho : ∀ a, o a + S128x128.size a ≤ S8192x128.size a)
    (w : Fin 3 → ℕ) (hw : ∀ a, w a + S1x128x128.size a ≤ S64x128x128.size a)
    (k v : S8192x128.Idx → Elt F .bf16) (x : Ro F) (y : St F) :
    ownSt c R arg3 arg4 arg10 arg11 k v x y
      ⊢ W c E (block ev R arg3 arg4 arg10 arg11 mask upper incl o ho w hw) (fun _ =>
        ownSt c R arg3 arg4 arg10 arg11 k v x (st ev mask upper incl (blk k o ho) (blk v o ho) x y w hw)) := by
  unfold block ownSt
  iintro ⟨H3, H4, Hx, Hy, H10, H11⟩
  iapply (own_load c E k) $$ H3; iintro H3
  iapply (own_load c E v) $$ H4; iintro H4
  unfold W
  rw [wp_bind]
  iapply (wp_wand_r frame (wpE (defs₀ (F := F)) Variants.none (c : Thread nD τ) none) E)
  isplitl [Hx Hy]
  · iapply (headBlock_spec ev 0 mask upper incl _ _ x y.hs c E R)
    iframe
  iintro %r ⟨%hr, Hx, Hy⟩
  subst hr
  dsimp only
  rw [wp_bind]
  iapply (wp_wand_r frame (wpE (defs₀ (F := F)) Variants.none (c : Thread nD τ) none) E)
  isplitl [Hx Hy]
  · iapply (headBlock_spec ev 1 mask upper incl _ _ x _ c E R)
    iframe
  iintro %r ⟨%hr, Hx, Hy⟩
  subst hr
  dsimp only
  iapply (own_load c E y.dk) $$ H10; iintro H10
  iapply (own_load c E y.dk) $$ H10; iintro H10
  iapply (own_store c E y.dk) $$ H10; iintro H10
  iapply (own_load c E y.dv) $$ H11; iintro H11
  iapply (own_load c E y.dv) $$ H11; iintro H11
  iapply (own_store' c E y.dv) $$ H11; iintro H11
  isplitl [H3]; · iexact H3
  isplitl [H4]; · iexact H4
  isplitl [Hx]; · iexact Hx
  isplitl [Hy]; · iexact Hy
  isplitl [H10]; · iexact H10
  iexact H11

end Cert.Proof.Sb

end
-- ==== Proof.Sb.Real.lean ====
module

public import Idealize.ShloMosaic.Lib.ValueIdx
public import Idealize.ShloMosaic.Lib.ValueLayout
public import Idealize.ShloMosaic.Lib.MatmulPlain
public import Idealize.ShloMosaic.Lib.Pipeline.Value
public import proofs.«01_k».proof.Proof.Sb.Own

@[expose] public section

noncomputable section

namespace Cert.Proof.Sb

open Idealize.ShloMosaic Idealize.ShloMosaic.ValueIdx Idealize.SL.Sem Cert.SbBwdIdeal Cert.SbBwdIdeal.Gen VecWindow
open scoped BigOperators

/-- An array of reals, its entries by their coordinates. -/
def IsM {n k : ℕ} (X : (M n k).Idx → EReal) (f : ℕ → ℕ → ℝ) : Prop := ∀ (r : Fin n) (c : Fin k), X (ix2 r c) = ((f r c : ℝ) : EReal)
def IsA {m n k : ℕ} (X : (⟨3, ![m, n, k]⟩ : Shape).Idx → EReal) (f : ℕ → ℕ → ℕ → ℝ) : Prop :=
  ∀ (h : Fin m) (r : Fin n) (c : Fin k), X (ix3 h r c) = ((f h r c : ℝ) : EReal)

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_sum_fin (n : ℕ) (f : ℕ → ℝ) : ∑ i : Fin n, ((f i : ℝ) : EReal) = ((∑ i ∈ Finset.range n, f i : ℝ) : EReal) := by
  rw [coe_sum, Finset.sum_range]

theorem coe_max (x y : ℝ) : max (x : EReal) (y : EReal) = ((max x y : ℝ) : EReal) := (EReal.coe_strictMono.monotone.map_max).symm
theorem coe_min (x y : ℝ) : min (x : EReal) (y : EReal) = ((min x y : ℝ) : EReal) := (EReal.coe_strictMono.monotone.map_min).symm

theorem ofBits_one : Ideal.ofBits .f32 0x3F800000#32 = ((1 : ℝ) : EReal) := by
  simp [Ideal.ofBits, Ideal.ieee]
  rw [← EReal.coe_mul]
  norm_num
theorem ofBits_zero : Ideal.ofBits .f32 0x00000000#32 = ((0 : ℝ) : EReal) := by
  rw [Ideal.ofBits_zero_f32]; rfl

section
variable {n k : ℕ} {X Y : (M n k).Idx → EReal} {f g : ℕ → ℕ → ℝ}

theorem IsM.congr (hX : IsM X f) (h : ∀ r < n, ∀ c < k, f r c = g r c) : IsM X g := fun r c => by
  rw [hX r c, h r r.isLt c c.isLt]

theorem IsM.add {φ : FTy} {X Y : FVec Ideal (M n k) φ} (hX : IsM X f) (hY : IsM Y g) : IsM (addf X Y) (fun r c => f r c + g r c) := fun r c => by
  rw [addf_apply, hX r c, hY r c, ← EReal.coe_add]
theorem IsM.sub {φ : FTy} {X Y : FVec Ideal (M n k) φ} (hX : IsM X f) (hY : IsM Y g) : IsM (subf X Y) (fun r c => f r c - g r c) := fun r c => by
  rw [subf_apply, hX r c, hY r c, ← EReal.coe_sub]
theorem IsM.mul {φ : FTy} {X Y : FVec Ideal (M n k) φ} (hX : IsM X f) (hY : IsM Y g) : IsM (mulf X Y) (fun r c => f r c * g r c) := fun r c => by
  rw [mulf_apply, hX r c, hY r c, ← EReal.coe_mul]
theorem IsM.max {φ : FTy} {X Y : FVec Ideal (M n k) φ} (hX : IsM X f) (hY : IsM Y g) : IsM (maximumf X Y) (fun r c => Max.max (f r c) (g r c)) := fun r c => by
  rw [maximumf_apply, hX r c, hY r c, coe_max]
theorem IsM.min {φ : FTy} {X Y : FVec Ideal (M n k) φ} (hX : IsM X f) (hY : IsM Y g) : IsM (minimumf X Y) (fun r c => Min.min (f r c) (g r c)) := fun r c => by
  rw [minimumf_apply, hX r c, hY r c, coe_min]
theorem IsM.abs {φ : FTy} {X : FVec Ideal (M n k) φ} (hX : IsM X f) : IsM (absf X) (fun r c => |f r c|) := fun r c => by
  show Max.max (X (ix2 r c)) (-(X (ix2 r c))) = _
  rw [hX r c, ← EReal.coe_neg, coe_max]; rfl
theorem IsM.exp {φ : FTy} {X : FVec Ideal (M n k) φ} (hX : IsM X f) : IsM (Idealize.ShloMosaic.exp X) (fun r c => Real.exp (f r c)) := fun r c => by
  show Ideal.exp (X (ix2 r c)) = _
  rw [hX r c]; rfl
theorem IsM.log {φ : FTy} {X : FVec Ideal (M n k) φ} (hX : IsM X f) (hp : ∀ r c, 0 < f r c) : IsM (Idealize.ShloMosaic.log X) (fun r c => Real.log (f r c)) := fun r c => by
  show Ideal.log (X (ix2 r c)) = _
  rw [hX r c]
  show (if f r c ≤ 0 then ⊥ else ((Real.log (f r c) : ℝ) : EReal)) = _
  rw [if_neg (not_le.mpr (hp _ _))]
theorem IsM.zero : IsM (broadcast (M n k) (Scalar.ofBits (F := Ideal) .f32 0x00000000#32)) (fun _ _ => 0) := fun r c => ofBits_zero
theorem IsM.one : IsM (broadcast (M n k) (Scalar.ofBits (F := Ideal) .f32 0x3F800000#32)) (fun _ _ => 1) := fun r c => ofBits_one
end

theorem IsM.col {n k : ℕ} {X : (M n 1).Idx → EReal} {f : ℕ → ℕ → ℝ} (hX : IsM X f) (h : (M n 1).Broadcasts (M n k)) (hn : n ≠ 1) :
    IsM (broadcastTo (M n k) X h) (fun r c => f r 0) := fun r c => by
  rw [broadcastTo_apply X h (ix2 r c) (ix2 r (0 : Fin 1)) (fun a => ?_)]
  · exact hX r 0
  · match a with
    | ⟨0, _⟩ => exact (if_neg (show ¬ n = 1 from hn)).symm
    | ⟨1, _⟩ => rfl

theorem IsA.drop {n k : ℕ} {X : (L n k).Idx → EReal} {f : ℕ → ℕ → ℕ → ℝ} (hX : IsA X f) (h : (L n k).ShapeCasts (M n k)) :
    IsM (shapeCast (M n k) X h) (f 0) := fun r c => by
  rw [shapeCast_1ab_ab_apply]; exact hX 0 r c

theorem IsM.lift {n k : ℕ} {X : (M n k).Idx → EReal} {f : ℕ → ℕ → ℝ} (hX : IsM X f) (h : (M n k).ShapeCasts (L n k)) :
    IsA (shapeCast (L n k) X h) (fun _ => f) := fun a r c => by
  rw [shapeCast_ab_1ab_apply]; exact hX r c

theorem IsM.sumc {n : ℕ} {X : FVec Ideal (M n 128) .f32} {f : ℕ → ℕ → ℝ} (hX : IsM X f) (hr : (M n 128).Reduces [1] (C n))
    (hc : (C n).ShapeCasts (M n 1)) (h1) (h2) :
    IsM (shapeCast (M n 1) (multiReduction (F := Ideal) .add [1] (C n) X 0x00000000#32 hr h1 h2) hc) (fun r _ => ∑ c ∈ Finset.range 128, f r c) := fun r c => by
  rw [shapeCast_apply _ hc (ix2 r c) (ix1 r) (by
    rw [Shape.rowMajor_val_one, Shape.rowMajor_val_two]
    have := c.isLt
    show r.val = r.val * 1 + c.val
    omega), Ideal.multiReduction_add_single, ← coe_sum_fin]
  refine Finset.sum_congr rfl fun j _ => ?_
  rw [show hr.lift (ix1 r) j = ix2 r j from ?_]
  · exact hX r j
  · funext a
    match a with
    | ⟨0, _⟩ => rfl
    | ⟨1, _⟩ => rfl

section
variable {n row : ℕ} (ev : Ev n row)

theorem IsM.nt {φ₁ φ₂ : FTy} {X : FVec Ideal (M n 128) φ₁} {Y : FVec Ideal (M 128 128) φ₂} {f g : ℕ → ℕ → ℝ} (hX : IsM X f) (hY : IsM Y g) (p) :
    IsM (matmul (F := Ideal) (dotNT ev) p X Y (constant (M n 128) .f32 0x00000000#32)) (fun r s => ∑ c ∈ Finset.range 128, f r c * g s c) := fun r s => by
  refine (Ideal.matmul_transposedRhs_apply p X Y _ r s).trans ?_
  rw [constant_apply, Ideal.ofBits_zero_f32, zero_add, ← coe_sum_fin 128 (fun c => f r c * g s c)]
  exact Finset.sum_congr rfl fun c _ => by rw [hX r c, hY s c, EReal.coe_mul]

theorem IsM.nn {φ₁ φ₂ : FTy} {X : FVec Ideal (M n 128) φ₁} {Y : FVec Ideal (M 128 128) φ₂} {f g : ℕ → ℕ → ℝ} (hX : IsM X f) (hY : IsM Y g) (p) :
    IsM (matmul (F := Ideal) (dotNN ev) p X Y (constant (M n 128) .f32 0x00000000#32)) (fun r s => ∑ c ∈ Finset.range 128, f r c * g c s) := fun r s => by
  refine (Ideal.matmul_plain_apply p X Y _ r s).trans ?_
  rw [constant_apply, Ideal.ofBits_zero_f32, zero_add, ← coe_sum_fin 128 (fun c => f r c * g c s)]
  exact Finset.sum_congr rfl fun c _ => by rw [hX r c, hY c s, EReal.coe_mul]

theorem IsM.tn {φ₁ φ₂ : FTy} {X : FVec Ideal (M 128 n) φ₁} {Y : FVec Ideal (M n 128) φ₂} {f g : ℕ → ℕ → ℝ} (hX : IsM X f) (hY : IsM Y g) (p) :
    IsM (matmul (F := Ideal) (dotTN ev) p X Y (constant (M 128 128) .f32 0x00000000#32)) (fun c s => ∑ r ∈ Finset.range n, f c r * g r s) := fun r s => by
  refine (Ideal.matmul_plain_apply p X Y _ r s).trans ?_
  rw [constant_apply, Ideal.ofBits_zero_f32, zero_add, ← coe_sum_fin n (fun c => f r c * g c s)]
  exact Finset.sum_congr rfl fun c _ => by rw [hX r c, hY c s, EReal.coe_mul]

end

/-- A window and a put, of an array of reals. -/
theorem IsA.window {m n k m' n' k' : ℕ} {X : (⟨3, ![m, n, k]⟩ : Shape).Idx → EReal} {f : ℕ → ℕ → ℕ → ℝ} (hX : IsA X f) (o : Fin 3 → ℕ)
    (inb : ∀ a, o a + (⟨3, ![m', n', k']⟩ : Shape).size a ≤ (⟨3, ![m, n, k]⟩ : Shape).size a) :
    IsA (m := m') (n := n') (k := k') (VecWindow.window X o (⟨3, ![m', n', k']⟩ : Shape).size inb) (fun a b c => f (o 0 + a) (o 1 + b) (o 2 + c)) := fun a b c => by
  have h0 : o 0 + m' ≤ m := inb 0
  have h1 : o 1 + n' ≤ n := inb 1
  have h2 : o 2 + k' ≤ k := inb 2
  have := a.isLt; have := b.isLt; have := c.isLt
  refine Eq.trans ?_ (hX ⟨o 0 + a, by omega⟩ ⟨o 1 + b, by omega⟩ ⟨o 2 + c, by omega⟩)
  refine congrArg X (funext fun d => Fin.ext ?_)
  match d with
  | ⟨0, _⟩ => show o 0 + 1 * a.val = o 0 + a.val; omega
  | ⟨1, _⟩ => show o 1 + 1 * b.val = o 1 + b.val; omega
  | ⟨2, _⟩ => show o 2 + 1 * c.val = o 2 + c.val; omega

theorem IsM.window {n k n' k' : ℕ} {X : (M n k).Idx → EReal} {f : ℕ → ℕ → ℝ} (hX : IsM X f) (o : Fin 2 → ℕ)
    (inb : ∀ a, o a + (M n' k').size a ≤ (M n k).size a) :
    IsM (n := n') (k := k') (VecWindow.window X o (M n' k').size inb) (fun b c => f (o 0 + b) (o 1 + c)) := fun b c => by
  have h0 : o 0 + n' ≤ n := inb 0
  have h1 : o 1 + k' ≤ k := inb 1
  have := b.isLt; have := c.isLt
  refine Eq.trans ?_ (hX ⟨o 0 + b, by omega⟩ ⟨o 1 + c, by omega⟩)
  refine congrArg X (funext fun d => Fin.ext ?_)
  match d with
  | ⟨0, _⟩ => show o 0 + 1 * b.val = o 0 + b.val; omega
  | ⟨1, _⟩ => show o 1 + 1 * c.val = o 1 + c.val; omega

theorem IsA.put {m n k m' n' k' : ℕ} {X : (⟨3, ![m, n, k]⟩ : Shape).Idx → EReal} (o : Fin 3 → ℕ)
    {W : (⟨3, ![m', n', k']⟩ : Shape).Idx → EReal} {g F : ℕ → ℕ → ℕ → ℝ}
    (hX : ∀ (h : Fin m) (r : Fin n) (c : Fin k), ¬ ((o 0 ≤ h.val ∧ h.val < o 0 + m') ∧ (o 1 ≤ r.val ∧ r.val < o 1 + n') ∧ (o 2 ≤ c.val ∧ c.val < o 2 + k')) →
      X (ix3 h r c) = ((F h r c : ℝ) : EReal))
    (hW : IsA W g) (hg : ∀ h < m', ∀ r < n', ∀ c < k', F (o 0 + h) (o 1 + r) (o 2 + c) = g h r c) :
    IsA (VecWindow.put X o (⟨3, ![m', n', k']⟩ : Shape).size W) F := fun h r c => by
  unfold VecWindow.put
  by_cases hin : ∀ a, o a ≤ (ix3 h r c a).val ∧ (ix3 h r c a).val < o a + (⟨3, ![m', n', k']⟩ : Shape).size a
  · rw [dif_pos hin]
    have h0 : o 0 ≤ h.val ∧ h.val < o 0 + m' := hin 0
    have h1 : o 1 ≤ r.val ∧ r.val < o 1 + n' := hin 1
    have h2 : o 2 ≤ c.val ∧ c.val < o 2 + k' := hin 2
    have e := hg (h.val - o 0) (by omega) (r.val - o 1) (by omega) (c.val - o 2) (by omega)
    rw [show o 0 + (h.val - o 0) = h.val by omega, show o 1 + (r.val - o 1) = r.val by omega, show o 2 + (c.val - o 2) = c.val by omega] at e
    rw [e]
    refine Eq.trans ?_ (hW ⟨h.val - o 0, by omega⟩ ⟨r.val - o 1, by omega⟩ ⟨c.val - o 2, by omega⟩)
    refine congrArg W (funext fun d => Fin.ext ?_)
    match d with
    | ⟨0, _⟩ => rfl
    | ⟨1, _⟩ => rfl
    | ⟨2, _⟩ => rfl
  · rw [dif_neg hin]
    refine hX h r c fun hh => hin fun a => ?_
    match a with
    | ⟨0, _⟩ => exact hh.1
    | ⟨1, _⟩ => exact hh.2.1
    | ⟨2, _⟩ => exact hh.2.2

end Cert.Proof.Sb

end
-- ==== Proof.Sb.Fin.lean ====
module

public import proofs.«01_k».proof.Proof.Sb.Real
public import proofs.«01_k».proof.Pre_finite
public import Idealize.ShloMosaic.Lib.Pointwise

@[expose] public section

noncomputable section

namespace Cert.Proof.Sb

open Idealize.ShloMosaic

/-- The side conditions that the precondition states. -/
theorem finite_facts : Cert.Pre_finite.Facts := ⟨by decide, by decide⟩

/-- An extended real below infinity on both sides is its real value. -/
theorem real_of_abs (x : EReal) (h : Ideal.cmp .olt (max x (-x)) (Ideal.ofBits FTy.f32 0x7F800000#32) = 1#1) : x = ((x.toReal : ℝ) : EReal) := by
  rw [show Ideal.ofBits FTy.f32 0x7F800000#32 = ⊤ from by simp [Ideal.ofBits, Ideal.ieee]] at h
  have h2 : max x (-x) < ⊤ := by
    by_contra hn
    simp [Ideal.cmp, hn] at h
  refine (EReal.coe_toReal ?_ ?_).symm
  · rintro rfl; simp at h2
  · rintro rfl; simp at h2

/-- The real entries of an array, zero outside it. -/
def realOf {n k : ℕ} (A : (M n k).Idx → EReal) : ℕ → ℕ → ℝ := fun r c =>
  if h : r < n ∧ c < k then (A (ix2 ⟨r, h.1⟩ ⟨c, h.2⟩)).toReal else 0

theorem isM_realOf {n k : ℕ} (A : (M n k).Idx → EReal) (h : ∀ i, A i = (((A i).toReal : ℝ) : EReal)) : IsM A (realOf A) := fun r c => by
  unfold realOf
  rw [dif_pos ⟨r.isLt, c.isLt⟩]
  exact h _

/-- Two arrays of the same reals are one. -/
theorem IsM.eq {n k : ℕ} {A B : (M n k).Idx → EReal} {f : ℕ → ℕ → ℝ} (hA : IsM A f) (hB : IsM B f) : A = B := by
  funext i
  have hi : i = ix2 (i 0) (i 1) := by
    funext d; fin_cases d <;> rfl
  rw [hi]
  exact (hA (i 0) (i 1)).trans (hB (i 0) (i 1)).symm

section
attribute [local instance] finite_facts

theorem fin0 (A : FVec Ideal Cert.Pre_finite.S8192x3072 .f32) (B : FVec Ideal Cert.Pre_finite.S8192x1024 .f32)
    (h : (Cert.Pre_finite.fn (F := Ideal) A B).1 = fun _ => 1#1) : IsM (n := 8192) (k := 3072) A (realOf (n := 8192) (k := 3072) A) :=
  isM_realOf A fun i => real_of_abs _ (congrFun h i)

theorem fin1 (A : FVec Ideal Cert.Pre_finite.S8192x3072 .f32) (B : FVec Ideal Cert.Pre_finite.S8192x1024 .f32)
    (h : (Cert.Pre_finite.fn (F := Ideal) A B).2 = fun _ => 1#1) : IsM (n := 8192) (k := 1024) B (realOf (n := 8192) (k := 1024) B) :=
  isM_realOf B fun i => real_of_abs _ (congrFun h i)

end

end Cert.Proof.Sb
end
-- ==== Proof.Sb.Body.lean ====
module

public import proofs.«01_k».proof.Proof.Sb.Block
public import proofs.«01_k».proof.Proof.Gen.SbBwdIdeal.Skeleton

@[expose] public section

set_option maxRecDepth 65536

noncomputable section

namespace Cert.Proof.Sb

open Idealize.ShloMosaic Idealize.SL.Sem Cert.SbBwdIdeal Cert.SbBwdIdeal.Gen

variable {F : FTy → Type} [FloatOps F]

/-- The printed body between its first part and its last store. -/
def midL (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S64x128x128 .f32) (harg10 : arg10.IsWhole) (arg11 : Memref sig .tc .vmem S64x128x128 .f32) (harg11 : arg11.IsWhole) (arg12 : Memref sig .tc .vmem S2x1024x128 .bf16) (harg12 : arg12.IsWhole) (arg13 : Memref sig .tc .vmem S2x1024x128 .bf16) (harg13 : arg13.IsWhole) (arg14 : Memref sig .tc .vmem S2x128x1024 .bf16) (harg14 : arg14.IsWhole) (arg15 : Memref sig .tc .vmem S2x128x1024 .bf16) (harg15 : arg15.IsWhole) (arg16 : Memref sig .tc .vmem S2x1024x128 .f32) (harg16 : arg16.IsWhole) (arg17 : Memref sig .tc .vmem S2x1024x1 .f32) (harg17 : arg17.IsWhole) (arg18 : Memref sig .tc .vmem S2x1024x1 .f32) (harg18 : arg18.IsWhole) (arg19 : Memref sig .tc .vmem S2x1024x1 .f32) (harg19 : arg19.IsWhole) (arg1 : BitVec 32) (v3 : IVec S1x128 32) (v9 v15 : FVec F S128x128 .bf16) (v155 : FVec F S2x1024x1 .f32) :
    Prog (TpuEff nD τ sig (Elt F) Λ₀ .tc) (FVec F S1024x128 .f32) := do
  let ⟨v165, v169, v174, v177, v178, v179, v183, v185, v186, v187, cst_86⟩ : Σ' (v165 : IVec S128x128 1) (v169 : BitVec 32) (v174 : FVec F S128x128 .bf16) (v177 : FVec F S128x128 .bf16) (v178 : FVec F S128x128 .f32) (v179 : FVec F S128x128 .f32) (v183 : FVec F S128x128 .bf16) (v185 : FVec F S128x1 .f32) (v186 : FVec F S128x128 .f32) (v187 : FVec F S128x128 .f32), F .f32 ← k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v155
  let ⟨v216, v218, v219, v221, v232⟩ : Σ' (v216 : FVec F S128x128 .f32) (v218 : FVec F S128x1 .f32) (v219 : FVec F S128x128 .f32) (v221 : FVec F S128x128 .f32), FVec F S128x128 .f32 ← k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v9 v15 v165 v177 v183 v185 v186 v187 cst_86
  let ⟨v255, v260, v263⟩ : Σ' (v255 : FVec F S128x128 .f32) (v260 : FVec F S128x128 .f32), FVec F S128x1 .f32 ← k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v165 v174 v178 v179 v216 v218 v219 v221 v232
  let ⟨v278, v280, v291, v298, v299, v300⟩ : Σ' (v278 : FVec F S128x128 .bf16) (v280 : FVec F S128x1 .f32) (v291 : FVec F S128x128 .f32) (v298 : FVec F S128x128 .f32) (v299 : FVec F S128x128 .bf16), FVec F S128x128 .f32 ← k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v165 v174 v221 v263
  let ⟨v311, v313, v316, v339, v341, cst_169⟩ : Σ' (v311 : FVec F S128x128 .f32) (v313 : FVec F S128x1 .f32) (v316 : FVec F S128x128 .f32) (v339 : FVec F S128x128 .bf16) (v341 : FVec F S128x128 .f32), FVec F S128x128 .f32 ← k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v9 v15 v165 v177 v278 v280 v291 v298 v299 v300
  let ⟨v350, v355, v372⟩ : Σ' (v350 : FVec F S128x128 .f32) (v355 : FVec F S128x128 .f32), FVec F S128x128 .f32 ← k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v169 v174 v255 v260 v311 v313 v316 v339 v341 cst_169
  let ⟨v388, v392, v397, v400, v401, v402, v404, v406⟩ : Σ' (v388 : IVec S256x128 1) (v392 : BitVec 32) (v397 : FVec F S128x128 .bf16) (v400 : FVec F S128x128 .bf16) (v401 : FVec F S128x128 .f32) (v402 : FVec F S128x128 .f32) (v404 : FVec F S256x128 .bf16), FVec F S256x128 .bf16 ← k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v169 v350 v355 v372
  let ⟨v439, v441, v442, v444, v451⟩ : Σ' (v439 : FVec F S256x128 .f32) (v441 : FVec F S256x1 .f32) (v442 : FVec F S256x128 .f32) (v444 : FVec F S256x128 .f32), FVec F S256x128 .f32 ← k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v9 v15 v388 v397 v400 v404 v406
  let ⟨v478, v483, v485⟩ : Σ' (v478 : FVec F S128x128 .f32) (v483 : FVec F S128x128 .f32), FVec F S256x1 .f32 ← k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v388 v397 v401 v402 v439 v442 v444 v451
  let ⟨v501, v503, v511, v514, v518⟩ : Σ' (v501 : FVec F S256x128 .bf16) (v503 : FVec F S256x1 .f32) (v511 : FVec F S256x128 .f32) (v514 : FVec F S256x128 .f32), FVec F S256x128 .f32 ← k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v397 v441 v444 v485
  let ⟨v534, v536, v539, v562⟩ : Σ' (v534 : FVec F S256x128 .f32) (v536 : FVec F S256x1 .f32) (v539 : FVec F S256x128 .f32), FVec F S256x128 .bf16 ← k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v9 v15 v388 v400 v501 v503 v511 v514 v518
  let ⟨v573, v578, v592⟩ : Σ' (v573 : FVec F S128x128 .f32) (v578 : FVec F S128x128 .f32), FVec F S1x256x1 .f32 ← k0_part38 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v397 v478 v483 v534 v536 v539 v562
  let ⟨v611, v615, v620, v623, v624, v625, v627⟩ : Σ' (v611 : IVec S384x128 1) (v615 : BitVec 32) (v620 : FVec F S128x128 .bf16) (v623 : FVec F S128x128 .bf16) (v624 : FVec F S128x128 .f32) (v625 : FVec F S128x128 .f32), FVec F S384x128 .bf16 ← k0_part39 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v392 v573 v578 v592
  let ⟨v662, v664, v665, v667, v668, v671⟩ : Σ' (v662 : FVec F S384x128 .f32) (v664 : FVec F S384x1 .f32) (v665 : FVec F S384x128 .f32) (v667 : FVec F S384x128 .f32) (v668 : FVec F S384x128 .bf16), FVec F S384x128 .bf16 ← k0_part40 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v9 v611 v620 v623 v627
  let ⟨v701, v705⟩ : Σ' (v701 : FVec F S128x128 .f32), FVec F S128x128 .f32 ← k0_part41 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v15 v611 v620 v624 v662 v665 v667 v668 v671
  let ⟨v706, v724, v726, v727, v734, v737⟩ : Σ' (v706 : FVec F S128x128 .f32) (v724 : FVec F S384x128 .bf16) (v726 : FVec F S384x1 .f32) (v727 : FVec F S384x128 .f32) (v734 : FVec F S384x128 .f32), FVec F S384x128 .f32 ← k0_part42 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v620 v625 v664 v667 v705
  let ⟨v757, v759, v760, v762, v776, v780⟩ : Σ' (v757 : FVec F S384x128 .f32) (v759 : FVec F S384x1 .f32) (v760 : FVec F S384x128 .f32) (v762 : FVec F S384x128 .f32) (v776 : FVec F S384x128 .f32), FVec F S384x128 .f32 ← k0_part43 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v9 v15 v611 v623 v724 v726 v727 v734 v737
  let ⟨v796, v801, v812⟩ : Σ' (v796 : FVec F S128x128 .f32) (v801 : FVec F S128x128 .f32), FVec F S384x1 .f32 ← k0_part44 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v611 v620 v701 v706 v757 v759 v760 v762 v776 v780
  let ⟨v834, v838, v843, v846, v847, v848⟩ : Σ' (v834 : IVec S512x128 1) (v838 : BitVec 32) (v843 : FVec F S128x128 .bf16) (v846 : FVec F S128x128 .bf16) (v847 : FVec F S128x128 .f32), FVec F S128x128 .f32 ← k0_part45 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v615 v796 v801 v812
  let ⟨v852, v885, v887, v888, cst_496⟩ : Σ' (v852 : FVec F S512x128 .bf16) (v885 : FVec F S512x128 .f32) (v887 : FVec F S512x1 .f32) (v888 : FVec F S512x128 .f32), FVec F S512x128 .f32 ← k0_part46 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v9 v834 v843
  let ⟨v890, v924⟩ : Σ' (v890 : FVec F S512x128 .f32), FVec F S128x128 .f32 ← k0_part47 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v15 v834 v843 v846 v847 v852 v885 v888 cst_496
  let ⟨v929, v947, v949, v950, v954, v955⟩ : Σ' (v929 : FVec F S128x128 .f32) (v947 : FVec F S512x128 .bf16) (v949 : FVec F S512x1 .f32) (v950 : FVec F S512x128 .f32) (v954 : FVec F S512x128 .f32), FVec F S512x128 .f32 ← k0_part48 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v843 v848 v885 v887 v890
  let ⟨v980, v982, v983, v985, v996, v999⟩ : Σ' (v980 : FVec F S512x128 .f32) (v982 : FVec F S512x1 .f32) (v983 : FVec F S512x128 .f32) (v985 : FVec F S512x128 .f32) (v996 : FVec F S512x128 .f32), FVec F S512x128 .f32 ← k0_part49 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v9 v15 v834 v846 v947 v949 v950 v954 v955
  let ⟨v1019, v1024⟩ : Σ' (v1019 : FVec F S128x128 .f32), FVec F S128x128 .f32 ← k0_part50 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v834 v843 v924 v929 v980 v982 v983 v996 v999
  let ⟨v1057, v1061, v1066, v1068⟩ : Σ' (v1057 : IVec S640x128 1) (v1061 : BitVec 32) (v1066 : FVec F S128x128 .bf16), Vec F S128x128 .bf16 ← k0_part51 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v838 v985 v1019 v1024
  let ⟨v1069, v1070, v1071, v1075, v1088, v1095, v1106, v1107⟩ : Σ' (v1069 : FVec F S128x128 .bf16) (v1070 : FVec F S128x128 .f32) (v1071 : FVec F S128x128 .f32) (v1075 : FVec F S640x128 .bf16) (v1088 : FVec F S640x128 .f32) (v1095 : FVec F S640x128 .f32) (v1106 : FVec F S640x128 .f32), FVec F S640x128 .f32 ← k0_part52 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v9 v1057 v1066 v1068
  let ⟨v1108, v1110, v1113, v1136, v1144⟩ : Σ' (v1108 : FVec F S640x128 .f32) (v1110 : FVec F S640x1 .f32) (v1113 : FVec F S640x128 .f32) (v1136 : FVec F S640x128 .bf16), Vec F S1x128x640 .bf16 ← k0_part53 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v15 v1057 v1066 v1069 v1075 v1088 v1095 v1106 v1107
  let ⟨v1147, v1152, v1170, v1172, v1173, v1174⟩ : Σ' (v1147 : FVec F S128x128 .f32) (v1152 : FVec F S128x128 .f32) (v1170 : FVec F S640x128 .bf16) (v1172 : FVec F S640x1 .f32) (v1173 : FVec F S640x128 .f32), FVec F S640x128 .f32 ← k0_part54 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1066 v1070 v1071 v1108 v1110 v1113 v1136 v1144
  let ⟨v1203, v1205, v1206, v1208, v1215, v1218⟩ : Σ' (v1203 : FVec F S640x128 .f32) (v1205 : FVec F S640x1 .f32) (v1206 : FVec F S640x128 .f32) (v1208 : FVec F S640x128 .f32) (v1215 : FVec F S640x128 .f32), FVec F S640x128 .f32 ← k0_part55 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v9 v15 v1057 v1069 v1170 v1172 v1173 v1174
  let ⟨v1242, v1247, v1250, v1251⟩ : Σ' (v1242 : FVec F S128x128 .f32) (v1247 : FVec F S128x128 .f32) (v1250 : FVec F S640x1 .f32), Vec F S1x640x1 .f32 ← k0_part56 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1057 v1066 v1147 v1152 v1203 v1205 v1206 v1208 v1215 v1218
  let ⟨v1280, v1284, v1286⟩ : Σ' (v1280 : IVec S768x128 1) (v1284 : BitVec 32), BitVec 32 ← k0_part57 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1061 v1208 v1242 v1247 v1250 v1251
  let ⟨v1289, v1292, v1293, v1294, v1298, v1300, v1311, v1318, v1325⟩ : Σ' (v1289 : FVec F S128x128 .bf16) (v1292 : FVec F S128x128 .bf16) (v1293 : FVec F S128x128 .f32) (v1294 : FVec F S128x128 .f32) (v1298 : FVec F S768x128 .bf16) (v1300 : FVec F S768x1 .f32) (v1311 : FVec F S768x128 .f32) (v1318 : FVec F S768x128 .f32), FVec F S768x128 .f32 ← k0_part58 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v9 v1280 v1286
  let ⟨v1331, v1333, v1336, v1359, v1363⟩ : Σ' (v1331 : FVec F S768x128 .f32) (v1333 : FVec F S768x1 .f32) (v1336 : FVec F S768x128 .f32) (v1359 : FVec F S768x128 .bf16), FVec F S768x128 .f32 ← k0_part59 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v15 v1280 v1289 v1292 v1298 v1300 v1311 v1318 v1325
  let ⟨v1370, v1375, v1391, v1393⟩ : Σ' (v1370 : FVec F S128x128 .f32) (v1375 : FVec F S128x128 .f32) (v1391 : FVec F S768x128 .bf16), FVec F S768x128 .bf16 ← k0_part60 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1293 v1294 v1331 v1333 v1336 v1359 v1363
  let ⟨v1426, v1428, v1429, v1431, v1438⟩ : Σ' (v1426 : FVec F S768x128 .f32) (v1428 : FVec F S768x1 .f32) (v1429 : FVec F S768x128 .f32) (v1431 : FVec F S768x128 .f32), FVec F S768x128 .f32 ← k0_part61 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v9 v15 v1280 v1289 v1292 v1391 v1393
  let ⟨v1465, v1470, v1471⟩ : Σ' (v1465 : FVec F S128x128 .f32) (v1470 : FVec F S128x128 .f32), Vec F S1x768x1 .f32 ← k0_part62 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1280 v1289 v1370 v1375 v1426 v1429 v1431 v1438
  let ⟨v1503, v1506⟩ : Σ' (v1503 : IVec S896x128 1), BitVec 32 ← k0_part63 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1284 v1428 v1431 v1465 v1470 v1471
  let ⟨v1507, v1512, v1515, v1516, v1517, v1521, v1523, v1534, v1541, v1542, v1544⟩ : Σ' (v1507 : BitVec 32) (v1512 : FVec F S128x128 .bf16) (v1515 : FVec F S128x128 .bf16) (v1516 : FVec F S128x128 .f32) (v1517 : FVec F S128x128 .f32) (v1521 : FVec F S896x128 .bf16) (v1523 : FVec F S896x1 .f32) (v1534 : FVec F S896x128 .f32) (v1541 : FVec F S896x128 .f32) (v1542 : FVec F S896x128 .bf16), FVec F S896x128 .f32 ← k0_part64 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1503 v1506
  let ⟨v1554, v1556, v1559, v1582, v1584, v1585⟩ : Σ' (v1554 : FVec F S896x128 .f32) (v1556 : FVec F S896x1 .f32) (v1559 : FVec F S896x128 .f32) (v1582 : FVec F S896x128 .bf16) (v1584 : FVec F S896x128 .f32), FVec F S896x128 .f32 ← k0_part65 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v9 v15 v1503 v1512 v1515 v1521 v1523 v1534 v1541 v1542 v1544
  let ⟨v1593, v1598, v1614⟩ : Σ' (v1593 : FVec F S128x128 .f32) (v1598 : FVec F S128x128 .f32), FVec F S896x128 .bf16 ← k0_part66 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1516 v1517 v1554 v1556 v1559 v1582 v1584 v1585
  let ⟨v1649, v1651, v1652, v1654, v1655, v1657⟩ : Σ' (v1649 : FVec F S896x128 .f32) (v1651 : FVec F S896x1 .f32) (v1652 : FVec F S896x128 .f32) (v1654 : FVec F S896x128 .f32) (v1655 : FVec F S896x128 .bf16), FVec F S896x128 .f32 ← k0_part67 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v9 v1503 v1512 v1515 v1614
  let ⟨v1688, v1690, v1691, cst_979⟩ : Σ' (v1688 : FVec F S128x128 .f32) (v1690 : FVec F S128x896 .bf16) (v1691 : FVec F S896x128 .bf16), FVec F S128x128 .f32 ← k0_part68 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v15 v1503 v1512 v1593 v1649 v1652 v1654 v1655 v1657
  let v1726 : IVec S1024x128 1 ← k0_part69 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1507 v1598 v1651 v1654 v1688 v1690 v1691 cst_979
  let ⟨v1730, v1735, v1738, v1739, v1740, v1744, v1746, v1757, v1762⟩ : Σ' (v1730 : BitVec 32) (v1735 : FVec F S128x128 .bf16) (v1738 : FVec F S128x128 .bf16) (v1739 : FVec F S128x128 .f32) (v1740 : FVec F S128x128 .f32) (v1744 : FVec F S1024x128 .bf16) (v1746 : FVec F S1024x1 .f32) (v1757 : FVec F S1024x128 .f32), FVec F S1024x128 .f32 ← k0_part70 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1
  let ⟨v1777, v1779, v1782, v1805⟩ : Σ' (v1777 : FVec F S1024x128 .f32) (v1779 : FVec F S1024x1 .f32) (v1782 : FVec F S1024x128 .f32), FVec F S1024x128 .bf16 ← k0_part71 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v9 v15 v1726 v1738 v1744 v1746 v1757 v1762
  let ⟨v1816, v1821⟩ : Σ' (v1816 : FVec F S128x128 .f32), FVec F S128x128 .f32 ← k0_part72 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1735 v1739 v1740 v1777 v1779 v1782 v1805
  let ⟨v1839, v1872, v1874, v1875⟩ : Σ' (v1839 : FVec F S1024x128 .bf16) (v1872 : FVec F S1024x128 .f32) (v1874 : FVec F S1024x1 .f32), FVec F S1024x128 .f32 ← k0_part73 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v9 v1726 v1735
  let ⟨v1877, v1911⟩ : Σ' (v1877 : FVec F S1024x128 .f32), FVec F S128x128 .f32 ← k0_part74 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v15 v1726 v1735 v1738 v1816 v1839 v1872 v1875
  let ⟨v1942, v1944⟩ : Σ' (v1942 : FVec F S128x128 .f32), Vec F S1x128x128 .f32 ← k0_part75 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1730 v1821 v1872 v1874 v1877 v1911
  let v1982 : FVec F S1024x128 .f32 ← k0_part76 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v3 v9 v15 v1942 v1944
  pure v1982

/-- The same in blocks. -/
def midR (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S64x128x128 .f32) (harg10 : arg10.IsWhole) (arg11 : Memref sig .tc .vmem S64x128x128 .f32) (harg11 : arg11.IsWhole) (arg12 : Memref sig .tc .vmem S2x1024x128 .bf16) (harg12 : arg12.IsWhole) (arg13 : Memref sig .tc .vmem S2x1024x128 .bf16) (harg13 : arg13.IsWhole) (arg14 : Memref sig .tc .vmem S2x128x1024 .bf16) (harg14 : arg14.IsWhole) (arg15 : Memref sig .tc .vmem S2x128x1024 .bf16) (harg15 : arg15.IsWhole) (arg16 : Memref sig .tc .vmem S2x1024x128 .f32) (harg16 : arg16.IsWhole) (arg17 : Memref sig .tc .vmem S2x1024x1 .f32) (harg17 : arg17.IsWhole) (arg18 : Memref sig .tc .vmem S2x1024x1 .f32) (harg18 : arg18.IsWhole) (arg19 : Memref sig .tc .vmem S2x1024x1 .f32) (harg19 : arg19.IsWhole) (arg1 : BitVec 32) (v3 : IVec S1x128 32) (v9 v15 : FVec F S128x128 .bf16) (v155 : FVec F S2x1024x1 .f32) :
    Prog (TpuEff nD τ sig (Elt F) Λ₀ .tc) (FVec F S1024x128 .f32) := do
  let v156 : Vec F S2x1024x1 .f32 ← Prog.lift (.load arg18 (Rect.unit (s := S2x1024x1) ![0, 0, 0] S2x1024x1.size inb_S2x1024x1_S2x1024x1_0_0_0).toLoadRect (View.loadsAt_vmem h_S2x1024x1))
  Prog.lift (.store arg18 (Rect.unit (s := S2x1024x1) ![0, 0, 0] S2x1024x1.size inb_S2x1024x1_S2x1024x1_0_0_0) (k0_pay193 v155) Finset.univ (View.stores_vmem_bits_univ h_S2x1024x1 rfl) (.inl rfl))
  let v160 : Vec F S2x1024x1 .f32 ← Prog.lift (.load arg19 (Rect.unit (s := S2x1024x1) ![0, 0, 0] S2x1024x1.size inb_S2x1024x1_S2x1024x1_0_0_0).toLoadRect (View.loadsAt_vmem h_S2x1024x1))
  Prog.lift (.store arg19 (Rect.unit (s := S2x1024x1) ![0, 0, 0] S2x1024x1.size inb_S2x1024x1_S2x1024x1_0_0_0) (k0_pay194 (F := F)) Finset.univ (View.stores_vmem_bits_univ h_S2x1024x1 rfl) (.inl rfl))
  let R : Refs := ⟨arg12, arg13, arg14, arg15, arg16, arg17, arg18, arg19⟩
  block ev128 R arg3 arg4 arg10 arg11 (some (diag ev128)) v9 v15 (k0_off1 i 0#32) (k0_off1_inb i 0) (k0_off2 i 0#32) (k0_off2_inb i 0)
  block ev256 R arg3 arg4 arg10 arg11 (some (diag ev256)) v9 v15 (k0_off1 i 1#32) (k0_off1_inb i 1) (k0_off2 i 1#32) (k0_off2_inb i 1)
  block ev384 R arg3 arg4 arg10 arg11 (some (diag ev384)) v9 v15 (k0_off1 i 2#32) (k0_off1_inb i 2) (k0_off2 i 2#32) (k0_off2_inb i 2)
  block ev512 R arg3 arg4 arg10 arg11 (some (diag ev512)) v9 v15 (k0_off1 i 3#32) (k0_off1_inb i 3) (k0_off2 i 3#32) (k0_off2_inb i 3)
  block ev640 R arg3 arg4 arg10 arg11 (some (diag ev640)) v9 v15 (k0_off1 i 4#32) (k0_off1_inb i 4) (k0_off2 i 4#32) (k0_off2_inb i 4)
  block ev768 R arg3 arg4 arg10 arg11 (some (diag ev768)) v9 v15 (k0_off1 i 5#32) (k0_off1_inb i 5) (k0_off2 i 5#32) (k0_off2_inb i 5)
  block ev896 R arg3 arg4 arg10 arg11 (some (diag ev896)) v9 v15 (k0_off1 i 6#32) (k0_off1_inb i 6) (k0_off2 i 6#32) (k0_off2_inb i 6)
  let v1982 : FVec F S1024x128 .f32 ← do
    block ev1024 R arg3 arg4 arg10 arg11 (some (diag ev1024)) v9 v15 (k0_off1 i 7#32) (k0_off1_inb i 7) (k0_off2 i 7#32) (k0_off2_inb i 7)
    let x : BitVec 32 ← Scf.Loop.for (k0_t1_loop i) (k0_t1_ok i) 0#32 fun k _ => do
      block ev1024 R arg3 arg4 arg10 arg11 none v9 v15
        (k0_off3 i k 0#32) (k0_off3_inb i k 0) (k0_off4 i k 0#32) (k0_off4_inb i k 0)
      block ev1024 R arg3 arg4 arg10 arg11 none v9 v15
        (k0_off3 i k 1#32) (k0_off3_inb i k 1) (k0_off4 i k 1#32) (k0_off4_inb i k 1)
      pure 0#32
    let _ : BitVec 32 ← Scf.Loop.for (k0_t2_loop i) (k0_t2_ok i) x fun k _ => do
      block ev1024 R arg3 arg4 arg10 arg11 none v9 v15
        (k0_off5 i k 0#32) (k0_off5_inb i k 0) (k0_off6 i k 0#32) (k0_off6_inb i k 0)
      block ev1024 R arg3 arg4 arg10 arg11 none v9 v15
        (k0_off5 i k 1#32) (k0_off5_inb i k 1) (k0_off6 i k 1#32) (k0_off6_inb i k 1)
      pure 0#32
    let v1974 : Vec F S1x1024x128 .f32 ← Prog.lift (.load arg16 (Rect.unit (s := S2x1024x128) ![0, 0, 0] S1x1024x128.size inb_S2x1024x128_S1x1024x128_0_0_0).toLoadRect (View.loadsAt_vmem h_S1x1024x128))
    let v1976 : Vec F S1x1024x128 .f32 ← Prog.lift (.load arg16 (Rect.unit (s := S2x1024x128) ![1, 0, 0] S1x1024x128.size inb_S2x1024x128_S1x1024x128_1_0_0).toLoadRect (View.loadsAt_vmem h_S1x1024x128))
    pure (k0_pay539 v3 v1974 v1976)
  pure v1982

theorem mid_eq : midL (F := F) = midR (F := F) := rfl

/-- The body: its first part, its blocks, its last store. -/
def body77 (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S64x128x128 .f32) (harg10 : arg10.IsWhole) (arg11 : Memref sig .tc .vmem S64x128x128 .f32) (harg11 : arg11.IsWhole) (arg12 : Memref sig .tc .vmem S2x1024x128 .bf16) (harg12 : arg12.IsWhole) (arg13 : Memref sig .tc .vmem S2x1024x128 .bf16) (harg13 : arg13.IsWhole) (arg14 : Memref sig .tc .vmem S2x128x1024 .bf16) (harg14 : arg14.IsWhole) (arg15 : Memref sig .tc .vmem S2x128x1024 .bf16) (harg15 : arg15.IsWhole) (arg16 : Memref sig .tc .vmem S2x1024x128 .f32) (harg16 : arg16.IsWhole) (arg17 : Memref sig .tc .vmem S2x1024x1 .f32) (harg17 : arg17.IsWhole) (arg18 : Memref sig .tc .vmem S2x1024x1 .f32) (harg18 : arg18.IsWhole) (arg19 : Memref sig .tc .vmem S2x1024x1 .f32) (harg19 : arg19.IsWhole) :
    Prog (TpuEff nD τ sig (Elt F) Λ₀ .tc) (Σ' (arg1 : BitVec 32), BitVec 32) := do
  let ⟨arg1, v3, v9, v15, v18, v21, v24, v26, v40, v42, c0_i32_10⟩ : Σ' (arg1 : BitVec 32) (v3 : IVec S1x128 32) (v9 : FVec F S128x128 .bf16) (v15 : FVec F S128x128 .bf16) (v18 : FVec F S1024x128 .f32) (v21 : FVec F S1024x128 .f32) (v24 : FVec F S1024x128 .f32) (v26 : IVec S1x128 32) (v40 : IVec S1x128 1) (v42 : IVec S1x128 32), BitVec 32 ← k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let ⟨cst_26, v80⟩ : Σ' (cst_26 : F .f32), IVec S1024x128 1 ← k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v18 v21 v26 v40 v42 c0_i32_10
  let ⟨v113, v119, v123, v124⟩ : Σ' (v113 : IVec S1x128 1) (v119 : FVec F S1024x128 .f32) (v123 : FVec F S1024x128 .f32), FVec F S1024x128 .bf16 ← k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v3 v18 v21 v24 cst_26 v80
  let v155 : FVec F S2x1024x1 .f32 ← k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v24 v113 v119 v123 v124
  let v1982 ← midR i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v3 v9 v15 v155
  have v1983 : FVec F S1024x128 .bf16 := truncf .bf16 v1982 bitsLt_bf16_f32
  let c0_1156 : Index := 0#32
  let c0_1157 : Index := 0#32
  let v1984 : Vec F S1024x128 .bf16 ← Prog.lift (.load arg7 (Rect.unit (s := S1024x128) ![0, 0] S1024x128.size inb_S1024x128_S1024x128_0_0).toLoadRect (View.loadsAt_vmem h_S1024x128))
  Prog.lift (.store arg7 (Rect.unit (s := S1024x128) ![0, 0] S1024x128.size inb_S1024x128_S1024x128_0_0) v1983 Finset.univ (View.stores_vmem h_S1024x128 (harg7.storeExact_slice rfl _ packedbf16_S1024x128_S1024x128_0_0) (fun _ => rfl)) (.inl rfl))
  let c7_i32_1158 : BitVec 32 := 7#32
  pure ⟨arg1, c7_i32_1158⟩

theorem part77_eq : k0_part77 (F := F) = body77 (F := F) := by
  unfold body77
  rw [← mid_eq]
  rfl

end Cert.Proof.Sb

end
-- ==== Proof.Sb.Run.lean ====
module

public import proofs.«01_k».proof.Proof.Sb.Body
public import proofs.«01_k».proof.Proof.Sb.Own

@[expose] public section

set_option maxRecDepth 16384

noncomputable section

namespace Cert.Proof.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.SbBwdIdeal Cert.SbBwdIdeal.Gen VecWindow

variable {F : FTy → Type} [FloatOps F]

/-- A state carried through the first `k` of `n` steps. -/
def iter {σ : Type} (n : ℕ) (f : Fin n → σ → σ) (y : σ) : ℕ → σ
  | 0 => y
  | k + 1 => if h : k < n then f ⟨k, h⟩ (iter n f y k) else iter n f y k

theorem iter_succ {σ : Type} (n : ℕ) (f : Fin n → σ → σ) (y : σ) (k : Fin n) : iter n f y (k.val + 1) = f k (iter n f y k.val) :=
  dif_pos k.isLt

section
variable (i : grid0.Coords) (up inc : FVec F S128x128 .bf16) (k v : S8192x128.Idx → Elt F .bf16) (x : Ro F)

/-- One block on the diagonal, the `r`-th from below; and one below it, read whole. -/
abbrev stD {n row : ℕ} (ev : Ev n row) (r : Fin 8) (y : St F) : St F :=
  st ev (some (diag ev)) up inc (blk k (k0_off1 i (BitVec.ofNat 32 r.val)) (k0_off1_inb i r))
    (blk v (k0_off1 i (BitVec.ofNat 32 r.val)) (k0_off1_inb i r)) x y (k0_off2 i (BitVec.ofNat 32 r.val)) (k0_off2_inb i r)
abbrev stL1 (j : Fin (k0_t1_loop i).trips) (r : Fin 2) (y : St F) : St F :=
  st ev1024 none up inc (blk k (k0_off3 i j (BitVec.ofNat 32 r.val)) (k0_off3_inb i j r))
    (blk v (k0_off3 i j (BitVec.ofNat 32 r.val)) (k0_off3_inb i j r)) x y (k0_off4 i j (BitVec.ofNat 32 r.val)) (k0_off4_inb i j r)
abbrev stL2 (j : Fin (k0_t2_loop i).trips) (r : Fin 2) (y : St F) : St F :=
  st ev1024 none up inc (blk k (k0_off5 i j (BitVec.ofNat 32 r.val)) (k0_off5_inb i j r))
    (blk v (k0_off5 i j (BitVec.ofNat 32 r.val)) (k0_off5_inb i j r)) x y (k0_off6 i j (BitVec.ofNat 32 r.val)) (k0_off6_inb i j r)

/-- The state after the blocks on the diagonal, and after all blocks. -/
def stDs (y : St F) : St F :=
  stD i up inc k v x ev1024 7 (stD i up inc k v x ev896 6 (stD i up inc k v x ev768 5 (stD i up inc k v x ev640 4
    (stD i up inc k v x ev512 3 (stD i up inc k v x ev384 2 (stD i up inc k v x ev256 1 (stD i up inc k v x ev128 0 y)))))))
def stAll (y : St F) : St F :=
  iter (k0_t2_loop i).trips (fun j y => stL2 i up inc k v x j 1 (stL2 i up inc k v x j 0 y))
    (iter (k0_t1_loop i).trips (fun j y => stL1 i up inc k v x j 1 (stL1 i up inc k v x j 0 y)) (stDs i up inc k v x y) (k0_t1_loop i).trips)
    (k0_t2_loop i).trips

/-- The queries' gradients, the two heads side by side. -/
def dqOut (v3 : IVec S1x128 32) (y : St F) : FVec F S1024x128 .f32 :=
  k0_pay539 v3 (window y.hs.dq ![0, 0, 0] S1x1024x128.size inb_S2x1024x128_S1x1024x128_0_0_0)
    (window y.hs.dq ![1, 0, 0] S1x1024x128.size inb_S2x1024x128_S1x1024x128_1_0_0)

end

theorem seq_block {n row : ℕ} (ev : Ev n row) (c : Dev nD) (E : Set ℕ) (R : Refs) (arg3 arg4 : Memref sig .tc .vmem S8192x128 .bf16)
    (arg10 arg11 : Memref sig .tc .vmem S64x128x128 .f32) (mask : Option (IVec (M n 128) 1))
    (upper incl : FVec F S128x128 .bf16) (o : Fin 2 → ℕ) (ho : ∀ a, o a + S128x128.size a ≤ S8192x128.size a)
    (w : Fin 3 → ℕ) (hw : ∀ a, w a + S1x128x128.size a ≤ S64x128x128.size a)
    (k v : S8192x128.Idx → Elt F .bf16) (x : Ro F) (y : St F) {α : Type} {Q : α → sProp (MM F)}
    {kk : PUnit → Prog (TpuEff nD τ sig (Elt F) Λ₀ .tc) α} :
    ownSt c R arg3 arg4 arg10 arg11 k v x y
      ⊢ iprop((ownSt c R arg3 arg4 arg10 arg11 k v x (st ev mask upper incl (blk k o ho) (blk v o ho) x y w hw) -∗ W c E (kk ⟨⟩) Q)
        -∗ W c E (block ev R arg3 arg4 arg10 arg11 mask upper incl o ho w hw >>= kk) Q) := by
  unfold W
  rw [wp_bind]
  iintro H Hk
  iapply (wp_wand_r frame (wpE (defs₀ (F := F)) Variants.none (c : Thread nD τ) none) E)
  isplitl [H]
  · iapply (block_spec ev c E R arg3 arg4 arg10 arg11 mask upper incl o ho w hw k v x y); iexact H
  iintro %_ H
  iapply Hk; iexact H

/-- A counted loop at the head of a program, by an invariant. -/
theorem seq_loop (c : Dev nD) (E : Set ℕ) (l : Scf.Loop 32) (hok : l.OK) {σ α : Type} {Q : α → sProp (MM F)}
    {init : σ} {body : Fin l.trips → σ → Prog (TpuEff nD τ sig (Elt F) Λ₀ .tc) σ} {kk : σ → Prog (TpuEff nD τ sig (Elt F) Λ₀ .tc) α}
    (P : sProp (MM F)) (I : ℕ → sProp (MM F)) (h0 : I 0 = P)
    (hbody : ∀ (k : Fin l.trips) (acc : σ), I k.val ⊢ W c E (body k acc) (fun _ => I (k.val + 1))) :
    P ⊢ iprop((∀ acc, I l.trips -∗ W c E (kk acc) Q) -∗ W c E (Scf.Loop.for l hok init body >>= kk) Q) := by
  subst h0
  exact Scf.wp_for_bind frame (wpE (defs₀ (F := F)) Variants.none (c : Thread nD τ) none) E _ _ _ hok init body (fun n _ => I n) hbody

theorem midR_spec (c : Dev nD) (E : Set ℕ) (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S64x128x128 .f32) (harg10 : arg10.IsWhole) (arg11 : Memref sig .tc .vmem S64x128x128 .f32) (harg11 : arg11.IsWhole) (arg12 : Memref sig .tc .vmem S2x1024x128 .bf16) (harg12 : arg12.IsWhole) (arg13 : Memref sig .tc .vmem S2x1024x128 .bf16) (harg13 : arg13.IsWhole) (arg14 : Memref sig .tc .vmem S2x128x1024 .bf16) (harg14 : arg14.IsWhole) (arg15 : Memref sig .tc .vmem S2x128x1024 .bf16) (harg15 : arg15.IsWhole) (arg16 : Memref sig .tc .vmem S2x1024x128 .f32) (harg16 : arg16.IsWhole) (arg17 : Memref sig .tc .vmem S2x1024x1 .f32) (harg17 : arg17.IsWhole) (arg18 : Memref sig .tc .vmem S2x1024x1 .f32) (harg18 : arg18.IsWhole) (arg19 : Memref sig .tc .vmem S2x1024x1 .f32) (harg19 : arg19.IsWhole) (arg1 : BitVec 32) (v3 : IVec S1x128 32) (v9 v15 : FVec F S128x128 .bf16) (v155 : FVec F S2x1024x1 .f32)
    (k v : S8192x128.Idx → Elt F .bf16) (x : Ro F) (y : St F) :
    ownSt c ⟨arg12, arg13, arg14, arg15, arg16, arg17, arg18, arg19⟩ arg3 arg4 arg10 arg11 k v x y
      ⊢ W c E (midR i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v3 v9 v15 v155) (fun r =>
        iprop(⌜r = dqOut v3 (stAll i v9 v15 k v x ⟨⟨y.hs.dq, k0_pay193 v155, k0_pay194⟩, y.dk, y.dv⟩)⌝
          ∗ ownSt c ⟨arg12, arg13, arg14, arg15, arg16, arg17, arg18, arg19⟩ arg3 arg4 arg10 arg11 k v x
            (stAll i v9 v15 k v x ⟨⟨y.hs.dq, k0_pay193 v155, k0_pay194⟩, y.dk, y.dv⟩))) := by
  unfold midR
  dsimp only
  unfold ownSt ownHs
  iintro ⟨H3, H4, Hx, ⟨H16, H18, H19⟩, H10, H11⟩
  iapply (own_load c E y.hs.rl) $$ H18; iintro H18
  iapply (own_store_full c E y.hs.rl) $$ H18; iintro H18
  iapply (own_load c E y.hs.re) $$ H19; iintro H19
  iapply (own_store_full c E y.hs.re) $$ H19; iintro H19
  ihave H : ownSt c ⟨arg12, arg13, arg14, arg15, arg16, arg17, arg18, arg19⟩ arg3 arg4 arg10 arg11 k v x
      (⟨⟨y.hs.dq, k0_pay193 v155, k0_pay194⟩, y.dk, y.dv⟩ : St F) $$ [H3 H4 Hx H16 H18 H19 H10 H11]
  · unfold ownSt ownHs
    isplitl [H3]; · iexact H3
    isplitl [H4]; · iexact H4
    isplitl [Hx]; · iexact Hx
    isplitl [H16 H18 H19]
    · isplitl [H16]; · iexact H16
      isplitl [H18]; · iexact H18
      iexact H19
    isplitl [H10]; · iexact H10
    iexact H11
  generalize (⟨⟨y.hs.dq, k0_pay193 v155, k0_pay194⟩, y.dk, y.dv⟩ : St F) = y0
  iapply (seq_block ev128 c E _ _ _ _ _ (some (diag ev128)) v9 v15 _ _ _ _ k v x _) $$ H; iintro H
  iapply (seq_block ev256 c E _ _ _ _ _ (some (diag ev256)) v9 v15 _ _ _ _ k v x _) $$ H; iintro H
  iapply (seq_block ev384 c E _ _ _ _ _ (some (diag ev384)) v9 v15 _ _ _ _ k v x _) $$ H; iintro H
  iapply (seq_block ev512 c E _ _ _ _ _ (some (diag ev512)) v9 v15 _ _ _ _ k v x _) $$ H; iintro H
  iapply (seq_block ev640 c E _ _ _ _ _ (some (diag ev640)) v9 v15 _ _ _ _ k v x _) $$ H; iintro H
  iapply (seq_block ev768 c E _ _ _ _ _ (some (diag ev768)) v9 v15 _ _ _ _ k v x _) $$ H; iintro H
  iapply (seq_block ev896 c E _ _ _ _ _ (some (diag ev896)) v9 v15 _ _ _ _ k v x _) $$ H; iintro H
  iapply (seq_block ev1024 c E _ _ _ _ _ (some (diag ev1024)) v9 v15 _ _ _ _ k v x _) $$ H; iintro H
  ihave H : ownSt c ⟨arg12, arg13, arg14, arg15, arg16, arg17, arg18, arg19⟩ arg3 arg4 arg10 arg11 k v x (stDs i v9 v15 k v x y0) $$ [H]
  · iexact H
  iapply (seq_loop c E (k0_t1_loop i) (k0_t1_ok i) (ownSt c ⟨arg12, arg13, arg14, arg15, arg16, arg17, arg18, arg19⟩ arg3 arg4 arg10 arg11 k v x (stDs i v9 v15 k v x y0))
    (fun n => ownSt c ⟨arg12, arg13, arg14, arg15, arg16, arg17, arg18, arg19⟩ arg3 arg4 arg10 arg11 k v x
      (iter (k0_t1_loop i).trips (fun j y => stL1 i v9 v15 k v x j 1 (stL1 i v9 v15 k v x j 0 y)) (stDs i v9 v15 k v x y0) n)) rfl ?_) $$ H
  · intro j acc
    rw [iter_succ]
    iintro H
    iapply (seq_block ev1024 c E _ _ _ _ _ none v9 v15 _ _ _ _ k v x _) $$ H; iintro H
    iapply (seq_block ev1024 c E _ _ _ _ _ none v9 v15 _ _ _ _ k v x _) $$ H; iintro H
    unfold W; sl_step
    iexact H
  iintro %acc H
  iapply (seq_loop c E (k0_t2_loop i) (k0_t2_ok i) (ownSt c ⟨arg12, arg13, arg14, arg15, arg16, arg17, arg18, arg19⟩ arg3 arg4 arg10 arg11 k v x
      (iter (k0_t1_loop i).trips (fun j y => stL1 i v9 v15 k v x j 1 (stL1 i v9 v15 k v x j 0 y)) (stDs i v9 v15 k v x y0) (k0_t1_loop i).trips))
    (fun n => ownSt c ⟨arg12, arg13, arg14, arg15, arg16, arg17, arg18, arg19⟩ arg3 arg4 arg10 arg11 k v x
      (iter (k0_t2_loop i).trips (fun j y => stL2 i v9 v15 k v x j 1 (stL2 i v9 v15 k v x j 0 y))
        (iter (k0_t1_loop i).trips (fun j y => stL1 i v9 v15 k v x j 1 (stL1 i v9 v15 k v x j 0 y)) (stDs i v9 v15 k v x y0) (k0_t1_loop i).trips) n)) rfl ?_) $$ H
  · intro j acc
    rw [iter_succ]
    iintro H
    iapply (seq_block ev1024 c E _ _ _ _ _ none v9 v15 _ _ _ _ k v x _) $$ H; iintro H
    iapply (seq_block ev1024 c E _ _ _ _ _ none v9 v15 _ _ _ _ k v x _) $$ H; iintro H
    unfold W; sl_step
    iexact H
  iintro %acc H
  ihave H : ownSt c ⟨arg12, arg13, arg14, arg15, arg16, arg17, arg18, arg19⟩ arg3 arg4 arg10 arg11 k v x (stAll i v9 v15 k v x y0) $$ [H]
  · iexact H
  generalize hy1 : stAll i v9 v15 k v x y0 = y1
  unfold ownSt ownHs
  icases H with ⟨H3, H4, Hx, ⟨H16, H18, H19⟩, H10, H11⟩
  iapply (own_load c E y1.hs.dq) $$ H16; iintro H16
  iapply (own_load c E y1.hs.dq) $$ H16; iintro H16
  unfold W; sl_step
  isplitr
  · ipureintro; rfl
  isplitl [H3]; · iexact H3
  isplitl [H4]; · iexact H4
  isplitl [Hx]; · iexact Hx
  isplitl [H16 H18 H19]
  · isplitl [H16]; · iexact H16
    isplitl [H18]; · iexact H18
    iexact H19
  isplitl [H10]; · iexact H10
  iexact H11

end Cert.Proof.Sb

end
-- ==== Proof.Sb.Run2.lean ====
module

public import proofs.«01_k».proof.Proof.Sb.Run

@[expose] public section

set_option maxRecDepth 16384

noncomputable section

namespace Cert.Proof.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.SbBwdIdeal Cert.SbBwdIdeal.Gen VecWindow

variable {F : FTy → Type} [FloatOps F]

/-- Two slabs, one over the other. -/
def stack {α : Type} {n k : ℕ} (z : α) (a b : (L n k).Idx → α) : (⟨3, ![2, n, k]⟩ : Shape).Idx → α :=
  put (put (fun _ => z) ![0, 0, 0] (L n k).size a) ![1, 0, 0] (L n k).size b

/-- The two slabs are all: what they were put over does not show. -/
theorem put_stack {α : Type} {n k : ℕ} (z : α) (X : (⟨3, ![2, n, k]⟩ : Shape).Idx → α) (a b : (L n k).Idx → α) :
    put (put X ![0, 0, 0] (L n k).size a) ![1, 0, 0] (L n k).size b = stack z a b := by
  funext y
  have h1 : (y 1).val < n := (y 1).isLt
  have h2 : (y 2).val < k := (y 2).isLt
  have h0 : (y 0).val < 2 := (y 0).isLt
  unfold stack put
  by_cases h : ∀ a, (![1, 0, 0] : Fin 3 → ℕ) a ≤ (y a).val ∧ (y a).val < (![1, 0, 0] : Fin 3 → ℕ) a + (L n k).size a
  · rw [dif_pos h, dif_pos h]
  · rw [dif_neg h, dif_neg h]
    have h' : ∀ a, (![0, 0, 0] : Fin 3 → ℕ) a ≤ (y a).val ∧ (y a).val < (![0, 0, 0] : Fin 3 → ℕ) a + (L n k).size a := by
      have h00 : (y 0).val = 0 := by
        by_contra hne
        apply h
        intro a
        fin_cases a
        · exact ⟨by show 1 ≤ (y 0).val; omega, by show (y 0).val < 1 + 1; omega⟩
        · exact ⟨Nat.zero_le _, by show (y 1).val < 0 + n; omega⟩
        · exact ⟨Nat.zero_le _, by show (y 2).val < 0 + k; omega⟩
      intro a
      fin_cases a
      · exact ⟨Nat.zero_le _, by show (y 0).val < 0 + 1; omega⟩
      · exact ⟨Nat.zero_le _, by show (y 1).val < 0 + n; omega⟩
      · exact ⟨Nat.zero_le _, by show (y 2).val < 0 + k; omega⟩
    rw [dif_pos h', dif_pos h']

/-- The first tile of queries of a pair of heads. -/
abbrev cond1 (i : grid0.Coords) : Prop :=
  Scalar.cmpi .ne (Scalar.extui (Scalar.cmpi .eq (BitVec.ofNat 32 (i 1).val) 0#32) : BitVec 32) 0#32 = 1#1

abbrev z16 : Elt F .bf16 := Scalar.ofBits .bf16 0x0000#16
abbrev z32 : Elt F .f32 := Scalar.ofBits .f32 0x00000000#32
abbrev v3 : IVec S1x128 32 := iota .tc S1x128 32 [1] iota_S1x128_d1_w32

/-- What the blocks read, of a tile of queries, of output gradients and of outputs. -/
def ro (q d : Vec F S1024x128 .bf16) (o : Vec F S1024x128 .f32) : Ro F where
  q := stack (n := 1024) (k := 128) z16 (k0_pay176 (k0_pay167 q) k0_pay170 k0_pay171 k0_pay172 0#32) (k0_pay186 (k0_pay185 v3 (k0_pay167 q)))
  d := stack (n := 1024) (k := 128) z16 (k0_pay177 (k0_pay168 d) k0_pay170 k0_pay171 k0_pay172 0#32) (k0_pay187 (k0_pay184 v3 (k0_pay168 d)))
  qt := stack (n := 128) (k := 1024) z16 (k0_pay178 (k0_pay167 q) k0_pay170 k0_pay171 k0_pay172 0#32) (k0_pay188 (k0_pay183 v3 (k0_pay167 q)))
  dt := stack (n := 128) (k := 1024) z16 (k0_pay179 (k0_pay168 d) k0_pay170 k0_pay171 k0_pay172 0#32) (k0_pay189 (k0_pay184 v3 (k0_pay168 d)))
  et := stack (n := 1024) (k := 1) z32 (k0_pay181 (k0_pay169 d o) (Scalar.ofBits .f32 0x00000000#32) (k0_pay180 k0_pay170 k0_pay171 k0_pay172 0#32))
    (k0_pay190 (k0_pay169 d o) (k0_pay182 v3))

/-- The state before the blocks, and after them. -/
def y0 (i : grid0.Coords) (dk dv : Vec F S64x128x128 .f32) : St F :=
  ⟨⟨k0_pay191, k0_pay193 k0_pay192, k0_pay194⟩, if cond1 i then k0_pay163 else dk, if cond1 i then k0_pay164 else dv⟩
def y1 (i : grid0.Coords) (q : Vec F S1024x128 .bf16) (k v : Vec F S8192x128 .bf16) (d : Vec F S1024x128 .bf16) (o : Vec F S1024x128 .f32)
    (dk dv : Vec F S64x128x128 .f32) : St F :=
  stAll i k0_pay165 k0_pay166 k v (ro q d o) (y0 i dk dv)

theorem body77_spec (c : Dev nD) (E : Set ℕ) (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S64x128x128 .f32) (harg10 : arg10.IsWhole) (arg11 : Memref sig .tc .vmem S64x128x128 .f32) (harg11 : arg11.IsWhole) (arg12 : Memref sig .tc .vmem S2x1024x128 .bf16) (harg12 : arg12.IsWhole) (arg13 : Memref sig .tc .vmem S2x1024x128 .bf16) (harg13 : arg13.IsWhole) (arg14 : Memref sig .tc .vmem S2x128x1024 .bf16) (harg14 : arg14.IsWhole) (arg15 : Memref sig .tc .vmem S2x128x1024 .bf16) (harg15 : arg15.IsWhole) (arg16 : Memref sig .tc .vmem S2x1024x128 .f32) (harg16 : arg16.IsWhole) (arg17 : Memref sig .tc .vmem S2x1024x1 .f32) (harg17 : arg17.IsWhole) (arg18 : Memref sig .tc .vmem S2x1024x1 .f32) (harg18 : arg18.IsWhole) (arg19 : Memref sig .tc .vmem S2x1024x1 .f32) (harg19 : arg19.IsWhole)
    (q : Vec F S1024x128 .bf16) (k v : Vec F S8192x128 .bf16) (d : Vec F S1024x128 .bf16) (o : Vec F S1024x128 .f32)
    (dk dv : Vec F S64x128x128 .f32) :
    iprop(own c arg2 q ∗ own c arg3 k ∗ own c arg4 v ∗ own c arg5 d ∗ own c arg6 o ∗ (∃ x, own c arg7 x) ∗ own c arg10 dk ∗ own c arg11 dv ∗ (∃ x, own c arg12 x) ∗ (∃ x, own c arg13 x) ∗ (∃ x, own c arg14 x) ∗ (∃ x, own c arg15 x) ∗ (∃ x, own c arg16 x) ∗ (∃ x, own c arg17 x) ∗ (∃ x, own c arg18 x) ∗ (∃ x, own c arg19 x))
      ⊢ W c E (body77 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (fun r =>
        iprop(own c arg2 q ∗ own c arg3 k ∗ own c arg4 v ∗ own c arg5 d ∗ own c arg6 o
          ∗ own c arg7 (k0_pay540 (dqOut v3 (y1 i q k v d o dk dv))) ∗ own c arg10 (y1 i q k v d o dk dv).dk ∗ own c arg11 (y1 i q k v d o dk dv).dv ∗ (∃ x, own c arg12 x) ∗ (∃ x, own c arg13 x) ∗ (∃ x, own c arg14 x) ∗ (∃ x, own c arg15 x) ∗ (∃ x, own c arg16 x) ∗ (∃ x, own c arg17 x) ∗ (∃ x, own c arg18 x) ∗ (∃ x, own c arg19 x))) := by
  unfold body77
  rw [k0_part23_eq_skeleton, k0_part24_eq_skeleton, k0_part25_eq_skeleton, k0_part26_eq_skeleton]
  iintro ⟨H2, H3, H4, H5, H6, ⟨%x7, H7⟩, H10, H11, ⟨%x12, H12⟩, ⟨%x13, H13⟩, ⟨%x14, H14⟩, ⟨%x15, H15⟩, ⟨%x16, H16⟩, ⟨%x17, H17⟩, ⟨%x18, H18⟩, ⟨%x19, H19⟩⟩
  unfold W
  rw [wp_bind]
  unfold k0_part23_skel
  dsimp only
  by_cases hc : cond1 i
  on_goal 1 =>
    have e10 : (k0_pay163 : Vec F S64x128x128 .f32) = (y0 (F := F) i dk dv).dk := (if_pos hc).symm
    have e11 : (k0_pay164 : Vec F S64x128x128 .f32) = (y0 (F := F) i dk dv).dv := (if_pos hc).symm
    rw [dif_pos hc]
    iapply (own_load c E dk) $$ H10; iintro H10
    iapply (own_store_full c E dk) $$ H10; iintro H10
    iapply (own_load c E dv) $$ H11; iintro H11
    iapply (own_store_full c E dv) $$ H11; iintro H11
    ihave H10 : own c arg10 (y0 (F := F) i dk dv).dk $$ [H10]
    · rw [← e10]; iexact H10
    ihave H11 : own c arg11 (y0 (F := F) i dk dv).dv $$ [H11]
    · rw [← e11]; iexact H11
  on_goal 2 =>
    have e10 : dk = (y0 (F := F) i dk dv).dk := (if_neg hc).symm
    have e11 : dv = (y0 (F := F) i dk dv).dv := (if_neg hc).symm
    rw [dif_neg hc]
    ihave H10 : own c arg10 (y0 (F := F) i dk dv).dk $$ [H10]
    · rw [← e10]; iexact H10
    ihave H11 : own c arg11 (y0 (F := F) i dk dv).dv $$ [H11]
    · rw [← e11]; iexact H11
  all_goals
    iapply (own_load c E q) $$ H2; iintro H2
    iapply (own_load c E d) $$ H5; iintro H5
    iapply (own_load c E o) $$ H6; iintro H6
    unfold W; sl_step
    rw [show VecWindow.window q ![0, 0] S1024x128.size inb_S1024x128_S1024x128_0_0 = q from window_full q _ (by decide),
      show VecWindow.window d ![0, 0] S1024x128.size inb_S1024x128_S1024x128_0_0 = d from window_full d _ (by decide),
      show VecWindow.window o ![0, 0] S1024x128.size inb_S1024x128_S1024x128_0_0 = o from window_full o _ (by decide)]
    rw [wp_bind]
    unfold k0_part24_skel
    dsimp only
    iapply (own_load c E _) $$ H12; iintro H12
    iapply (own_store c E _) $$ H12; iintro H12
    iapply (own_load c E _) $$ H13; iintro H13
    iapply (own_store c E _) $$ H13; iintro H13
    iapply (own_load c E _) $$ H14; iintro H14
    iapply (own_store c E _) $$ H14; iintro H14
    iapply (own_load c E _) $$ H15; iintro H15
    iapply (own_store c E _) $$ H15; iintro H15
    unfold W; sl_step
    rw [wp_bind]
    unfold k0_part25_skel
    dsimp only
    iapply (own_load c E _) $$ H17; iintro H17
    iapply (own_store c E _) $$ H17; iintro H17
    unfold W; sl_step
    rw [wp_bind]
    unfold k0_part26_skel
    dsimp only
    iapply (own_load c E _) $$ H12; iintro H12
    iapply (own_store c E _) $$ H12; iintro H12
    iapply (own_load c E _) $$ H13; iintro H13
    iapply (own_store c E _) $$ H13; iintro H13
    iapply (own_load c E _) $$ H14; iintro H14
    iapply (own_store c E _) $$ H14; iintro H14
    iapply (own_load c E _) $$ H15; iintro H15
    iapply (own_store c E _) $$ H15; iintro H15
    iapply (own_load c E _) $$ H17; iintro H17
    iapply (own_store c E _) $$ H17; iintro H17
    iapply (own_load c E _) $$ H16; iintro H16
    iapply (own_store_full c E _) $$ H16; iintro H16
    unfold W; sl_step
    rw [wp_bind]
    iapply (wp_wand_r frame (wpE (defs₀ (F := F)) Variants.none (c : Thread nD τ) none) E)
    isplitl [H3 H4 H10 H11 H12 H13 H14 H15 H16 H17 H18 H19]
    · iapply (midR_spec c E _ _ _ _ _ _ _ _ _ _ _ _ _ _ _ _ _ _ _ _ _ _ _ _ _ _ _ _ _ _ _ _ _ _ _ _ _ _ _ _ _ _ k v (ro q d o)
        ⟨⟨k0_pay191, x18, x19⟩, (y0 i dk dv).dk, (y0 i dk dv).dv⟩)
      unfold ownSt ownHs ownRo
      isplitl [H3]; · iexact H3
      isplitl [H4]; · iexact H4
      isplitl [H12 H13 H14 H15 H17]
      · dsimp only [ro]
        rw [← put_stack _ x12, ← put_stack _ x13, ← put_stack _ x14, ← put_stack _ x15, ← put_stack _ x17]
        isplitl [H12]; · iexact H12
        isplitl [H13]; · iexact H13
        isplitl [H14]; · iexact H14
        isplitl [H15]; · iexact H15
        iexact H17
      isplitl [H16 H18 H19]
      · isplitl [H16]; · iexact H16
        isplitl [H18]; · iexact H18
        iexact H19
      isplitl [H10]; · iexact H10
      iexact H11
    iintro %r ⟨%hr, H⟩
    subst hr
    unfold ownSt ownHs ownRo
    icases H with ⟨H3, H4, ⟨H12, H13, H14, H15, H17⟩, ⟨H16, H18, H19⟩, H10, H11⟩
    iapply (own_load c E x7) $$ H7; iintro H7
    iapply (own_store_full c E x7) $$ H7; iintro H7
    unfold W; sl_step
    isplitl [H2]; · iexact H2
    isplitl [H3]; · iexact H3
    isplitl [H4]; · iexact H4
    isplitl [H5]; · iexact H5
    isplitl [H6]; · iexact H6
    isplitl [H7]; · iexact H7
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19

end Cert.Proof.Sb

end
-- ==== Proof.Sb.Run3.lean ====
module

public import proofs.«01_k».proof.Proof.Sb.Run2

@[expose] public section

set_option maxHeartbeats 1000000
set_option maxRecDepth 65536

noncomputable section

namespace Cert.Proof.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.SbBwdIdeal Cert.SbBwdIdeal.Gen
open VecWindow

variable {F : FTy → Type} [FloatOps F]

theorem pay2_eq (x : Vec F S1x128x128 .f32) : k0_pay2 x = k0_pay1 x := rfl

/-- The slab of 128 keys at a trip of the last loop. -/
theorem slab_inb (j : Fin k0_t3_loop.trips) : ∀ a, (k0_off7 j) a + S1x128x128.size a ≤ S64x128x128.size a := by
  have h : ∀ (j : Fin k0_t3_loop.trips) a, (k0_off7 j) a + S1x128x128.size a ≤ S64x128x128.size a := by decide +kernel
  exact h j

/-- A slab of the sums, transposed and rounded. -/
def slabT (s : Vec F S64x128x128 .f32) (j : Fin k0_t3_loop.trips) : S128x128.Idx → Elt F .bf16 :=
  k0_pay1 (window s (k0_off7 j) S1x128x128.size (slab_inb j))

/-- One trip of the last loop: a slab of the sums transposed and rounded into its 128 rows. -/
def rowsAt (s : Vec F S64x128x128 .f32) (j : Fin k0_t3_loop.trips) (x : S8192x128.Idx → Elt F .bf16) : S8192x128.Idx → Elt F .bf16 :=
  put x (k0_off8 j) S128x128.size (slabT s j)

theorem trips3 : k0_t3_loop.trips = 64 := by decide +kernel

theorem slab_lt (y : S8192x128.Idx) : (y 0).val / 128 < k0_t3_loop.trips := by
  have h : (y 0).val < 8192 := (y 0).isLt
  rw [trips3]; omega

/-- A row's place in its slab. -/
def rowIdx (y : S8192x128.Idx) : S128x128.Idx := fun a => match a with
  | ⟨0, _⟩ => ⟨(y 0).val % 128, Nat.mod_lt _ (by decide)⟩
  | ⟨1, _⟩ => ⟨(y 1).val, (y 1).isLt⟩

/-- What the last loop leaves: all 64 slabs. -/
def outK (s : Vec F S64x128x128 .f32) : S8192x128.Idx → Elt F .bf16 := fun y =>
  slabT s ⟨(y 0).val / 128, slab_lt y⟩ (rowIdx y)

theorem iter_rows (s : Vec F S64x128x128 .f32) (x : S8192x128.Idx → Elt F .bf16) :
    ∀ n, n ≤ k0_t3_loop.trips → ∀ y : S8192x128.Idx, (y 0).val < 128 * n → iter k0_t3_loop.trips (rowsAt s) x n y = outK s y
  | 0, _, y, h => absurd h (by omega)
  | n + 1, hn, y, h => by
      have e : iter k0_t3_loop.trips (rowsAt s) x (n + 1) = rowsAt s ⟨n, hn⟩ (iter k0_t3_loop.trips (rowsAt s) x n) := dif_pos hn
      rw [e]
      unfold rowsAt put
      by_cases hy : 128 * n ≤ (y 0).val
      · have hin : ∀ a, k0_off8 ⟨n, hn⟩ a ≤ (y a).val ∧ (y a).val < k0_off8 ⟨n, hn⟩ a + S128x128.size a := by
          rw [k0_off8_eq]
          intro a
          match a with
          | ⟨0, _⟩ => exact ⟨hy, show (y 0).val < 128 * n + 128 by omega⟩
          | ⟨1, _⟩ => exact ⟨Nat.zero_le _, show (y 1).val < 0 + 128 by have := (y 1).isLt; exact lt_of_lt_of_eq this (by decide)⟩
        rw [dif_pos hin]
        unfold outK
        have hj : (⟨(y 0).val / 128, slab_lt y⟩ : Fin k0_t3_loop.trips) = ⟨n, hn⟩ :=
          Fin.ext (by show (y 0).val / 128 = n; omega)
        rw [hj]
        refine congrArg (slabT s _) (funext fun a => Fin.ext ?_)
        have hoff := k0_off8_eq ⟨n, hn⟩
        match a with
        | ⟨0, _⟩ =>
            show (y 0).val - k0_off8 ⟨n, hn⟩ 0 = (y 0).val % 128
            rw [hoff]; show (y 0).val - 128 * n = _; omega
        | ⟨1, _⟩ =>
            show (y 1).val - k0_off8 ⟨n, hn⟩ 1 = (y 1).val
            rw [hoff]; show (y 1).val - 0 = _; omega
      · have hout : ¬ ∀ a, k0_off8 ⟨n, hn⟩ a ≤ (y a).val ∧ (y a).val < k0_off8 ⟨n, hn⟩ a + S128x128.size a := by
          rw [k0_off8_eq]
          intro hall
          exact hy (hall 0).1
        rw [dif_neg hout]
        exact iter_rows s x n (by omega) y (by omega)

theorem iter_rows_all (s : Vec F S64x128x128 .f32) (x : S8192x128.Idx → Elt F .bf16) :
    iter k0_t3_loop.trips (rowsAt s) x k0_t3_loop.trips = outK s :=
  funext fun y => iter_rows s x _ le_rfl y (by have h : (y 0).val < 8192 := (y 0).isLt; rw [trips3]; omega)

set_option backward.isDefEq.respectTransparency false in
theorem sb_spec (c : Dev nD) (E : Set ℕ) (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S64x128x128 .f32) (harg10 : arg10.IsWhole) (arg11 : Memref sig .tc .vmem S64x128x128 .f32) (harg11 : arg11.IsWhole) (arg12 : Memref sig .tc .vmem S2x1024x128 .bf16) (harg12 : arg12.IsWhole) (arg13 : Memref sig .tc .vmem S2x1024x128 .bf16) (harg13 : arg13.IsWhole) (arg14 : Memref sig .tc .vmem S2x128x1024 .bf16) (harg14 : arg14.IsWhole) (arg15 : Memref sig .tc .vmem S2x128x1024 .bf16) (harg15 : arg15.IsWhole) (arg16 : Memref sig .tc .vmem S2x1024x128 .f32) (harg16 : arg16.IsWhole) (arg17 : Memref sig .tc .vmem S2x1024x1 .f32) (harg17 : arg17.IsWhole) (arg18 : Memref sig .tc .vmem S2x1024x1 .f32) (harg18 : arg18.IsWhole) (arg19 : Memref sig .tc .vmem S2x1024x1 .f32) (harg19 : arg19.IsWhole)
    (q : Vec F S1024x128 .bf16) (k v : Vec F S8192x128 .bf16) (d : Vec F S1024x128 .bf16) (o : Vec F S1024x128 .f32)
    (dk dv : Vec F S64x128x128 .f32) (a8 a9 : Vec F S8192x128 .bf16) :
    iprop((own c arg2 q ∗ own c arg3 k ∗ own c arg4 v ∗ own c arg5 d ∗ own c arg6 o ∗ (∃ x, own c arg7 x) ∗ own c arg10 dk ∗ own c arg11 dv ∗ (∃ x, own c arg12 x) ∗ (∃ x, own c arg13 x) ∗ (∃ x, own c arg14 x) ∗ (∃ x, own c arg15 x) ∗ (∃ x, own c arg16 x) ∗ (∃ x, own c arg17 x) ∗ (∃ x, own c arg18 x) ∗ (∃ x, own c arg19 x)) ∗ own c arg8 a8 ∗ own c arg9 a9)
      ⊢ W c E (cc0_sb_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (fun _ =>
        iprop((own c arg2 q ∗ own c arg3 k ∗ own c arg4 v ∗ own c arg5 d ∗ own c arg6 o ∗ own c arg7 (k0_pay540 (dqOut v3 (y1 i q k v d o dk dv))) ∗ own c arg10 (y1 i q k v d o dk dv).dk ∗ own c arg11 (y1 i q k v d o dk dv).dv ∗ (∃ x, own c arg12 x) ∗ (∃ x, own c arg13 x) ∗ (∃ x, own c arg14 x) ∗ (∃ x, own c arg15 x) ∗ (∃ x, own c arg16 x) ∗ (∃ x, own c arg17 x) ∗ (∃ x, own c arg18 x) ∗ (∃ x, own c arg19 x)) ∗ own c arg8 (if k0_cond2 i = 1#1 then outK (y1 i q k v d o dk dv).dk else a8)
          ∗ own c arg9 (if k0_cond2 i = 1#1 then outK (y1 i q k v d o dk dv).dv else a9))) := by
  rw [cc0_sb_bwd_eq_skeleton]
  unfold cc0_sb_bwd_skel
  rw [part77_eq]
  iintro ⟨H, H8, H9⟩
  unfold W
  rw [wp_bind]
  iapply (wp_wand_r frame (wpE (defs₀ (F := F)) Variants.none (c : Thread nD τ) none) E)
  isplitl [H]
  · iapply (body77_spec c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 q k v d o dk dv) $$ H
  iintro %r H
  obtain ⟨r1, r2⟩ := r
  dsimp only
  generalize hy : y1 i q k v d o dk dv = y
  by_cases hc : k0_cond2 i = 1#1
  · rw [dif_pos hc, if_pos hc, if_pos hc]
    icases H with ⟨H2, H3, H4, H5, H6, H7, H10, H11, H⟩
    iapply (seq_loop c E k0_t3_loop (k0_t3_ok i hc) iprop(own c arg10 y.dk ∗ own c arg11 y.dv ∗ own c arg8 a8 ∗ own c arg9 a9)
      (fun n => iprop(own c arg10 y.dk ∗ own c arg11 y.dv ∗ own c arg8 (iter k0_t3_loop.trips (rowsAt y.dk) a8 n) ∗ own c arg9 (iter k0_t3_loop.trips (rowsAt y.dv) a9 n))) rfl ?_) $$ [H10 H11 H8 H9]
    · intro j acc
      rw [iter_succ, iter_succ]
      unfold k0_t3_body
      iintro ⟨H10, H11, H8, H9⟩
      iapply (own_load c E y.dk) $$ H10; iintro H10
      iapply (own_load c E _) $$ H8; iintro H8
      iapply (own_store c E _) $$ H8; iintro H8
      iapply (own_load c E y.dv) $$ H11; iintro H11
      iapply (own_load c E _) $$ H9; iintro H9
      iapply (own_store c E _) $$ H9; iintro H9
      unfold W; sl_step
      isplitl [H10]; · iexact H10
      isplitl [H11]; · iexact H11
      isplitl [H8]; · iexact H8
      iexact H9
    · isplitl [H10]; · iexact H10
      isplitl [H11]; · iexact H11
      isplitl [H8]; · iexact H8
      iexact H9
    rw [iter_rows_all, iter_rows_all]
    iintro %acc ⟨H10, H11, H8, H9⟩
    unfold W; sl_step
    isplitr [H8 H9]
    · isplitl [H2]; · iexact H2
      isplitl [H3]; · iexact H3
      isplitl [H4]; · iexact H4
      isplitl [H5]; · iexact H5
      isplitl [H6]; · iexact H6
      isplitl [H7]; · iexact H7
      isplitl [H10]; · iexact H10
      isplitl [H11]; · iexact H11
      iexact H
    isplitl [H8]; · iexact H8
    iexact H9
  · rw [dif_neg hc, if_neg hc, if_neg hc]
    sl_step
    isplitl [H]; · iexact H
    isplitl [H8]; · iexact H8
    iexact H9

end Cert.Proof.Sb

end
-- ==== Proof.Sb.Frame.lean ====
module

public import proofs.«01_k».proof.Proof.Sb.Run3
public import Idealize.ShloMosaic.Lib.Claim

@[expose] public section

set_option maxHeartbeats 3200000
set_option maxRecDepth 65536

noncomputable section

namespace Cert.Proof.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.SbBwdIdeal Cert.SbBwdIdeal.Gen

variable {F : FTy → Type} [FloatOps F]
variable (m : (ℓ : Loc nD τ sig) → Buf (Elt F) ℓ) (ρ : Dev nD → PrngReg)

/-! ## The points' conditions -/

theorem hcond1 : ∀ t : Fin cfg0.N, cond1 (grid0.coords t) ↔ t.val % 8 = 0 :=
  (by decide +kernel : ∀ t : Fin grid0.N, cond1 (grid0.coords t) ↔ t.val % 8 = 0)
theorem hcond2 : ∀ t : Fin cfg0.N, k0_cond2 (grid0.coords t) = 1#1 ↔ t.val % 8 = 7 :=
  (by decide +kernel : ∀ t : Fin grid0.N, k0_cond2 (grid0.coords t) = 1#1 ↔ t.val % 8 = 7)
theorem liveAt_0 : ∀ t : Fin cfg0.N, cfg0.idle 0 (grid0.coords t) = false := fun _ => rfl
theorem liveAt_1 : ∀ t : Fin cfg0.N, cfg0.idle 1 (grid0.coords t) = false := fun _ => rfl
theorem liveAt_2 : ∀ t : Fin cfg0.N, cfg0.idle 2 (grid0.coords t) = false := fun _ => rfl
theorem liveAt_3 : ∀ t : Fin cfg0.N, cfg0.idle 3 (grid0.coords t) = false := fun _ => rfl
theorem liveAt_4 : ∀ t : Fin cfg0.N, cfg0.idle 4 (grid0.coords t) = false := fun _ => rfl
theorem liveAt_5 : ∀ t : Fin cfg0.N, cfg0.idle 5 (grid0.coords t) = false := fun _ => rfl
theorem liveAt_6 : ∀ t : Fin cfg0.N, k0_cond2 (grid0.coords t) = 1#1 → cfg0.idle 6 (grid0.coords t) = false := by decide +kernel
theorem idleAt_6 : ∀ t : Fin cfg0.N, ¬ k0_cond2 (grid0.coords t) = 1#1 → cfg0.idle 6 (grid0.coords t) = true := by decide +kernel
theorem noFlush_6 (t : Fin cfg0.N) (h : ¬ k0_cond2 (grid0.coords t) = 1#1) : (cfg0.win 6).flush t = false := by
  rw [← Bool.not_eq_true, flush0_6, ← hcond2]; exact h
theorem liveAt_7 : ∀ t : Fin cfg0.N, k0_cond2 (grid0.coords t) = 1#1 → cfg0.idle 7 (grid0.coords t) = false := by decide +kernel
theorem idleAt_7 : ∀ t : Fin cfg0.N, ¬ k0_cond2 (grid0.coords t) = 1#1 → cfg0.idle 7 (grid0.coords t) = true := by decide +kernel
theorem noFlush_7 (t : Fin cfg0.N) (h : ¬ k0_cond2 (grid0.coords t) = 1#1) : (cfg0.win 7).flush t = false := by
  rw [← Bool.not_eq_true, flush0_7, ← hcond2]; exact h

/-! ## What a point leaves -/

abbrev sc0 : Memref sig .tc .vmem S64x128x128 .f32 := Memref.whole cc0_scratch0
abbrev sc1 : Memref sig .tc .vmem S64x128x128 .f32 := Memref.whole cc0_scratch1
abbrev sc2 : Memref sig .tc .vmem S2x1024x128 .bf16 := Memref.whole cc0_scratch2
abbrev sc3 : Memref sig .tc .vmem S2x1024x128 .bf16 := Memref.whole cc0_scratch3
abbrev sc4 : Memref sig .tc .vmem S2x128x1024 .bf16 := Memref.whole cc0_scratch4
abbrev sc5 : Memref sig .tc .vmem S2x128x1024 .bf16 := Memref.whole cc0_scratch5
abbrev sc6 : Memref sig .tc .vmem S2x1024x128 .f32 := Memref.whole cc0_scratch6
abbrev sc7 : Memref sig .tc .vmem S2x1024x1 .f32 := Memref.whole cc0_scratch7
abbrev sc8 : Memref sig .tc .vmem S2x1024x1 .f32 := Memref.whole cc0_scratch8
abbrev sc9 : Memref sig .tc .vmem S2x1024x1 .f32 := Memref.whole cc0_scratch9

/-- A point's state from the sums the point before left. -/
def stOf (c : Dev nD) (t : Fin cfg0.N) (dk dv : Vec F S64x128x128 .f32) : St F :=
  y1 (grid0.coords t) (iblk m c 0 t) (iblk m c 1 t) (iblk m c 2 t) (iblk m c 3 t) (iblk m c 4 t) dk dv

/-- The state after each point. -/
def stAt (c : Dev nD) : (n : ℕ) → n < cfg0.N → St F
  | 0, hn => stOf m c ⟨0, hn⟩ k0_pay163 k0_pay164
  | n + 1, hn => stOf m c ⟨n + 1, hn⟩ (stAt c n (Nat.lt_of_succ_lt hn)).dk (stAt c n (Nat.lt_of_succ_lt hn)).dv

theorem y1_first (i : grid0.Coords) (h : cond1 i) (q : Vec F S1024x128 .bf16) (k v : Vec F S8192x128 .bf16) (d : Vec F S1024x128 .bf16) (o : Vec F S1024x128 .f32)
    (dk dv dk' dv' : Vec F S64x128x128 .f32) : y1 i q k v d o dk dv = y1 i q k v d o dk' dv' := by
  have e : y0 (F := F) i dk dv = y0 i dk' dv' := by
    unfold y0
    rw [if_pos h, if_pos h, if_pos h, if_pos h]
  unfold y1
  rw [e]

/-- The invariant between points: the two sums as the point before left them. -/
def PhiS (c : Dev nD) : (n : ℕ) → n ≤ cfg0.N → sProp (MM F)
  | 0, _ => Pipeline.ΦA spec0 c
  | n + 1, hn => iprop((own c sc0 (stAt m c n hn).dk ∗ own c sc1 (stAt m c n hn).dv ∗ (∃ x, own c (sc2) x) ∗ (∃ x, own c (sc3) x) ∗ (∃ x, own c (sc4) x) ∗ (∃ x, own c (sc5) x) ∗ (∃ x, own c (sc6) x) ∗ (∃ x, own c (sc7) x) ∗ (∃ x, own c (sc8) x) ∗ (∃ x, own c (sc9) x)) ∗ (∃ r, prngReg c r))

theorem PhiA_eq (c : Dev nD) :
    (Pipeline.ΦA spec0 c : sProp (MM F)) = iprop(((∃ x, own c (sc0) x) ∗ (∃ x, own c (sc1) x) ∗ (∃ x, own c (sc2) x) ∗ (∃ x, own c (sc3) x) ∗ (∃ x, own c (sc4) x) ∗ (∃ x, own c (sc5) x) ∗ (∃ x, own c (sc6) x) ∗ (∃ x, own c (sc7) x) ∗ (∃ x, own c (sc8) x) ∗ (∃ x, own c (sc9) x)) ∗ (∃ r, prngReg c r)) := by
  unfold Pipeline.ΦA; rw [scopedRest0_eq]; simp only [own, owns_whole]; try rfl

/-- What a point finds: sums from which it makes its state. -/
theorem Phi_in (c : Dev nD) (t : Fin cfg0.N) :
    PhiS m c t.val (Nat.le_of_lt t.isLt) ⊢ iprop(∃ dk dv, ⌜stOf m c t dk dv = stAt m c t.val t.isLt⌝
      ∗ (own c sc0 dk ∗ own c sc1 dv ∗ (∃ x, own c (sc2) x) ∗ (∃ x, own c (sc3) x) ∗ (∃ x, own c (sc4) x) ∗ (∃ x, own c (sc5) x) ∗ (∃ x, own c (sc6) x) ∗ (∃ x, own c (sc7) x) ∗ (∃ x, own c (sc8) x) ∗ (∃ x, own c (sc9) x)) ∗ (∃ r, prngReg c r)) := by
  obtain ⟨n, hn⟩ := t
  cases n with
  | zero =>
      show PhiS m c 0 _ ⊢ _
      rw [show PhiS m c 0 (Nat.zero_le _) = Pipeline.ΦA spec0 c from rfl, PhiA_eq]
      iintro ⟨⟨⟨%dk, S0⟩, ⟨%dv, S1⟩, S⟩, Hg⟩
      iexists dk; iexists dv
      isplitr
      · ipureintro
        exact y1_first _ ((hcond1 ⟨0, hn⟩).mpr (Nat.zero_mod _)) _ _ _ _ _ _ _ _ _
      isplitr [Hg]
      · isplitl [S0]; · iexact S0
        isplitl [S1]; · iexact S1
        iexact S
      iexact Hg
  | succ n =>
      rw [show PhiS m c (⟨n + 1, hn⟩ : Fin cfg0.N).val (Nat.le_of_lt hn) = iprop((own c sc0 (stAt m c n (Nat.lt_of_succ_lt hn)).dk ∗ own c sc1 (stAt m c n (Nat.lt_of_succ_lt hn)).dv ∗ (∃ x, own c (sc2) x) ∗ (∃ x, own c (sc3) x) ∗ (∃ x, own c (sc4) x) ∗ (∃ x, own c (sc5) x) ∗ (∃ x, own c (sc6) x) ∗ (∃ x, own c (sc7) x) ∗ (∃ x, own c (sc8) x) ∗ (∃ x, own c (sc9) x)) ∗ (∃ r, prngReg c r)) from rfl]
      iintro ⟨S, Hg⟩
      iexists _; iexists _
      isplitr
      swap
      · isplitl [S]; · iexact S
        iexact Hg
      ipureintro; rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay540 (dqOut v3 (stAt m c t.val t.isLt))
    | ⟨6, _⟩ => outK (stAt m c t.val t.isLt).dk
    | ⟨7, _⟩ => outK (stAt m c t.val t.isLt).dv
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = k0_pay540 (dqOut v3 (stAt m c t.val t.isLt)) := by dsimp only [dats]
theorem after0_6 (c : Dev nD) (t : Fin cfg0.N) : (dats m 0 c).after 6 t = outK (stAt m c t.val t.isLt).dk := by dsimp only [dats]
theorem after0_7 (c : Dev nD) (t : Fin cfg0.N) : (dats m 0 c).after 7 t = outK (stAt m c t.val t.isLt).dv := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at a point -/

/-- What the body is called with at a point, -/
def bodyPre (c : Dev nD) (t : Fin cfg0.N) : sProp (MM F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp (MM F) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = iprop((own c sc0 (stAt m c t.val t.isLt).dk ∗ own c sc1 (stAt m c t.val t.isLt).dv ∗ (∃ x, own c (sc2) x) ∗ (∃ x, own c (sc3) x) ∗ (∃ x, own c (sc4) x) ∗ (∃ x, own c (sc5) x) ∗ (∃ x, own c (sc6) x) ∗ (∃ x, own c (sc7) x) ∗ (∃ x, own c (sc8) x) ∗ (∃ x, own c (sc9) x)) ∗ (∃ r, prngReg c r)) from rfl]
  rw [show (dats m 0 c).Φ t.castSucc = PhiS m c t.val (Nat.le_of_lt t.isLt) from by dsimp only [dats]; exact Pipeline.Dat.Φ_castSucc (PhiS m c) t]
  rw [show (dats m 0 c).leavesExact 0 t = owns (c : Thread nD τ) (st0_0 t) fullShare ((dats m 0 c).after 0 t) from by
    unfold Dat.leavesExact; rw [liveAt_0 t], after0_0]
  rw [show (dats m 0 c).leavesExact 1 t = owns (c : Thread nD τ) (st0_1 t) fullShare ((dats m 0 c).after 1 t) from by
    unfold Dat.leavesExact; rw [liveAt_1 t], after0_1]
  rw [show (dats m 0 c).leavesExact 2 t = owns (c : Thread nD τ) (st0_2 t) fullShare ((dats m 0 c).after 2 t) from by
    unfold Dat.leavesExact; rw [liveAt_2 t], after0_2]
  rw [show (dats m 0 c).leavesExact 3 t = owns (c : Thread nD τ) (st0_3 t) fullShare ((dats m 0 c).after 3 t) from by
    unfold Dat.leavesExact; rw [liveAt_3 t], after0_3]
  rw [show (dats m 0 c).leavesExact 4 t = owns (c : Thread nD τ) (st0_4 t) fullShare ((dats m 0 c).after 4 t) from by
    unfold Dat.leavesExact; rw [liveAt_4 t], after0_4]
  rw [show (dats m 0 c).leavesExact 5 t = owns (c : Thread nD τ) (st0_5 t) fullShare ((dats m 0 c).after 5 t) from by
    unfold Dat.leavesExact; rw [liveAt_5 t], after0_5]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HΦ := (Phi_in m c t) $$ HΦ
  icases HΦ with ⟨%dk, %dv, %hst, ⟨S0, S1, S⟩, Hg⟩
  iapply (wp_wand_r frame (wpE (defs₀ (F := F)) Variants.none (c : Thread nD τ) none) Set.univ)
  isplitl [S0 S1 S H0 H1 H2 H3 H4 H5 H6 H7]
  · iapply (sb_spec c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (iblk m c 0 t) (iblk m c 1 t) (iblk m c 2 t) (iblk m c 3 t) (iblk m c 4 t) dk dv ((dats m 0 c).before 6 t d6) ((dats m 0 c).before 7 t d7))
    isplitr [H6 H7]
    · isplitl [H0]; · iexact H0
      isplitl [H1]; · iexact H1
      isplitl [H2]; · iexact H2
      isplitl [H3]; · iexact H3
      isplitl [H4]; · iexact H4
      isplitl [H5]; · iexists _; iexact H5
      isplitl [S0]; · iexact S0
      isplitl [S1]; · iexact S1
      iexact S
    isplitl [H6]; · iexact H6
    iexact H7
  rw [show y1 (grid0.coords t) (iblk m c 0 t) (iblk m c 1 t) (iblk m c 2 t) (iblk m c 3 t) (iblk m c 4 t) dk dv = stAt m c t.val t.isLt from hst]
  iintro %r ⟨⟨H0, H1, H2, H3, H4, H5, S0, S1, S⟩, H6, H7⟩
  by_cases hc : k0_cond2 (grid0.coords t) = 1#1
  · rw [if_pos hc, if_pos hc]
    rw [show (dats m 0 c).leavesExact 6 t = owns (c : Thread nD τ) (st0_6 t) fullShare ((dats m 0 c).after 6 t) from by
      unfold Dat.leavesExact; rw [liveAt_6 t hc], after0_6]
    rw [show (dats m 0 c).leavesExact 7 t = owns (c : Thread nD τ) (st0_7 t) fullShare ((dats m 0 c).after 7 t) from by
      unfold Dat.leavesExact; rw [liveAt_7 t hc], after0_7]
    isplitl [Hg S0 S1 S]
    · isplitr [Hg]
      · isplitl [S0]; · iexact S0
        isplitl [S1]; · iexact S1
        iexact S
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [if_neg hc, if_neg hc]
    rw [Dat.leavesExact_idle (dats m 0 c) 6 t (idleAt_6 t hc) (noFlush_6 t hc)]
    rw [Dat.leavesExact_idle (dats m 0 c) 7 t (idleAt_7 t hc) (noFlush_7 t hc)]
    isplitl [Hg S0 S1 S]
    · isplitr [Hg]
      · isplitl [S0]; · iexact S0
        isplitl [S1]; · iexact S1
        iexact S
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = iprop((own c sc0 (stAt m c 63 (by decide)).dk ∗ own c sc1 (stAt m c 63 (by decide)).dv ∗ (∃ x, own c (sc2) x) ∗ (∃ x, own c (sc3) x) ∗ (∃ x, own c (sc4) x) ∗ (∃ x, own c (sc5) x) ∗ (∃ x, own c (sc6) x) ∗ (∃ x, own c (sc7) x) ∗ (∃ x, own c (sc8) x) ∗ (∃ x, own c (sc9) x)) ∗ (∃ r, prngReg c r)) from rfl, PhiA_eq]
  iintro ⟨⟨S0, S1, S⟩, Hg⟩
  isplitr [Hg]
  · isplitl [S0]; · iexists _; iexact S0
    isplitl [S1]; · iexists _; iexact S1
    iexact S
  iexact Hg

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame, over any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.Proof.Sb

end
-- ==== Proof.Sb.Frames.lean ====
module

public import proofs.«01_k».proof.Proof.Sb.Frame
public import proofs.«01_k».proof.Defs
public import proofs.«01_k».proof.Proof.Gen.SbBwd
public import proofs.«01_k».proof.Proof.Gen.SbBwdRefIdeal.Run

@[expose] public section

set_option maxRecDepth 65536

noncomputable section

namespace Cert.Proof.Sb

open Idealize.ShloMosaic Idealize.SL.Sem

/-- Over the extended reals the kernel ends and leaves its arguments; -/
theorem frame_ideal : Cert.quiescent_SbBwdIdeal := fun m ρ _ => frame (F := Ideal) m ρ

/-- so it does over machine words: the one run serves both, the two programs being the same text; -/
theorem frame_kernel : Cert.quiescent_SbBwd := by
  have h : ∀ (m : (ℓ : Loc Cert.SbBwdIdeal.nD Cert.SbBwdIdeal.τ Cert.SbBwdIdeal.sig) → Buf (Elt Bits) ℓ) (ρ : Dev Cert.SbBwdIdeal.nD → PrngReg), Pre_SbBwd m →
      θ_run (Cert.SbBwdIdeal.defs (F := Bits)) (onTc (τ := Cert.SbBwdIdeal.τ) (Cert.SbBwdIdeal.main (F := Bits))) ⟨m, fun _ => 0, ρ⟩ (fun r => (∀ c : Dev Cert.SbBwdIdeal.nD,
        r.2.mem ((c.tc : Thread Cert.SbBwdIdeal.nD Cert.SbBwdIdeal.τ).loc Cert.SbBwdIdeal.main_arg0) = m ((c.tc : Thread Cert.SbBwdIdeal.nD Cert.SbBwdIdeal.τ).loc Cert.SbBwdIdeal.main_arg0)
        ∧ r.2.mem ((c.tc : Thread Cert.SbBwdIdeal.nD Cert.SbBwdIdeal.τ).loc Cert.SbBwdIdeal.main_arg1) = m ((c.tc : Thread Cert.SbBwdIdeal.nD Cert.SbBwdIdeal.τ).loc Cert.SbBwdIdeal.main_arg1))
        ∧ r.2.sem = fun _ => 0) := fun m ρ _ => frame (F := Bits) m ρ
  exact cast (by sl_kernel_rfl) h

/-- and so does the reference. -/
theorem reference_frame : Cert.quiescent_SbBwdRefIdeal := fun m ρ _ =>
  (θ_run Cert.SbBwdRefIdeal.defs _ _).mono (fun r h => ⟨fun c => (h c).2.2.2, sem_eq_zero_of_no_sems (by decide) r.2⟩)
    (Cert.SbBwdRefIdeal.Value.run (F := Ideal) m ρ)

end Cert.Proof.Sb

end
-- ==== Proof.Sb.Step.lean ====
module

public import proofs.«01_k».proof.Proof.Sb.Real

@[expose] public section

noncomputable section

namespace Cert.Proof.Sb

open Idealize.ShloMosaic Idealize.ShloMosaic.ValueIdx Idealize.SL.Sem Cert.SbBwdIdeal Cert.SbBwdIdeal.Gen VecWindow
open scoped BigOperators

/-- The logarithms of a score's weight and of its complement. -/
def lsp (z : ℝ) : ℝ := min z 0 - Real.log (1 + Real.exp (0 - |z|))
def lsn (z : ℝ) : ℝ := 0 - max z 0 - Real.log (1 + Real.exp (0 - |z|))

/-- A tile of queries, all keys and values, over the reals; `T` is the tile's first row. -/
structure Tl where
  q : ℕ → ℕ → ℕ → ℝ
  d : ℕ → ℕ → ℕ → ℝ
  et : ℕ → ℕ → ℝ
  k : ℕ → ℕ → ℝ
  v : ℕ → ℕ → ℝ
  T : ℕ

namespace Tl
variable (x : Tl) (h r s : ℕ)

def z : ℝ := ∑ c ∈ Finset.range 128, x.q h r c * x.k s c
def ln : ℝ := lsn (x.z h r s)
def w : ℝ := Real.exp (lsp (x.z h r s) + ∑ u ∈ Finset.Ico (s + 1) (x.T + r), x.ln h r u)
def gw : ℝ := ∑ c ∈ Finset.range 128, x.d h r c * x.v s c
def e : ℝ := x.w h r s * x.gw h r s
def dz : ℝ := x.e h r s * (1 - Real.exp (lsp (x.z h r s)))
  - Real.exp (lsp (x.z h r s)) * (x.et h r - ∑ u ∈ Finset.Ico s (x.T + r), x.e h r u)
def rl (A : ℕ) : ℝ := ∑ u ∈ Finset.Ico A (x.T + r), x.ln h r u
def re (A : ℕ) : ℝ := ∑ u ∈ Finset.Ico A (x.T + r), x.e h r u
def dq (A c : ℕ) : ℝ := ∑ u ∈ Finset.Ico A (x.T + r), x.dz h r u * x.k u c
/-- What one head's rows add to the gradients of a key and of a value. -/
def dk (c : ℕ) : ℝ := ∑ r ∈ Finset.range 1024, if s < x.T + r then x.q h r c * x.dz h r s else 0
def dv (c : ℕ) : ℝ := ∑ r ∈ Finset.range 1024, if s < x.T + r then x.d h r c * x.w h r s else 0
end Tl

/-- A sum from a place on, cut at the end of a block. -/
theorem sum_block (f : ℕ → ℝ) (B t c : ℕ) (hc : c ≤ 128) :
    (∑ u ∈ Finset.range 128, if c ≤ u then (if B + u < t then f (B + u) else 0) else 0) + ∑ u ∈ Finset.Ico (B + 128) t, f u
      = ∑ u ∈ Finset.Ico (B + c) t, f u := by
  have cut : ∀ a N, t ≤ N → ∑ u ∈ Finset.Ico a t, f u = ∑ u ∈ Finset.Ico a N, if u < t then f u else 0 := by
    intro a N hN
    rw [← Finset.sum_filter]
    refine Finset.sum_congr ?_ fun _ _ => rfl
    ext u
    simp only [Finset.mem_filter, Finset.mem_Ico]
    omega
  rw [cut (B + 128) (t + B + 128) (by omega), cut (B + c) (t + B + 128) (by omega),
    ← Finset.sum_Ico_consecutive _ (show B + c ≤ B + 128 by omega) (show B + 128 ≤ t + B + 128 by omega)]
  refine congrArg (· + _) ?_
  rw [← Finset.sum_filter, Finset.sum_Ico_eq_sum_range]
  have e : Finset.filter (fun u => c ≤ u) (Finset.range 128) = Finset.Ico c 128 := by
    ext u; simp only [Finset.mem_filter, Finset.mem_range, Finset.mem_Ico]; omega
  rw [e, Finset.sum_Ico_eq_sum_range, show B + 128 - (B + c) = 128 - c by omega]
  exact Finset.sum_congr rfl fun u _ => by rw [Nat.add_assoc]

theorem sum_block0 (f : ℕ → ℝ) (B t : ℕ) :
    ∑ u ∈ Finset.Ico (B + 128) t, f u + (∑ u ∈ Finset.range 128, if B + u < t then f (B + u) else 0) = ∑ u ∈ Finset.Ico B t, f u := by
  have e := sum_block f B t 0 (by omega)
  simp only [Nat.zero_le, if_true] at e
  rw [add_comm]
  exact e

theorem soft_pos (z : ℝ) : 0 < 1 + Real.exp (0 - |z|) := by positivity

/-- The rows above a block's have no keys in it. -/
theorem rows_above {T row B A' : ℕ} (hrow : ∀ r < row, T + r ≤ B) (r : ℕ) (hr : r < row) (f : ℕ → ℝ) (hA' : B ≤ A') :
    ∑ u ∈ Finset.Ico A' (T + r), f u = ∑ u ∈ Finset.Ico B (T + r), f u := by
  rw [Finset.Ico_eq_empty (by have := hrow r hr; omega), Finset.Ico_eq_empty (by have := hrow r hr; omega)]

/-- A sum over a block's rows is the sum over the tile's, those above it adding nothing. -/
theorem sum_rows {T n row B : ℕ} (hnr : n + row = 1024) (hrow : ∀ r < row, T + r ≤ B) (f : ℕ → ℝ) (s : ℕ) (hs : B ≤ s) :
    (∑ r ∈ Finset.range n, if s < T + (row + r) then f (row + r) else 0) = ∑ r ∈ Finset.range 1024, if s < T + r then f r else 0 := by
  have e : 1024 = row + n := by omega
  rw [e, Finset.sum_range_add]
  rw [Finset.sum_eq_zero (s := Finset.range row) fun r hr => if_neg (by have := hrow r (Finset.mem_range.mp hr); omega), zero_add]

/-- The buffers the blocks read hold a tile. -/
structure IsRo (X : Ro Ideal) (x : Tl) : Prop where
  q : IsA (m := 2) (n := 1024) (k := 128) X.q x.q
  d : IsA (m := 2) (n := 1024) (k := 128) X.d x.d
  qt : IsA (m := 2) (n := 128) (k := 1024) X.qt (fun h c r => x.q h r c)
  dt : IsA (m := 2) (n := 128) (k := 1024) X.dt (fun h c r => x.d h r c)
  et : IsA (m := 2) (n := 1024) (k := 1) X.et (fun h r _ => x.et h r)

/-- The state of the heads when head `h` has seen the keys from `A h` on. -/
structure IsHs (y : Hs Ideal) (x : Tl) (A : ℕ → ℕ) : Prop where
  dq : IsA (m := 2) (n := 1024) (k := 128) y.dq (fun h r c => x.dq h r (A h) c)
  rl : IsA (m := 2) (n := 1024) (k := 1) y.rl (fun h r _ => x.rl h r (A h))
  re : IsA (m := 2) (n := 1024) (k := 1) y.re (fun h r _ => x.re h r (A h))

/-- What a mask keeps. -/
def Keeps {n : ℕ} (mask : Option (IVec (M n 128) 1)) (p : ℕ → ℕ → Prop) [∀ r c, Decidable (p r c)] : Prop :=
  ∀ (X : FVec Ideal (M n 128) .f32) (f : ℕ → ℕ → ℝ), (∀ (r : Fin n) (c : Fin 128), p r c → X (ix2 r c) = ((f r c : ℝ) : EReal)) →
    IsM (keep mask X) (fun r c => if p r c then f r c else 0)

section
variable {n row : ℕ} (ev : Ev n row) (hnr : n + row = 1024) (hn : n ≠ 1)
include hnr hn

theorem soft_is {X : FVec Ideal (M n 128) .f32} {f : ℕ → ℕ → ℝ} (hX : IsM X f) : IsM (soft X) (fun r c => Real.log (1 + Real.exp (0 - |f r c|))) :=
  (IsM.one.add ((IsM.zero.sub hX.abs).exp)).log fun r c => soft_pos _

theorem lsPos_is {X : FVec Ideal (M n 128) .f32} {f : ℕ → ℕ → ℝ} (hX : IsM X f) : IsM (lsPos X) (fun r c => lsp (f r c)) :=
  (hX.min IsM.zero).sub (soft_is (row := row) hnr hn hX)

theorem lsNeg_is {mask : Option (IVec (M n 128) 1)} {p : ℕ → ℕ → Prop} [∀ r c, Decidable (p r c)] (hm : Keeps mask p)
    {X : FVec Ideal (M n 128) .f32} {f : ℕ → ℕ → ℝ} (hX : IsM X f) : IsM (lsNeg mask X) (fun r c => if p r c then lsn (f r c) else 0) :=
  hm _ _ fun r c _ => ((IsM.zero.sub (hX.max IsM.zero)).sub (soft_is (row := row) hnr hn hX)) r c

theorem split_is {X : FVec Ideal (M n 128) .f32} {f : ℕ → ℕ → ℝ} (hX : IsM X f) {U : FVec Ideal S128x128 .bf16} {t : ℕ}
    (hU : IsM (n := 128) (k := 128) U (fun u s => if s + t ≤ u then 1 else 0)) :
    IsM (split ev X U) (fun r s => ∑ u ∈ Finset.range 128, if s + t ≤ u then f r u else 0) :=
  ((IsM.nn ev (X := truncf .bf16 X bitsLt_bf16_f32) hX hU none).add
    (IsM.nn ev (X := truncf .bf16 (subf X (extf .f32 (truncf .bf16 X bitsLt_bf16_f32) bitsLt_bf16_f32)) bitsLt_bf16_f32) (hX.sub hX) hU none)).congr
    fun r _ s _ => by
      simp only [sub_self, zero_mul, Finset.sum_const_zero, add_zero]
      exact Finset.sum_congr rfl fun u _ => by split_ifs <;> simp

variable (h : Fin 2) {mask : Option (IVec (M n 128) 1)} {up inc kj vj : FVec Ideal S128x128 .bf16} {X : Ro Ideal} {y : Hs Ideal} {x : Tl} {A : ℕ → ℕ} {B : ℕ}
  (hA : A h = B + 128)
  (hm : Keeps mask (fun r c => B + c < x.T + (row + r)))
  (hup : IsM (n := 128) (k := 128) up (fun u s => if s + 1 ≤ u then 1 else 0))
  (hinc : IsM (n := 128) (k := 128) inc (fun u s => if s + 0 ≤ u then 1 else 0))
  (hk : IsM (n := 128) (k := 128) kj (fun s c => x.k (B + s) c)) (hv : IsM (n := 128) (k := 128) vj (fun s c => x.v (B + s) c))
  (hX : IsRo X x) (hy : IsHs y x A)

include hk hX in
theorem hz_is : IsM (hz ev h kj X) (fun r s => x.z h (row + r) (B + s)) :=
  (IsM.nt ev ((hX.q.window ![h.val, row, 0] (ev.inM h)).drop ev.castM) hk none).congr fun r _ s _ => by
    unfold Tl.z
    exact Finset.sum_congr rfl fun c _ => by
      show x.q (h.val + 0) (row + r) (0 + c) * _ = _
      rw [Nat.add_zero, Nat.zero_add]

include hk hX hm in
theorem hl_is : IsM (lsNeg mask (hz ev h kj X)) (fun r s => if B + s < x.T + (row + r) then x.ln h (row + r) (B + s) else 0) :=
  lsNeg_is (row := row) hnr hn hm (hz_is ev hnr hn h hk hX)

include hA hm hup hk hX hy in
theorem hp_is : IsM (hp ev h mask up kj X y) (fun r s => if B + s < x.T + (row + r) then x.w h (row + r) (B + s) else 0) := by
  refine hm _ _ fun r s hp => ?_
  refine ((((lsPos_is (row := row) hnr hn (hz_is ev hnr hn h hk hX)).add (split_is ev hnr hn (hl_is ev hnr hn h hm hk hX) hup)).add
    (((hy.rl.window ![h.val, row, 0] (ev.inC h)).drop ev.castC).col ev.bc hn)).exp r s).trans ?_
  unfold Tl.w
  refine congrArg (fun a : ℝ => ((Real.exp a : ℝ) : EReal)) ?_
  rw [add_assoc]
  refine congrArg (fun a : ℝ => lsp (x.z h (row + r) (B + s)) + a) ?_
  show _ + x.rl h.val (row + r) (A h.val) = _
  rw [hA]
  unfold Tl.rl
  rw [sum_block (fun u => x.ln h (row + r) u) B (x.T + (row + r)) (s.val + 1) (by have := s.isLt; omega)]
  rfl

include hA hm hup hk hv hX hy in
theorem he_is : IsM (he ev h mask up kj vj X y) (fun r s => if B + s < x.T + (row + r) then x.e h (row + r) (B + s) else 0) :=
  ((hp_is ev hnr hn h hA hm hup hk hX hy).mul (IsM.nt ev ((hX.d.window ![h.val, row, 0] (ev.inM h)).drop ev.castM) hv none)).congr fun r _ s _ => by
    have e : (∑ c ∈ Finset.range 128, x.d (h.val + 0) (row + r) (0 + c) * x.v (B + s) c) = x.gw h (row + r) (B + s) := by
      unfold Tl.gw
      exact Finset.sum_congr rfl fun c _ => by rw [Nat.add_zero, Nat.zero_add]
    show _ * (∑ c ∈ Finset.range 128, x.d (h.val + 0) (row + r) (0 + c) * x.v (B + s) c) = _
    rw [e]
    unfold Tl.e
    split_ifs <;> simp

include hA hm hup hinc hk hv hX hy in
theorem hdz_is : IsM (hdz ev h mask up inc kj vj X y) (fun r s => if B + s < x.T + (row + r) then x.dz h (row + r) (B + s) else 0) := by
  refine hm _ _ fun r s hp => ?_
  have hE := he_is ev hnr hn h hA hm hup hk hv hX hy
  have hβ := (lsPos_is (row := row) hnr hn (hz_is ev hnr hn h hk hX)).exp
  refine ((hE.mul (IsM.one.sub hβ)).sub (hβ.mul ((((hX.et.window ![h.val, row, 0] (ev.inC h)).drop ev.castC).col ev.bc hn).sub
    ((split_is ev hnr hn hE hinc).add (((hy.re.window ![h.val, row, 0] (ev.inC h)).drop ev.castC).col ev.bc hn)))) r s).trans ?_
  unfold Tl.dz
  refine congrArg (fun a : ℝ => (a : EReal)) ?_
  have e := sum_block (fun u => x.e h (row + r) u) B (x.T + (row + r)) (s.val + 0) (by have := s.isLt; omega)
  show (if _ then _ else _) * _ - _ * (x.et (h.val + 0) (row + r) - (_ + x.re (h.val + 0) (row + r) (A (h.val + 0)))) = _
  rw [if_pos hp, Nat.add_zero, hA]
  unfold Tl.re
  rw [e]
  rfl

variable (hrow : ∀ r < row, x.T + r ≤ B)
include hA hm hup hinc hk hv hX hy hrow

theorem hs_is : IsHs (hs ev h mask up inc kj vj X y) x (Function.update A h B) := by
  have hh := h.isLt
  have other : ∀ h' : ℕ, h' ≠ h.val → Function.update A h.val B h' = A h' := fun h' hne => Function.update_of_ne hne _ _
  have same : ∀ h' : ℕ, h' = h.val → Function.update A h.val B h' = B := fun h' he => by subst he; exact Function.update_self ..
  have hdz := hdz_is ev hnr hn h hA hm hup hinc hk hv hX hy
  have hE := he_is ev hnr hn h hA hm hup hk hv hX hy
  constructor
  · refine IsA.put ![h.val, row, 0] (fun h' r c hout => ?_)
      ((((hy.dq.window ![h.val, row, 0] (ev.inM h)).drop ev.castM).add (IsM.nn ev hdz hk none)).lift ev.castM') ?_
    · rw [hy.dq h' r c]
      refine congrArg (fun a : ℝ => (a : EReal)) ?_
      by_cases he : h'.val = h.val
      · have hr : r.val < row := by
          by_contra hr
          exact hout ⟨⟨he.ge, by show h'.val < h.val + 1; omega⟩, ⟨not_lt.mp hr, by show r.val < row + n; have := r.isLt; omega⟩, ⟨Nat.zero_le _, by show c.val < 0 + 128; have := c.isLt; omega⟩⟩
        show x.dq h' r (A h') c = x.dq h' r (Function.update A h.val B h') c
        rw [same _ he, he, hA]
        exact rows_above hrow r hr _ (by omega)
      · show x.dq h' r (A h') c = x.dq h' r (Function.update A h.val B h') c
        rw [other _ he]
    · intro a ha r hr c hc
      have ha0 : a = 0 := by omega
      subst ha0
      show x.dq (h.val + 0) (row + r) (Function.update A h.val B (h.val + 0)) (0 + c)
        = x.dq (h.val + 0) (row + r) (A (h.val + 0)) (0 + c) + _
      rw [Nat.add_zero, Nat.zero_add, same _ rfl, hA]
      unfold Tl.dq
      rw [← sum_block0 (fun u => x.dz h (row + r) u * x.k u c) B (x.T + (row + r))]
      refine congrArg (_ + ·) (Finset.sum_congr rfl fun u _ => ?_)
      rw [ite_mul, zero_mul]
  · refine IsA.put ![h.val, row, 0] (fun h' r c hout => ?_)
      ((((hy.rl.window ![h.val, row, 0] (ev.inC h)).drop ev.castC).add ((hl_is ev hnr hn h hm hk hX).sumc ev.red ev.castV _ _)).lift ev.castC') ?_
    · rw [hy.rl h' r c]
      refine congrArg (fun a : ℝ => (a : EReal)) ?_
      by_cases he : h'.val = h.val
      · have hr : r.val < row := by
          by_contra hr
          exact hout ⟨⟨he.ge, by show h'.val < h.val + 1; omega⟩, ⟨not_lt.mp hr, by show r.val < row + n; have := r.isLt; omega⟩, ⟨Nat.zero_le _, by show c.val < 0 + 1; have := c.isLt; omega⟩⟩
        show x.rl h' r (A h') = x.rl h' r (Function.update A h.val B h')
        rw [same _ he, he, hA]
        exact rows_above hrow r hr _ (by omega)
      · show x.rl h' r (A h') = x.rl h' r (Function.update A h.val B h')
        rw [other _ he]
    · intro a ha r hr c hc
      have ha0 : a = 0 := by omega
      subst ha0
      show x.rl (h.val + 0) (row + r) (Function.update A h.val B (h.val + 0)) = x.rl (h.val + 0) (row + r) (A (h.val + 0)) + _
      rw [Nat.add_zero, same _ rfl, hA]
      unfold Tl.rl
      exact (sum_block0 (fun u => x.ln h (row + r) u) B (x.T + (row + r))).symm
  · refine IsA.put ![h.val, row, 0] (fun h' r c hout => ?_)
      ((((hy.re.window ![h.val, row, 0] (ev.inC h)).drop ev.castC).add (hE.sumc ev.red ev.castV _ _)).lift ev.castC') ?_
    · rw [hy.re h' r c]
      refine congrArg (fun a : ℝ => (a : EReal)) ?_
      by_cases he : h'.val = h.val
      · have hr : r.val < row := by
          by_contra hr
          exact hout ⟨⟨he.ge, by show h'.val < h.val + 1; omega⟩, ⟨not_lt.mp hr, by show r.val < row + n; have := r.isLt; omega⟩, ⟨Nat.zero_le _, by show c.val < 0 + 1; have := c.isLt; omega⟩⟩
        show x.re h' r (A h') = x.re h' r (Function.update A h.val B h')
        rw [same _ he, he, hA]
        exact rows_above hrow r hr _ (by omega)
      · show x.re h' r (A h') = x.re h' r (Function.update A h.val B h')
        rw [other _ he]
    · intro a ha r hr c hc
      have ha0 : a = 0 := by omega
      subst ha0
      show x.re (h.val + 0) (row + r) (Function.update A h.val B (h.val + 0)) = x.re (h.val + 0) (row + r) (A (h.val + 0)) + _
      rw [Nat.add_zero, same _ rfl, hA]
      unfold Tl.re
      exact (sum_block0 (fun u => x.e h (row + r) u) B (x.T + (row + r))).symm

theorem dk_is {D : FVec Ideal S128x128 .f32} {g : ℕ → ℕ → ℝ} (hD : IsM (n := 128) (k := 128) D g) :
    IsM (n := 128) (k := 128) (accNew ev D (wT ev h X.qt) (hdz ev h mask up inc kj vj X y)) (fun c s => g c s + x.dk h (B + s) c) :=
  (hD.add (IsM.tn ev ((hX.qt.window ![h.val, 0, row] (ev.inT h)).drop ev.castT) (hdz_is ev hnr hn h hA hm hup hinc hk hv hX hy) none)).congr
    fun c _ s _ => by
      refine congrArg (_ + ·) ?_
      unfold Tl.dk
      rw [← sum_rows hnr hrow (fun r => x.q h r c * x.dz h r (B + s)) (B + s) (by omega)]
      refine Finset.sum_congr rfl fun r _ => ?_
      show x.q (h.val + 0) (row + r) (0 + c) * _ = _
      rw [Nat.add_zero, Nat.zero_add, mul_ite, mul_zero]

theorem dv_is {D : FVec Ideal S128x128 .f32} {g : ℕ → ℕ → ℝ} (hD : IsM (n := 128) (k := 128) D g) :
    IsM (n := 128) (k := 128) (accNew ev D (wT ev h X.dt) (truncf .bf16 (hp ev h mask up kj X y) bitsLt_bf16_f32)) (fun c s => g c s + x.dv h (B + s) c) :=
  (hD.add (IsM.tn ev (Y := truncf .bf16 (hp ev h mask up kj X y) bitsLt_bf16_f32) ((hX.dt.window ![h.val, 0, row] (ev.inT h)).drop ev.castT) (hp_is ev hnr hn h hA hm hup hk hX hy) none)).congr
    fun c _ s _ => by
      refine congrArg (_ + ·) ?_
      unfold Tl.dv
      rw [← sum_rows hnr hrow (fun r => x.d h r c * x.w h r (B + s)) (B + s) (by omega)]
      refine Finset.sum_congr rfl fun r _ => ?_
      show x.d (h.val + 0) (row + r) (0 + c) * _ = _
      rw [Nat.add_zero, Nat.zero_add, mul_ite, mul_zero]

end

end Cert.Proof.Sb

end
-- ==== Proof.Sb.Soft.lean ====
module

public import proofs.«01_k».proof.Proof.Sb.Step
public import Idealize.ShloMosaic.Lib.Pointwise

@[expose] public section

noncomputable section

namespace Cert.Proof.Sb

open Idealize.ShloMosaic
open scoped BigOperators

/-- The softplus of a real, as the reference computes it. -/
def spl (x : ℝ) : ℝ := max x 0 + Real.log (1 + Real.exp (-|x|))

theorem lsn_eq (z : ℝ) : lsn z = -spl z := by unfold lsn spl; rw [zero_sub, zero_sub]; ring
theorem lsp_eq (z : ℝ) : lsp z = -spl (-z) := by
  unfold lsp spl; rw [abs_neg, zero_sub]
  have : max (-z) 0 = -min z 0 := by
    rcases le_total z 0 with h | h
    · rw [max_eq_left (by linarith), min_eq_left h]
    · rw [max_eq_right (by linarith), min_eq_right h, neg_zero]
  rw [this]; ring

theorem spl_sub (z : ℝ) : spl z - spl (-z) = z := by
  unfold spl
  rw [abs_neg]
  rcases le_total z 0 with h | h
  · rw [max_eq_right h, max_eq_left (by linarith)]; ring
  · rw [max_eq_left h, max_eq_right (by linarith)]; ring

/-- A score's weight and its complement's logarithm, by their exponentials. -/
theorem exp_sub_spl (z : ℝ) : Real.exp (z - spl z) = Real.exp (lsp z) := by
  rw [lsp_eq]; congr 1; have := spl_sub z; linarith
theorem exp_neg_sub_spl (z : ℝ) : Real.exp (-z - spl (-z)) = Real.exp (lsn z) := by
  rw [lsn_eq]; congr 1; have := spl_sub z; linarith
theorem exp_spl (z : ℝ) : Real.exp (spl z) = 1 + Real.exp z := by
  unfold spl
  have hp : 0 < 1 + Real.exp (-|z|) := by positivity
  rw [Real.exp_add, Real.exp_log hp]
  rcases le_total z 0 with h | h
  · rw [max_eq_right h, abs_of_nonpos h, neg_neg, Real.exp_zero, one_mul]
  · rw [max_eq_left h, abs_of_nonneg h, mul_add, ← Real.exp_add, mul_one, add_neg_cancel, Real.exp_zero, add_comm]
theorem exp_lsn (z : ℝ) : Real.exp (lsn z) = 1 - Real.exp (lsp z) := by
  have h1 : Real.exp (lsn z) = (1 + Real.exp z)⁻¹ := by rw [lsn_eq, Real.exp_neg, exp_spl]
  have h2 : Real.exp (lsp z) = (1 + Real.exp (-z))⁻¹ := by rw [lsp_eq, Real.exp_neg, exp_spl]
  have hz := Real.exp_pos z
  rw [h1, h2, Real.exp_neg]
  field_simp
  ring

/-- The reference's softplus on a real: its test for a value that is none is never met. -/
theorem soft_coe (x : ℝ) (z0 : EReal) (hz0 : z0 = 0) :
    (if (x : EReal) - z0 ≠ (x : EReal) - z0 then (x : EReal) + z0 else max (x : EReal) z0 + Ideal.log1p (Ideal.exp (-FloatOps.absf (F := Ideal) (φ := .f32) ((x : EReal) - z0))))
      = ((spl x : ℝ) : EReal) := by
  subst hz0
  rw [if_neg (not_not.mpr rfl), sub_zero, show (0 : EReal) = ((0 : ℝ) : EReal) from rfl, coe_max]
  have e1 : FloatOps.absf (F := Ideal) (φ := .f32) (x : EReal) = ((|x| : ℝ) : EReal) := by
    show max (x : EReal) (-(x : EReal)) = _
    rw [← EReal.coe_neg, coe_max]; rfl
  have e2 : Ideal.log1p (Ideal.exp (-((|x| : ℝ) : EReal))) = ((Real.log (1 + Real.exp (-|x|)) : ℝ) : EReal) := by
    rw [← EReal.coe_neg]
    show Ideal.log (1 + ((Real.exp (-|x|) : ℝ) : EReal)) = _
    rw [show (1 : EReal) = ((1 : ℝ) : EReal) from rfl, ← EReal.coe_add]
    show Ideal.log ((1 + Real.exp (-|x|) : ℝ) : EReal) = _
    have hp : 0 < 1 + Real.exp (-|x|) := by positivity
    exact if_neg (not_le.mpr hp)
  rw [e1, e2, ← EReal.coe_add]
  rfl

end Cert.Proof.Sb
end
-- ==== Proof.Sb.Steps.lean ====
module

public import proofs.«01_k».proof.Proof.Sb.Step
public import proofs.«01_k».proof.Proof.Sb.Run3

@[expose] public section

noncomputable section

namespace Cert.Proof.Sb

open Idealize.ShloMosaic Idealize.ShloMosaic.ValueIdx Idealize.SL.Sem Cert.SbBwdIdeal Cert.SbBwdIdeal.Gen VecWindow
open scoped BigOperators

/-- The state of the blocks when the keys from `A` on are done; `D` and `V` are what the sums held before the tile. -/
structure IsSt (y : St Ideal) (x : Tl) (D V : ℕ → ℕ → ℕ → ℝ) (A : ℕ) : Prop where
  hs : IsHs y.hs x (fun _ => A)
  dk : IsA (m := 64) (n := 128) (k := 128) y.dk (fun j c s => D j c s + if A ≤ 128 * j + s then x.dk 0 (128 * j + s) c + x.dk 1 (128 * j + s) c else 0)
  dv : IsA (m := 64) (n := 128) (k := 128) y.dv (fun j c s => V j c s + if A ≤ 128 * j + s then x.dv 0 (128 * j + s) c + x.dv 1 (128 * j + s) c else 0)

theorem IsHs.congr {y : Hs Ideal} {x : Tl} {A A' : ℕ → ℕ} (h : IsHs y x A) (e : ∀ h < 2, A h = A' h) : IsHs y x A' where
  dq := fun a r c => by rw [h.dq a r c]; show ((x.dq a r (A a) c : ℝ) : EReal) = ((x.dq a r (A' a) c : ℝ) : EReal); rw [e a a.isLt]
  rl := fun a r c => by rw [h.rl a r c]; show ((x.rl a r (A a) : ℝ) : EReal) = ((x.rl a r (A' a) : ℝ) : EReal); rw [e a a.isLt]
  re := fun a r c => by rw [h.re a r c]; show ((x.re a r (A a) : ℝ) : EReal) = ((x.re a r (A' a) : ℝ) : EReal); rw [e a a.isLt]

theorem slab_is {y : S64x128x128.Idx → EReal} {D G : ℕ → ℕ → ℕ → ℝ} {J : ℕ} {w : Fin 3 → ℕ} {W : FVec Ideal S128x128 .f32} {g : ℕ → ℕ → ℝ}
    (hw : ∀ a, w a + S1x128x128.size a ≤ S64x128x128.size a) (w0 : w 0 = J) (w1 : w 1 = 0) (w2 : w 2 = 0)
    (hy : IsA (m := 64) (n := 128) (k := 128) y (fun j c s => D j c s + if 128 * J + 128 ≤ 128 * j + s then G (128 * j + s) c 0 else 0))
    (hW : IsM (n := 128) (k := 128) W g) (hg : ∀ c < 128, ∀ s < 128, g c s = G (128 * J + s) c 0) :
    IsA (m := 64) (n := 128) (k := 128) (put y w S1x128x128.size (slabNew (F := Ideal) (window y w S1x128x128.size hw) W))
      (fun j c s => D j c s + if 128 * J ≤ 128 * j + s then G (128 * j + s) c 0 else 0) := by
  refine IsA.put (m' := 1) (n' := 128) (k' := 128) w (fun j c s hout => ?_)
    (((IsA.drop (n := 128) (k := 128) (IsA.window (m' := 1) (n' := 128) (k' := 128) hy w hw) shapeCasts_S1x128x128_S128x128).add hW).lift shapeCasts_S128x128_S1x128x128) ?_
  · rw [hy j c s]
    refine congrArg (fun a : ℝ => (a : EReal)) ?_
    refine congrArg (D j c s + ·) ?_
    have hj : j.val ≠ J := fun hj => hout ⟨⟨by omega, by omega⟩, ⟨by omega, by have := c.isLt; omega⟩, ⟨by omega, by have := s.isLt; omega⟩⟩
    have := s.isLt
    by_cases hlt : J < j.val
    · rw [if_pos (by omega), if_pos (by omega)]
    · rw [if_neg (by omega), if_neg (by omega)]
  · intro a ha c hc s hs
    have ha0 : a = 0 := by omega
    subst ha0
    show _ = (D (w 0 + 0) (w 1 + c) (w 2 + s) + if 128 * J + 128 ≤ 128 * (w 0 + 0) + (w 2 + s) then _ else 0) + g c s
    rw [w0, w1, w2, Nat.add_zero, Nat.zero_add, Nat.zero_add, if_pos (by omega), if_neg (by omega), add_zero, hg c hc s hs]

section
variable {n row : ℕ} (ev : Ev n row) (hnr : n + row = 1024) (hn : n ≠ 1)
  {mask : Option (IVec (M n 128) 1)} {up inc : FVec Ideal S128x128 .bf16} {k v : S8192x128.Idx → EReal} {X : Ro Ideal} {y : St Ideal} {x : Tl}
  {D V : ℕ → ℕ → ℕ → ℝ} {J : ℕ}
  (hm : Keeps mask (fun r c => 128 * J + c < x.T + (row + r)))
  (hup : IsM (n := 128) (k := 128) up (fun u s => if s + 1 ≤ u then 1 else 0))
  (hinc : IsM (n := 128) (k := 128) inc (fun u s => if s + 0 ≤ u then 1 else 0))
  (hk : IsM (n := 8192) (k := 128) k x.k) (hv : IsM (n := 8192) (k := 128) v x.v)
  (hX : IsRo X x) (hrow : ∀ r < row, x.T + r ≤ 128 * J)
include hnr hn hm hup hinc hk hv hX hrow

theorem st_is (hy : IsSt y x D V (128 * J + 128)) {o : Fin 2 → ℕ} (ho : ∀ a, o a + S128x128.size a ≤ S8192x128.size a) (o0 : o 0 = 128 * J) (o1 : o 1 = 0)
    {w : Fin 3 → ℕ} (hw : ∀ a, w a + S1x128x128.size a ≤ S64x128x128.size a) (w0 : w 0 = J) (w1 : w 1 = 0) (w2 : w 2 = 0) :
    IsSt (st ev mask up inc (blk k o ho) (blk v o ho) X y w hw) x D V (128 * J) := by
  have hkj : IsM (n := 128) (k := 128) (blk (F := Ideal) k o ho) (fun s c => x.k (128 * J + s) c) := by
    have e : blk (F := Ideal) k o ho = window k o S128x128.size ho := shapeCast_self (s := S128x128) _ _
    rw [e]
    refine (IsM.window (n' := 128) (k' := 128) hk o ho).congr fun s _ c _ => ?_
    rw [o0, o1, Nat.zero_add]
  have hvj : IsM (n := 128) (k := 128) (blk (F := Ideal) v o ho) (fun s c => x.v (128 * J + s) c) := by
    have e : blk (F := Ideal) v o ho = window v o S128x128.size ho := shapeCast_self (s := S128x128) _ _
    rw [e]
    refine (IsM.window (n' := 128) (k' := 128) hv o ho).congr fun s _ c _ => ?_
    rw [o0, o1, Nat.zero_add]
  have h0 := hs_is ev hnr hn 0 rfl hm hup hinc hkj hvj hX hy.hs hrow
  have e1 : Function.update (fun _ : ℕ => 128 * J + 128) ((0 : Fin 2) : ℕ) (128 * J) ((1 : Fin 2) : ℕ) = 128 * J + 128 := rfl
  have h1 := hs_is ev hnr hn 1 e1 hm hup hinc hkj hvj hX h0 hrow
  constructor
  · refine IsHs.congr (y := (two ev mask up inc _ _ X y.hs).1) h1 fun a ha => ?_
    interval_cases a
    · rfl
    · rfl
  · exact slab_is (G := fun s c _ => x.dk 0 s c + x.dk 1 s c) hw w0 w1 w2 hy.dk
      (dk_is ev hnr hn 1 e1 hm hup hinc hkj hvj hX h0 hrow (dk_is ev hnr hn 0 rfl hm hup hinc hkj hvj hX hy.hs hrow IsM.zero))
      fun c _ s _ => by rw [zero_add]; rfl
  · exact slab_is (G := fun s c _ => x.dv 0 s c + x.dv 1 s c) hw w0 w1 w2 hy.dv
      (dv_is ev hnr hn 1 e1 hm hup hinc hkj hvj hX h0 hrow (dv_is ev hnr hn 0 rfl hm hup hinc hkj hvj hX hy.hs hrow IsM.zero))
      fun c _ s _ => by rw [zero_add]; rfl

end

/-- No mask keeps all; a diagonal's mask keeps the earlier keys. -/
theorem keeps_none {n : ℕ} {p : ℕ → ℕ → Prop} [∀ r c, Decidable (p r c)] (hp : ∀ r < n, ∀ c < 128, p r c) : Keeps (n := n) none p :=
  fun X f hX r c => by
    show keep none X (ix2 r c) = (((if p r c then f r c else 0 : ℝ)) : EReal)
    rw [if_pos (hp r r.isLt c c.isLt)]; exact hX r c (hp r r.isLt c c.isLt)

theorem slt_ofNat {a b : ℕ} (ha : a < 2 ^ 31) (hb : b < 2 ^ 31) : BitVec.slt (BitVec.ofNat 32 a) (BitVec.ofNat 32 b) = decide (a < b) := by
  have e : ∀ n : ℕ, n < 2 ^ 31 → (BitVec.ofNat 32 n).toInt = (n : ℤ) := fun n hn => by
    rw [BitVec.toInt_eq_toNat_cond, BitVec.toNat_ofNat, Nat.mod_eq_of_lt (by omega), if_pos (by omega)]
  rw [BitVec.slt, e a ha, e b hb]
  exact decide_eq_decide.mpr Nat.cast_lt

theorem keeps_diag {n row : ℕ} (ev : Ev n row) (hn : n ≤ 1024) {p : ℕ → ℕ → Prop} [∀ r c, Decidable (p r c)] (hp : ∀ r < n, ∀ c < 128, (p r c ↔ c < r)) :
    Keeps (some (diag ev)) p := fun X f hX r c => by
  have hd : diag ev (ix2 r c) = if c.val < r.val then 1#1 else 0#1 := by
    show IntOp.cmpi .slt (iota .tc (M n 128) 32 [1] ev.i1 (ix2 r c)) (iota .tc (M n 128) 32 [0] ev.i0 (ix2 r c)) = _
    rw [iota_single_apply, iota_single_apply]
    show BitVec.ofBool (BitVec.slt (BitVec.ofNat 32 c.val) (BitVec.ofNat 32 r.val)) = _
    rw [slt_ofNat (by have := c.isLt; omega) (by have := r.isLt; omega)]
    by_cases h : c.val < r.val
    · rw [if_pos h, decide_eq_true h]; rfl
    · rw [if_neg h, decide_eq_false h]; rfl
  show (if diag ev (ix2 r c) = 1#1 then X (ix2 r c) else Ideal.ofBits .f32 0x00000000#32) = (((if p r c then f r c else 0 : ℝ)) : EReal)
  rw [hd]
  by_cases h : c.val < r.val
  · have := (hp r r.isLt c c.isLt).mpr h
    rw [if_pos h, if_pos rfl, if_pos this, hX r c this]
  · have := fun hh => h ((hp r r.isLt c c.isLt).mp hh)
    rw [if_neg h, if_neg (by decide), if_neg this, ofBits_zero]

theorem off1_eq : ∀ (i : grid0.Coords) (r : Fin 8), k0_off1 i (BitVec.ofNat 32 r.val) = ![128 * (8 * (i 1).val + (7 - r.val)), 0] := by decide +kernel
theorem off2_eq : ∀ (i : grid0.Coords) (r : Fin 8), k0_off2 i (BitVec.ofNat 32 r.val) = ![8 * (i 1).val + (7 - r.val), 0, 0] := by decide +kernel
theorem trips1 : ∀ i : grid0.Coords, (k0_t1_loop i).trips = 4 * (i 1).val := by decide +kernel
theorem trips2 : ∀ i : grid0.Coords, (k0_t2_loop i).trips = 0 := by decide +kernel
theorem off3_eq : ∀ (i : grid0.Coords) (j : Fin (k0_t1_loop i).trips) (r : Fin 2),
    k0_off3 i j (BitVec.ofNat 32 r.val) = ![128 * (8 * (i 1).val - 1 - 2 * j.val - r.val), 0] := by decide +kernel
theorem off4_eq : ∀ (i : grid0.Coords) (j : Fin (k0_t1_loop i).trips) (r : Fin 2),
    k0_off4 i j (BitVec.ofNat 32 r.val) = ![8 * (i 1).val - 1 - 2 * j.val - r.val, 0, 0] := by decide +kernel

section
variable (i : grid0.Coords) {up inc : FVec Ideal S128x128 .bf16} {k v : S8192x128.Idx → EReal} {X : Ro Ideal} {x : Tl}
  {D V : ℕ → ℕ → ℕ → ℝ} (hT : x.T = 1024 * (i 1).val)
  (hup : IsM (n := 128) (k := 128) up (fun u s => if s + 1 ≤ u then 1 else 0))
  (hinc : IsM (n := 128) (k := 128) inc (fun u s => if s + 0 ≤ u then 1 else 0))
  (hk : IsM (n := 8192) (k := 128) k x.k) (hv : IsM (n := 8192) (k := 128) v x.v)
  (hX : IsRo X x)
include hT hup hinc hk hv hX

theorem stD_is {n row : ℕ} (ev : Ev n row) (r : Fin 8) (hnr : n + row = 1024) (hn : n ≠ 1) (hr : row = 128 * (7 - r.val)) {y : St Ideal} {A A' : ℕ}
    (hA : A = x.T + row + 128) (hA' : A' = x.T + row) (hy : IsSt y x D V A) : IsSt (stD i up inc k v X ev r y) x D V A' := by
  have e : A' = 128 * (8 * (i 1).val + (7 - r.val)) := by omega
  have eA : A = 128 * (8 * (i 1).val + (7 - r.val)) + 128 := by omega
  rw [e]
  rw [eA] at hy
  refine st_is ev hnr hn (keeps_diag ev (by omega) fun a _ c _ => by omega) hup hinc hk hv hX (fun a ha => by omega) hy _ ?_ ?_ _ ?_ ?_ ?_
  · rw [off1_eq]; rfl
  · rw [off1_eq]; rfl
  · rw [off2_eq]; rfl
  · rw [off2_eq]; rfl
  · rw [off2_eq]; rfl

theorem stDs_is {y : St Ideal} (hy : IsSt y x D V (x.T + 1024)) : IsSt (stDs i up inc k v X y) x D V x.T := by
  unfold stDs
  refine stD_is i hT hup hinc hk hv hX ev1024 7 rfl (by decide) rfl (A := x.T + 128) rfl rfl ?_
  refine stD_is i hT hup hinc hk hv hX ev896 6 rfl (by decide) rfl (A := x.T + 256) rfl rfl ?_
  refine stD_is i hT hup hinc hk hv hX ev768 5 rfl (by decide) rfl (A := x.T + 384) rfl rfl ?_
  refine stD_is i hT hup hinc hk hv hX ev640 4 rfl (by decide) rfl (A := x.T + 512) rfl rfl ?_
  refine stD_is i hT hup hinc hk hv hX ev512 3 rfl (by decide) rfl (A := x.T + 640) rfl rfl ?_
  refine stD_is i hT hup hinc hk hv hX ev384 2 rfl (by decide) rfl (A := x.T + 768) rfl rfl ?_
  refine stD_is i hT hup hinc hk hv hX ev256 1 rfl (by decide) rfl (A := x.T + 896) rfl rfl ?_
  exact stD_is i hT hup hinc hk hv hX ev128 0 rfl (by decide) rfl (A := x.T + 1024) rfl rfl hy

theorem stL1_is (j : Fin (k0_t1_loop i).trips) (r : Fin 2) {y : St Ideal} {A A' : ℕ}
    (hA : A = 128 * (8 * (i 1).val - 1 - 2 * j.val - r.val) + 128) (hA' : A' = 128 * (8 * (i 1).val - 1 - 2 * j.val - r.val))
    (hy : IsSt y x D V A) : IsSt (stL1 i up inc k v X j r y) x D V A' := by
  have hj := j.isLt
  have hr := r.isLt
  have ht := trips1 i
  rw [hA']
  rw [hA] at hy
  refine st_is ev1024 rfl (by decide) (keeps_none fun a _ c _ => by omega) hup hinc hk hv hX (fun a ha => by omega) hy _ ?_ ?_ _ ?_ ?_ ?_
  · rw [off3_eq]; rfl
  · rw [off3_eq]; rfl
  · rw [off4_eq]; rfl
  · rw [off4_eq]; rfl
  · rw [off4_eq]; rfl

theorem stAll_is {y : St Ideal} (hy : IsSt y x D V (x.T + 1024)) : IsSt (stAll i up inc k v X y) x D V 0 := by
  have hl : ∀ n ≤ (k0_t1_loop i).trips, IsSt (iter (k0_t1_loop i).trips (fun j y => stL1 i up inc k v X j 1 (stL1 i up inc k v X j 0 y)) (stDs i up inc k v X y) n) x D V (x.T - 256 * n) := by
    intro n
    induction n with
    | zero => intro _; exact stDs_is i hT hup hinc hk hv hX hy
    | succ n ih =>
      intro hn
      have ht := trips1 i
      have e := iter_succ (k0_t1_loop i).trips (fun j y => stL1 i up inc k v X j 1 (stL1 i up inc k v X j 0 y)) (stDs i up inc k v X y) ⟨n, hn⟩
      rw [e]
      have h0 := stL1_is i hT hup hinc hk hv hX ⟨n, hn⟩ 0 (A' := x.T - 256 * n - 128) (by show x.T - 256 * n = 128 * (8 * (i 1).val - 1 - 2 * n - 0) + 128; omega)
        (by show _ = 128 * (8 * (i 1).val - 1 - 2 * n - 0); omega) (ih (by omega))
      exact stL1_is i hT hup hinc hk hv hX ⟨n, hn⟩ 1 (by show _ = 128 * (8 * (i 1).val - 1 - 2 * n - 1) + 128; omega)
        (by show _ = 128 * (8 * (i 1).val - 1 - 2 * n - 1); omega) h0
  have h := hl _ le_rfl
  have e0 : x.T - 256 * (k0_t1_loop i).trips = 0 := by rw [trips1 i, hT]; omega
  rw [e0] at h
  unfold stAll
  have : ∀ (m : ℕ) (hm : m = 0) (f : Fin m → St Ideal → St Ideal) (y : St Ideal), iter m f y m = y := fun m hm f y => by subst hm; rfl
  rw [this _ (trips2 i)]
  exact h

end

end Cert.Proof.Sb

end
-- ==== Proof.Sb.Tile.lean ====
module

public import proofs.«01_k».proof.Proof.Sb.Steps

@[expose] public section

noncomputable section

namespace Cert.Proof.Sb

set_option maxHeartbeats 1600000

open Idealize.ShloMosaic Idealize.ShloMosaic.ValueIdx Idealize.SL.Sem Cert.SbBwdIdeal Cert.SbBwdIdeal.Gen VecWindow
open scoped BigOperators

/-- The tile of the rows from `T` on: its queries `Q`, output gradients `D` and outputs `O`, with all keys and values of the pair. -/
def tile (Q D O K V : ℕ → ℕ → ℝ) (T : ℕ) : Tl where
  q := fun h r c => (if c / 64 = h then Q r c else 0) * (1 / 8)
  d := fun h r c => if c / 64 = h then D r c else 0
  et := fun h r => ∑ c ∈ Finset.range 128, if c / 64 = h then D r c * O r c else 0
  k := K
  v := V
  T := T

theorem ofBits_eighth : Ideal.ofBits .f32 0x3E000000#32 = ((1 / 8 : ℝ) : EReal) := by
  simp [Ideal.ofBits, Ideal.ieee]
  rw [← EReal.coe_mul]
  norm_num

theorem mask0 : ∀ c : Fin 128, k0_pay173 k0_pay170 k0_pay171 k0_pay172 0#32 (ix2 (0 : Fin 1) c) = if c.val / 64 = 0 then 1#1 else 0#1 := by decide +kernel
theorem mask1 : ∀ c : Fin 128, k0_pay182 v3 (ix2 (0 : Fin 1) c) = if c.val / 64 = 1 then 1#1 else 0#1 := by decide +kernel
theorem maskL : ∀ c : Fin 128, cmpi .slt v3 (broadcast S1x128 64#32) (ix2 (0 : Fin 1) c) = if c.val < 64 then 1#1 else 0#1 := by decide +kernel

/-- A matrix with the lanes outside a mask of lanes zeroed. -/
theorem lanes_is {X : FVec Ideal S1024x128 .f32} {f : ℕ → ℕ → ℝ} (hX : IsM (n := 1024) (k := 128) X f) (m : IVec S1x128 1) (a : ℕ)
    (hm : ∀ c : Fin 128, m (ix2 (0 : Fin 1) c) = if c.val / 64 = a then 1#1 else 0#1) :
    IsM (n := 1024) (k := 128) (select (broadcastTo S1024x128 (shapeCast S1x128 m shapeCasts_S1x128_S1x128) broadcasts_S1x128_S1024x128) X
      (broadcast S1024x128 (Scalar.ofBits (F := Ideal) .f32 0x00000000#32))) (fun r c => if c / 64 = a then f r c else 0) := fun r c => by
  rw [select_apply, shapeCast_self (s := S1x128)]
  rw [show broadcastTo S1024x128 m broadcasts_S1x128_S1024x128 (ix2 r c) = m (ix2 (0 : Fin 1) c) from broadcastTo_1b_ab_apply (a := 1024) (b := 128) m _ r c, hm c]
  show (if (if _ then _ else _) = 1#1 then X (ix2 r c) else Ideal.ofBits .f32 0x00000000#32) = (((if c.val / 64 = a then f r c else 0 : ℝ)) : EReal)
  by_cases h : c.val / 64 = a
  · rw [if_pos h, if_pos rfl, if_pos h, hX r c]
  · rw [if_neg h, if_neg (by decide), if_neg h, ofBits_zero]

theorem stack_is {n k : ℕ} {z : EReal} (hz : z = ((0 : ℝ) : EReal)) {a b : (L n k).Idx → EReal} {f : ℕ → ℕ → ℕ → ℝ} (ha : IsA (m := 1) (n := n) (k := k) a (fun _ => f 0)) (hb : IsA (m := 1) (n := n) (k := k) b (fun _ => f 1)) :
    IsA (m := 2) (n := n) (k := k) (stack z a b) f := by
  unfold stack
  refine IsA.put (m' := 1) (n' := n) (k' := k) ![1, 0, 0] (fun h r c hout => ?_) hb fun h hh r _ c _ => ?_
  · have h0 : h.val = 0 := by
      by_contra hne
      exact hout ⟨⟨by show 1 ≤ h.val; omega, by show h.val < 1 + 1; have := h.isLt; omega⟩, ⟨Nat.zero_le _, by show r.val < 0 + n; have := r.isLt; omega⟩, ⟨Nat.zero_le _, by show c.val < 0 + k; have := c.isLt; omega⟩⟩
    have hi : IsA (m := 2) (n := n) (k := k) (put (fun _ => z) ![0, 0, 0] (L n k).size a) (fun h r c => if h = 0 then f 0 r c else 0) := by
      refine IsA.put (m' := 1) (n' := n) (k' := k) ![0, 0, 0] (fun h r c hout => ?_) ha fun h hh r _ c _ => ?_
      · have h1 : h.val ≠ 0 := fun h0 =>
          hout ⟨⟨Nat.zero_le _, by show h.val < 0 + 1; omega⟩, ⟨Nat.zero_le _, by show r.val < 0 + n; have := r.isLt; omega⟩, ⟨Nat.zero_le _, by show c.val < 0 + k; have := c.isLt; omega⟩⟩
        rw [if_neg h1, hz]
      · show (if 0 + h = 0 then f 0 (0 + r) (0 + c) else 0) = _
        rw [if_pos (by omega), Nat.zero_add, Nat.zero_add]
    refine (hi h r c).trans ?_
    show (((if h.val = 0 then f 0 r c else 0 : ℝ)) : EReal) = _
    rw [if_pos h0, h0]
  · show f (1 + h) (0 + r) (0 + c) = _
    rw [show h = 0 by omega, Nat.zero_add, Nat.zero_add]

/-- A matrix lying on its side. -/
theorem IsM.tr {n k : ℕ} {X : (M n k).Idx → EReal} {f : ℕ → ℕ → ℝ} (hX : IsM X f) (h : (M n k).Transposes [1, 0] (M k n)) :
    IsM (transpose (M k n) [1, 0] X h) (fun c r => f r c) := fun c r => by
  rw [transpose_ix2_apply]; exact hX r c

theorem ro_is {q d : FVec Ideal S1024x128 .bf16} {o : FVec Ideal S1024x128 .f32} {Q D O : ℕ → ℕ → ℝ} (hq : IsM (n := 1024) (k := 128) q Q)
    (hd : IsM (n := 1024) (k := 128) d D) (ho : IsM (n := 1024) (k := 128) o O) (K V : ℕ → ℕ → ℝ) (T : ℕ) :
    IsRo (ro (F := Ideal) q d o) (tile Q D O K V T) := by
  have eq : k0_pay167 (F := Ideal) q = q := by
    show extf .f32 (shapeCast S1024x128 q shapeCasts_S1024x128_S1024x128) bitsLt_bf16_f32 = q
    rw [shapeCast_self (s := S1024x128)]; rfl
  have ed : k0_pay168 (F := Ideal) d = d := by
    show extf .f32 (shapeCast S1024x128 d shapeCasts_S1024x128_S1024x128) bitsLt_bf16_f32 = d
    rw [shapeCast_self (s := S1024x128)]; rfl
  have edo : k0_pay169 (F := Ideal) d o = mulf (F := Ideal) (φ := .f32) (s := S1024x128) d o := by
    show mulf (k0_pay168 (F := Ideal) d) (shapeCast S1024x128 o shapeCasts_S1024x128_S1024x128) = _
    rw [ed, shapeCast_self (s := S1024x128)]
  have hdo : IsM (n := 1024) (k := 128) (mulf (F := Ideal) (φ := .f32) (s := S1024x128) d o) (fun r c => D r c * O r c) := IsM.mul (φ := .f32) hd ho
  have e8 : IsM (n := 1024) (k := 128) (broadcast S1024x128 (Scalar.ofBits (F := Ideal) .f32 0x3E000000#32)) (fun _ _ => 1 / 8) := fun r c => ofBits_eighth
  have z0 : (z16 : Elt Ideal .bf16) = ((0 : ℝ) : EReal) := by
    show Ideal.ofBits .bf16 0x0000#16 = _
    simp [Ideal.ofBits, Ideal.ieee]
  have hq0 : IsM (n := 1024) (k := 128) (k0_pay174 (F := Ideal) q k0_pay170 k0_pay171 k0_pay172 0#32) ((tile Q D O K V T).q 0) := IsM.mul (φ := .f32) (lanes_is (X := q) hq _ 0 mask0) e8
  have hq1 : IsM (n := 1024) (k := 128) (k0_pay183 (F := Ideal) v3 q) ((tile Q D O K V T).q 1) := IsM.mul (φ := .f32) (lanes_is (X := q) hq _ 1 mask1) e8
  have hd0 : IsM (n := 1024) (k := 128) (k0_pay175 (F := Ideal) d k0_pay170 k0_pay171 k0_pay172 0#32) ((tile Q D O K V T).d 0) := lanes_is (X := d) hd _ 0 mask0
  have hd1 : IsM (n := 1024) (k := 128) (k0_pay184 (F := Ideal) v3 d) ((tile Q D O K V T).d 1) := lanes_is (X := d) hd _ 1 mask1
  unfold ro
  rw [eq, ed, edo]
  exact
    { q := stack_is z0 (IsM.lift hq0 _) (IsM.lift hq1 _)
      d := stack_is z0 (IsM.lift hd0 _) (IsM.lift hd1 _)
      qt := stack_is (f := fun h c r => (tile Q D O K V T).q h r c) z0 (IsM.lift (IsM.tr hq0 _) _) (IsM.lift (IsM.tr hq1 _) _)
      dt := stack_is (f := fun h c r => (tile Q D O K V T).d h r c) z0 (IsM.lift (IsM.tr hd0 _) _) (IsM.lift (IsM.tr hd1 _) _)
      et := stack_is (f := fun h r _ => (tile Q D O K V T).et h r) ofBits_zero
        (IsM.lift (IsM.sumc (lanes_is (X := mulf (F := Ideal) (φ := .f32) (s := S1024x128) d o) hdo _ 0 mask0) _ _ _ _) _)
        (IsM.lift (IsM.sumc (lanes_is (X := mulf (F := Ideal) (φ := .f32) (s := S1024x128) d o) hdo _ 1 mask1) _ _ _ _) _) }

theorem bit_is (b : BitVec 1) (P : Prop) [Decidable P] (h : b = if P then 1#1 else 0#1) :
    (Scalar.sitofp (F := Ideal) .f32 (b.setWidth 32) : EReal) = ((if P then 1 else 0 : ℝ) : EReal) := by
  show (((b.setWidth 32).toInt : ℝ) : EReal) = _
  rw [h]
  by_cases hp : P
  · rw [if_pos hp, if_pos hp, show ((1#1).setWidth 32).toInt = 1 by decide]; simp
  · rw [if_neg hp, if_neg hp, show ((0#1).setWidth 32).toInt = 0 by decide]; simp

/-- The sums' triangles. -/
theorem upper_is : IsM (n := 128) (k := 128) (k0_pay165 (F := Ideal)) (fun u s => if s + 1 ≤ u then 1 else 0) := fun r c => by
  refine bit_is _ (c.val + 1 ≤ r.val) ?_
  show IntOp.cmpi .sgt (iota .tc S128x128 32 [0] iota_S128x128_d0_w32 (ix2 r c)) (iota .tc S128x128 32 [1] iota_S128x128_d1_w32 (ix2 r c)) = _
  rw [iota_single_apply, iota_single_apply]
  show BitVec.ofBool (BitVec.slt (BitVec.ofNat 32 c.val) (BitVec.ofNat 32 r.val)) = _
  rw [slt_ofNat (by have := c.isLt; omega) (by have := r.isLt; omega)]
  by_cases h : c.val < r.val
  · rw [if_pos (by omega), decide_eq_true h]; rfl
  · rw [if_neg (by omega), decide_eq_false h]; rfl

theorem incl_is : IsM (n := 128) (k := 128) (k0_pay166 (F := Ideal)) (fun u s => if s + 0 ≤ u then 1 else 0) := fun r c => by
  refine bit_is _ (c.val + 0 ≤ r.val) ?_
  show IntOp.cmpi .sge (iota .tc S128x128 32 [0] iota_S128x128_d0_w32 (ix2 r c)) (iota .tc S128x128 32 [1] iota_S128x128_d1_w32 (ix2 r c)) = _
  rw [iota_single_apply, iota_single_apply]
  show BitVec.ofBool (BitVec.sle (BitVec.ofNat 32 c.val) (BitVec.ofNat 32 r.val)) = _
  have hs : BitVec.sle (BitVec.ofNat 32 c.val) (BitVec.ofNat 32 r.val) = decide (c.val ≤ r.val) := by
    have h1 := c.isLt; have h2 := r.isLt
    have e1 : (BitVec.ofNat 32 c.val).toInt = c.val := by
      rw [BitVec.toInt_eq_toNat_cond, BitVec.toNat_ofNat, Nat.mod_eq_of_lt (by omega), if_pos (by omega)]
    have e2 : (BitVec.ofNat 32 r.val).toInt = r.val := by
      rw [BitVec.toInt_eq_toNat_cond, BitVec.toNat_ofNat, Nat.mod_eq_of_lt (by omega), if_pos (by omega)]
    unfold BitVec.sle
    rw [e1, e2]
    simp
  rw [hs]
  by_cases h : c.val ≤ r.val
  · rw [if_pos (by omega), decide_eq_true h]; rfl
  · rw [if_neg (by omega), decide_eq_false h]; rfl

/-- The state a point starts from: the sums of the tiles before, with nothing of its own. -/
theorem y0_is (i : grid0.Coords) (x : Tl) {dk dv : FVec Ideal S64x128x128 .f32} {D V : ℕ → ℕ → ℕ → ℝ}
    (hk : ¬ cond1 i → IsA (m := 64) (n := 128) (k := 128) dk D) (hv : ¬ cond1 i → IsA (m := 64) (n := 128) (k := 128) dv V) :
    IsSt (y0 (F := Ideal) i dk dv) x (if cond1 i then 0 else D) (if cond1 i then 0 else V) (x.T + 1024) where
  hs :=
    { dq := fun h r c => by
        refine Eq.trans ?_ (congrArg _ (show (0 : ℝ) = x.dq h r (x.T + 1024) c from ?_))
        · exact (congrFun (shapeCast_self (s := S2x1024x128) (broadcast S2x1024x128 (Scalar.ofBits (F := Ideal) .f32 0x00000000#32)) shapeCasts_S2x1024x128_S2x1024x128) (ix3 h r c)).trans ofBits_zero
        · unfold Tl.dq
          rw [Finset.Ico_eq_empty (by have := r.isLt; omega), Finset.sum_empty]
      rl := fun h r c => by
        refine Eq.trans ?_ (congrArg _ (show (0 : ℝ) = x.rl h r (x.T + 1024) from ?_))
        · exact (congrFun (shapeCast_self (s := S2x1024x1) (broadcast S2x1024x1 (Scalar.ofBits (F := Ideal) .f32 0x00000000#32)) shapeCasts_S2x1024x1_S2x1024x1) (ix3 h r c)).trans ofBits_zero
        · unfold Tl.rl
          rw [Finset.Ico_eq_empty (by have := r.isLt; omega), Finset.sum_empty]
      re := fun h r c => by
        refine Eq.trans ?_ (congrArg _ (show (0 : ℝ) = x.re h r (x.T + 1024) from ?_))
        · exact (congrFun (shapeCast_self (s := S2x1024x1) (broadcast S2x1024x1 (Scalar.ofBits (F := Ideal) .f32 0x00000000#32)) shapeCasts_S2x1024x1_S2x1024x1) (ix3 h r c)).trans ofBits_zero
        · unfold Tl.re
          rw [Finset.Ico_eq_empty (by have := r.isLt; omega), Finset.sum_empty] }
  dk := fun j c s => by
    have e : (if x.T + 1024 ≤ 128 * j.val + s.val then x.dk 0 (128 * j.val + s.val) c.val + x.dk 1 (128 * j.val + s.val) c.val else 0) = 0 := by
      split
      · unfold Tl.dk
        rw [Finset.sum_eq_zero (fun r hr => if_neg (by have := Finset.mem_range.mp hr; omega)), Finset.sum_eq_zero (fun r hr => if_neg (by have := Finset.mem_range.mp hr; omega)), add_zero]
      · rfl
    show _ = (((if cond1 i then 0 else D) j.val c.val s.val + (if x.T + 1024 ≤ 128 * j.val + s.val then x.dk 0 (128 * j.val + s.val) c.val + x.dk 1 (128 * j.val + s.val) c.val else 0) : ℝ) : EReal)
    rw [e, add_zero]
    show (if cond1 i then k0_pay163 (F := Ideal) else dk) (ix3 j c s) = _
    by_cases h : cond1 i
    · rw [if_pos h, if_pos h]
      exact (congrFun (shapeCast_self (s := S64x128x128) (broadcast S64x128x128 (Scalar.ofBits (F := Ideal) .f32 0x00000000#32)) shapeCasts_S64x128x128_S64x128x128) (ix3 j c s)).trans ofBits_zero
    · rw [if_neg h, if_neg h]
      exact hk h j c s
  dv := fun j c s => by
    have e : (if x.T + 1024 ≤ 128 * j.val + s.val then x.dv 0 (128 * j.val + s.val) c.val + x.dv 1 (128 * j.val + s.val) c.val else 0) = 0 := by
      split
      · unfold Tl.dv
        rw [Finset.sum_eq_zero (fun r hr => if_neg (by have := Finset.mem_range.mp hr; omega)), Finset.sum_eq_zero (fun r hr => if_neg (by have := Finset.mem_range.mp hr; omega)), add_zero]
      · rfl
    show _ = (((if cond1 i then 0 else V) j.val c.val s.val + (if x.T + 1024 ≤ 128 * j.val + s.val then x.dv 0 (128 * j.val + s.val) c.val + x.dv 1 (128 * j.val + s.val) c.val else 0) : ℝ) : EReal)
    rw [e, add_zero]
    show (if cond1 i then k0_pay164 (F := Ideal) else dv) (ix3 j c s) = _
    by_cases h : cond1 i
    · rw [if_pos h, if_pos h]
      exact (congrFun (shapeCast_self (s := S64x128x128) (broadcast S64x128x128 (Scalar.ofBits (F := Ideal) .f32 0x00000000#32)) shapeCasts_S64x128x128_S64x128x128) (ix3 j c s)).trans ofBits_zero
    · rw [if_neg h, if_neg h]
      exact hv h j c s

/-- A point's state. -/
theorem y1_is (i : grid0.Coords) {q d : FVec Ideal S1024x128 .bf16} {k v : FVec Ideal S8192x128 .bf16} {o : FVec Ideal S1024x128 .f32} {Q Do O K W : ℕ → ℕ → ℝ} (hq : IsM (n := 1024) (k := 128) q Q)
    (hd : IsM (n := 1024) (k := 128) d Do) (ho : IsM (n := 1024) (k := 128) o O) (hk : IsM (n := 8192) (k := 128) k K) (hv : IsM (n := 8192) (k := 128) v W)
    {dk dv : FVec Ideal S64x128x128 .f32} {D V : ℕ → ℕ → ℕ → ℝ}
    (hdk : ¬ cond1 i → IsA (m := 64) (n := 128) (k := 128) dk D) (hdv : ¬ cond1 i → IsA (m := 64) (n := 128) (k := 128) dv V) :
    IsSt (y1 (F := Ideal) i q k v d o dk dv) (tile Q Do O K W (1024 * (i 1).val)) (if cond1 i then 0 else D) (if cond1 i then 0 else V) 0 :=
  stAll_is (x := tile Q Do O K W (1024 * (i 1).val)) i rfl upper_is incl_is hk hv (ro_is hq hd ho K W _) (y0_is i (tile Q Do O K W (1024 * (i 1).val)) hdk hdv)

/-- The queries' gradients of a point. -/
theorem dqOut_is {y : St Ideal} {x : Tl} {D V : ℕ → ℕ → ℕ → ℝ} (hy : IsSt y x D V 0) :
    IsM (n := 1024) (k := 128) (k0_pay540 (dqOut v3 y)) (fun r c => (if c < 64 then x.dq 0 r 0 c else x.dq 1 r 0 c) * (1 / 8)) := by
  have w0 := IsA.drop (IsA.window (m' := 1) (n' := 1024) (k' := 128) hy.hs.dq ![0, 0, 0] inb_S2x1024x128_S1x1024x128_0_0_0) shapeCasts_S1x1024x128_S1024x128
  have w1 := IsA.drop (IsA.window (m' := 1) (n' := 1024) (k' := 128) hy.hs.dq ![1, 0, 0] inb_S2x1024x128_S1x1024x128_1_0_0) shapeCasts_S1x1024x128_S1024x128
  have e8 : IsM (n := 1024) (k := 128) (broadcast S1024x128 (Scalar.ofBits (F := Ideal) .f32 0x3E000000#32)) (fun _ _ => 1 / 8) := fun r c => ofBits_eighth
  refine IsM.mul (φ := .f32) (fun r c => ?_) e8
  rw [select_apply, shapeCast_self (s := S1x128)]
  rw [show broadcastTo S1024x128 (cmpi .slt v3 (broadcast S1x128 64#32)) broadcasts_S1x128_S1024x128 (ix2 r c) = (cmpi .slt v3 (broadcast S1x128 64#32)) (ix2 (0 : Fin 1) c) from broadcastTo_1b_ab_apply (a := 1024) (b := 128) _ _ r c, maskL c]
  by_cases h : c.val < 64
  · rw [if_pos h, if_pos h]
    refine (w0 r c).trans ?_
    show ((x.dq (0 + 0) (0 + r.val) 0 (0 + c.val) : ℝ) : EReal) = _
    simp only [Nat.zero_add]
  · rw [if_neg h, if_neg h]
    refine (w1 r c).trans ?_
    show ((x.dq (1 + 0) (0 + r.val) 0 (0 + c.val) : ℝ) : EReal) = _
    simp only [Nat.zero_add, Nat.add_zero]

set_option maxHeartbeats 1000000 in
set_option maxRecDepth 100000 in
theorem off7_eq : ∀ j : Fin k0_t3_loop.trips, k0_off7 j = ![j.val, 0, 0] := by decide +kernel

/-- The keys' and values' gradients as they are stored. -/
theorem outK_is {s : FVec Ideal S64x128x128 .f32} {D : ℕ → ℕ → ℕ → ℝ} (hs : IsA (m := 64) (n := 128) (k := 128) s D) :
    IsM (n := 8192) (k := 128) (outK (F := Ideal) s) (fun r c => D (r / 128) c (r % 128)) := fun r c => by
  have hr := r.isLt
  have hj : r.val / 128 < k0_t3_loop.trips := by rw [trips3]; omega
  have e7 : k0_off7 ⟨r.val / 128, hj⟩ = ![r.val / 128, 0, 0] := off7_eq ⟨r.val / 128, hj⟩
  have w := IsM.tr (IsA.drop (IsA.window (m' := 1) (n' := 128) (k' := 128) hs (k0_off7 ⟨r.val / 128, hj⟩) (slab_inb ⟨r.val / 128, hj⟩)) shapeCasts_S1x128x128_S128x128) transposes_S128x128_p1_0_S128x128
    ⟨r.val % 128, Nat.mod_lt _ (by decide)⟩ c
  have er : rowIdx (ix2 r c) = ix2 (⟨r.val % 128, Nat.mod_lt _ (by decide)⟩ : Fin 128) c := funext fun a => by
    match a with
    | ⟨0, _⟩ => rfl
    | ⟨1, _⟩ => rfl
  unfold outK
  rw [er]
  refine Eq.trans (b := transpose S128x128 [1, 0] (shapeCast S128x128 (window s (k0_off7 ⟨r.val / 128, hj⟩) S1x128x128.size (slab_inb ⟨r.val / 128, hj⟩)) shapeCasts_S1x128x128_S128x128) transposes_S128x128_p1_0_S128x128 (ix2 (⟨r.val % 128, Nat.mod_lt _ (by decide)⟩ : Fin 128) c)) rfl ?_
  refine w.trans ?_
  show ((D (k0_off7 ⟨r.val / 128, hj⟩ 0 + 0) (k0_off7 ⟨r.val / 128, hj⟩ 1 + c.val) (k0_off7 ⟨r.val / 128, hj⟩ 2 + r.val % 128) : ℝ) : EReal) = _
  rw [e7]
  show ((D (r.val / 128 + 0) (0 + c.val) (0 + r.val % 128) : ℝ) : EReal) = _
  rw [Nat.add_zero, Nat.zero_add, Nat.zero_add]

end Cert.Proof.Sb

end
-- ==== Proof.Sb.Fold.lean ====
module

public import proofs.«01_k».proof.Proof.Sb.Real
public import Idealize.ShloMosaic.Lib.Pointwise

@[expose] public section

noncomputable section

namespace Cert.Proof.Sb

open Idealize.ShloMosaic
open scoped BigOperators

theorem foldl_add {α : Type*} (g : α → EReal) (l : List α) (v : EReal) : l.foldl (fun r n => r + g n) v = v + (l.map g).sum := by
  induction l generalizing v with
  | nil => simp
  | cons a l ih => rw [List.foldl_cons, ih, List.map_cons, List.sum_cons, add_assoc]

theorem map_finRange_sum (M : ℕ) (g : Fin M → EReal) : ((List.finRange M).map g).sum = ∑ i, g i := (Fin.sum_univ_def g).symm

theorem ix3_eq {m n k : ℕ} (a : Fin m) (b : Fin n) (c : Fin k) : ValueIdx.ix3 a b c = ix3 a b c := rfl
theorem ix2_eq {m n : ℕ} (a : Fin m) (b : Fin n) : ValueIdx.ix2 a b = ix2 a b := rfl

/-- The running sum of an array along its last axis, over windows as long as that axis that start `L` places before each entry. -/
theorem winSum {m n N : ℕ} (L H : ℕ) {X : FVec Ideal ⟨3, ![m, n, N]⟩ .f32} {f : ℕ → ℕ → ℕ → ℝ} (hX : IsA (m := m) (n := n) (k := N) X f)
    (init : FVec Ideal ⟨0, ![]⟩ .f32) (hinit : ∀ i, init i = 0)
    (h : (⟨3, ![m, n, N]⟩ : Shape).ReduceWindows (![1, 1, N] : Fin 3 → ℕ) ![1, 1, 1] ![0, 0, L] ![0, 0, H] ⟨3, ![m, n, N]⟩)
    (hu : 0 < (⟨0, ![]⟩ : Shape).numel) (a : Fin m) (b : Fin n) (j : Fin N) :
    Host.reduceWindowAdd ![1, 1, N] ![1, 1, 1] ![0, 0, L] ![0, 0, H] X init h hu (ix3 a b j)
      = ((∑ w ∈ Finset.range N, if L ≤ j.val + w ∧ j.val + w - L < N then f a b (j.val + w - L) else 0 : ℝ) : EReal) := by
  refine (foldl_add _ _ _).trans ?_
  rw [map_finRange_sum]
  refine (congrArg₂ (· + ·) (hinit _) (Finset.sum_congr rfl fun i _ =>
    (?_ : _ = (fun y : (⟨3, ![1, 1, N]⟩ : Shape).Idx => ((if L ≤ j.val + (y 2).val ∧ j.val + (y 2).val - L < N then f a b (j.val + (y 2).val - L) else 0 : ℝ) : EReal))
      ((⟨3, ![1, 1, N]⟩ : Shape).rowMajor.symm i)))).trans ?_
  · dsimp only
    have y0 : ((⟨3, ![1, 1, N]⟩ : Shape).rowMajor.symm i 0).val = 0 := by have : ((⟨3, ![1, 1, N]⟩ : Shape).rowMajor.symm i 0).val < 1 := ((⟨3, ![1, 1, N]⟩ : Shape).rowMajor.symm i 0).isLt; omega
    have y1 : ((⟨3, ![1, 1, N]⟩ : Shape).rowMajor.symm i 1).val = 0 := by have : ((⟨3, ![1, 1, N]⟩ : Shape).rowMajor.symm i 1).val < 1 := ((⟨3, ![1, 1, N]⟩ : Shape).rowMajor.symm i 1).isLt; omega
    by_cases hw : L ≤ j.val + ((⟨3, ![1, 1, N]⟩ : Shape).rowMajor.symm i 2).val ∧ j.val + ((⟨3, ![1, 1, N]⟩ : Shape).rowMajor.symm i 2).val - L < N
    · rw [dif_pos, if_pos hw, ← hX a b ⟨j.val + ((⟨3, ![1, 1, N]⟩ : Shape).rowMajor.symm i 2).val - L, hw.2⟩]
      · refine congrArg X (funext fun q => Fin.ext ?_)
        match q with
        | ⟨0, _⟩ => show a.val * 1 + ((⟨3, ![1, 1, N]⟩ : Shape).rowMajor.symm i 0).val - 0 = a.val; omega
        | ⟨1, _⟩ => show b.val * 1 + ((⟨3, ![1, 1, N]⟩ : Shape).rowMajor.symm i 1).val - 0 = b.val; omega
        | ⟨2, _⟩ => show j.val * 1 + ((⟨3, ![1, 1, N]⟩ : Shape).rowMajor.symm i 2).val - L = j.val + ((⟨3, ![1, 1, N]⟩ : Shape).rowMajor.symm i 2).val - L; rw [Nat.mul_one]
      · intro q
        match q with
        | ⟨0, _⟩ => show 0 ≤ a.val * 1 + ((⟨3, ![1, 1, N]⟩ : Shape).rowMajor.symm i 0).val ∧ a.val * 1 + ((⟨3, ![1, 1, N]⟩ : Shape).rowMajor.symm i 0).val - 0 < m; have := a.isLt; omega
        | ⟨1, _⟩ => show 0 ≤ b.val * 1 + ((⟨3, ![1, 1, N]⟩ : Shape).rowMajor.symm i 1).val ∧ b.val * 1 + ((⟨3, ![1, 1, N]⟩ : Shape).rowMajor.symm i 1).val - 0 < n; have := b.isLt; omega
        | ⟨2, _⟩ => show L ≤ j.val * 1 + ((⟨3, ![1, 1, N]⟩ : Shape).rowMajor.symm i 2).val ∧ j.val * 1 + ((⟨3, ![1, 1, N]⟩ : Shape).rowMajor.symm i 2).val - L < N; rw [Nat.mul_one]; exact hw
    · rw [dif_neg, if_neg hw]
      · exact hinit _
      · intro hin
        have h2 := hin 2
        change L ≤ j.val * 1 + ((⟨3, ![1, 1, N]⟩ : Shape).rowMajor.symm i 2).val ∧ j.val * 1 + ((⟨3, ![1, 1, N]⟩ : Shape).rowMajor.symm i 2).val - L < N at h2
        rw [Nat.mul_one] at h2
        exact hw h2
  · rw [zero_add, Equiv.sum_comp (⟨3, ![1, 1, N]⟩ : Shape).rowMajor.symm (fun y : (⟨3, ![1, 1, N]⟩ : Shape).Idx => ((if L ≤ j.val + (y 2).val ∧ j.val + (y 2).val - L < N then f a b (j.val + (y 2).val - L) else 0 : ℝ) : EReal)), sum_idx3, Fin.sum_univ_one, Fin.sum_univ_one]
    exact coe_sum_fin N fun w => if L ≤ j.val + w ∧ j.val + w - L < N then f a b (j.val + w - L) else 0

theorem sum_from (f : ℕ → ℝ) (N j : ℕ) (hj : j < N) :
    (∑ w ∈ Finset.range N, if 0 ≤ j + w ∧ j + w - 0 < N then f (j + w - 0) else 0) = ∑ u ∈ Finset.Ico j N, f u := by
  rw [Finset.sum_Ico_eq_sum_range, ← Finset.sum_filter]
  refine Finset.sum_congr ?_ fun w _ => by rw [Nat.sub_zero]
  ext w; simp only [Finset.mem_filter, Finset.mem_range]; omega

theorem sum_upto (f : ℕ → ℝ) (N j : ℕ) (hj : j < N) :
    (∑ w ∈ Finset.range N, if N - 1 ≤ j + w ∧ j + w - (N - 1) < N then f (j + w - (N - 1)) else 0) = ∑ u ∈ Finset.range (j + 1), f u := by
  rw [← Finset.sum_filter]
  refine Finset.sum_bij' (fun w _ => j + w - (N - 1)) (fun u _ => u + (N - 1) - j) ?_ ?_ ?_ ?_ ?_
  · intro w hw; simp only [Finset.mem_filter, Finset.mem_range] at hw ⊢; omega
  · intro u hu; simp only [Finset.mem_filter, Finset.mem_range] at hu ⊢; omega
  · intro w hw; simp only [Finset.mem_filter, Finset.mem_range] at hw ⊢; omega
  · intro u hu; simp only [Finset.mem_range] at hu ⊢; omega
  · intro w hw; rfl

/-- The sums of an array's entries from a place of its last axis on, and up to it. -/
theorem sufSum {m n N : ℕ} (H : ℕ) {X : FVec Ideal ⟨3, ![m, n, N]⟩ .f32} {f : ℕ → ℕ → ℕ → ℝ} (hX : IsA (m := m) (n := n) (k := N) X f)
    (init : FVec Ideal ⟨0, ![]⟩ .f32) (hinit : ∀ i, init i = 0) (h) (hu : 0 < (⟨0, ![]⟩ : Shape).numel) :
    IsA (m := m) (n := n) (k := N) (Host.reduceWindowAdd ![1, 1, N] ![1, 1, 1] ![0, 0, 0] ![0, 0, H] X init h hu) (fun a b j => ∑ u ∈ Finset.Ico j N, f a b u) := fun a b j => by
  refine (winSum 0 H hX init hinit h hu a b j).trans (congrArg (fun x : ℝ => (x : EReal)) ?_)
  exact sum_from (f a b) N j j.isLt

theorem preSum {m n N : ℕ} (H L : ℕ) (hL : L = N - 1) {X : FVec Ideal ⟨3, ![m, n, N]⟩ .f32} {f : ℕ → ℕ → ℕ → ℝ} (hX : IsA (m := m) (n := n) (k := N) X f)
    (init : FVec Ideal ⟨0, ![]⟩ .f32) (hinit : ∀ i, init i = 0) (h) (hu : 0 < (⟨0, ![]⟩ : Shape).numel) :
    IsA (m := m) (n := n) (k := N) (Host.reduceWindowAdd ![1, 1, N] ![1, 1, 1] ![0, 0, L] ![0, 0, H] X init h hu) (fun a b j => ∑ u ∈ Finset.range (j + 1), f a b u) := fun a b j => by
  subst hL
  refine (winSum (N - 1) H hX init hinit h hu a b j).trans (congrArg (fun x : ℝ => (x : EReal)) ?_)
  exact sum_upto (f a b) N j j.isLt

end Cert.Proof.Sb
end
-- ==== Proof.Sb.Global.lean ====
module

public import proofs.«01_k».proof.Proof.Sb.Soft
public import proofs.«01_k».proof.Proof.Sb.Tile
public import proofs.«01_k».proof.Proof.Sb.Fold

@[expose] public section

noncomputable section

namespace Cert.Proof.Sb

open scoped BigOperators

/-! The attention and its gradient over the reals: head `h`, query row `t`, key row `s`; a row of `X` holds the heads' queries,
then their keys, then their values, and a row of `G` the gradients of the heads' outputs. -/

variable (X G : ℕ → ℕ → ℝ)

def zz (h t s : ℕ) : ℝ := (∑ c ∈ Finset.range 64, X t (h * 64 + c) * X s (1024 + h * 64 + c)) * (1 / 8)
def wf (h t s : ℕ) : ℝ := Real.exp (lsp (zz X h t s) + ∑ u ∈ Finset.Ico (s + 1) t, lsn (zz X h t u))
def gf (h t s : ℕ) : ℝ := ∑ c ∈ Finset.range 64, G t (h * 64 + c) * X s (2048 + h * 64 + c)
def ef (h t s : ℕ) : ℝ := gf X G h t s * wf X h t s
def zf (h t s : ℕ) : ℝ := ef X G h t s * (1 - Real.exp (lsp (zz X h t s))) - Real.exp (lsp (zz X h t s)) * ∑ u ∈ Finset.range s, ef X G h t u
/-- An attention's output, and the gradients of a query, a key and a value. -/
def of (t h c : ℕ) : ℝ := ∑ s ∈ Finset.range 8192, (if s < t then wf X h t s else 0) * X s (2048 + h * 64 + c)
def qf (t h c : ℕ) : ℝ := ∑ s ∈ Finset.range 8192, (if s < t then zf X G h t s else 0) * (1 / 8) * X s (1024 + h * 64 + c)
def kf (s h c : ℕ) : ℝ := ∑ t ∈ Finset.range 8192, (if s < t then zf X G h t s else 0) * (1 / 8) * X t (h * 64 + c)
def vf (s h c : ℕ) : ℝ := ∑ t ∈ Finset.range 8192, G t (h * 64 + c) * (if s < t then wf X h t s else 0)

/-- The masked logarithms' sum from a key on, without that key's own, is the sum of those after it up to the query's row. -/
theorem suf_mask (f : ℕ → ℝ) (t s : ℕ) (ht : t < 8192) (hs : s < 8192) :
    (∑ u ∈ Finset.Ico s 8192, if u < t then f u else 0) - (if s < t then f s else 0) = ∑ u ∈ Finset.Ico (s + 1) t, f u := by
  rw [Finset.sum_eq_sum_Ico_succ_bot hs, add_sub_cancel_left, ← Finset.sum_filter]
  refine Finset.sum_congr ?_ fun _ _ => rfl
  ext u; simp only [Finset.mem_filter, Finset.mem_Ico]; omega

theorem pre_mask (f : ℕ → ℝ) (t s : ℕ) (hs : s < t) :
    -(if s < t then f s else 0) + (∑ u ∈ Finset.range (s + 1), if u < t then f u else 0) = ∑ u ∈ Finset.range s, f u := by
  rw [Finset.sum_range_succ, if_pos hs]
  rw [Finset.sum_congr rfl (g := f) fun u hu => if_pos (by simp only [Finset.mem_range] at hu; omega)]
  ring

/-- The reference's gradient of a score, its mask and its signs worked out. -/
theorem zf_ref (h t s : ℕ) :
    -(-(if s < t then ef X G h t s else 0) * Real.exp (-zz X h t s - spl (-zz X h t s)))
      + - -(-(if s < t then -(if s < t then ef X G h t s else 0) + (∑ u ∈ Finset.range (s + 1), if u < t then ef X G h t u else 0) else 0)
        * Real.exp (zz X h t s - spl (zz X h t s)))
      = if s < t then zf X G h t s else 0 := by
  rw [exp_neg_sub_spl, exp_sub_spl, exp_lsn]
  by_cases hs : s < t
  · have e := pre_mask (ef X G h t) t s hs
    rw [if_pos hs] at e
    simp only [if_pos hs]
    rw [e]; unfold zf; ring
  · simp only [if_neg hs]; ring

end Cert.Proof.Sb
end
-- ==== Proof.Sb.Grid.lean ====
module

public import proofs.«01_k».proof.Proof.Sb.Frame
public import proofs.«01_k».proof.Proof.Sb.Tile
public import Idealize.ShloMosaic.Lib.Pipeline.ValueKit
public import Idealize.ShloMosaic.Lib.Pipeline.ReadBack
public import Idealize.ShloMosaic.Lib.Pointwise

@[expose] public section

set_option maxRecDepth 65536
set_option maxHeartbeats 400000

noncomputable section

namespace Cert.Proof.Sb

open Idealize.ShloMosaic Idealize.ShloMosaic.TcCoe Idealize.ShloMosaic.ValueIdx Idealize.SL.Sem Cert.SbBwdIdeal Cert.SbBwdIdeal.Gen VecWindow
open scoped BigOperators

variable (m : (ℓ : Loc nD τ sig) → Buf (Elt Ideal) ℓ) (c : Dev nD)

/-- The blocks that the windows name at a grid point. -/
theorem idx : ∀ t : Fin cfg0.N, win0_0.index t = ![t.val % 8, t.val / 8] ∧ win0_1.index t = ![0, 8 + t.val / 8] ∧ win0_2.index t = ![0, 16 + t.val / 8]
    ∧ win0_3.index t = ![t.val % 8, t.val / 8] ∧ win0_4.index t = ![t.val % 8, t.val / 8] ∧ win0_5.index t = ![t.val % 8, t.val / 8]
    ∧ win0_6.index t = ![0, t.val / 8] ∧ win0_7.index t = ![0, t.val / 8] ∧ (grid0.coords t 1).val = t.val % 8 :=
  (by decide +kernel : ∀ t : Fin grid0.N, _)

theorem idx_lt (t : Fin cfg0.N) : t.val < 64 := t.isLt

section
variable {X G O : ℕ → ℕ → ℝ}

/-- The tile of a pair of heads `p`, `i` tiles down. -/
def tl (X G O : ℕ → ℕ → ℝ) (p i : ℕ) : Tl :=
  tile (fun r c => X (1024 * i + r) (128 * p + c)) (fun r c => G (1024 * i + r) (128 * p + c)) (fun r c => O (1024 * i + r) (128 * p + c))
    (fun s c => X s (128 * (8 + p) + c)) (fun s c => X s (128 * (16 + p) + c)) (1024 * i)

theorem blk0 (hX : IsM (n := 8192) (k := 3072) (V m c (Pipeline.arrRef spec0 0)) X) (t : Fin cfg0.N) :
    IsM (n := 1024) (k := 128) (iblk m c 0 t) (fun r c => X (1024 * (t.val % 8) + r) (128 * (t.val / 8) + c)) := fun r l => by
  have ht := idx_lt t
  have e := (idx t).1
  refine Eq.trans ?_ (hX ⟨1024 * (t.val % 8) + r.val, by omega⟩ ⟨128 * (t.val / 8) + l.val, by omega⟩)
  unfold iblk
  blk_ext! [e]
  · exact congrArg (· + r.val) (Nat.mul_comm _ _)
  · exact congrArg (· + l.val) (Nat.mul_comm _ _)

theorem blk1 (hX : IsM (n := 8192) (k := 3072) (V m c (Pipeline.arrRef spec0 1)) X) (t : Fin cfg0.N) :
    IsM (n := 8192) (k := 128) (iblk m c 1 t) (fun r c => X (r) (128 * (8 + t.val / 8) + c)) := fun r l => by
  have ht := idx_lt t
  have e := (idx t).2.1
  refine Eq.trans ?_ (hX ⟨r.val, by omega⟩ ⟨128 * (8 + t.val / 8) + l.val, by omega⟩)
  unfold iblk
  blk_ext! [e]
  · exact congrArg (· + l.val) (Nat.mul_comm _ _)

theorem blk2 (hX : IsM (n := 8192) (k := 3072) (V m c (Pipeline.arrRef spec0 2)) X) (t : Fin cfg0.N) :
    IsM (n := 8192) (k := 128) (iblk m c 2 t) (fun r c => X (r) (128 * (16 + t.val / 8) + c)) := fun r l => by
  have ht := idx_lt t
  have e := (idx t).2.2.1
  refine Eq.trans ?_ (hX ⟨r.val, by omega⟩ ⟨128 * (16 + t.val / 8) + l.val, by omega⟩)
  unfold iblk
  blk_ext! [e]
  · exact congrArg (· + l.val) (Nat.mul_comm _ _)

theorem blk3 (hX : IsM (n := 8192) (k := 1024) (V m c (Pipeline.arrRef spec0 3)) X) (t : Fin cfg0.N) :
    IsM (n := 1024) (k := 128) (iblk m c 3 t) (fun r c => X (1024 * (t.val % 8) + r) (128 * (t.val / 8) + c)) := fun r l => by
  have ht := idx_lt t
  have e := (idx t).2.2.2.1
  refine Eq.trans ?_ (hX ⟨1024 * (t.val % 8) + r.val, by omega⟩ ⟨128 * (t.val / 8) + l.val, by omega⟩)
  unfold iblk
  blk_ext! [e]
  · exact congrArg (· + r.val) (Nat.mul_comm _ _)
  · exact congrArg (· + l.val) (Nat.mul_comm _ _)

theorem blk4 (hX : IsM (n := 8192) (k := 1024) (V m c (Pipeline.arrRef spec0 4)) X) (t : Fin cfg0.N) :
    IsM (n := 1024) (k := 128) (iblk m c 4 t) (fun r c => X (1024 * (t.val % 8) + r) (128 * (t.val / 8) + c)) := fun r l => by
  have ht := idx_lt t
  have e := (idx t).2.2.2.2.1
  refine Eq.trans ?_ (hX ⟨1024 * (t.val % 8) + r.val, by omega⟩ ⟨128 * (t.val / 8) + l.val, by omega⟩)
  unfold iblk
  blk_ext! [e]
  · exact congrArg (· + r.val) (Nat.mul_comm _ _)
  · exact congrArg (· + l.val) (Nat.mul_comm _ _)

theorem y1_at (i : grid0.Coords) {n : ℕ} (hn : (i 1).val = n) {P : Prop} [Decidable P] (hP : cond1 i ↔ P) {q d : FVec Ideal S1024x128 .bf16} {k v : FVec Ideal S8192x128 .bf16} {o : FVec Ideal S1024x128 .f32} {Q Do O K W : ℕ → ℕ → ℝ} (hq : IsM (n := 1024) (k := 128) q Q)
    (hd : IsM (n := 1024) (k := 128) d Do) (ho : IsM (n := 1024) (k := 128) o O) (hk : IsM (n := 8192) (k := 128) k K) (hv : IsM (n := 8192) (k := 128) v W)
    {dk dv : FVec Ideal S64x128x128 .f32} {D V : ℕ → ℕ → ℕ → ℝ}
    (hdk : ¬ P → IsA (m := 64) (n := 128) (k := 128) dk D) (hdv : ¬ P → IsA (m := 64) (n := 128) (k := 128) dv V) :
    IsSt (y1 (F := Ideal) i q k v d o dk dv) (tile Q Do O K W (1024 * n)) (if P then 0 else D) (if P then 0 else V) 0 := by
  have e1 : (if cond1 i then 0 else D) = (if P then 0 else D) := if_congr hP rfl rfl
  have e2 : (if cond1 i then 0 else V) = (if P then 0 else V) := if_congr hP rfl rfl
  have h := y1_is i hq hd ho hk hv (fun hc => hdk fun h => hc (hP.mpr h)) (fun hc => hdv fun h => hc (hP.mpr h))
  rw [e1, e2] at h
  subst hn
  exact h

/-- What the tiles above the `i`-th add to the gradients of the keys and values of a pair. -/
def sumK (X G O : ℕ → ℕ → ℝ) (p i : ℕ) : ℕ → ℕ → ℕ → ℝ := fun j l s =>
  ∑ i' ∈ Finset.range i, ((tl X G O p i').dk 0 (128 * j + s) l + (tl X G O p i').dk 1 (128 * j + s) l)
def sumV (X G O : ℕ → ℕ → ℝ) (p i : ℕ) : ℕ → ℕ → ℕ → ℝ := fun j l s =>
  ∑ i' ∈ Finset.range i, ((tl X G O p i').dv 0 (128 * j + s) l + (tl X G O p i').dv 1 (128 * j + s) l)

variable (hX0 : IsM (n := 8192) (k := 3072) (V m c (Pipeline.arrRef spec0 0)) X) (hX1 : IsM (n := 8192) (k := 3072) (V m c (Pipeline.arrRef spec0 1)) X)
  (hX2 : IsM (n := 8192) (k := 3072) (V m c (Pipeline.arrRef spec0 2)) X) (hG : IsM (n := 8192) (k := 1024) (V m c (Pipeline.arrRef spec0 3)) G)
  (hO : IsM (n := 8192) (k := 1024) (V m c (Pipeline.arrRef spec0 4)) O)
include hX0 hX1 hX2 hG hO

theorem stOf_is (t : Fin cfg0.N) {dk dv : FVec Ideal S64x128x128 .f32} {D W : ℕ → ℕ → ℕ → ℝ}
    (hdk : ¬ t.val % 8 = 0 → IsA (m := 64) (n := 128) (k := 128) dk D) (hdv : ¬ t.val % 8 = 0 → IsA (m := 64) (n := 128) (k := 128) dv W) :
    IsSt (stOf m c t dk dv) (tl X G O (t.val / 8) (t.val % 8)) (if t.val % 8 = 0 then 0 else D) (if t.val % 8 = 0 then 0 else W) 0 := by
  exact y1_at (grid0.coords t) (idx t).2.2.2.2.2.2.2.2 (hcond1 t) (blk0 m c hX0 t) (blk3 m c hG t) (blk4 m c hO t) (blk1 m c hX1 t) (blk2 m c hX2 t)
    hdk hdv

/-- The state after each point. -/
theorem stAt_is : ∀ (n : ℕ) (hn : n < cfg0.N), IsSt (stAt m c n hn) (tl X G O (n / 8) (n % 8)) (sumK X G O (n / 8) (n % 8)) (sumV X G O (n / 8) (n % 8)) 0
  | 0, hn => by
      have h := stOf_is m c hX0 hX1 hX2 hG hO ⟨0, hn⟩ (dk := k0_pay163) (dv := k0_pay164) (D := 0) (W := 0) (fun h => absurd rfl h) (fun h => absurd rfl h)
      have e : sumK X G O (0 / 8) (0 % 8) = (if 0 % 8 = 0 then 0 else 0) := by
        rw [if_pos rfl]; funext j l s; exact Finset.sum_range_zero _
      have e' : sumV X G O (0 / 8) (0 % 8) = (if 0 % 8 = 0 then 0 else 0) := by
        rw [if_pos rfl]; funext j l s; exact Finset.sum_range_zero _
      rw [e, e']
      exact h
  | n + 1, hn => by
      have ih := stAt_is n (Nat.lt_of_succ_lt hn)
      have h64 : n + 1 < 64 := hn
      have hk : IsA (m := 64) (n := 128) (k := 128) (stAt m c n (Nat.lt_of_succ_lt hn)).dk (sumK X G O (n / 8) (n % 8 + 1)) := fun j l s => by
        refine (ih.dk j l s).trans (congrArg _ ?_)
        show sumK X G O (n / 8) (n % 8) j l s + (if 0 ≤ 128 * j.val + s.val then _ else _) = _
        rw [if_pos (Nat.zero_le _)]
        exact (Finset.sum_range_succ _ _).symm
      have hv : IsA (m := 64) (n := 128) (k := 128) (stAt m c n (Nat.lt_of_succ_lt hn)).dv (sumV X G O (n / 8) (n % 8 + 1)) := fun j l s => by
        refine (ih.dv j l s).trans (congrArg _ ?_)
        show sumV X G O (n / 8) (n % 8) j l s + (if 0 ≤ 128 * j.val + s.val then _ else _) = _
        rw [if_pos (Nat.zero_le _)]
        exact (Finset.sum_range_succ _ _).symm
      have h := stOf_is m c hX0 hX1 hX2 hG hO ⟨n + 1, hn⟩ (fun _ => hk) (fun _ => hv)
      have e : (if (n + 1) % 8 = 0 then 0 else sumK X G O (n / 8) (n % 8 + 1)) = sumK X G O ((n + 1) / 8) ((n + 1) % 8) := by
        by_cases h0 : (n + 1) % 8 = 0
        · rw [if_pos h0, h0]; funext j l s; exact (Finset.sum_range_zero _).symm
        · rw [if_neg h0, show (n + 1) / 8 = n / 8 by omega, show (n + 1) % 8 = n % 8 + 1 by omega]
      have e' : (if (n + 1) % 8 = 0 then 0 else sumV X G O (n / 8) (n % 8 + 1)) = sumV X G O ((n + 1) / 8) ((n + 1) % 8) := by
        by_cases h0 : (n + 1) % 8 = 0
        · rw [if_pos h0, h0]; funext j l s; exact (Finset.sum_range_zero _).symm
        · rw [if_neg h0, show (n + 1) / 8 = n / 8 by omega, show (n + 1) % 8 = n % 8 + 1 by omega]
      rw [← e, ← e']
      exact h

/-- The three arrays that the kernel leaves. -/
theorem arr5 : IsM (n := 8192) (k := 1024) ((dats m 0 c).arrAt 5 cfg0.N) (fun r l =>
    (if l % 128 < 64 then (tl X G O (l / 128) (r / 1024)).dq 0 (r % 1024) 0 (l % 128) else (tl X G O (l / 128) (r / 1024)).dq 1 (r % 1024) 0 (l % 128)) * (1 / 8)) := by
  suffices h : (dats m 0 c).arrAt 5 cfg0.N = fun y : S8192x1024.Idx => (((fun r l =>
    (if l % 128 < 64 then (tl X G O (l / 128) (r / 1024)).dq 0 (r % 1024) 0 (l % 128) else (tl X G O (l / 128) (r / 1024)).dq 1 (r % 1024) 0 (l % 128)) * (1 / 8)) (y 0).val (y 1).val : ℝ) : EReal) by
    rw [h]; intro r l; rfl
  refine (dats m 0 c).arrAt_eq_of_covers 5 _ (by decide +kernel) fun t hf y => ?_
  blk_simp
  rw [after0_5]
  have ht := idx_lt t
  have e := (idx t).2.2.2.2.2.1
  have hy := dqOut_is (stAt_is m c hX0 hX1 hX2 hG hO t.val t.isLt) (y 0) (y 1)
  have e0 : win0_5.index t 0 = t.val % 8 := congrFun e 0
  have e1 : win0_5.index t 1 = t.val / 8 := congrFun e 1
  have hr : (y 0).val < 1024 := (y 0).isLt
  have hl : (y 1).val < 128 := (y 1).isLt
  have eta : y = ValueIdx.ix2 (⟨(y 0).val, hr⟩ : Fin 1024) (⟨(y 1).val, hl⟩ : Fin 128) := funext fun a => by
    match a with
    | ⟨0, _⟩ => rfl
    | ⟨1, _⟩ => rfl
  refine (congrArg (k0_pay540 (dqOut v3 (stAt m c t.val t.isLt))) eta).trans (hy.trans (congrArg (fun a : ℝ => (a : EReal)) ?_))
  rw [e0, e1, show (t.val / 8 * 128 + (y 1).val) % 128 = (y 1).val by omega, show (t.val / 8 * 128 + (y 1).val) / 128 = t.val / 8 by omega,
    show (t.val % 8 * 1024 + (y 0).val) % 1024 = (y 0).val by omega, show (t.val % 8 * 1024 + (y 0).val) / 1024 = t.val % 8 by omega]

theorem arr6 : IsM (n := 8192) (k := 1024) ((dats m 0 c).arrAt 6 cfg0.N) (fun r l => sumK X G O (l / 128) 8 (r / 128) (l % 128) (r % 128)) := by
  suffices h : (dats m 0 c).arrAt 6 cfg0.N = fun y : S8192x1024.Idx => (((fun r l => sumK X G O (l / 128) 8 (r / 128) (l % 128) (r % 128)) (y 0).val (y 1).val : ℝ) : EReal) by
    rw [h]; intro r l; rfl
  refine (dats m 0 c).arrAt_eq_of_covers 6 _ (by decide +kernel) fun t hf y => ?_
  blk_simp
  rw [after0_6]
  have ht := idx_lt t
  have e := (idx t).2.2.2.2.2.2.1
  have h7 : t.val % 8 = 7 := by
    rw [flush0_6] at hf; exact hf
  have hs := stAt_is m c hX0 hX1 hX2 hG hO t.val t.isLt
  have hk : IsA (m := 64) (n := 128) (k := 128) (stAt m c t.val t.isLt).dk (sumK X G O (t.val / 8) 8) := fun j l s => by
    refine (hs.dk j l s).trans (congrArg (fun a : ℝ => (a : EReal)) ?_)
    show sumK X G O (t.val / 8) (t.val % 8) j l s + (if 0 ≤ 128 * j.val + s.val then _ else _) = _
    rw [if_pos (Nat.zero_le _), h7]
    exact (Finset.sum_range_succ _ _).symm
  have e0 : win0_6.index t 0 = 0 := congrFun e 0
  have e1 : win0_6.index t 1 = t.val / 8 := congrFun e 1
  have hr : (y 0).val < 8192 := (y 0).isLt
  have hl : (y 1).val < 128 := (y 1).isLt
  have eta : y = ValueIdx.ix2 (⟨(y 0).val, hr⟩ : Fin 8192) (⟨(y 1).val, hl⟩ : Fin 128) := funext fun a => by
    match a with
    | ⟨0, _⟩ => rfl
    | ⟨1, _⟩ => rfl
  refine (congrArg (outK (stAt m c t.val t.isLt).dk) eta).trans ((outK_is hk ⟨(y 0).val, hr⟩ ⟨(y 1).val, hl⟩).trans (congrArg (fun a : ℝ => (a : EReal)) ?_))
  show sumK X G O (t.val / 8) 8 ((y 0).val / 128) (y 1).val ((y 0).val % 128) = _
  rw [e0, e1, show (t.val / 8 * 128 + (y 1).val) % 128 = (y 1).val by omega, show (t.val / 8 * 128 + (y 1).val) / 128 = t.val / 8 by omega, Nat.zero_mul, Nat.zero_add]

theorem arr7 : IsM (n := 8192) (k := 1024) ((dats m 0 c).arrAt 7 cfg0.N) (fun r l => sumV X G O (l / 128) 8 (r / 128) (l % 128) (r % 128)) := by
  suffices h : (dats m 0 c).arrAt 7 cfg0.N = fun y : S8192x1024.Idx => (((fun r l => sumV X G O (l / 128) 8 (r / 128) (l % 128) (r % 128)) (y 0).val (y 1).val : ℝ) : EReal) by
    rw [h]; intro r l; rfl
  refine (dats m 0 c).arrAt_eq_of_covers 7 _ (by decide +kernel) fun t hf y => ?_
  blk_simp
  rw [after0_7]
  have ht := idx_lt t
  have e := (idx t).2.2.2.2.2.2.2.1
  have h7 : t.val % 8 = 7 := by
    rw [flush0_7] at hf; exact hf
  have hs := stAt_is m c hX0 hX1 hX2 hG hO t.val t.isLt
  have hk : IsA (m := 64) (n := 128) (k := 128) (stAt m c t.val t.isLt).dv (sumV X G O (t.val / 8) 8) := fun j l s => by
    refine (hs.dv j l s).trans (congrArg (fun a : ℝ => (a : EReal)) ?_)
    show sumV X G O (t.val / 8) (t.val % 8) j l s + (if 0 ≤ 128 * j.val + s.val then _ else _) = _
    rw [if_pos (Nat.zero_le _), h7]
    exact (Finset.sum_range_succ _ _).symm
  have e0 : win0_7.index t 0 = 0 := congrFun e 0
  have e1 : win0_7.index t 1 = t.val / 8 := congrFun e 1
  have hr : (y 0).val < 8192 := (y 0).isLt
  have hl : (y 1).val < 128 := (y 1).isLt
  have eta : y = ValueIdx.ix2 (⟨(y 0).val, hr⟩ : Fin 8192) (⟨(y 1).val, hl⟩ : Fin 128) := funext fun a => by
    match a with
    | ⟨0, _⟩ => rfl
    | ⟨1, _⟩ => rfl
  refine (congrArg (outK (stAt m c t.val t.isLt).dv) eta).trans ((outK_is hk ⟨(y 0).val, hr⟩ ⟨(y 1).val, hl⟩).trans (congrArg (fun a : ℝ => (a : EReal)) ?_))
  show sumV X G O (t.val / 8) 8 ((y 0).val / 128) (y 1).val ((y 0).val % 128) = _
  rw [e0, e1, show (t.val / 8 * 128 + (y 1).val) % 128 = (y 1).val by omega, show (t.val / 8 * 128 + (y 1).val) / 128 = t.val / 8 by omega, Nat.zero_mul, Nat.zero_add]

end

end Cert.Proof.Sb

end
-- ==== Proof.Sb.Ident.lean ====
module

public import proofs.«01_k».proof.Proof.Sb.Global
public import proofs.«01_k».proof.Proof.Sb.Grid

@[expose] public section

noncomputable section

namespace Cert.Proof.Sb

open scoped BigOperators

/-- A pair of heads' lanes, one head's kept. -/
theorem sum_head (f : ℕ → ℝ) (a : ℕ) (ha : a < 2) : (∑ c ∈ Finset.range 128, if c / 64 = a then f c else 0) = ∑ c ∈ Finset.range 64, f (64 * a + c) := by
  rw [← Finset.sum_filter]
  refine Finset.sum_bij' (fun c _ => c - 64 * a) (fun c _ => 64 * a + c) ?_ ?_ ?_ ?_ ?_
  · intro c hc; simp only [Finset.mem_filter, Finset.mem_range] at hc ⊢; omega
  · intro c hc; simp only [Finset.mem_filter, Finset.mem_range] at hc ⊢; omega
  · intro c hc; simp only [Finset.mem_filter, Finset.mem_range] at hc ⊢; omega
  · intro c hc; simp only [Finset.mem_range] at hc ⊢; omega
  · intro c hc
    simp only [Finset.mem_filter, Finset.mem_range] at hc
    congr 1; omega

/-- A sum over tiles of rows is the sum over all rows. -/
theorem sum_tiles (F : ℕ → ℝ) (k n : ℕ) : ∑ i ∈ Finset.range n, ∑ r ∈ Finset.range k, F (k * i + r) = ∑ t ∈ Finset.range (k * n), F t := by
  induction n with
  | zero => simp
  | succ n ih => rw [Finset.sum_range_succ, ih, Nat.mul_succ, Finset.sum_range_add]

variable (X G : ℕ → ℕ → ℝ)

/-- The attention's output by its lanes. -/
def ol : ℕ → ℕ → ℝ := fun t l => of X t (l / 64) (l % 64)

variable (p i a : ℕ) (ha : a < 2)
include ha

theorem tl_z (r s : ℕ) : (tl X G (ol X) p i).z a r s = zz X (2 * p + a) (1024 * i + r) s := by
  unfold Tl.z zz
  have e : ∀ c, (tl X G (ol X) p i).q a r c * (tl X G (ol X) p i).k s c = if c / 64 = a then X (1024 * i + r) (128 * p + c) * X s (128 * (8 + p) + c) * (1 / 8) else 0 := fun c => by
    show (if c / 64 = a then X (1024 * i + r) (128 * p + c) else 0) * (1 / 8) * X s (128 * (8 + p) + c) = _
    split <;> ring
  rw [Finset.sum_congr rfl fun c _ => e c, sum_head _ a ha, Finset.sum_mul]
  refine Finset.sum_congr rfl fun c _ => ?_
  rw [show 128 * p + (64 * a + c) = (2 * p + a) * 64 + c by ring, show 128 * (8 + p) + (64 * a + c) = 1024 + (2 * p + a) * 64 + c by ring]

theorem tl_w (r s : ℕ) : (tl X G (ol X) p i).w a r s = wf X (2 * p + a) (1024 * i + r) s := by
  unfold Tl.w Tl.ln wf
  simp only [tl_z X G p i a ha]
  rfl

theorem tl_gw (r s : ℕ) : (tl X G (ol X) p i).gw a r s = gf X G (2 * p + a) (1024 * i + r) s := by
  unfold Tl.gw gf
  have e : ∀ c, (tl X G (ol X) p i).d a r c * (tl X G (ol X) p i).v s c = if c / 64 = a then G (1024 * i + r) (128 * p + c) * X s (128 * (16 + p) + c) else 0 := fun c => by
    show (if c / 64 = a then G (1024 * i + r) (128 * p + c) else 0) * X s (128 * (16 + p) + c) = _
    split <;> ring
  rw [Finset.sum_congr rfl fun c _ => e c, sum_head _ a ha]
  refine Finset.sum_congr rfl fun c _ => ?_
  rw [show 128 * p + (64 * a + c) = (2 * p + a) * 64 + c by ring, show 128 * (16 + p) + (64 * a + c) = 2048 + (2 * p + a) * 64 + c by ring]

theorem tl_e (r s : ℕ) : (tl X G (ol X) p i).e a r s = ef X G (2 * p + a) (1024 * i + r) s := by
  unfold Tl.e ef
  rw [tl_w X G p i a ha, tl_gw X G p i a ha, mul_comm]

theorem tl_et (r : ℕ) (ht : 1024 * i + r < 8192) : (tl X G (ol X) p i).et a r = ∑ u ∈ Finset.range (1024 * i + r), ef X G (2 * p + a) (1024 * i + r) u := by
  have e : (tl X G (ol X) p i).et a r = ∑ c ∈ Finset.range 64, G (1024 * i + r) ((2 * p + a) * 64 + c) * of X (1024 * i + r) (2 * p + a) c := by
    show (∑ c ∈ Finset.range 128, if c / 64 = a then G (1024 * i + r) (128 * p + c) * ol X (1024 * i + r) (128 * p + c) else 0) = _
    rw [sum_head _ a ha]
    refine Finset.sum_congr rfl fun c hc => ?_
    have hc := Finset.mem_range.mp hc
    unfold ol
    rw [show 128 * p + (64 * a + c) = (2 * p + a) * 64 + c by ring, show ((2 * p + a) * 64 + c) / 64 = 2 * p + a by omega, show ((2 * p + a) * 64 + c) % 64 = c by omega]
  rw [e]
  generalize 1024 * i + r = t at ht ⊢
  generalize 2 * p + a = h
  unfold of
  simp only [Finset.mul_sum]
  rw [Finset.sum_comm]
  have e2 : ∀ s, (∑ c ∈ Finset.range 64, G t (h * 64 + c) * ((if s < t then wf X h t s else 0) * X s (2048 + h * 64 + c))) = if s < t then ef X G h t s else 0 := fun s => by
    by_cases hs : s < t
    · simp only [if_pos hs]
      unfold ef gf
      rw [Finset.sum_mul]
      exact Finset.sum_congr rfl fun c _ => by ring
    · simp only [if_neg hs, zero_mul, mul_zero, Finset.sum_const_zero]
  rw [Finset.sum_congr rfl fun s _ => e2 s, ← Finset.sum_filter]
  refine Finset.sum_congr ?_ fun _ _ => rfl
  ext u; simp only [Finset.mem_filter, Finset.mem_range]; omega

theorem tl_dz (r s : ℕ) (ht : 1024 * i + r < 8192) (hs : s < 1024 * i + r) : (tl X G (ol X) p i).dz a r s = zf X G (2 * p + a) (1024 * i + r) s := by
  unfold Tl.dz zf
  simp only [tl_z X G p i a ha, tl_e X G p i a ha]
  rw [tl_et X G p i a ha r ht]
  show _ - _ * (_ - ∑ u ∈ Finset.Ico s (1024 * i + r), ef X G (2 * p + a) (1024 * i + r) u) = _
  rw [← Finset.sum_range_add_sum_Ico _ (Nat.le_of_lt hs), add_sub_cancel_right]

omit ha in
theorem mask_sum (f : ℕ → ℝ) (t : ℕ) (ht : t ≤ 8192) : ∑ s ∈ Finset.Ico 0 t, f s = ∑ s ∈ Finset.range 8192, if s < t then f s else 0 := by
  rw [← Finset.sum_filter]
  refine Finset.sum_congr ?_ fun _ _ => rfl
  ext u; simp only [Finset.mem_filter, Finset.mem_range, Finset.mem_Ico]; omega

theorem tl_dq (r c : ℕ) (hc : c / 64 = a) (ht : 1024 * i + r < 8192) :
    (tl X G (ol X) p i).dq a r 0 c * (1 / 8) = qf X G (1024 * i + r) (2 * p + a) (c % 64) := by
  unfold Tl.dq qf
  show (∑ u ∈ Finset.Ico 0 (1024 * i + r), (tl X G (ol X) p i).dz a r u * X u (128 * (8 + p) + c)) * (1 / 8) = _
  rw [mask_sum _ _ (Nat.le_of_lt ht), Finset.sum_mul]
  refine Finset.sum_congr rfl fun s _ => ?_
  rw [show 1024 + (2 * p + a) * 64 + c % 64 = 128 * (8 + p) + c by omega]
  by_cases hs : s < 1024 * i + r
  · rw [if_pos hs, if_pos hs, tl_dz X G p i a ha r s ht hs]; ring
  · rw [if_neg hs, if_neg hs]; ring

omit ha in
theorem tl_dk0 (s c : ℕ) (hc : c / 64 ≠ a) : (tl X G (ol X) p i).dk a s c = 0 := by
  refine Finset.sum_eq_zero fun r _ => ?_
  have e : (tl X G (ol X) p i).q a r c = 0 := by
    show (if c / 64 = a then X (1024 * i + r) (128 * p + c) else 0) * (1 / 8) = 0
    rw [if_neg hc, zero_mul]
  rw [e, zero_mul, ite_self]
omit ha in
theorem tl_dv0 (s c : ℕ) (hc : c / 64 ≠ a) : (tl X G (ol X) p i).dv a s c = 0 := by
  refine Finset.sum_eq_zero fun r _ => ?_
  have e : (tl X G (ol X) p i).d a r c = 0 := if_neg hc
  rw [e, zero_mul, ite_self]

theorem tl_dk (s c : ℕ) (hc : c / 64 = a) (hi : i < 8) : (tl X G (ol X) p i).dk a s c
    = ∑ r ∈ Finset.range 1024, (fun t => (if s < t then zf X G (2 * p + a) t s else 0) * (1 / 8) * X t ((2 * p + a) * 64 + c % 64)) (1024 * i + r) := by
  refine Finset.sum_congr rfl fun r hr => ?_
  have hr := Finset.mem_range.mp hr
  show (if s < 1024 * i + r then (if c / 64 = a then X (1024 * i + r) (128 * p + c) else 0) * (1 / 8) * (tl X G (ol X) p i).dz a r s else 0) = _
  rw [if_pos hc]
  show _ = (if s < 1024 * i + r then zf X G (2 * p + a) (1024 * i + r) s else 0) * (1 / 8) * X (1024 * i + r) ((2 * p + a) * 64 + c % 64)
  rw [show (2 * p + a) * 64 + c % 64 = 128 * p + c by omega]
  by_cases hs : s < 1024 * i + r
  · rw [if_pos hs, if_pos hs, tl_dz X G p i a ha r s (by omega) hs]; ring
  · rw [if_neg hs, if_neg hs]; ring
theorem tl_dv (s c : ℕ) (hc : c / 64 = a) : (tl X G (ol X) p i).dv a s c
    = ∑ r ∈ Finset.range 1024, (fun t => G t ((2 * p + a) * 64 + c % 64) * (if s < t then wf X (2 * p + a) t s else 0)) (1024 * i + r) := by
  refine Finset.sum_congr rfl fun r _ => ?_
  show (if s < 1024 * i + r then (if c / 64 = a then G (1024 * i + r) (128 * p + c) else 0) * (tl X G (ol X) p i).w a r s else 0) = _
  rw [if_pos hc, tl_w X G p i a ha]
  show _ = G (1024 * i + r) ((2 * p + a) * 64 + c % 64) * (if s < 1024 * i + r then wf X (2 * p + a) (1024 * i + r) s else 0)
  rw [show (2 * p + a) * 64 + c % 64 = 128 * p + c by omega]
  by_cases hs : s < 1024 * i + r
  · rw [if_pos hs, if_pos hs]
  · rw [if_neg hs, if_neg hs]; ring

omit ha in
/-- What the kernel's three arrays hold is what the reference's hold. -/
theorem dq_eq (t l : ℕ) (ht : t < 8192) (hl : l < 1024) :
    (if l % 128 < 64 then (tl X G (ol X) (l / 128) (t / 1024)).dq 0 (t % 1024) 0 (l % 128) else (tl X G (ol X) (l / 128) (t / 1024)).dq 1 (t % 1024) 0 (l % 128)) * (1 / 8)
      = qf X G t (l / 64) (l % 64) := by
  have et : 1024 * (t / 1024) + t % 1024 = t := Nat.div_add_mod t 1024
  by_cases h : l % 128 < 64
  · rw [if_pos h, tl_dq X G (l / 128) (t / 1024) 0 (by omega) (t % 1024) (l % 128) (by omega) (by omega), et, show 2 * (l / 128) + 0 = l / 64 by omega, show l % 128 % 64 = l % 64 by omega]
  · rw [if_neg h, tl_dq X G (l / 128) (t / 1024) 1 (by omega) (t % 1024) (l % 128) (by omega) (by omega), et, show 2 * (l / 128) + 1 = l / 64 by omega, show l % 128 % 64 = l % 64 by omega]

omit ha in
theorem dk_eq (s l : ℕ) (hl : l < 1024) : sumK X G (ol X) (l / 128) 8 (s / 128) (l % 128) (s % 128) = kf X G s (l / 64) (l % 64) := by
  unfold sumK kf
  rw [show 128 * (s / 128) + s % 128 = s by omega, show 8192 = 1024 * 8 from rfl, ← sum_tiles _ 1024 8]
  refine Finset.sum_congr rfl fun i hi => ?_
  have hi := Finset.mem_range.mp hi
  by_cases h : l % 128 < 64
  · rw [tl_dk X G (l / 128) i 0 (by omega) s (l % 128) (by omega) hi, tl_dk0 X G (l / 128) i 1 s (l % 128) (by omega), add_zero, show 2 * (l / 128) + 0 = l / 64 by omega, show l % 128 % 64 = l % 64 by omega]
  · rw [tl_dk X G (l / 128) i 1 (by omega) s (l % 128) (by omega) hi, tl_dk0 X G (l / 128) i 0 s (l % 128) (by omega), zero_add, show 2 * (l / 128) + 1 = l / 64 by omega, show l % 128 % 64 = l % 64 by omega]

omit ha in
theorem dv_eq (s l : ℕ) (hl : l < 1024) : sumV X G (ol X) (l / 128) 8 (s / 128) (l % 128) (s % 128) = vf X G s (l / 64) (l % 64) := by
  unfold sumV vf
  rw [show 128 * (s / 128) + s % 128 = s by omega, show 8192 = 1024 * 8 from rfl, ← sum_tiles _ 1024 8]
  refine Finset.sum_congr rfl fun i hi => ?_
  by_cases h : l % 128 < 64
  · rw [tl_dv X G (l / 128) i 0 (by omega) s (l % 128) (by omega), tl_dv0 X G (l / 128) i 1 s (l % 128) (by omega), add_zero, show 2 * (l / 128) + 0 = l / 64 by omega, show l % 128 % 64 = l % 64 by omega]
  · rw [tl_dv X G (l / 128) i 1 (by omega) s (l % 128) (by omega), tl_dv0 X G (l / 128) i 0 s (l % 128) (by omega), zero_add, show 2 * (l / 128) + 1 = l / 64 by omega, show l % 128 % 64 = l % 64 by omega]

end Cert.Proof.Sb
end
-- ==== Proof.Sb.Prefix.lean ====
module

public import proofs.«01_k».proof.Proof.Sb.Global
public import proofs.«01_k».proof.Proof.Gen.SbBwdIdeal.Frame
public import Idealize.ShloMosaic.Lib.Pointwise

@[expose] public section

set_option maxRecDepth 65536
set_option maxHeartbeats 400000

noncomputable section

namespace Cert.Proof.Sb

open Idealize.ShloMosaic Idealize.ShloMosaic.TcCoe Idealize.SL.Sem Cert.SbBwdIdeal Cert.SbBwdIdeal.Gen Idealize.ShloMosaic.StableHlo
open scoped BigOperators

/-- The softplus as the program's operations make it. -/
def softA (n : FVec Ideal S16x8192x8192 .f32) : FVec Ideal S16x8192x8192 .f32 :=
  select (cmpf .une (subf n (broadcastInDim S16x8192x8192 ![] bcast_S_S16x8192x8192 (constant S_ .f32 0x00000000#32))) (subf n (broadcastInDim S16x8192x8192 ![] bcast_S_S16x8192x8192 (constant S_ .f32 0x00000000#32))))
    (addf n (broadcastInDim S16x8192x8192 ![] bcast_S_S16x8192x8192 (constant S_ .f32 0x00000000#32)))
    (addf (maximumf n (broadcastInDim S16x8192x8192 ![] bcast_S_S16x8192x8192 (constant S_ .f32 0x00000000#32)))
      (Host.log1p (Host.exp (Host.negf (Host.absf (subf n (broadcastInDim S16x8192x8192 ![] bcast_S_S16x8192x8192 (constant S_ .f32 0x00000000#32))))))))

variable (W : Valuation τ sig (Elt Ideal))

theorem after_app (a b : List (HloOp τ sig (Elt Ideal))) (W : Valuation τ sig (Elt Ideal)) : after (a ++ b) W = after b (after a W) := by
  induction a generalizing W with
  | nil => rfl
  | cons x a ih => exact ih _

/-- The attention's scores, masks and values as the program reads them off its first argument. -/
def scoreA (A : FVec Ideal S8192x3072 .f32) : FVec Ideal S16x8192x8192 .f32 :=
  mulf (Host.dotGeneral dot_S16x8192x64_S16x8192x64_S16x8192x8192_2_2_1_1_0_0 none
      (transpose S16x8192x64 [1, 0, 2] (shapeCast _ (extractStridedSlice S8192x1x16x64 ![0, 0, 0, 0] (shapeCast _ A shapeCasts_S8192x3072_S8192x3x16x64) slices_S8192x3x16x64_S8192x1x16x64_0_0_0_0) shapeCasts_S8192x1x16x64_S8192x16x64) transposes_S8192x16x64_S16x8192x64_1_0_2)
      (transpose S16x8192x64 [1, 0, 2] (shapeCast _ (extractStridedSlice S8192x1x16x64 ![0, 1, 0, 0] (shapeCast _ A shapeCasts_S8192x3072_S8192x3x16x64) slices_S8192x3x16x64_S8192x1x16x64_0_1_0_0) shapeCasts_S8192x1x16x64_S8192x16x64) transposes_S8192x16x64_S16x8192x64_1_0_2))
    (broadcastInDim S16x8192x8192 ![] bcast_S_S16x8192x8192 (constant S_ .f32 0x3E000000#32))
def valueA (A : FVec Ideal S8192x3072 .f32) : FVec Ideal S16x8192x64 .f32 :=
  transpose S16x8192x64 [1, 0, 2] (shapeCast _ (extractStridedSlice S8192x1x16x64 ![0, 2, 0, 0] (shapeCast _ A shapeCasts_S8192x3072_S8192x3x16x64) slices_S8192x3x16x64_S8192x1x16x64_0_2_0_0) shapeCasts_S8192x1x16x64_S8192x16x64) transposes_S8192x16x64_S16x8192x64_1_0_2
def maskA : IVec S8192x8192 1 :=
  cmpi .slt (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0)))
/-- An array's entries below the diagonal, zero from it on. -/
def belowA (M : IVec S8192x8192 1) (A : FVec Ideal S16x8192x8192 .f32) : FVec Ideal S16x8192x8192 .f32 :=
  select (broadcastInDim S16x8192x8192 ![1, 2] bcast_S8192x8192_S16x8192x8192_1_2 M) A (broadcastInDim S16x8192x8192 ![] bcast_S_S16x8192x8192 (id (constant S_ .f32 0x00000000#32)))

def lowA (A : FVec Ideal S8192x3072 .f32) : FVec Ideal S8192x3072 .bf16 := truncf .bf16 A bitsLt_bf16_f32
def lowB (A : FVec Ideal S8192x1024 .f32) : FVec Ideal S8192x1024 .bf16 := truncf .bf16 A bitsLt_bf16_f32
def sumA (A : FVec Ideal S16x8192x8192 .f32) : FVec Ideal S16x8192x8192 .f32 :=
  Host.reduceWindowAdd ![1, 1, 8192] ![1, 1, 1] ![0, 0, 0] ![0, 0, 8191] A (broadcastInDim S_ ![] bcast_S_S_ (constant S_ .f32 0x00000000#32)) reduceWindows_S16x8192x8192_S16x8192x8192_w1s1p0_0_w1s1p0_0_w8192s1p0_8191 h_S_
def lessA (A B : FVec Ideal S16x8192x8192 .f32) : FVec Ideal S16x8192x8192 .f32 := subf A B
def outA (A : FVec Ideal S16x8192x8192 .f32) (B : FVec Ideal S16x8192x64 .f32) : FVec Ideal S8192x1024 .f32 :=
  shapeCast _ (transpose S8192x16x64 [1, 0, 2] (Host.dotGeneral dot_S16x8192x8192_S16x8192x64_S16x8192x64_2_1_1_2_0_0 none A B) transposes_S16x8192x64_S8192x16x64_1_0_2) shapeCasts_S8192x16x64_S8192x1024

theorem p0_0 : after hostOps0 W (Proc.devRef .tc main_v0) = lowA (W (Proc.devRef .tc main_arg0)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem p0_1 : after hostOps0 W (Proc.devRef .tc main_v1) = lowB (W (Proc.devRef .tc main_arg1)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem p0_14 : after hostOps0 W (Proc.devRef .tc main_v14) = scoreA (W (Proc.devRef .tc main_arg0)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem p0_22 : after hostOps0 W (Proc.devRef .tc main_v22) = Host.negf (scoreA (W (Proc.devRef .tc main_arg0))) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem p0_11 : after hostOps0 W (Proc.devRef .tc main_v11) = valueA (W (Proc.devRef .tc main_arg0)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem p0_21 : after hostOps0 W (Proc.devRef .tc main_v21) = maskA := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem p1_23 : after hostOps0_1 W (Proc.devRef .tc main_v23) = Host.negf (softA (Host.negf (W (Proc.devRef .tc main_v22)))) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem p3_24 : after hostOps0_3 (after hostOps0_2 W) (Proc.devRef .tc main_v24) = belowA (W (Proc.devRef .tc main_v21)) (W (Proc.devRef .tc main_v23)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem p4_25 : after hostOps0_4 W (Proc.devRef .tc main_v25) = sumA (W (Proc.devRef .tc main_v24)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem p5_26 : after hostOps0_5 W (Proc.devRef .tc main_v26) = lessA (W (Proc.devRef .tc main_v25)) (W (Proc.devRef .tc main_v24)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem p6_27 : after hostOps0_6 W (Proc.devRef .tc main_v27) = Host.negf (softA (Host.negf (W (Proc.devRef .tc main_v14)))) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem p8_30 : after hostOps0_8 (after hostOps0_7 W) (Proc.devRef .tc main_v30) = belowA (W (Proc.devRef .tc main_v21)) (Host.exp (addf (W (Proc.devRef .tc main_v27)) (W (Proc.devRef .tc main_v26)))) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem p9_33 : after hostOps0_9 W (Proc.devRef .tc main_v33) = outA (W (Proc.devRef .tc main_v30)) (W (Proc.devRef .tc main_v11)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem k1_0 : after hostOps0_1 W (Proc.devRef .tc main_v0) = (W (Proc.devRef .tc main_v0)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem k1_1 : after hostOps0_1 W (Proc.devRef .tc main_v1) = (W (Proc.devRef .tc main_v1)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem k1_14 : after hostOps0_1 W (Proc.devRef .tc main_v14) = (W (Proc.devRef .tc main_v14)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem k1_21 : after hostOps0_1 W (Proc.devRef .tc main_v21) = (W (Proc.devRef .tc main_v21)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem k1_11 : after hostOps0_1 W (Proc.devRef .tc main_v11) = (W (Proc.devRef .tc main_v11)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem k3_0 : after hostOps0_3 (after hostOps0_2 W) (Proc.devRef .tc main_v0) = (W (Proc.devRef .tc main_v0)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem k3_1 : after hostOps0_3 (after hostOps0_2 W) (Proc.devRef .tc main_v1) = (W (Proc.devRef .tc main_v1)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem k3_14 : after hostOps0_3 (after hostOps0_2 W) (Proc.devRef .tc main_v14) = (W (Proc.devRef .tc main_v14)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem k3_21 : after hostOps0_3 (after hostOps0_2 W) (Proc.devRef .tc main_v21) = (W (Proc.devRef .tc main_v21)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem k3_11 : after hostOps0_3 (after hostOps0_2 W) (Proc.devRef .tc main_v11) = (W (Proc.devRef .tc main_v11)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem k4_0 : after hostOps0_4 W (Proc.devRef .tc main_v0) = (W (Proc.devRef .tc main_v0)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem k4_1 : after hostOps0_4 W (Proc.devRef .tc main_v1) = (W (Proc.devRef .tc main_v1)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem k4_14 : after hostOps0_4 W (Proc.devRef .tc main_v14) = (W (Proc.devRef .tc main_v14)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem k4_21 : after hostOps0_4 W (Proc.devRef .tc main_v21) = (W (Proc.devRef .tc main_v21)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem k4_11 : after hostOps0_4 W (Proc.devRef .tc main_v11) = (W (Proc.devRef .tc main_v11)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem k4_24 : after hostOps0_4 W (Proc.devRef .tc main_v24) = (W (Proc.devRef .tc main_v24)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem k5_0 : after hostOps0_5 W (Proc.devRef .tc main_v0) = (W (Proc.devRef .tc main_v0)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem k5_1 : after hostOps0_5 W (Proc.devRef .tc main_v1) = (W (Proc.devRef .tc main_v1)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem k5_14 : after hostOps0_5 W (Proc.devRef .tc main_v14) = (W (Proc.devRef .tc main_v14)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem k5_21 : after hostOps0_5 W (Proc.devRef .tc main_v21) = (W (Proc.devRef .tc main_v21)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem k5_11 : after hostOps0_5 W (Proc.devRef .tc main_v11) = (W (Proc.devRef .tc main_v11)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem k6_0 : after hostOps0_6 W (Proc.devRef .tc main_v0) = (W (Proc.devRef .tc main_v0)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem k6_1 : after hostOps0_6 W (Proc.devRef .tc main_v1) = (W (Proc.devRef .tc main_v1)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem k6_21 : after hostOps0_6 W (Proc.devRef .tc main_v21) = (W (Proc.devRef .tc main_v21)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem k6_11 : after hostOps0_6 W (Proc.devRef .tc main_v11) = (W (Proc.devRef .tc main_v11)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem k6_26 : after hostOps0_6 W (Proc.devRef .tc main_v26) = (W (Proc.devRef .tc main_v26)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem k8_0 : after hostOps0_8 (after hostOps0_7 W) (Proc.devRef .tc main_v0) = (W (Proc.devRef .tc main_v0)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem k8_1 : after hostOps0_8 (after hostOps0_7 W) (Proc.devRef .tc main_v1) = (W (Proc.devRef .tc main_v1)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem k8_11 : after hostOps0_8 (after hostOps0_7 W) (Proc.devRef .tc main_v11) = (W (Proc.devRef .tc main_v11)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem k9_0 : after hostOps0_9 W (Proc.devRef .tc main_v0) = (W (Proc.devRef .tc main_v0)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl
theorem k9_1 : after hostOps0_9 W (Proc.devRef .tc main_v1) = (W (Proc.devRef .tc main_v1)) := by
  simp only [hostOps0, hostOps0_1, hostOps0_2, hostOps0_3, hostOps0_4, hostOps0_5, hostOps0_6, hostOps0_7, hostOps0_8, hostOps0_9, TRef.ternary, TRef.binary, TRef.nullary, TRef.unary, TRef.toBuf, TRef.ofBuf, cast_eq]
  after_results_simp <;> rfl

variable (m : (ℓ : Loc nD τ sig) → Buf (Elt Ideal) ℓ) (c : Dev nD)

theorem V_eq (b : Ref sig .tc) : V m c b = after hostOps0_9 (after hostOps0_8 (after hostOps0_7 (after hostOps0_6 (after hostOps0_5 (after hostOps0_4 (after hostOps0_3 (after hostOps0_2 (after hostOps0_1 (after hostOps0 (fun b => m (c, b))))))))))) (Proc.devRef .tc b) := by
  show after (List.flatten [hostOps0, hostOps0_1, hostOps0_2, hostOps0_3, hostOps0_4, hostOps0_5, hostOps0_6, hostOps0_7, hostOps0_8, hostOps0_9]) (fun b => m (c, b)) (Proc.devRef .tc b) = _
  simp only [List.flatten_cons, List.flatten_nil, List.append_nil, after_app]

theorem V0_eq : V m c main_v0 = lowA (m (c, Proc.devRef .tc main_arg0)) := by
  rw [V_eq, k9_0, k8_0, k6_0, k5_0, k4_0, k3_0, k1_0, p0_0]
theorem V1_eq : V m c main_v1 = lowB (m (c, Proc.devRef .tc main_arg1)) := by
  rw [V_eq, k9_1, k8_1, k6_1, k5_1, k4_1, k3_1, k1_1, p0_1]

def logA (A : FVec Ideal S8192x3072 .f32) : FVec Ideal S16x8192x8192 .f32 := belowA maskA (Host.negf (softA (Host.negf (Host.negf (scoreA A)))))
def restA (A : FVec Ideal S8192x3072 .f32) : FVec Ideal S16x8192x8192 .f32 :=
  lessA (sumA (logA A)) (logA A)
def weightA (A : FVec Ideal S8192x3072 .f32) : FVec Ideal S16x8192x8192 .f32 := belowA maskA (Host.exp (addf (Host.negf (softA (Host.negf (scoreA A)))) (restA A)))

theorem V33_eq : V m c main_v33 = outA (weightA (m (c, Proc.devRef .tc main_arg0))) (valueA (m (c, Proc.devRef .tc main_arg0))) := by
  rw [V_eq, p9_33, p8_30, k8_11, p6_27, k6_21, k6_11, k6_26, p5_26, k5_14, k5_21, k5_11, p4_25, k4_14, k4_21, k4_11, k4_24, p3_24, k3_14, k3_21, k3_11, p1_23, k1_14, k1_21, k1_11, p0_14, p0_22, p0_11, p0_21]
  rfl

end Cert.Proof.Sb
end
-- ==== Proof.Sb.Pre2.lean ====
module

public import proofs.«01_k».proof.Proof.Sb.Prefix

@[expose] public section

set_option maxRecDepth 65536
set_option maxHeartbeats 400000

noncomputable section

namespace Cert.Proof.Sb

open Idealize.ShloMosaic Idealize.ShloMosaic.TcCoe Idealize.SL.Sem Cert.SbBwdIdeal Cert.SbBwdIdeal.Gen
open scoped BigOperators

theorem dot_mul {n : ℕ} (f g : Fin n → EReal) (a b : ℕ → ℝ) (hf : ∀ x : Fin n, f x = ((a x : ℝ) : EReal)) (hg : ∀ x : Fin n, g x = ((b x : ℝ) : EReal)) :
    ∑ x, f x * g x = ((∑ c ∈ Finset.range n, a c * b c : ℝ) : EReal) :=
  (Finset.sum_congr rfl fun x _ => by rw [hf, hg, ← EReal.coe_mul]).trans (coe_sum_fin n fun c => a c * b c)
theorem lane_hd {l : ℕ} (h : l < 1024) : l / 64 < 16 := by omega

/-- A row's place before another's, read off the words that count them. -/
theorem slt_iota' {s t : ℕ} (hs : s < 8192) (ht : t < 8192) :
    IntOp.cmpi CmpIPredicate.slt (BitVec.ofNat 32 s) (BitVec.ofNat 32 t) = BitVec.ofBool (decide (s < t)) := by
  show BitVec.ofBool ((BitVec.ofNat 32 s).slt (BitVec.ofNat 32 t)) = _
  have e : ∀ n < 8192, (BitVec.ofNat 32 n).toInt = (n : ℤ) := fun n hn => by
    rw [BitVec.toInt_eq_toNat_cond, BitVec.toNat_ofNat, Nat.mod_eq_of_lt (by omega), if_pos (by omega)]
  have h : (BitVec.ofNat 32 s).slt (BitVec.ofNat 32 t) = decide (s < t) := by
    unfold BitVec.slt
    rw [e s hs, e t ht]
    exact decide_eq_decide.mpr Nat.cast_lt
  rw [h]

theorem below_sel {s t : ℕ} (hs : s < 8192) (ht : t < 8192) (x : ℝ) :
    Scalar.select (IntOp.cmpi CmpIPredicate.slt (BitVec.ofNat 32 s) (BitVec.ofNat 32 t)) (x : EReal) (Ideal.ofBits .f32 0x00000000#32) = ((if s < t then x else 0 : ℝ) : EReal) := by
  rw [slt_iota' hs ht, ofBits_zero]
  by_cases h : s < t
  · rw [if_pos h, decide_eq_true h]; rfl
  · rw [if_neg h, decide_eq_false h]; rfl

theorem below_is {A : FVec Ideal S16x8192x8192 .f32} {f : ℕ → ℕ → ℕ → ℝ} (hA : IsA (m := 16) (n := 8192) (k := 8192) A f) :
    IsA (m := 16) (n := 8192) (k := 8192) (belowA maskA A) (fun h t s => if s < t then f h t s else 0) := fun h t s => by
  rw [ix3_eq]; pointwise [belowA, maskA]
  rw [← ix3_eq, hA]
  exact below_sel s.isLt t.isLt _

theorem splA_is {A : FVec Ideal S16x8192x8192 .f32} {f : ℕ → ℕ → ℕ → ℝ} (hA : IsA (m := 16) (n := 8192) (k := 8192) A f) :
    IsA (m := 16) (n := 8192) (k := 8192) (softA A) (fun h t s => spl (f h t s)) := fun h t s => by
  rw [ix3_eq]; pointwise [softA]
  rw [← ix3_eq, hA]
  have e := soft_coe (f h t s) 0 rfl
  rw [sub_zero, add_zero] at e
  exact e

theorem neg_is {A : FVec Ideal S16x8192x8192 .f32} {f : ℕ → ℕ → ℕ → ℝ} (hA : IsA (m := 16) (n := 8192) (k := 8192) A f) :
    IsA (m := 16) (n := 8192) (k := 8192) (Host.negf A) (fun h t s => -f h t s) := fun h t s => by
  show -(A (ValueIdx.ix3 h t s)) = _
  rw [hA, EReal.coe_neg]

variable {A : FVec Ideal S8192x3072 .f32} {X : ℕ → ℕ → ℝ} (hX : IsM (n := 8192) (k := 3072) A X)
include hX

theorem score_is : IsA (m := 16) (n := 8192) (k := 8192) (scoreA A) (zz X) := fun h t s => by
  rw [ix3_eq]; pointwise [scoreA]
  refine (congrArg₂ (· * ·) ((Finset.sum_congr rfl fun x _ => ?_).trans (coe_sum_fin 64 fun c => X t (h * 64 + c) * X s (1024 + h * 64 + c))) ofBits_eighth).trans (EReal.coe_mul _ _).symm
  rw [← ix2_eq, ← ix2_eq, hX, hX, ← EReal.coe_mul]

theorem value_is : IsA (m := 16) (n := 8192) (k := 64) (valueA A) (fun h t c => X t (2048 + h * 64 + c)) := fun h t c => by
  rw [ix3_eq]; pointwise [valueA]; exact hX _ _

theorem log_is : IsA (m := 16) (n := 8192) (k := 8192) (logA A) (fun h t s => if s < t then lsn (zz X h t s) else 0) := fun h t s => by
  refine (below_is (neg_is (splA_is (neg_is (neg_is (score_is hX))))) h t s).trans (congrArg (fun y : ℝ => (y : EReal)) ?_)
  show (if s.val < t.val then -spl (- -zz X h t s) else 0) = if s.val < t.val then lsn (zz X h t s) else 0
  rw [neg_neg, ← lsn_eq]

theorem weight_is : IsA (m := 16) (n := 8192) (k := 8192) (weightA A) (fun h t s => if s < t then wf X h t s else 0) := below_is fun h t s => by
  have e1 := log_is hX h t s
  have e2 : sumA (logA A) (ValueIdx.ix3 h t s) = _ := sufSum _ (log_is hX) _ (fun i => ofBits_zero) _ _ h t s
  have e3 : _ = ((-spl (-zz X h t s) : ℝ) : EReal) := neg_is (splA_is (neg_is (score_is hX))) h t s
  show Ideal.exp (Host.negf (softA (Host.negf (scoreA A))) (ValueIdx.ix3 h t s) + (sumA (logA A) (ValueIdx.ix3 h t s) - logA A (ValueIdx.ix3 h t s))) = _
  rw [e1, e2, e3, ← EReal.coe_sub, suf_mask (fun u => lsn (zz X h t u)) t s t.isLt s.isLt, ← EReal.coe_add, ← lsp_eq]
  rfl

theorem out_is' (t : Fin 8192) (l : Fin 1024) : outA (weightA A) (valueA A) (ix2 t l) = ((of X t (l.val / 64) (l.val % 64) : ℝ) : EReal) := by
  generalize hy : ((of X t (l.val / 64) (l.val % 64) : ℝ) : EReal) = y
  pointwise [outA]
  refine Eq.trans ?_ hy
  exact dot_mul _ _ (fun s => if s < t.val then wf X (l.val / 64) t s else 0) (fun s => X s (2048 + l.val / 64 * 64 + l.val % 64)) (fun x => weight_is hX ⟨l.val / 64, lane_hd l.isLt⟩ t x) (fun x => value_is hX ⟨l.val / 64, lane_hd l.isLt⟩ x ⟨l.val % 64, Nat.mod_lt _ (by decide)⟩)

theorem out_is : IsM (n := 8192) (k := 1024) (outA (weightA A) (valueA A)) (fun t l => of X t (l / 64) (l % 64)) := fun t l => out_is' hX t l

end Cert.Proof.Sb
end
-- ==== Proof.Sb.Ref.lean ====
module

public import proofs.«01_k».proof.Proof.Sb.Global
public import proofs.«01_k».proof.Proof.Gen.SbBwdRefIdeal.Run
public import Idealize.ShloMosaic.Lib.Pointwise

@[expose] public section

set_option maxRecDepth 65536
set_option maxHeartbeats 400000

noncomputable section

namespace Cert.Proof.Sb

open Idealize.ShloMosaic Idealize.ShloMosaic.TcCoe Idealize.SL.Sem Cert.SbBwdRefIdeal Cert.SbBwdRefIdeal.Value
open scoped BigOperators

/-- A row's place before another's, read off the words that count them. -/
theorem slt_iota {s t : ℕ} (hs : s < 8192) (ht : t < 8192) :
    IntOp.cmpi CmpIPredicate.slt (BitVec.ofNat 32 s) (BitVec.ofNat 32 t) = BitVec.ofBool (decide (s < t)) := by
  show BitVec.ofBool ((BitVec.ofNat 32 s).slt (BitVec.ofNat 32 t)) = _
  have e : ∀ n < 8192, (BitVec.ofNat 32 n).toInt = (n : ℤ) := fun n hn => by
    rw [BitVec.toInt_eq_toNat_cond, BitVec.toNat_ofNat, Nat.mod_eq_of_lt (by omega), if_pos (by omega)]
  have h : (BitVec.ofNat 32 s).slt (BitVec.ofNat 32 t) = decide (s < t) := by
    unfold BitVec.slt
    rw [e s hs, e t ht]
    exact decide_eq_decide.mpr Nat.cast_lt
  rw [h]

theorem sel_slt {s t : ℕ} (hs : s < 8192) (ht : t < 8192) (x y : EReal) :
    Scalar.select (IntOp.cmpi CmpIPredicate.slt (BitVec.ofNat 32 s) (BitVec.ofNat 32 t)) x y = if s < t then x else y := by
  rw [slt_iota hs ht]
  by_cases h : s < t
  · rw [if_pos h, decide_eq_true h]; rfl
  · rw [if_neg h, decide_eq_false h]; rfl

theorem coe_ite (p : Prop) [Decidable p] (x y : ℝ) : (if p then (x : EReal) else (y : EReal)) = ((if p then x else y : ℝ) : EReal) := by
  by_cases h : p <;> simp only [h, if_true, if_false]

theorem sum_mul {n : ℕ} (f g : Fin n → EReal) (a b : ℕ → ℝ) (hf : ∀ x : Fin n, f x = ((a x : ℝ) : EReal)) (hg : ∀ x : Fin n, g x = ((b x : ℝ) : EReal)) :
    ∑ x, f x * g x = ((∑ c ∈ Finset.range n, a c * b c : ℝ) : EReal) :=
  (Finset.sum_congr rfl fun x _ => by rw [hf, hg, ← EReal.coe_mul]).trans (coe_sum_fin n fun c => a c * b c)
theorem coe_ite0 (p : Prop) [Decidable p] (x : ℝ) : (if p then (x : EReal) else 0) = ((if p then x else 0 : ℝ) : EReal) := coe_ite p x 0
theorem Ideal_exp_coe (x : ℝ) : Ideal.exp (x : EReal) = ((Real.exp x : ℝ) : EReal) := rfl

theorem init0 : ∀ i, broadcastInDim S_ ![] Gen.bcast_S_S_ (constant (F := Ideal) S_ FTy.f32 0#32) i = 0 := fun i => ofBits_zero

variable (V0 : Valuation τ sig (Elt Ideal)) {X G : ℕ → ℕ → ℝ}
  (hX : IsM (n := 8192) (k := 3072) (V0 (Proc.devRef .tc main_arg0)) X) (hG : IsM (n := 8192) (k := 1024) (V0 (Proc.devRef .tc main_arg1)) G)

section
include hX
theorem r3 : IsA (m := 16) (n := 8192) (k := 64) (res_main_v3 V0) (fun h t c => X t (h * 64 + c)) := fun h t c => by
  rw [ix3_eq]; pointwise [res_main_v3, res_main_v0]; exact hX _ _
theorem r6 : IsA (m := 16) (n := 8192) (k := 64) (res_main_v6 V0) (fun h t c => X t (1024 + h * 64 + c)) := fun h t c => by
  rw [ix3_eq]; pointwise [res_main_v6, res_main_v0]; exact hX _ _
theorem r9 : IsA (m := 16) (n := 8192) (k := 64) (res_main_v9 V0) (fun h t c => X t (2048 + h * 64 + c)) := fun h t c => by
  rw [ix3_eq]; pointwise [res_main_v9, res_main_v0]; exact hX _ _

theorem r12 : IsA (m := 16) (n := 8192) (k := 8192) (res_main_v12 V0) (zz X) := fun h t s => by
  rw [ix3_eq]; pointwise [res_main_v12]
  refine (congrArg₂ (· * ·) ((Finset.sum_congr rfl fun x _ => ?_).trans (coe_sum_fin 64 fun c => X t (h * 64 + c) * X s (1024 + h * 64 + c))) ofBits_eighth).trans (EReal.coe_mul _ _).symm
  rw [← ix3_eq, ← ix3_eq, r3 V0 hX, r6 V0 hX, ← EReal.coe_mul]

theorem c0 : IsA (m := 16) (n := 8192) (k := 8192) (res_main_call0_v0 V0) (zz X) := fun h t s => by
  rw [ix3_eq]; pointwise [res_main_call0_v0]
  rw [← ix3_eq, r12 V0 hX, neg_neg]
theorem c3 : IsA (m := 16) (n := 8192) (k := 8192) (res_main_call3_v0 V0) (fun h t s => -zz X h t s) := fun h t s => by
  rw [ix3_eq]; pointwise [res_main_call3_v0]
  rw [← ix3_eq, r12 V0 hX, EReal.coe_neg]

theorem c0s : IsA (m := 16) (n := 8192) (k := 8192) (res_main_call0_v1_0 V0) (fun h t s => spl (zz X h t s)) := fun h t s => by
  rw [ix3_eq]; pointwise [res_main_call0_v1_0, res_main_call0_call0_v3]
  rw [← ix3_eq, c0 V0 hX]
  exact soft_coe _ _ ofBits_zero
theorem c3s : IsA (m := 16) (n := 8192) (k := 8192) (res_main_call3_v1_0 V0) (fun h t s => spl (-zz X h t s)) := fun h t s => by
  rw [ix3_eq]; pointwise [res_main_call3_v1_0, res_main_call3_call0_v3]
  rw [← ix3_eq, c3 V0 hX]
  exact soft_coe _ _ ofBits_zero

theorem r22 : IsA (m := 16) (n := 8192) (k := 8192) (res_main_v22_0 V0) (fun h t s => if s < t then lsn (zz X h t s) else 0) := fun h t s => by
  rw [ix3_eq]; pointwise [res_main_v22_0, res_main_v22_1, res_main_v19]
  rw [sel_slt s.isLt t.isLt, ← ix3_eq, c0s V0 hX, ← EReal.coe_neg, ← lsn_eq]
  exact (congrArg (fun y : EReal => if s.val < t.val then _ else y) ofBits_zero).trans (coe_ite _ _ _)

theorem r27 : IsA (m := 16) (n := 8192) (k := 8192) (res_main_v27 V0) (wf X) := fun h t s => by
  rw [ix3_eq]; pointwise [res_main_v27]
  rw [← ix3_eq, sufSum _ (r22 V0 hX) _ init0 _ _ h t s, r22 V0 hX, c3s V0 hX, ← EReal.coe_neg, ← lsp_eq, ← EReal.coe_sub, suf_mask (fun u => lsn (zz X h t u)) t s t.isLt s.isLt, ← EReal.coe_add]
  rfl
theorem r28 : IsA (m := 16) (n := 8192) (k := 8192) (res_main_v28_0 V0) (fun h t s => if s < t then wf X h t s else 0) := fun h t s => by
  rw [ix3_eq]; pointwise [res_main_v28_0, res_main_v28_1, res_main_v19]
  rw [sel_slt s.isLt t.isLt, ← ix3_eq, r27 V0 hX]
  exact (congrArg (fun y : EReal => if s.val < t.val then _ else y) ofBits_zero).trans (coe_ite _ _ _)
end

section
include hG
theorem r33 : IsA (m := 16) (n := 8192) (k := 64) (res_main_v33 V0) (fun h t c => G t (h * 64 + c)) := fun h t c => by
  rw [ix3_eq]; pointwise [res_main_v33]; exact hG _ _
end

theorem inf_ne (x : ℝ) : ¬ ((x : EReal) = Ideal.ofBits FTy.f32 2139095040#32) := by
  rw [show Ideal.ofBits FTy.f32 2139095040#32 = ⊤ from by simp [Ideal.ofBits, Ideal.ieee]]
  exact EReal.coe_ne_top x

section
include hX hG
theorem r38 : IsA (m := 16) (n := 8192) (k := 8192) (res_main_v38 V0) (fun h t s => if s < t then ef X G h t s else 0) := fun h t s => by
  rw [ix3_eq]; pointwise [res_main_v38, res_main_v28_1, res_main_v19]
  have e := sum_mul (fun x : Fin 64 => res_main_v33 V0 (ix3 h t x)) (fun x : Fin 64 => res_main_v9 V0 (ix3 h s x)) (fun c => G t (h * 64 + c)) (fun c => X s (2048 + h * 64 + c))
    (fun x => r33 V0 hG h t x) (fun x => r9 V0 hX h s x)
  rw [sel_slt s.isLt t.isLt]
  refine (congrArg (fun y : EReal => if s.val < t.val then y * res_main_v27 V0 (ix3 h t s) else 0) e).trans ?_
  rw [← ix3_eq, r27 V0 hX, ← EReal.coe_mul]
  exact coe_ite0 _ _

theorem r48 : IsA (m := 16) (n := 8192) (k := 8192) (res_main_v48 V0) (fun h t s => (if s < t then zf X G h t s else 0) * (1 / 8)) := fun h t s => by
  rw [ix3_eq]; pointwise [res_main_v48, res_main_v22_1, res_main_v19]
  rw [sel_slt s.isLt t.isLt, ← ix3_eq, preSum _ _ rfl (r38 V0 hX hG) _ init0 _ _ h t s, r38 V0 hX hG, c0 V0 hX, c0s V0 hX, c3 V0 hX, c3s V0 hX,
    if_neg (inf_ne _), if_neg (inf_ne _), if_neg (inf_ne _), if_neg (inf_ne _), ofBits_eighth, ← zf_ref X G h t s]
  simp only [← EReal.coe_neg, ← EReal.coe_sub, ← EReal.coe_add, coe_ite0, Ideal_exp_coe, ← EReal.coe_mul]

end

end Cert.Proof.Sb
end
-- ==== Proof.Sb.Ref2.lean ====
module

public import proofs.«01_k».proof.Proof.Sb.Ref
public import proofs.«01_k».proof.Proof.Gen.SbBwdRefIdeal.Run
public import Idealize.ShloMosaic.Lib.Pointwise

@[expose] public section

set_option maxRecDepth 65536
set_option maxHeartbeats 400000

noncomputable section

namespace Cert.Proof.Sb

open Idealize.ShloMosaic Idealize.ShloMosaic.TcCoe Idealize.SL.Sem Cert.SbBwdRefIdeal Cert.SbBwdRefIdeal.Value
open scoped BigOperators

/-- Of three places side by side, each 1024 lanes, a lane is in one. -/
theorem lane0 {L : ℕ} (a : (2 ≤ L / 1024 ∧ L / 1024 - 2 < 1) ∧ L / 64 % 16 < 16 ∧ L % 64 < 64 → EReal) (b : (1 ≤ L / 1024 ∧ L / 1024 - 1 < 1) ∧ L / 64 % 16 < 16 ∧ L % 64 < 64 → EReal) (c : L / 1024 < 1 ∧ L / 64 % 16 < 16 ∧ L % 64 < 64 → EReal) (y : EReal)
    (hl : 0 ≤ L ∧ L < 1024) (hc : ∀ h, c h = y) :
    ((if h : (2 ≤ L / 1024 ∧ L / 1024 - 2 < 1) ∧ L / 64 % 16 < 16 ∧ L % 64 < 64 then a h else 0) + (if h : (1 ≤ L / 1024 ∧ L / 1024 - 1 < 1) ∧ L / 64 % 16 < 16 ∧ L % 64 < 64 then b h else 0)) + (if h : L / 1024 < 1 ∧ L / 64 % 16 < 16 ∧ L % 64 < 64 then c h else 0) = y := by
  have h2 : L / 1024 < 1 ∧ L / 64 % 16 < 16 ∧ L % 64 < 64 := by omega
  have h1 : ¬ ((1 ≤ L / 1024 ∧ L / 1024 - 1 < 1) ∧ L / 64 % 16 < 16 ∧ L % 64 < 64) := by omega
  have h0 : ¬ ((2 ≤ L / 1024 ∧ L / 1024 - 2 < 1) ∧ L / 64 % 16 < 16 ∧ L % 64 < 64) := by omega
  rw [dif_neg h0, dif_neg h1, dif_pos h2, hc]
  simp only [zero_add, add_zero]

theorem lane1 {L : ℕ} (a : (2 ≤ L / 1024 ∧ L / 1024 - 2 < 1) ∧ L / 64 % 16 < 16 ∧ L % 64 < 64 → EReal) (b : (1 ≤ L / 1024 ∧ L / 1024 - 1 < 1) ∧ L / 64 % 16 < 16 ∧ L % 64 < 64 → EReal) (c : L / 1024 < 1 ∧ L / 64 % 16 < 16 ∧ L % 64 < 64 → EReal) (y : EReal)
    (hl : 1024 ≤ L ∧ L < 2048) (hc : ∀ h, b h = y) :
    ((if h : (2 ≤ L / 1024 ∧ L / 1024 - 2 < 1) ∧ L / 64 % 16 < 16 ∧ L % 64 < 64 then a h else 0) + (if h : (1 ≤ L / 1024 ∧ L / 1024 - 1 < 1) ∧ L / 64 % 16 < 16 ∧ L % 64 < 64 then b h else 0)) + (if h : L / 1024 < 1 ∧ L / 64 % 16 < 16 ∧ L % 64 < 64 then c h else 0) = y := by
  have h2 : ¬ (L / 1024 < 1 ∧ L / 64 % 16 < 16 ∧ L % 64 < 64) := by omega
  have h1 : (1 ≤ L / 1024 ∧ L / 1024 - 1 < 1) ∧ L / 64 % 16 < 16 ∧ L % 64 < 64 := by omega
  have h0 : ¬ ((2 ≤ L / 1024 ∧ L / 1024 - 2 < 1) ∧ L / 64 % 16 < 16 ∧ L % 64 < 64) := by omega
  rw [dif_neg h0, dif_pos h1, dif_neg h2, hc]
  simp only [zero_add, add_zero]

theorem lane2 {L : ℕ} (a : (2 ≤ L / 1024 ∧ L / 1024 - 2 < 1) ∧ L / 64 % 16 < 16 ∧ L % 64 < 64 → EReal) (b : (1 ≤ L / 1024 ∧ L / 1024 - 1 < 1) ∧ L / 64 % 16 < 16 ∧ L % 64 < 64 → EReal) (c : L / 1024 < 1 ∧ L / 64 % 16 < 16 ∧ L % 64 < 64 → EReal) (y : EReal)
    (hl : 2048 ≤ L ∧ L < 3072) (hc : ∀ h, a h = y) :
    ((if h : (2 ≤ L / 1024 ∧ L / 1024 - 2 < 1) ∧ L / 64 % 16 < 16 ∧ L % 64 < 64 then a h else 0) + (if h : (1 ≤ L / 1024 ∧ L / 1024 - 1 < 1) ∧ L / 64 % 16 < 16 ∧ L % 64 < 64 then b h else 0)) + (if h : L / 1024 < 1 ∧ L / 64 % 16 < 16 ∧ L % 64 < 64 then c h else 0) = y := by
  have h2 : ¬ (L / 1024 < 1 ∧ L / 64 % 16 < 16 ∧ L % 64 < 64) := by omega
  have h1 : ¬ ((1 ≤ L / 1024 ∧ L / 1024 - 1 < 1) ∧ L / 64 % 16 < 16 ∧ L % 64 < 64) := by omega
  have h0 : (2 ≤ L / 1024 ∧ L / 1024 - 2 < 1) ∧ L / 64 % 16 < 16 ∧ L % 64 < 64 := by omega
  rw [dif_pos h0, dif_neg h1, dif_neg h2, hc]
  simp only [zero_add, add_zero]

theorem at0 {l : ℕ} (h : l < 1024) : l / 64 % 16 = l / 64 := by omega
theorem at1 {l : ℕ} (h : l < 1024) : (1024 + l) / 64 % 16 = l / 64 ∧ (1024 + l) % 64 = l % 64 := by omega
theorem at2 {l : ℕ} (h : l < 1024) : (2048 + l) / 64 % 16 = l / 64 ∧ (2048 + l) % 64 = l % 64 := by omega
theorem in0 {l : ℕ} (h : l < 1024) : 0 ≤ l ∧ l < 1024 := by omega
theorem in1 {l : ℕ} (h : l < 1024) : 1024 ≤ 1024 + l ∧ 1024 + l < 2048 := by omega
theorem in2 {l : ℕ} (h : l < 1024) : 2048 ≤ 2048 + l ∧ 2048 + l < 3072 := by omega

variable (V0 : Valuation τ sig (Elt Ideal)) {X G : ℕ → ℕ → ℝ}
  (hX : IsM (n := 8192) (k := 3072) (V0 (Proc.devRef .tc main_arg0)) X) (hG : IsM (n := 8192) (k := 1024) (V0 (Proc.devRef .tc main_arg1)) G)
include hX hG

theorem R64' (t : Fin 8192) (l : Fin 1024) :
    truncf (F := Ideal) .bf16 (extractStridedSlice S8192x1024 ![0, 0] (res_main_v62 V0) Gen.slices_S8192x3072_S8192x1024_0_0) Gen.bitsLt_bf16_f32 (ix2 t l)
      = ((qf X G t (l.val / 64 % 16) (l.val % 64) : ℝ) : EReal) := by
  generalize hy : ((qf X G t (l.val / 64 % 16) (l.val % 64) : ℝ) : EReal) = y
  pointwise [res_main_v62]
  refine lane0 _ _ _ y (in0 l.isLt) fun h => ?_
  refine Eq.trans ?_ hy
  exact sum_mul _ _ (fun s => (if s < t.val then zf X G (l.val / 64 % 16) t s else 0) * (1 / 8)) (fun s => X s (1024 + (l.val / 64 % 16) * 64 + l.val % 64)) (fun x => r48 V0 hX hG ⟨_, h.2.1⟩ t x) (fun x => r6 V0 hX ⟨_, h.2.1⟩ x ⟨_, h.2.2⟩)

theorem R66' (t : Fin 8192) (l : Fin 1024) :
    truncf (F := Ideal) .bf16 (extractStridedSlice S8192x1024 ![0, 1024] (res_main_v62 V0) Gen.slices_S8192x3072_S8192x1024_0_1024) Gen.bitsLt_bf16_f32 (ix2 t l)
      = ((kf X G t ((1024 + l.val) / 64 % 16) ((1024 + l.val) % 64) : ℝ) : EReal) := by
  generalize hy : ((kf X G t ((1024 + l.val) / 64 % 16) ((1024 + l.val) % 64) : ℝ) : EReal) = y
  pointwise [res_main_v62]
  refine lane1 _ _ _ y (in1 l.isLt) fun h => ?_
  refine Eq.trans ?_ hy
  exact sum_mul _ _ (fun s => (if t.val < s then zf X G ((1024 + l.val) / 64 % 16) s t else 0) * (1 / 8)) (fun s => X s (((1024 + l.val) / 64 % 16) * 64 + (1024 + l.val) % 64)) (fun x => r48 V0 hX hG ⟨_, h.2.1⟩ x t) (fun x => r3 V0 hX ⟨_, h.2.1⟩ x ⟨_, h.2.2⟩)

theorem R68' (t : Fin 8192) (l : Fin 1024) :
    truncf (F := Ideal) .bf16 (extractStridedSlice S8192x1024 ![0, 2048] (res_main_v62 V0) Gen.slices_S8192x3072_S8192x1024_0_2048) Gen.bitsLt_bf16_f32 (ix2 t l)
      = ((vf X G t ((2048 + l.val) / 64 % 16) ((2048 + l.val) % 64) : ℝ) : EReal) := by
  generalize hy : ((vf X G t ((2048 + l.val) / 64 % 16) ((2048 + l.val) % 64) : ℝ) : EReal) = y
  pointwise [res_main_v62]
  refine lane2 _ _ _ y (in2 l.isLt) fun h => ?_
  refine Eq.trans ?_ hy
  exact sum_mul _ _ (fun s => G s (((2048 + l.val) / 64 % 16) * 64 + (2048 + l.val) % 64)) (fun s => if t.val < s then wf X ((2048 + l.val) / 64 % 16) s t else 0) (fun x => r33 V0 hG ⟨_, h.2.1⟩ x ⟨_, h.2.2⟩) (fun x => r28 V0 hX ⟨_, h.2.1⟩ x t)

/-- The reference's three results. -/
theorem R64 : IsM (n := 8192) (k := 1024)
    (truncf (F := Ideal) .bf16 (extractStridedSlice S8192x1024 ![0, 0] (res_main_v62 V0) Gen.slices_S8192x3072_S8192x1024_0_0) Gen.bitsLt_bf16_f32)
    (fun t l => qf X G t (l / 64) (l % 64)) := fun t l =>
  (R64' V0 hX hG t l).trans (congrArg (fun a => ((qf X G t a (l.val % 64) : ℝ) : EReal)) (at0 l.isLt))

theorem R66 : IsM (n := 8192) (k := 1024)
    (truncf (F := Ideal) .bf16 (extractStridedSlice S8192x1024 ![0, 1024] (res_main_v62 V0) Gen.slices_S8192x3072_S8192x1024_0_1024) Gen.bitsLt_bf16_f32)
    (fun t l => kf X G t (l / 64) (l % 64)) := fun t l =>
  (R66' V0 hX hG t l).trans (congrArg₂ (fun a b => ((kf X G t a b : ℝ) : EReal)) (at1 l.isLt).1 (at1 l.isLt).2)

theorem R68 : IsM (n := 8192) (k := 1024)
    (truncf (F := Ideal) .bf16 (extractStridedSlice S8192x1024 ![0, 2048] (res_main_v62 V0) Gen.slices_S8192x3072_S8192x1024_0_2048) Gen.bitsLt_bf16_f32)
    (fun t l => vf X G t (l / 64) (l % 64)) := fun t l =>
  (R68' V0 hX hG t l).trans (congrArg₂ (fun a b => ((vf X G t a b : ℝ) : EReal)) (at2 l.isLt).1 (at2 l.isLt).2)

end Cert.Proof.Sb
end
-- ==== Proof.Sb.Value.lean ====
module

public import proofs.«01_k».proof.Defs
public import proofs.«01_k».proof.Proof.Sb.Fin
public import proofs.«01_k».proof.Proof.Sb.Frames
public import proofs.«01_k».proof.Proof.Sb.Ident
public import proofs.«01_k».proof.Proof.Sb.Pre2
public import proofs.«01_k».proof.Proof.Sb.Ref2

@[expose] public section

set_option maxRecDepth 65536

noncomputable section

namespace Cert.Proof.Sb

open Idealize.ShloMosaic Idealize.ShloMosaic.TcCoe Idealize.SL.Sem

section
open Cert.SbBwdIdeal Cert.SbBwdIdeal.Gen

variable (m : (ℓ : Loc nD τ sig) → Buf (Elt Ideal) ℓ) (ρ : Dev nD → PrngReg)

/-- What a run of the kernel leaves. -/
theorem run_arrays : θ_run defs (onTc (τ := τ) (main (F := Ideal))) ⟨m, fun _ => 0, ρ⟩ (fun r => ∀ c : Dev nD,
    r.2.mem ((c.tc : Thread nD τ).loc main_v34_0) = (dats m 0 c).arrAt 5 cfg0.N
    ∧ r.2.mem ((c.tc : Thread nD τ).loc main_v34_1) = (dats m 0 c).arrAt 6 cfg0.N
    ∧ r.2.mem ((c.tc : Thread nD τ).loc main_v34_2) = (dats m 0 c).arrAt 7 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨(h c).1 5, (h c).1 6, (h c).1 7,
    ((h c).2 main_arg0 (Pipeline.mem_restRefs_of main_arg0 (by decide) (by decide))).trans (V_main_arg0 m c),
    ((h c).2 main_arg1 (Pipeline.mem_restRefs_of main_arg1 (by decide) (by decide))).trans (V_main_arg1 m c)⟩) (run_main m ρ)

variable (c : Dev nD) {X G : ℕ → ℕ → ℝ} (hX : IsM (n := 8192) (k := 3072) (m (c, Proc.devRef .tc main_arg0)) X)
  (hG : IsM (n := 8192) (k := 1024) (m (c, Proc.devRef .tc main_arg1)) G)
include hX hG

theorem in_v0 : IsM (n := 8192) (k := 3072) (V m c main_v0) X := by
  rw [V0_eq]; exact hX
theorem in_v1 : IsM (n := 8192) (k := 1024) (V m c main_v1) G := by
  rw [V1_eq]; exact hG
theorem in_v33 : IsM (n := 8192) (k := 1024) (V m c main_v33) (ol X) := by
  rw [V33_eq]; exact out_is hX

theorem out5 : IsM (n := 8192) (k := 1024) ((dats m 0 c).arrAt 5 cfg0.N) (fun t l => qf X G t (l / 64) (l % 64)) :=
  IsM.congr (arr5 m c (in_v0 m c hX hG) (in_v0 m c hX hG) (in_v0 m c hX hG) (in_v1 m c hX hG) (in_v33 m c hX hG)) fun t ht l hl => dq_eq X G t l ht hl
theorem out6 : IsM (n := 8192) (k := 1024) ((dats m 0 c).arrAt 6 cfg0.N) (fun t l => kf X G t (l / 64) (l % 64)) :=
  IsM.congr (arr6 m c (in_v0 m c hX hG) (in_v0 m c hX hG) (in_v0 m c hX hG) (in_v1 m c hX hG) (in_v33 m c hX hG)) fun t ht l hl => dk_eq X G t l hl
theorem out7 : IsM (n := 8192) (k := 1024) ((dats m 0 c).arrAt 7 cfg0.N) (fun t l => vf X G t (l / 64) (l % 64)) :=
  IsM.congr (arr7 m c (in_v0 m c hX hG) (in_v0 m c hX hG) (in_v0 m c hX hG) (in_v1 m c hX hG) (in_v33 m c hX hG)) fun t ht l hl => dv_eq X G t l hl

end

section
attribute [local instance] finite_facts

/-- Kernel and reference leave the same three gradients. -/
theorem algebraic : Cert.algebraic_SbBwdIdeal_SbBwdRefIdeal_pre_finite (hPre_finite := finite_facts) := by
  intro m ρ m' ρ' hpre hagree
  refine ⟨_, _, _, run_arrays m ρ, ?_⟩
  refine (θ_run Cert.SbBwdRefIdeal.defs _ _).mono (fun _ h c => ?_) (Cert.SbBwdRefIdeal.Value.run (F := Ideal) m' ρ')
  have hX := fin0 _ _ (hpre c).1
  have hG := fin1 _ _ (hpre c).2
  have hX' : IsM (n := 8192) (k := 3072) (StableHlo.launchContents m' c (Proc.devRef .tc Cert.SbBwdRefIdeal.main_arg0)) _ :=
    fun r l => (congrFun (hagree c).1 (ix2 r l)).trans (hX r l)
  have hG' : IsM (n := 8192) (k := 1024) (StableHlo.launchContents m' c (Proc.devRef .tc Cert.SbBwdRefIdeal.main_arg1)) _ :=
    fun r l => (congrFun (hagree c).2 (ix2 r l)).trans (hG r l)
  exact ⟨(h c).1.trans (IsM.eq (R64 _ hX' hG') (out5 m c hX hG)), (h c).2.1.trans (IsM.eq (R66 _ hX' hG') (out6 m c hX hG)),
    (h c).2.2.1.trans (IsM.eq (R68 _ hX' hG') (out7 m c hX hG)), (h c).2.2.2⟩

/-- The kernel ends within the precondition too; -/
theorem frame_ideal_finite : Cert.quiescent_SbBwdIdeal_pre_finite (hPre_finite := finite_facts) := fun m ρ _ => frame (F := Ideal) m ρ

/-- and so does the reference. -/
theorem reference_frame_finite : Cert.quiescent_SbBwdRefIdeal_pre_finite (hPre_finite := finite_facts) := fun m ρ _ =>
  (θ_run Cert.SbBwdRefIdeal.defs _ _).mono (fun r h => ⟨fun c => (h c).2.2.2, sem_eq_zero_of_no_sems (by decide) r.2⟩)
    (Cert.SbBwdRefIdeal.Value.run (F := Ideal) m ρ)

end

end Cert.Proof.Sb
end
-- ==== Proof.Ad.Entry.lean ====
module

public import Idealize.ShloMosaic.Lib.Pointwise

@[expose] public section

/-! # The optimiser's step at one entry -/

noncomputable section

namespace Cert.Proof.Ad

open Idealize.ShloMosaic

/-- The new first moment, the new second moment and the change of a weight, from the weight, its gradient and its moments. -/
def newM (g m : EReal) : EReal := Ideal.ofBits FTy.f32 0x3F666666#32 * m + Ideal.ofBits FTy.f32 0x3DCCCCCD#32 * g
def newV (g v : EReal) : EReal := Ideal.ofBits FTy.f32 0x3F7FBE77#32 * v + Ideal.ofBits FTy.f32 0x3A83126F#32 * (g * g)
def delta (w g m v : EReal) : EReal :=
  Ideal.ofBits FTy.f32 0xBA83126F#32
    * (FloatOps.divf (F := Ideal) (φ := .f32) (FloatOps.divf (F := Ideal) (φ := .f32) (newM g m) (Ideal.ofBits FTy.f32 0x3F26BD02#32))
        (FloatOps.sqrt (F := Ideal) (φ := .f32) (FloatOps.divf (F := Ideal) (φ := .f32) (newV g v) (Ideal.ofBits FTy.f32 0x3C231ACC#32)) + Ideal.ofBits FTy.f32 0x322BCC77#32)
      + Ideal.ofBits FTy.f32 0x3C23D70A#32 * w)

/-- The entry of an array by its row and lane, zero outside. -/
def at2 {n k : ℕ} (A : (⟨2, ![n, k]⟩ : Shape).Idx → EReal) (r l : ℕ) : EReal := if h : r < n ∧ l < k then A (ix2 ⟨r, h.1⟩ ⟨l, h.2⟩) else 0

theorem at2_idx {n k : ℕ} (A : (⟨2, ![n, k]⟩ : Shape).Idx → EReal) (y : (⟨2, ![n, k]⟩ : Shape).Idx) : at2 A (y 0).val (y 1).val = A y := by
  unfold at2
  rw [dif_pos ⟨(y 0).isLt, (y 1).isLt⟩]
  congr 1
  funext a
  match a with
  | ⟨0, _⟩ => rfl
  | ⟨1, _⟩ => rfl

theorem at2_eq {n k : ℕ} (A : (⟨2, ![n, k]⟩ : Shape).Idx → EReal) (r l : ℕ) (hr : r < n) (hl : l < k) : A (ix2 ⟨r, hr⟩ ⟨l, hl⟩) = at2 A r l := by
  unfold at2
  rw [dif_pos ⟨hr, hl⟩]

end Cert.Proof.Ad

end
-- ==== Proof.Ad.AdQkv.lean ====
module

public import proofs.«01_k».proof.Defs
public import proofs.«01_k».proof.Proof.Ad.Entry
public import proofs.«01_k».proof.Proof.Gen.AdQkvIdeal.Value
public import proofs.«01_k».proof.Proof.Gen.AdQkvRefIdeal.Run
public import Idealize.ShloMosaic.Lib.Pipeline.ValueKit
public import Idealize.ShloMosaic.Lib.Pipeline.ReadBack
public import Idealize.ShloMosaic.Lib.Pointwise

@[expose] public section

/-! # The optimiser's call on an array of 2048 rows and 384 lanes

A grid point takes 512 rows of the weight, of its gradient and of its two moments, and leaves the same rows of the three
results. -/

set_option maxRecDepth 16384

noncomputable section

namespace Cert.Proof.AdQkv

open Idealize.ShloMosaic Idealize.ShloMosaic.TcCoe Idealize.SL.Sem Cert.AdQkvIdeal Cert.AdQkvIdeal.Gen Cert.AdQkvIdeal.Value Cert.Proof.Ad

variable (m : (ℓ : Loc nD τ sig) → Buf (Elt Ideal) ℓ) (c : Dev nD)

/-- The blocks that the windows name at a grid point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

theorem idx_lt (t : Fin cfg0.N) : t.val < 4 := t.isLt

/-- The weight, its gradient and its two moments, as the call takes them. -/
abbrev I0 : FVec Ideal S2048x384 .f32 := V m c (Pipeline.arrRef spec0 0)
abbrev I1 : FVec Ideal S2048x384 .f32 := V m c (Pipeline.arrRef spec0 1)
abbrev I2 : FVec Ideal S2048x384 .f32 := V m c (Pipeline.arrRef spec0 2)
abbrev I3 : FVec Ideal S2048x384 .f32 := V m c (Pipeline.arrRef spec0 3)

/-- A block's entry is the array's, at the block's own rows. -/
theorem blk0 (t : Fin cfg0.N) (r : Fin 512) (l : Fin 384) : iblk m c 0 t (ix2 r l) = at2 (I0 m c) (t.val * 512 + r.val) (0 * 384 + l.val) := by
  have ht := idx_lt t
  have e := (idx t).1
  refine Eq.trans ?_ (at2_eq (I0 m c) _ _ (by omega) (by omega))
  unfold iblk
  blk_ext! [e]

theorem ld0 (t : Fin cfg0.N) (z : S512x384.Idx) : View.ld (iblk m c 0 t) r0_0 z = at2 (I0 m c) (t.val * 512 + (z 0).val) (0 * 384 + (z 1).val) := by
  have h : r0_0.idx z = ix2 (z 0) (z 1) := by
    refine funext fun a => Fin.ext ?_
    match a with
    | ⟨0, _⟩ => show 0 + 1 * (z 0).val = (z 0).val; omega
    | ⟨1, _⟩ => show 0 + 1 * (z 1).val = (z 1).val; omega
  exact (congrArg (iblk m c 0 t) h).trans (blk0 m c t (z 0) (z 1))

theorem blk1 (t : Fin cfg0.N) (r : Fin 512) (l : Fin 384) : iblk m c 1 t (ix2 r l) = at2 (I1 m c) (t.val * 512 + r.val) (0 * 384 + l.val) := by
  have ht := idx_lt t
  have e := (idx t).2.1
  refine Eq.trans ?_ (at2_eq (I1 m c) _ _ (by omega) (by omega))
  unfold iblk
  blk_ext! [e]

theorem ld1 (t : Fin cfg0.N) (z : S512x384.Idx) : View.ld (iblk m c 1 t) r0_0 z = at2 (I1 m c) (t.val * 512 + (z 0).val) (0 * 384 + (z 1).val) := by
  have h : r0_0.idx z = ix2 (z 0) (z 1) := by
    refine funext fun a => Fin.ext ?_
    match a with
    | ⟨0, _⟩ => show 0 + 1 * (z 0).val = (z 0).val; omega
    | ⟨1, _⟩ => show 0 + 1 * (z 1).val = (z 1).val; omega
  exact (congrArg (iblk m c 1 t) h).trans (blk1 m c t (z 0) (z 1))

theorem blk2 (t : Fin cfg0.N) (r : Fin 512) (l : Fin 384) : iblk m c 2 t (ix2 r l) = at2 (I2 m c) (t.val * 512 + r.val) (0 * 384 + l.val) := by
  have ht := idx_lt t
  have e := (idx t).2.2.1
  refine Eq.trans ?_ (at2_eq (I2 m c) _ _ (by omega) (by omega))
  unfold iblk
  blk_ext! [e]

theorem ld2 (t : Fin cfg0.N) (z : S512x384.Idx) : View.ld (iblk m c 2 t) r0_0 z = at2 (I2 m c) (t.val * 512 + (z 0).val) (0 * 384 + (z 1).val) := by
  have h : r0_0.idx z = ix2 (z 0) (z 1) := by
    refine funext fun a => Fin.ext ?_
    match a with
    | ⟨0, _⟩ => show 0 + 1 * (z 0).val = (z 0).val; omega
    | ⟨1, _⟩ => show 0 + 1 * (z 1).val = (z 1).val; omega
  exact (congrArg (iblk m c 2 t) h).trans (blk2 m c t (z 0) (z 1))

theorem blk3 (t : Fin cfg0.N) (r : Fin 512) (l : Fin 384) : iblk m c 3 t (ix2 r l) = at2 (I3 m c) (t.val * 512 + r.val) (0 * 384 + l.val) := by
  have ht := idx_lt t
  have e := (idx t).2.2.2.1
  refine Eq.trans ?_ (at2_eq (I3 m c) _ _ (by omega) (by omega))
  unfold iblk
  blk_ext! [e]

theorem ld3 (t : Fin cfg0.N) (z : S512x384.Idx) : View.ld (iblk m c 3 t) r0_0 z = at2 (I3 m c) (t.val * 512 + (z 0).val) (0 * 384 + (z 1).val) := by
  have h : r0_0.idx z = ix2 (z 0) (z 1) := by
    refine funext fun a => Fin.ext ?_
    match a with
    | ⟨0, _⟩ => show 0 + 1 * (z 0).val = (z 0).val; omega
    | ⟨1, _⟩ => show 0 + 1 * (z 1).val = (z 1).val; omega
  exact (congrArg (iblk m c 3 t) h).trans (blk3 m c t (z 0) (z 1))

theorem final4 : (dats m 0 c).arrAt 4 cfg0.N = (fun y => delta (I0 m c y) (I1 m c y) (I2 m c y) (I3 m c y) : FVec Ideal S2048x384 .f32) := by
  suffices h : (dats m 0 c).arrAt 4 cfg0.N = (fun y => delta (at2 (I0 m c) (y 0).val (y 1).val) (at2 (I1 m c) (y 0).val (y 1).val) (at2 (I2 m c) (y 0).val (y 1).val) (at2 (I3 m c) (y 0).val (y 1).val) : FVec Ideal S2048x384 .f32) by
    rw [h]; funext y; rw [at2_idx, at2_idx, at2_idx, at2_idx]
  refine (dats m 0 c).arrAt_eq_of_covers 4 _ (by decide +kernel) fun t hf y => ?_
  blk_simp
  rw [after0_4]
  unfold out0_4
  rw [canon4_eq]
  have h0 : win0_4.index t 0 = t.val := congrFun (idx t).2.2.2.2.1 0
  have h1 : win0_4.index t 1 = 0 := congrFun (idx t).2.2.2.2.1 1
  rw [h0, h1]
  unfold E4
  simp only [ld0, ld1, ld2, ld3]
  rfl

theorem final5 : (dats m 0 c).arrAt 5 cfg0.N = (fun y => newM (I1 m c y) (I2 m c y) : FVec Ideal S2048x384 .f32) := by
  suffices h : (dats m 0 c).arrAt 5 cfg0.N = (fun y => newM (at2 (I1 m c) (y 0).val (y 1).val) (at2 (I2 m c) (y 0).val (y 1).val) : FVec Ideal S2048x384 .f32) by
    rw [h]; funext y; rw [at2_idx, at2_idx]
  refine (dats m 0 c).arrAt_eq_of_covers 5 _ (by decide +kernel) fun t hf y => ?_
  blk_simp
  rw [after0_5]
  unfold out0_5
  rw [canon5_eq]
  have h0 : win0_5.index t 0 = t.val := congrFun (idx t).2.2.2.2.2.1 0
  have h1 : win0_5.index t 1 = 0 := congrFun (idx t).2.2.2.2.2.1 1
  rw [h0, h1]
  unfold E5
  simp only [ld1, ld2]
  rfl

theorem final6 : (dats m 0 c).arrAt 6 cfg0.N = (fun y => newV (I1 m c y) (I3 m c y) : FVec Ideal S2048x384 .f32) := by
  suffices h : (dats m 0 c).arrAt 6 cfg0.N = (fun y => newV (at2 (I1 m c) (y 0).val (y 1).val) (at2 (I3 m c) (y 0).val (y 1).val) : FVec Ideal S2048x384 .f32) by
    rw [h]; funext y; rw [at2_idx, at2_idx]
  refine (dats m 0 c).arrAt_eq_of_covers 6 _ (by decide +kernel) fun t hf y => ?_
  blk_simp
  rw [after0_6]
  unfold out0_6
  rw [canon6_eq]
  have h0 : win0_6.index t 0 = t.val := congrFun (idx t).2.2.2.2.2.2 0
  have h1 : win0_6.index t 1 = 0 := congrFun (idx t).2.2.2.2.2.2 1
  rw [h0, h1]
  unfold E6
  simp only [ld1, ld3]
  rfl

theorem in0 : I0 m c = shapeCast _ (m ((c : Thread nD τ).loc main_arg0)) shapeCasts_S2x1024x384_S2048x384 := rfl
theorem in1 : I1 m c = shapeCast _ (m ((c : Thread nD τ).loc main_arg1)) shapeCasts_S2x1024x384_S2048x384 := rfl
theorem in2 : I2 m c = shapeCast _ (m ((c : Thread nD τ).loc main_arg2)) shapeCasts_S2x1024x384_S2048x384 := rfl
theorem in3 : I3 m c = shapeCast _ (m ((c : Thread nD τ).loc main_arg3)) shapeCasts_S2x1024x384_S2048x384 := rfl

/-- The kernel's call gives what the reference gives. -/
theorem algebraic : algebraic_AdQkvIdeal_AdQkvRefIdeal := by
  intro m ρ m' ρ' _ hagree
  refine ⟨_, _, _, Cert.AdQkvIdeal.Value.run_blocks (F := Ideal) m ρ, ?_⟩
  refine (θ_run Cert.AdQkvRefIdeal.defs _ _).mono (fun _ h c => ⟨?_, ?_, ?_, (h c).2.2.2⟩) (Cert.AdQkvRefIdeal.Value.run (F := Ideal) m' ρ')
  · rw [(h c).1, final4, in0, in1, in2, in3, (hagree c).1, (hagree c).2.1, (hagree c).2.2.1, (hagree c).2.2.2]
    rfl
  · rw [(h c).2.1, final5, in1, in2, (hagree c).2.1, (hagree c).2.2.1]
    rfl
  · rw [(h c).2.2.1, final6, in1, in3, (hagree c).2.1, (hagree c).2.2.2]
    rfl

theorem reference_frame : quiescent_AdQkvRefIdeal := fun m ρ _ =>
  (θ_run Cert.AdQkvRefIdeal.defs _ _).mono (fun r h => ⟨fun c => (h c).2.2.2, sem_eq_zero_of_no_sems (by decide) r.2⟩) (Cert.AdQkvRefIdeal.Value.run (F := Ideal) m ρ)

end Cert.Proof.AdQkv

end
-- ==== Proof.Ad.AdOut.lean ====
module

public import proofs.«01_k».proof.Defs
public import proofs.«01_k».proof.Proof.Ad.Entry
public import proofs.«01_k».proof.Proof.Gen.AdOutIdeal.Value
public import proofs.«01_k».proof.Proof.Gen.AdOutRefIdeal.Run
public import Idealize.ShloMosaic.Lib.Pipeline.ValueKit
public import Idealize.ShloMosaic.Lib.Pipeline.ReadBack
public import Idealize.ShloMosaic.Lib.Pointwise

@[expose] public section

/-! # The optimiser's call on an array of 256 rows and 1024 lanes

A grid point takes 256 rows of the weight, of its gradient and of its two moments, and leaves the same rows of the three
results. -/

set_option maxRecDepth 16384

noncomputable section

namespace Cert.Proof.AdOut

open Idealize.ShloMosaic Idealize.ShloMosaic.TcCoe Idealize.SL.Sem Cert.AdOutIdeal Cert.AdOutIdeal.Gen Cert.AdOutIdeal.Value Cert.Proof.Ad

variable (m : (ℓ : Loc nD τ sig) → Buf (Elt Ideal) ℓ) (c : Dev nD)

/-- The blocks that the windows name at a grid point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

theorem idx_lt (t : Fin cfg0.N) : t.val < 1 := t.isLt

/-- The weight, its gradient and its two moments, as the call takes them. -/
abbrev I0 : FVec Ideal S256x1024 .f32 := V m c (Pipeline.arrRef spec0 0)
abbrev I1 : FVec Ideal S256x1024 .f32 := V m c (Pipeline.arrRef spec0 1)
abbrev I2 : FVec Ideal S256x1024 .f32 := V m c (Pipeline.arrRef spec0 2)
abbrev I3 : FVec Ideal S256x1024 .f32 := V m c (Pipeline.arrRef spec0 3)

/-- A block's entry is the array's, at the block's own rows. -/
theorem blk0 (t : Fin cfg0.N) (r : Fin 256) (l : Fin 1024) : iblk m c 0 t (ix2 r l) = at2 (I0 m c) (t.val * 256 + r.val) (0 * 1024 + l.val) := by
  have ht := idx_lt t
  have e := (idx t).1
  refine Eq.trans ?_ (at2_eq (I0 m c) _ _ (by omega) (by omega))
  unfold iblk
  blk_ext! [e]

theorem ld0 (t : Fin cfg0.N) (z : S256x1024.Idx) : View.ld (iblk m c 0 t) r0_0 z = at2 (I0 m c) (t.val * 256 + (z 0).val) (0 * 1024 + (z 1).val) := by
  have h : r0_0.idx z = ix2 (z 0) (z 1) := by
    refine funext fun a => Fin.ext ?_
    match a with
    | ⟨0, _⟩ => show 0 + 1 * (z 0).val = (z 0).val; omega
    | ⟨1, _⟩ => show 0 + 1 * (z 1).val = (z 1).val; omega
  exact (congrArg (iblk m c 0 t) h).trans (blk0 m c t (z 0) (z 1))

theorem blk1 (t : Fin cfg0.N) (r : Fin 256) (l : Fin 1024) : iblk m c 1 t (ix2 r l) = at2 (I1 m c) (t.val * 256 + r.val) (0 * 1024 + l.val) := by
  have ht := idx_lt t
  have e := (idx t).2.1
  refine Eq.trans ?_ (at2_eq (I1 m c) _ _ (by omega) (by omega))
  unfold iblk
  blk_ext! [e]

theorem ld1 (t : Fin cfg0.N) (z : S256x1024.Idx) : View.ld (iblk m c 1 t) r0_0 z = at2 (I1 m c) (t.val * 256 + (z 0).val) (0 * 1024 + (z 1).val) := by
  have h : r0_0.idx z = ix2 (z 0) (z 1) := by
    refine funext fun a => Fin.ext ?_
    match a with
    | ⟨0, _⟩ => show 0 + 1 * (z 0).val = (z 0).val; omega
    | ⟨1, _⟩ => show 0 + 1 * (z 1).val = (z 1).val; omega
  exact (congrArg (iblk m c 1 t) h).trans (blk1 m c t (z 0) (z 1))

theorem blk2 (t : Fin cfg0.N) (r : Fin 256) (l : Fin 1024) : iblk m c 2 t (ix2 r l) = at2 (I2 m c) (t.val * 256 + r.val) (0 * 1024 + l.val) := by
  have ht := idx_lt t
  have e := (idx t).2.2.1
  refine Eq.trans ?_ (at2_eq (I2 m c) _ _ (by omega) (by omega))
  unfold iblk
  blk_ext! [e]

theorem ld2 (t : Fin cfg0.N) (z : S256x1024.Idx) : View.ld (iblk m c 2 t) r0_0 z = at2 (I2 m c) (t.val * 256 + (z 0).val) (0 * 1024 + (z 1).val) := by
  have h : r0_0.idx z = ix2 (z 0) (z 1) := by
    refine funext fun a => Fin.ext ?_
    match a with
    | ⟨0, _⟩ => show 0 + 1 * (z 0).val = (z 0).val; omega
    | ⟨1, _⟩ => show 0 + 1 * (z 1).val = (z 1).val; omega
  exact (congrArg (iblk m c 2 t) h).trans (blk2 m c t (z 0) (z 1))

theorem blk3 (t : Fin cfg0.N) (r : Fin 256) (l : Fin 1024) : iblk m c 3 t (ix2 r l) = at2 (I3 m c) (t.val * 256 + r.val) (0 * 1024 + l.val) := by
  have ht := idx_lt t
  have e := (idx t).2.2.2.1
  refine Eq.trans ?_ (at2_eq (I3 m c) _ _ (by omega) (by omega))
  unfold iblk
  blk_ext! [e]

theorem ld3 (t : Fin cfg0.N) (z : S256x1024.Idx) : View.ld (iblk m c 3 t) r0_0 z = at2 (I3 m c) (t.val * 256 + (z 0).val) (0 * 1024 + (z 1).val) := by
  have h : r0_0.idx z = ix2 (z 0) (z 1) := by
    refine funext fun a => Fin.ext ?_
    match a with
    | ⟨0, _⟩ => show 0 + 1 * (z 0).val = (z 0).val; omega
    | ⟨1, _⟩ => show 0 + 1 * (z 1).val = (z 1).val; omega
  exact (congrArg (iblk m c 3 t) h).trans (blk3 m c t (z 0) (z 1))

theorem final4 : (dats m 0 c).arrAt 4 cfg0.N = (fun y => delta (I0 m c y) (I1 m c y) (I2 m c y) (I3 m c y) : FVec Ideal S256x1024 .f32) := by
  suffices h : (dats m 0 c).arrAt 4 cfg0.N = (fun y => delta (at2 (I0 m c) (y 0).val (y 1).val) (at2 (I1 m c) (y 0).val (y 1).val) (at2 (I2 m c) (y 0).val (y 1).val) (at2 (I3 m c) (y 0).val (y 1).val) : FVec Ideal S256x1024 .f32) by
    rw [h]; funext y; rw [at2_idx, at2_idx, at2_idx, at2_idx]
  refine (dats m 0 c).arrAt_eq_of_covers 4 _ (by decide +kernel) fun t hf y => ?_
  blk_simp
  rw [after0_4]
  unfold out0_4
  rw [canon4_eq]
  have h0 : win0_4.index t 0 = t.val := congrFun (idx t).2.2.2.2.1 0
  have h1 : win0_4.index t 1 = 0 := congrFun (idx t).2.2.2.2.1 1
  rw [h0, h1]
  unfold E4
  simp only [ld0, ld1, ld2, ld3]
  rfl

theorem final5 : (dats m 0 c).arrAt 5 cfg0.N = (fun y => newM (I1 m c y) (I2 m c y) : FVec Ideal S256x1024 .f32) := by
  suffices h : (dats m 0 c).arrAt 5 cfg0.N = (fun y => newM (at2 (I1 m c) (y 0).val (y 1).val) (at2 (I2 m c) (y 0).val (y 1).val) : FVec Ideal S256x1024 .f32) by
    rw [h]; funext y; rw [at2_idx, at2_idx]
  refine (dats m 0 c).arrAt_eq_of_covers 5 _ (by decide +kernel) fun t hf y => ?_
  blk_simp
  rw [after0_5]
  unfold out0_5
  rw [canon5_eq]
  have h0 : win0_5.index t 0 = t.val := congrFun (idx t).2.2.2.2.2.1 0
  have h1 : win0_5.index t 1 = 0 := congrFun (idx t).2.2.2.2.2.1 1
  rw [h0, h1]
  unfold E5
  simp only [ld1, ld2]
  rfl

theorem final6 : (dats m 0 c).arrAt 6 cfg0.N = (fun y => newV (I1 m c y) (I3 m c y) : FVec Ideal S256x1024 .f32) := by
  suffices h : (dats m 0 c).arrAt 6 cfg0.N = (fun y => newV (at2 (I1 m c) (y 0).val (y 1).val) (at2 (I3 m c) (y 0).val (y 1).val) : FVec Ideal S256x1024 .f32) by
    rw [h]; funext y; rw [at2_idx, at2_idx]
  refine (dats m 0 c).arrAt_eq_of_covers 6 _ (by decide +kernel) fun t hf y => ?_
  blk_simp
  rw [after0_6]
  unfold out0_6
  rw [canon6_eq]
  have h0 : win0_6.index t 0 = t.val := congrFun (idx t).2.2.2.2.2.2 0
  have h1 : win0_6.index t 1 = 0 := congrFun (idx t).2.2.2.2.2.2 1
  rw [h0, h1]
  unfold E6
  simp only [ld1, ld3]
  rfl

theorem in0 : I0 m c = shapeCast _ (m ((c : Thread nD τ).loc main_arg0)) shapeCasts_S2x128x1024_S256x1024 := rfl
theorem in1 : I1 m c = shapeCast _ (m ((c : Thread nD τ).loc main_arg1)) shapeCasts_S2x128x1024_S256x1024 := rfl
theorem in2 : I2 m c = shapeCast _ (m ((c : Thread nD τ).loc main_arg2)) shapeCasts_S2x128x1024_S256x1024 := rfl
theorem in3 : I3 m c = shapeCast _ (m ((c : Thread nD τ).loc main_arg3)) shapeCasts_S2x128x1024_S256x1024 := rfl

/-- The kernel's call gives what the reference gives. -/
theorem algebraic : algebraic_AdOutIdeal_AdOutRefIdeal := by
  intro m ρ m' ρ' _ hagree
  refine ⟨_, _, _, Cert.AdOutIdeal.Value.run_blocks (F := Ideal) m ρ, ?_⟩
  refine (θ_run Cert.AdOutRefIdeal.defs _ _).mono (fun _ h c => ⟨?_, ?_, ?_, (h c).2.2.2⟩) (Cert.AdOutRefIdeal.Value.run (F := Ideal) m' ρ')
  · rw [(h c).1, final4, in0, in1, in2, in3, (hagree c).1, (hagree c).2.1, (hagree c).2.2.1, (hagree c).2.2.2]
    rfl
  · rw [(h c).2.1, final5, in1, in2, (hagree c).2.1, (hagree c).2.2.1]
    rfl
  · rw [(h c).2.2.1, final6, in1, in3, (hagree c).2.1, (hagree c).2.2.2]
    rfl

theorem reference_frame : quiescent_AdOutRefIdeal := fun m ρ _ =>
  (θ_run Cert.AdOutRefIdeal.defs _ _).mono (fun r h => ⟨fun c => (h c).2.2.2, sem_eq_zero_of_no_sems (by decide) r.2⟩) (Cert.AdOutRefIdeal.Value.run (F := Ideal) m ρ)

end Cert.Proof.AdOut

end
-- ==== Proof.Ad.AdA1.lean ====
module

public import proofs.«01_k».proof.Defs
public import proofs.«01_k».proof.Proof.Ad.Entry
public import proofs.«01_k».proof.Proof.Gen.AdA1Ideal.Value
public import proofs.«01_k».proof.Proof.Gen.AdA1RefIdeal.Run
public import Idealize.ShloMosaic.Lib.Pipeline.ValueKit
public import Idealize.ShloMosaic.Lib.Pipeline.ReadBack
public import Idealize.ShloMosaic.Lib.Pointwise

@[expose] public section

/-! # The optimiser's call on an array of 256 rows and 16 lanes

A grid point takes 256 rows of the weight, of its gradient and of its two moments, and leaves the same rows of the three
results. -/

set_option maxRecDepth 16384

noncomputable section

namespace Cert.Proof.AdA1

open Idealize.ShloMosaic Idealize.ShloMosaic.TcCoe Idealize.SL.Sem Cert.AdA1Ideal Cert.AdA1Ideal.Gen Cert.AdA1Ideal.Value Cert.Proof.Ad

variable (m : (ℓ : Loc nD τ sig) → Buf (Elt Ideal) ℓ) (c : Dev nD)

/-- The blocks that the windows name at a grid point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

theorem idx_lt (t : Fin cfg0.N) : t.val < 1 := t.isLt

/-- The weight, its gradient and its two moments, as the call takes them. -/
abbrev I0 : FVec Ideal S256x16 .f32 := V m c (Pipeline.arrRef spec0 0)
abbrev I1 : FVec Ideal S256x16 .f32 := V m c (Pipeline.arrRef spec0 1)
abbrev I2 : FVec Ideal S256x16 .f32 := V m c (Pipeline.arrRef spec0 2)
abbrev I3 : FVec Ideal S256x16 .f32 := V m c (Pipeline.arrRef spec0 3)

/-- A block's entry is the array's, at the block's own rows. -/
theorem blk0 (t : Fin cfg0.N) (r : Fin 256) (l : Fin 16) : iblk m c 0 t (ix2 r l) = at2 (I0 m c) (t.val * 256 + r.val) (0 * 16 + l.val) := by
  have ht := idx_lt t
  have e := (idx t).1
  refine Eq.trans ?_ (at2_eq (I0 m c) _ _ (by omega) (by omega))
  unfold iblk
  blk_ext! [e]

theorem ld0 (t : Fin cfg0.N) (z : S256x16.Idx) : View.ld (iblk m c 0 t) r0_0 z = at2 (I0 m c) (t.val * 256 + (z 0).val) (0 * 16 + (z 1).val) := by
  have h : r0_0.idx z = ix2 (z 0) (z 1) := by
    refine funext fun a => Fin.ext ?_
    match a with
    | ⟨0, _⟩ => show 0 + 1 * (z 0).val = (z 0).val; omega
    | ⟨1, _⟩ => show 0 + 1 * (z 1).val = (z 1).val; omega
  exact (congrArg (iblk m c 0 t) h).trans (blk0 m c t (z 0) (z 1))

theorem blk1 (t : Fin cfg0.N) (r : Fin 256) (l : Fin 16) : iblk m c 1 t (ix2 r l) = at2 (I1 m c) (t.val * 256 + r.val) (0 * 16 + l.val) := by
  have ht := idx_lt t
  have e := (idx t).2.1
  refine Eq.trans ?_ (at2_eq (I1 m c) _ _ (by omega) (by omega))
  unfold iblk
  blk_ext! [e]

theorem ld1 (t : Fin cfg0.N) (z : S256x16.Idx) : View.ld (iblk m c 1 t) r0_0 z = at2 (I1 m c) (t.val * 256 + (z 0).val) (0 * 16 + (z 1).val) := by
  have h : r0_0.idx z = ix2 (z 0) (z 1) := by
    refine funext fun a => Fin.ext ?_
    match a with
    | ⟨0, _⟩ => show 0 + 1 * (z 0).val = (z 0).val; omega
    | ⟨1, _⟩ => show 0 + 1 * (z 1).val = (z 1).val; omega
  exact (congrArg (iblk m c 1 t) h).trans (blk1 m c t (z 0) (z 1))

theorem blk2 (t : Fin cfg0.N) (r : Fin 256) (l : Fin 16) : iblk m c 2 t (ix2 r l) = at2 (I2 m c) (t.val * 256 + r.val) (0 * 16 + l.val) := by
  have ht := idx_lt t
  have e := (idx t).2.2.1
  refine Eq.trans ?_ (at2_eq (I2 m c) _ _ (by omega) (by omega))
  unfold iblk
  blk_ext! [e]

theorem ld2 (t : Fin cfg0.N) (z : S256x16.Idx) : View.ld (iblk m c 2 t) r0_0 z = at2 (I2 m c) (t.val * 256 + (z 0).val) (0 * 16 + (z 1).val) := by
  have h : r0_0.idx z = ix2 (z 0) (z 1) := by
    refine funext fun a => Fin.ext ?_
    match a with
    | ⟨0, _⟩ => show 0 + 1 * (z 0).val = (z 0).val; omega
    | ⟨1, _⟩ => show 0 + 1 * (z 1).val = (z 1).val; omega
  exact (congrArg (iblk m c 2 t) h).trans (blk2 m c t (z 0) (z 1))

theorem blk3 (t : Fin cfg0.N) (r : Fin 256) (l : Fin 16) : iblk m c 3 t (ix2 r l) = at2 (I3 m c) (t.val * 256 + r.val) (0 * 16 + l.val) := by
  have ht := idx_lt t
  have e := (idx t).2.2.2.1
  refine Eq.trans ?_ (at2_eq (I3 m c) _ _ (by omega) (by omega))
  unfold iblk
  blk_ext! [e]

theorem ld3 (t : Fin cfg0.N) (z : S256x16.Idx) : View.ld (iblk m c 3 t) r0_0 z = at2 (I3 m c) (t.val * 256 + (z 0).val) (0 * 16 + (z 1).val) := by
  have h : r0_0.idx z = ix2 (z 0) (z 1) := by
    refine funext fun a => Fin.ext ?_
    match a with
    | ⟨0, _⟩ => show 0 + 1 * (z 0).val = (z 0).val; omega
    | ⟨1, _⟩ => show 0 + 1 * (z 1).val = (z 1).val; omega
  exact (congrArg (iblk m c 3 t) h).trans (blk3 m c t (z 0) (z 1))

theorem final4 : (dats m 0 c).arrAt 4 cfg0.N = (fun y => delta (I0 m c y) (I1 m c y) (I2 m c y) (I3 m c y) : FVec Ideal S256x16 .f32) := by
  suffices h : (dats m 0 c).arrAt 4 cfg0.N = (fun y => delta (at2 (I0 m c) (y 0).val (y 1).val) (at2 (I1 m c) (y 0).val (y 1).val) (at2 (I2 m c) (y 0).val (y 1).val) (at2 (I3 m c) (y 0).val (y 1).val) : FVec Ideal S256x16 .f32) by
    rw [h]; funext y; rw [at2_idx, at2_idx, at2_idx, at2_idx]
  refine (dats m 0 c).arrAt_eq_of_covers 4 _ (by decide +kernel) fun t hf y => ?_
  blk_simp
  rw [after0_4]
  unfold out0_4
  rw [canon4_eq]
  have h0 : win0_4.index t 0 = t.val := congrFun (idx t).2.2.2.2.1 0
  have h1 : win0_4.index t 1 = 0 := congrFun (idx t).2.2.2.2.1 1
  rw [h0, h1]
  unfold E4
  simp only [ld0, ld1, ld2, ld3]
  rfl

theorem final5 : (dats m 0 c).arrAt 5 cfg0.N = (fun y => newM (I1 m c y) (I2 m c y) : FVec Ideal S256x16 .f32) := by
  suffices h : (dats m 0 c).arrAt 5 cfg0.N = (fun y => newM (at2 (I1 m c) (y 0).val (y 1).val) (at2 (I2 m c) (y 0).val (y 1).val) : FVec Ideal S256x16 .f32) by
    rw [h]; funext y; rw [at2_idx, at2_idx]
  refine (dats m 0 c).arrAt_eq_of_covers 5 _ (by decide +kernel) fun t hf y => ?_
  blk_simp
  rw [after0_5]
  unfold out0_5
  rw [canon5_eq]
  have h0 : win0_5.index t 0 = t.val := congrFun (idx t).2.2.2.2.2.1 0
  have h1 : win0_5.index t 1 = 0 := congrFun (idx t).2.2.2.2.2.1 1
  rw [h0, h1]
  unfold E5
  simp only [ld1, ld2]
  rfl

theorem final6 : (dats m 0 c).arrAt 6 cfg0.N = (fun y => newV (I1 m c y) (I3 m c y) : FVec Ideal S256x16 .f32) := by
  suffices h : (dats m 0 c).arrAt 6 cfg0.N = (fun y => newV (at2 (I1 m c) (y 0).val (y 1).val) (at2 (I3 m c) (y 0).val (y 1).val) : FVec Ideal S256x16 .f32) by
    rw [h]; funext y; rw [at2_idx, at2_idx]
  refine (dats m 0 c).arrAt_eq_of_covers 6 _ (by decide +kernel) fun t hf y => ?_
  blk_simp
  rw [after0_6]
  unfold out0_6
  rw [canon6_eq]
  have h0 : win0_6.index t 0 = t.val := congrFun (idx t).2.2.2.2.2.2 0
  have h1 : win0_6.index t 1 = 0 := congrFun (idx t).2.2.2.2.2.2 1
  rw [h0, h1]
  unfold E6
  simp only [ld1, ld3]
  rfl

theorem in0 : I0 m c = shapeCast _ (m ((c : Thread nD τ).loc main_arg0)) shapeCasts_S2x128x16_S256x16 := rfl
theorem in1 : I1 m c = shapeCast _ (m ((c : Thread nD τ).loc main_arg1)) shapeCasts_S2x128x16_S256x16 := rfl
theorem in2 : I2 m c = shapeCast _ (m ((c : Thread nD τ).loc main_arg2)) shapeCasts_S2x128x16_S256x16 := rfl
theorem in3 : I3 m c = shapeCast _ (m ((c : Thread nD τ).loc main_arg3)) shapeCasts_S2x128x16_S256x16 := rfl

/-- The kernel's call gives what the reference gives. -/
theorem algebraic : algebraic_AdA1Ideal_AdA1RefIdeal := by
  intro m ρ m' ρ' _ hagree
  refine ⟨_, _, _, Cert.AdA1Ideal.Value.run_blocks (F := Ideal) m ρ, ?_⟩
  refine (θ_run Cert.AdA1RefIdeal.defs _ _).mono (fun _ h c => ⟨?_, ?_, ?_, (h c).2.2.2⟩) (Cert.AdA1RefIdeal.Value.run (F := Ideal) m' ρ')
  · rw [(h c).1, final4, in0, in1, in2, in3, (hagree c).1, (hagree c).2.1, (hagree c).2.2.1, (hagree c).2.2.2]
    rfl
  · rw [(h c).2.1, final5, in1, in2, (hagree c).2.1, (hagree c).2.2.1]
    rfl
  · rw [(h c).2.2.1, final6, in1, in3, (hagree c).2.1, (hagree c).2.2.2]
    rfl

theorem reference_frame : quiescent_AdA1RefIdeal := fun m ρ _ =>
  (θ_run Cert.AdA1RefIdeal.defs _ _).mono (fun r h => ⟨fun c => (h c).2.2.2, sem_eq_zero_of_no_sems (by decide) r.2⟩) (Cert.AdA1RefIdeal.Value.run (F := Ideal) m ρ)

end Cert.Proof.AdA1

end
-- ==== Proof.Ad.AdA2.lean ====
module

public import proofs.«01_k».proof.Defs
public import proofs.«01_k».proof.Proof.Ad.Entry
public import proofs.«01_k».proof.Proof.Gen.AdA2Ideal.Value
public import proofs.«01_k».proof.Proof.Gen.AdA2RefIdeal.Run
public import Idealize.ShloMosaic.Lib.Pipeline.ValueKit
public import Idealize.ShloMosaic.Lib.Pipeline.ReadBack
public import Idealize.ShloMosaic.Lib.Pointwise

@[expose] public section

/-! # The optimiser's call on an array of 32 rows and 64 lanes

A grid point takes 32 rows of the weight, of its gradient and of its two moments, and leaves the same rows of the three
results. -/

set_option maxRecDepth 16384

noncomputable section

namespace Cert.Proof.AdA2

open Idealize.ShloMosaic Idealize.ShloMosaic.TcCoe Idealize.SL.Sem Cert.AdA2Ideal Cert.AdA2Ideal.Gen Cert.AdA2Ideal.Value Cert.Proof.Ad

variable (m : (ℓ : Loc nD τ sig) → Buf (Elt Ideal) ℓ) (c : Dev nD)

/-- The blocks that the windows name at a grid point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

theorem idx_lt (t : Fin cfg0.N) : t.val < 1 := t.isLt

/-- The weight, its gradient and its two moments, as the call takes them. -/
abbrev I0 : FVec Ideal S32x64 .f32 := V m c (Pipeline.arrRef spec0 0)
abbrev I1 : FVec Ideal S32x64 .f32 := V m c (Pipeline.arrRef spec0 1)
abbrev I2 : FVec Ideal S32x64 .f32 := V m c (Pipeline.arrRef spec0 2)
abbrev I3 : FVec Ideal S32x64 .f32 := V m c (Pipeline.arrRef spec0 3)

/-- A block's entry is the array's, at the block's own rows. -/
theorem blk0 (t : Fin cfg0.N) (r : Fin 32) (l : Fin 64) : iblk m c 0 t (ix2 r l) = at2 (I0 m c) (t.val * 32 + r.val) (0 * 64 + l.val) := by
  have ht := idx_lt t
  have e := (idx t).1
  refine Eq.trans ?_ (at2_eq (I0 m c) _ _ (by omega) (by omega))
  unfold iblk
  blk_ext! [e]

theorem ld0 (t : Fin cfg0.N) (z : S32x64.Idx) : View.ld (iblk m c 0 t) r0_0 z = at2 (I0 m c) (t.val * 32 + (z 0).val) (0 * 64 + (z 1).val) := by
  have h : r0_0.idx z = ix2 (z 0) (z 1) := by
    refine funext fun a => Fin.ext ?_
    match a with
    | ⟨0, _⟩ => show 0 + 1 * (z 0).val = (z 0).val; omega
    | ⟨1, _⟩ => show 0 + 1 * (z 1).val = (z 1).val; omega
  exact (congrArg (iblk m c 0 t) h).trans (blk0 m c t (z 0) (z 1))

theorem blk1 (t : Fin cfg0.N) (r : Fin 32) (l : Fin 64) : iblk m c 1 t (ix2 r l) = at2 (I1 m c) (t.val * 32 + r.val) (0 * 64 + l.val) := by
  have ht := idx_lt t
  have e := (idx t).2.1
  refine Eq.trans ?_ (at2_eq (I1 m c) _ _ (by omega) (by omega))
  unfold iblk
  blk_ext! [e]

theorem ld1 (t : Fin cfg0.N) (z : S32x64.Idx) : View.ld (iblk m c 1 t) r0_0 z = at2 (I1 m c) (t.val * 32 + (z 0).val) (0 * 64 + (z 1).val) := by
  have h : r0_0.idx z = ix2 (z 0) (z 1) := by
    refine funext fun a => Fin.ext ?_
    match a with
    | ⟨0, _⟩ => show 0 + 1 * (z 0).val = (z 0).val; omega
    | ⟨1, _⟩ => show 0 + 1 * (z 1).val = (z 1).val; omega
  exact (congrArg (iblk m c 1 t) h).trans (blk1 m c t (z 0) (z 1))

theorem blk2 (t : Fin cfg0.N) (r : Fin 32) (l : Fin 64) : iblk m c 2 t (ix2 r l) = at2 (I2 m c) (t.val * 32 + r.val) (0 * 64 + l.val) := by
  have ht := idx_lt t
  have e := (idx t).2.2.1
  refine Eq.trans ?_ (at2_eq (I2 m c) _ _ (by omega) (by omega))
  unfold iblk
  blk_ext! [e]

theorem ld2 (t : Fin cfg0.N) (z : S32x64.Idx) : View.ld (iblk m c 2 t) r0_0 z = at2 (I2 m c) (t.val * 32 + (z 0).val) (0 * 64 + (z 1).val) := by
  have h : r0_0.idx z = ix2 (z 0) (z 1) := by
    refine funext fun a => Fin.ext ?_
    match a with
    | ⟨0, _⟩ => show 0 + 1 * (z 0).val = (z 0).val; omega
    | ⟨1, _⟩ => show 0 + 1 * (z 1).val = (z 1).val; omega
  exact (congrArg (iblk m c 2 t) h).trans (blk2 m c t (z 0) (z 1))

theorem blk3 (t : Fin cfg0.N) (r : Fin 32) (l : Fin 64) : iblk m c 3 t (ix2 r l) = at2 (I3 m c) (t.val * 32 + r.val) (0 * 64 + l.val) := by
  have ht := idx_lt t
  have e := (idx t).2.2.2.1
  refine Eq.trans ?_ (at2_eq (I3 m c) _ _ (by omega) (by omega))
  unfold iblk
  blk_ext! [e]

theorem ld3 (t : Fin cfg0.N) (z : S32x64.Idx) : View.ld (iblk m c 3 t) r0_0 z = at2 (I3 m c) (t.val * 32 + (z 0).val) (0 * 64 + (z 1).val) := by
  have h : r0_0.idx z = ix2 (z 0) (z 1) := by
    refine funext fun a => Fin.ext ?_
    match a with
    | ⟨0, _⟩ => show 0 + 1 * (z 0).val = (z 0).val; omega
    | ⟨1, _⟩ => show 0 + 1 * (z 1).val = (z 1).val; omega
  exact (congrArg (iblk m c 3 t) h).trans (blk3 m c t (z 0) (z 1))

theorem final4 : (dats m 0 c).arrAt 4 cfg0.N = (fun y => delta (I0 m c y) (I1 m c y) (I2 m c y) (I3 m c y) : FVec Ideal S32x64 .f32) := by
  suffices h : (dats m 0 c).arrAt 4 cfg0.N = (fun y => delta (at2 (I0 m c) (y 0).val (y 1).val) (at2 (I1 m c) (y 0).val (y 1).val) (at2 (I2 m c) (y 0).val (y 1).val) (at2 (I3 m c) (y 0).val (y 1).val) : FVec Ideal S32x64 .f32) by
    rw [h]; funext y; rw [at2_idx, at2_idx, at2_idx, at2_idx]
  refine (dats m 0 c).arrAt_eq_of_covers 4 _ (by decide +kernel) fun t hf y => ?_
  blk_simp
  rw [after0_4]
  unfold out0_4
  rw [canon4_eq]
  have h0 : win0_4.index t 0 = t.val := congrFun (idx t).2.2.2.2.1 0
  have h1 : win0_4.index t 1 = 0 := congrFun (idx t).2.2.2.2.1 1
  rw [h0, h1]
  unfold E4
  simp only [ld0, ld1, ld2, ld3]
  rfl

theorem final5 : (dats m 0 c).arrAt 5 cfg0.N = (fun y => newM (I1 m c y) (I2 m c y) : FVec Ideal S32x64 .f32) := by
  suffices h : (dats m 0 c).arrAt 5 cfg0.N = (fun y => newM (at2 (I1 m c) (y 0).val (y 1).val) (at2 (I2 m c) (y 0).val (y 1).val) : FVec Ideal S32x64 .f32) by
    rw [h]; funext y; rw [at2_idx, at2_idx]
  refine (dats m 0 c).arrAt_eq_of_covers 5 _ (by decide +kernel) fun t hf y => ?_
  blk_simp
  rw [after0_5]
  unfold out0_5
  rw [canon5_eq]
  have h0 : win0_5.index t 0 = t.val := congrFun (idx t).2.2.2.2.2.1 0
  have h1 : win0_5.index t 1 = 0 := congrFun (idx t).2.2.2.2.2.1 1
  rw [h0, h1]
  unfold E5
  simp only [ld1, ld2]
  rfl

theorem final6 : (dats m 0 c).arrAt 6 cfg0.N = (fun y => newV (I1 m c y) (I3 m c y) : FVec Ideal S32x64 .f32) := by
  suffices h : (dats m 0 c).arrAt 6 cfg0.N = (fun y => newV (at2 (I1 m c) (y 0).val (y 1).val) (at2 (I3 m c) (y 0).val (y 1).val) : FVec Ideal S32x64 .f32) by
    rw [h]; funext y; rw [at2_idx, at2_idx]
  refine (dats m 0 c).arrAt_eq_of_covers 6 _ (by decide +kernel) fun t hf y => ?_
  blk_simp
  rw [after0_6]
  unfold out0_6
  rw [canon6_eq]
  have h0 : win0_6.index t 0 = t.val := congrFun (idx t).2.2.2.2.2.2 0
  have h1 : win0_6.index t 1 = 0 := congrFun (idx t).2.2.2.2.2.2 1
  rw [h0, h1]
  unfold E6
  simp only [ld1, ld3]
  rfl

theorem in0 : I0 m c = shapeCast _ (m ((c : Thread nD τ).loc main_arg0)) shapeCasts_S2x16x64_S32x64 := rfl
theorem in1 : I1 m c = shapeCast _ (m ((c : Thread nD τ).loc main_arg1)) shapeCasts_S2x16x64_S32x64 := rfl
theorem in2 : I2 m c = shapeCast _ (m ((c : Thread nD τ).loc main_arg2)) shapeCasts_S2x16x64_S32x64 := rfl
theorem in3 : I3 m c = shapeCast _ (m ((c : Thread nD τ).loc main_arg3)) shapeCasts_S2x16x64_S32x64 := rfl

/-- The kernel's call gives what the reference gives. -/
theorem algebraic : algebraic_AdA2Ideal_AdA2RefIdeal := by
  intro m ρ m' ρ' _ hagree
  refine ⟨_, _, _, Cert.AdA2Ideal.Value.run_blocks (F := Ideal) m ρ, ?_⟩
  refine (θ_run Cert.AdA2RefIdeal.defs _ _).mono (fun _ h c => ⟨?_, ?_, ?_, (h c).2.2.2⟩) (Cert.AdA2RefIdeal.Value.run (F := Ideal) m' ρ')
  · rw [(h c).1, final4, in0, in1, in2, in3, (hagree c).1, (hagree c).2.1, (hagree c).2.2.1, (hagree c).2.2.2]
    rfl
  · rw [(h c).2.1, final5, in1, in2, (hagree c).2.1, (hagree c).2.2.1]
    rfl
  · rw [(h c).2.2.1, final6, in1, in3, (hagree c).2.1, (hagree c).2.2.2]
    rfl

theorem reference_frame : quiescent_AdA2RefIdeal := fun m ρ _ =>
  (θ_run Cert.AdA2RefIdeal.defs _ _).mono (fun r h => ⟨fun c => (h c).2.2.2, sem_eq_zero_of_no_sems (by decide) r.2⟩) (Cert.AdA2RefIdeal.Value.run (F := Ideal) m ρ)

end Cert.Proof.AdA2

end
-- ==== Proof.Ad.AdBa.lean ====
module

public import proofs.«01_k».proof.Defs
public import proofs.«01_k».proof.Proof.Gen.AdBaIdeal.Value
public import proofs.«01_k».proof.Proof.Gen.AdBaRefIdeal.Run

@[expose] public section

/-! # The optimiser's call on an array of 2 rows and 64 lanes

One grid point takes the whole arrays. -/

noncomputable section

namespace Cert.Proof.AdBa

open Idealize.ShloMosaic Idealize.ShloMosaic.TcCoe Idealize.SL.Sem

/-- The kernel's call gives what the reference gives. -/
theorem algebraic : algebraic_AdBaIdeal_AdBaRefIdeal := by
  intro m ρ m' ρ' _ hagree
  refine ⟨_, _, _, Cert.AdBaIdeal.Value.run (F := Ideal) m ρ, ?_⟩
  refine (θ_run Cert.AdBaRefIdeal.defs _ _).mono (fun _ h c => ⟨?_, ?_, ?_, (h c).2.2.2⟩) (Cert.AdBaRefIdeal.Value.run (F := Ideal) m' ρ')
  · rw [(h c).1, (hagree c).1, (hagree c).2.1, (hagree c).2.2.1, (hagree c).2.2.2]
    funext i
    rfl
  · rw [(h c).2.1, (hagree c).2.1, (hagree c).2.2.1]
    funext i
    rfl
  · rw [(h c).2.2.1, (hagree c).2.1, (hagree c).2.2.2]
    funext i
    rfl

theorem reference_frame : quiescent_AdBaRefIdeal := fun m ρ _ =>
  (θ_run Cert.AdBaRefIdeal.defs _ _).mono (fun r h => ⟨fun c => (h c).2.2.2, sem_eq_zero_of_no_sems (by decide) r.2⟩) (Cert.AdBaRefIdeal.Value.run (F := Ideal) m ρ)

end Cert.Proof.AdBa

end
-- ==== Proof.Ad.AdNorm.lean ====
module

public import proofs.«01_k».proof.Defs
public import proofs.«01_k».proof.Proof.Gen.AdNormIdeal.Value
public import proofs.«01_k».proof.Proof.Gen.AdNormRefIdeal.Run

@[expose] public section

/-! # The optimiser's call on an array of 2 rows and 32 lanes

One grid point takes the whole arrays. -/

noncomputable section

namespace Cert.Proof.AdNorm

open Idealize.ShloMosaic Idealize.ShloMosaic.TcCoe Idealize.SL.Sem

/-- The kernel's call gives what the reference gives. -/
theorem algebraic : algebraic_AdNormIdeal_AdNormRefIdeal := by
  intro m ρ m' ρ' _ hagree
  refine ⟨_, _, _, Cert.AdNormIdeal.Value.run (F := Ideal) m ρ, ?_⟩
  refine (θ_run Cert.AdNormRefIdeal.defs _ _).mono (fun _ h c => ⟨?_, ?_, ?_, (h c).2.2.2⟩) (Cert.AdNormRefIdeal.Value.run (F := Ideal) m' ρ')
  · rw [(h c).1, (hagree c).1, (hagree c).2.1, (hagree c).2.2.1, (hagree c).2.2.2]
    funext i
    rfl
  · rw [(h c).2.1, (hagree c).2.1, (hagree c).2.2.1]
    funext i
    rfl
  · rw [(h c).2.2.1, (hagree c).2.1, (hagree c).2.2.2]
    funext i
    rfl

theorem reference_frame : quiescent_AdNormRefIdeal := fun m ρ _ =>
  (θ_run Cert.AdNormRefIdeal.defs _ _).mono (fun r h => ⟨fun c => (h c).2.2.2, sem_eq_zero_of_no_sems (by decide) r.2⟩) (Cert.AdNormRefIdeal.Value.run (F := Ideal) m ρ)

end Cert.Proof.AdNorm

end
-- ==== Proof.Ad.AdUp.lean ====
module

public import proofs.«01_k».proof.Defs
public import proofs.«01_k».proof.Proof.Ad.Entry
public import proofs.«01_k».proof.Proof.Gen.AdUpIdeal.Value
public import proofs.«01_k».proof.Proof.Gen.AdUpRefIdeal.Run
public import Idealize.ShloMosaic.Lib.Pipeline.ValueKit
public import Idealize.ShloMosaic.Lib.Pipeline.ReadBack
public import Idealize.ShloMosaic.Lib.Pointwise

@[expose] public section

/-! # The optimiser's call on an array of 4096 rows and 704 lanes

A grid point takes 512 rows of the weight, of its gradient and of its two moments, and leaves the same rows of the three
results. -/

set_option maxRecDepth 16384

noncomputable section

namespace Cert.Proof.AdUp

open Idealize.ShloMosaic Idealize.ShloMosaic.TcCoe Idealize.SL.Sem Cert.AdUpIdeal Cert.AdUpIdeal.Gen Cert.AdUpIdeal.Value Cert.Proof.Ad

variable (m : (ℓ : Loc nD τ sig) → Buf (Elt Ideal) ℓ) (c : Dev nD)

/-- The blocks that the windows name at a grid point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

theorem idx_lt (t : Fin cfg0.N) : t.val < 8 := t.isLt

/-- The weight, its gradient and its two moments, as the call takes them. -/
abbrev I0 : FVec Ideal S4096x704 .f32 := V m c (Pipeline.arrRef spec0 0)
abbrev I1 : FVec Ideal S4096x704 .f32 := V m c (Pipeline.arrRef spec0 1)
abbrev I2 : FVec Ideal S4096x704 .f32 := V m c (Pipeline.arrRef spec0 2)
abbrev I3 : FVec Ideal S4096x704 .f32 := V m c (Pipeline.arrRef spec0 3)

/-- A block's entry is the array's, at the block's own rows. -/
theorem blk0 (t : Fin cfg0.N) (r : Fin 512) (l : Fin 704) : iblk m c 0 t (ix2 r l) = at2 (I0 m c) (t.val * 512 + r.val) (0 * 704 + l.val) := by
  have ht := idx_lt t
  have e := (idx t).1
  refine Eq.trans ?_ (at2_eq (I0 m c) _ _ (by omega) (by omega))
  unfold iblk
  blk_ext! [e]

theorem ld0 (t : Fin cfg0.N) (z : S512x704.Idx) : View.ld (iblk m c 0 t) r0_0 z = at2 (I0 m c) (t.val * 512 + (z 0).val) (0 * 704 + (z 1).val) := by
  have h : r0_0.idx z = ix2 (z 0) (z 1) := by
    refine funext fun a => Fin.ext ?_
    match a with
    | ⟨0, _⟩ => show 0 + 1 * (z 0).val = (z 0).val; omega
    | ⟨1, _⟩ => show 0 + 1 * (z 1).val = (z 1).val; omega
  exact (congrArg (iblk m c 0 t) h).trans (blk0 m c t (z 0) (z 1))

theorem blk1 (t : Fin cfg0.N) (r : Fin 512) (l : Fin 704) : iblk m c 1 t (ix2 r l) = at2 (I1 m c) (t.val * 512 + r.val) (0 * 704 + l.val) := by
  have ht := idx_lt t
  have e := (idx t).2.1
  refine Eq.trans ?_ (at2_eq (I1 m c) _ _ (by omega) (by omega))
  unfold iblk
  blk_ext! [e]

theorem ld1 (t : Fin cfg0.N) (z : S512x704.Idx) : View.ld (iblk m c 1 t) r0_0 z = at2 (I1 m c) (t.val * 512 + (z 0).val) (0 * 704 + (z 1).val) := by
  have h : r0_0.idx z = ix2 (z 0) (z 1) := by
    refine funext fun a => Fin.ext ?_
    match a with
    | ⟨0, _⟩ => show 0 + 1 * (z 0).val = (z 0).val; omega
    | ⟨1, _⟩ => show 0 + 1 * (z 1).val = (z 1).val; omega
  exact (congrArg (iblk m c 1 t) h).trans (blk1 m c t (z 0) (z 1))

theorem blk2 (t : Fin cfg0.N) (r : Fin 512) (l : Fin 704) : iblk m c 2 t (ix2 r l) = at2 (I2 m c) (t.val * 512 + r.val) (0 * 704 + l.val) := by
  have ht := idx_lt t
  have e := (idx t).2.2.1
  refine Eq.trans ?_ (at2_eq (I2 m c) _ _ (by omega) (by omega))
  unfold iblk
  blk_ext! [e]

theorem ld2 (t : Fin cfg0.N) (z : S512x704.Idx) : View.ld (iblk m c 2 t) r0_0 z = at2 (I2 m c) (t.val * 512 + (z 0).val) (0 * 704 + (z 1).val) := by
  have h : r0_0.idx z = ix2 (z 0) (z 1) := by
    refine funext fun a => Fin.ext ?_
    match a with
    | ⟨0, _⟩ => show 0 + 1 * (z 0).val = (z 0).val; omega
    | ⟨1, _⟩ => show 0 + 1 * (z 1).val = (z 1).val; omega
  exact (congrArg (iblk m c 2 t) h).trans (blk2 m c t (z 0) (z 1))

theorem blk3 (t : Fin cfg0.N) (r : Fin 512) (l : Fin 704) : iblk m c 3 t (ix2 r l) = at2 (I3 m c) (t.val * 512 + r.val) (0 * 704 + l.val) := by
  have ht := idx_lt t
  have e := (idx t).2.2.2.1
  refine Eq.trans ?_ (at2_eq (I3 m c) _ _ (by omega) (by omega))
  unfold iblk
  blk_ext! [e]

theorem ld3 (t : Fin cfg0.N) (z : S512x704.Idx) : View.ld (iblk m c 3 t) r0_0 z = at2 (I3 m c) (t.val * 512 + (z 0).val) (0 * 704 + (z 1).val) := by
  have h : r0_0.idx z = ix2 (z 0) (z 1) := by
    refine funext fun a => Fin.ext ?_
    match a with
    | ⟨0, _⟩ => show 0 + 1 * (z 0).val = (z 0).val; omega
    | ⟨1, _⟩ => show 0 + 1 * (z 1).val = (z 1).val; omega
  exact (congrArg (iblk m c 3 t) h).trans (blk3 m c t (z 0) (z 1))

theorem final4 : (dats m 0 c).arrAt 4 cfg0.N = (fun y => delta (I0 m c y) (I1 m c y) (I2 m c y) (I3 m c y) : FVec Ideal S4096x704 .f32) := by
  suffices h : (dats m 0 c).arrAt 4 cfg0.N = (fun y => delta (at2 (I0 m c) (y 0).val (y 1).val) (at2 (I1 m c) (y 0).val (y 1).val) (at2 (I2 m c) (y 0).val (y 1).val) (at2 (I3 m c) (y 0).val (y 1).val) : FVec Ideal S4096x704 .f32) by
    rw [h]; funext y; rw [at2_idx, at2_idx, at2_idx, at2_idx]
  refine (dats m 0 c).arrAt_eq_of_covers 4 _ (by decide +kernel) fun t hf y => ?_
  blk_simp
  rw [after0_4]
  unfold out0_4
  rw [canon4_eq]
  have h0 : win0_4.index t 0 = t.val := congrFun (idx t).2.2.2.2.1 0
  have h1 : win0_4.index t 1 = 0 := congrFun (idx t).2.2.2.2.1 1
  rw [h0, h1]
  unfold E4
  simp only [ld0, ld1, ld2, ld3]
  rfl

theorem final5 : (dats m 0 c).arrAt 5 cfg0.N = (fun y => newM (I1 m c y) (I2 m c y) : FVec Ideal S4096x704 .f32) := by
  suffices h : (dats m 0 c).arrAt 5 cfg0.N = (fun y => newM (at2 (I1 m c) (y 0).val (y 1).val) (at2 (I2 m c) (y 0).val (y 1).val) : FVec Ideal S4096x704 .f32) by
    rw [h]; funext y; rw [at2_idx, at2_idx]
  refine (dats m 0 c).arrAt_eq_of_covers 5 _ (by decide +kernel) fun t hf y => ?_
  blk_simp
  rw [after0_5]
  unfold out0_5
  rw [canon5_eq]
  have h0 : win0_5.index t 0 = t.val := congrFun (idx t).2.2.2.2.2.1 0
  have h1 : win0_5.index t 1 = 0 := congrFun (idx t).2.2.2.2.2.1 1
  rw [h0, h1]
  unfold E5
  simp only [ld1, ld2]
  rfl

theorem final6 : (dats m 0 c).arrAt 6 cfg0.N = (fun y => newV (I1 m c y) (I3 m c y) : FVec Ideal S4096x704 .f32) := by
  suffices h : (dats m 0 c).arrAt 6 cfg0.N = (fun y => newV (at2 (I1 m c) (y 0).val (y 1).val) (at2 (I3 m c) (y 0).val (y 1).val) : FVec Ideal S4096x704 .f32) by
    rw [h]; funext y; rw [at2_idx, at2_idx]
  refine (dats m 0 c).arrAt_eq_of_covers 6 _ (by decide +kernel) fun t hf y => ?_
  blk_simp
  rw [after0_6]
  unfold out0_6
  rw [canon6_eq]
  have h0 : win0_6.index t 0 = t.val := congrFun (idx t).2.2.2.2.2.2 0
  have h1 : win0_6.index t 1 = 0 := congrFun (idx t).2.2.2.2.2.2 1
  rw [h0, h1]
  unfold E6
  simp only [ld1, ld3]
  rfl

theorem in0 : I0 m c = shapeCast _ (m ((c : Thread nD τ).loc main_arg0)) shapeCasts_S4x1024x704_S4096x704 := rfl
theorem in1 : I1 m c = shapeCast _ (m ((c : Thread nD τ).loc main_arg1)) shapeCasts_S4x1024x704_S4096x704 := rfl
theorem in2 : I2 m c = shapeCast _ (m ((c : Thread nD τ).loc main_arg2)) shapeCasts_S4x1024x704_S4096x704 := rfl
theorem in3 : I3 m c = shapeCast _ (m ((c : Thread nD τ).loc main_arg3)) shapeCasts_S4x1024x704_S4096x704 := rfl

/-- The kernel's call gives what the reference gives. -/
theorem algebraic : algebraic_AdUpIdeal_AdUpRefIdeal := by
  intro m ρ m' ρ' _ hagree
  refine ⟨_, _, _, Cert.AdUpIdeal.Value.run_blocks (F := Ideal) m ρ, ?_⟩
  refine (θ_run Cert.AdUpRefIdeal.defs _ _).mono (fun _ h c => ⟨?_, ?_, ?_, (h c).2.2.2⟩) (Cert.AdUpRefIdeal.Value.run (F := Ideal) m' ρ')
  · rw [(h c).1, final4, in0, in1, in2, in3, (hagree c).1, (hagree c).2.1, (hagree c).2.2.1, (hagree c).2.2.2]
    rfl
  · rw [(h c).2.1, final5, in1, in2, (hagree c).2.1, (hagree c).2.2.1]
    rfl
  · rw [(h c).2.2.1, final6, in1, in3, (hagree c).2.1, (hagree c).2.2.2]
    rfl

theorem reference_frame : quiescent_AdUpRefIdeal := fun m ρ _ =>
  (θ_run Cert.AdUpRefIdeal.defs _ _).mono (fun r h => ⟨fun c => (h c).2.2.2, sem_eq_zero_of_no_sems (by decide) r.2⟩) (Cert.AdUpRefIdeal.Value.run (F := Ideal) m ρ)

end Cert.Proof.AdUp

end
-- ==== Proof.Ad.AdConvW.lean ====
module

public import proofs.«01_k».proof.Defs
public import proofs.«01_k».proof.Proof.Ad.Entry
public import proofs.«01_k».proof.Proof.Gen.AdConvWIdeal.Value
public import proofs.«01_k».proof.Proof.Gen.AdConvWRefIdeal.Run
public import Idealize.ShloMosaic.Lib.Pipeline.ValueKit
public import Idealize.ShloMosaic.Lib.Pipeline.ReadBack
public import Idealize.ShloMosaic.Lib.Pointwise

@[expose] public section

/-! # The optimiser's call on an array of 12 rows and 704 lanes

A grid point takes 12 rows of the weight, of its gradient and of its two moments, and leaves the same rows of the three
results. -/

set_option maxRecDepth 16384

noncomputable section

namespace Cert.Proof.AdConvW

open Idealize.ShloMosaic Idealize.ShloMosaic.TcCoe Idealize.SL.Sem Cert.AdConvWIdeal Cert.AdConvWIdeal.Gen Cert.AdConvWIdeal.Value Cert.Proof.Ad

variable (m : (ℓ : Loc nD τ sig) → Buf (Elt Ideal) ℓ) (c : Dev nD)

/-- The blocks that the windows name at a grid point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

theorem idx_lt (t : Fin cfg0.N) : t.val < 1 := t.isLt

/-- The weight, its gradient and its two moments, as the call takes them. -/
abbrev I0 : FVec Ideal S12x704 .f32 := V m c (Pipeline.arrRef spec0 0)
abbrev I1 : FVec Ideal S12x704 .f32 := V m c (Pipeline.arrRef spec0 1)
abbrev I2 : FVec Ideal S12x704 .f32 := V m c (Pipeline.arrRef spec0 2)
abbrev I3 : FVec Ideal S12x704 .f32 := V m c (Pipeline.arrRef spec0 3)

/-- A block's entry is the array's, at the block's own rows. -/
theorem blk0 (t : Fin cfg0.N) (r : Fin 12) (l : Fin 704) : iblk m c 0 t (ix2 r l) = at2 (I0 m c) (t.val * 12 + r.val) (0 * 704 + l.val) := by
  have ht := idx_lt t
  have e := (idx t).1
  refine Eq.trans ?_ (at2_eq (I0 m c) _ _ (by omega) (by omega))
  unfold iblk
  blk_ext! [e]

theorem ld0 (t : Fin cfg0.N) (z : S12x704.Idx) : View.ld (iblk m c 0 t) r0_0 z = at2 (I0 m c) (t.val * 12 + (z 0).val) (0 * 704 + (z 1).val) := by
  have h : r0_0.idx z = ix2 (z 0) (z 1) := by
    refine funext fun a => Fin.ext ?_
    match a with
    | ⟨0, _⟩ => show 0 + 1 * (z 0).val = (z 0).val; omega
    | ⟨1, _⟩ => show 0 + 1 * (z 1).val = (z 1).val; omega
  exact (congrArg (iblk m c 0 t) h).trans (blk0 m c t (z 0) (z 1))

theorem blk1 (t : Fin cfg0.N) (r : Fin 12) (l : Fin 704) : iblk m c 1 t (ix2 r l) = at2 (I1 m c) (t.val * 12 + r.val) (0 * 704 + l.val) := by
  have ht := idx_lt t
  have e := (idx t).2.1
  refine Eq.trans ?_ (at2_eq (I1 m c) _ _ (by omega) (by omega))
  unfold iblk
  blk_ext! [e]

theorem ld1 (t : Fin cfg0.N) (z : S12x704.Idx) : View.ld (iblk m c 1 t) r0_0 z = at2 (I1 m c) (t.val * 12 + (z 0).val) (0 * 704 + (z 1).val) := by
  have h : r0_0.idx z = ix2 (z 0) (z 1) := by
    refine funext fun a => Fin.ext ?_
    match a with
    | ⟨0, _⟩ => show 0 + 1 * (z 0).val = (z 0).val; omega
    | ⟨1, _⟩ => show 0 + 1 * (z 1).val = (z 1).val; omega
  exact (congrArg (iblk m c 1 t) h).trans (blk1 m c t (z 0) (z 1))

theorem blk2 (t : Fin cfg0.N) (r : Fin 12) (l : Fin 704) : iblk m c 2 t (ix2 r l) = at2 (I2 m c) (t.val * 12 + r.val) (0 * 704 + l.val) := by
  have ht := idx_lt t
  have e := (idx t).2.2.1
  refine Eq.trans ?_ (at2_eq (I2 m c) _ _ (by omega) (by omega))
  unfold iblk
  blk_ext! [e]

theorem ld2 (t : Fin cfg0.N) (z : S12x704.Idx) : View.ld (iblk m c 2 t) r0_0 z = at2 (I2 m c) (t.val * 12 + (z 0).val) (0 * 704 + (z 1).val) := by
  have h : r0_0.idx z = ix2 (z 0) (z 1) := by
    refine funext fun a => Fin.ext ?_
    match a with
    | ⟨0, _⟩ => show 0 + 1 * (z 0).val = (z 0).val; omega
    | ⟨1, _⟩ => show 0 + 1 * (z 1).val = (z 1).val; omega
  exact (congrArg (iblk m c 2 t) h).trans (blk2 m c t (z 0) (z 1))

theorem blk3 (t : Fin cfg0.N) (r : Fin 12) (l : Fin 704) : iblk m c 3 t (ix2 r l) = at2 (I3 m c) (t.val * 12 + r.val) (0 * 704 + l.val) := by
  have ht := idx_lt t
  have e := (idx t).2.2.2.1
  refine Eq.trans ?_ (at2_eq (I3 m c) _ _ (by omega) (by omega))
  unfold iblk
  blk_ext! [e]

theorem ld3 (t : Fin cfg0.N) (z : S12x704.Idx) : View.ld (iblk m c 3 t) r0_0 z = at2 (I3 m c) (t.val * 12 + (z 0).val) (0 * 704 + (z 1).val) := by
  have h : r0_0.idx z = ix2 (z 0) (z 1) := by
    refine funext fun a => Fin.ext ?_
    match a with
    | ⟨0, _⟩ => show 0 + 1 * (z 0).val = (z 0).val; omega
    | ⟨1, _⟩ => show 0 + 1 * (z 1).val = (z 1).val; omega
  exact (congrArg (iblk m c 3 t) h).trans (blk3 m c t (z 0) (z 1))

theorem final4 : (dats m 0 c).arrAt 4 cfg0.N = (fun y => delta (I0 m c y) (I1 m c y) (I2 m c y) (I3 m c y) : FVec Ideal S12x704 .f32) := by
  suffices h : (dats m 0 c).arrAt 4 cfg0.N = (fun y => delta (at2 (I0 m c) (y 0).val (y 1).val) (at2 (I1 m c) (y 0).val (y 1).val) (at2 (I2 m c) (y 0).val (y 1).val) (at2 (I3 m c) (y 0).val (y 1).val) : FVec Ideal S12x704 .f32) by
    rw [h]; funext y; rw [at2_idx, at2_idx, at2_idx, at2_idx]
  refine (dats m 0 c).arrAt_eq_of_covers 4 _ (by decide +kernel) fun t hf y => ?_
  blk_simp
  rw [after0_4]
  unfold out0_4
  rw [canon4_eq]
  have h0 : win0_4.index t 0 = t.val := congrFun (idx t).2.2.2.2.1 0
  have h1 : win0_4.index t 1 = 0 := congrFun (idx t).2.2.2.2.1 1
  rw [h0, h1]
  unfold E4
  simp only [ld0, ld1, ld2, ld3]
  rfl

theorem final5 : (dats m 0 c).arrAt 5 cfg0.N = (fun y => newM (I1 m c y) (I2 m c y) : FVec Ideal S12x704 .f32) := by
  suffices h : (dats m 0 c).arrAt 5 cfg0.N = (fun y => newM (at2 (I1 m c) (y 0).val (y 1).val) (at2 (I2 m c) (y 0).val (y 1).val) : FVec Ideal S12x704 .f32) by
    rw [h]; funext y; rw [at2_idx, at2_idx]
  refine (dats m 0 c).arrAt_eq_of_covers 5 _ (by decide +kernel) fun t hf y => ?_
  blk_simp
  rw [after0_5]
  unfold out0_5
  rw [canon5_eq]
  have h0 : win0_5.index t 0 = t.val := congrFun (idx t).2.2.2.2.2.1 0
  have h1 : win0_5.index t 1 = 0 := congrFun (idx t).2.2.2.2.2.1 1
  rw [h0, h1]
  unfold E5
  simp only [ld1, ld2]
  rfl

theorem final6 : (dats m 0 c).arrAt 6 cfg0.N = (fun y => newV (I1 m c y) (I3 m c y) : FVec Ideal S12x704 .f32) := by
  suffices h : (dats m 0 c).arrAt 6 cfg0.N = (fun y => newV (at2 (I1 m c) (y 0).val (y 1).val) (at2 (I3 m c) (y 0).val (y 1).val) : FVec Ideal S12x704 .f32) by
    rw [h]; funext y; rw [at2_idx, at2_idx]
  refine (dats m 0 c).arrAt_eq_of_covers 6 _ (by decide +kernel) fun t hf y => ?_
  blk_simp
  rw [after0_6]
  unfold out0_6
  rw [canon6_eq]
  have h0 : win0_6.index t 0 = t.val := congrFun (idx t).2.2.2.2.2.2 0
  have h1 : win0_6.index t 1 = 0 := congrFun (idx t).2.2.2.2.2.2 1
  rw [h0, h1]
  unfold E6
  simp only [ld1, ld3]
  rfl

theorem in0 : I0 m c = shapeCast _ (m ((c : Thread nD τ).loc main_arg0)) shapeCasts_S4x3x704_S12x704 := rfl
theorem in1 : I1 m c = shapeCast _ (m ((c : Thread nD τ).loc main_arg1)) shapeCasts_S4x3x704_S12x704 := rfl
theorem in2 : I2 m c = shapeCast _ (m ((c : Thread nD τ).loc main_arg2)) shapeCasts_S4x3x704_S12x704 := rfl
theorem in3 : I3 m c = shapeCast _ (m ((c : Thread nD τ).loc main_arg3)) shapeCasts_S4x3x704_S12x704 := rfl

/-- The kernel's call gives what the reference gives. -/
theorem algebraic : algebraic_AdConvWIdeal_AdConvWRefIdeal := by
  intro m ρ m' ρ' _ hagree
  refine ⟨_, _, _, Cert.AdConvWIdeal.Value.run_blocks (F := Ideal) m ρ, ?_⟩
  refine (θ_run Cert.AdConvWRefIdeal.defs _ _).mono (fun _ h c => ⟨?_, ?_, ?_, (h c).2.2.2⟩) (Cert.AdConvWRefIdeal.Value.run (F := Ideal) m' ρ')
  · rw [(h c).1, final4, in0, in1, in2, in3, (hagree c).1, (hagree c).2.1, (hagree c).2.2.1, (hagree c).2.2.2]
    rfl
  · rw [(h c).2.1, final5, in1, in2, (hagree c).2.1, (hagree c).2.2.1]
    rfl
  · rw [(h c).2.2.1, final6, in1, in3, (hagree c).2.1, (hagree c).2.2.2]
    rfl

theorem reference_frame : quiescent_AdConvWRefIdeal := fun m ρ _ =>
  (θ_run Cert.AdConvWRefIdeal.defs _ _).mono (fun r h => ⟨fun c => (h c).2.2.2, sem_eq_zero_of_no_sems (by decide) r.2⟩) (Cert.AdConvWRefIdeal.Value.run (F := Ideal) m ρ)

end Cert.Proof.AdConvW

end
-- ==== Proof.Ad.AdConvB.lean ====
module

public import proofs.«01_k».proof.Defs
public import proofs.«01_k».proof.Proof.Gen.AdConvBIdeal.Value
public import proofs.«01_k».proof.Proof.Gen.AdConvBRefIdeal.Run

@[expose] public section

/-! # The optimiser's call on an array of 4 rows and 5632 lanes

One grid point takes the whole arrays. -/

noncomputable section

namespace Cert.Proof.AdConvB

open Idealize.ShloMosaic Idealize.ShloMosaic.TcCoe Idealize.SL.Sem

/-- The kernel's call gives what the reference gives. -/
theorem algebraic : algebraic_AdConvBIdeal_AdConvBRefIdeal := by
  intro m ρ m' ρ' _ hagree
  refine ⟨_, _, _, Cert.AdConvBIdeal.Value.run (F := Ideal) m ρ, ?_⟩
  refine (θ_run Cert.AdConvBRefIdeal.defs _ _).mono (fun _ h c => ⟨?_, ?_, ?_, (h c).2.2.2⟩) (Cert.AdConvBRefIdeal.Value.run (F := Ideal) m' ρ')
  · rw [(h c).1, (hagree c).1, (hagree c).2.1, (hagree c).2.2.1, (hagree c).2.2.2]
    funext i
    rfl
  · rw [(h c).2.1, (hagree c).2.1, (hagree c).2.2.1]
    funext i
    rfl
  · rw [(h c).2.2.1, (hagree c).2.1, (hagree c).2.2.2]
    funext i
    rfl

theorem reference_frame : quiescent_AdConvBRefIdeal := fun m ρ _ =>
  (θ_run Cert.AdConvBRefIdeal.defs _ _).mono (fun r h => ⟨fun c => (h c).2.2.2, sem_eq_zero_of_no_sems (by decide) r.2⟩) (Cert.AdConvBRefIdeal.Value.run (F := Ideal) m ρ)

end Cert.Proof.AdConvB

end
-- ==== Proof.Ad.AdDown.lean ====
module

public import proofs.«01_k».proof.Defs
public import proofs.«01_k».proof.Proof.Ad.Entry
public import proofs.«01_k».proof.Proof.Gen.AdDownIdeal.Value
public import proofs.«01_k».proof.Proof.Gen.AdDownRefIdeal.Run
public import Idealize.ShloMosaic.Lib.Pipeline.ValueKit
public import Idealize.ShloMosaic.Lib.Pipeline.ReadBack
public import Idealize.ShloMosaic.Lib.Pointwise

@[expose] public section

/-! # The optimiser's call on an array of 1408 rows and 1024 lanes

A grid point takes 128 rows of the weight, of its gradient and of its two moments, and leaves the same rows of the three
results. -/

set_option maxRecDepth 16384

noncomputable section

namespace Cert.Proof.AdDown

open Idealize.ShloMosaic Idealize.ShloMosaic.TcCoe Idealize.SL.Sem Cert.AdDownIdeal Cert.AdDownIdeal.Gen Cert.AdDownIdeal.Value Cert.Proof.Ad

variable (m : (ℓ : Loc nD τ sig) → Buf (Elt Ideal) ℓ) (c : Dev nD)

/-- The blocks that the windows name at a grid point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

theorem idx_lt (t : Fin cfg0.N) : t.val < 11 := t.isLt

/-- The weight, its gradient and its two moments, as the call takes them. -/
abbrev I0 : FVec Ideal S1408x1024 .f32 := V m c (Pipeline.arrRef spec0 0)
abbrev I1 : FVec Ideal S1408x1024 .f32 := V m c (Pipeline.arrRef spec0 1)
abbrev I2 : FVec Ideal S1408x1024 .f32 := V m c (Pipeline.arrRef spec0 2)
abbrev I3 : FVec Ideal S1408x1024 .f32 := V m c (Pipeline.arrRef spec0 3)

/-- A block's entry is the array's, at the block's own rows. -/
theorem blk0 (t : Fin cfg0.N) (r : Fin 128) (l : Fin 1024) : iblk m c 0 t (ix2 r l) = at2 (I0 m c) (t.val * 128 + r.val) (0 * 1024 + l.val) := by
  have ht := idx_lt t
  have e := (idx t).1
  refine Eq.trans ?_ (at2_eq (I0 m c) _ _ (by omega) (by omega))
  unfold iblk
  blk_ext! [e]

theorem ld0 (t : Fin cfg0.N) (z : S128x1024.Idx) : View.ld (iblk m c 0 t) r0_0 z = at2 (I0 m c) (t.val * 128 + (z 0).val) (0 * 1024 + (z 1).val) := by
  have h : r0_0.idx z = ix2 (z 0) (z 1) := by
    refine funext fun a => Fin.ext ?_
    match a with
    | ⟨0, _⟩ => show 0 + 1 * (z 0).val = (z 0).val; omega
    | ⟨1, _⟩ => show 0 + 1 * (z 1).val = (z 1).val; omega
  exact (congrArg (iblk m c 0 t) h).trans (blk0 m c t (z 0) (z 1))

theorem blk1 (t : Fin cfg0.N) (r : Fin 128) (l : Fin 1024) : iblk m c 1 t (ix2 r l) = at2 (I1 m c) (t.val * 128 + r.val) (0 * 1024 + l.val) := by
  have ht := idx_lt t
  have e := (idx t).2.1
  refine Eq.trans ?_ (at2_eq (I1 m c) _ _ (by omega) (by omega))
  unfold iblk
  blk_ext! [e]

theorem ld1 (t : Fin cfg0.N) (z : S128x1024.Idx) : View.ld (iblk m c 1 t) r0_0 z = at2 (I1 m c) (t.val * 128 + (z 0).val) (0 * 1024 + (z 1).val) := by
  have h : r0_0.idx z = ix2 (z 0) (z 1) := by
    refine funext fun a => Fin.ext ?_
    match a with
    | ⟨0, _⟩ => show 0 + 1 * (z 0).val = (z 0).val; omega
    | ⟨1, _⟩ => show 0 + 1 * (z 1).val = (z 1).val; omega
  exact (congrArg (iblk m c 1 t) h).trans (blk1 m c t (z 0) (z 1))

theorem blk2 (t : Fin cfg0.N) (r : Fin 128) (l : Fin 1024) : iblk m c 2 t (ix2 r l) = at2 (I2 m c) (t.val * 128 + r.val) (0 * 1024 + l.val) := by
  have ht := idx_lt t
  have e := (idx t).2.2.1
  refine Eq.trans ?_ (at2_eq (I2 m c) _ _ (by omega) (by omega))
  unfold iblk
  blk_ext! [e]

theorem ld2 (t : Fin cfg0.N) (z : S128x1024.Idx) : View.ld (iblk m c 2 t) r0_0 z = at2 (I2 m c) (t.val * 128 + (z 0).val) (0 * 1024 + (z 1).val) := by
  have h : r0_0.idx z = ix2 (z 0) (z 1) := by
    refine funext fun a => Fin.ext ?_
    match a with
    | ⟨0, _⟩ => show 0 + 1 * (z 0).val = (z 0).val; omega
    | ⟨1, _⟩ => show 0 + 1 * (z 1).val = (z 1).val; omega
  exact (congrArg (iblk m c 2 t) h).trans (blk2 m c t (z 0) (z 1))

theorem blk3 (t : Fin cfg0.N) (r : Fin 128) (l : Fin 1024) : iblk m c 3 t (ix2 r l) = at2 (I3 m c) (t.val * 128 + r.val) (0 * 1024 + l.val) := by
  have ht := idx_lt t
  have e := (idx t).2.2.2.1
  refine Eq.trans ?_ (at2_eq (I3 m c) _ _ (by omega) (by omega))
  unfold iblk
  blk_ext! [e]

theorem ld3 (t : Fin cfg0.N) (z : S128x1024.Idx) : View.ld (iblk m c 3 t) r0_0 z = at2 (I3 m c) (t.val * 128 + (z 0).val) (0 * 1024 + (z 1).val) := by
  have h : r0_0.idx z = ix2 (z 0) (z 1) := by
    refine funext fun a => Fin.ext ?_
    match a with
    | ⟨0, _⟩ => show 0 + 1 * (z 0).val = (z 0).val; omega
    | ⟨1, _⟩ => show 0 + 1 * (z 1).val = (z 1).val; omega
  exact (congrArg (iblk m c 3 t) h).trans (blk3 m c t (z 0) (z 1))

theorem final4 : (dats m 0 c).arrAt 4 cfg0.N = (fun y => delta (I0 m c y) (I1 m c y) (I2 m c y) (I3 m c y) : FVec Ideal S1408x1024 .f32) := by
  suffices h : (dats m 0 c).arrAt 4 cfg0.N = (fun y => delta (at2 (I0 m c) (y 0).val (y 1).val) (at2 (I1 m c) (y 0).val (y 1).val) (at2 (I2 m c) (y 0).val (y 1).val) (at2 (I3 m c) (y 0).val (y 1).val) : FVec Ideal S1408x1024 .f32) by
    rw [h]; funext y; rw [at2_idx, at2_idx, at2_idx, at2_idx]
  refine (dats m 0 c).arrAt_eq_of_covers 4 _ (by decide +kernel) fun t hf y => ?_
  blk_simp
  rw [after0_4]
  unfold out0_4
  rw [canon4_eq]
  have h0 : win0_4.index t 0 = t.val := congrFun (idx t).2.2.2.2.1 0
  have h1 : win0_4.index t 1 = 0 := congrFun (idx t).2.2.2.2.1 1
  rw [h0, h1]
  unfold E4
  simp only [ld0, ld1, ld2, ld3]
  rfl

theorem final5 : (dats m 0 c).arrAt 5 cfg0.N = (fun y => newM (I1 m c y) (I2 m c y) : FVec Ideal S1408x1024 .f32) := by
  suffices h : (dats m 0 c).arrAt 5 cfg0.N = (fun y => newM (at2 (I1 m c) (y 0).val (y 1).val) (at2 (I2 m c) (y 0).val (y 1).val) : FVec Ideal S1408x1024 .f32) by
    rw [h]; funext y; rw [at2_idx, at2_idx]
  refine (dats m 0 c).arrAt_eq_of_covers 5 _ (by decide +kernel) fun t hf y => ?_
  blk_simp
  rw [after0_5]
  unfold out0_5
  rw [canon5_eq]
  have h0 : win0_5.index t 0 = t.val := congrFun (idx t).2.2.2.2.2.1 0
  have h1 : win0_5.index t 1 = 0 := congrFun (idx t).2.2.2.2.2.1 1
  rw [h0, h1]
  unfold E5
  simp only [ld1, ld2]
  rfl

theorem final6 : (dats m 0 c).arrAt 6 cfg0.N = (fun y => newV (I1 m c y) (I3 m c y) : FVec Ideal S1408x1024 .f32) := by
  suffices h : (dats m 0 c).arrAt 6 cfg0.N = (fun y => newV (at2 (I1 m c) (y 0).val (y 1).val) (at2 (I3 m c) (y 0).val (y 1).val) : FVec Ideal S1408x1024 .f32) by
    rw [h]; funext y; rw [at2_idx, at2_idx]
  refine (dats m 0 c).arrAt_eq_of_covers 6 _ (by decide +kernel) fun t hf y => ?_
  blk_simp
  rw [after0_6]
  unfold out0_6
  rw [canon6_eq]
  have h0 : win0_6.index t 0 = t.val := congrFun (idx t).2.2.2.2.2.2 0
  have h1 : win0_6.index t 1 = 0 := congrFun (idx t).2.2.2.2.2.2 1
  rw [h0, h1]
  unfold E6
  simp only [ld1, ld3]
  rfl

theorem in0 : I0 m c = shapeCast _ (m ((c : Thread nD τ).loc main_arg0)) shapeCasts_S4x352x1024_S1408x1024 := rfl
theorem in1 : I1 m c = shapeCast _ (m ((c : Thread nD τ).loc main_arg1)) shapeCasts_S4x352x1024_S1408x1024 := rfl
theorem in2 : I2 m c = shapeCast _ (m ((c : Thread nD τ).loc main_arg2)) shapeCasts_S4x352x1024_S1408x1024 := rfl
theorem in3 : I3 m c = shapeCast _ (m ((c : Thread nD τ).loc main_arg3)) shapeCasts_S4x352x1024_S1408x1024 := rfl

/-- The kernel's call gives what the reference gives. -/
theorem algebraic : algebraic_AdDownIdeal_AdDownRefIdeal := by
  intro m ρ m' ρ' _ hagree
  refine ⟨_, _, _, Cert.AdDownIdeal.Value.run_blocks (F := Ideal) m ρ, ?_⟩
  refine (θ_run Cert.AdDownRefIdeal.defs _ _).mono (fun _ h c => ⟨?_, ?_, ?_, (h c).2.2.2⟩) (Cert.AdDownRefIdeal.Value.run (F := Ideal) m' ρ')
  · rw [(h c).1, final4, in0, in1, in2, in3, (hagree c).1, (hagree c).2.1, (hagree c).2.2.1, (hagree c).2.2.2]
    rfl
  · rw [(h c).2.1, final5, in1, in2, (hagree c).2.1, (hagree c).2.2.1]
    rfl
  · rw [(h c).2.2.1, final6, in1, in3, (hagree c).2.1, (hagree c).2.2.2]
    rfl

theorem reference_frame : quiescent_AdDownRefIdeal := fun m ρ _ =>
  (θ_run Cert.AdDownRefIdeal.defs _ _).mono (fun r h => ⟨fun c => (h c).2.2.2, sem_eq_zero_of_no_sems (by decide) r.2⟩) (Cert.AdDownRefIdeal.Value.run (F := Ideal) m ρ)

end Cert.Proof.AdDown

end
-- ==== Proof.Ad.AdLn.lean ====
module

public import proofs.«01_k».proof.Defs
public import proofs.«01_k».proof.Proof.Gen.AdLnIdeal.Value
public import proofs.«01_k».proof.Proof.Gen.AdLnRefIdeal.Run

@[expose] public section

/-! # The optimiser's call on an array of 4 rows and 1024 lanes

One grid point takes the whole arrays. -/

noncomputable section

namespace Cert.Proof.AdLn

open Idealize.ShloMosaic Idealize.ShloMosaic.TcCoe Idealize.SL.Sem

/-- The kernel's call gives what the reference gives. -/
theorem algebraic : algebraic_AdLnIdeal_AdLnRefIdeal := by
  intro m ρ m' ρ' _ hagree
  refine ⟨_, _, _, Cert.AdLnIdeal.Value.run (F := Ideal) m ρ, ?_⟩
  refine (θ_run Cert.AdLnRefIdeal.defs _ _).mono (fun _ h c => ⟨?_, ?_, ?_, (h c).2.2.2⟩) (Cert.AdLnRefIdeal.Value.run (F := Ideal) m' ρ')
  · rw [(h c).1, (hagree c).1, (hagree c).2.1, (hagree c).2.2.1, (hagree c).2.2.2]
    funext i
    rfl
  · rw [(h c).2.1, (hagree c).2.1, (hagree c).2.2.1]
    funext i
    rfl
  · rw [(h c).2.2.1, (hagree c).2.1, (hagree c).2.2.2]
    funext i
    rfl

theorem reference_frame : quiescent_AdLnRefIdeal := fun m ρ _ =>
  (θ_run Cert.AdLnRefIdeal.defs _ _).mono (fun r h => ⟨fun c => (h c).2.2.2, sem_eq_zero_of_no_sems (by decide) r.2⟩) (Cert.AdLnRefIdeal.Value.run (F := Ideal) m ρ)

end Cert.Proof.AdLn

end
-- ==== Proof.Ad.Loss.lean ====
module

public import proofs.«01_k».proof.Defs
public import proofs.«01_k».proof.Proof.Gen.LossIdeal.Value
public import proofs.«01_k».proof.Proof.Gen.LossRefIdeal.Run
public import Idealize.ShloMosaic.Lib.Pipeline.ValueKit
public import Idealize.ShloMosaic.Lib.Pipeline.ReadBack
public import Idealize.ShloMosaic.Lib.Pointwise

@[expose] public section

/-! # The loss and its gradient

A grid point takes 256 tokens. It leaves their gradient, and adds their squared errors into the sum over the tokens, feature
by feature. Squares are not negative, so the factor can be taken into the sum. -/

set_option maxRecDepth 16384

noncomputable section

namespace Cert.Proof.Loss

open Idealize.ShloMosaic Idealize.ShloMosaic.TcCoe Idealize.SL.Sem Cert.LossIdeal Cert.LossIdeal.Gen

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- The square of a difference. -/
def sq (x y : EReal) : EReal := (x - y) * (x - y)

theorem sq_nonneg (x y : EReal) : 0 ≤ sq x y := by
  unfold sq
  generalize x - y = e
  induction e using EReal.rec with
  | bot => simp
  | top => simp
  | coe r => rw [← EReal.coe_mul]; exact EReal.coe_nonneg.mpr (mul_self_nonneg r)

theorem sum_mul {ι : Type} (s : Finset ι) (f : ι → EReal) (h : ∀ i, 0 ≤ f i) (a : EReal) : (∑ i ∈ s, f i) * a = ∑ i ∈ s, f i * a := by
  classical
  induction s using Finset.induction_on with
  | empty => simp
  | insert i s hi ih =>
    rw [Finset.sum_insert hi, Finset.sum_insert hi, EReal.right_distrib_of_nonneg (h i) (Finset.sum_nonneg fun j _ => h j), ih]

theorem ofBits_scale : Ideal.ofBits .f32 0x3A000000#32 = ((1 / 2048 : ℝ) : EReal) := by
  simp [Ideal.ofBits, Ideal.ieee]
  rw [← EReal.coe_mul]
  norm_num
theorem ofBits_width : Ideal.ofBits .f32 0x44800000#32 = ((1024 : ℝ) : EReal) := by
  simp [Ideal.ofBits, Ideal.ieee]
  rw [← EReal.coe_mul]
  norm_num
theorem ofBits_half : Ideal.ofBits .f32 0x3F000000#32 = ((1 / 2 : ℝ) : EReal) := by
  simp [Ideal.ofBits, Ideal.ieee]
  rw [← EReal.coe_mul]
  norm_num
theorem ofBits_two : Ideal.ofBits .f32 0x40000000#32 = ((2 : ℝ) : EReal) := by
  simp [Ideal.ofBits, Ideal.ieee]
  rw [← EReal.coe_mul]
  norm_num

/-- The blocks of the output and the target at a grid point. -/
abbrev A0 (c : Dev nD) (t : Fin cfg0.N) : FVec Ideal S256x1024 .f32 := iblk m c 0 t
abbrev A1 (c : Dev nD) (t : Fin cfg0.N) : FVec Ideal S256x1024 .f32 := iblk m c 1 t

/-- The sum after the last grid point. -/
theorem acc_eq (c : Dev nD) (t : Fin cfg0.N) (h : t.val % 32 = 31) (j : S1x1024.Idx) :
    (outsAt0 m c t.val t.isLt).1 j = ∑ s : Fin 32, (∑ k : Fin 256,
      sq (A0 m c ⟨32 * (t.val / 32) + s.val, Pipeline.run_point_lt_of_flush t h s⟩ (ix2 k (j 1)))
        (A1 m c ⟨32 * (t.val / 32) + s.val, Pipeline.run_point_lt_of_flush t h s⟩ (ix2 k (j 1)))) * Ideal.ofBits .f32 0x3A000000#32 := by
  refine (Pipeline.eq_sum_fin_of_reset_step_apply_of_flush (fun n h => (outsAt0 m c n h).1) 32 (fun _ => 0)
    (fun t j => (∑ k : Fin 256, sq (A0 m c t (ix2 k (j 1))) (A1 m c t (ix2 k (j 1)))) * Ideal.ofBits .f32 0x3A000000#32) (fun t h j => ?_)
    (fun t h j => ?_) t h j).trans (by rw [zero_add])
  · rw [outsAt0_A m c t h]
    frame_out
    pointwise [k0_pay4, k0_pay2, k0_pay1, sq]
  · rw [outsAt0_B m c t h]
    frame_out
    pointwise [k0_pay4, k0_pay2, sq]

theorem grad_eq (c : Dev nD) (t : Fin cfg0.N) (j : S256x1024.Idx) :
    (outsAt0 m c t.val t.isLt).2 j = Ideal.div (A0 m c t j - A1 m c t j) (Ideal.ofBits .f32 0x44800000#32) := by
  by_cases h : t.val % 32 = 0
  · rw [outsAt0_A m c t h]
    frame_out
    pointwise [k0_pay3, k0_pay2]
  · rw [outsAt0_B m c t h]
    frame_out
    pointwise [k0_pay3, k0_pay2]

def G (a b : FVec Ideal S8192x1024 .f32) : FVec Ideal S1x1024 .f32 := fun i => ∑ k : Fin 8192, sq (a (ix2 k (i 1))) (b (ix2 k (i 1))) * Ideal.ofBits .f32 0x3A000000#32

/-- The sums of squares that both programs leave, and the gradient. -/
def D (a b : FVec Ideal S8192x1024 .f32) : FVec Ideal S8192x1024 .f32 := fun i => Ideal.div (a i - b i) (Ideal.ofBits .f32 0x44800000#32)

theorem final2 (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  have ht : t.val % 32 = 31 := (flush0_2 t).mp hf
  obtain ⟨-, -, e2, -⟩ := idx t
  rw [acc_eq m c t ht, G]
  simp only [sum_mul _ _ (fun _ => sq_nonneg _ _)]
  refine Fin.sum_mul_add_congr fun s k hl => ?_
  obtain ⟨e0, e1, -, -⟩ := idx ⟨32 * (t.val / 32) + s.val, Pipeline.run_point_lt_of_flush t ht s⟩
  have hs := s.isLt
  have h32 : t.val < 32 := t.isLt
  congr 2
  · blk_ext! [A0, iblk, V, e0, e2]
  · blk_ext! [A1, iblk, V, e1, e2]

theorem final3 (c : Dev nD) : (dats m 0 c).arrAt 3 cfg0.N = D (m ((c : Thread nD τ).loc main_arg0)) (m ((c : Thread nD τ).loc main_arg1)) := by
  refine (dats m 0 c).arrAt_eq_of_covers 3 _ (by decide +kernel) fun t hf y => ?_
  blk_simp
  rw [after0_3]
  obtain ⟨e0, e1, -, e3⟩ := idx t
  refine (grad_eq m c t y).trans ?_
  rw [D]
  congr 2

theorem algebraic : algebraic_LossIdeal_LossRefIdeal := by
  intro m ρ m' ρ' _ hagree
  refine ⟨_, _, Cert.LossIdeal.Value.run_blocks (F := Ideal) m ρ, ?_⟩
  refine (θ_run Cert.LossRefIdeal.defs _ _).mono (fun _ h c => ⟨?_, ?_, (h c).2.2⟩) (Cert.LossRefIdeal.Value.run (F := Ideal) m' ρ')
  · rw [(h c).1, final2, (hagree c).1, (hagree c).2]
    funext i
    pointwise [G]
    simp only [ofBits_half, ofBits_width, ofBits_scale]
    rw [mul_comm, sum_mul _ _ fun k => ?_]
    · refine Finset.sum_congr rfl fun k _ => ?_
      rw [Ideal.div_coe (by norm_num), mul_assoc, ← EReal.coe_mul]
      norm_num [sq]
    · rw [Ideal.div_coe (by norm_num)]
      exact mul_nonneg (sq_nonneg _ _) (EReal.coe_nonneg.mpr (by norm_num))
  · rw [(h c).2.1, final3, (hagree c).1, (hagree c).2]
    funext i
    pointwise [D]
    simp only [ofBits_half, ofBits_width, ofBits_two]
    rw [Ideal.div_coe (by norm_num), Ideal.div_coe (by norm_num), ← mul_assoc, ← EReal.coe_mul, ← EReal.coe_mul, mul_comm]
    norm_num

theorem reference_frame : quiescent_LossRefIdeal := fun m ρ _ =>
  (θ_run Cert.LossRefIdeal.defs _ _).mono (fun r h => ⟨fun c => (h c).2.2, sem_eq_zero_of_no_sems (by decide) r.2⟩) (Cert.LossRefIdeal.Value.run (F := Ideal) m ρ)

end Cert.Proof.Loss

end
-- ==== Proof.Ad.SumW.lean ====
module

public import proofs.«01_k».proof.Defs
public import proofs.«01_k».proof.Proof.Gen.SumWIdeal.Value
public import proofs.«01_k».proof.Proof.Gen.SumWRefIdeal.Run
public import Idealize.ShloMosaic.Lib.Pipeline.ValueKit
public import Idealize.ShloMosaic.Lib.Pipeline.ReadBack
public import Idealize.ShloMosaic.Lib.Pointwise

@[expose] public section

/-! # The sum of the devices' gradients, 6320 rows

A grid point takes 16 rows of each of the eight parts. -/

set_option maxRecDepth 16384

noncomputable section

namespace Cert.Proof.SumW

open Idealize.ShloMosaic Idealize.ShloMosaic.TcCoe Idealize.SL.Sem Cert.SumWIdeal Cert.SumWIdeal.Gen

variable (m : (ℓ : Loc nD τ sig) → Buf (Elt Ideal) ℓ) (c : Dev nD)

theorem idx : ∀ t : Fin cfg0.N, win0_0.index t = ![0, t.val, 0] ∧ win0_1.index t = ![t.val, 0] :=
  (by decide +kernel : ∀ t : Fin grid0.N, _)

theorem idx_lt (t : Fin cfg0.N) : t.val < 395 := t.isLt

theorem out (x0 : Vec Ideal S8x16x1024 .f32) (r : Fin 16) (l : Fin 1024) : out0_1 (F := Ideal) x0 (ix2 r l) = (∑ s : Fin 8, x0 (ix3 s r l) : EReal) := by
  unfold out0_1
  frame_out
  pointwise [k0_pay1]
  rw [Fin.sum_univ_eight]

/-- The entry of the parts by its part, row and lane, zero outside. -/
def at3 (A : FVec Ideal S8x6320x1024 .f32) (s : Fin 8) (r l : ℕ) : EReal := if h : r < 6320 ∧ l < 1024 then A (ix3 s ⟨r, h.1⟩ ⟨l, h.2⟩) else 0

theorem at3_eq (A : FVec Ideal S8x6320x1024 .f32) (s : Fin 8) (r l : ℕ) (hr : r < 6320) (hl : l < 1024) : A (ix3 s ⟨r, hr⟩ ⟨l, hl⟩) = at3 A s r l := by
  unfold at3
  rw [dif_pos ⟨hr, hl⟩]

abbrev I0 : FVec Ideal S8x6320x1024 .f32 := V m c (Pipeline.arrRef spec0 0)

theorem blk0 (t : Fin cfg0.N) (s : Fin 8) (r : Fin 16) (l : Fin 1024) : iblk m c 0 t (ix3 s r l) = at3 (I0 m c) s (t.val * 16 + r.val) (0 * 1024 + l.val) := by
  have ht := idx_lt t
  have e := (idx t).1
  refine Eq.trans ?_ (at3_eq (I0 m c) s _ _ (by omega) (by omega))
  unfold iblk
  blk_ext! [e]

theorem eta (y : S16x1024.Idx) : y = ix2 (y 0) (y 1) := by
  funext a
  match a with
  | ⟨0, _⟩ => rfl
  | ⟨1, _⟩ => rfl

theorem final : (dats m 0 c).arrAt 1 cfg0.N = (fun y => ∑ s : Fin 8, at3 (I0 m c) s (y 0).val (y 1).val : FVec Ideal S6320x1024 .f32) := by
  refine (dats m 0 c).arrAt_eq_of_covers 1 _ (by decide +kernel) fun t hf y => ?_
  blk_simp
  rw [after0_1]
  have h0 : win0_1.index t 0 = t.val := congrFun (idx t).2 0
  have h1 : win0_1.index t 1 = 0 := congrFun (idx t).2 1
  rw [h0, h1]
  refine (congrArg (out0_1 (iblk m c 0 t)) (eta y)).trans ((out _ _ _).trans ?_)
  exact Finset.sum_congr rfl fun s _ => blk0 m c t s (y 0) (y 1)

theorem in0 : I0 m c = m ((c : Thread nD τ).loc main_arg0) := rfl

/-- The kernel's call gives what the reference gives. -/
theorem algebraic : algebraic_SumWIdeal_SumWRefIdeal := by
  intro m ρ m' ρ' _ hagree
  refine ⟨_, Cert.SumWIdeal.Value.run_blocks (F := Ideal) m ρ, ?_⟩
  refine (θ_run Cert.SumWRefIdeal.defs _ _).mono (fun _ h c => ⟨?_, (h c).2⟩) (Cert.SumWRefIdeal.Value.run (F := Ideal) m' ρ')
  rw [(h c).1, final, hagree c]
  clear h hagree
  funext i
  obtain ⟨r, l, rfl⟩ : ∃ (r : Fin 6320) (l : Fin 1024), i = ix2 r l := ⟨i 0, i 1, by
    funext a
    match a with
    | ⟨0, _⟩ => rfl
    | ⟨1, _⟩ => rfl⟩
  refine Eq.trans ?_ (Finset.sum_congr rfl fun s _ => at3_eq (I0 m c) s r.val l.val r.isLt l.isLt)
  rw [in0]
  pointwise []

theorem reference_frame : quiescent_SumWRefIdeal := fun m ρ _ =>
  (θ_run Cert.SumWRefIdeal.defs _ _).mono (fun r h => ⟨fun c => (h c).2, sem_eq_zero_of_no_sems (by decide) r.2⟩) (Cert.SumWRefIdeal.Value.run (F := Ideal) m ρ)

end Cert.Proof.SumW

end
-- ==== Proof.Ad.SumR.lean ====
module

public import proofs.«01_k».proof.Defs
public import proofs.«01_k».proof.Proof.Gen.SumRIdeal.Value
public import proofs.«01_k».proof.Proof.Gen.SumRRefIdeal.Run
public import Idealize.ShloMosaic.Lib.Pipeline.ValueKit
public import Idealize.ShloMosaic.Lib.Pipeline.ReadBack
public import Idealize.ShloMosaic.Lib.Pointwise

@[expose] public section

/-! # The sum of the devices' gradients, 56 rows

A grid point takes 8 rows of each of the eight parts. -/

set_option maxRecDepth 16384

noncomputable section

namespace Cert.Proof.SumR

open Idealize.ShloMosaic Idealize.ShloMosaic.TcCoe Idealize.SL.Sem Cert.SumRIdeal Cert.SumRIdeal.Gen

variable (m : (ℓ : Loc nD τ sig) → Buf (Elt Ideal) ℓ) (c : Dev nD)

theorem idx : ∀ t : Fin cfg0.N, win0_0.index t = ![0, t.val, 0] ∧ win0_1.index t = ![t.val, 0] :=
  (by decide +kernel : ∀ t : Fin grid0.N, _)

theorem idx_lt (t : Fin cfg0.N) : t.val < 7 := t.isLt

theorem out (x0 : Vec Ideal S8x8x1024 .f32) (r : Fin 8) (l : Fin 1024) : out0_1 (F := Ideal) x0 (ix2 r l) = (∑ s : Fin 8, x0 (ix3 s r l) : EReal) := by
  unfold out0_1
  frame_out
  pointwise [k0_pay1]
  rw [Fin.sum_univ_eight]

/-- The entry of the parts by its part, row and lane, zero outside. -/
def at3 (A : FVec Ideal S8x56x1024 .f32) (s : Fin 8) (r l : ℕ) : EReal := if h : r < 56 ∧ l < 1024 then A (ix3 s ⟨r, h.1⟩ ⟨l, h.2⟩) else 0

theorem at3_eq (A : FVec Ideal S8x56x1024 .f32) (s : Fin 8) (r l : ℕ) (hr : r < 56) (hl : l < 1024) : A (ix3 s ⟨r, hr⟩ ⟨l, hl⟩) = at3 A s r l := by
  unfold at3
  rw [dif_pos ⟨hr, hl⟩]

abbrev I0 : FVec Ideal S8x56x1024 .f32 := V m c (Pipeline.arrRef spec0 0)

theorem blk0 (t : Fin cfg0.N) (s : Fin 8) (r : Fin 8) (l : Fin 1024) : iblk m c 0 t (ix3 s r l) = at3 (I0 m c) s (t.val * 8 + r.val) (0 * 1024 + l.val) := by
  have ht := idx_lt t
  have e := (idx t).1
  refine Eq.trans ?_ (at3_eq (I0 m c) s _ _ (by omega) (by omega))
  unfold iblk
  blk_ext! [e]

theorem eta (y : S8x1024.Idx) : y = ix2 (y 0) (y 1) := by
  funext a
  match a with
  | ⟨0, _⟩ => rfl
  | ⟨1, _⟩ => rfl

theorem final : (dats m 0 c).arrAt 1 cfg0.N = (fun y => ∑ s : Fin 8, at3 (I0 m c) s (y 0).val (y 1).val : FVec Ideal S56x1024 .f32) := by
  refine (dats m 0 c).arrAt_eq_of_covers 1 _ (by decide +kernel) fun t hf y => ?_
  blk_simp
  rw [after0_1]
  have h0 : win0_1.index t 0 = t.val := congrFun (idx t).2 0
  have h1 : win0_1.index t 1 = 0 := congrFun (idx t).2 1
  rw [h0, h1]
  refine (congrArg (out0_1 (iblk m c 0 t)) (eta y)).trans ((out _ _ _).trans ?_)
  exact Finset.sum_congr rfl fun s _ => blk0 m c t s (y 0) (y 1)

theorem in0 : I0 m c = m ((c : Thread nD τ).loc main_arg0) := rfl

/-- The kernel's call gives what the reference gives. -/
theorem algebraic : algebraic_SumRIdeal_SumRRefIdeal := by
  intro m ρ m' ρ' _ hagree
  refine ⟨_, Cert.SumRIdeal.Value.run_blocks (F := Ideal) m ρ, ?_⟩
  refine (θ_run Cert.SumRRefIdeal.defs _ _).mono (fun _ h c => ⟨?_, (h c).2⟩) (Cert.SumRRefIdeal.Value.run (F := Ideal) m' ρ')
  rw [(h c).1, final, hagree c]
  clear h hagree
  funext i
  obtain ⟨r, l, rfl⟩ : ∃ (r : Fin 56) (l : Fin 1024), i = ix2 r l := ⟨i 0, i 1, by
    funext a
    match a with
    | ⟨0, _⟩ => rfl
    | ⟨1, _⟩ => rfl⟩
  refine Eq.trans ?_ (Finset.sum_congr rfl fun s _ => at3_eq (I0 m c) s r.val l.val r.isLt l.isLt)
  rw [in0]
  pointwise []

theorem reference_frame : quiescent_SumRRefIdeal := fun m ρ _ =>
  (θ_run Cert.SumRRefIdeal.defs _ _).mono (fun r h => ⟨fun c => (h c).2, sem_eq_zero_of_no_sems (by decide) r.2⟩) (Cert.SumRRefIdeal.Value.run (F := Ideal) m ρ)

end Cert.Proof.SumR

end
-- ==== Proof.Ad.LnF.lean ====
module

public import proofs.«01_k».proof.Defs
public import proofs.«01_k».proof.Proof.Ad.Entry
public import proofs.«01_k».proof.Proof.Gen.LnFIdeal.Value
public import proofs.«01_k».proof.Proof.Gen.LnFRefIdeal.Run
public import Idealize.ShloMosaic.Lib.Pipeline.ValueKit
public import Idealize.ShloMosaic.Lib.Pipeline.ReadBack
public import Idealize.ShloMosaic.Lib.Pointwise

@[expose] public section

/-! # The residual sum and its layer norm

A grid point takes 256 rows, and each row is normalised by itself. -/

set_option maxRecDepth 16384

noncomputable section

namespace Cert.Proof.LnF

open Idealize.ShloMosaic Idealize.ShloMosaic.TcCoe Idealize.SL.Sem Cert.LnFIdeal Cert.LnFIdeal.Gen Cert.Proof.Ad

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![t.val, 0] :=
  (by decide +kernel : ∀ t : Fin grid0.N, _)

theorem idx_lt (t : Fin cfg0.N) : t.val < 32 := t.isLt

/-- The scaled sum, a row's mean, and an entry of the normalised row. -/
def mix (x y : EReal) : EReal := Ideal.ofBits .f32 0x3FD744FD#32 * x + y
def avg (f : Fin 1024 → EReal) : EReal := Ideal.div (∑ k, f k) (Ideal.ofBits .f32 0x44800000#32)
def norm (f : Fin 1024 → EReal) (x g b : EReal) : EReal :=
  (x - avg f) * Ideal.rsqrt (avg (fun k => (f k - avg f) * (f k - avg f)) + Ideal.ofBits .f32 0x3727C5AC#32) * g + b

section
variable (x0 x1 : Vec Ideal S256x1024 .f32) (x2 x3 : Vec Ideal S1x1024 .f32) (r : Fin 256) (l : Fin 1024)

theorem o6 : out0_6 (F := Ideal) x0 x1 x2 x3 (ix2 r l) = (mix (x0 (ix2 r l)) (x1 (ix2 r l)) : EReal) := by
  unfold out0_6
  frame_out
  pointwise [k0_pay1, mix]

theorem o4 : out0_4 (F := Ideal) x0 x1 x2 x3 (ix2 r l)
    = (norm (fun k => mix (x0 (ix2 r k)) (x1 (ix2 r k))) (mix (x0 (ix2 r l)) (x1 (ix2 r l))) (x2 (ix2 0 l)) (x3 (ix2 0 l)) : EReal) := by
  unfold out0_4
  frame_out
  pointwise [k0_pay2, k0_pay1, norm, avg, mix]

theorem o5 : out0_5 (F := Ideal) x0 x1 x2 x3 (ix2 r l)
    = (norm (fun k => mix (x0 (ix2 r k)) (x1 (ix2 r k))) (mix (x0 (ix2 r l)) (x1 (ix2 r l))) (x2 (ix2 0 l)) (x3 (ix2 0 l)) : EReal) := by
  unfold out0_5
  frame_out
  pointwise [k0_pay3, k0_pay2, k0_pay1, norm, avg, mix]
end

/-- The arrays as the call takes them. -/
abbrev I0 : FVec Ideal S8192x1024 .f32 := V m c (Pipeline.arrRef spec0 0)
abbrev I1 : FVec Ideal S8192x1024 .f32 := V m c (Pipeline.arrRef spec0 1)
abbrev I2 : FVec Ideal S1x1024 .f32 := V m c (Pipeline.arrRef spec0 2)
abbrev I3 : FVec Ideal S1x1024 .f32 := V m c (Pipeline.arrRef spec0 3)

theorem blk0 (t : Fin cfg0.N) (r : Fin 256) (l : Fin 1024) : iblk m c 0 t (ix2 r l) = at2 (I0 m c) (t.val * 256 + r.val) (0 * 1024 + l.val) := by
  have ht := idx_lt t
  have e := (idx t).1
  refine Eq.trans ?_ (at2_eq (I0 m c) _ _ (by omega) (by omega))
  unfold iblk
  blk_ext! [e]
theorem blk1 (t : Fin cfg0.N) (r : Fin 256) (l : Fin 1024) : iblk m c 1 t (ix2 r l) = at2 (I1 m c) (t.val * 256 + r.val) (0 * 1024 + l.val) := by
  have ht := idx_lt t
  have e := (idx t).2.1
  refine Eq.trans ?_ (at2_eq (I1 m c) _ _ (by omega) (by omega))
  unfold iblk
  blk_ext! [e]
theorem blk2 (t : Fin cfg0.N) (l : Fin 1024) : iblk m c 2 t (ix2 0 l) = at2 (I2 m c) 0 (0 * 1024 + l.val) := by
  have e := (idx t).2.2.1
  refine Eq.trans ?_ (at2_eq (I2 m c) 0 _ (by omega) (by omega))
  unfold iblk
  blk_ext! [e]
theorem blk3 (t : Fin cfg0.N) (l : Fin 1024) : iblk m c 3 t (ix2 0 l) = at2 (I3 m c) 0 (0 * 1024 + l.val) := by
  have e := (idx t).2.2.2.1
  refine Eq.trans ?_ (at2_eq (I3 m c) 0 _ (by omega) (by omega))
  unfold iblk
  blk_ext! [e]

theorem eta (y : S256x1024.Idx) : y = ix2 (y 0) (y 1) := by
  funext a
  match a with
  | ⟨0, _⟩ => rfl
  | ⟨1, _⟩ => rfl

/-- The normalised array, by row and lane. -/
def gn (r l : ℕ) : EReal := norm (fun k => mix (at2 (I0 m c) r k.val) (at2 (I1 m c) r k.val)) (mix (at2 (I0 m c) r l) (at2 (I1 m c) r l)) (at2 (I2 m c) 0 l) (at2 (I3 m c) 0 l)

theorem tile (t : Fin cfg0.N) (r : Fin 256) (l : Fin 1024) :
    norm (fun k => mix (iblk m c 0 t (ix2 r k)) (iblk m c 1 t (ix2 r k))) (mix (iblk m c 0 t (ix2 r l)) (iblk m c 1 t (ix2 r l))) (iblk m c 2 t (ix2 0 l)) (iblk m c 3 t (ix2 0 l))
      = gn m c (t.val * 256 + r.val) (0 * 1024 + l.val) := by
  have e : (fun k : Fin 1024 => mix (iblk m c 0 t (ix2 r k)) (iblk m c 1 t (ix2 r k)))
      = fun k => mix (at2 (I0 m c) (t.val * 256 + r.val) k.val) (at2 (I1 m c) (t.val * 256 + r.val) k.val) := by
    funext k
    have h := congrArg₂ mix (blk0 m c t r k) (blk1 m c t r k)
    rw [Nat.zero_mul, Nat.zero_add] at h
    exact h
  unfold gn
  exact congr (congr (congr (congrArg norm e) (congrArg₂ mix (blk0 m c t r l) (blk1 m c t r l))) (blk2 m c t l)) (blk3 m c t l)

theorem final4 : (dats m 0 c).arrAt 4 cfg0.N = (fun y => gn m c (y 0).val (y 1).val : FVec Ideal S8192x1024 .f32) := by
  refine (dats m 0 c).arrAt_eq_of_covers 4 _ (by decide +kernel) fun t hf y => ?_
  blk_simp
  rw [after0_4]
  have h0 : win0_4.index t 0 = t.val := congrFun (idx t).2.2.2.2.1 0
  have h1 : win0_4.index t 1 = 0 := congrFun (idx t).2.2.2.2.1 1
  rw [h0, h1]
  refine (congrArg (out0_4 (iblk m c 0 t) (iblk m c 1 t) (iblk m c 2 t) (iblk m c 3 t)) (eta y)).trans ((o4 _ _ _ _ _ _).trans ?_)
  exact tile m c t (y 0) (y 1)

theorem final5 : (dats m 0 c).arrAt 5 cfg0.N = (fun y => gn m c (y 0).val (y 1).val : FVec Ideal S8192x1024 .bf16) := by
  refine (dats m 0 c).arrAt_eq_of_covers 5 _ (by decide +kernel) fun t hf y => ?_
  blk_simp
  rw [after0_5]
  have h0 : win0_5.index t 0 = t.val := congrFun (idx t).2.2.2.2.2.1 0
  have h1 : win0_5.index t 1 = 0 := congrFun (idx t).2.2.2.2.2.1 1
  rw [h0, h1]
  refine (congrArg (out0_5 (iblk m c 0 t) (iblk m c 1 t) (iblk m c 2 t) (iblk m c 3 t)) (eta y)).trans ((o5 _ _ _ _ _ _).trans ?_)
  exact tile m c t (y 0) (y 1)

theorem final6 : (dats m 0 c).arrAt 6 cfg0.N = (fun y => mix (at2 (I0 m c) (y 0).val (y 1).val) (at2 (I1 m c) (y 0).val (y 1).val) : FVec Ideal S8192x1024 .f32) := by
  refine (dats m 0 c).arrAt_eq_of_covers 6 _ (by decide +kernel) fun t hf y => ?_
  blk_simp
  rw [after0_6]
  have h0 : win0_6.index t 0 = t.val := congrFun (idx t).2.2.2.2.2.2 0
  have h1 : win0_6.index t 1 = 0 := congrFun (idx t).2.2.2.2.2.2 1
  rw [h0, h1]
  refine (congrArg (out0_6 (iblk m c 0 t) (iblk m c 1 t) (iblk m c 2 t) (iblk m c 3 t)) (eta y)).trans ((o6 _ _ _ _ _ _).trans ?_)
  exact congrArg₂ mix (blk0 m c t (y 0) (y 1)) (blk1 m c t (y 0) (y 1))

theorem in0 : I0 m c = m ((c : Thread nD τ).loc main_arg0) := rfl
theorem in1 : I1 m c = m ((c : Thread nD τ).loc main_arg1) := rfl
theorem in2 : I2 m c = shapeCast _ (m ((c : Thread nD τ).loc main_arg2)) shapeCasts_S1024_S1x1024 := rfl
theorem in3 : I3 m c = shapeCast _ (m ((c : Thread nD τ).loc main_arg3)) shapeCasts_S1024_S1x1024 := rfl

theorem at2_fin {n k : ℕ} (A : (⟨2, ![n, k]⟩ : Shape).Idx → EReal) (r : Fin n) (l : Fin k) : at2 A r.val l.val = A (ix2 r l) := (at2_eq A r.val l.val r.isLt l.isLt).symm

theorem eta' (y : S8192x1024.Idx) : ∃ (r : Fin 8192) (l : Fin 1024), y = ix2 r l := ⟨y 0, y 1, by
  funext a
  match a with
  | ⟨0, _⟩ => rfl
  | ⟨1, _⟩ => rfl⟩

theorem vec2 (l : Fin 1024) : at2 (I2 m c) 0 l.val = (m ((c : Thread nD τ).loc main_arg2) : FVec Ideal S1024 .f32) (ix1 l) := by
  rw [in2]
  refine (at2_fin (shapeCast _ (m ((c : Thread nD τ).loc main_arg2)) shapeCasts_S1024_S1x1024 : FVec Ideal S1x1024 .f32) 0 l).trans ?_
  pointwise []
theorem vec3 (l : Fin 1024) : at2 (I3 m c) 0 l.val = (m ((c : Thread nD τ).loc main_arg3) : FVec Ideal S1024 .f32) (ix1 l) := by
  rw [in3]
  refine (at2_fin (shapeCast _ (m ((c : Thread nD τ).loc main_arg3)) shapeCasts_S1024_S1x1024 : FVec Ideal S1x1024 .f32) 0 l).trans ?_
  pointwise []

theorem gn_fin (r : Fin 8192) (l : Fin 1024) : gn m c r.val l.val
    = norm (fun k => mix (I0 m c (ix2 r k)) (I1 m c (ix2 r k))) (mix (I0 m c (ix2 r l)) (I1 m c (ix2 r l)))
      ((m ((c : Thread nD τ).loc main_arg2) : FVec Ideal S1024 .f32) (ix1 l)) ((m ((c : Thread nD τ).loc main_arg3) : FVec Ideal S1024 .f32) (ix1 l)) := by
  unfold gn
  rw [vec2, vec3]
  simp only [at2_fin]

/-- The kernel's call gives what the reference gives. -/
theorem algebraic : algebraic_LnFIdeal_LnFRefIdeal := by
  intro m ρ m' ρ' _ hagree
  refine ⟨_, _, _, Cert.LnFIdeal.Value.run_blocks (F := Ideal) m ρ, ?_⟩
  refine (θ_run Cert.LnFRefIdeal.defs _ _).mono (fun _ h c => ⟨?_, ?_, ?_, (h c).2.2.2⟩) (Cert.LnFRefIdeal.Value.run (F := Ideal) m' ρ')
  · rw [(h c).1, final4, (hagree c).1, (hagree c).2.1, (hagree c).2.2.1, (hagree c).2.2.2]
    clear h hagree
    funext i
    obtain ⟨r, l, rfl⟩ := eta' i
    refine Eq.trans ?_ (gn_fin m c r l).symm
    rw [in0, in1]
    pointwise [norm, avg, mix]
  · rw [(h c).2.1, final5, (hagree c).1, (hagree c).2.1, (hagree c).2.2.1, (hagree c).2.2.2]
    clear h hagree
    funext i
    obtain ⟨r, l, rfl⟩ := eta' i
    refine Eq.trans ?_ (gn_fin m c r l).symm
    rw [in0, in1]
    pointwise [norm, avg, mix]
  · rw [(h c).2.2.1, final6, (hagree c).1, (hagree c).2.1]
    clear h hagree
    funext i
    obtain ⟨r, l, rfl⟩ := eta' i
    refine Eq.trans ?_ (congrArg₂ mix (at2_fin (I0 m c) r l) (at2_fin (I1 m c) r l)).symm
    rw [in0, in1]
    pointwise [mix]

theorem reference_frame : quiescent_LnFRefIdeal := fun m ρ _ =>
  (θ_run Cert.LnFRefIdeal.defs _ _).mono (fun r h => ⟨fun c => (h c).2.2.2, sem_eq_zero_of_no_sems (by decide) r.2⟩) (Cert.LnFRefIdeal.Value.run (F := Ideal) m ρ)

end Cert.Proof.LnF

end
-- ==== Proof.lean ====
module

public import proofs.«01_k».proof.Defs
public import proofs.«01_k».proof.Proof.Gen.DownW
public import proofs.«01_k».proof.Proof.Gen.DownW.Skeleton
public import proofs.«01_k».proof.Proof.Gen.DownW.Launch
public import proofs.«01_k».proof.Proof.Gen.DownW.Points
public import proofs.«01_k».proof.Proof.Gen.DownW.Frame
public import proofs.«01_k».proof.Proof.Gen.DownWIdeal
public import proofs.«01_k».proof.Proof.Gen.DownWIdeal.Skeleton
public import proofs.«01_k».proof.Proof.Gen.DownWIdeal.Launch
public import proofs.«01_k».proof.Proof.Gen.DownWIdeal.Points
public import proofs.«01_k».proof.Proof.Gen.DownWIdeal.Frame
public import proofs.«01_k».proof.Proof.Gen.DownWRefIdeal
public import proofs.«01_k».proof.Proof.Gen.DownX
public import proofs.«01_k».proof.Proof.Gen.DownX.Skeleton
public import proofs.«01_k».proof.Proof.Gen.DownX.Launch
public import proofs.«01_k».proof.Proof.Gen.DownX.Points
public import proofs.«01_k».proof.Proof.Gen.DownX.Frame
public import proofs.«01_k».proof.Proof.Gen.DownXIdeal
public import proofs.«01_k».proof.Proof.Gen.DownXIdeal.Skeleton
public import proofs.«01_k».proof.Proof.Gen.DownXIdeal.Launch
public import proofs.«01_k».proof.Proof.Gen.DownXIdeal.Points
public import proofs.«01_k».proof.Proof.Gen.DownXIdeal.Frame
public import proofs.«01_k».proof.Proof.Gen.DownXRefIdeal
public import proofs.«01_k».proof.Proof.Gen.UpW
public import proofs.«01_k».proof.Proof.Gen.UpW.Skeleton
public import proofs.«01_k».proof.Proof.Gen.UpW.Launch
public import proofs.«01_k».proof.Proof.Gen.UpW.Points
public import proofs.«01_k».proof.Proof.Gen.UpW.Frame
public import proofs.«01_k».proof.Proof.Gen.UpWIdeal
public import proofs.«01_k».proof.Proof.Gen.UpWIdeal.Skeleton
public import proofs.«01_k».proof.Proof.Gen.UpWIdeal.Launch
public import proofs.«01_k».proof.Proof.Gen.UpWIdeal.Points
public import proofs.«01_k».proof.Proof.Gen.UpWIdeal.Frame
public import proofs.«01_k».proof.Proof.Gen.UpWRefIdeal
public import proofs.«01_k».proof.Proof.Gen.UpX
public import proofs.«01_k».proof.Proof.Gen.UpX.Skeleton
public import proofs.«01_k».proof.Proof.Gen.UpX.Launch
public import proofs.«01_k».proof.Proof.Gen.UpX.Points
public import proofs.«01_k».proof.Proof.Gen.UpX.Frame
public import proofs.«01_k».proof.Proof.Gen.UpXIdeal
public import proofs.«01_k».proof.Proof.Gen.UpXIdeal.Skeleton
public import proofs.«01_k».proof.Proof.Gen.UpXIdeal.Launch
public import proofs.«01_k».proof.Proof.Gen.UpXIdeal.Points
public import proofs.«01_k».proof.Proof.Gen.UpXIdeal.Frame
public import proofs.«01_k».proof.Proof.Gen.UpXRefIdeal
public import proofs.«01_k».proof.Proof.Gen.UpX2
public import proofs.«01_k».proof.Proof.Gen.UpX2.Skeleton
public import proofs.«01_k».proof.Proof.Gen.UpX2.Launch
public import proofs.«01_k».proof.Proof.Gen.UpX2.Points
public import proofs.«01_k».proof.Proof.Gen.UpX2.Frame
public import proofs.«01_k».proof.Proof.Gen.UpX2Ideal
public import proofs.«01_k».proof.Proof.Gen.UpX2Ideal.Skeleton
public import proofs.«01_k».proof.Proof.Gen.UpX2Ideal.Launch
public import proofs.«01_k».proof.Proof.Gen.UpX2Ideal.Points
public import proofs.«01_k».proof.Proof.Gen.UpX2Ideal.Frame
public import proofs.«01_k».proof.Proof.Gen.UpX2RefIdeal
public import proofs.«01_k».proof.Proof.Gen.OutW
public import proofs.«01_k».proof.Proof.Gen.OutW.Skeleton
public import proofs.«01_k».proof.Proof.Gen.OutW.Launch
public import proofs.«01_k».proof.Proof.Gen.OutW.Points
public import proofs.«01_k».proof.Proof.Gen.OutW.Frame
public import proofs.«01_k».proof.Proof.Gen.OutWIdeal
public import proofs.«01_k».proof.Proof.Gen.OutWIdeal.Skeleton
public import proofs.«01_k».proof.Proof.Gen.OutWIdeal.Launch
public import proofs.«01_k».proof.Proof.Gen.OutWIdeal.Points
public import proofs.«01_k».proof.Proof.Gen.OutWIdeal.Frame
public import proofs.«01_k».proof.Proof.Gen.OutWRefIdeal
public import proofs.«01_k».proof.Proof.Gen.OutX
public import proofs.«01_k».proof.Proof.Gen.OutX.Skeleton
public import proofs.«01_k».proof.Proof.Gen.OutX.Launch
public import proofs.«01_k».proof.Proof.Gen.OutX.Points
public import proofs.«01_k».proof.Proof.Gen.OutX.Frame
public import proofs.«01_k».proof.Proof.Gen.OutXIdeal
public import proofs.«01_k».proof.Proof.Gen.OutXIdeal.Skeleton
public import proofs.«01_k».proof.Proof.Gen.OutXIdeal.Launch
public import proofs.«01_k».proof.Proof.Gen.OutXIdeal.Points
public import proofs.«01_k».proof.Proof.Gen.OutXIdeal.Frame
public import proofs.«01_k».proof.Proof.Gen.OutXRefIdeal
public import proofs.«01_k».proof.Proof.Gen.OutX2
public import proofs.«01_k».proof.Proof.Gen.OutX2.Skeleton
public import proofs.«01_k».proof.Proof.Gen.OutX2.Launch
public import proofs.«01_k».proof.Proof.Gen.OutX2.Points
public import proofs.«01_k».proof.Proof.Gen.OutX2.Frame
public import proofs.«01_k».proof.Proof.Gen.OutX2Ideal
public import proofs.«01_k».proof.Proof.Gen.OutX2Ideal.Skeleton
public import proofs.«01_k».proof.Proof.Gen.OutX2Ideal.Launch
public import proofs.«01_k».proof.Proof.Gen.OutX2Ideal.Points
public import proofs.«01_k».proof.Proof.Gen.OutX2Ideal.Frame
public import proofs.«01_k».proof.Proof.Gen.OutX2RefIdeal
public import proofs.«01_k».proof.Proof.Gen.QkvW
public import proofs.«01_k».proof.Proof.Gen.QkvW.Skeleton
public import proofs.«01_k».proof.Proof.Gen.QkvW.Launch
public import proofs.«01_k».proof.Proof.Gen.QkvW.Points
public import proofs.«01_k».proof.Proof.Gen.QkvW.Frame
public import proofs.«01_k».proof.Proof.Gen.QkvWIdeal
public import proofs.«01_k».proof.Proof.Gen.QkvWIdeal.Skeleton
public import proofs.«01_k».proof.Proof.Gen.QkvWIdeal.Launch
public import proofs.«01_k».proof.Proof.Gen.QkvWIdeal.Points
public import proofs.«01_k».proof.Proof.Gen.QkvWIdeal.Frame
public import proofs.«01_k».proof.Proof.Gen.QkvWRefIdeal
public import proofs.«01_k».proof.Proof.Gen.QkvX
public import proofs.«01_k».proof.Proof.Gen.QkvX.Skeleton
public import proofs.«01_k».proof.Proof.Gen.QkvX.Launch
public import proofs.«01_k».proof.Proof.Gen.QkvX.Points
public import proofs.«01_k».proof.Proof.Gen.QkvX.Frame
public import proofs.«01_k».proof.Proof.Gen.QkvXIdeal
public import proofs.«01_k».proof.Proof.Gen.QkvXIdeal.Skeleton
public import proofs.«01_k».proof.Proof.Gen.QkvXIdeal.Launch
public import proofs.«01_k».proof.Proof.Gen.QkvXIdeal.Points
public import proofs.«01_k».proof.Proof.Gen.QkvXIdeal.Frame
public import proofs.«01_k».proof.Proof.Gen.QkvXRefIdeal
public import proofs.«01_k».proof.Proof.Gen.GlaW
public import proofs.«01_k».proof.Proof.Gen.GlaW.Skeleton
public import proofs.«01_k».proof.Proof.Gen.GlaW.Launch
public import proofs.«01_k».proof.Proof.Gen.GlaW.Points
public import proofs.«01_k».proof.Proof.Gen.GlaW.Frame
public import proofs.«01_k».proof.Proof.Gen.GlaWIdeal
public import proofs.«01_k».proof.Proof.Gen.GlaWIdeal.Skeleton
public import proofs.«01_k».proof.Proof.Gen.GlaWIdeal.Launch
public import proofs.«01_k».proof.Proof.Gen.GlaWIdeal.Points
public import proofs.«01_k».proof.Proof.Gen.GlaWIdeal.Frame
public import proofs.«01_k».proof.Proof.Gen.GlaWRefIdeal
public import proofs.«01_k».proof.Proof.Gen.GlaX
public import proofs.«01_k».proof.Proof.Gen.GlaX.Skeleton
public import proofs.«01_k».proof.Proof.Gen.GlaX.Launch
public import proofs.«01_k».proof.Proof.Gen.GlaX.Points
public import proofs.«01_k».proof.Proof.Gen.GlaX.Frame
public import proofs.«01_k».proof.Proof.Gen.GlaXIdeal
public import proofs.«01_k».proof.Proof.Gen.GlaXIdeal.Skeleton
public import proofs.«01_k».proof.Proof.Gen.GlaXIdeal.Launch
public import proofs.«01_k».proof.Proof.Gen.GlaXIdeal.Points
public import proofs.«01_k».proof.Proof.Gen.GlaXIdeal.Frame
public import proofs.«01_k».proof.Proof.Gen.GlaXRefIdeal
public import proofs.«01_k».proof.Proof.Gen.QkvF
public import proofs.«01_k».proof.Proof.Gen.QkvF.Skeleton
public import proofs.«01_k».proof.Proof.Gen.QkvF.Launch
public import proofs.«01_k».proof.Proof.Gen.QkvF.Points
public import proofs.«01_k».proof.Proof.Gen.QkvF.Frame
public import proofs.«01_k».proof.Proof.Gen.QkvFIdeal
public import proofs.«01_k».proof.Proof.Gen.QkvFIdeal.Skeleton
public import proofs.«01_k».proof.Proof.Gen.QkvFIdeal.Launch
public import proofs.«01_k».proof.Proof.Gen.QkvFIdeal.Points
public import proofs.«01_k».proof.Proof.Gen.QkvFIdeal.Frame
public import proofs.«01_k».proof.Proof.Gen.QkvFRefIdeal
public import proofs.«01_k».proof.Proof.Gen.OutF
public import proofs.«01_k».proof.Proof.Gen.OutF.Skeleton
public import proofs.«01_k».proof.Proof.Gen.OutF.Launch
public import proofs.«01_k».proof.Proof.Gen.OutF.Points
public import proofs.«01_k».proof.Proof.Gen.OutF.Frame
public import proofs.«01_k».proof.Proof.Gen.OutFIdeal
public import proofs.«01_k».proof.Proof.Gen.OutFIdeal.Skeleton
public import proofs.«01_k».proof.Proof.Gen.OutFIdeal.Launch
public import proofs.«01_k».proof.Proof.Gen.OutFIdeal.Points
public import proofs.«01_k».proof.Proof.Gen.OutFIdeal.Frame
public import proofs.«01_k».proof.Proof.Gen.OutFRefIdeal
public import proofs.«01_k».proof.Proof.Gen.GlaF
public import proofs.«01_k».proof.Proof.Gen.GlaF.Skeleton
public import proofs.«01_k».proof.Proof.Gen.GlaF.Launch
public import proofs.«01_k».proof.Proof.Gen.GlaF.Points
public import proofs.«01_k».proof.Proof.Gen.GlaF.Frame
public import proofs.«01_k».proof.Proof.Gen.GlaFIdeal
public import proofs.«01_k».proof.Proof.Gen.GlaFIdeal.Skeleton
public import proofs.«01_k».proof.Proof.Gen.GlaFIdeal.Launch
public import proofs.«01_k».proof.Proof.Gen.GlaFIdeal.Points
public import proofs.«01_k».proof.Proof.Gen.GlaFIdeal.Frame
public import proofs.«01_k».proof.Proof.Gen.GlaFRefIdeal
public import proofs.«01_k».proof.Proof.Gen.UpF
public import proofs.«01_k».proof.Proof.Gen.UpF.Skeleton
public import proofs.«01_k».proof.Proof.Gen.UpF.Launch
public import proofs.«01_k».proof.Proof.Gen.UpF.Points
public import proofs.«01_k».proof.Proof.Gen.UpF.Frame
public import proofs.«01_k».proof.Proof.Gen.UpFIdeal
public import proofs.«01_k».proof.Proof.Gen.UpFIdeal.Skeleton
public import proofs.«01_k».proof.Proof.Gen.UpFIdeal.Launch
public import proofs.«01_k».proof.Proof.Gen.UpFIdeal.Points
public import proofs.«01_k».proof.Proof.Gen.UpFIdeal.Frame
public import proofs.«01_k».proof.Proof.Gen.UpFRefIdeal
public import proofs.«01_k».proof.Proof.Gen.DownF
public import proofs.«01_k».proof.Proof.Gen.DownF.Skeleton
public import proofs.«01_k».proof.Proof.Gen.DownF.Launch
public import proofs.«01_k».proof.Proof.Gen.DownF.Points
public import proofs.«01_k».proof.Proof.Gen.DownF.Frame
public import proofs.«01_k».proof.Proof.Gen.DownFIdeal
public import proofs.«01_k».proof.Proof.Gen.DownFIdeal.Skeleton
public import proofs.«01_k».proof.Proof.Gen.DownFIdeal.Launch
public import proofs.«01_k».proof.Proof.Gen.DownFIdeal.Points
public import proofs.«01_k».proof.Proof.Gen.DownFIdeal.Frame
public import proofs.«01_k».proof.Proof.Gen.DownFRefIdeal
public import proofs.«01_k».proof.Proof.Gen.SbBwd
public import proofs.«01_k».proof.Proof.Gen.SbBwd.Skeleton
public import proofs.«01_k».proof.Proof.Gen.SbBwd.Loops
public import proofs.«01_k».proof.Proof.Gen.SbBwd.Launch
public import proofs.«01_k».proof.Proof.Gen.SbBwd.Points
public import proofs.«01_k».proof.Proof.Gen.SbBwd.Frame
public import proofs.«01_k».proof.Proof.Gen.SbBwdIdeal
public import proofs.«01_k».proof.Proof.Gen.SbBwdIdeal.Skeleton
public import proofs.«01_k».proof.Proof.Gen.SbBwdIdeal.Loops
public import proofs.«01_k».proof.Proof.Gen.SbBwdIdeal.Launch
public import proofs.«01_k».proof.Proof.Gen.SbBwdIdeal.Points
public import proofs.«01_k».proof.Proof.Gen.SbBwdIdeal.Frame
public import proofs.«01_k».proof.Proof.Gen.SbBwdRefIdeal
public import Idealize.ShloMosaic.Adequacy
public import Idealize.ShloMosaic.Init
public import proofs.«01_k».proof.Proof.Mm.DownW
public import proofs.«01_k».proof.Proof.Mm.DownX
public import proofs.«01_k».proof.Proof.Mm.UpW
public import proofs.«01_k».proof.Proof.Mm.UpX
public import proofs.«01_k».proof.Proof.Mm.UpX2
public import proofs.«01_k».proof.Proof.Mm.OutW
public import proofs.«01_k».proof.Proof.Mm.OutX
public import proofs.«01_k».proof.Proof.Mm.OutX2
public import proofs.«01_k».proof.Proof.Mm.QkvW
public import proofs.«01_k».proof.Proof.Mm.QkvX
public import proofs.«01_k».proof.Proof.Mm.GlaW
public import proofs.«01_k».proof.Proof.Mm.GlaX
public import proofs.«01_k».proof.Proof.Mm.QkvF
public import proofs.«01_k».proof.Proof.Mm.OutF
public import proofs.«01_k».proof.Proof.Mm.GlaF
public import proofs.«01_k».proof.Proof.Mm.UpF
public import proofs.«01_k».proof.Proof.Mm.DownF
public import proofs.«01_k».proof.Proof.Sb.Value
public import proofs.«01_k».proof.Proof.Ad.AdQkv
public import proofs.«01_k».proof.Proof.Ad.AdOut
public import proofs.«01_k».proof.Proof.Ad.AdA1
public import proofs.«01_k».proof.Proof.Ad.AdA2
public import proofs.«01_k».proof.Proof.Ad.AdBa
public import proofs.«01_k».proof.Proof.Ad.AdNorm
public import proofs.«01_k».proof.Proof.Ad.AdUp
public import proofs.«01_k».proof.Proof.Ad.AdConvW
public import proofs.«01_k».proof.Proof.Ad.AdConvB
public import proofs.«01_k».proof.Proof.Ad.AdDown
public import proofs.«01_k».proof.Proof.Ad.AdLn
public import proofs.«01_k».proof.Proof.Ad.Loss
public import proofs.«01_k».proof.Proof.Ad.SumW
public import proofs.«01_k».proof.Proof.Ad.SumR
public import proofs.«01_k».proof.Proof.Ad.LnF
public import proofs.«01_k».proof.Proof.Gen.AdQkv
public import proofs.«01_k».proof.Proof.Gen.AdQkv.Skeleton
public import proofs.«01_k».proof.Proof.Gen.AdQkv.Launch
public import proofs.«01_k».proof.Proof.Gen.AdQkv.Points
public import proofs.«01_k».proof.Proof.Gen.AdQkv.Frame
public import proofs.«01_k».proof.Proof.Gen.AdQkvIdeal
public import proofs.«01_k».proof.Proof.Gen.AdQkvIdeal.Skeleton
public import proofs.«01_k».proof.Proof.Gen.AdQkvIdeal.Launch
public import proofs.«01_k».proof.Proof.Gen.AdQkvIdeal.Points
public import proofs.«01_k».proof.Proof.Gen.AdQkvIdeal.Frame
public import proofs.«01_k».proof.Proof.Gen.AdQkvRefIdeal
public import proofs.«01_k».proof.Proof.Gen.AdOut
public import proofs.«01_k».proof.Proof.Gen.AdOut.Skeleton
public import proofs.«01_k».proof.Proof.Gen.AdOut.Launch
public import proofs.«01_k».proof.Proof.Gen.AdOut.Points
public import proofs.«01_k».proof.Proof.Gen.AdOut.Frame
public import proofs.«01_k».proof.Proof.Gen.AdOutIdeal
public import proofs.«01_k».proof.Proof.Gen.AdOutIdeal.Skeleton
public import proofs.«01_k».proof.Proof.Gen.AdOutIdeal.Launch
public import proofs.«01_k».proof.Proof.Gen.AdOutIdeal.Points
public import proofs.«01_k».proof.Proof.Gen.AdOutIdeal.Frame
public import proofs.«01_k».proof.Proof.Gen.AdOutRefIdeal
public import proofs.«01_k».proof.Proof.Gen.AdA1
public import proofs.«01_k».proof.Proof.Gen.AdA1.Skeleton
public import proofs.«01_k».proof.Proof.Gen.AdA1.Launch
public import proofs.«01_k».proof.Proof.Gen.AdA1.Points
public import proofs.«01_k».proof.Proof.Gen.AdA1.Frame
public import proofs.«01_k».proof.Proof.Gen.AdA1Ideal
public import proofs.«01_k».proof.Proof.Gen.AdA1Ideal.Skeleton
public import proofs.«01_k».proof.Proof.Gen.AdA1Ideal.Launch
public import proofs.«01_k».proof.Proof.Gen.AdA1Ideal.Points
public import proofs.«01_k».proof.Proof.Gen.AdA1Ideal.Frame
public import proofs.«01_k».proof.Proof.Gen.AdA1RefIdeal
public import proofs.«01_k».proof.Proof.Gen.AdA2
public import proofs.«01_k».proof.Proof.Gen.AdA2.Skeleton
public import proofs.«01_k».proof.Proof.Gen.AdA2.Launch
public import proofs.«01_k».proof.Proof.Gen.AdA2.Points
public import proofs.«01_k».proof.Proof.Gen.AdA2.Frame
public import proofs.«01_k».proof.Proof.Gen.AdA2Ideal
public import proofs.«01_k».proof.Proof.Gen.AdA2Ideal.Skeleton
public import proofs.«01_k».proof.Proof.Gen.AdA2Ideal.Launch
public import proofs.«01_k».proof.Proof.Gen.AdA2Ideal.Points
public import proofs.«01_k».proof.Proof.Gen.AdA2Ideal.Frame
public import proofs.«01_k».proof.Proof.Gen.AdA2RefIdeal
public import proofs.«01_k».proof.Proof.Gen.AdBa
public import proofs.«01_k».proof.Proof.Gen.AdBa.Skeleton
public import proofs.«01_k».proof.Proof.Gen.AdBa.Launch
public import proofs.«01_k».proof.Proof.Gen.AdBa.Points
public import proofs.«01_k».proof.Proof.Gen.AdBa.Frame
public import proofs.«01_k».proof.Proof.Gen.AdBaIdeal
public import proofs.«01_k».proof.Proof.Gen.AdBaIdeal.Skeleton
public import proofs.«01_k».proof.Proof.Gen.AdBaIdeal.Launch
public import proofs.«01_k».proof.Proof.Gen.AdBaIdeal.Points
public import proofs.«01_k».proof.Proof.Gen.AdBaIdeal.Frame
public import proofs.«01_k».proof.Proof.Gen.AdBaRefIdeal
public import proofs.«01_k».proof.Proof.Gen.AdNorm
public import proofs.«01_k».proof.Proof.Gen.AdNorm.Skeleton
public import proofs.«01_k».proof.Proof.Gen.AdNorm.Launch
public import proofs.«01_k».proof.Proof.Gen.AdNorm.Points
public import proofs.«01_k».proof.Proof.Gen.AdNorm.Frame
public import proofs.«01_k».proof.Proof.Gen.AdNormIdeal
public import proofs.«01_k».proof.Proof.Gen.AdNormIdeal.Skeleton
public import proofs.«01_k».proof.Proof.Gen.AdNormIdeal.Launch
public import proofs.«01_k».proof.Proof.Gen.AdNormIdeal.Points
public import proofs.«01_k».proof.Proof.Gen.AdNormIdeal.Frame
public import proofs.«01_k».proof.Proof.Gen.AdNormRefIdeal
public import proofs.«01_k».proof.Proof.Gen.AdUp
public import proofs.«01_k».proof.Proof.Gen.AdUp.Skeleton
public import proofs.«01_k».proof.Proof.Gen.AdUp.Launch
public import proofs.«01_k».proof.Proof.Gen.AdUp.Points
public import proofs.«01_k».proof.Proof.Gen.AdUp.Frame
public import proofs.«01_k».proof.Proof.Gen.AdUpIdeal
public import proofs.«01_k».proof.Proof.Gen.AdUpIdeal.Skeleton
public import proofs.«01_k».proof.Proof.Gen.AdUpIdeal.Launch
public import proofs.«01_k».proof.Proof.Gen.AdUpIdeal.Points
public import proofs.«01_k».proof.Proof.Gen.AdUpIdeal.Frame
public import proofs.«01_k».proof.Proof.Gen.AdUpRefIdeal
public import proofs.«01_k».proof.Proof.Gen.AdConvW
public import proofs.«01_k».proof.Proof.Gen.AdConvW.Skeleton
public import proofs.«01_k».proof.Proof.Gen.AdConvW.Launch
public import proofs.«01_k».proof.Proof.Gen.AdConvW.Points
public import proofs.«01_k».proof.Proof.Gen.AdConvW.Frame
public import proofs.«01_k».proof.Proof.Gen.AdConvWIdeal
public import proofs.«01_k».proof.Proof.Gen.AdConvWIdeal.Skeleton
public import proofs.«01_k».proof.Proof.Gen.AdConvWIdeal.Launch
public import proofs.«01_k».proof.Proof.Gen.AdConvWIdeal.Points
public import proofs.«01_k».proof.Proof.Gen.AdConvWIdeal.Frame
public import proofs.«01_k».proof.Proof.Gen.AdConvWRefIdeal
public import proofs.«01_k».proof.Proof.Gen.AdConvB
public import proofs.«01_k».proof.Proof.Gen.AdConvB.Skeleton
public import proofs.«01_k».proof.Proof.Gen.AdConvB.Launch
public import proofs.«01_k».proof.Proof.Gen.AdConvB.Points
public import proofs.«01_k».proof.Proof.Gen.AdConvB.Frame
public import proofs.«01_k».proof.Proof.Gen.AdConvBIdeal
public import proofs.«01_k».proof.Proof.Gen.AdConvBIdeal.Skeleton
public import proofs.«01_k».proof.Proof.Gen.AdConvBIdeal.Launch
public import proofs.«01_k».proof.Proof.Gen.AdConvBIdeal.Points
public import proofs.«01_k».proof.Proof.Gen.AdConvBIdeal.Frame
public import proofs.«01_k».proof.Proof.Gen.AdConvBRefIdeal
public import proofs.«01_k».proof.Proof.Gen.AdDown
public import proofs.«01_k».proof.Proof.Gen.AdDown.Skeleton
public import proofs.«01_k».proof.Proof.Gen.AdDown.Launch
public import proofs.«01_k».proof.Proof.Gen.AdDown.Points
public import proofs.«01_k».proof.Proof.Gen.AdDown.Frame
public import proofs.«01_k».proof.Proof.Gen.AdDownIdeal
public import proofs.«01_k».proof.Proof.Gen.AdDownIdeal.Skeleton
public import proofs.«01_k».proof.Proof.Gen.AdDownIdeal.Launch
public import proofs.«01_k».proof.Proof.Gen.AdDownIdeal.Points
public import proofs.«01_k».proof.Proof.Gen.AdDownIdeal.Frame
public import proofs.«01_k».proof.Proof.Gen.AdDownRefIdeal
public import proofs.«01_k».proof.Proof.Gen.AdLn
public import proofs.«01_k».proof.Proof.Gen.AdLn.Skeleton
public import proofs.«01_k».proof.Proof.Gen.AdLn.Launch
public import proofs.«01_k».proof.Proof.Gen.AdLn.Points
public import proofs.«01_k».proof.Proof.Gen.AdLn.Frame
public import proofs.«01_k».proof.Proof.Gen.AdLnIdeal
public import proofs.«01_k».proof.Proof.Gen.AdLnIdeal.Skeleton
public import proofs.«01_k».proof.Proof.Gen.AdLnIdeal.Launch
public import proofs.«01_k».proof.Proof.Gen.AdLnIdeal.Points
public import proofs.«01_k».proof.Proof.Gen.AdLnIdeal.Frame
public import proofs.«01_k».proof.Proof.Gen.AdLnRefIdeal
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.SumW
public import proofs.«01_k».proof.Proof.Gen.SumW.Skeleton
public import proofs.«01_k».proof.Proof.Gen.SumW.Launch
public import proofs.«01_k».proof.Proof.Gen.SumW.Points
public import proofs.«01_k».proof.Proof.Gen.SumW.Frame
public import proofs.«01_k».proof.Proof.Gen.SumWIdeal
public import proofs.«01_k».proof.Proof.Gen.SumWIdeal.Skeleton
public import proofs.«01_k».proof.Proof.Gen.SumWIdeal.Launch
public import proofs.«01_k».proof.Proof.Gen.SumWIdeal.Points
public import proofs.«01_k».proof.Proof.Gen.SumWIdeal.Frame
public import proofs.«01_k».proof.Proof.Gen.SumWRefIdeal
public import proofs.«01_k».proof.Proof.Gen.SumR
public import proofs.«01_k».proof.Proof.Gen.SumR.Skeleton
public import proofs.«01_k».proof.Proof.Gen.SumR.Launch
public import proofs.«01_k».proof.Proof.Gen.SumR.Points
public import proofs.«01_k».proof.Proof.Gen.SumR.Frame
public import proofs.«01_k».proof.Proof.Gen.SumRIdeal
public import proofs.«01_k».proof.Proof.Gen.SumRIdeal.Skeleton
public import proofs.«01_k».proof.Proof.Gen.SumRIdeal.Launch
public import proofs.«01_k».proof.Proof.Gen.SumRIdeal.Points
public import proofs.«01_k».proof.Proof.Gen.SumRIdeal.Frame
public import proofs.«01_k».proof.Proof.Gen.SumRRefIdeal
public import proofs.«01_k».proof.Proof.Gen.LnF
public import proofs.«01_k».proof.Proof.Gen.LnF.Skeleton
public import proofs.«01_k».proof.Proof.Gen.LnF.Launch
public import proofs.«01_k».proof.Proof.Gen.LnF.Points
public import proofs.«01_k».proof.Proof.Gen.LnF.Frame
public import proofs.«01_k».proof.Proof.Gen.LnFIdeal
public import proofs.«01_k».proof.Proof.Gen.LnFIdeal.Skeleton
public import proofs.«01_k».proof.Proof.Gen.LnFIdeal.Launch
public import proofs.«01_k».proof.Proof.Gen.LnFIdeal.Points
public import proofs.«01_k».proof.Proof.Gen.LnFIdeal.Frame
public import proofs.«01_k».proof.Proof.Gen.LnFRefIdeal

@[expose] public section

/-! # The claims

Every kernel ends and leaves its arguments, and over the extended reals it leaves what its reference leaves. The values
are proved in the modules imported here, one for each kernel. -/

noncomputable section

namespace Cert.Proof

open Idealize.ShloMosaic Idealize.SL.Sem

theorem claim : Cert.Claim := ⟨
  Cert.DownW.Gen.facts,
  Cert.DownWIdeal.Gen.facts,
  Cert.DownWRefIdeal.Gen.facts,
  Cert.DownX.Gen.facts,
  Cert.DownXIdeal.Gen.facts,
  Cert.DownXRefIdeal.Gen.facts,
  Cert.UpW.Gen.facts,
  Cert.UpWIdeal.Gen.facts,
  Cert.UpWRefIdeal.Gen.facts,
  Cert.UpX.Gen.facts,
  Cert.UpXIdeal.Gen.facts,
  Cert.UpXRefIdeal.Gen.facts,
  Cert.UpX2.Gen.facts,
  Cert.UpX2Ideal.Gen.facts,
  Cert.UpX2RefIdeal.Gen.facts,
  Cert.OutW.Gen.facts,
  Cert.OutWIdeal.Gen.facts,
  Cert.OutWRefIdeal.Gen.facts,
  Cert.OutX.Gen.facts,
  Cert.OutXIdeal.Gen.facts,
  Cert.OutXRefIdeal.Gen.facts,
  Cert.OutX2.Gen.facts,
  Cert.OutX2Ideal.Gen.facts,
  Cert.OutX2RefIdeal.Gen.facts,
  Cert.QkvW.Gen.facts,
  Cert.QkvWIdeal.Gen.facts,
  Cert.QkvWRefIdeal.Gen.facts,
  Cert.QkvX.Gen.facts,
  Cert.QkvXIdeal.Gen.facts,
  Cert.QkvXRefIdeal.Gen.facts,
  Cert.GlaW.Gen.facts,
  Cert.GlaWIdeal.Gen.facts,
  Cert.GlaWRefIdeal.Gen.facts,
  Cert.GlaX.Gen.facts,
  Cert.GlaXIdeal.Gen.facts,
  Cert.GlaXRefIdeal.Gen.facts,
  Cert.QkvF.Gen.facts,
  Cert.QkvFIdeal.Gen.facts,
  Cert.QkvFRefIdeal.Gen.facts,
  Cert.OutF.Gen.facts,
  Cert.OutFIdeal.Gen.facts,
  Cert.OutFRefIdeal.Gen.facts,
  Cert.GlaF.Gen.facts,
  Cert.GlaFIdeal.Gen.facts,
  Cert.GlaFRefIdeal.Gen.facts,
  Cert.UpF.Gen.facts,
  Cert.UpFIdeal.Gen.facts,
  Cert.UpFRefIdeal.Gen.facts,
  Cert.DownF.Gen.facts,
  Cert.DownFIdeal.Gen.facts,
  Cert.DownFRefIdeal.Gen.facts,
  Cert.SbBwd.Gen.facts,
  Cert.SbBwdIdeal.Gen.facts,
  Cert.SbBwdRefIdeal.Gen.facts,
  Cert.AdQkv.Gen.facts,
  Cert.AdQkvIdeal.Gen.facts,
  Cert.AdQkvRefIdeal.Gen.facts,
  Cert.AdOut.Gen.facts,
  Cert.AdOutIdeal.Gen.facts,
  Cert.AdOutRefIdeal.Gen.facts,
  Cert.AdA1.Gen.facts,
  Cert.AdA1Ideal.Gen.facts,
  Cert.AdA1RefIdeal.Gen.facts,
  Cert.AdA2.Gen.facts,
  Cert.AdA2Ideal.Gen.facts,
  Cert.AdA2RefIdeal.Gen.facts,
  Cert.AdBa.Gen.facts,
  Cert.AdBaIdeal.Gen.facts,
  Cert.AdBaRefIdeal.Gen.facts,
  Cert.AdNorm.Gen.facts,
  Cert.AdNormIdeal.Gen.facts,
  Cert.AdNormRefIdeal.Gen.facts,
  Cert.AdUp.Gen.facts,
  Cert.AdUpIdeal.Gen.facts,
  Cert.AdUpRefIdeal.Gen.facts,
  Cert.AdConvW.Gen.facts,
  Cert.AdConvWIdeal.Gen.facts,
  Cert.AdConvWRefIdeal.Gen.facts,
  Cert.AdConvB.Gen.facts,
  Cert.AdConvBIdeal.Gen.facts,
  Cert.AdConvBRefIdeal.Gen.facts,
  Cert.AdDown.Gen.facts,
  Cert.AdDownIdeal.Gen.facts,
  Cert.AdDownRefIdeal.Gen.facts,
  Cert.AdLn.Gen.facts,
  Cert.AdLnIdeal.Gen.facts,
  Cert.AdLnRefIdeal.Gen.facts,
  Cert.Loss.Gen.facts,
  Cert.LossIdeal.Gen.facts,
  Cert.LossRefIdeal.Gen.facts,
  Cert.SumW.Gen.facts,
  Cert.SumWIdeal.Gen.facts,
  Cert.SumWRefIdeal.Gen.facts,
  Cert.SumR.Gen.facts,
  Cert.SumRIdeal.Gen.facts,
  Cert.SumRRefIdeal.Gen.facts,
  Cert.LnF.Gen.facts,
  Cert.LnFIdeal.Gen.facts,
  Cert.LnFRefIdeal.Gen.facts,
  Sb.finite_facts,
  fun m ρ _ => Cert.DownW.Gen.frame m ρ,
  fun m ρ _ => Cert.DownWIdeal.Gen.frame m ρ,
  DownW.reference_frame,
  fun m ρ _ => Cert.DownX.Gen.frame m ρ,
  fun m ρ _ => Cert.DownXIdeal.Gen.frame m ρ,
  DownX.reference_frame,
  fun m ρ _ => Cert.UpW.Gen.frame m ρ,
  fun m ρ _ => Cert.UpWIdeal.Gen.frame m ρ,
  UpW.reference_frame,
  fun m ρ _ => Cert.UpX.Gen.frame m ρ,
  fun m ρ _ => Cert.UpXIdeal.Gen.frame m ρ,
  UpX.reference_frame,
  fun m ρ _ => Cert.UpX2.Gen.frame m ρ,
  fun m ρ _ => Cert.UpX2Ideal.Gen.frame m ρ,
  UpX2.reference_frame,
  fun m ρ _ => Cert.OutW.Gen.frame m ρ,
  fun m ρ _ => Cert.OutWIdeal.Gen.frame m ρ,
  OutW.reference_frame,
  fun m ρ _ => Cert.OutX.Gen.frame m ρ,
  fun m ρ _ => Cert.OutXIdeal.Gen.frame m ρ,
  OutX.reference_frame,
  fun m ρ _ => Cert.OutX2.Gen.frame m ρ,
  fun m ρ _ => Cert.OutX2Ideal.Gen.frame m ρ,
  OutX2.reference_frame,
  fun m ρ _ => Cert.QkvW.Gen.frame m ρ,
  fun m ρ _ => Cert.QkvWIdeal.Gen.frame m ρ,
  QkvW.reference_frame,
  fun m ρ _ => Cert.QkvX.Gen.frame m ρ,
  fun m ρ _ => Cert.QkvXIdeal.Gen.frame m ρ,
  QkvX.reference_frame,
  fun m ρ _ => Cert.GlaW.Gen.frame m ρ,
  fun m ρ _ => Cert.GlaWIdeal.Gen.frame m ρ,
  GlaW.reference_frame,
  fun m ρ _ => Cert.GlaX.Gen.frame m ρ,
  fun m ρ _ => Cert.GlaXIdeal.Gen.frame m ρ,
  GlaX.reference_frame,
  fun m ρ _ => Cert.QkvF.Gen.frame m ρ,
  fun m ρ _ => Cert.QkvFIdeal.Gen.frame m ρ,
  QkvF.reference_frame,
  fun m ρ _ => Cert.OutF.Gen.frame m ρ,
  fun m ρ _ => Cert.OutFIdeal.Gen.frame m ρ,
  OutF.reference_frame,
  fun m ρ _ => Cert.GlaF.Gen.frame m ρ,
  fun m ρ _ => Cert.GlaFIdeal.Gen.frame m ρ,
  GlaF.reference_frame,
  fun m ρ _ => Cert.UpF.Gen.frame m ρ,
  fun m ρ _ => Cert.UpFIdeal.Gen.frame m ρ,
  UpF.reference_frame,
  fun m ρ _ => Cert.DownF.Gen.frame m ρ,
  fun m ρ _ => Cert.DownFIdeal.Gen.frame m ρ,
  DownF.reference_frame,
  Sb.frame_kernel,
  Sb.frame_ideal,
  Sb.frame_ideal_finite,
  Sb.reference_frame,
  Sb.reference_frame_finite,
  fun m ρ _ => Cert.AdQkv.Gen.frame m ρ,
  fun m ρ _ => Cert.AdQkvIdeal.Gen.frame m ρ,
  AdQkv.reference_frame,
  fun m ρ _ => Cert.AdOut.Gen.frame m ρ,
  fun m ρ _ => Cert.AdOutIdeal.Gen.frame m ρ,
  AdOut.reference_frame,
  fun m ρ _ => Cert.AdA1.Gen.frame m ρ,
  fun m ρ _ => Cert.AdA1Ideal.Gen.frame m ρ,
  AdA1.reference_frame,
  fun m ρ _ => Cert.AdA2.Gen.frame m ρ,
  fun m ρ _ => Cert.AdA2Ideal.Gen.frame m ρ,
  AdA2.reference_frame,
  fun m ρ _ => Cert.AdBa.Gen.frame m ρ,
  fun m ρ _ => Cert.AdBaIdeal.Gen.frame m ρ,
  AdBa.reference_frame,
  fun m ρ _ => Cert.AdNorm.Gen.frame m ρ,
  fun m ρ _ => Cert.AdNormIdeal.Gen.frame m ρ,
  AdNorm.reference_frame,
  fun m ρ _ => Cert.AdUp.Gen.frame m ρ,
  fun m ρ _ => Cert.AdUpIdeal.Gen.frame m ρ,
  AdUp.reference_frame,
  fun m ρ _ => Cert.AdConvW.Gen.frame m ρ,
  fun m ρ _ => Cert.AdConvWIdeal.Gen.frame m ρ,
  AdConvW.reference_frame,
  fun m ρ _ => Cert.AdConvB.Gen.frame m ρ,
  fun m ρ _ => Cert.AdConvBIdeal.Gen.frame m ρ,
  AdConvB.reference_frame,
  fun m ρ _ => Cert.AdDown.Gen.frame m ρ,
  fun m ρ _ => Cert.AdDownIdeal.Gen.frame m ρ,
  AdDown.reference_frame,
  fun m ρ _ => Cert.AdLn.Gen.frame m ρ,
  fun m ρ _ => Cert.AdLnIdeal.Gen.frame m ρ,
  AdLn.reference_frame,
  fun m ρ _ => Cert.Loss.Gen.frame m ρ,
  fun m ρ _ => Cert.LossIdeal.Gen.frame m ρ,
  Loss.reference_frame,
  fun m ρ _ => Cert.SumW.Gen.frame m ρ,
  fun m ρ _ => Cert.SumWIdeal.Gen.frame m ρ,
  SumW.reference_frame,
  fun m ρ _ => Cert.SumR.Gen.frame m ρ,
  fun m ρ _ => Cert.SumRIdeal.Gen.frame m ρ,
  SumR.reference_frame,
  fun m ρ _ => Cert.LnF.Gen.frame m ρ,
  fun m ρ _ => Cert.LnFIdeal.Gen.frame m ρ,
  LnF.reference_frame,
  (trivial : preserves_DownW_DownWIdeal),
  DownW.algebraic,
  (trivial : preserves_DownX_DownXIdeal),
  DownX.algebraic,
  (trivial : preserves_UpW_UpWIdeal),
  UpW.algebraic,
  (trivial : preserves_UpX_UpXIdeal),
  UpX.algebraic,
  (trivial : preserves_UpX2_UpX2Ideal),
  UpX2.algebraic,
  (trivial : preserves_OutW_OutWIdeal),
  OutW.algebraic,
  (trivial : preserves_OutX_OutXIdeal),
  OutX.algebraic,
  (trivial : preserves_OutX2_OutX2Ideal),
  OutX2.algebraic,
  (trivial : preserves_QkvW_QkvWIdeal),
  QkvW.algebraic,
  (trivial : preserves_QkvX_QkvXIdeal),
  QkvX.algebraic,
  (trivial : preserves_GlaW_GlaWIdeal),
  GlaW.algebraic,
  (trivial : preserves_GlaX_GlaXIdeal),
  GlaX.algebraic,
  (trivial : preserves_QkvF_QkvFIdeal),
  QkvF.algebraic,
  (trivial : preserves_OutF_OutFIdeal),
  OutF.algebraic,
  (trivial : preserves_GlaF_GlaFIdeal),
  GlaF.algebraic,
  (trivial : preserves_UpF_UpFIdeal),
  UpF.algebraic,
  (trivial : preserves_DownF_DownFIdeal),
  DownF.algebraic,
  (trivial : preserves_SbBwd_SbBwdIdeal),
  Sb.algebraic,
  (trivial : preserves_AdQkv_AdQkvIdeal),
  AdQkv.algebraic,
  (trivial : preserves_AdOut_AdOutIdeal),
  AdOut.algebraic,
  (trivial : preserves_AdA1_AdA1Ideal),
  AdA1.algebraic,
  (trivial : preserves_AdA2_AdA2Ideal),
  AdA2.algebraic,
  (trivial : preserves_AdBa_AdBaIdeal),
  AdBa.algebraic,
  (trivial : preserves_AdNorm_AdNormIdeal),
  AdNorm.algebraic,
  (trivial : preserves_AdUp_AdUpIdeal),
  AdUp.algebraic,
  (trivial : preserves_AdConvW_AdConvWIdeal),
  AdConvW.algebraic,
  (trivial : preserves_AdConvB_AdConvBIdeal),
  AdConvB.algebraic,
  (trivial : preserves_AdDown_AdDownIdeal),
  AdDown.algebraic,
  (trivial : preserves_AdLn_AdLnIdeal),
  AdLn.algebraic,
  (trivial : preserves_Loss_LossIdeal),
  Loss.algebraic,
  (trivial : preserves_SumW_SumWIdeal),
  SumW.algebraic,
  (trivial : preserves_SumR_SumRIdeal),
  SumR.algebraic,
  (trivial : preserves_LnF_LnFIdeal),
  LnF.algebraic⟩

end Cert.Proof

end
